-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v10_1)) (v3 : (c : Dev Cert.KernelIdeal.nD) → Buf (Elt Ideal) ((c.tc : Thread Cert.KernelIdeal.nD Cert.KernelIdeal.τ).loc Cert.KernelIdeal.main_v10_2)) (v4 : (c : Dev Cert.KernelIdeal.nD) → Buf (Elt Ideal) ((c.tc : Thread Cert.KernelIdeal.nD Cert.KernelIdeal.τ).loc Cert.KernelIdeal.main_v10_3)) (v5 : (c : Dev Cert.KernelIdeal.nD) → Buf (Elt Ideal) ((c.tc : Thread Cert.KernelIdeal.nD Cert.KernelIdeal.τ).loc Cert.KernelIdeal.main_v10_4)) (v6 : (c : Dev Cert.KernelIdeal.nD) → Buf (Elt Ideal) ((c.tc : Thread Cert.KernelIdeal.nD Cert.KernelIdeal.τ).loc Cert.KernelIdeal.main_v10_5)) (v7 : (c : Dev Cert.KernelIdeal.nD) → Buf (Elt Ideal) ((c.tc : Thread Cert.KernelIdeal.nD Cert.KernelIdeal.τ).loc Cert.KernelIdeal.main_v10_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_v10_3) = v4 c
          ∧ r.2.mem ((c.tc : Thread Cert.KernelIdeal.nD Cert.KernelIdeal.τ).loc Cert.KernelIdeal.main_v10_4) = v5 c
          ∧ r.2.mem ((c.tc : Thread Cert.KernelIdeal.nD Cert.KernelIdeal.τ).loc Cert.KernelIdeal.main_v10_5) = v6 c
          ∧ r.2.mem ((c.tc : Thread Cert.KernelIdeal.nD Cert.KernelIdeal.τ).loc Cert.KernelIdeal.main_v10_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v58) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v51) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16_4)) (v1 : (c : Dev Cert.Kernel2Ideal.nD) → Buf (Elt Ideal) ((c.tc : Thread Cert.Kernel2Ideal.nD Cert.Kernel2Ideal.τ).loc Cert.Kernel2Ideal.main_v16_0)) (v2 : (c : Dev Cert.Kernel2Ideal.nD) → Buf (Elt Ideal) ((c.tc : Thread Cert.Kernel2Ideal.nD Cert.Kernel2Ideal.τ).loc Cert.Kernel2Ideal.main_v16_1)) (v3 : (c : Dev Cert.Kernel2Ideal.nD) → Buf (Elt Ideal) ((c.tc : Thread Cert.Kernel2Ideal.nD Cert.Kernel2Ideal.τ).loc Cert.Kernel2Ideal.main_v16_2)) (v4 : (c : Dev Cert.Kernel2Ideal.nD) → Buf (Elt Ideal) ((c.tc : Thread Cert.Kernel2Ideal.nD Cert.Kernel2Ideal.τ).loc Cert.Kernel2Ideal.main_v16_3)) (v5 : (c : Dev Cert.Kernel2Ideal.nD) → Buf (Elt Ideal) ((c.tc : Thread Cert.Kernel2Ideal.nD Cert.Kernel2Ideal.τ).loc Cert.Kernel2Ideal.main_v16_6)) (v6 : (c : Dev Cert.Kernel2Ideal.nD) → Buf (Elt Ideal) ((c.tc : Thread Cert.Kernel2Ideal.nD Cert.Kernel2Ideal.τ).loc Cert.Kernel2Ideal.main_v16_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_4) = v0 c
          ∧ r.2.mem ((c.tc : Thread Cert.Kernel2Ideal.nD Cert.Kernel2Ideal.τ).loc Cert.Kernel2Ideal.main_v16_0) = v1 c
          ∧ r.2.mem ((c.tc : Thread Cert.Kernel2Ideal.nD Cert.Kernel2Ideal.τ).loc Cert.Kernel2Ideal.main_v16_1) = v2 c
          ∧ r.2.mem ((c.tc : Thread Cert.Kernel2Ideal.nD Cert.Kernel2Ideal.τ).loc Cert.Kernel2Ideal.main_v16_2) = v3 c
          ∧ r.2.mem ((c.tc : Thread Cert.Kernel2Ideal.nD Cert.Kernel2Ideal.τ).loc Cert.Kernel2Ideal.main_v16_3) = v4 c
          ∧ r.2.mem ((c.tc : Thread Cert.Kernel2Ideal.nD Cert.Kernel2Ideal.τ).loc Cert.Kernel2Ideal.main_v16_6) = v5 c
          ∧ r.2.mem ((c.tc : Thread Cert.Kernel2Ideal.nD Cert.Kernel2Ideal.τ).loc Cert.Kernel2Ideal.main_v16_5) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v106) = v0 c
          ∧ r.2.mem ((c.tc : Thread Cert.Reference2Ideal.nD Cert.Reference2Ideal.τ).loc Cert.Reference2Ideal.main_v108) = v1 c
          ∧ r.2.mem ((c.tc : Thread Cert.Reference2Ideal.nD Cert.Reference2Ideal.τ).loc Cert.Reference2Ideal.main_v110) = v2 c
          ∧ r.2.mem ((c.tc : Thread Cert.Reference2Ideal.nD Cert.Reference2Ideal.τ).loc Cert.Reference2Ideal.main_v111) = v3 c
          ∧ r.2.mem ((c.tc : Thread Cert.Reference2Ideal.nD Cert.Reference2Ideal.τ).loc Cert.Reference2Ideal.main_v112) = v4 c
          ∧ r.2.mem ((c.tc : Thread Cert.Reference2Ideal.nD Cert.Reference2Ideal.τ).loc Cert.Reference2Ideal.main_v105) = v5 c
          ∧ r.2.mem ((c.tc : Thread Cert.Reference2Ideal.nD Cert.Reference2Ideal.τ).loc Cert.Reference2Ideal.main_v76) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_v47) = v2 c
          ∧ r.2.mem ((c.tc : Thread Cert.Reference8Ideal.nD Cert.Reference8Ideal.τ).loc Cert.Reference8Ideal.main_v37) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_v37) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v24_0)) (v1 : (c : Dev Cert.Kernel10Ideal.nD) → Buf (Elt Ideal) ((c.tc : Thread Cert.Kernel10Ideal.nD Cert.Kernel10Ideal.τ).loc Cert.Kernel10Ideal.main_v24_1)) (v2 : (c : Dev Cert.Kernel10Ideal.nD) → Buf (Elt Ideal) ((c.tc : Thread Cert.Kernel10Ideal.nD Cert.Kernel10Ideal.τ).loc Cert.Kernel10Ideal.main_v24_2)) (v3 : (c : Dev Cert.Kernel10Ideal.nD) → Buf (Elt Ideal) ((c.tc : Thread Cert.Kernel10Ideal.nD Cert.Kernel10Ideal.τ).loc Cert.Kernel10Ideal.main_v24_3)) (v4 : (c : Dev Cert.Kernel10Ideal.nD) → Buf (Elt Ideal) ((c.tc : Thread Cert.Kernel10Ideal.nD Cert.Kernel10Ideal.τ).loc Cert.Kernel10Ideal.main_v24_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v24_0) = v0 c
          ∧ r.2.mem ((c.tc : Thread Cert.Kernel10Ideal.nD Cert.Kernel10Ideal.τ).loc Cert.Kernel10Ideal.main_v24_1) = v1 c
          ∧ r.2.mem ((c.tc : Thread Cert.Kernel10Ideal.nD Cert.Kernel10Ideal.τ).loc Cert.Kernel10Ideal.main_v24_2) = v2 c
          ∧ r.2.mem ((c.tc : Thread Cert.Kernel10Ideal.nD Cert.Kernel10Ideal.τ).loc Cert.Kernel10Ideal.main_v24_3) = v3 c
          ∧ r.2.mem ((c.tc : Thread Cert.Kernel10Ideal.nD Cert.Kernel10Ideal.τ).loc Cert.Kernel10Ideal.main_v24_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v90) = v0 c
          ∧ r.2.mem ((c.tc : Thread Cert.Reference10Ideal.nD Cert.Reference10Ideal.τ).loc Cert.Reference10Ideal.main_v89) = v1 c
          ∧ r.2.mem ((c.tc : Thread Cert.Reference10Ideal.nD Cert.Reference10Ideal.τ).loc Cert.Reference10Ideal.main_v91) = v2 c
          ∧ r.2.mem ((c.tc : Thread Cert.Reference10Ideal.nD Cert.Reference10Ideal.τ).loc Cert.Reference10Ideal.main_v92) = v3 c
          ∧ r.2.mem ((c.tc : Thread Cert.Reference10Ideal.nD Cert.Reference10Ideal.τ).loc Cert.Reference10Ideal.main_v93) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_all_finite : Cert.Pre_all_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_all_finite.lean ====
abbrev S2048x512 : Shape := ⟨2, ![2048, 512]⟩
abbrev S128x2048 : Shape := ⟨2, ![128, 2048]⟩
abbrev S1x2048 : Shape := ⟨2, ![1, 2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bitsLt_bf16_f32 : FTy.bits .bf16 < FTy.bits .f32
  bcast_S_S128x2048 : S_.BroadcastsInDim S128x2048 (![] : Fin 0 → Fin S128x2048.rank)
  reducesTo_S128x2048_S_d0_1 : S128x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg8 : FVec F S1x2048 .f32) (main_v33 : IVec S_ 1) (main_v34 : FVec F S1x2048 .f32) (main_cst_10 : FVec F S_ .f32) : IVec S_ 1 :=
  let main_v35 : FVec F S1x2048 .f32 := broadcastInDim S1x2048 ![] bcast_S_S1x2048 main_cst_10
  let main_v36 : IVec S1x2048 1 := cmpf .olt main_v34 main_v35
  let main_c_11 : IVec S_ 1 := constantI S_ 1 1#1
  let main_v37 : IVec S_ 1 := (fun x v => Host.reduce IntOp.andi x v reducesTo_S1x2048_S_d0_1 h_S_) main_v36 main_c_11
  let main_v38 : IVec S_ 1 := andi main_v33 main_v37
  let main_v39 : FVec F S1x2048 .f32 := Host.absf main_arg8
  let main_cst_12 : FVec F S_ .f32 := constant S_ .f32 0x7F800000#32
  let main_v40 : FVec F S1x2048 .f32 := broadcastInDim S1x2048 ![] bcast_S_S1x2048 main_cst_12
  let main_v41 : IVec S1x2048 1 := cmpf .olt main_v39 main_v40
  let main_c_13 : IVec S_ 1 := constantI S_ 1 1#1
  let main_v42 : IVec S_ 1 := (fun x v => Host.reduce IntOp.andi x v reducesTo_S1x2048_S_d0_1 h_S_) main_v41 main_c_13
  let main_v43 : IVec S_ 1 := andi main_v38 main_v42
  main_v43

def fn_part1 {F : FTy → Type} [FloatOps F] (main_arg5 : FVec F S128x2048 .bf16) (main_arg6 : FVec F S128x2048 .bf16) (main_arg7 : FVec F S1x2048 .f32) (main_arg8 : FVec F S1x2048 .f32) (main_v15 : IVec S_ 1) (main_v17 : FVec F S128x2048 .f32) : IVec S_ 1 :=
  let main_cst_4 : FVec F S_ .f32 := constant S_ .f32 0x7F800000#32
  let main_v18 : FVec F S128x2048 .f32 := broadcastInDim S128x2048 ![] bcast_S_S128x2048 main_cst_4
  let main_v19 : IVec S128x2048 1 := cmpf .olt main_v17 main_v18
  let main_c_5 : IVec S_ 1 := constantI S_ 1 1#1
  let main_v20 : IVec S_ 1 := (fun x v => Host.reduce IntOp.andi x v reducesTo_S128x2048_S_d0_1 h_S_) main_v19 main_c_5
  let main_v21 : IVec S_ 1 := andi main_v15 main_v20
  let main_v22 : FVec F S128x2048 .f32 := (extf .f32 · bitsLt_bf16_f32) main_arg5
  let main_v23 : FVec F S128x2048 .f32 := Host.absf main_v22
  let main_cst_6 : FVec F S_ .f32 := constant S_ .f32 0x7F800000#32
  let main_v24 : FVec F S128x2048 .f32 := broadcastInDim S128x2048 ![] bcast_S_S128x2048 main_cst_6
  let main_v25 : IVec S128x2048 1 := cmpf .olt main_v23 main_v24
  let main_c_7 : IVec S_ 1 := constantI S_ 1 1#1
  let main_v26 : IVec S_ 1 := (fun x v => Host.reduce IntOp.andi x v reducesTo_S128x2048_S_d0_1 h_S_) main_v25 main_c_7
  let main_v27 : IVec S_ 1 := andi main_v21 main_v26
  let main_v28 : FVec F S128x2048 .f32 := (extf .f32 · bitsLt_bf16_f32) main_arg6
  let main_v29 : FVec F S128x2048 .f32 := Host.absf main_v28
  let main_cst_8 : FVec F S_ .f32 := constant S_ .f32 0x7F800000#32
  let main_v30 : FVec F S128x2048 .f32 := broadcastInDim S128x2048 ![] bcast_S_S128x2048 main_cst_8
  let main_v31 : IVec S128x2048 1 := cmpf .olt main_v29 main_v30
  let main_c_9 : IVec S_ 1 := constantI S_ 1 1#1
  let main_v32 : IVec S_ 1 := (fun x v => Host.reduce IntOp.andi x v reducesTo_S128x2048_S_d0_1 h_S_) main_v31 main_c_9
  let main_v33 : IVec S_ 1 := andi main_v27 main_v32
  let main_v34 : FVec F S1x2048 .f32 := Host.absf main_arg7
  let main_cst_10 : FVec F S_ .f32 := constant S_ .f32 0x7F800000#32
  fn_part2 (F := F) main_arg8 main_v33 main_v34 main_cst_10

def fn {F : FTy → Type} [FloatOps F] (main_arg0 : FVec F S2048x512 .f32) (main_arg1 : FVec F S2048x512 .bf16) (main_arg2 : FVec F S2048x512 .f32) (main_arg3 : FVec F S128x2048 .bf16) (main_arg4 : FVec F S128x2048 .bf16) (main_arg5 : FVec F S128x2048 .bf16) (main_arg6 : FVec F S128x2048 .bf16) (main_arg7 : FVec F S1x2048 .f32) (main_arg8 : FVec F S1x2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v3 main_v8
  let main_v10 : FVec F S128x2048 .f32 := (extf .f32 · bitsLt_bf16_f32) main_arg3
  let main_v11 : FVec F S128x2048 .f32 := Host.absf main_v10
  let main_cst_2 : FVec F S_ .f32 := constant S_ .f32 0x7F800000#32
  let main_v12 : FVec F S128x2048 .f32 := broadcastInDim S128x2048 ![] bcast_S_S128x2048 main_cst_2
  let main_v13 : IVec S128x2048 1 := cmpf .olt main_v11 main_v12
  let main_c_3 : IVec S_ 1 := constantI S_ 1 1#1
  let main_v14 : IVec S_ 1 := (fun x v => Host.reduce IntOp.andi x v reducesTo_S128x2048_S_d0_1 h_S_) main_v13 main_c_3
  let main_v15 : IVec S_ 1 := andi main_v9 main_v14
  let main_v16 : FVec F S128x2048 .f32 := (extf .f32 · bitsLt_bf16_f32) main_arg4
  let main_v17 : FVec F S128x2048 .f32 := Host.absf main_v16
  fn_part1 (F := F) main_arg5 main_arg6 main_arg7 main_arg8 main_v15 main_v17
-- ==== Pre_finite2.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S2048x1024 .f32) (main_arg1 : FVec F S2048x1024 .f32) (main_arg2 : FVec F S1024x5632 .f32) (main_arg3 : FVec F S2816x1024 .f32) (main_arg4 : FVec F S1x1024 .f32) (main_arg5 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite8.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S2048x1024 .f32) (main_arg1 : FVec F S2048x1024 .f32) (main_arg2 : FVec F S1024x1024 .bf16) (main_arg3 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S2048x512 : Shape := ⟨2, ![2048, 512]⟩
abbrev S128x2048 : Shape := ⟨2, ![128, 2048]⟩
abbrev S1x2048 : Shape := ⟨2, ![1, 2048]⟩
abbrev S8x256x512 : Shape := ⟨3, ![8, 256, 512]⟩
abbrev S256x8x512 : Shape := ⟨3, ![256, 8, 512]⟩
abbrev S2048x2048 : Shape := ⟨2, ![2048, 2048]⟩
abbrev S2048x128 : Shape := ⟨2, ![2048, 128]⟩
abbrev S128x512 : Shape := ⟨2, ![128, 512]⟩
abbrev S1x512 : Shape := ⟨2, ![1, 512]⟩
abbrev S8x512 : Shape := ⟨2, ![8, 512]⟩
abbrev S512 : Shape := ⟨1, ![512]⟩

abbrev nBuf : Space → Nat
  | .hbm => 34
  | .vmem => 58
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .hbm, ⟨2, _⟩ => ⟨S2048x512, .f32⟩
  | .hbm, ⟨3, _⟩ => ⟨S128x2048, .bf16⟩
  | .hbm, ⟨4, _⟩ => ⟨S128x2048, .bf16⟩
  | .hbm, ⟨5, _⟩ => ⟨S128x2048, .bf16⟩
  | .hbm, ⟨6, _⟩ => ⟨S128x2048, .bf16⟩
  | .hbm, ⟨7, _⟩ => ⟨S1x2048, .f32⟩
  | .hbm, ⟨8, _⟩ => ⟨S1x2048, .f32⟩
  | .hbm, ⟨9, _⟩ => ⟨S8x256x512, .f32⟩
  | .hbm, ⟨10, _⟩ => ⟨S256x8x512, .f32⟩
  | .hbm, ⟨11, _⟩ => ⟨S2048x512, .f32⟩
  | .hbm, ⟨12, _⟩ => ⟨S2048x512, .f32⟩
  | .hbm, ⟨13, _⟩ => ⟨S2048x2048, .f32⟩
  | .hbm, ⟨14, _⟩ => ⟨S2048x2048, .f32⟩
  | .hbm, ⟨15, _⟩ => ⟨S8x256x512, .bf16⟩
  | .hbm, ⟨16, _⟩ => ⟨S256x8x512, .bf16⟩
  | .hbm, ⟨17, _⟩ => ⟨S2048x512, .bf16⟩
  | .hbm, ⟨18, _⟩ => ⟨S8x256x512, .f32⟩
  | .hbm, ⟨19, _⟩ => ⟨S256x8x512, .f32⟩
  | .hbm, ⟨20, _⟩ => ⟨S2048x512, .f32⟩
  | .hbm, ⟨21, _⟩ => ⟨S2048x512, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S1x2048, .f32⟩
  | .hbm, ⟨27, _⟩ => ⟨S1x2048, .f32⟩
  | .hbm, ⟨28, _⟩ => ⟨S256x8x512, .f32⟩
  | .hbm, ⟨29, _⟩ => ⟨S8x256x512, .f32⟩
  | .hbm, ⟨30, _⟩ => ⟨S2048x512, .f32⟩
  | .hbm, ⟨31, _⟩ => ⟨S256x8x512, .f32⟩
  | .hbm, ⟨32, _⟩ => ⟨S8x256x512, .f32⟩
  | .hbm, ⟨33, _⟩ => ⟨S2048x512, .f32⟩
  | .local _ .vmem, ⟨0, _⟩ => ⟨S2048x128, .f32⟩
  | .local _ .vmem, ⟨1, _⟩ => ⟨S2048x128, .f32⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2048x128, .f32⟩
  | .local _ .vmem, ⟨15, _⟩ => ⟨S2048x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x128, .f32⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | .local _ .vmem, ⟨29, _⟩ => ⟨S2048x512, .f32⟩
  | .local _ .vmem, ⟨30, _⟩ => ⟨S128x512, .bf16⟩
  | .local _ .vmem, ⟨31, _⟩ => ⟨S128x512, .bf16⟩
  | .local _ .vmem, ⟨32, _⟩ => ⟨S128x512, .bf16⟩
  | .local _ .vmem, ⟨33, _⟩ => ⟨S128x512, .bf16⟩
  | .local _ .vmem, ⟨34, _⟩ => ⟨S128x512, .bf16⟩
  | .local _ .vmem, ⟨35, _⟩ => ⟨S128x512, .bf16⟩
  | .local _ .vmem, ⟨36, _⟩ => ⟨S128x512, .bf16⟩
  | .local _ .vmem, ⟨37, _⟩ => ⟨S128x512, .bf16⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S2048x128, .f32⟩
  | .local _ .vmem, ⟨43, _⟩ => ⟨S2048x128, .f32⟩
  | .local _ .vmem, ⟨44, _⟩ => ⟨S128x512, .f32⟩
  | .local _ .vmem, ⟨45, _⟩ => ⟨S128x512, .f32⟩
  | .local _ .vmem, ⟨46, _⟩ => ⟨S128x512, .f32⟩
  | .local _ .vmem, ⟨47, _⟩ => ⟨S128x512, .f32⟩
  | .local _ .vmem, ⟨48, _⟩ => ⟨S128x512, .f32⟩
  | .local _ .vmem, ⟨49, _⟩ => ⟨S128x512, .f32⟩
  | .local _ .vmem, ⟨50, _⟩ => ⟨S128x512, .f32⟩
  | .local _ .vmem, ⟨51, _⟩ => ⟨S128x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S2048x512, .f32⟩
  | .local _ .vmem, ⟨57, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc1_stg17_0 : Ref sig .tc := ⟨.vmem, 54, rfl⟩
abbrev cc1_stg17_1 : Ref sig .tc := ⟨.vmem, 55, rfl⟩
abbrev cc1_scratch0 : Ref sig .tc := ⟨.vmem, 56, rfl⟩
abbrev cc1_scratch1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem14_1 : DmaSem sig := 49
abbrev cc1_sem15_0 : DmaSem sig := 50
abbrev cc1_sem15_1 : DmaSem sig := 51
abbrev cc1_sem16_0 : DmaSem sig := 52
abbrev cc1_sem16_1 : DmaSem sig := 53
abbrev cc1_sem17_0 : DmaSem sig := 54
abbrev cc1_sem17_1 : DmaSem sig := 55

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c256_i32 : BitVec 32 := 256#32
  let v16 : BitVec 32 := Scalar.addi c0_i32 c256_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v233 : BitVec 32 := Scalar.muli arg11 c8_i32
  v233
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v233 : BitVec 32 := Scalar.muli arg11 c8_i32
  let v234 : BitVec 32 := v233
  let v238 : Index := Scalar.indexCast v234
  let c0_54 : Index := 0#32
  ![v238.toNat, 0]
@[reducible] def k0_t2_loop : Scf.Loop 32 :=
  let c0_i32_38 : BitVec 32 := 0#32
  let c256_i32_39 : BitVec 32 := 256#32
  let v219 : BitVec 32 := Scalar.addi c0_i32_38 c256_i32_39
  let c1_i32_40 : BitVec 32 := 1#32
  ⟨c0_i32_38, v219, c1_i32_40⟩
def k0_mult2 (k0_t2 : Fin k0_t2_loop.trips) : BitVec 32 :=
  let c0_i32_38 : BitVec 32 := 0#32
  let c1_i32_40 : BitVec 32 := 1#32
  let arg11 : BitVec 32 := Scf.iv c0_i32_38 c1_i32_40 k0_t2
  let c8_i32 : BitVec 32 := 8#32
  let v233 : BitVec 32 := Scalar.muli arg11 c8_i32
  v233
def k0_off2 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c8_i32 : BitVec 32 := 8#32
  let v233 : BitVec 32 := Scalar.muli arg11 c8_i32
  let v234 : BitVec 32 := v233
  let v238 : Index := Scalar.indexCast v234
  let c0_54 : Index := 0#32
  ![v238.toNat, 0]
def k0_mult3 (k0_t2 : Fin k0_t2_loop.trips) : BitVec 32 :=
  let c0_i32_38 : BitVec 32 := 0#32
  let c1_i32_40 : BitVec 32 := 1#32
  let arg11 : BitVec 32 := Scf.iv c0_i32_38 c1_i32_40 k0_t2
  let c8_i32_56 : BitVec 32 := 8#32
  let v249 : BitVec 32 := Scalar.muli arg11 c8_i32_56
  v249
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

@[reducible] def k1_t1_loop : Scf.Loop 32 :=
  let c0_i32 : BitVec 32 := 0#32
  let c256_i32 : BitVec 32 := 256#32
  let v21 : BitVec 32 := Scalar.addi c0_i32 c256_i32
  let c1_i32 : BitVec 32 := 1#32
  ⟨c0_i32, v21, c1_i32⟩
def k1_mult1 (k1_t1 : Fin k1_t1_loop.trips) : BitVec 32 :=
  let c255_i32_100 : BitVec 32 := 255#32
  let c0_i32 : BitVec 32 := 0#32
  let c1_i32 : BitVec 32 := 1#32
  let arg21 : BitVec 32 := Scf.iv c0_i32 c1_i32 k1_t1
  let v315 : BitVec 32 := Scalar.subi c255_i32_100 arg21
  let c8_i32 : BitVec 32 := 8#32
  let v316 : BitVec 32 := Scalar.muli v315 c8_i32
  v316
def k1_off1 (k1_t1 : Fin k1_t1_loop.trips) : Fin 2 → Nat :=
  let c255_i32_100 : BitVec 32 := 255#32
  let c0_i32 : BitVec 32 := 0#32
  let c1_i32 : BitVec 32 := 1#32
  let arg21 : BitVec 32 := Scf.iv c0_i32 c1_i32 k1_t1
  let v315 : BitVec 32 := Scalar.subi c255_i32_100 arg21
  let c8_i32 : BitVec 32 := 8#32
  let v316 : BitVec 32 := Scalar.muli v315 c8_i32
  let v317 : BitVec 32 := v316
  let v321 : Index := Scalar.indexCast v317
  let c0_101 : Index := 0#32
  ![v321.toNat, 0]
@[reducible] def k1_t2_loop : Scf.Loop 32 :=
  let c0_i32_41 : BitVec 32 := 0#32
  let c255_i32 : BitVec 32 := 255#32
  let v226 : BitVec 32 := Scalar.addi c0_i32_41 c255_i32
  let c1_i32_42 : BitVec 32 := 1#32
  ⟨c0_i32_41, v226, c1_i32_42⟩
def k1_mult2 (k1_t2 : Fin k1_t2_loop.trips) : BitVec 32 :=
  let c255_i32_100 : BitVec 32 := 255#32
  let c0_i32_41 : BitVec 32 := 0#32
  let c1_i32_42 : BitVec 32 := 1#32
  let arg21 : BitVec 32 := Scf.iv c0_i32_41 c1_i32_42 k1_t2
  let v315 : BitVec 32 := Scalar.subi c255_i32_100 arg21
  let c8_i32 : BitVec 32 := 8#32
  let v316 : BitVec 32 := Scalar.muli v315 c8_i32
  v316
def k1_off2 (k1_t2 : Fin k1_t2_loop.trips) : Fin 2 → Nat :=
  let c255_i32_100 : BitVec 32 := 255#32
  let c0_i32_41 : BitVec 32 := 0#32
  let c1_i32_42 : BitVec 32 := 1#32
  let arg21 : BitVec 32 := Scf.iv c0_i32_41 c1_i32_42 k1_t2
  let v315 : BitVec 32 := Scalar.subi c255_i32_100 arg21
  let c8_i32 : BitVec 32 := 8#32
  let v316 : BitVec 32 := Scalar.muli v315 c8_i32
  let v317 : BitVec 32 := v316
  let v321 : Index := Scalar.indexCast v317
  let c0_101 : Index := 0#32
  ![v321.toNat, 0]
def k1_mult3 (k1_t2 : Fin k1_t2_loop.trips) : BitVec 32 :=
  let c255_i32_100 : BitVec 32 := 255#32
  let c0_i32_41 : BitVec 32 := 0#32
  let c1_i32_42 : BitVec 32 := 1#32
  let arg21 : BitVec 32 := Scf.iv c0_i32_41 c1_i32_42 k1_t2
  let v315 : BitVec 32 := Scalar.subi c255_i32_100 arg21
  let c8_i32_103 : BitVec 32 := 8#32
  let v330 : BitVec 32 := Scalar.muli v315 c8_i32_103
  v330
def k1_mult4 (k1_t2 : Fin k1_t2_loop.trips) : BitVec 32 :=
  let c255_i32_100 : BitVec 32 := 255#32
  let c0_i32_41 : BitVec 32 := 0#32
  let c1_i32_42 : BitVec 32 := 1#32
  let arg21 : BitVec 32 := Scf.iv c0_i32_41 c1_i32_42 k1_t2
  let v315 : BitVec 32 := Scalar.subi c255_i32_100 arg21
  let c1_i32_106 : BitVec 32 := 1#32
  let v340 : BitVec 32 := Scalar.subi v315 c1_i32_106
  let c8_i32_107 : BitVec 32 := 8#32
  let v341 : BitVec 32 := Scalar.muli v340 c8_i32_107
  v341
def k1_off3 (k1_t2 : Fin k1_t2_loop.trips) : Fin 2 → Nat :=
  let c255_i32_100 : BitVec 32 := 255#32
  let c0_i32_41 : BitVec 32 := 0#32
  let c1_i32_42 : BitVec 32 := 1#32
  let arg21 : BitVec 32 := Scf.iv c0_i32_41 c1_i32_42 k1_t2
  let v315 : BitVec 32 := Scalar.subi c255_i32_100 arg21
  let c1_i32_106 : BitVec 32 := 1#32
  let v340 : BitVec 32 := Scalar.subi v315 c1_i32_106
  let c8_i32_107 : BitVec 32 := 8#32
  let v341 : BitVec 32 := Scalar.muli v340 c8_i32_107
  let v342 : BitVec 32 := v341
  let v343 : Index := Scalar.indexCast v342
  let c0_108 : Index := 0#32
  ![v343.toNat, 0]
def k1_mult5 : BitVec 32 :=
  let c0_i32_44 : BitVec 32 := 0#32
  c0_i32_44
def k1_mult6 : BitVec 32 :=
  let c0_i32_47 : BitVec 32 := 0#32
  c0_i32_47
def k1_mult7 : BitVec 32 :=
  let c0_i32_49 : BitVec 32 := 0#32
  c0_i32_49
def k1_mult8 : BitVec 32 :=
  let c2040_i32 : BitVec 32 := 2040#32
  c2040_i32
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S128x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== ReferenceIdeal.lean ====
abbrev S2048x512 : Shape := ⟨2, ![2048, 512]⟩
abbrev S128x2048 : Shape := ⟨2, ![128, 2048]⟩
abbrev S1x2048 : Shape := ⟨2, ![1, 2048]⟩
abbrev S2048x4x128 : Shape := ⟨3, ![2048, 4, 128]⟩
abbrev S128x4x512 : Shape := ⟨3, ![128, 4, 512]⟩
abbrev S4x512x2048 : Shape := ⟨3, ![4, 512, 2048]⟩
abbrev S2048x4x512 : Shape := ⟨3, ![2048, 4, 512]⟩
abbrev S4x512 : Shape := ⟨2, ![4, 512]⟩
abbrev S_ : Shape := ⟨0, ![]⟩
abbrev S1x4x512 : Shape := ⟨3, ![1, 4, 512]⟩
abbrev S4x128x2048 : Shape := ⟨3, ![4, 128, 2048]⟩
abbrev S4x2048x512 : Shape := ⟨3, ![4, 2048, 512]⟩
abbrev S4x128x512 : Shape := ⟨3, ![4, 128, 512]⟩
abbrev S4x2048x128 : Shape := ⟨3, ![4, 2048, 128]⟩
abbrev S4x512x128 : Shape := ⟨3, ![4, 512, 128]⟩

abbrev nBuf : Space → Nat
  | .hbm => 200
  | .vmem => 0
  | .smem => 0
  | _ => 0

abbrev hbmTy0_0 (i : Nat) : BufTy := match i % 128 with
  | 0 => ⟨S2048x512, .f32⟩
  | 1 => ⟨S2048x512, .bf16⟩
  | 2 => ⟨S2048x512, .f32⟩
  | 3 => ⟨S128x2048, .bf16⟩
  | 4 => ⟨S128x2048, .bf16⟩
  | 5 => ⟨S128x2048, .bf16⟩
  | 6 => ⟨S128x2048, .bf16⟩
  | 7 => ⟨S1x2048, .f32⟩
  | 8 => ⟨S1x2048, .f32⟩
  | 9 => ⟨S128x2048, .f32⟩
  | 10 => ⟨S128x2048, .f32⟩
  | 11 => ⟨S128x2048, .f32⟩
  | 12 => ⟨S128x2048, .f32⟩
  | 13 => ⟨S2048x4x128, .f32⟩
  | 14 => ⟨S128x4x512, .f32⟩
  | 15 => ⟨S4x512x2048, .f32⟩
  | 16 => ⟨S2048x4x512, .f32⟩
  | 17 => ⟨S128x4x512, .f32⟩
  | 18 => ⟨S4x512x2048, .f32⟩
  | 19 => ⟨S2048x4x512, .f32⟩
  | 20 => ⟨S4x512, .f32⟩
  | 21 => ⟨S4x512, .f32⟩
  | 22 => ⟨S_, .f32⟩
  | 23 => ⟨S4x512, .f32⟩
  | 24 => ⟨S_, .f32⟩
  | 25 => ⟨S2048x4x512, .f32⟩
  | 26 => ⟨S_, .f32⟩
  | 27 => ⟨S2048x4x512, .f32⟩
  | 28 => ⟨S_, .f32⟩
  | 29 => ⟨S2048x4x512, .f32⟩
  | 30 => ⟨S_, .f32⟩
  | 31 => ⟨S2048x4x512, .f32⟩
  | 32 => ⟨S_, .i32⟩
  | 33 => ⟨S2048x4x512, .f32⟩
  | 34 => ⟨S2048x4x512, .f32⟩
  | 35 => ⟨S4x512, .f32⟩
  | 36 => ⟨S4x512, .f32⟩
  | 37 => ⟨S_, .i32⟩
  | 38 => ⟨S4x512, .f32⟩
  | 39 => ⟨S4x512, .f32⟩
  | 40 => ⟨S2048x4x512, .f32⟩
  | 41 => ⟨S2048x4x512, .f32⟩
  | 42 => ⟨S2048x4x512, .f32⟩
  | 43 => ⟨S2048x4x512, .f32⟩
  | 44 => ⟨S_, .i32⟩
  | 45 => ⟨S_, .i1⟩
  | 46 => ⟨S_, .i32⟩
  | 47 => ⟨S_, .i32⟩
  | 48 => ⟨S1x4x512, .f32⟩
  | 49 => ⟨S4x512, .f32⟩
  | 50 => ⟨S_, .i32⟩
  | 51 => ⟨S_, .i32⟩
  | 52 => ⟨S1x4x512, .f32⟩
  | 53 => ⟨S4x512, .f32⟩
  | 54 => ⟨S4x512, .f32⟩
  | 55 => ⟨S4x512, .f32⟩
  | 56 => ⟨S4x512, .f32⟩
  | 57 => ⟨S4x512, .f32⟩
  | 58 => ⟨S4x512, .f32⟩
  | 59 => ⟨S4x512, .f32⟩
  | 60 => ⟨S4x512, .f32⟩
  | 61 => ⟨S4x512, .f32⟩
  | 62 => ⟨S1x4x512, .f32⟩
  | 63 => ⟨S_, .i32⟩
  | 64 => ⟨S_, .i32⟩
  | 65 => ⟨S2048x4x512, .f32⟩
  | 66 => ⟨S1x4x512, .f32⟩
  | 67 => ⟨S_, .i32⟩
  | 68 => ⟨S_, .i32⟩
  | 69 => ⟨S2048x4x512, .f32⟩
  | 70 => ⟨S1x4x512, .f32⟩
  | 71 => ⟨S_, .i32⟩
  | 72 => ⟨S_, .i32⟩
  | 73 => ⟨S2048x4x512, .f32⟩
  | 74 => ⟨S1x4x512, .f32⟩
  | 75 => ⟨S_, .i32⟩
  | 76 => ⟨S_, .i32⟩
  | 77 => ⟨S2048x4x512, .f32⟩
  | 78 => ⟨S_, .i32⟩
  | 79 => ⟨S_, .i32⟩
  | 80 => ⟨S128x4x512, .f32⟩
  | 81 => ⟨S4x128x2048, .f32⟩
  | 82 => ⟨S2048x4x128, .f32⟩
  | 83 => ⟨S128x4x512, .f32⟩
  | 84 => ⟨S4x128x2048, .f32⟩
  | 85 => ⟨S2048x4x128, .f32⟩
  | 86 => ⟨S2048x4x128, .f32⟩
  | 87 => ⟨S2048x512, .f32⟩
  | 88 => ⟨S2048x512, .f32⟩
  | 89 => ⟨S_, .f32⟩
  | 90 => ⟨S4x512, .f32⟩
  | 91 => ⟨S_, .f32⟩
  | 92 => ⟨S4x512, .f32⟩
  | 93 => ⟨S2048x4x128, .f32⟩
  | 94 => ⟨S2048x4x128, .f32⟩
  | 95 => ⟨S4x128x2048, .f32⟩
  | 96 => ⟨S4x2048x512, .f32⟩
  | 97 => ⟨S2048x4x512, .f32⟩
  | 98 => ⟨S4x128x512, .f32⟩
  | 99 => ⟨S128x4x512, .f32⟩
  | 100 => ⟨S128x2048, .f32⟩
  | 101 => ⟨S4x128x2048, .f32⟩
  | 102 => ⟨S4x2048x512, .f32⟩
  | 103 => ⟨S2048x4x512, .f32⟩
  | 104 => ⟨S4x128x512, .f32⟩
  | 105 => ⟨S128x4x512, .f32⟩
  | 106 => ⟨S128x2048, .f32⟩
  | 107 => ⟨S_, .f32⟩
  | 108 => ⟨S4x512, .f32⟩
  | 109 => ⟨S_, .f32⟩
  | 110 => ⟨S4x512, .f32⟩
  | 111 => ⟨S_, .f32⟩
  | 112 => ⟨S4x512, .f32⟩
  | 113 => ⟨S_, .f32⟩
  | 114 => ⟨S4x512, .f32⟩
  | 115 => ⟨S_, .f32⟩
  | 116 => ⟨S2048x4x512, .f32⟩
  | 117 => ⟨S_, .f32⟩
  | 118 => ⟨S2048x4x512, .f32⟩
  | 119 => ⟨S_, .i32⟩
  | 120 => ⟨S2048x4x512, .f32⟩
  | 121 => ⟨S2048x4x512, .f32⟩
  | 122 => ⟨S2048x4x512, .f32⟩
  | 123 => ⟨S2048x4x512, .f32⟩
  | 124 => ⟨S4x512, .f32⟩
  | 125 => ⟨S4x512, .f32⟩
  | 126 => ⟨S_, .i32⟩
  | 127 => ⟨S4x512, .f32⟩
  | _ => ⟨S2048x512, .f32⟩

abbrev hbmTy0_1 (i : Nat) : BufTy := match i % 128 with
  | 0 => ⟨S4x512, .f32⟩
  | 1 => ⟨S4x512, .f32⟩
  | 2 => ⟨S4x512, .f32⟩
  | 3 => ⟨S2048x4x512, .f32⟩
  | 4 => ⟨S2048x4x512, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x4x512, .f32⟩
  | 14 => ⟨S4x512, .f32⟩
  | 15 => ⟨S_, .i32⟩
  | 16 => ⟨S_, .i32⟩
  | 17 => ⟨S1x4x512, .f32⟩
  | 18 => ⟨S4x512, .f32⟩
  | 19 => ⟨S_, .i32⟩
  | 20 => ⟨S_, .i32⟩
  | 21 => ⟨S1x4x512, .f32⟩
  | 22 => ⟨S4x512, .f32⟩
  | 23 => ⟨S_, .i32⟩
  | 24 => ⟨S_, .i32⟩
  | 25 => ⟨S1x4x512, .f32⟩
  | 26 => ⟨S4x512, .f32⟩
  | 27 => ⟨S4x512, .f32⟩
  | 28 => ⟨S4x512, .f32⟩
  | 29 => ⟨S4x512, .f32⟩
  | 30 => ⟨S4x512, .f32⟩
  | 31 => ⟨S4x512, .f32⟩
  | 32 => ⟨S4x512, .f32⟩
  | 33 => ⟨S4x512, .f32⟩
  | 34 => ⟨S4x512, .f32⟩
  | 35 => ⟨S4x512, .f32⟩
  | 36 => ⟨S4x512, .f32⟩
  | 37 => ⟨S4x512, .f32⟩
  | 38 => ⟨S4x512, .f32⟩
  | 39 => ⟨S4x512, .f32⟩
  | 40 => ⟨S4x512, .f32⟩
  | 41 => ⟨S4x512, .f32⟩
  | 42 => ⟨S4x512, .f32⟩
  | 43 => ⟨S4x512, .f32⟩
  | 44 => ⟨S1x4x512, .f32⟩
  | 45 => ⟨S_, .i32⟩
  | 46 => ⟨S_, .i32⟩
  | 47 => ⟨S2048x4x512, .f32⟩
  | 48 => ⟨S1x4x512, .f32⟩
  | 49 => ⟨S_, .i32⟩
  | 50 => ⟨S_, .i32⟩
  | 51 => ⟨S2048x4x512, .f32⟩
  | 52 => ⟨S_, .i32⟩
  | 53 => ⟨S_, .i32⟩
  | 54 => ⟨S1x2048, .f32⟩
  | 55 => ⟨S1x2048, .f32⟩
  | 56 => ⟨S4x512x2048, .f32⟩
  | 57 => ⟨S4x2048x128, .f32⟩
  | 58 => ⟨S2048x4x128, .f32⟩
  | 59 => ⟨S4x512x128, .f32⟩
  | 60 => ⟨S128x4x512, .f32⟩
  | 61 => ⟨S128x2048, .f32⟩
  | 62 => ⟨S4x512x2048, .f32⟩
  | 63 => ⟨S4x2048x128, .f32⟩
  | 64 => ⟨S2048x4x128, .f32⟩
  | 65 => ⟨S2048x4x128, .f32⟩
  | 66 => ⟨S4x512x128, .f32⟩
  | 67 => ⟨S128x4x512, .f32⟩
  | 68 => ⟨S128x2048, .f32⟩
  | 69 => ⟨S2048x512, .f32⟩
  | 70 => ⟨S2048x512, .f32⟩
  | 71 => ⟨S128x2048, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_c : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev main_v18_4 : Ref sig .tc := ⟨.hbm, 37, rfl⟩
abbrev main_v18_5 : Ref sig .tc := ⟨.hbm, 38, rfl⟩
abbrev main_v18_6 : Ref sig .tc := ⟨.hbm, 39, rfl⟩
abbrev main_v18_7 : Ref sig .tc := ⟨.hbm, 40, rfl⟩
abbrev main_v18_8 : Ref sig .tc := ⟨.hbm, 41, rfl⟩
abbrev main_v18_9 : Ref sig .tc := ⟨.hbm, 42, rfl⟩
abbrev main_v18_10 : Ref sig .tc := ⟨.hbm, 43, rfl⟩
abbrev main_while0c_c_23 : Ref sig .tc := ⟨.hbm, 44, rfl⟩
abbrev main_while0c_v69 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_v0 : Ref sig .tc := ⟨.hbm, 48, rfl⟩
abbrev main_while0b_v69 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_v0 : Ref sig .tc := ⟨.hbm, 52, rfl⟩
abbrev main_while0b_v70 : Ref sig .tc := ⟨.hbm, 53, rfl⟩
abbrev main_while0b_v71 : Ref sig .tc := ⟨.hbm, 54, rfl⟩
abbrev main_while0b_v72 : Ref sig .tc := ⟨.hbm, 55, rfl⟩
abbrev main_while0b_v73 : Ref sig .tc := ⟨.hbm, 56, rfl⟩
abbrev main_while0b_v74 : Ref sig .tc := ⟨.hbm, 57, rfl⟩
abbrev main_while0b_v75 : Ref sig .tc := ⟨.hbm, 58, rfl⟩
abbrev main_while0b_v76 : Ref sig .tc := ⟨.hbm, 59, rfl⟩
abbrev main_while0b_v77 : Ref sig .tc := ⟨.hbm, 60, rfl⟩
abbrev main_while0b_v78 : Ref sig .tc := ⟨.hbm, 61, rfl⟩
abbrev main_while0b_call2_v0 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_v79 : Ref sig .tc := ⟨.hbm, 65, rfl⟩
abbrev main_while0b_call3_v0 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_v80 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_v81 : Ref sig .tc := ⟨.hbm, 73, rfl⟩
abbrev main_while0b_call5_v0 : Ref sig .tc := ⟨.hbm, 74, rfl⟩
abbrev main_while0b_call5_c : Ref sig .tc := ⟨.hbm, 75, rfl⟩
abbrev main_while0b_call5_c_0 : Ref sig .tc := ⟨.hbm, 76, rfl⟩
abbrev main_while0b_v82 : Ref sig .tc := ⟨.hbm, 77, rfl⟩
abbrev main_while0b_c_23 : Ref sig .tc := ⟨.hbm, 78, rfl⟩
abbrev main_while0b_v83 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_4 : Ref sig .tc := ⟨.hbm, 89, rfl⟩
abbrev main_v28 : Ref sig .tc := ⟨.hbm, 90, rfl⟩
abbrev main_cst_5 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_6 : Ref sig .tc := ⟨.hbm, 107, rfl⟩
abbrev main_v44 : Ref sig .tc := ⟨.hbm, 108, rfl⟩
abbrev main_cst_7 : Ref sig .tc := ⟨.hbm, 109, rfl⟩
abbrev main_v45 : Ref sig .tc := ⟨.hbm, 110, rfl⟩
abbrev main_cst_8 : Ref sig .tc := ⟨.hbm, 111, rfl⟩
abbrev main_v46 : Ref sig .tc := ⟨.hbm, 112, rfl⟩
abbrev main_cst_9 : Ref sig .tc := ⟨.hbm, 113, rfl⟩
abbrev main_v47 : Ref sig .tc := ⟨.hbm, 114, rfl⟩
abbrev main_cst_10 : Ref sig .tc := ⟨.hbm, 115, rfl⟩
abbrev main_v48 : Ref sig .tc := ⟨.hbm, 116, rfl⟩
abbrev main_cst_11 : Ref sig .tc := ⟨.hbm, 117, rfl⟩
abbrev main_v49 : Ref sig .tc := ⟨.hbm, 118, rfl⟩
abbrev main_c_12 : Ref sig .tc := ⟨.hbm, 119, rfl⟩
abbrev main_v50_0 : Ref sig .tc := ⟨.hbm, 120, rfl⟩
abbrev main_v50_1 : Ref sig .tc := ⟨.hbm, 121, rfl⟩
abbrev main_v50_2 : Ref sig .tc := ⟨.hbm, 122, rfl⟩
abbrev main_v50_3 : Ref sig .tc := ⟨.hbm, 123, rfl⟩
abbrev main_v50_4 : Ref sig .tc := ⟨.hbm, 124, rfl⟩
abbrev main_v50_5 : Ref sig .tc := ⟨.hbm, 125, rfl⟩
abbrev main_v50_6 : Ref sig .tc := ⟨.hbm, 126, rfl⟩
abbrev main_v50_7 : Ref sig .tc := ⟨.hbm, 127, rfl⟩
abbrev main_v50_8 : Ref sig .tc := ⟨.hbm, 128, rfl⟩
abbrev main_v50_9 : Ref sig .tc := ⟨.hbm, 129, rfl⟩
abbrev main_v50_10 : Ref sig .tc := ⟨.hbm, 130, rfl⟩
abbrev main_v50_11 : Ref sig .tc := ⟨.hbm, 131, rfl⟩
abbrev main_v50_12 : Ref sig .tc := ⟨.hbm, 132, rfl⟩
abbrev main_while1c_c_25 : Ref sig .tc := ⟨.hbm, 133, rfl⟩
abbrev main_while1c_v69 : Ref sig .tc := ⟨.hbm, 134, rfl⟩
abbrev main_while1b_c_25 : Ref sig .tc := ⟨.hbm, 135, rfl⟩
abbrev main_while1b_v69 : Ref sig .tc := ⟨.hbm, 136, rfl⟩
abbrev main_while1b_c_26 : Ref sig .tc := ⟨.hbm, 137, rfl⟩
abbrev main_while1b_v70 : Ref sig .tc := ⟨.hbm, 138, rfl⟩
abbrev main_while1b_call6_c : Ref sig .tc := ⟨.hbm, 139, rfl⟩
abbrev main_while1b_call6_c_0 : Ref sig .tc := ⟨.hbm, 140, rfl⟩
abbrev main_while1b_call6_v0 : Ref sig .tc := ⟨.hbm, 141, rfl⟩
abbrev main_while1b_v71 : Ref sig .tc := ⟨.hbm, 142, rfl⟩
abbrev main_while1b_call7_c : Ref sig .tc := ⟨.hbm, 143, rfl⟩
abbrev main_while1b_call7_c_0 : Ref sig .tc := ⟨.hbm, 144, rfl⟩
abbrev main_while1b_call7_v0 : Ref sig .tc := ⟨.hbm, 145, rfl⟩
abbrev main_while1b_v72 : Ref sig .tc := ⟨.hbm, 146, rfl⟩
abbrev main_while1b_call8_c : Ref sig .tc := ⟨.hbm, 147, rfl⟩
abbrev main_while1b_call8_c_0 : Ref sig .tc := ⟨.hbm, 148, rfl⟩
abbrev main_while1b_call8_v0 : Ref sig .tc := ⟨.hbm, 149, rfl⟩
abbrev main_while1b_v73 : Ref sig .tc := ⟨.hbm, 150, rfl⟩
abbrev main_while1b_call9_c : Ref sig .tc := ⟨.hbm, 151, rfl⟩
abbrev main_while1b_call9_c_0 : Ref sig .tc := ⟨.hbm, 152, rfl⟩
abbrev main_while1b_call9_v0 : Ref sig .tc := ⟨.hbm, 153, rfl⟩
abbrev main_while1b_v74 : Ref sig .tc := ⟨.hbm, 154, rfl⟩
abbrev main_while1b_v75 : Ref sig .tc := ⟨.hbm, 155, rfl⟩
abbrev main_while1b_v76 : Ref sig .tc := ⟨.hbm, 156, rfl⟩
abbrev main_while1b_v77 : Ref sig .tc := ⟨.hbm, 157, rfl⟩
abbrev main_while1b_v78 : Ref sig .tc := ⟨.hbm, 158, rfl⟩
abbrev main_while1b_v79 : Ref sig .tc := ⟨.hbm, 159, rfl⟩
abbrev main_while1b_v80 : Ref sig .tc := ⟨.hbm, 160, rfl⟩
abbrev main_while1b_v81 : Ref sig .tc := ⟨.hbm, 161, rfl⟩
abbrev main_while1b_v82 : Ref sig .tc := ⟨.hbm, 162, rfl⟩
abbrev main_while1b_v83 : Ref sig .tc := ⟨.hbm, 163, rfl⟩
abbrev main_while1b_v84 : Ref sig .tc := ⟨.hbm, 164, rfl⟩
abbrev main_while1b_v85 : Ref sig .tc := ⟨.hbm, 165, rfl⟩
abbrev main_while1b_v86 : Ref sig .tc := ⟨.hbm, 166, rfl⟩
abbrev main_while1b_v87 : Ref sig .tc := ⟨.hbm, 167, rfl⟩
abbrev main_while1b_v88 : Ref sig .tc := ⟨.hbm, 168, rfl⟩
abbrev main_while1b_v89 : Ref sig .tc := ⟨.hbm, 169, rfl⟩
abbrev main_while1b_v90 : Ref sig .tc := ⟨.hbm, 170, rfl⟩
abbrev main_while1b_v91 : Ref sig .tc := ⟨.hbm, 171, rfl⟩
abbrev main_while1b_call10_v0 : Ref sig .tc := ⟨.hbm, 172, rfl⟩
abbrev main_while1b_call10_c : Ref sig .tc := ⟨.hbm, 173, rfl⟩
abbrev main_while1b_call10_c_0 : Ref sig .tc := ⟨.hbm, 174, rfl⟩
abbrev main_while1b_v92 : Ref sig .tc := ⟨.hbm, 175, rfl⟩
abbrev main_while1b_call11_v0 : Ref sig .tc := ⟨.hbm, 176, rfl⟩
abbrev main_while1b_call11_c : Ref sig .tc := ⟨.hbm, 177, rfl⟩
abbrev main_while1b_call11_c_0 : Ref sig .tc := ⟨.hbm, 178, rfl⟩
abbrev main_while1b_v93 : Ref sig .tc := ⟨.hbm, 179, rfl⟩
abbrev main_while1b_c_27 : Ref sig .tc := ⟨.hbm, 180, rfl⟩
abbrev main_while1b_v94 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_v56 : Ref sig .tc := ⟨.hbm, 187, rfl⟩
abbrev main_v57 : Ref sig .tc := ⟨.hbm, 188, rfl⟩
abbrev main_v58 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_v64 : Ref sig .tc := ⟨.hbm, 195, rfl⟩
abbrev main_v65 : Ref sig .tc := ⟨.hbm, 196, rfl⟩
abbrev main_v66 : Ref sig .tc := ⟨.hbm, 197, rfl⟩
abbrev main_v67 : Ref sig .tc := ⟨.hbm, 198, rfl⟩
abbrev main_v68 : Ref sig .tc := ⟨.hbm, 199, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S5632x1024 : Shape := ⟨2, ![5632, 1024]⟩
abbrev S2816x2048 : Shape := ⟨2, ![2816, 2048]⟩
abbrev S5632x2048 : Shape := ⟨2, ![5632, 2048]⟩
abbrev S1x128 : Shape := ⟨2, ![1, 128]⟩
abbrev S256x1024 : Shape := ⟨2, ![256, 1024]⟩
abbrev S2816x256 : Shape := ⟨2, ![2816, 256]⟩
abbrev S5632x256 : Shape := ⟨2, ![5632, 256]⟩
abbrev S256x5632 : Shape := ⟨2, ![256, 5632]⟩
abbrev S2 : Shape := ⟨1, ![2]⟩
abbrev S1 : Shape := ⟨1, ![1]⟩
abbrev S256x2816 : Shape := ⟨2, ![256, 2816]⟩
abbrev S256 : Shape := ⟨1, ![256]⟩
abbrev S256x1 : Shape := ⟨2, ![256, 1]⟩
abbrev S1x1 : Shape := ⟨2, ![1, 1]⟩
abbrev S1024 : Shape := ⟨1, ![1024]⟩

abbrev nBuf : Space → Nat
  | .hbm => 32
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S5632x1024, .f32⟩
  | .hbm, ⟨23, _⟩ => ⟨S5632x1024, .bf16⟩
  | .hbm, ⟨24, _⟩ => ⟨S2816x1024, .bf16⟩
  | .hbm, ⟨25, _⟩ => ⟨S2816x2048, .bf16⟩
  | .hbm, ⟨26, _⟩ => ⟨S5632x2048, .bf16⟩
  | .hbm, ⟨27, _⟩ => ⟨S2048x1024, .bf16⟩
  | .hbm, ⟨28, _⟩ => ⟨S2048x1024, .f32⟩
  | .hbm, ⟨29, _⟩ => ⟨S1x128, .f32⟩
  | .hbm, ⟨30, _⟩ => ⟨S1x1024, .f32⟩
  | .hbm, ⟨31, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S2816x256, .bf16⟩
  | .local _ .vmem, ⟨9, _⟩ => ⟨S2816x256, .bf16⟩
  | .local _ .vmem, ⟨10, _⟩ => ⟨S5632x256, .bf16⟩
  | .local _ .vmem, ⟨11, _⟩ => ⟨S5632x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S5632x1024, .bf16⟩
  | .local _ .vmem, ⟨20, _⟩ => ⟨S2816x1024, .bf16⟩
  | .local _ .vmem, ⟨21, _⟩ => ⟨S256x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_29 : BitVec 32 := 0#32
  let v55 : BitVec 1 := Scalar.cmpi .ne v54 c0_i32_29
  v55

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v56 : BitVec 1 := Scalar.xori v0 v_true
  let v57 : BitVec 32 := Scalar.extui v56
  let c0_i32_30 : BitVec 32 := 0#32
  let v58 : BitVec 1 := Scalar.cmpi .ne v57 c0_i32_30
  v58

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v78 : BitVec 32 := Scalar.extui v0
  let c0_i32_35 : BitVec 32 := 0#32
  let v79 : BitVec 1 := Scalar.cmpi .ne v78 c0_i32_35
  v79

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_36 : BitVec 1 := 1#1
  let v80 : BitVec 1 := Scalar.xori v0 true_36
  let v81 : BitVec 32 := Scalar.extui v80
  let c0_i32_37 : BitVec 32 := 0#32
  let v82 : BitVec 1 := Scalar.cmpi .ne v81 c0_i32_37
  v82

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v139 : BitVec 32 := Scalar.extui v0
  let c0_i32_67 : BitVec 32 := 0#32
  let v140 : BitVec 1 := Scalar.cmpi .ne v139 c0_i32_67
  v140

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_68 : BitVec 1 := 1#1
  let v141 : BitVec 1 := Scalar.xori v0 true_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2816x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5632x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1x128 : Shape := ⟨2, ![1, 128]⟩
abbrev S2816x2048 : Shape := ⟨2, ![2816, 2048]⟩
abbrev S5632x2048 : Shape := ⟨2, ![5632, 2048]⟩

abbrev nBuf : Space → Nat
  | .hbm => 162
  | .vmem => 0
  | .smem => 0
  | _ => 0

abbrev hbmTy0_0 (i : Nat) : BufTy := match i % 128 with
  | 0 => ⟨S2048x1024, .f32⟩
  | 1 => ⟨S2048x1024, .f32⟩
  | 2 => ⟨S1024x5632, .f32⟩
  | 3 => ⟨S2816x1024, .f32⟩
  | 4 => ⟨S1x1024, .f32⟩
  | 5 => ⟨S1x1024, .f32⟩
  | 6 => ⟨S1024, .f32⟩
  | 7 => ⟨S2048x1024, .f32⟩
  | 8 => ⟨S_, .f32⟩
  | 9 => ⟨S2048, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1024, .f32⟩
  | 23 => ⟨S2048x1024, .f32⟩
  | 24 => ⟨S1x1024, .f32⟩
  | 25 => ⟨S2048x1024, .f32⟩
  | 26 => ⟨S2048x1024, .f32⟩
  | 27 => ⟨S2048x5632, .f32⟩
  | 28 => ⟨S2048x2816, .f32⟩
  | 29 => ⟨S2048x2816, .f32⟩
  | 30 => ⟨S2048x2816, .f32⟩
  | 31 => ⟨S_, .f32⟩
  | 32 => ⟨S2048x2816, .f32⟩
  | 33 => ⟨S2048x2816, .f32⟩
  | 34 => ⟨S_, .f32⟩
  | 35 => ⟨S2048x2816, .f32⟩
  | 36 => ⟨S2048x2816, .f32⟩
  | 37 => ⟨S_, .f32⟩
  | 38 => ⟨S2048x2816, .f32⟩
  | 39 => ⟨S2048x2816, .f32⟩
  | 40 => ⟨S2048x2816, .f32⟩
  | 41 => ⟨S2048x2816, .f32⟩
  | 42 => ⟨S2048x2816, .f32⟩
  | 43 => ⟨S2048x2816, .f32⟩
  | 44 => ⟨S2048x1024, .f32⟩
  | 45 => ⟨S1024, .f32⟩
  | 46 => ⟨S2048x1024, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1024, .f32⟩
  | 62 => ⟨S2048x1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S_, .f32⟩
  | 73 => ⟨S2048, .f32⟩
  | 74 => ⟨S_, .f32⟩
  | 75 => ⟨S2048, .f32⟩
  | 76 => ⟨S2048, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S2048, .f32⟩
  | 85 => ⟨S_, .f32⟩
  | 86 => ⟨S2048, .f32⟩
  | 87 => ⟨S2048, .f32⟩
  | 88 => ⟨S2048x1024, .f32⟩
  | 89 => ⟨S2048x1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S_, .f32⟩
  | 97 => ⟨S1024, .f32⟩
  | 98 => ⟨S2048x1024, .f32⟩
  | 99 => ⟨S_, .f32⟩
  | 100 => ⟨S2048, .f32⟩
  | 101 => ⟨S2048x1, .f32⟩
  | 102 => ⟨S2048x1024, .f32⟩
  | 103 => ⟨S2048x1024, .f32⟩
  | 104 => ⟨S2048x1, .f32⟩
  | 105 => ⟨S_, .f32⟩
  | 106 => ⟨S2048x1, .f32⟩
  | 107 => ⟨S2048x1, .f32⟩
  | 108 => ⟨S_, .f32⟩
  | 109 => ⟨S2048, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S1x1024, .f32⟩
  | 116 => ⟨S2048x2816, .f32⟩
  | 117 => ⟨S2048x2816, .f32⟩
  | 118 => ⟨S2048x2816, .f32⟩
  | 119 => ⟨S_, .f32⟩
  | 120 => ⟨S2048x5632, .f32⟩
  | 121 => ⟨S2048x2816, .f32⟩
  | 122 => ⟨S2048x2816, .f32⟩
  | 123 => ⟨S2048x2816, .f32⟩
  | 124 => ⟨S2048x2816, .f32⟩
  | 125 => ⟨S_, .f32⟩
  | 126 => ⟨S2048x5632, .f32⟩
  | 127 => ⟨S2048x5632, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S1024, .f32⟩
  | 4 => ⟨S1x1024, .f32⟩
  | 5 => ⟨S2048x1024, .f32⟩
  | 6 => ⟨S2048x1024, .f32⟩
  | 7 => ⟨S_, .f32⟩
  | 8 => ⟨S1024, .f32⟩
  | 9 => ⟨S2048x1024, .f32⟩
  | 10 => ⟨S_, .f32⟩
  | 11 => ⟨S2048, .f32⟩
  | 12 => ⟨S2048x1, .f32⟩
  | 13 => ⟨S2048x1024, .f32⟩
  | 14 => ⟨S2048x1024, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S1x1024, .f32⟩
  | 27 => ⟨S1x128, .f32⟩
  | 28 => ⟨S2816x2048, .f32⟩
  | 29 => ⟨S2816x2048, .bf16⟩
  | 30 => ⟨S5632x2048, .f32⟩
  | 31 => ⟨S5632x2048, .bf16⟩
  | 32 => ⟨S2048x1024, .bf16⟩
  | 33 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_cst_12 : Ref sig .tc := ⟨.hbm, 81, rfl⟩
abbrev main_cst_13 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_16 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_18 : Ref sig .tc := ⟨.hbm, 105, rfl⟩
abbrev main_v68 : Ref sig .tc := ⟨.hbm, 106, rfl⟩
abbrev main_v69 : Ref sig .tc := ⟨.hbm, 107, rfl⟩
abbrev main_cst_19 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_20 : Ref sig .tc := ⟨.hbm, 119, rfl⟩
abbrev main_v80 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v81 : Ref sig .tc := ⟨.hbm, 124, rfl⟩
abbrev main_cst_21 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_22 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_23 : Ref sig .tc := ⟨.hbm, 135, rfl⟩
abbrev main_v90 : Ref sig .tc := ⟨.hbm, 136, rfl⟩
abbrev main_v91 : Ref sig .tc := ⟨.hbm, 137, rfl⟩
abbrev main_cst_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_25 : Ref sig .tc := ⟨.hbm, 144, rfl⟩
abbrev main_v97 : Ref sig .tc := ⟨.hbm, 145, rfl⟩
abbrev main_v98 : Ref sig .tc := ⟨.hbm, 146, rfl⟩
abbrev main_cst_26 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩

abbrev nD : Nat := 1
abbrev τ : Topo := Topo.v7x

variable {F : FTy → Type} [FloatOps F]
-- ==== Kernel3.lean ====
abbrev S2816x2048 : Shape := ⟨2, ![2816, 2048]⟩
abbrev S2048x1024 : Shape := ⟨2, ![2048, 1024]⟩
abbrev S2816x1024 : Shape := ⟨2, ![2816, 1024]⟩
abbrev S704x2048 : Shape := ⟨2, ![704, 2048]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2816x2048, .bf16⟩
  | .hbm, ⟨1, _⟩ => ⟨S2048x1024, .bf16⟩
  | .hbm, ⟨2, _⟩ => ⟨S2816x1024, .bf16⟩
  | .local _ .vmem, ⟨0, _⟩ => ⟨S704x2048, .bf16⟩
  | .local _ .vmem, ⟨1, _⟩ => ⟨S704x2048, .bf16⟩
  | .local _ .vmem, ⟨2, _⟩ => ⟨S2048x1024, .bf16⟩
  | .local _ .vmem, ⟨3, _⟩ => ⟨S704x1024, .bf16⟩
  | .local _ .vmem, ⟨4, _⟩ => ⟨S704x1024, .bf16⟩
  | _, _ => ⟨S2816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2816x2048 : Shape := ⟨2, ![2816, 2048]⟩
abbrev S2048x1024 : Shape := ⟨2, ![2048, 1024]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x2048, .bf16⟩
  | .hbm, ⟨1, _⟩ => ⟨S2048x1024, .bf16⟩
  | .hbm, ⟨2, _⟩ => ⟨S2048x2816, .bf16⟩
  | .hbm, ⟨3, _⟩ => ⟨S2048x2816, .f32⟩
  | .hbm, ⟨4, _⟩ => ⟨S2048x1024, .f32⟩
  | .hbm, ⟨5, _⟩ => ⟨S_, .f32⟩
  | .hbm, ⟨6, _⟩ => ⟨S2816x1024, .f32⟩
  | .hbm, ⟨7, _⟩ => ⟨S2048x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S5632x2048 : Shape := ⟨2, ![5632, 2048]⟩
abbrev S2048x1024 : Shape := ⟨2, ![2048, 1024]⟩
abbrev S5632x1024 : Shape := ⟨2, ![5632, 1024]⟩
abbrev S704x2048 : Shape := ⟨2, ![704, 2048]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S5632x2048, .bf16⟩
  | .hbm, ⟨1, _⟩ => ⟨S2048x1024, .bf16⟩
  | .hbm, ⟨2, _⟩ => ⟨S5632x1024, .bf16⟩
  | .local _ .vmem, ⟨0, _⟩ => ⟨S704x2048, .bf16⟩
  | .local _ .vmem, ⟨1, _⟩ => ⟨S704x2048, .bf16⟩
  | .local _ .vmem, ⟨2, _⟩ => ⟨S2048x1024, .bf16⟩
  | .local _ .vmem, ⟨3, _⟩ => ⟨S704x1024, .bf16⟩
  | .local _ .vmem, ⟨4, _⟩ => ⟨S704x1024, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S5632x2048 : Shape := ⟨2, ![5632, 2048]⟩
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S2048x1024, .bf16⟩
  | .hbm, ⟨2, _⟩ => ⟨S2048x5632, .bf16⟩
  | .hbm, ⟨3, _⟩ => ⟨S2048x1024, .f32⟩
  | .hbm, ⟨4, _⟩ => ⟨S2048x5632, .f32⟩
  | .hbm, ⟨5, _⟩ => ⟨S_, .f32⟩
  | .hbm, ⟨6, _⟩ => ⟨S1024x5632, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .f32⟩
  | .hbm, ⟨3, _⟩ => ⟨S2048x1024, .f32⟩
  | .hbm, ⟨4, _⟩ => ⟨S_, .f32⟩
  | .hbm, ⟨5, _⟩ => ⟨S512x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x1280 : Shape := ⟨2, ![2048, 1280]⟩
abbrev S2048x1024 : Shape := ⟨2, ![2048, 1024]⟩
abbrev S1280x1024 : Shape := ⟨2, ![1280, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S1280x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1280 : Shape := ⟨2, ![2048, 1280]⟩
abbrev S2048x1024 : Shape := ⟨2, ![2048, 1024]⟩
abbrev S_ : Shape := ⟨0, ![]⟩
abbrev S1024x1280 : Shape := ⟨2, ![1024, 1280]⟩
abbrev S1280x1024 : Shape := ⟨2, ![1280, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S2048x1024, .f32⟩
  | .hbm, ⟨3, _⟩ => ⟨S2048x1280, .f32⟩
  | .hbm, ⟨4, _⟩ => ⟨S_, .f32⟩
  | .hbm, ⟨5, _⟩ => ⟨S1024x1280, .f32⟩
  | .hbm, ⟨6, _⟩ => ⟨S2048x1280, .f32⟩
  | .hbm, ⟨7, _⟩ => ⟨S1280x1024, .f32⟩
  | .hbm, ⟨8, _⟩ => ⟨S1024x1280, .f32⟩
  | .hbm, ⟨9, _⟩ => ⟨S1280x1024, .f32⟩
  | .hbm, ⟨10, _⟩ => ⟨S1280x1024, .bf16⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S1x1024 : Shape := ⟨2, ![1, 1024]⟩
abbrev S256x4096 : Shape := ⟨2, ![256, 4096]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .hbm, ⟨3, _⟩ => ⟨S1x1024, .f32⟩
  | .hbm, ⟨4, _⟩ => ⟨S2048x1024, .bf16⟩
  | .hbm, ⟨5, _⟩ => ⟨S256x4096, .f32⟩
  | .hbm, ⟨6, _⟩ => ⟨S2048x512, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v29 : BitVec 32 := Scalar.extui v0
  let c0_i32_10 : BitVec 32 := 0#32
  let v30 : BitVec 1 := Scalar.cmpi .ne v29 c0_i32_10
  v30

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v31 : BitVec 1 := Scalar.xori v0 v_true
  let v32 : BitVec 32 := Scalar.extui v31
  let c0_i32_11 : BitVec 32 := 0#32
  let v33 : BitVec 1 := Scalar.cmpi .ne v32 c0_i32_11
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S8x256x512 : Shape := ⟨3, ![8, 256, 512]⟩
abbrev S256x8x512 : Shape := ⟨3, ![256, 8, 512]⟩
abbrev S256x4096 : Shape := ⟨2, ![256, 4096]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | .hbm, ⟨51, _⟩ => ⟨S_, .f32⟩
  | .hbm, ⟨52, _⟩ => ⟨S2048x1024, .f32⟩
  | .hbm, ⟨53, _⟩ => ⟨S1024x1024, .f32⟩
  | .hbm, ⟨54, _⟩ => ⟨S2048x1024, .f32⟩
  | .hbm, ⟨55, _⟩ => ⟨S2048x1024, .f32⟩
  | .hbm, ⟨56, _⟩ => ⟨S2048x512, .f32⟩
  | .hbm, ⟨57, _⟩ => ⟨S8x256x512, .f32⟩
  | .hbm, ⟨58, _⟩ => ⟨S256x8x512, .f32⟩
  | .hbm, ⟨59, _⟩ => ⟨S256x4096, .f32⟩
  | .hbm, ⟨60, _⟩ => ⟨S2048x1024, .bf16⟩
  | .hbm, ⟨61, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel9.lean ====
abbrev S256x4096 : Shape := ⟨2, ![256, 4096]⟩
abbrev S2048x512 : Shape := ⟨2, ![2048, 512]⟩
abbrev S2048x1024 : Shape := ⟨2, ![2048, 1024]⟩
abbrev S1024x1024 : Shape := ⟨2, ![1024, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S256x4096, .bf16⟩
  | .hbm, ⟨1, _⟩ => ⟨S2048x512, .bf16⟩
  | .hbm, ⟨2, _⟩ => ⟨S2048x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S256x4096 : Shape := ⟨2, ![256, 4096]⟩
abbrev S2048x512 : Shape := ⟨2, ![2048, 512]⟩
abbrev S2048x1024 : Shape := ⟨2, ![2048, 1024]⟩
abbrev S1024x1024 : Shape := ⟨2, ![1024, 1024]⟩
abbrev S1x1024 : Shape := ⟨2, ![1, 1024]⟩
abbrev S256x8x512 : Shape := ⟨3, ![256, 8, 512]⟩
abbrev S8x256x512 : Shape := ⟨3, ![8, 256, 512]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S2048x512, .bf16⟩
  | .hbm, ⟨2, _⟩ => ⟨S2048x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S256x8x512, .bf16⟩
  | .hbm, ⟨7, _⟩ => ⟨S8x256x512, .bf16⟩
  | .hbm, ⟨8, _⟩ => ⟨S2048x512, .bf16⟩
  | .hbm, ⟨9, _⟩ => ⟨S2048x1024, .bf16⟩
  | .hbm, ⟨10, _⟩ => ⟨S2048x1024, .f32⟩
  | .hbm, ⟨11, _⟩ => ⟨S1024x1024, .f32⟩
  | .hbm, ⟨12, _⟩ => ⟨S2048x1024, .f32⟩
  | .hbm, ⟨13, _⟩ => ⟨S1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel10.lean ====
abbrev S2048x1024 : Shape := ⟨2, ![2048, 1024]⟩
abbrev S2048 : Shape := ⟨1, ![2048]⟩
abbrev S1x1024 : Shape := ⟨2, ![1, 1024]⟩
abbrev S1024x1280 : Shape := ⟨2, ![1024, 1280]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x128 : Shape := ⟨2, ![2048, 128]⟩
abbrev S1280x1024 : Shape := ⟨2, ![1280, 1024]⟩
abbrev S256x4096 : Shape := ⟨2, ![256, 4096]⟩
abbrev S2048x512 : Shape := ⟨2, ![2048, 512]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x1280 : Shape := ⟨2, ![256, 1280]⟩
abbrev S1x512 : Shape := ⟨2, ![1, 512]⟩
abbrev S1x128 : Shape := ⟨2, ![1, 128]⟩

abbrev nBuf : Space → Nat
  | .hbm => 38
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1x1024, .f32⟩
  | .hbm, ⟨3, _⟩ => ⟨S1024x1280, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S2048, .f32⟩
  | .hbm, ⟨16, _⟩ => ⟨S2048x1, .f32⟩
  | .hbm, ⟨17, _⟩ => ⟨S1x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S_, .f32⟩
  | .hbm, ⟨24, _⟩ => ⟨S2048x48, .f32⟩
  | .hbm, ⟨25, _⟩ => ⟨S_, .f32⟩
  | .hbm, ⟨26, _⟩ => ⟨S2048x48, .f32⟩
  | .hbm, ⟨27, _⟩ => ⟨S2048x128, .f32⟩
  | .hbm, ⟨28, _⟩ => ⟨S2048x8, .f32⟩
  | .hbm, ⟨29, _⟩ => ⟨S2048x8, .f32⟩
  | .hbm, ⟨30, _⟩ => ⟨S2048x128, .f32⟩
  | .hbm, ⟨31, _⟩ => ⟨S1280x1024, .f32⟩
  | .hbm, ⟨32, _⟩ => ⟨S1280x1024, .bf16⟩
  | .hbm, ⟨33, _⟩ => ⟨S2048x1024, .bf16⟩
  | .hbm, ⟨34, _⟩ => ⟨S256x4096, .f32⟩
  | .hbm, ⟨35, _⟩ => ⟨S2048x512, .bf16⟩
  | .hbm, ⟨36, _⟩ => ⟨S2048x128, .bf16⟩
  | .hbm, ⟨37, _⟩ => ⟨S2048x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1280x1024, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S2048x1024 : Shape := ⟨2, ![2048, 1024]⟩
abbrev S2048 : Shape := ⟨1, ![2048]⟩
abbrev S1x1024 : Shape := ⟨2, ![1, 1024]⟩
abbrev S1024x1280 : Shape := ⟨2, ![1024, 1280]⟩
abbrev S1024 : Shape := ⟨1, ![1024]⟩
abbrev S_ : Shape := ⟨0, ![]⟩
abbrev S2048x1 : Shape := ⟨2, ![2048, 1]⟩
abbrev S2048x1280 : Shape := ⟨2, ![2048, 1280]⟩
abbrev S2048x512 : Shape := ⟨2, ![2048, 512]⟩
abbrev S2048x128 : Shape := ⟨2, ![2048, 128]⟩
abbrev S2048x8x64 : Shape := ⟨3, ![2048, 8, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S2048x8x8 : Shape := ⟨3, ![2048, 8, 8]⟩
abbrev S2048x8x48 : Shape := ⟨3, ![2048, 8, 48]⟩
abbrev S2048x2x64 : Shape := ⟨3, ![2048, 2, 64]⟩
abbrev S2048x2x8 : Shape := ⟨3, ![2048, 2, 8]⟩
abbrev S2048x2x48 : Shape := ⟨3, ![2048, 2, 48]⟩
abbrev S8x256x512 : Shape := ⟨3, ![8, 256, 512]⟩
abbrev S256x8x512 : Shape := ⟨3, ![256, 8, 512]⟩
abbrev S256x4096 : Shape := ⟨2, ![256, 4096]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1x1024, .f32⟩
  | .hbm, ⟨3, _⟩ => ⟨S1024x1280, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1280, .f32⟩
  | .hbm, ⟨22, _⟩ => ⟨S2048x512, .f32⟩
  | .hbm, ⟨23, _⟩ => ⟨S2048x512, .f32⟩
  | .hbm, ⟨24, _⟩ => ⟨S2048x128, .f32⟩
  | .hbm, ⟨25, _⟩ => ⟨S2048x128, .f32⟩
  | .hbm, ⟨26, _⟩ => ⟨S2048x8x64, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S2048, .f32⟩
  | .hbm, ⟨39, _⟩ => ⟨S2048x1, .f32⟩
  | .hbm, ⟨40, _⟩ => ⟨S1x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S2048x1x8, .f32⟩
  | .hbm, ⟨46, _⟩ => ⟨S2048x8, .f32⟩
  | .hbm, ⟨47, _⟩ => ⟨S2048x1x8, .f32⟩
  | .hbm, ⟨48, _⟩ => ⟨S2048x8x8, .f32⟩
  | .hbm, ⟨49, _⟩ => ⟨S2048x8x8, .f32⟩
  | .hbm, ⟨50, _⟩ => ⟨S2048x8x8, .f32⟩
  | .hbm, ⟨51, _⟩ => ⟨S2048x8x8, .f32⟩
  | .hbm, ⟨52, _⟩ => ⟨S2048x8x8, .f32⟩
  | .hbm, ⟨53, _⟩ => ⟨S2048x8x8, .f32⟩
  | .hbm, ⟨54, _⟩ => ⟨S2048x8x8, .f32⟩
  | .hbm, ⟨55, _⟩ => ⟨S2048x8x8, .f32⟩
  | .hbm, ⟨56, _⟩ => ⟨S2048x8x8, .f32⟩
  | .hbm, ⟨57, _⟩ => ⟨S2048x8x8, .f32⟩
  | .hbm, ⟨58, _⟩ => ⟨S2048x8x8, .f32⟩
  | .hbm, ⟨59, _⟩ => ⟨S2048x8x8, .f32⟩
  | .hbm, ⟨60, _⟩ => ⟨S2048x8x48, .f32⟩
  | .hbm, ⟨61, _⟩ => ⟨S2048x8x64, .f32⟩
  | .hbm, ⟨62, _⟩ => ⟨S2048x512, .f32⟩
  | .hbm, ⟨63, _⟩ => ⟨S2048x2x64, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S2048, .f32⟩
  | .hbm, ⟨76, _⟩ => ⟨S2048x1, .f32⟩
  | .hbm, ⟨77, _⟩ => ⟨S1x8, .f32⟩
  | .hbm, ⟨78, _⟩ => ⟨S2048x8, .f32⟩
  | .hbm, ⟨79, _⟩ => ⟨S2048x8, .f32⟩
  | .hbm, ⟨80, _⟩ => ⟨S2048x8, .f32⟩
  | .hbm, ⟨81, _⟩ => ⟨S2048x8, .f32⟩
  | .hbm, ⟨82, _⟩ => ⟨S2048x1x8, .f32⟩
  | .hbm, ⟨83, _⟩ => ⟨S2048x8, .f32⟩
  | .hbm, ⟨84, _⟩ => ⟨S2048x1x8, .f32⟩
  | .hbm, ⟨85, _⟩ => ⟨S2048x2x8, .f32⟩
  | .hbm, ⟨86, _⟩ => ⟨S2048x2x8, .f32⟩
  | .hbm, ⟨87, _⟩ => ⟨S2048x2x8, .f32⟩
  | .hbm, ⟨88, _⟩ => ⟨S2048x2x8, .f32⟩
  | .hbm, ⟨89, _⟩ => ⟨S2048x2x8, .f32⟩
  | .hbm, ⟨90, _⟩ => ⟨S2048x2x8, .f32⟩
  | .hbm, ⟨91, _⟩ => ⟨S2048x2x8, .f32⟩
  | .hbm, ⟨92, _⟩ => ⟨S2048x2x8, .f32⟩
  | .hbm, ⟨93, _⟩ => ⟨S2048x2x8, .f32⟩
  | .hbm, ⟨94, _⟩ => ⟨S2048x2x8, .f32⟩
  | .hbm, ⟨95, _⟩ => ⟨S2048x2x8, .f32⟩
  | .hbm, ⟨96, _⟩ => ⟨S2048x2x8, .f32⟩
  | .hbm, ⟨97, _⟩ => ⟨S2048x2x48, .f32⟩
  | .hbm, ⟨98, _⟩ => ⟨S2048x2x64, .f32⟩
  | .hbm, ⟨99, _⟩ => ⟨S2048x128, .f32⟩
  | .hbm, ⟨100, _⟩ => ⟨S8x256x512, .f32⟩
  | .hbm, ⟨101, _⟩ => ⟨S256x8x512, .f32⟩
  | .hbm, ⟨102, _⟩ => ⟨S256x4096, .f32⟩
  | .hbm, ⟨103, _⟩ => ⟨S2048x1024, .bf16⟩
  | .hbm, ⟨104, _⟩ => ⟨S2048x512, .bf16⟩
  | .hbm, ⟨105, _⟩ => ⟨S2048x128, .bf16⟩
  | .hbm, ⟨106, _⟩ => ⟨S2048x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩

abbrev nD : Nat := 1
abbrev τ : Topo := Topo.v7x

variable {F : FTy → Type} [FloatOps F]
-- ==== Proof.ScanMath.lean ====
/- Mathematics of a first-order complex recurrence: runs, their splitting at a chunk boundary, and sums over time cut into chunks. -/
module

public import Mathlib.Data.Complex.Basic
public import Mathlib.Data.EReal.Basic
public import Mathlib.Data.EReal.Operations
public import Mathlib.Algebra.BigOperators.Fin
public import Mathlib.Tactic.Ring
public import Mathlib.Algebra.BigOperators.Intervals

@[expose] public section

noncomputable section

namespace Cert.S5

/-- The state after `n` steps of `z ↦ a z + b k` from `s`. -/
def run (a : ℂ) (b : ℕ → ℂ) (s : ℂ) : ℕ → ℂ
  | 0 => s
  | n + 1 => a * run a b s n + b n

theorem run_zero (a : ℂ) (b : ℕ → ℂ) (s : ℂ) : run a b s 0 = s := rfl

theorem run_succ (a : ℂ) (b : ℕ → ℂ) (s : ℂ) (n : ℕ) : run a b s (n + 1) = a * run a b s n + b n := rfl

theorem run_add (a : ℂ) (b : ℕ → ℂ) (s : ℂ) (m n : ℕ) : run a b s (m + n) = run a (fun i => b (m + i)) (run a b s m) n := by
  induction n with
  | zero => rfl
  | succ n ih => rw [← Nat.add_assoc, run_succ, run_succ, ih]

theorem run_lin (a : ℂ) (b : ℕ → ℂ) (s : ℂ) (n : ℕ) : run a b s n = a ^ n * s + run a b 0 n := by
  induction n with
  | zero => simp [run]
  | succ n ih => rw [run_succ, run_succ, ih]; ring

/-- A chunk of `T` steps: the state at its end is the power of `a` times the state at its start, plus the chunk's own run. -/
theorem run_chunk (a : ℂ) (b : ℕ → ℂ) (T c : ℕ) :
    run a b 0 (T * (c + 1)) = a ^ T * run a b 0 (T * c) + run a (fun i => b (T * c + i)) 0 T := by
  rw [Nat.mul_succ, run_add, run_lin]

theorem run_congr (a : ℂ) {b b' : ℕ → ℂ} (s : ℂ) (n : ℕ) (h : ∀ k < n, b k = b' k) : run a b s n = run a b' s n := by
  induction n with
  | zero => rfl
  | succ n ih => rw [run_succ, run_succ, ih fun k hk => h k (by omega), h n (by omega)]

/-- Conjugate, as a pair. -/
def cj (a : ℂ) : ℂ := ⟨a.re, -a.im⟩

/-- A sum over 2048 times cut into 8 chunks of 256. -/
theorem sum_chunks {M : Type} [AddCommMonoid M] (f : ℕ → M) :
    ∑ c : Fin 8, ∑ t ∈ Finset.range 256, f (256 * c.val + t) = ∑ τ : Fin 2048, f τ.val := by
  rw [Fin.sum_univ_eq_sum_range (fun τ => f τ) 2048]
  rw [Fin.sum_univ_eq_sum_range (fun c => ∑ t ∈ Finset.range 256, f (256 * c + t)) 8]
  have h : ∀ n : ℕ, ∑ c ∈ Finset.range n, ∑ t ∈ Finset.range 256, f (256 * c + t) = ∑ τ ∈ Finset.range (256 * n), f τ := by
    intro n
    induction n with
    | zero => simp
    | succ n ih => rw [Finset.sum_range_succ, ih, Nat.mul_succ, Finset.sum_range_add]
  exact h 8

/-- The time of a row of the time-major chunk layout: row `8 t + c` is step `t` of chunk `c`. -/
def tim (r : ℕ) : ℕ := 256 * (r % 8) + r / 8

/-- The row of a time. -/
def rowOf (τ : ℕ) : ℕ := 8 * (τ % 256) + τ / 256

theorem tim_lt {r : ℕ} (h : r < 2048) : tim r < 2048 := by unfold tim; omega
theorem rowOf_lt {r : ℕ} (h : r < 2048) : rowOf r < 2048 := by unfold rowOf; omega
theorem tim_rowOf {r : ℕ} (h : r < 2048) : tim (rowOf r) = r := by unfold tim rowOf; omega
theorem rowOf_tim {r : ℕ} (h : r < 2048) : rowOf (tim r) = r := by unfold tim rowOf; omega

/-- The rows and the times are in bijection. -/
def rowEquiv : Fin 2048 ≃ Fin 2048 where
  toFun r := ⟨tim r.val, tim_lt r.isLt⟩
  invFun r := ⟨rowOf r.val, rowOf_lt r.isLt⟩
  left_inv r := Fin.ext (rowOf_tim r.isLt)
  right_inv r := Fin.ext (tim_rowOf r.isLt)

/-- A sum over rows of a function of their times is the sum over times. -/
theorem sum_rows {M : Type} [AddCommMonoid M] (f : ℕ → M) : ∑ r : Fin 2048, f (tim r.val) = ∑ τ : Fin 2048, f τ.val :=
  Fintype.sum_equiv rowEquiv _ _ fun _ => rfl

/-- Finite extended reals add as reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A contraction of finite entries. -/
theorem dot_coe {n : ℕ} {x y : Fin n → EReal} {f g : Fin n → ℝ} (hx : ∀ i, x i = f i) (hy : ∀ i, y i = g i) :
    ∑ i, x i * y i = ((∑ i, f i * g i : ℝ) : EReal) := by
  rw [← coe_sum]
  exact Finset.sum_congr rfl fun i _ => by rw [hx, hy, EReal.coe_mul]

end Cert.S5

end
-- ==== Proof.Pairs.lean ====
/- Pairs of vectors of finite entries as one vector of complex numbers, and what the recurrence's operations do to them. -/
module

public import proofs.«01_k».proof.Proof.ScanMath
public import proofs.«01_k».proof.Proof.Gen.KernelIdeal.Skeleton
public import Idealize.ShloMosaic.Lib.Pointwise
public import Idealize.ShloMosaic.Lib.VecWindow
public import Idealize.ShloMosaic.Lib.LayoutPointwise
public import Mathlib.Tactic.NormNum
public import Mathlib.Tactic.IntervalCases

@[expose] public section

set_option maxRecDepth 16384

noncomputable section

namespace Cert.S5

open Idealize.ShloMosaic

variable {s : Shape}

/-- The vectors `v`, `w` hold the real and the imaginary parts of `Z`. -/
structure IsC (v w : FVec Ideal s .f32) (Z : s.Idx → ℂ) : Prop where
  re : ∀ i, v i = ((Z i).re : EReal)
  im : ∀ i, w i = ((Z i).im : EReal)

theorem IsC.congr {v w : FVec Ideal s .f32} {Z Z' : s.Idx → ℂ} (h : IsC v w Z) (e : ∀ i, Z i = Z' i) : IsC v w Z' :=
  ⟨fun i => by rw [h.re, e], fun i => by rw [h.im, e]⟩

/-- One step of the recurrence. -/
theorem IsC.mac {ar ai zr zi br bi : FVec Ideal s .f32} {A Z B : s.Idx → ℂ} (ha : IsC ar ai A) (hz : IsC zr zi Z) (hb : IsC br bi B) :
    IsC (addf (subf (mulf ar zr) (mulf ai zi)) br) (addf (addf (mulf ar zi) (mulf ai zr)) bi) (fun i => A i * Z i + B i) := by
  refine ⟨fun i => ?_, fun i => ?_⟩ <;> simp only [pointwise] <;>
    simp only [ha.re, ha.im, hz.re, hz.im, hb.re, hb.im, Complex.add_re, Complex.mul_re, Complex.add_im, Complex.mul_im] <;> norm_cast

/-- One step of the reversed recurrence: the multiplier conjugated. -/
theorem IsC.macCj {ar ai zr zi br bi : FVec Ideal s .f32} {A Z B : s.Idx → ℂ} (ha : IsC ar ai A) (hz : IsC zr zi Z) (hb : IsC br bi B) :
    IsC (addf (addf (mulf ar zr) (mulf ai zi)) br) (addf (subf (mulf ar zi) (mulf ai zr)) bi) (fun i => cj (A i) * Z i + B i) := by
  refine ⟨fun i => ?_, fun i => ?_⟩ <;> simp only [pointwise] <;>
    simp only [ha.re, ha.im, hz.re, hz.im, hb.re, hb.im, Complex.add_re, Complex.mul_re, Complex.add_im, Complex.mul_im, cj] <;>
    norm_cast <;> ring

/-- A product. -/
theorem IsC.mul {ar ai zr zi : FVec Ideal s .f32} {A Z : s.Idx → ℂ} (ha : IsC ar ai A) (hz : IsC zr zi Z) :
    IsC (subf (mulf ar zr) (mulf ai zi)) (addf (mulf ar zi) (mulf ai zr)) (fun i => A i * Z i) := by
  refine ⟨fun i => ?_, fun i => ?_⟩ <;> simp only [pointwise] <;>
    simp only [ha.re, ha.im, hz.re, hz.im, Complex.mul_re, Complex.mul_im] <;> norm_cast

/-- A square, its imaginary part by doubling. -/
theorem IsC.sq {ar ai two : FVec Ideal s .f32} {A : s.Idx → ℂ} (ha : IsC ar ai A) (h2 : ∀ i, two i = ((2 : ℝ) : EReal)) :
    IsC (subf (mulf ar ar) (mulf ai ai)) (mulf (mulf two ar) ai) (fun i => A i ^ 2) := by
  refine ⟨fun i => ?_, fun i => ?_⟩ <;> simp only [pointwise] <;>
    simp only [ha.re, ha.im, h2, pow_two, Complex.mul_re, Complex.mul_im] <;> norm_cast <;> ring

/-! ### Rows and columns as numbers -/

section
open Cert.KernelIdeal Cert.KernelIdeal.Gen

/-- `IsC` of a two-axis vector, its entries a function of the row and the column as numbers. -/
abbrev IsG {a b : ℕ} (v w : FVec Ideal ⟨2, ![a, b]⟩ .f32) (B : ℕ → ℕ → ℂ) : Prop := IsC v w (fun i => B (i 0).val (i 1).val)

theorem cast_same {s : Shape} {α : Type} (v : s.Idx → α) (h : s.ShapeCasts s) : shapeCast s v h = v := by
  funext i
  simp only [pointwise]

theorem IsC.cast {s : Shape} {v w : FVec Ideal s .f32} {Z : s.Idx → ℂ} (h : IsC v w Z) (h1 h2 : s.ShapeCasts s) :
    IsC (shapeCast s v h1) (shapeCast s w h2) Z := by
  rw [cast_same, cast_same]; exact h

/-- A row vector broadcast to eight rows. -/
theorem IsC.rows {v w : FVec Ideal S1x512 .f32} {A : ℕ → ℂ} (h : IsC v w (fun i => A (i 1).val)) (h1 h2 : S1x512.ShapeCasts S1x512)
    (h3 h4 : S1x512.Broadcasts S8x512) :
    IsC (broadcastTo S8x512 (shapeCast S1x512 v h1) h3) (broadcastTo S8x512 (shapeCast S1x512 w h2) h4) (fun i => A (i 1).val) := by
  refine ⟨fun i => ?_, fun i => ?_⟩ <;> simp only [pointwise]
  · exact h.re _
  · exact h.im _

/-- One row of eight. -/
theorem IsC.row {v w : FVec Ideal S8x512 .f32} {B : ℕ → ℕ → ℂ} (h : IsG v w B) (c : ℕ) (h1 h2 : S8x512.Slices ![c, 0] S1x512) :
    IsC (extractStridedSlice S1x512 ![c, 0] v h1) (extractStridedSlice S1x512 ![c, 0] w h2) (fun i => B c (i 1).val) := by
  have key : ∀ (h1 : S8x512.Slices ![c, 0] S1x512) (v : FVec Ideal S8x512 .f32) (g : ℂ → ℝ) (_ : ∀ i, v i = (g (B (i 0).val (i 1).val) : EReal))
      (i : S1x512.Idx), extractStridedSlice S1x512 ![c, 0] v h1 i = (g (B c (i 1).val) : EReal) := by
    intro h1 v g hv i
    simp only [pointwise]
    rw [hv]
    have e0 : ((i 0 : Fin _) : ℕ) = 0 := by have := (i 0).isLt; simp at this; omega
    simp
  exact ⟨key h1 v _ h.re, key h2 w _ h.im⟩

/-- The choice of a row of eight. -/
def sel (n : BitVec 32) (h1 : S8x512.Iotas Kind.tc 32 [0]) (x y : FVec Ideal S8x512 .f32) : FVec Ideal S8x512 .f32 :=
  select (cmpi .eq (iota Kind.tc S8x512 32 [0] h1) (broadcast S8x512 n)) x y

theorem sel_apply (n : ℕ) (hn : n < 8) (h1) (x y : FVec Ideal S8x512 .f32) (i : S8x512.Idx) :
    sel (BitVec.ofNat 32 n) h1 x y i = if (i 0).val = n then x i else y i := by
  have hi : (i 0).val < 8 := (i 0).isLt
  unfold sel
  simp only [pointwise]
  show Scalar.select (IntOp.cmpi .eq (BitVec.ofNat 32 (0 * 8 + (i 0).val)) (BitVec.ofNat 32 n)) (x i) (y i) = _
  have hz : 0 * 8 + (i 0).val = (i 0).val := by omega
  rw [hz]
  by_cases e : (i 0).val = n
  · rw [if_pos e, e]
    simp [Scalar.select, IntOp.cmpi]
  · rw [if_neg e]
    have : ¬ (BitVec.ofNat 32 (i 0).val = BitVec.ofNat 32 n) := by
      intro h
      have := congrArg BitVec.toNat h
      simp only [BitVec.toNat_ofNat] at this
      omega
    have hb : (BitVec.ofNat 32 (i 0).val == BitVec.ofNat 32 n) = false := by simpa using this
    simp only [Scalar.select, IntOp.cmpi, hb]
    rfl

theorem IsC.sel {x x' y y' : FVec Ideal S8x512 .f32} {X Y : ℕ → ℕ → ℂ} (hx : IsG x x' X) (hy : IsG y y' Y) (n : ℕ) (hn : n < 8) (h1 h2) :
    IsG (S5.sel (BitVec.ofNat 32 n) h1 x y) (S5.sel (BitVec.ofNat 32 n) h2 x' y') (fun r p => if r = n then X r p else Y r p) := by
  refine ⟨fun i => ?_, fun i => ?_⟩ <;> rw [sel_apply n hn] <;> by_cases e : (i 0).val = n
  · simp only [if_pos e]; exact hx.re i
  · simp only [if_neg e]; exact hy.re i
  · simp only [if_pos e]; exact hx.im i
  · simp only [if_neg e]; exact hy.im i

theorem IsC.zeros {v w : FVec Ideal s .f32} (hv : ∀ i, v i = 0) (hw : ∀ i, w i = 0) : IsC v w (fun _ => 0) :=
  ⟨fun i => by rw [hv]; simp, fun i => by rw [hw]; simp⟩

theorem IsC.one {v w : FVec Ideal s .f32} (hv : ∀ i, v i = 1) (hw : ∀ i, w i = 0) : IsC v w (fun _ => 1) :=
  ⟨fun i => by rw [hv]; simp, fun i => by rw [hw]; simp⟩

theorem two_word : Ideal.ofBits .f32 0x40000000#32 = ((2 : ℝ) : EReal) := by
  simp [Ideal.ofBits, Ideal.ieee]
  norm_cast
  norm_num

/-- The rows of step `t` read through a view. -/
theorem IsC.load {κ : Kind} {sig : RefSig} {sp sp' : Space} {u : View sig κ sp S2048x512 .f32} {v : View sig κ sp' S2048x512 .f32} {f : u.ty.Contents (Elt Ideal)} {g : v.ty.Contents (Elt Ideal)}
    {B : ℕ → ℕ → ℂ} (h : IsG (u.read (Elt Ideal) f) (v.read (Elt Ideal) g) B) {off : Fin 2 → ℕ} {t : ℕ} (ht : off = ![8 * t, 0])
    (h1 h2 : ∀ a, off a + S8x512.size a ≤ S2048x512.size a) :
    IsG (a := 8) (b := 512) (u.readAt (Elt Ideal) (Rect.unit (s := S2048x512) off S8x512.size h1).toLoadRect f)
      (v.readAt (Elt Ideal) (Rect.unit (s := S2048x512) off S8x512.size h2).toLoadRect g) (fun c p => B (8 * t + c) p) := by
  subst ht
  rw [View.readAt_unit u f h1 rfl h1, View.readAt_unit v g h2 rfl h2]
  have e0 : ∀ (i : (Rect.unit (s := S2048x512) ![8 * t, 0] S8x512.size h1).shape.Idx),
      ((Rect.unit (s := S2048x512) ![8 * t, 0] S8x512.size h1).emb i 0).val = 8 * t + (i 0).val := fun i => by
    rw [Rect.emb_apply]; show 8 * t + 1 * _ = _; omega
  have e1 : ∀ (i : (Rect.unit (s := S2048x512) ![8 * t, 0] S8x512.size h1).shape.Idx),
      ((Rect.unit (s := S2048x512) ![8 * t, 0] S8x512.size h1).emb i 1).val = (i 1).val := fun i => by
    rw [Rect.emb_apply]; show 0 + 1 * _ = _; omega
  refine ⟨fun i => (h.re _).trans ?_, fun i => (h.im _).trans ?_⟩ <;> rw [e0, e1]

/-- The rows of step `t` replaced. -/
theorem IsC.put {x x' : FVec Ideal S2048x512 .f32} {X W : ℕ → ℕ → ℂ} (h : IsG x x' X) {w w' : FVec Ideal S8x512 .f32} (hw : IsG w w' W) (t : ℕ) :
    IsG (VecWindow.put x ![8 * t, 0] S8x512.size w) (VecWindow.put x' ![8 * t, 0] S8x512.size w')
      (fun r p => if 8 * t ≤ r ∧ r < 8 * t + 8 then W (r - 8 * t) p else X r p) := by
  have key : ∀ (x : FVec Ideal S2048x512 .f32) (w : FVec Ideal S8x512 .f32) (g : ℂ → ℝ) (_ : ∀ i, x i = (g (X (i 0).val (i 1).val) : EReal))
      (_ : ∀ i, w i = (g (W (i 0).val (i 1).val) : EReal)) (i : S2048x512.Idx),
      VecWindow.put x ![8 * t, 0] S8x512.size w i
        = (g (if 8 * t ≤ (i 0).val ∧ (i 0).val < 8 * t + 8 then W ((i 0).val - 8 * t) (i 1).val else X (i 0).val (i 1).val) : EReal) := by
    intro x w g hx hw i
    unfold VecWindow.put
    split
    · rename_i hm
      have h0 := hm 0
      rw [if_pos (by exact h0)]
      exact hw _
    · rename_i hm
      rw [if_neg ?_]
      · exact hx i
      · intro h0
        refine hm fun a => ?_
        match a with
        | 0 => exact h0
        | 1 => exact ⟨Nat.zero_le _, by have := (i 1).isLt; show (i 1).val < 0 + 512; simpa using this⟩
  exact ⟨key x w _ h.re hw.re, key x' w' _ h.im hw.im⟩

end

end Cert.S5

end
-- ==== Proof.FwdLoops.lean ====
/- The forward recurrence's two loops, the power of its multiplier and the states carried between its chunks. -/
module

public import proofs.«01_k».proof.Proof.Pairs
public import proofs.«01_k».proof.Proof.Gen.KernelIdeal.Loops

@[expose] public section

set_option maxRecDepth 16384

noncomputable section

namespace Cert.S5.Fwd

open Idealize.ShloMosaic Cert.KernelIdeal Cert.KernelIdeal.Gen

theorem trips1 : k0_t1_loop.trips = 256 := by decide +kernel
theorem trips2 : k0_t2_loop.trips = 256 := by decide +kernel
theorem off1 : ∀ k : Fin k0_t1_loop.trips, k0_off1 k = ![8 * k.val, 0] := by decide +kernel
theorem off2 : ∀ k : Fin k0_t2_loop.trips, k0_off2 k = ![8 * k.val, 0] := by decide +kernel

/-- The multiplier's 256th power, by eight squarings. -/
theorem power {v9 v10 : FVec Ideal S1x512 .f32} {A : ℕ → ℂ} (h : IsC v9 v10 (fun i => A (i 1).val)) :
    IsC (k0_pay27 (k0_pay9 (F := Ideal)) (k0_pay10 (F := Ideal)) (k0_pay13 v9 v10) (k0_pay14 v9 v10))
      (k0_pay28 (k0_pay9 (F := Ideal)) (k0_pay10 (F := Ideal)) (k0_pay13 v9 v10) (k0_pay14 v9 v10)) (fun i => A (i 1).val ^ 256) := by
  have h2 : ∀ i : S1x512.Idx, broadcast S1x512 (Scalar.ofBits (F := Ideal) .f32 0x40000000#32) i = ((2 : ℝ) : EReal) := fun i => two_word
  have p1 := h.sq h2
  have p2 := p1.sq h2
  have p3 := p2.sq h2
  have p4 := p3.sq h2
  have p5 := p4.sq h2
  have p6 := p5.sq h2
  have p7 := p6.sq h2
  have p8 := p7.sq h2
  have one : IsC (k0_pay9 (F := Ideal)) (k0_pay10 (F := Ideal)) (fun _ => 1) :=
    .one (fun i => by unfold k0_pay9; simp only [pointwise]) (fun i => by unfold k0_pay10; simp only [pointwise])
  exact (one.mul p8).congr fun i => by ring

/-- The states carried into the chunks. -/
def carry (P : ℕ → ℂ) (E : ℕ → ℕ → ℂ) (p : ℕ) : ℕ → ℂ
  | 0 => 0
  | c + 1 => P p * carry P E p c + E c p

/-- The real parts of the eight carried states, as the kernel makes them. -/
def carryRe (er ei : FVec Ideal S8x512 .f32) (pr pi : FVec Ideal S1x512 .f32) (h : S8x512.Iotas Kind.tc 32 [0]) : FVec Ideal S8x512 .f32 :=
  let v74 := iota Kind.tc S8x512 32 [0] h
  let s8 := k0_pay33 er
  let s9 := k0_pay34 ei
  let s10 := mulf pr (k0_pay29 (F := Ideal))
  let s12 := k0_pay41 er ei pr pi (k0_pay29 (F := Ideal)) (k0_pay30 (F := Ideal)) s8 s9 s10
  let s13 := k0_pay42 er ei pr pi (k0_pay29 (F := Ideal)) (k0_pay30 (F := Ideal)) s8 s9 s10
  let s14 := k0_pay43 er ei pr pi v74 (k0_pay29 (F := Ideal)) (k0_pay30 (F := Ideal)) (k0_pay31 (F := Ideal)) s8 s9 s10
  k0_pay54 er pr pi v74 (k0_pay49 er ei pr pi v74 s12 s13 s14) (k0_pay51 er ei pr pi s12 s13) (k0_pay52 er ei pr pi s12 s13) (k0_pay53 v74)

/-- Their imaginary parts. -/
def carryIm (er ei : FVec Ideal S8x512 .f32) (pr pi : FVec Ideal S1x512 .f32) (h : S8x512.Iotas Kind.tc 32 [0]) : FVec Ideal S8x512 .f32 :=
  let v74 := iota Kind.tc S8x512 32 [0] h
  let s8 := k0_pay33 er
  let s9 := k0_pay34 ei
  let s10 := mulf pr (k0_pay29 (F := Ideal))
  let s11 := k0_pay40 ei pr pi v74 (k0_pay29 (F := Ideal)) (k0_pay30 (F := Ideal)) (k0_pay32 (F := Ideal)) s8 s9 s10
  let s12 := k0_pay41 er ei pr pi (k0_pay29 (F := Ideal)) (k0_pay30 (F := Ideal)) s8 s9 s10
  let s13 := k0_pay42 er ei pr pi (k0_pay29 (F := Ideal)) (k0_pay30 (F := Ideal)) s8 s9 s10
  k0_pay55 ei pr pi v74 (k0_pay50 er ei pr pi v74 s11 s12 s13 (k0_pay44 v74)) (k0_pay51 er ei pr pi s12 s13) (k0_pay52 er ei pr pi s12 s13)

/-- The eight carried states, row by row. -/
theorem carries {er ei : FVec Ideal S8x512 .f32} {pr pi : FVec Ideal S1x512 .f32} {E : ℕ → ℕ → ℂ} {P : ℕ → ℂ}
    (hE : IsG er ei E) (hP : IsC pr pi (fun i => P (i 1).val)) (h : S8x512.Iotas Kind.tc 32 [0]) :
    IsG (carryRe er ei pr pi h) (carryIm er ei pr pi h) (fun c p => carry P E p c) := by
  have z0 : IsC (k0_pay29 (F := Ideal)) (k0_pay30 (F := Ideal)) (fun i => carry P E (i 1).val 0) :=
    .zeros (fun i => by unfold k0_pay29; simp only [pointwise]) (fun i => by unfold k0_pay30; simp only [pointwise])
  have z8 : IsG (k0_pay31 (F := Ideal)) (k0_pay32 (F := Ideal)) (fun _ _ => 0) :=
    .zeros (fun i => by unfold k0_pay31; simp only [pointwise]) (fun i => by unfold k0_pay32; simp only [pointwise])
  have next : ∀ (c : ℕ) (h1 h2) {sr si : FVec Ideal S1x512 .f32}, IsC sr si (fun i => carry P E (i 1).val c) →
      IsC (addf (subf (mulf pr sr) (mulf pi si)) (extractStridedSlice S1x512 ![c, 0] er h1))
        (addf (addf (mulf pr si) (mulf pi sr)) (extractStridedSlice S1x512 ![c, 0] ei h2)) (fun i => carry P E (i 1).val (c + 1)) :=
    fun c h1 h2 _ _ hs => (hP.mac hs (hE.row c h1 h2))
  have z1 := next 0 slices_S8x512_o0_0_S1x512 slices_S8x512_o0_0_S1x512 z0
  have z2 := next 1 slices_S8x512_o1_0_S1x512 slices_S8x512_o1_0_S1x512 z1
  have z3 := next 2 slices_S8x512_o2_0_S1x512 slices_S8x512_o2_0_S1x512 z2
  have z4 := next 3 slices_S8x512_o3_0_S1x512 slices_S8x512_o3_0_S1x512 z3
  have z5 := next 4 slices_S8x512_o4_0_S1x512 slices_S8x512_o4_0_S1x512 z4
  have z6 := next 5 slices_S8x512_o5_0_S1x512 slices_S8x512_o5_0_S1x512 z5
  have z7 := next 6 slices_S8x512_o6_0_S1x512 slices_S8x512_o6_0_S1x512 z6
  have put : ∀ (c : ℕ) (hc : c < 8) {sr si : FVec Ideal S1x512 .f32} {x y : FVec Ideal S8x512 .f32} {Y : ℕ → ℕ → ℂ},
      IsC sr si (fun i => carry P E (i 1).val c) → IsG x y Y →
      IsG (sel (BitVec.ofNat 32 c) h (broadcastTo S8x512 (shapeCast S1x512 sr shapeCasts_S1x512_S1x512) broadcasts_S1x512_S8x512) x)
        (sel (BitVec.ofNat 32 c) h (broadcastTo S8x512 (shapeCast S1x512 si shapeCasts_S1x512_S1x512) broadcasts_S1x512_S8x512) y)
        (fun r p => if r = c then carry P E p c else Y r p) :=
    fun c hc _ _ _ _ Y hs hy => IsC.sel (X := fun _ p => carry P E p c) (IsC.rows (A := fun p => carry P E p c) hs _ _ _ _) hy c hc h h
  have y1 := put 1 (by omega) z1 z8
  have y2 := put 2 (by omega) z2 y1
  have y3 := put 3 (by omega) z3 y2
  have y4 := put 4 (by omega) z4 y3
  have y5 := put 5 (by omega) z5 y4
  have y6 := put 6 (by omega) z6 y5
  have y7 := put 7 (by omega) z7 y6
  have all : IsG (carryRe er ei pr pi h) (carryIm er ei pr pi h) _ := y7
  refine all.congr fun i => ?_
  have hi : (i 0).val < 8 := (i 0).isLt
  generalize (i 0).val = r at hi
  interval_cases r <;> rfl

section
variable (𝒱 : Variants) (c : Dev nD) (bd : Option 𝒱.V) (i : grid0.Coords)
  (arg1 : Memref sig .tc .vmem S2048x128 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S2048x128 .f32) (harg8 : arg8.IsWhole) (arg9 : Memref sig .tc .vmem S2048x512 .f32) (harg9 : arg9.IsWhole) (arg10 : Memref sig .tc .vmem S2048x512 .f32) (harg10 : arg10.IsWhole)

theorem trip1_eq (v9 v10 : Vec Ideal S1x512 .f32) (X9 : BufTy.Contents (Elt Ideal) arg9.view.ty) (X10 : BufTy.Contents (Elt Ideal) arg10.view.ty)
    (k : Fin k0_t1_loop.trips) (acc : FVec Ideal S8x512 .f32 × FVec Ideal S8x512 .f32) :
    (trip_k0_t1 (F := Ideal) 𝒱 c bd i arg1 harg1 arg2 harg2 arg3 harg3 arg4 harg4 arg5 harg5 arg6 harg6 arg7 harg7 arg8 harg8 arg9 harg9 arg10 harg10 v9 v10 X9 X10 k).1 acc
      = (k0_pay7 v9 v10 acc.1 acc.2 (View.readAt (Elt Ideal) arg9.view (Rect.unit (s := S2048x512) (k0_off1 k) S8x512.size (k0_off1_inb k)).toLoadRect X9),
         k0_pay8 v9 v10 acc.1 acc.2 (View.readAt (Elt Ideal) arg10.view (Rect.unit (s := S2048x512) (k0_off1 k) S8x512.size (k0_off1_inb k)).toLoadRect X10)) := by
  unfold trip_k0_t1; rfl

/-- The first loop: every chunk's own run. -/
theorem loop1 {v9 v10 : Vec Ideal S1x512 .f32} {X9 : BufTy.Contents (Elt Ideal) arg9.view.ty} {X10 : BufTy.Contents (Elt Ideal) arg10.view.ty}
    {A : ℕ → ℂ} {B : ℕ → ℕ → ℂ} (hA : IsC (s := S1x512) v9 v10 (fun i => A (i 1).val))
    (hB : IsG (arg9.view.read (Elt Ideal) X9) (arg10.view.read (Elt Ideal) X10) B)
    {init : FVec Ideal S8x512 .f32 × FVec Ideal S8x512 .f32} {Z : ℕ → ℕ → ℂ} (hZ : IsG init.1 init.2 Z) :
    ∀ n ≤ 256, IsG (st_k0_t1 (F := Ideal) 𝒱 c bd i arg1 harg1 arg2 harg2 arg3 harg3 arg4 harg4 arg5 harg5 arg6 harg6 arg7 harg7 arg8 harg8 arg9 harg9 arg10 harg10 v9 v10 X9 X10 init n).1
      (st_k0_t1 (F := Ideal) 𝒱 c bd i arg1 harg1 arg2 harg2 arg3 harg3 arg4 harg4 arg5 harg5 arg6 harg6 arg7 harg7 arg8 harg8 arg9 harg9 arg10 harg10 v9 v10 X9 X10 init n).2 (fun c p => run (A p) (fun t => B (8 * t + c) p) (Z c p) n) := by
  intro n
  induction n with
  | zero => exact fun _ => hZ
  | succ n ih =>
    intro hn
    have hk : n < k0_t1_loop.trips := by rw [trips1]; omega
    have e := st_k0_t1_succ (F := Ideal) 𝒱 c bd i arg1 harg1 arg2 harg2 arg3 harg3 arg4 harg4 arg5 harg5 arg6 harg6 arg7 harg7 arg8 harg8 arg9 harg9 arg10 harg10 v9 v10 X9 X10 init ⟨n, hk⟩
    rw [show n + 1 = (⟨n, hk⟩ : Fin k0_t1_loop.trips).val + 1 from rfl, e, tripR_k0_t1, trip1_eq]
    exact (hA.rows shapeCasts_S1x512_S1x512 shapeCasts_S1x512_S1x512 broadcasts_S1x512_S8x512 broadcasts_S1x512_S8x512).mac (ih (by omega))
      ((hB.load (off1 ⟨n, hk⟩) (k0_off1_inb ⟨n, hk⟩) (k0_off1_inb ⟨n, hk⟩)).cast shapeCasts_S8x512_S8x512 shapeCasts_S8x512_S8x512)

section
variable (v12 v14 v17_0 v17_1 : FVec Ideal S8x512 .f32) (v70 v73 : FVec Ideal S1x512 .f32) (v74 : IVec S8x512 32) (v173 v178 : FVec Ideal S8x512 .f32)
  (v184 v188 : FVec Ideal S1x512 .f32) (v190 : IVec S8x512 1)

theorem trip2_eq (k : Fin k0_t2_loop.trips) (acc : FVec Ideal S8x512 .f32 × FVec Ideal S8x512 .f32) (f9 : BufTy.Contents (Elt Ideal) arg9.view.ty)
    (f10 : BufTy.Contents (Elt Ideal) arg10.view.ty) :
    (trip_k0_t2 (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 k).1 acc f9 f10
      = (k0_pay56 v12 v14 acc.1 acc.2 (View.readAt (Elt Ideal) arg9.view (Rect.unit (s := S2048x512) (k0_off2 k) S8x512.size (k0_off2_inb k)).toLoadRect f9),
         k0_pay57 v12 v14 acc.1 acc.2 (View.readAt (Elt Ideal) arg10.view (Rect.unit (s := S2048x512) (k0_off2 k) S8x512.size (k0_off2_inb k)).toLoadRect f10)) := by
  unfold trip_k0_t2; rfl

theorem pieces2_eq (k : Fin k0_t2_loop.trips) (acc : FVec Ideal S8x512 .f32 × FVec Ideal S8x512 .f32) (f9 : BufTy.Contents (Elt Ideal) arg9.view.ty)
    (f10 : BufTy.Contents (Elt Ideal) arg10.view.ty) :
    tripL_k0_t2 (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 k acc f9 f10
      = ([⟨Rect.unit (s := S2048x512) (k0_off2 k) S8x512.size (k0_off2_inb k), k0_pay56 v12 v14 acc.1 acc.2 (View.readAt (Elt Ideal) arg9.view (Rect.unit (s := S2048x512) (k0_off2 k) S8x512.size (k0_off2_inb k)).toLoadRect f9)⟩],
         [⟨Rect.unit (s := S2048x512) (k0_off2 k) S8x512.size (k0_off2_inb k), k0_pay57 v12 v14 acc.1 acc.2 (View.readAt (Elt Ideal) arg10.view (Rect.unit (s := S2048x512) (k0_off2 k) S8x512.size (k0_off2_inb k)).toLoadRect f10)⟩]) := by
  unfold tripL_k0_t2 trip_k0_t2; rfl

/-- What the second loop leaves in row `r` once its step is done. -/
abbrev after2 (A : ℕ → ℂ) (B Z : ℕ → ℕ → ℂ) (n : ℕ) (r p : ℕ) : ℂ :=
  if r < 8 * n then run (A p) (fun t => B (8 * t + r % 8) p) (Z (r % 8) p) (r / 8 + 1) else B r p

/-- The second loop: every chunk's run from its carried state, written over the inputs row by row. -/
theorem loop2 {A : ℕ → ℂ} {B Z : ℕ → ℕ → ℂ} (hA : IsC (s := S8x512) v12 v14 (fun i => A (i 1).val))
    {G9 : BufTy.Contents (Elt Ideal) arg9.view.ty} {G10 : BufTy.Contents (Elt Ideal) arg10.view.ty}
    (hB : IsG (arg9.view.read (Elt Ideal) G9) (arg10.view.read (Elt Ideal) G10) B)
    {init : FVec Ideal S8x512 .f32 × FVec Ideal S8x512 .f32} (hZ : IsG init.1 init.2 Z) :
    ∀ n ≤ 256,
      IsG (arg9.view.read (Elt Ideal) (arg9.view.writes (Elt Ideal) G9 (st_k0_t2 (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 G9 G10 init n).2.1))
        (arg10.view.read (Elt Ideal) (arg10.view.writes (Elt Ideal) G10 (st_k0_t2 (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 G9 G10 init n).2.2)) (after2 A B Z n)
      ∧ IsG (st_k0_t2 (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 G9 G10 init n).1.1 (st_k0_t2 (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 G9 G10 init n).1.2
        (fun c p => run (A p) (fun t => B (8 * t + c) p) (Z c p) n) := by
  intro n
  induction n with
  | zero => exact fun _ => ⟨hB.congr fun i => by simp [after2], hZ⟩
  | succ n ih =>
    intro hn
    have hk : n < k0_t2_loop.trips := by rw [trips2]; omega
    obtain ⟨h1, h2⟩ := ih (by omega)
    have e := st_k0_t2_succ (F := Ideal) 𝒱 c bd i arg1 harg1 arg2 harg2 arg3 harg3 arg4 harg4 arg5 harg5 arg6 harg6 arg7 harg7 arg8 harg8 arg9 harg9 arg10 harg10 v12 v14 v17_0 v17_1 v70 v73 v74 v173 v178 v184 v188 v190 G9 G10 init ⟨n, hk⟩
    rw [show n + 1 = (⟨n, hk⟩ : Fin k0_t2_loop.trips).val + 1 from rfl, e, tripR_k0_t2, trip2_eq, pieces2_eq]
    have hl := (h1.load (off2 ⟨n, hk⟩) (k0_off2_inb ⟨n, hk⟩) (k0_off2_inb ⟨n, hk⟩)).cast shapeCasts_S8x512_S8x512 shapeCasts_S8x512_S8x512
    have hnew := (hA.mac h2 hl).congr (Z' := fun i => run (A (i 1).val) (fun t => B (8 * t + (i 0).val) (i 1).val) (Z (i 0).val (i 1).val) (n + 1)) fun i => by
      simp only [after2, run_succ]
      rw [if_neg (by omega)]
    refine ⟨?_, hnew⟩
    dsimp only [List.cons_append, List.nil_append]
    rw [View.read_writes_cons_put _ _ _ _ _ (off2 ⟨n, hk⟩), View.read_writes_cons_put _ _ _ _ _ (off2 ⟨n, hk⟩)]
    refine (IsC.put (W := fun c p => run (A p) (fun t => B (8 * t + c) p) (Z c p) (n + 1)) h1 hnew n).congr fun i => ?_
    simp only [after2]
    generalize (i 0).val = r
    by_cases c1 : 8 * n ≤ r ∧ r < 8 * n + 8
    · have e1 : r % 8 = r - 8 * n := by omega
      have e2 : r / 8 = n := by omega
      rw [if_pos c1, if_pos (by omega), e1, e2]
    · rw [if_neg c1]
      by_cases c2 : r < 8 * n
      · rw [if_pos c2, if_pos (by omega)]
      · rw [if_neg c2, if_neg (by omega)]

end
end

end Cert.S5.Fwd

end
-- ==== Proof.FwdVals.lean ====
/- What the forward recurrence's kernel leaves in its outputs at one grid point: the states and the products with them. -/
module

public import proofs.«01_k».proof.Proof.FwdLoops
public import proofs.«01_k».proof.Proof.Gen.KernelIdeal.Frame

@[expose] public section

set_option maxRecDepth 16384

noncomputable section

namespace Cert.S5

open Idealize.ShloMosaic Cert.KernelIdeal Cert.KernelIdeal.Gen

/-- The entries of a pair of products with one left factor, as complex numbers. -/
def dotC (K : ℕ) (f : ℕ → ℝ) (g h : ℕ → ℝ) : ℂ := ⟨∑ k : Fin K, f k * g k, ∑ k : Fin K, f k * h k⟩

/-- An array of reals, entry by entry. -/
def IsR {a b : ℕ} (v : (⟨2, ![a, b]⟩ : Shape).Idx → EReal) (U : ℕ → ℕ → ℝ) : Prop := ∀ i, v i = ((U (i 0).val (i 1).val : ℝ) : EReal)

/-- The states a run of eight chunks goes through: row `r` is step `r / 8` of chunk `r % 8`. -/
def stateRows (A : ℕ → ℂ) (B : ℕ → ℕ → ℂ) (r p : ℕ) : ℂ :=
  run (A p) (fun t => B (8 * t + r % 8) p)
    (Fwd.carry (fun p => A p ^ 256) (fun c p => run (A p) (fun t => B (8 * t + c) p) 0 256) p (r % 8)) (r / 8 + 1)

namespace Fwd

section
variable (c : Dev nD) (i : grid0.Coords)
  (arg1 : Memref sig .tc .vmem S2048x128 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S2048x128 .f32) (harg8 : arg8.IsWhole) (arg9 : Memref sig .tc .vmem S2048x512 .f32) (harg9 : arg9.IsWhole) (arg10 : Memref sig .tc .vmem S2048x512 .f32) (harg10 : arg10.IsWhole)
  (x0 : Vec Ideal S2048x128 .f32) (x1 x2 x3 x4 : Vec Ideal S128x512 .bf16) (x5 x6 : Vec Ideal S1x512 .f32)

theorem inputs {U Br Bi : ℕ → ℕ → ℝ} (h0 : IsR (a := 2048) (b := 128) x0 U) (h1 : IsR (a := 128) (b := 512) x1 Br) (h2 : IsR (a := 128) (b := 512) x2 Bi) :
    IsG (k0_pay2 x0 x1) (k0_pay3 x0 x2) (fun r p => dotC 128 (U r) (fun k => Br k p) (fun k => Bi k p)) := by
  refine ⟨fun j => ?_, fun j => ?_⟩
  · unfold k0_pay2 k0_pay1
    simp only [pointwise, cast_same]
    rw [zero_add]
    exact dot_coe (f := fun k : Fin 128 => U (j 0).val k.val) (g := fun k : Fin 128 => Br k.val (j 1).val) (fun k => h0 _) (fun k => h1 _)
  · unfold k0_pay3 k0_pay1
    simp only [pointwise, cast_same]
    rw [zero_add]
    exact dot_coe (f := fun k : Fin 128 => U (j 0).val k.val) (g := fun k : Fin 128 => Bi k.val (j 1).val) (fun k => h0 _) (fun k => h2 _)

variable {U Br Bi : ℕ → ℕ → ℝ} {A : ℕ → ℂ}

theorem states (h0 : IsR (a := 2048) (b := 128) x0 U) (h1 : IsR (a := 128) (b := 512) x1 Br) (h2 : IsR (a := 128) (b := 512) x2 Bi)
    (h5 : IsC (s := S1x512) x5 x6 (fun i => A (i 1).val)) :
    IsG (arg9.view.read (Elt Ideal) (arg9.view.writes (Elt Ideal) arg9.view.junk (kernelRun0_A c i arg1 harg1 arg2 harg2 arg3 harg3 arg4 harg4 arg5 harg5 arg6 harg6 arg7 harg7 arg8 harg8 arg9 harg9 arg10 harg10 x0 x1 x2 x3 x4 x5 x6).2.1))
      (arg10.view.read (Elt Ideal) (arg10.view.writes (Elt Ideal) arg10.view.junk (kernelRun0_A c i arg1 harg1 arg2 harg2 arg3 harg3 arg4 harg4 arg5 harg5 arg6 harg6 arg7 harg7 arg8 harg8 arg9 harg9 arg10 harg10 x0 x1 x2 x3 x4 x5 x6).2.2.1))
      (stateRows A (fun r p => dotC 128 (U r) (fun k => Br k p) (fun k => Bi k p))) := by
  have hx0 : View.readAt (Elt Ideal) arg1.view (Rect.unit (s := S2048x128) ![0, 0] S2048x128.size inb_S2048x128_S2048x128_0_0).toLoadRect (harg1.unread x0) = x0 :=
    (View.readAt_full _ _ _).trans (harg1.read_unread x0)
  have hx1 : View.readAt (Elt Ideal) arg2.view (Rect.unit (s := S128x512) ![0, 0] S128x512.size inb_S128x512_S128x512_0_0).toLoadRect (harg2.unread x1) = x1 :=
    (View.readAt_full _ _ _).trans (harg2.read_unread x1)
  have hx2 : View.readAt (Elt Ideal) arg3.view (Rect.unit (s := S128x512) ![0, 0] S128x512.size inb_S128x512_S128x512_0_0).toLoadRect (harg3.unread x2) = x2 :=
    (View.readAt_full _ _ _).trans (harg3.read_unread x2)
  have hx5 : View.readAt (Elt Ideal) arg6.view (Rect.unit (s := S1x512) ![0, 0] S1x512.size inb_S1x512_S1x512_0_0).toLoadRect (harg6.unread x5) = x5 :=
    (View.readAt_full _ _ _).trans (harg6.read_unread x5)
  have hx6 : View.readAt (Elt Ideal) arg7.view (Rect.unit (s := S1x512) ![0, 0] S1x512.size inb_S1x512_S1x512_0_0).toLoadRect (harg7.unread x6) = x6 :=
    (View.readAt_full _ _ _).trans (harg7.read_unread x6)
  have hG : IsG (arg9.view.read (Elt Ideal) (arg9.view.writes (Elt Ideal) arg9.view.junk (kernelRun0_A.sl.H8_1 c arg1 harg1 arg2 harg2 x0 x1)))
      (arg10.view.read (Elt Ideal) (arg10.view.writes (Elt Ideal) arg10.view.junk (kernelRun0_A.sl.H9_1 c arg1 harg1 arg3 harg3 x0 x2)))
      (fun r p => dotC 128 (U r) (fun k => Br k p) (fun k => Bi k p)) := by
    unfold kernelRun0_A.sl.H8_1 kernelRun0_A.sl.H9_1
    rw [View.read_writes_full, View.read_writes_full, hx0, hx1, hx2]
    exact inputs x0 x1 x2 h0 h1 h2
  have hr : IsC (s := S8x512) (kernelRun0_A.sl.r c arg6 harg6 x5) (kernelRun0_A.sl.r_1 c arg7 harg7 x6) (fun i => A (i 1).val) := by
    unfold kernelRun0_A.sl.r kernelRun0_A.sl.r_1
    rw [hx5, hx6]
    exact h5.rows shapeCasts_S1x512_S1x512 shapeCasts_S1x512_S1x512 broadcasts_S1x512_S8x512 broadcasts_S1x512_S8x512
  have z : IsG (k0_pay6 (F := Ideal)) (k0_pay6 (F := Ideal)) (fun _ _ => 0) :=
    .zeros (fun i => by unfold k0_pay6; simp only [pointwise]) (fun i => by unfold k0_pay6; simp only [pointwise])
  have hE : IsG (kernelRun0_A.sl.r_2 c i arg1 harg1 arg2 harg2 arg3 harg3 arg4 harg4 arg5 harg5 arg6 harg6 arg7 harg7 arg8 harg8 arg9 harg9 arg10 harg10 x0 x1 x2 x5 x6) (kernelRun0_A.sl.r_3 c i arg1 harg1 arg2 harg2 arg3 harg3 arg4 harg4 arg5 harg5 arg6 harg6 arg7 harg7 arg8 harg8 arg9 harg9 arg10 harg10 x0 x1 x2 x5 x6)
      (fun c p => run (A p) (fun t => dotC 128 (U (8 * t + c)) (fun k => Br k p) (fun k => Bi k p)) 0 256) := by
    unfold kernelRun0_A.sl.r_2 kernelRun0_A.sl.r_3
    rw [hx5, hx6]
    exact loop1 Variants.none c none i arg1 harg1 arg2 harg2 arg3 harg3 arg4 harg4 arg5 harg5 arg6 harg6 arg7 harg7 arg8 harg8 arg9 harg9 arg10 harg10 h5 hG z 256 le_rfl
  have hP : IsC (s := S1x512) (kernelRun0_A.sl.r_6 c arg6 harg6 arg7 harg7 x5 x6) (kernelRun0_A.sl.r_7 c arg6 harg6 arg7 harg7 x5 x6)
      (fun i => A (i 1).val ^ 256) := by
    unfold kernelRun0_A.sl.r_6 kernelRun0_A.sl.r_7 kernelRun0_A.sl.r_4 kernelRun0_A.sl.r_5
    rw [hx5, hx6]
    exact power h5
  have hZ := carries (P := fun p => A p ^ 256) hE hP iota_S8x512_d0_w32
  have hL := (loop2 Variants.none c none i arg1 harg1 arg2 harg2 arg3 harg3 arg4 harg4 arg5 harg5 arg6 harg6 arg7 harg7 arg8 harg8 arg9 harg9 arg10 harg10 (kernelRun0_A.sl.r c arg6 harg6 x5) (kernelRun0_A.sl.r_1 c arg7 harg7 x6)
    (kernelRun0_A.sl.r_2 c i arg1 harg1 arg2 harg2 arg3 harg3 arg4 harg4 arg5 harg5 arg6 harg6 arg7 harg7 arg8 harg8 arg9 harg9 arg10 harg10 x0 x1 x2 x5 x6) (kernelRun0_A.sl.r_3 c i arg1 harg1 arg2 harg2 arg3 harg3 arg4 harg4 arg5 harg5 arg6 harg6 arg7 harg7 arg8 harg8 arg9 harg9 arg10 harg10 x0 x1 x2 x5 x6)
    (kernelRun0_A.sl.r_6 c arg6 harg6 arg7 harg7 x5 x6) (kernelRun0_A.sl.r_7 c arg6 harg6 arg7 harg7 x5 x6) kernelRun0_A.sl.v74
    (kernelRun0_A.sl.r_15 c i arg1 harg1 arg2 harg2 arg3 harg3 arg4 harg4 arg5 harg5 arg6 harg6 arg7 harg7 arg8 harg8 arg9 harg9 arg10 harg10 x0 x1 x2 x5 x6) (kernelRun0_A.sl.r_16 c i arg1 harg1 arg2 harg2 arg3 harg3 arg4 harg4 arg5 harg5 arg6 harg6 arg7 harg7 arg8 harg8 arg9 harg9 arg10 harg10 x0 x1 x2 x5 x6)
    (kernelRun0_A.sl.r_17 c i arg1 harg1 arg2 harg2 arg3 harg3 arg4 harg4 arg5 harg5 arg6 harg6 arg7 harg7 arg8 harg8 arg9 harg9 arg10 harg10 x0 x1 x2 x5 x6) (kernelRun0_A.sl.r_18 c i arg1 harg1 arg2 harg2 arg3 harg3 arg4 harg4 arg5 harg5 arg6 harg6 arg7 harg7 arg8 harg8 arg9 harg9 arg10 harg10 x0 x1 x2 x5 x6) (k0_pay53 kernelRun0_A.sl.v74)
    hr hG (init := (k0_pay54 (kernelRun0_A.sl.r_2 c i arg1 harg1 arg2 harg2 arg3 harg3 arg4 harg4 arg5 harg5 arg6 harg6 arg7 harg7 arg8 harg8 arg9 harg9 arg10 harg10 x0 x1 x2 x5 x6) (kernelRun0_A.sl.r_6 c arg6 harg6 arg7 harg7 x5 x6) (kernelRun0_A.sl.r_7 c arg6 harg6 arg7 harg7 x5 x6) kernelRun0_A.sl.v74
      (kernelRun0_A.sl.r_15 c i arg1 harg1 arg2 harg2 arg3 harg3 arg4 harg4 arg5 harg5 arg6 harg6 arg7 harg7 arg8 harg8 arg9 harg9 arg10 harg10 x0 x1 x2 x5 x6) (kernelRun0_A.sl.r_17 c i arg1 harg1 arg2 harg2 arg3 harg3 arg4 harg4 arg5 harg5 arg6 harg6 arg7 harg7 arg8 harg8 arg9 harg9 arg10 harg10 x0 x1 x2 x5 x6) (kernelRun0_A.sl.r_18 c i arg1 harg1 arg2 harg2 arg3 harg3 arg4 harg4 arg5 harg5 arg6 harg6 arg7 harg7 arg8 harg8 arg9 harg9 arg10 harg10 x0 x1 x2 x5 x6) (k0_pay53 kernelRun0_A.sl.v74),
      k0_pay55 (kernelRun0_A.sl.r_3 c i arg1 harg1 arg2 harg2 arg3 harg3 arg4 harg4 arg5 harg5 arg6 harg6 arg7 harg7 arg8 harg8 arg9 harg9 arg10 harg10 x0 x1 x2 x5 x6) (kernelRun0_A.sl.r_6 c arg6 harg6 arg7 harg7 x5 x6) (kernelRun0_A.sl.r_7 c arg6 harg6 arg7 harg7 x5 x6) kernelRun0_A.sl.v74
      (kernelRun0_A.sl.r_16 c i arg1 harg1 arg2 harg2 arg3 harg3 arg4 harg4 arg5 harg5 arg6 harg6 arg7 harg7 arg8 harg8 arg9 harg9 arg10 harg10 x0 x1 x2 x5 x6) (kernelRun0_A.sl.r_17 c i arg1 harg1 arg2 harg2 arg3 harg3 arg4 harg4 arg5 harg5 arg6 harg6 arg7 harg7 arg8 harg8 arg9 harg9 arg10 harg10 x0 x1 x2 x5 x6) (kernelRun0_A.sl.r_18 c i arg1 harg1 arg2 harg2 arg3 harg3 arg4 harg4 arg5 harg5 arg6 harg6 arg7 harg7 arg8 harg8 arg9 harg9 arg10 harg10 x0 x1 x2 x5 x6))) hZ 256 le_rfl).1
  have e1 : Scf.trips (0#32) (Scalar.addi 0#32 256#32) 1#32 = 256 := trips2
  unfold kernelRun0_A
  dsimp only
  rw [View.writes_append, View.writes_append, e1]
  refine hL.congr fun j => ?_
  have hj : (j 0).val < 2048 := (j 0).isLt
  simp only [after2, stateRows]
  rw [if_pos (by omega)]

/-- The states the kernel leaves. -/
theorem states_out (h0 : IsR (a := 2048) (b := 128) x0 U) (h1 : IsR (a := 128) (b := 512) x1 Br) (h2 : IsR (a := 128) (b := 512) x2 Bi)
    (h5 : IsC (s := S1x512) x5 x6 (fun i => A (i 1).val)) :
    IsG (out0_A_8 c i arg1 harg1 arg2 harg2 arg3 harg3 arg4 harg4 arg5 harg5 arg6 harg6 arg7 harg7 arg8 harg8 arg9 harg9 arg10 harg10 x0 x1 x2 x3 x4 x5 x6) (out0_A_9 c i arg1 harg1 arg2 harg2 arg3 harg3 arg4 harg4 arg5 harg5 arg6 harg6 arg7 harg7 arg8 harg8 arg9 harg9 arg10 harg10 x0 x1 x2 x3 x4 x5 x6)
      (stateRows A (fun r p => dotC 128 (U r) (fun k => Br k p) (fun k => Bi k p))) := by
  have h := states c i arg1 harg1 arg2 harg2 arg3 harg3 arg4 harg4 arg5 harg5 arg6 harg6 arg7 harg7 arg8 harg8 arg9 harg9 arg10 harg10 x0 x1 x2 x3 x4 x5 x6 h0 h1 h2 h5
  rw [View.read_writes_junk_eq_canon, View.read_writes_junk_eq_canon] at h
  unfold out0_A_8 out0_A_9
  rw [View.read_writes_junk_eq_canon, View.read_writes_junk_eq_canon]
  exact h

/-- The products with the states the kernel leaves. -/
theorem y_out {Cr Ci : ℕ → ℕ → ℝ} (h0 : IsR (a := 2048) (b := 128) x0 U) (h1 : IsR (a := 128) (b := 512) x1 Br) (h2 : IsR (a := 128) (b := 512) x2 Bi)
    (h3 : IsR (a := 128) (b := 512) x3 Cr) (h4 : IsR (a := 128) (b := 512) x4 Ci)
    (h5 : IsC (s := S1x512) x5 x6 (fun i => A (i 1).val)) :
    IsR (a := 2048) (b := 128) (out0_A_7 c i arg1 harg1 arg2 harg2 arg3 harg3 arg4 harg4 arg5 harg5 arg6 harg6 arg7 harg7 arg8 harg8 arg9 harg9 arg10 harg10 x0 x1 x2 x3 x4 x5 x6) (fun r h =>
      (∑ p : Fin 512, (stateRows A (fun r p => dotC 128 (U r) (fun k => Br k p) (fun k => Bi k p)) r p).re * Cr h p)
        - ∑ p : Fin 512, (stateRows A (fun r p => dotC 128 (U r) (fun k => Br k p) (fun k => Bi k p)) r p).im * Ci h p) := by
  have hs := states c i arg1 harg1 arg2 harg2 arg3 harg3 arg4 harg4 arg5 harg5 arg6 harg6 arg7 harg7 arg8 harg8 arg9 harg9 arg10 harg10 x0 x1 x2 x3 x4 x5 x6 h0 h1 h2 h5
  have hx3 : View.readAt (Elt Ideal) arg4.view (Rect.unit (s := S128x512) ![0, 0] S128x512.size inb_S128x512_S128x512_0_0).toLoadRect (harg4.unread x3) = x3 :=
    (View.readAt_full _ _ _).trans (harg4.read_unread x3)
  have hx4 : View.readAt (Elt Ideal) arg5.view (Rect.unit (s := S128x512) ![0, 0] S128x512.size inb_S128x512_S128x512_0_0).toLoadRect (harg5.unread x4) = x4 :=
    (View.readAt_full _ _ _).trans (harg5.read_unread x4)
  intro j
  unfold out0_A_7
  unfold kernelRun0_A at hs ⊢
  dsimp only at hs ⊢
  rw [View.read_writes_full]
  unfold kernelRun0_A.sl.r_19 kernelRun0_A.sl.v221 kernelRun0_A.sl.v226
  rw [hx3, hx4]
  unfold View.readCov k0_pay58
  rw [View.readAt_full, View.readAt_full]
  simp only [pointwise, cast_same]
  rw [zero_add, zero_add, EReal.coe_sub]
  congr 1
  · exact dot_coe (fun k => hs.re _) (fun k => h3 _)
  · exact dot_coe (fun k => hs.im _) (fun k => h4 _)

end
end Fwd
end Cert.S5
-- ==== Proof.BwdLoops.lean ====
/- The reversed recurrence's two loops, the power of its multiplier and the states carried between its chunks. -/
module

public import proofs.«01_k».proof.Proof.FwdLoops
public import proofs.«01_k».proof.Proof.Gen.KernelIdeal.Loops

@[expose] public section

set_option maxRecDepth 16384

noncomputable section

namespace Cert.S5.Bwd

open Idealize.ShloMosaic Cert.KernelIdeal Cert.KernelIdeal.Gen

theorem trips1 : k1_t1_loop.trips = 256 := by decide +kernel
theorem trips2 : k1_t2_loop.trips = 255 := by decide +kernel
theorem off1 : ∀ k : Fin k1_t1_loop.trips, k1_off1 k = ![8 * (255 - k.val), 0] := by decide +kernel
theorem off2 : ∀ k : Fin k1_t2_loop.trips, k1_off2 k = ![8 * (255 - k.val), 0] := by decide +kernel
theorem off3 : ∀ k : Fin k1_t2_loop.trips, k1_off3 k = ![8 * (254 - k.val), 0] := by decide +kernel

/-- The conjugated multiplier, its imaginary part by subtracting from zero. -/
theorem conj {v9 v10 : FVec Ideal S1x512 .f32} {A : ℕ → ℂ} (h : IsC v9 v10 (fun i => A (i 1).val)) :
    IsC v9 (k1_pay11 v10) (fun i => cj (A (i 1).val)) := by
  refine ⟨fun i => h.re i, fun i => ?_⟩
  unfold k1_pay11
  simp only [pointwise]
  rw [h.im, zero_sub]
  rfl

/-- Its 256th power, by eight squarings. -/
theorem power {v9 v10 : FVec Ideal S1x512 .f32} {A : ℕ → ℂ} (h : IsC v9 v10 (fun i => A (i 1).val)) :
    IsC (k1_pay31 v9 (k1_pay11 v10) (k1_pay12 (F := Ideal)) (k1_pay13 (F := Ideal)) (k1_pay14 v9 v10) (k1_pay15 (F := Ideal)))
      (k1_pay32 v9 (k1_pay11 v10) (k1_pay12 (F := Ideal)) (k1_pay13 (F := Ideal)) (k1_pay14 v9 v10) (k1_pay15 (F := Ideal)))
      (fun i => cj (A (i 1).val) ^ 256) := by
  have h2 : ∀ i : S1x512.Idx, broadcast S1x512 (Scalar.ofBits (F := Ideal) .f32 0x40000000#32) i = ((2 : ℝ) : EReal) := fun i => two_word
  have p1 := (conj h).sq h2
  have p2 := p1.sq h2
  have p3 := p2.sq h2
  have p4 := p3.sq h2
  have p5 := p4.sq h2
  have p6 := p5.sq h2
  have p7 := p6.sq h2
  have p8 := p7.sq h2
  have one : IsC (k1_pay12 (F := Ideal)) (k1_pay13 (F := Ideal)) (fun _ => 1) :=
    .one (fun i => by unfold k1_pay12; simp only [pointwise]) (fun i => by unfold k1_pay13; simp only [pointwise])
  exact (one.mul p8).congr fun i => by ring

/-- The real parts of the eight carried states, as the kernel makes them. -/
def carryRe (er ei : FVec Ideal S8x512 .f32) (pr pi : FVec Ideal S1x512 .f32) (h : S8x512.Iotas Kind.tc 32 [0]) : FVec Ideal S8x512 .f32 :=
  let v81 := iota Kind.tc S8x512 32 [0] h
  let z := k1_pay33 (F := Ideal)
  let r10 := k1_pay39 er ei pr pi v81 z
  let r12 := k1_pay41 er ei pr pi z
  let r13 := k1_pay42 er ei pr pi z
  k1_pay55 er pr pi v81 (k1_pay45 er ei pr pi r12 r13) (k1_pay46 er ei pr pi r12 r13) (k1_pay47 er ei pr pi v81 r10 r12 r13)
    (k1_pay49 er) (k1_pay50 ei) (k1_pay51 er ei pr pi r12 r13) (k1_pay52 er ei pr pi r12 r13)

/-- Their imaginary parts. -/
def carryIm (er ei : FVec Ideal S8x512 .f32) (pr pi : FVec Ideal S1x512 .f32) (h : S8x512.Iotas Kind.tc 32 [0]) : FVec Ideal S8x512 .f32 :=
  let v81 := iota Kind.tc S8x512 32 [0] h
  let z := k1_pay33 (F := Ideal)
  let r11 := k1_pay40 er ei pr pi v81 z
  let r12 := k1_pay41 er ei pr pi z
  let r13 := k1_pay42 er ei pr pi z
  k1_pay56 ei pr pi v81 (k1_pay45 er ei pr pi r12 r13) (k1_pay46 er ei pr pi r12 r13) (k1_pay48 er ei pr pi v81 r11 r12 r13)
    (k1_pay49 er) (k1_pay50 ei) (k1_pay51 er ei pr pi r12 r13) (k1_pay52 er ei pr pi r12 r13)

/-- The states carried into the chunks from the end. -/
abbrev carry (P : ℕ → ℂ) (E : ℕ → ℕ → ℂ) (p c : ℕ) : ℂ := Fwd.carry P (fun k => E (7 - k)) p (7 - c)

/-- The eight carried states, row by row. -/
theorem carries {er ei : FVec Ideal S8x512 .f32} {pr pi : FVec Ideal S1x512 .f32} {E : ℕ → ℕ → ℂ} {P : ℕ → ℂ}
    (hE : IsG er ei E) (hP : IsC pr pi (fun i => P (i 1).val)) (h : S8x512.Iotas Kind.tc 32 [0]) :
    IsG (carryRe er ei pr pi h) (carryIm er ei pr pi h) (fun c p => carry P E p c) := by
  have z0 : IsC (k1_pay33 (F := Ideal)) (k1_pay34 (F := Ideal)) (fun i => Fwd.carry P (fun k => E (7 - k)) (i 1).val 0) :=
    .zeros (fun i => by unfold k1_pay33; simp only [pointwise]) (fun i => by unfold k1_pay34; simp only [pointwise])
  have z8 : IsG (k1_pay8 (F := Ideal)) (k1_pay8 (F := Ideal)) (fun _ _ => 0) :=
    .zeros (fun i => by unfold k1_pay8; simp only [pointwise]) (fun i => by unfold k1_pay8; simp only [pointwise])
  have next : ∀ (n c : ℕ) (e : c = 7 - n) (h1 h2) {sr si : FVec Ideal S1x512 .f32}, IsC sr si (fun i => Fwd.carry P (fun k => E (7 - k)) (i 1).val n) →
      IsC (addf (subf (mulf pr sr) (mulf pi si)) (extractStridedSlice S1x512 ![c, 0] er h1))
        (addf (addf (mulf pr si) (mulf pi sr)) (extractStridedSlice S1x512 ![c, 0] ei h2)) (fun i => Fwd.carry P (fun k => E (7 - k)) (i 1).val (n + 1)) := by
    intro n c e h1 h2 _ _ hs
    subst e
    exact hP.mac hs (hE.row (7 - n) h1 h2)
  have z1 := next 0 7 rfl slices_S8x512_o7_0_S1x512 slices_S8x512_o7_0_S1x512 z0
  have z2 := next 1 6 rfl slices_S8x512_o6_0_S1x512 slices_S8x512_o6_0_S1x512 z1
  have z3 := next 2 5 rfl slices_S8x512_o5_0_S1x512 slices_S8x512_o5_0_S1x512 z2
  have z4 := next 3 4 rfl slices_S8x512_o4_0_S1x512 slices_S8x512_o4_0_S1x512 z3
  have z5 := next 4 3 rfl slices_S8x512_o3_0_S1x512 slices_S8x512_o3_0_S1x512 z4
  have z6 := next 5 2 rfl slices_S8x512_o2_0_S1x512 slices_S8x512_o2_0_S1x512 z5
  have z7 := next 6 1 rfl slices_S8x512_o1_0_S1x512 slices_S8x512_o1_0_S1x512 z6
  have put : ∀ (n c : ℕ) (hc : c < 8) {sr si : FVec Ideal S1x512 .f32} {x y : FVec Ideal S8x512 .f32} {Y : ℕ → ℕ → ℂ},
      IsC sr si (fun i => Fwd.carry P (fun k => E (7 - k)) (i 1).val n) → IsG x y Y →
      IsG (sel (BitVec.ofNat 32 c) h (broadcastTo S8x512 (shapeCast S1x512 sr shapeCasts_S1x512_S1x512) broadcasts_S1x512_S8x512) x)
        (sel (BitVec.ofNat 32 c) h (broadcastTo S8x512 (shapeCast S1x512 si shapeCasts_S1x512_S1x512) broadcasts_S1x512_S8x512) y)
        (fun r p => if r = c then Fwd.carry P (fun k => E (7 - k)) p n else Y r p) :=
    fun n c hc _ _ _ _ Y hs hy => IsC.sel (X := fun _ p => Fwd.carry P (fun k => E (7 - k)) p n)
      (IsC.rows (A := fun p => Fwd.carry P (fun k => E (7 - k)) p n) hs _ _ _ _) hy c hc h h
  have y1 := put 1 6 (by omega) z1 z8
  have y2 := put 2 5 (by omega) z2 y1
  have y3 := put 3 4 (by omega) z3 y2
  have y4 := put 4 3 (by omega) z4 y3
  have y5 := put 5 2 (by omega) z5 y4
  have y6 := put 6 1 (by omega) z6 y5
  have y7 := put 7 0 (by omega) z7 y6
  have all : IsG (carryRe er ei pr pi h) (carryIm er ei pr pi h) _ := y7
  refine all.congr fun i => ?_
  have hi : (i 0).val < 8 := (i 0).isLt
  generalize (i 0).val = r at hi
  interval_cases r <;> rfl

/-- A sum of products with conjugates: one more term. -/
theorem accCj {s : Shape} {gr gi nr ni xr xi : FVec Ideal s .f32} {G N X : s.Idx → ℂ} (hg : IsC gr gi G) (hn : IsC nr ni N) (hx : IsC xr xi X) :
    IsC (addf (addf gr (mulf nr xr)) (mulf ni xi)) (subf (addf gi (mulf ni xr)) (mulf nr xi)) (fun i => G i + N i * cj (X i)) := by
  refine ⟨fun i => ?_, fun i => ?_⟩ <;> simp only [pointwise] <;>
    simp only [hg.re, hg.im, hn.re, hn.im, hx.re, hx.im, Complex.add_re, Complex.mul_re, Complex.add_im, Complex.mul_im, cj] <;>
    norm_cast <;> ring

section
variable (𝒱 : Variants) (c : Dev nD) (bd : Option 𝒱.V) (i : grid1.Coords)
  (arg1 : Memref sig .tc .vmem S2048x128 .f32) (harg1 : arg1.IsWhole) (arg2 : Memref sig .tc .vmem S2048x128 .bf16) (harg2 : arg2.IsWhole) (arg3 : Memref sig .tc .vmem S2048x128 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S2048x128 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S2048x512 .f32) (harg19 : arg19.IsWhole) (arg20 : Memref sig .tc .vmem S2048x512 .f32) (harg20 : arg20.IsWhole)

theorem trip1_eq (v14 v15 : Vec Ideal S1x512 .f32) (X19 : BufTy.Contents (Elt Ideal) arg19.view.ty) (X20 : BufTy.Contents (Elt Ideal) arg20.view.ty)
    (k : Fin k1_t1_loop.trips) (acc : FVec Ideal S8x512 .f32 × FVec Ideal S8x512 .f32) :
    (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v14 v15 X19 X20 k).1 acc
      = (k1_pay9 v14 v15 acc.1 acc.2 (View.readAt (Elt Ideal) arg19.view (Rect.unit (s := S2048x512) (k1_off1 k) S8x512.size (k1_off1_inb k)).toLoadRect X19),
         k1_pay10 v14 v15 acc.1 acc.2 (View.readAt (Elt Ideal) arg20.view (Rect.unit (s := S2048x512) (k1_off1 k) S8x512.size (k1_off1_inb k)).toLoadRect X20)) := by
  unfold trip_k1_t1; rfl

/-- The first loop: every chunk's own reversed run. -/
theorem loop1 {v14 v15 : Vec Ideal S1x512 .f32} {X19 : BufTy.Contents (Elt Ideal) arg19.view.ty} {X20 : BufTy.Contents (Elt Ideal) arg20.view.ty}
    {A : ℕ → ℂ} {B : ℕ → ℕ → ℂ} (hA : IsC (s := S1x512) v14 v15 (fun i => A (i 1).val))
    (hB : IsG (arg19.view.read (Elt Ideal) X19) (arg20.view.read (Elt Ideal) X20) B)
    {init : FVec Ideal S8x512 .f32 × FVec Ideal S8x512 .f32} {Z : ℕ → ℕ → ℂ} (hZ : IsG init.1 init.2 Z) :
    ∀ n ≤ 256, IsG (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v14 v15 X19 X20 init n).1
      (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v14 v15 X19 X20 init n).2 (fun c p => run (cj (A p)) (fun t => B (8 * (255 - t) + c) p) (Z c p) n) := by
  intro n
  induction n with
  | zero => exact fun _ => hZ
  | succ n ih =>
    intro hn
    have hk : n < k1_t1_loop.trips := by rw [trips1]; omega
    have e := st_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v14 v15 X19 X20 init ⟨n, hk⟩
    rw [show n + 1 = (⟨n, hk⟩ : Fin k1_t1_loop.trips).val + 1 from rfl, e, tripR_k1_t1, trip1_eq]
    exact (hA.rows shapeCasts_S1x512_S1x512 shapeCasts_S1x512_S1x512 broadcasts_S1x512_S8x512 broadcasts_S1x512_S8x512).macCj (ih (by omega))
      (hB.load (off1 ⟨n, hk⟩) (k1_off1_inb ⟨n, hk⟩) (k1_off1_inb ⟨n, hk⟩))

section
variable (v17 v19 v20 v22_0 v22_1 : FVec Ideal S8x512 .f32) (v77 v80 : FVec Ideal S1x512 .f32) (v81 : IVec S8x512 32)
  (v171 v175 : FVec Ideal S1x512 .f32) (v180 v185 : FVec Ideal S8x512 .f32) (v186 v187 v188 v189 : FVec Ideal S1x512 .f32)
  (X4 : BufTy.Contents (Elt Ideal) arg4.view.ty) (X5 : BufTy.Contents (Elt Ideal) arg5.view.ty)

theorem trip2_eq (k : Fin k1_t2_loop.trips) (acc : FVec Ideal S8x512 .f32 × FVec Ideal S8x512 .f32 × FVec Ideal S8x512 .f32 × FVec Ideal S8x512 .f32)
    (f19 : BufTy.Contents (Elt Ideal) arg19.view.ty) (f20 : BufTy.Contents (Elt Ideal) arg20.view.ty) :
    (trip_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 k).1 acc f19 f20
      = (k1_pay57 v17 v19 acc.1 acc.2.1 (View.readAt (Elt Ideal) arg19.view (Rect.unit (s := S2048x512) (k1_off2 k) S8x512.size (k1_off2_inb k)).toLoadRect f19),
         k1_pay58 v17 v19 acc.1 acc.2.1 (View.readAt (Elt Ideal) arg20.view (Rect.unit (s := S2048x512) (k1_off2 k) S8x512.size (k1_off2_inb k)).toLoadRect f20),
         k1_pay63 v17 v19 acc.1 acc.2.1 acc.2.2.1 (View.readAt (Elt Ideal) arg19.view (Rect.unit (s := S2048x512) (k1_off2 k) S8x512.size (k1_off2_inb k)).toLoadRect f19) (View.readAt (Elt Ideal) arg20.view (Rect.unit (s := S2048x512) (k1_off2 k) S8x512.size (k1_off2_inb k)).toLoadRect f20) (View.readAt (Elt Ideal) arg4.view (Rect.unit (s := S2048x512) (k1_off3 k) S8x512.size (k1_off3_inb k)).toLoadRect X4) (View.readAt (Elt Ideal) arg5.view (Rect.unit (s := S2048x512) (k1_off3 k) S8x512.size (k1_off3_inb k)).toLoadRect X5),
         k1_pay64 v17 v19 acc.1 acc.2.1 acc.2.2.2 (View.readAt (Elt Ideal) arg19.view (Rect.unit (s := S2048x512) (k1_off2 k) S8x512.size (k1_off2_inb k)).toLoadRect f19) (View.readAt (Elt Ideal) arg20.view (Rect.unit (s := S2048x512) (k1_off2 k) S8x512.size (k1_off2_inb k)).toLoadRect f20) (View.readAt (Elt Ideal) arg4.view (Rect.unit (s := S2048x512) (k1_off3 k) S8x512.size (k1_off3_inb k)).toLoadRect X4) (View.readAt (Elt Ideal) arg5.view (Rect.unit (s := S2048x512) (k1_off3 k) S8x512.size (k1_off3_inb k)).toLoadRect X5)) := by
  unfold trip_k1_t2; rfl

theorem pieces2_eq (k : Fin k1_t2_loop.trips) (acc : FVec Ideal S8x512 .f32 × FVec Ideal S8x512 .f32 × FVec Ideal S8x512 .f32 × FVec Ideal S8x512 .f32)
    (f19 : BufTy.Contents (Elt Ideal) arg19.view.ty) (f20 : BufTy.Contents (Elt Ideal) arg20.view.ty) :
    tripL_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 k acc f19 f20
      = ([⟨Rect.unit (s := S2048x512) (k1_off2 k) S8x512.size (k1_off2_inb k), k1_pay59 v17 v19 acc.1 acc.2.1 (View.readAt (Elt Ideal) arg19.view (Rect.unit (s := S2048x512) (k1_off2 k) S8x512.size (k1_off2_inb k)).toLoadRect f19)⟩],
         [⟨Rect.unit (s := S2048x512) (k1_off2 k) S8x512.size (k1_off2_inb k), k1_pay60 v17 v19 acc.1 acc.2.1 (View.readAt (Elt Ideal) arg20.view (Rect.unit (s := S2048x512) (k1_off2 k) S8x512.size (k1_off2_inb k)).toLoadRect f20)⟩]) := by
  unfold tripL_k1_t2 trip_k1_t2; rfl

/-- The reversed run's value at row `r`. -/
abbrev lam (A : ℕ → ℂ) (B Z : ℕ → ℕ → ℂ) (r p : ℕ) : ℂ :=
  run (cj (A p)) (fun t => B (8 * (255 - t) + r % 8) p) (Z (r % 8) p) (256 - r / 8)

/-- What the second loop leaves in row `r` once its step is done. -/
abbrev after2 (A : ℕ → ℂ) (B Z : ℕ → ℕ → ℂ) (n : ℕ) (r p : ℕ) : ℂ :=
  if 8 * (256 - n) ≤ r then lam A B Z r p else B r p

/-- The second loop: every chunk's reversed run from its carried state, written over the inputs row by row, and the sums
of its products with the states before. -/
theorem loop2 {A : ℕ → ℂ} {B Z X : ℕ → ℕ → ℂ} (hA : IsC (s := S8x512) v17 v19 (fun i => A (i 1).val))
    {G19 : BufTy.Contents (Elt Ideal) arg19.view.ty} {G20 : BufTy.Contents (Elt Ideal) arg20.view.ty}
    (hB : IsG (arg19.view.read (Elt Ideal) G19) (arg20.view.read (Elt Ideal) G20) B)
    (hX : IsG (arg4.view.read (Elt Ideal) X4) (arg5.view.read (Elt Ideal) X5) X)
    {init : FVec Ideal S8x512 .f32 × FVec Ideal S8x512 .f32 × FVec Ideal S8x512 .f32 × FVec Ideal S8x512 .f32} (hZ : IsG init.1 init.2.1 Z)
    (h0 : IsG init.2.2.1 init.2.2.2 (fun _ _ => 0)) :
    ∀ n ≤ 255,
      IsG (arg19.view.read (Elt Ideal) (arg19.view.writes (Elt Ideal) G19 (st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init n).2.1))
        (arg20.view.read (Elt Ideal) (arg20.view.writes (Elt Ideal) G20 (st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init n).2.2)) (after2 A B Z n)
      ∧ IsG (st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init n).1.1 (st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init n).1.2.1
        (fun c p => run (cj (A p)) (fun t => B (8 * (255 - t) + c) p) (Z c p) n)
      ∧ IsG (st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init n).1.2.2.1 (st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init n).1.2.2.2
        (fun c p => ∑ k ∈ Finset.range n, run (cj (A p)) (fun t => B (8 * (255 - t) + c) p) (Z c p) (k + 1) * cj (X (8 * (254 - k) + c) p)) := by
  intro n
  induction n with
  | zero =>
    refine fun _ => ⟨hB.congr fun i => ?_, hZ, h0.congr fun i => by simp⟩
    have hi : (i 0).val < 2048 := (i 0).isLt
    simp only [after2]
    rw [if_neg (by omega)]
  | succ n ih =>
    intro hn
    have hk : n < k1_t2_loop.trips := by rw [trips2]; omega
    obtain ⟨h1, h2, h3⟩ := ih (by omega)
    have e := st_k1_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v17 v19 v20 v22_0 v22_1 v77 v80 v81 v171 v175 v180 v185 v186 v187 v188 v189 X4 X5 G19 G20 init ⟨n, hk⟩
    rw [show n + 1 = (⟨n, hk⟩ : Fin k1_t2_loop.trips).val + 1 from rfl, e, tripR_k1_t2, trip2_eq, pieces2_eq]
    have hl := h1.load (off2 ⟨n, hk⟩) (k1_off2_inb ⟨n, hk⟩) (k1_off2_inb ⟨n, hk⟩)
    have hnew := (hA.macCj h2 hl).congr (Z' := fun i => run (cj (A (i 1).val)) (fun t => B (8 * (255 - t) + (i 0).val) (i 1).val) (Z (i 0).val (i 1).val) (n + 1)) fun i => by
      have hi : (i 0).val < 8 := (i 0).isLt
      simp only [after2, run_succ]
      rw [if_neg (by omega)]
    have hx := (hX.load (off3 ⟨n, hk⟩) (k1_off3_inb ⟨n, hk⟩) (k1_off3_inb ⟨n, hk⟩)).cast shapeCasts_S8x512_S8x512 shapeCasts_S8x512_S8x512
    refine ⟨?_, hnew, (accCj h3 hnew hx).congr fun i => (Finset.sum_range_succ _ _).symm⟩
    dsimp only [List.cons_append, List.nil_append]
    rw [View.read_writes_cons_put _ _ _ _ _ (off2 ⟨n, hk⟩), View.read_writes_cons_put _ _ _ _ _ (off2 ⟨n, hk⟩)]
    refine (IsC.put (W := fun c p => run (cj (A p)) (fun t => B (8 * (255 - t) + c) p) (Z c p) (n + 1)) h1
      (hnew.cast shapeCasts_S8x512_S8x512 shapeCasts_S8x512_S8x512) (255 - n)).congr fun i => ?_
    have hi : (i 0).val < 2048 := (i 0).isLt
    simp only [after2, lam]
    generalize (i 0).val = r at hi
    by_cases c1 : 8 * (255 - n) ≤ r ∧ r < 8 * (255 - n) + 8
    · have e1 : r % 8 = r - 8 * (255 - n) := by omega
      have e2 : 256 - r / 8 = n + 1 := by omega
      rw [if_pos c1, if_pos (by omega), e1, e2]
    · rw [if_neg c1]
      by_cases c2 : 8 * (256 - n) ≤ r
      · rw [if_pos c2, if_pos (by omega)]
      · rw [if_neg c2, if_neg (by omega)]

end
end

end Cert.S5.Bwd
-- ==== Proof.BwdVals.lean ====
/- What the reversed recurrence's kernel leaves in its outputs at one grid point. -/
module

public import proofs.«01_k».proof.Proof.FwdVals
public import proofs.«01_k».proof.Proof.BwdLoops
public import Idealize.ShloMosaic.Lib.KernelVsHost

@[expose] public section

set_option maxRecDepth 16384

noncomputable section

namespace Cert.S5

open Idealize.ShloMosaic Cert.KernelIdeal Cert.KernelIdeal.Gen

/-- The states a reversed run of eight chunks goes through: row `r` is step `r / 8` of chunk `r % 8`. -/
def lamRows (A : ℕ → ℂ) (B : ℕ → ℕ → ℂ) (r p : ℕ) : ℂ :=
  Bwd.lam A B (fun c p => Bwd.carry (fun p => cj (A p) ^ 256) (fun c p => run (cj (A p)) (fun t => B (8 * (255 - t) + c) p) 0 256) p c) r p

/-- The inputs of the reversed run. -/
def backIn (DY Cr Ci : ℕ → ℕ → ℝ) (r p : ℕ) : ℂ := cj (dotC 128 (DY r) (fun k => Cr k p) (fun k => Ci k p))

/-- The gradient of the multiplier: the products of the reversed states with the states before. -/
def gradA (L X : ℕ → ℕ → ℂ) (p : ℕ) : ℂ :=
  ∑ c : Fin 8, ((∑ k ∈ Finset.range 255, L (8 * (255 - k) + c) p * cj (X (8 * (254 - k) + c) p))
    + L c p * cj (if c.val = 0 then 0 else X (8 * 255 + (c - 1)) p))

namespace Bwd

/-- The last rows moved down by one, the first left empty. -/
theorem rot {v w : FVec Ideal S8x512 .f32} {X : ℕ → ℕ → ℂ} (h : IsG v w X) :
    IsG (k1_pay71 v) (k1_pay72 w) (fun c p => if c = 0 then 0 else X (c - 1) p) := by
  have key : ∀ (x : FVec Ideal S8x512 .f32) (f : ℂ → ℝ), f 0 = 0 → (∀ i, x i = ((f (X (i 0).val (i 1).val) : ℝ) : EReal)) → ∀ i,
      select k1_pay70 (broadcast S8x512 (Scalar.ofBits (F := Ideal) .f32 0x00000000#32))
        (dynamicRotate 0 1#32 none (shapeCast S8x512 x shapeCasts_S8x512_S8x512) rotates_S8x512_d0) i
        = ((f (if (i 0).val = 0 then 0 else X ((i 0).val - 1) (i 1).val) : ℝ) : EReal) := by
    intro x f f0 hx i
    have hi : (i 0).val < 8 := (i 0).isLt
    rw [cast_same]
    refine (sel_apply 0 (by omega) iota_S8x512_d0_w32 _ _ i).trans ?_
    by_cases c : (i 0).val = 0
    · rw [if_pos c, if_pos c, f0]
      simp only [pointwise]
      rfl
    · rw [if_neg c, if_neg c]
      refine (dynamicRotate_apply (0 : Fin 2) 1#32 x rotates_S8x512_d0 i (ix2 ⟨(i 0).val - 1, by omega⟩ (i 1)) ?_).trans (hx _)
      intro b
      match b with
      | ⟨0, _⟩ =>
        show (i 0).val - 1 = ((i 0).val + 8 - 1 % 8) % 8
        omega
      | ⟨1, _⟩ => rfl
  exact ⟨fun i => key v Complex.re rfl h.re i, fun i => key w Complex.im rfl h.im i⟩

/-- The sums over eight rows. -/
theorem sumRows {v w : FVec Ideal S8x512 .f32} {Z : ℕ → ℕ → ℂ} (h : IsG v w Z) :
    IsC (shapeCast S1x512 (multiReduction .add [0] S512 v 0x00000000#32 reduces_S8x512_S512 (.inl rfl) rfl) shapeCasts_S512_S1x512)
      (shapeCast S1x512 (multiReduction .add [0] S512 w 0x00000000#32 reduces_S8x512_S512 (.inl rfl) rfl) shapeCasts_S512_S1x512)
      (fun i => ∑ c : Fin 8, Z c.val (i 1).val) := by
  refine ⟨fun i => ?_, fun i => ?_⟩
  · simp only [pointwise, Complex.re_sum]
    rw [← coe_sum]
    exact Finset.sum_congr rfl fun k _ => h.re _
  · simp only [pointwise, Complex.im_sum]
    rw [← coe_sum]
    exact Finset.sum_congr rfl fun k _ => h.im _

section
variable (c : Dev nD) (i : grid1.Coords)
  (arg1 : Memref sig .tc .vmem S2048x128 .f32) (harg1 : arg1.IsWhole) (arg2 : Memref sig .tc .vmem S2048x128 .bf16) (harg2 : arg2.IsWhole) (arg3 : Memref sig .tc .vmem S2048x128 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S2048x128 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S2048x512 .f32) (harg19 : arg19.IsWhole) (arg20 : Memref sig .tc .vmem S2048x512 .f32) (harg20 : arg20.IsWhole)
  (x0 : Vec Ideal S2048x128 .f32) (x1 : Vec Ideal S2048x128 .bf16) (x2 : Vec Ideal S2048x128 .f32) (x3 x4 : Vec Ideal S2048x512 .f32)
  (x5 x6 x7 x8 : Vec Ideal S128x512 .bf16) (x9 x10 : Vec Ideal S1x512 .f32)

variable {U DY Br Bi Cr Ci : ℕ → ℕ → ℝ} {X : ℕ → ℕ → ℂ} {A : ℕ → ℂ}

theorem inputs (h1 : IsR (a := 2048) (b := 128) x1 DY) (h7 : IsR (a := 128) (b := 512) x7 Cr) (h8 : IsR (a := 128) (b := 512) x8 Ci) :
    IsG (k1_pay4 x1 x7) (k1_pay5 x1 x8) (backIn DY Cr Ci) := by
  refine ⟨fun j => ?_, fun j => ?_⟩
  · unfold k1_pay4 k1_pay3
    simp only [pointwise, cast_same]
    rw [zero_add]
    exact dot_coe (f := fun k : Fin 128 => DY (j 0).val k.val) (g := fun k : Fin 128 => Cr k.val (j 1).val) (fun k => h1 _) (fun k => h7 _)
  · unfold k1_pay5 k1_pay3
    simp only [pointwise, cast_same]
    rw [zero_add, zero_sub]
    exact congrArg Neg.neg (dot_coe (f := fun k : Fin 128 => DY (j 0).val k.val) (g := fun k : Fin 128 => Ci k.val (j 1).val) (fun k => h1 _) (fun k => h8 _))

theorem core (h1 : IsR (a := 2048) (b := 128) x1 DY) (h3 : IsG (a := 2048) (b := 512) x3 x4 X)
    (h7 : IsR (a := 128) (b := 512) x7 Cr) (h8 : IsR (a := 128) (b := 512) x8 Ci) (h9 : IsC (s := S1x512) x9 x10 (fun i => A (i 1).val)) :
    IsG (arg19.view.read (Elt Ideal) (arg19.view.writes (Elt Ideal) arg19.view.junk (kernelRun1_A.sl.HS0_1_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10)))
      (arg20.view.read (Elt Ideal) (arg20.view.writes (Elt Ideal) arg20.view.junk (kernelRun1_A.sl.HS1_1_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10))) (lamRows A (backIn DY Cr Ci))
    ∧ IsG (kernelRun1_A.sl.r_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10) (k1_pay67 (kernelRun1_A.sl.r_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10) (kernelRun1_A.sl.v239 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10)) (lamRows A (backIn DY Cr Ci))
    ∧ IsG (kernelRun1_A.sl.r_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10) (kernelRun1_A.sl.r_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10) (fun c p => ∑ k ∈ Finset.range 255, lamRows A (backIn DY Cr Ci) (8 * (255 - k) + c) p * cj (X (8 * (254 - k) + c) p)) := by
  have hx1 : View.readAt (Elt Ideal) arg2.view (Rect.unit (s := S2048x128) ![0, 0] S2048x128.size inb_S2048x128_S2048x128_0_0).toLoadRect (harg2.unread x1) = x1 :=
    (View.readAt_full _ _ _).trans (harg2.read_unread x1)
  have hx7 : View.readAt (Elt Ideal) arg8.view (Rect.unit (s := S128x512) ![0, 0] S128x512.size inb_S128x512_S128x512_0_0).toLoadRect (harg8.unread x7) = x7 :=
    (View.readAt_full _ _ _).trans (harg8.read_unread x7)
  have hx8 : View.readAt (Elt Ideal) arg9.view (Rect.unit (s := S128x512) ![0, 0] S128x512.size inb_S128x512_S128x512_0_0).toLoadRect (harg9.unread x8) = x8 :=
    (View.readAt_full _ _ _).trans (harg9.read_unread x8)
  have hx9 : View.readAt (Elt Ideal) arg10.view (Rect.unit (s := S1x512) ![0, 0] S1x512.size inb_S1x512_S1x512_0_0).toLoadRect (harg10.unread x9) = x9 :=
    (View.readAt_full _ _ _).trans (harg10.read_unread x9)
  have hx10 : View.readAt (Elt Ideal) arg11.view (Rect.unit (s := S1x512) ![0, 0] S1x512.size inb_S1x512_S1x512_0_0).toLoadRect (harg11.unread x10) = x10 :=
    (View.readAt_full _ _ _).trans (harg11.read_unread x10)
  have hG : IsG (arg19.view.read (Elt Ideal) (arg19.view.writes (Elt Ideal) arg19.view.junk (kernelRun1_A.sl.HS0_1 c arg2 harg2 arg8 harg8 x1 x7)))
      (arg20.view.read (Elt Ideal) (arg20.view.writes (Elt Ideal) arg20.view.junk (kernelRun1_A.sl.HS1_1 c arg2 harg2 arg9 harg9 x1 x8))) (backIn DY Cr Ci) := by
    unfold kernelRun1_A.sl.HS0_1 kernelRun1_A.sl.HS1_1
    rw [View.read_writes_full, View.read_writes_full, hx1, hx7, hx8]
    exact inputs x1 x7 x8 h1 h7 h8
  have hr : IsC (s := S8x512) (kernelRun1_A.sl.r_2 c arg10 harg10 x9) (kernelRun1_A.sl.r_3 c arg11 harg11 x10) (fun i => A (i 1).val) := by
    unfold kernelRun1_A.sl.r_2 kernelRun1_A.sl.r_3
    rw [hx9, hx10]
    exact h9.rows shapeCasts_S1x512_S1x512 shapeCasts_S1x512_S1x512 broadcasts_S1x512_S8x512 broadcasts_S1x512_S8x512
  have z : IsG (k1_pay8 (F := Ideal)) (k1_pay8 (F := Ideal)) (fun _ _ => 0) :=
    .zeros (fun i => by unfold k1_pay8; simp only [pointwise]) (fun i => by unfold k1_pay8; simp only [pointwise])
  have hE : IsG (kernelRun1_A.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (fun c p => run (cj (A p)) (fun t => backIn DY Cr Ci (8 * (255 - t) + c) p) 0 256) := by
    unfold kernelRun1_A.sl.r_4 kernelRun1_A.sl.r_5
    rw [hx9, hx10]
    exact loop1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h9 hG z 256 le_rfl
  have hP : IsC (s := S1x512) (kernelRun1_A.sl.r_8 c arg10 harg10 arg11 harg11 x9 x10) (kernelRun1_A.sl.r_9 c arg10 harg10 arg11 harg11 x9 x10) (fun i => cj (A (i 1).val) ^ 256) := by
    unfold kernelRun1_A.sl.r_8 kernelRun1_A.sl.r_9 kernelRun1_A.sl.r_1 kernelRun1_A.sl.r_6 kernelRun1_A.sl.r_7
    rw [hx9, hx10]
    exact power h9
  have hZ := carries (P := fun p => cj (A p) ^ 256) hE hP iota_S8x512_d0_w32
  have hX : IsG (arg4.view.read (Elt Ideal) (harg4.unread x3)) (arg5.view.read (Elt Ideal) (harg5.unread x4)) X := by
    rw [harg4.read_unread, harg5.read_unread]; exact h3
  have hL := loop2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (kernelRun1_A.sl.r_2 c arg10 harg10 x9) (kernelRun1_A.sl.r_3 c arg11 harg11 x10) (k1_pay8 (F := Ideal)) (kernelRun1_A.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_8 c arg10 harg10 arg11 harg11 x9 x10) (kernelRun1_A.sl.r_9 c arg10 harg10 arg11 harg11 x9 x10) kernelRun1_A.sl.v81 (kernelRun1_A.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (harg4.unread x3) (harg5.unread x4) hr hG hX (init := (k1_pay55 (kernelRun1_A.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_8 c arg10 harg10 arg11 harg11 x9 x10) (kernelRun1_A.sl.r_9 c arg10 harg10 arg11 harg11 x9 x10) kernelRun1_A.sl.v81 (kernelRun1_A.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10), k1_pay56 (kernelRun1_A.sl.r_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_8 c arg10 harg10 arg11 harg11 x9 x10) (kernelRun1_A.sl.r_9 c arg10 harg10 arg11 harg11 x9 x10) kernelRun1_A.sl.v81 (kernelRun1_A.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10) (kernelRun1_A.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x7 x8 x9 x10), k1_pay8 (F := Ideal), k1_pay8 (F := Ideal))) hZ z 255 le_rfl
  have e1 : Scf.trips k1_t2_loop.lb k1_t2_loop.ub k1_t2_loop.st = 255 := trips2
  obtain ⟨a1, a2, a3⟩ := hL
  have a4 : IsG (kernelRun1_A.sl.r_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10) (k1_pay67 (kernelRun1_A.sl.r_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10) (kernelRun1_A.sl.v239 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10)) (lamRows A (backIn DY Cr Ci)) := by
    unfold kernelRun1_A.sl.r_24 kernelRun1_A.sl.r_25 kernelRun1_A.sl.v233 kernelRun1_A.sl.v239
    unfold View.readCov
    rw [View.writes_append, View.writes_append, e1]
    refine (hr.macCj a2 (a1.load (t := 0) rfl inb_S2048x512_S8x512_0_0 inb_S2048x512_S8x512_0_0)).congr fun j => ?_
    have hj : (j 0).val < 8 := (j 0).isLt
    simp only [lamRows, lam, after2]
    rw [if_neg (by omega), show 8 * 0 + (j 0).val = (j 0).val by omega, show (j 0).val % 8 = (j 0).val by omega,
      show 256 - (j 0).val / 8 = 255 + 1 by omega, run_succ _ _ _ 255]
    simp only [show 8 * (255 - 255) + (j 0).val = (j 0).val by omega]
  refine ⟨?_, a4, ?_⟩
  · unfold kernelRun1_A.sl.HS0_1_1 kernelRun1_A.sl.HS1_1_1
    rw [View.read_writes_cons_put _ _ _ _ _ (rfl : (![0, 0] : Fin 2 → ℕ) = ![8 * 0, 0]), View.read_writes_cons_put _ _ _ _ _ (rfl : (![0, 0] : Fin 2 → ℕ) = ![8 * 0, 0]), View.writes_append, View.writes_append, e1]
    refine (IsC.put a1 (a4.cast shapeCasts_S8x512_S8x512 shapeCasts_S8x512_S8x512) 0).congr fun j => ?_
    have hj : (j 0).val < 2048 := (j 0).isLt
    simp only [after2]
    by_cases c1 : 8 * 0 ≤ (j 0).val ∧ (j 0).val < 8 * 0 + 8
    · rw [if_pos c1, show (j 0).val - 8 * 0 = (j 0).val by omega]
    · rw [if_neg c1, if_pos (by omega)]
      rfl
  · unfold kernelRun1_A.sl.r_22 kernelRun1_A.sl.r_23
    rw [e1]
    refine a3.congr fun j => Finset.sum_congr rfl fun k hk => ?_
    have hj : (j 0).val < 8 := (j 0).isLt
    have hk' := Finset.mem_range.mp hk
    simp only [lamRows, lam]
    rw [show (8 * (255 - k) + (j 0).val) % 8 = (j 0).val by omega, show 256 - (8 * (255 - k) + (j 0).val) / 8 = k + 1 by omega]

/-- The gradient of the layer's input. -/
theorem du_out (h1 : IsR (a := 2048) (b := 128) x1 DY) (h3 : IsG (a := 2048) (b := 512) x3 x4 X)
    (h7 : IsR (a := 128) (b := 512) x7 Cr) (h8 : IsR (a := 128) (b := 512) x8 Ci) (h9 : IsC (s := S1x512) x9 x10 (fun i => A (i 1).val)) (h5 : IsR (a := 128) (b := 512) x5 Br) (h6 : IsR (a := 128) (b := 512) x6 Bi) (j : S2048x128.Idx) :
    out1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 j
      = (((∑ p : Fin 512, (lamRows A (backIn DY Cr Ci) (j 0).val p).re * Br (j 1).val p)
          + ∑ p : Fin 512, (lamRows A (backIn DY Cr Ci) (j 0).val p).im * Bi (j 1).val p : ℝ) : EReal) + x2 j := by
  have hs := (core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10 h1 h3 h7 h8 h9).1
  have hx2 : View.readAt (Elt Ideal) arg3.view (Rect.unit (s := S2048x128) ![0, 0] S2048x128.size inb_S2048x128_S2048x128_0_0).toLoadRect (harg3.unread x2) = x2 :=
    (View.readAt_full _ _ _).trans (harg3.read_unread x2)
  have hx5 : View.readAt (Elt Ideal) arg6.view (Rect.unit (s := S128x512) ![0, 0] S128x512.size inb_S128x512_S128x512_0_0).toLoadRect (harg6.unread x5) = x5 :=
    (View.readAt_full _ _ _).trans (harg6.read_unread x5)
  have hx6 : View.readAt (Elt Ideal) arg7.view (Rect.unit (s := S128x512) ![0, 0] S128x512.size inb_S128x512_S128x512_0_0).toLoadRect (harg7.unread x6) = x6 :=
    (View.readAt_full _ _ _).trans (harg7.read_unread x6)
  unfold out1_A_11 kernelRun1_A
  dsimp only
  rw [View.read_writes_full]
  unfold kernelRun1_A.sl.v281 kernelRun1_A.sl.v285
  rw [hx2, hx5, hx6]
  unfold View.readCov k1_pay75
  rw [View.readAt_full, View.readAt_full]
  simp only [pointwise, cast_same]
  rw [zero_add, zero_add, EReal.coe_add]
  congr 2
  · exact dot_coe (fun k => hs.re _) (fun k => h5 _)
  · exact dot_coe (fun k => hs.im _) (fun k => h6 _)

/-- The gradient of the output product's factors. -/
theorem dct_out (h1 : IsR (a := 2048) (b := 128) x1 DY) (h3 : IsG (a := 2048) (b := 512) x3 x4 X) :
    IsG (a := 128) (b := 512) (out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) (out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)
      (fun h p => dotC 2048 (fun r => DY r h) (fun r => (X r p).re) (fun r => (X r p).im)) := by
  have hx1 : View.readAt (Elt Ideal) arg2.view (Rect.unit (s := S2048x128) ![0, 0] S2048x128.size inb_S2048x128_S2048x128_0_0).toLoadRect (harg2.unread x1) = x1 :=
    (View.readAt_full _ _ _).trans (harg2.read_unread x1)
  have hx3 : View.readAt (Elt Ideal) arg4.view (Rect.unit (s := S2048x512) ![0, 0] S2048x512.size inb_S2048x512_S2048x512_0_0).toLoadRect (harg4.unread x3) = x3 :=
    (View.readAt_full _ _ _).trans (harg4.read_unread x3)
  have hx4 : View.readAt (Elt Ideal) arg5.view (Rect.unit (s := S2048x512) ![0, 0] S2048x512.size inb_S2048x512_S2048x512_0_0).toLoadRect (harg5.unread x4) = x4 :=
    (View.readAt_full _ _ _).trans (harg5.read_unread x4)
  refine ⟨fun j => ?_, fun j => ?_⟩
  · unfold out1_A_12 kernelRun1_A
    dsimp only
    rw [View.read_writes_full]
    unfold kernelRun1_A.sl.r
    rw [hx1, hx3]
    unfold k1_pay77 k1_pay3
    simp only [pointwise, cast_same]
    rw [zero_add]
    exact dot_coe (f := fun k : Fin 2048 => DY k.val (j 0).val) (g := fun k : Fin 2048 => (X k.val (j 1).val).re) (fun k => h1 _) (fun k => h3.re _)
  · unfold out1_A_13 kernelRun1_A
    dsimp only
    rw [View.read_writes_full]
    unfold kernelRun1_A.sl.r
    rw [hx1, hx4]
    unfold k1_pay78 k1_pay3
    simp only [pointwise, cast_same]
    rw [zero_add]
    exact dot_coe (f := fun k : Fin 2048 => DY k.val (j 0).val) (g := fun k : Fin 2048 => (X k.val (j 1).val).im) (fun k => h1 _) (fun k => h3.im _)

/-- The gradient of the input product's factors. -/
theorem dbt_out (h0 : IsR (a := 2048) (b := 128) x0 U) (h1 : IsR (a := 2048) (b := 128) x1 DY) (h3 : IsG (a := 2048) (b := 512) x3 x4 X)
    (h7 : IsR (a := 128) (b := 512) x7 Cr) (h8 : IsR (a := 128) (b := 512) x8 Ci) (h9 : IsC (s := S1x512) x9 x10 (fun i => A (i 1).val)) :
    IsG (a := 128) (b := 512) (out1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) (out1_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)
      (fun h p => dotC 2048 (fun r => U r h) (fun r => (lamRows A (backIn DY Cr Ci) r p).re) (fun r => (lamRows A (backIn DY Cr Ci) r p).im)) := by
  have hs := (core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10 h1 h3 h7 h8 h9).1
  have hx0 : View.readAt (Elt Ideal) arg1.view (Rect.unit (s := S2048x128) ![0, 0] S2048x128.size inb_S2048x128_S2048x128_0_0).toLoadRect (harg1.unread x0) = x0 :=
    (View.readAt_full _ _ _).trans (harg1.read_unread x0)
  refine ⟨fun j => ?_, fun j => ?_⟩
  · unfold out1_A_14 kernelRun1_A
    dsimp only
    rw [View.read_writes_full (off := ![0, 0]) (s := S128x512)]
    unfold kernelRun1_A.sl.r_27 kernelRun1_A.sl.v307
    rw [hx0]
    unfold View.readCov k1_pay1 k1_pay76
    rw [View.readAt_full]
    simp only [pointwise, cast_same]
    rw [zero_add]
    exact dot_coe (f := fun k : Fin 2048 => U k.val (j 0).val) (g := fun k : Fin 2048 => (lamRows A (backIn DY Cr Ci) k.val (j 1).val).re) (fun k => h0 _) (fun k => hs.re _)
  · unfold out1_A_15 kernelRun1_A
    dsimp only
    rw [View.read_writes_full (off := ![0, 0]) (s := S128x512)]
    unfold kernelRun1_A.sl.r_27 kernelRun1_A.sl.v311
    rw [hx0]
    unfold View.readCov k1_pay2 k1_pay76
    rw [View.readAt_full]
    simp only [pointwise, cast_same]
    rw [zero_add]
    exact dot_coe (f := fun k : Fin 2048 => U k.val (j 0).val) (g := fun k : Fin 2048 => (lamRows A (backIn DY Cr Ci) k.val (j 1).val).im) (fun k => h0 _) (fun k => hs.im _)

/-- The gradient of the multiplier. -/
theorem da_out (h1 : IsR (a := 2048) (b := 128) x1 DY) (h3 : IsG (a := 2048) (b := 512) x3 x4 X)
    (h7 : IsR (a := 128) (b := 512) x7 Cr) (h8 : IsR (a := 128) (b := 512) x8 Ci) (h9 : IsC (s := S1x512) x9 x10 (fun i => A (i 1).val)) :
    IsC (s := S1x512) (out1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) (out1_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10)
      (fun j => gradA (lamRows A (backIn DY Cr Ci)) X (j 1).val) := by
  obtain ⟨-, h24, h22⟩ := core c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x3 x4 x7 x8 x9 x10 h1 h3 h7 h8 h9
  have hX : IsG (arg4.view.read (Elt Ideal) (harg4.unread x3)) (arg5.view.read (Elt Ideal) (harg5.unread x4)) X := by
    rw [harg4.read_unread, harg5.read_unread]; exact h3
  have hl := hX.load (t := 255) rfl inb_S2048x512_S8x512_2040_0 inb_S2048x512_S8x512_2040_0
  have hall := sumRows (Z := fun c p => (∑ k ∈ Finset.range 255, lamRows A (backIn DY Cr Ci) (8 * (255 - k) + c) p * cj (X (8 * (254 - k) + c) p))
    + lamRows A (backIn DY Cr Ci) c p * cj (if c = 0 then 0 else X (8 * 255 + (c - 1)) p)) (accCj h22 h24 (rot (X := fun c p => X (8 * 255 + c) p) hl))
  refine ⟨fun j => ?_, fun j => ?_⟩
  · unfold out1_A_16 kernelRun1_A
    dsimp only
    rw [View.read_writes_full]
    exact hall.re j
  · unfold out1_A_17 kernelRun1_A
    dsimp only
    rw [View.read_writes_full]
    unfold kernelRun1_A.sl.r_26
    exact hall.im j

end
end Bwd
end Cert.S5
-- ==== Proof.Spec.lean ====
/- The recurrence and its gradients as functions of the time and the column, and the kernels' row orders read as times. -/
module

public import proofs.«01_k».proof.Proof.BwdVals

@[expose] public section

set_option maxRecDepth 16384

noncomputable section

namespace Cert.S5

/-- The arguments' real entries: inputs and output gradients by time and channel, factors by row and column,
multipliers by column. -/
structure Data where
  U : ℕ → ℕ → ℝ
  DY : ℕ → ℕ → ℝ
  Br : ℕ → ℕ → ℝ
  Bi : ℕ → ℕ → ℝ
  Cr : ℕ → ℕ → ℝ
  Ci : ℕ → ℕ → ℝ
  A : ℕ → ℂ

namespace Data
variable (D : Data)

/-- The driving term of column `q` at time `τ`. -/
def bu (τ q : ℕ) : ℂ := dotC 128 (fun k => D.U τ (128 * (q / 512) + k)) (fun k => D.Br k q) (fun k => D.Bi k q)
/-- The state of column `q` after `n` steps. -/
def st (n q : ℕ) : ℂ := run (D.A q) (fun τ => D.bu τ q) 0 n
/-- The output. -/
def y (τ h : ℕ) : ℝ :=
  (∑ p : Fin 512, (D.st (τ + 1) (512 * (h / 128) + p)).re * D.Cr (h % 128) (512 * (h / 128) + p))
    - ∑ p : Fin 512, (D.st (τ + 1) (512 * (h / 128) + p)).im * D.Ci (h % 128) (512 * (h / 128) + p)
/-- The gradient arriving at the state. -/
def ct (τ q : ℕ) : ℂ := cj (dotC 128 (fun k => D.DY τ (128 * (q / 512) + k)) (fun k => D.Cr k q) (fun k => D.Ci k q))
/-- The reversed recurrence after `n` steps. -/
def back (n q : ℕ) : ℂ := run (cj (D.A q)) (fun k => D.ct (2047 - k) q) 0 n
/-- The gradient of the state at time `τ`. -/
def lam (τ q : ℕ) : ℂ := D.back (2048 - τ) q
/-- The gradient of the input, without the part passed through. -/
def du (τ h : ℕ) : ℝ :=
  (∑ p : Fin 512, (D.lam τ (512 * (h / 128) + p)).re * D.Br (h % 128) (512 * (h / 128) + p))
    + ∑ p : Fin 512, (D.lam τ (512 * (h / 128) + p)).im * D.Bi (h % 128) (512 * (h / 128) + p)
/-- The gradients of the output factors. -/
def dc (h q : ℕ) : ℂ := dotC 2048 (fun τ => D.DY τ (128 * (q / 512) + h)) (fun τ => (D.st (τ + 1) q).re) (fun τ => (D.st (τ + 1) q).im)
/-- The gradients of the input factors. -/
def db (h q : ℕ) : ℂ := dotC 2048 (fun τ => D.U τ (128 * (q / 512) + h)) (fun τ => (D.lam τ q).re) (fun τ => (D.lam τ q).im)
/-- The gradient of the multiplier. -/
def da (q : ℕ) : ℂ := ∑ τ : Fin 2048, D.lam τ q * cj (D.st τ q)

end Data

/-! ### Runs in chunks -/

theorem tim_row (t c : ℕ) (hc : c < 8) : tim (8 * t + c) = 256 * c + t := by unfold tim; omega

theorem carry_run (A : ℕ → ℂ) (b : ℕ → ℂ) (E : ℕ → ℕ → ℂ) (p : ℕ) (hE : ∀ c < 8, E c p = run (A p) (fun t => b (256 * c + t)) 0 256) :
    ∀ c ≤ 8, Fwd.carry (fun p => A p ^ 256) E p c = run (A p) b 0 (256 * c) := by
  intro c
  induction c with
  | zero => intro _; rfl
  | succ c ih =>
    intro hc
    rw [run_chunk, Fwd.carry, ih (by omega), hE c (by omega)]

theorem run_from (a : ℂ) (b : ℕ → ℂ) (s : ℂ) (m n : ℕ) : run a (fun t => b (m + t)) (run a b s m) n = run a b s (m + n) := by
  induction n with
  | zero => rfl
  | succ n ih => rw [run_succ, ih, ← Nat.add_assoc, run_succ]

theorem stateRows_eq (A : ℕ → ℂ) (B : ℕ → ℕ → ℂ) (b : ℕ → ℂ) (p : ℕ) (hB : ∀ r < 2048, B r p = b (tim r)) (r : ℕ) (hr : r < 2048) :
    stateRows A B r p = run (A p) b 0 (tim r + 1) := by
  have hc : ∀ c < 8, ∀ n ≤ 256, ∀ s, run (A p) (fun t => B (8 * t + c) p) s n = run (A p) (fun t => b (256 * c + t)) s n := by
    intro c hc n
    induction n with
    | zero => intros; rfl
    | succ n ih =>
      intro hn s
      rw [run_succ, run_succ, ih (by omega), hB _ (by omega), tim_row _ _ hc]
  unfold stateRows
  have h8 : r % 8 < 8 := by omega
  rw [hc _ h8 _ (by omega), carry_run A b _ p (fun c h => hc c h 256 le_rfl 0) _ (by omega), run_from]
  rfl

theorem lamRows_eq (A : ℕ → ℂ) (B : ℕ → ℕ → ℂ) (b : ℕ → ℂ) (p : ℕ) (hB : ∀ r < 2048, B r p = b (tim r)) (r : ℕ) (hr : r < 2048) :
    lamRows A B r p = run (cj (A p)) (fun k => b (2047 - k)) 0 (2048 - tim r) := by
  have hc : ∀ c < 8, ∀ n ≤ 256, ∀ s, run (cj (A p)) (fun t => B (8 * (255 - t) + c) p) s n
      = run (cj (A p)) (fun t => (fun k => b (2047 - k)) (256 * (7 - c) + t)) s n := by
    intro c hc n
    induction n with
    | zero => intros; rfl
    | succ n ih =>
      intro hn s
      rw [run_succ, run_succ, ih (by omega), hB _ (by omega), tim_row _ _ hc]
      simp only [show 256 * c + (255 - n) = 2047 - (256 * (7 - c) + n) by omega]
  unfold lamRows Bwd.lam
  have h8 : r % 8 < 8 := by omega
  rw [hc _ h8 _ (by omega)]
  have := carry_run (fun p => cj (A p)) (fun k => b (2047 - k)) (fun k p => run (cj (A p)) (fun t => B (8 * (255 - t) + (7 - k)) p) 0 256) p
    (fun c h => by rw [hc (7 - c) (by omega) 256 le_rfl 0, show 7 - (7 - c) = c by omega]) (7 - r % 8) (by omega)
  refine (congrArg (fun s => run (cj (A p)) (fun t => b (2047 - (256 * (7 - r % 8) + t))) s (256 - r / 8)) this).trans ?_
  refine (run_from (cj (A p)) (fun k => b (2047 - k)) 0 _ _).trans ?_
  congr 1
  unfold tim
  omega

theorem gradA_eq (L X : ℕ → ℕ → ℂ) (l x : ℕ → ℂ) (p : ℕ) (hL : ∀ r < 2048, L r p = l (tim r)) (hX : ∀ r < 2048, X r p = x (tim r + 1)) (h0 : x 0 = 0) :
    gradA L X p = ∑ τ : Fin 2048, l τ * cj (x τ) := by
  rw [← sum_chunks (fun τ => l τ * cj (x τ))]
  unfold gradA
  refine Finset.sum_congr rfl fun c _ => ?_
  have hc : c.val < 8 := c.isLt
  refine Eq.trans ?_ (Finset.sum_range_succ' (fun t => l (256 * c.val + t) * cj (x (256 * c.val + t))) 255).symm
  congr 1
  · rw [← Finset.sum_range_reflect]
    refine Finset.sum_congr rfl fun k hk => ?_
    have hk' := Finset.mem_range.mp hk
    rw [hL _ (by omega), hX _ (by omega), tim_row _ _ hc, tim_row _ _ hc]
    rw [show 256 * c.val + (255 - (255 - 1 - k)) = 256 * c.val + (k + 1) by omega, show 256 * c.val + (254 - (255 - 1 - k)) + 1 = 256 * c.val + (k + 1) by omega]
  · rw [hL _ (by omega), show tim c.val = 256 * c.val + 0 from by unfold tim; omega]
    by_cases h : c.val = 0
    · rw [if_pos h, h, h0]
    · rw [if_neg h, hX _ (by omega), tim_row _ _ (by omega), show 256 * (c.val - 1) + 255 + 1 = 256 * c.val + 0 by omega]

end Cert.S5
-- ==== Proof.Arr0.lean ====
/- The forward kernel's result arrays, from what it leaves at each grid point. -/
module

public import proofs.«01_k».proof.Proof.Spec
public import Idealize.ShloMosaic.Lib.Pipeline.ValueKit.Geometry

@[expose] public section

set_option maxRecDepth 16384
set_option maxHeartbeats 400000

noncomputable section

namespace Cert.S5

open Idealize.ShloMosaic Idealize.ShloMosaic.TcCoe Cert.KernelIdeal Cert.KernelIdeal.Gen
open Idealize.SL Idealize.ShloMosaic.Pipeline

theorem at0_0 : ∀ t : Fin cfg0.N, win0_0.index t = ![0, t.val] := by decide +kernel
theorem at0_1 : ∀ t : Fin cfg0.N, win0_1.index t = ![0, t.val] := by decide +kernel
theorem at0_2 : ∀ t : Fin cfg0.N, win0_2.index t = ![0, t.val] := by decide +kernel
theorem at0_3 : ∀ t : Fin cfg0.N, win0_3.index t = ![0, t.val] := by decide +kernel
theorem at0_4 : ∀ t : Fin cfg0.N, win0_4.index t = ![0, t.val] := by decide +kernel
theorem at0_5 : ∀ t : Fin cfg0.N, win0_5.index t = ![0, t.val] := by decide +kernel
theorem at0_6 : ∀ t : Fin cfg0.N, win0_6.index t = ![0, t.val] := by decide +kernel
theorem at0_7 : ∀ t : Fin cfg0.N, win0_7.index t = ![0, t.val] := by decide +kernel
theorem at0_8 : ∀ t : Fin cfg0.N, win0_8.index t = ![0, t.val] := by decide +kernel
theorem at0_9 : ∀ t : Fin cfg0.N, win0_9.index t = ![0, t.val] := by decide +kernel
theorem lt_0 (t : Fin cfg0.N) : t.val < 4 := t.isLt.trans_eq (by decide +kernel)

variable {V : (c : Dev nD) → (b : Ref sig .tc) → Buf (Elt Ideal) ((c : Thread nD τ).loc b)} {c : Dev nD} {D : Data}

/-- What the forward kernel's argument arrays hold. -/
structure Args0 (V : (c : Dev nD) → (b : Ref sig .tc) → Buf (Elt Ideal) ((c : Thread nD τ).loc b)) (c : Dev nD) (D : Data) : Prop where
  u : IsR (a := 2048) (b := 512) (V c main_v2) (fun r q => D.U (tim r) q)
  br : IsR (a := 128) (b := 2048) (V c main_arg3) D.Br
  bi : IsR (a := 128) (b := 2048) (V c main_arg4) D.Bi
  cr : IsR (a := 128) (b := 2048) (V c main_arg5) D.Cr
  ci : IsR (a := 128) (b := 2048) (V c main_arg6) D.Ci
  a : IsC (s := S1x2048) (V c main_arg7) (V c main_arg8) (fun i => D.A (i 1).val)

/-- An array whose entries are these reals. -/
def arrOf (a b : ℕ) (U : ℕ → ℕ → ℝ) : (⟨2, ![a, b]⟩ : Shape).Idx → EReal := fun i => ((U (i 0).val (i 1).val : ℝ) : EReal)

theorem Data.bu_blk (D : Data) (τ t p : ℕ) (hp : p < 512) :
    dotC 128 (fun k => D.U τ (t * 128 + k)) (fun k => D.Br k (t * 512 + p)) (fun k => D.Bi k (t * 512 + p)) = D.bu τ (t * 512 + p) := by
  unfold Data.bu
  rw [show (t * 512 + p) / 512 = t by omega, Nat.mul_comm 128 t]

theorem Data.st_blk (D : Data) (t r p : ℕ) (hr : r < 2048) (hp : p < 512) :
    stateRows (fun p => D.A (t * 512 + p)) (fun r p => dotC 128 (fun k => D.U (tim r) (t * 128 + k)) (fun k => D.Br k (t * 512 + p)) (fun k => D.Bi k (t * 512 + p))) r p
      = D.st (tim r + 1) (t * 512 + p) :=
  stateRows_eq _ _ (fun τ => D.bu τ (t * 512 + p)) p (fun r _ => D.bu_blk _ t p hp) r hr

theorem Data.y_blk (D : Data) (t r h : ℕ) (hr : r < 2048) (hh : h < 128) :
    (∑ p : Fin 512, (stateRows (fun p => D.A (t * 512 + p)) (fun r p => dotC 128 (fun k => D.U (tim r) (t * 128 + k)) (fun k => D.Br k (t * 512 + p)) (fun k => D.Bi k (t * 512 + p))) r p).re * D.Cr h (t * 512 + p)) - ∑ p : Fin 512, (stateRows (fun p => D.A (t * 512 + p)) (fun r p => dotC 128 (fun k => D.U (tim r) (t * 128 + k)) (fun k => D.Br k (t * 512 + p)) (fun k => D.Bi k (t * 512 + p))) r p).im * D.Ci h (t * 512 + p) = D.y (tim r) (t * 128 + h) := by
  unfold Data.y
  rw [show (t * 128 + h) / 128 = t by omega, show (t * 128 + h) % 128 = h by omega, Nat.mul_comm 512 t]
  refine congrArg₂ (· - ·) (Finset.sum_congr rfl fun p _ => ?_) (Finset.sum_congr rfl fun p _ => ?_) <;>
    rw [D.st_blk _ _ _ hr p.isLt]

theorem Args0.u_blk (h : Args0 V c D) (t : Fin cfg0.N) : IsR (a := 2048) (b := 128) (iblk0 V c 0 t) (fun r k => D.U (tim r) (t.val * 128 + k)) := by
  intro i
  refine (h.u (((cfg0.win 0).blk t).view.emb i)).trans ?_
  blk_simp [at0_0]

theorem Args0.br_blk (h : Args0 V c D) (t : Fin cfg0.N) : IsR (a := 128) (b := 512) (iblk0 V c 1 t) (fun k p => D.Br k (t.val * 512 + p)) := by
  intro i
  refine (h.br (((cfg0.win 1).blk t).view.emb i)).trans ?_
  blk_simp [at0_1]

theorem Args0.bi_blk (h : Args0 V c D) (t : Fin cfg0.N) : IsR (a := 128) (b := 512) (iblk0 V c 2 t) (fun k p => D.Bi k (t.val * 512 + p)) := by
  intro i
  refine (h.bi (((cfg0.win 2).blk t).view.emb i)).trans ?_
  blk_simp [at0_2]

theorem Args0.cr_blk (h : Args0 V c D) (t : Fin cfg0.N) : IsR (a := 128) (b := 512) (iblk0 V c 3 t) (fun k p => D.Cr k (t.val * 512 + p)) := by
  intro i
  refine (h.cr (((cfg0.win 3).blk t).view.emb i)).trans ?_
  blk_simp [at0_3]

theorem Args0.ci_blk (h : Args0 V c D) (t : Fin cfg0.N) : IsR (a := 128) (b := 512) (iblk0 V c 4 t) (fun k p => D.Ci k (t.val * 512 + p)) := by
  intro i
  refine (h.ci (((cfg0.win 4).blk t).view.emb i)).trans ?_
  blk_simp [at0_4]

theorem Args0.a_blk (h : Args0 V c D) (t : Fin cfg0.N) : IsC (s := S1x512) (iblk0 V c 5 t) (iblk0 V c 6 t) (fun i => D.A (t.val * 512 + (i 1).val)) := by
  refine ⟨fun i => ?_, fun i => ?_⟩
  · refine (h.a.re (((cfg0.win 5).blk t).view.emb i)).trans ?_
    blk_simp [at0_5]
  · refine (h.a.im (((cfg0.win 6).blk t).view.emb i)).trans ?_
    blk_simp [at0_6]

theorem arr0_8 (h : Args0 V c D) : (dat0 V c).arrAt 8 cfg0.N = arrOf 2048 2048 (fun r q => (D.st (tim r + 1) q).re) := by
  refine (dat0 V c).arrAt_eq_of_covers 8 _ (by decide +kernel) fun t hf y => ?_
  unfold arrOf
  blk_simp [at0_8]
  rw [after0_8]
  unfold outsAt0
  dsimp only
  refine ((Fwd.states_out (A := fun p => D.A (t.val * 512 + p)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) (h.u_blk t) (h.br_blk t) (h.bi_blk t) (h.a_blk t)).re y).trans ?_
  dsimp only
  rw [D.st_blk _ _ _ (y 0).isLt (y 1).isLt]

theorem arr0_9 (h : Args0 V c D) : (dat0 V c).arrAt 9 cfg0.N = arrOf 2048 2048 (fun r q => (D.st (tim r + 1) q).im) := by
  refine (dat0 V c).arrAt_eq_of_covers 9 _ (by decide +kernel) fun t hf y => ?_
  unfold arrOf
  blk_simp [at0_9]
  rw [after0_9]
  unfold outsAt0
  dsimp only
  refine ((Fwd.states_out (A := fun p => D.A (t.val * 512 + p)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) (h.u_blk t) (h.br_blk t) (h.bi_blk t) (h.a_blk t)).im y).trans ?_
  dsimp only
  rw [D.st_blk _ _ _ (y 0).isLt (y 1).isLt]

theorem arr0_7 (h : Args0 V c D) : (dat0 V c).arrAt 7 cfg0.N = arrOf 2048 512 (fun r q => D.y (tim r) q) := by
  refine (dat0 V c).arrAt_eq_of_covers 7 _ (by decide +kernel) fun t hf y => ?_
  unfold arrOf
  blk_simp [at0_7]
  rw [after0_7]
  unfold outsAt0
  dsimp only
  refine (Fwd.y_out (A := fun p => D.A (t.val * 512 + p)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) (h.u_blk t) (h.br_blk t) (h.bi_blk t) (h.cr_blk t) (h.ci_blk t) (h.a_blk t) y).trans ?_
  exact congrArg (fun x : ℝ => (x : EReal)) (D.y_blk t.val (y 0).val (y 1).val (y 0).isLt (y 1).isLt)

end Cert.S5

end
-- ==== Proof.Arr1.lean ====
/- The backward kernel's result arrays, from what it leaves at each grid point. -/
module

public import proofs.«01_k».proof.Proof.Arr0
public import Idealize.ShloMosaic.Lib.Pipeline.ValueKit.Geometry

@[expose] public section

set_option maxRecDepth 16384
set_option maxHeartbeats 400000

noncomputable section

namespace Cert.S5

open Idealize.ShloMosaic Idealize.ShloMosaic.TcCoe Cert.KernelIdeal Cert.KernelIdeal.Gen
open Idealize.SL Idealize.ShloMosaic.Pipeline

theorem at1_0 : ∀ t : Fin cfg1.N, win1_0.index t = ![0, t.val] := by decide +kernel
theorem at1_1 : ∀ t : Fin cfg1.N, win1_1.index t = ![0, t.val] := by decide +kernel
theorem at1_2 : ∀ t : Fin cfg1.N, win1_2.index t = ![0, t.val] := by decide +kernel
theorem at1_3 : ∀ t : Fin cfg1.N, win1_3.index t = ![0, t.val] := by decide +kernel
theorem at1_4 : ∀ t : Fin cfg1.N, win1_4.index t = ![0, t.val] := by decide +kernel
theorem at1_5 : ∀ t : Fin cfg1.N, win1_5.index t = ![0, t.val] := by decide +kernel
theorem at1_6 : ∀ t : Fin cfg1.N, win1_6.index t = ![0, t.val] := by decide +kernel
theorem at1_7 : ∀ t : Fin cfg1.N, win1_7.index t = ![0, t.val] := by decide +kernel
theorem at1_8 : ∀ t : Fin cfg1.N, win1_8.index t = ![0, t.val] := by decide +kernel
theorem at1_9 : ∀ t : Fin cfg1.N, win1_9.index t = ![0, t.val] := by decide +kernel
theorem at1_10 : ∀ t : Fin cfg1.N, win1_10.index t = ![0, t.val] := by decide +kernel
theorem at1_11 : ∀ t : Fin cfg1.N, win1_11.index t = ![0, t.val] := by decide +kernel
theorem at1_12 : ∀ t : Fin cfg1.N, win1_12.index t = ![0, t.val] := by decide +kernel
theorem at1_13 : ∀ t : Fin cfg1.N, win1_13.index t = ![0, t.val] := by decide +kernel
theorem at1_14 : ∀ t : Fin cfg1.N, win1_14.index t = ![0, t.val] := by decide +kernel
theorem at1_15 : ∀ t : Fin cfg1.N, win1_15.index t = ![0, t.val] := by decide +kernel
theorem at1_16 : ∀ t : Fin cfg1.N, win1_16.index t = ![0, t.val] := by decide +kernel
theorem at1_17 : ∀ t : Fin cfg1.N, win1_17.index t = ![0, t.val] := by decide +kernel
theorem lt_1 (t : Fin cfg1.N) : t.val < 4 := t.isLt.trans_eq (by decide +kernel)

variable {V : (c : Dev nD) → (b : Ref sig .tc) → Buf (Elt Ideal) ((c : Thread nD τ).loc b)} {c : Dev nD} {D : Data}

/-- What the backward kernel's argument arrays hold. -/
structure Args1 (V : (c : Dev nD) → (b : Ref sig .tc) → Buf (Elt Ideal) ((c : Thread nD τ).loc b)) (c : Dev nD) (D : Data) : Prop where
  u : IsR (a := 2048) (b := 512) (V c main_v2) (fun r q => D.U (tim r) q)
  dy : IsR (a := 2048) (b := 512) (V c main_v6) (fun r q => D.DY (tim r) q)
  x : IsG (a := 2048) (b := 2048) (V c main_v3_1) (V c main_v3_2) (fun r q => D.st (tim r + 1) q)
  br : IsR (a := 128) (b := 2048) (V c main_arg3) D.Br
  bi : IsR (a := 128) (b := 2048) (V c main_arg4) D.Bi
  cr : IsR (a := 128) (b := 2048) (V c main_arg5) D.Cr
  ci : IsR (a := 128) (b := 2048) (V c main_arg6) D.Ci
  a : IsC (s := S1x2048) (V c main_arg7) (V c main_arg8) (fun i => D.A (i 1).val)

theorem Data.ct_blk (D : Data) (τ t p : ℕ) (hp : p < 512) :
    cj (dotC 128 (fun k => D.DY τ (t * 128 + k)) (fun k => D.Cr k (t * 512 + p)) (fun k => D.Ci k (t * 512 + p))) = D.ct τ (t * 512 + p) := by
  unfold Data.ct
  rw [show (t * 512 + p) / 512 = t by omega, Nat.mul_comm 128 t]

theorem Data.lam_blk (D : Data) (t r p : ℕ) (hr : r < 2048) (hp : p < 512) :
    lamRows (fun p => D.A (t * 512 + p)) (backIn (fun r k => D.DY (tim r) (t * 128 + k)) (fun k p => D.Cr k (t * 512 + p)) (fun k p => D.Ci k (t * 512 + p))) r p
      = D.lam (tim r) (t * 512 + p) :=
  lamRows_eq _ _ (fun τ => D.ct τ (t * 512 + p)) p (fun r _ => D.ct_blk _ t p hp) r hr

theorem Data.du_blk (D : Data) (t r h : ℕ) (hr : r < 2048) (hh : h < 128) :
    (∑ p : Fin 512, (lamRows (fun p => D.A (t * 512 + p)) (backIn (fun r k => D.DY (tim r) (t * 128 + k)) (fun k p => D.Cr k (t * 512 + p)) (fun k p => D.Ci k (t * 512 + p))) r p).re * D.Br h (t * 512 + p)) + ∑ p : Fin 512, (lamRows (fun p => D.A (t * 512 + p)) (backIn (fun r k => D.DY (tim r) (t * 128 + k)) (fun k p => D.Cr k (t * 512 + p)) (fun k p => D.Ci k (t * 512 + p))) r p).im * D.Bi h (t * 512 + p) = D.du (tim r) (t * 128 + h) := by
  unfold Data.du
  rw [show (t * 128 + h) / 128 = t by omega, show (t * 128 + h) % 128 = h by omega, Nat.mul_comm 512 t]
  refine congrArg₂ (· + ·) (Finset.sum_congr rfl fun p _ => ?_) (Finset.sum_congr rfl fun p _ => ?_) <;>
    rw [D.lam_blk _ _ _ hr p.isLt]

theorem Data.dc_blk (D : Data) (t h p : ℕ) (hp : p < 512) :
    dotC 2048 (fun r => D.DY (tim r) (t * 128 + h)) (fun r => (D.st (tim r + 1) (t * 512 + p)).re) (fun r => (D.st (tim r + 1) (t * 512 + p)).im)
      = D.dc h (t * 512 + p) := by
  unfold Data.dc dotC
  rw [show (t * 512 + p) / 512 = t by omega, Nat.mul_comm 128 t]
  exact congrArg₂ Complex.mk (sum_rows (fun τ => D.DY τ (t * 128 + h) * (D.st (τ + 1) (t * 512 + p)).re)) (sum_rows (fun τ => D.DY τ (t * 128 + h) * (D.st (τ + 1) (t * 512 + p)).im))

theorem Data.db_blk (D : Data) (t h p : ℕ) (hp : p < 512) :
    dotC 2048 (fun r => D.U (tim r) (t * 128 + h)) (fun r => (lamRows (fun p => D.A (t * 512 + p)) (backIn (fun r k => D.DY (tim r) (t * 128 + k)) (fun k p => D.Cr k (t * 512 + p)) (fun k p => D.Ci k (t * 512 + p))) r p).re) (fun r => (lamRows (fun p => D.A (t * 512 + p)) (backIn (fun r k => D.DY (tim r) (t * 128 + k)) (fun k p => D.Cr k (t * 512 + p)) (fun k p => D.Ci k (t * 512 + p))) r p).im)
      = D.db h (t * 512 + p) := by
  unfold Data.db dotC
  rw [show (t * 512 + p) / 512 = t by omega, Nat.mul_comm 128 t]
  have e : ∀ r : Fin 2048, (lamRows (fun p => D.A (t * 512 + p)) (backIn (fun r k => D.DY (tim r) (t * 128 + k)) (fun k p => D.Cr k (t * 512 + p)) (fun k p => D.Ci k (t * 512 + p))) r p) = D.lam (tim r) (t * 512 + p) := fun r => D.lam_blk t r.val p r.isLt hp
  simp only [e]
  exact congrArg₂ Complex.mk (sum_rows (fun τ => D.U τ (t * 128 + h) * (D.lam τ (t * 512 + p)).re)) (sum_rows (fun τ => D.U τ (t * 128 + h) * (D.lam τ (t * 512 + p)).im))

theorem Data.da_blk (D : Data) (t p : ℕ) (hp : p < 512) :
    gradA (lamRows (fun p => D.A (t * 512 + p)) (backIn (fun r k => D.DY (tim r) (t * 128 + k)) (fun k p => D.Cr k (t * 512 + p)) (fun k p => D.Ci k (t * 512 + p)))) (fun r p => D.st (tim r + 1) (t * 512 + p)) p = D.da (t * 512 + p) :=
  gradA_eq _ _ (fun τ => D.lam τ (t * 512 + p)) (fun n => D.st n (t * 512 + p)) _ (fun r hr => D.lam_blk t r _ hr hp) (fun _ _ => rfl) rfl

theorem Args1.u_blk (h : Args1 V c D) (t : Fin cfg1.N) : IsR (a := 2048) (b := 128) (iblk1 V c 0 t) (fun r k => D.U (tim r) (t.val * 128 + k)) := by
  intro i
  refine (h.u (((cfg1.win 0).blk t).view.emb i)).trans ?_
  blk_simp [at1_0]

theorem Args1.dy_blk (h : Args1 V c D) (t : Fin cfg1.N) : IsR (a := 2048) (b := 128) (iblk1 V c 1 t) (fun r k => D.DY (tim r) (t.val * 128 + k)) := by
  intro i
  refine (h.dy (((cfg1.win 1).blk t).view.emb i)).trans ?_
  blk_simp [at1_1]

theorem Args1.x_blk (h : Args1 V c D) (t : Fin cfg1.N) : IsG (a := 2048) (b := 512) (iblk1 V c 3 t) (iblk1 V c 4 t) (fun r p => D.st (tim r + 1) (t.val * 512 + p)) := by
  refine ⟨fun i => ?_, fun i => ?_⟩
  · refine (h.x.re (((cfg1.win 3).blk t).view.emb i)).trans ?_
    blk_simp [at1_3]
  · refine (h.x.im (((cfg1.win 4).blk t).view.emb i)).trans ?_
    blk_simp [at1_4]

theorem Args1.br_blk (h : Args1 V c D) (t : Fin cfg1.N) : IsR (a := 128) (b := 512) (iblk1 V c 5 t) (fun k p => D.Br k (t.val * 512 + p)) := by
  intro i
  refine (h.br (((cfg1.win 5).blk t).view.emb i)).trans ?_
  blk_simp [at1_5]

theorem Args1.bi_blk (h : Args1 V c D) (t : Fin cfg1.N) : IsR (a := 128) (b := 512) (iblk1 V c 6 t) (fun k p => D.Bi k (t.val * 512 + p)) := by
  intro i
  refine (h.bi (((cfg1.win 6).blk t).view.emb i)).trans ?_
  blk_simp [at1_6]

theorem Args1.cr_blk (h : Args1 V c D) (t : Fin cfg1.N) : IsR (a := 128) (b := 512) (iblk1 V c 7 t) (fun k p => D.Cr k (t.val * 512 + p)) := by
  intro i
  refine (h.cr (((cfg1.win 7).blk t).view.emb i)).trans ?_
  blk_simp [at1_7]

theorem Args1.ci_blk (h : Args1 V c D) (t : Fin cfg1.N) : IsR (a := 128) (b := 512) (iblk1 V c 8 t) (fun k p => D.Ci k (t.val * 512 + p)) := by
  intro i
  refine (h.ci (((cfg1.win 8).blk t).view.emb i)).trans ?_
  blk_simp [at1_8]

theorem Args1.a_blk (h : Args1 V c D) (t : Fin cfg1.N) : IsC (s := S1x512) (iblk1 V c 9 t) (iblk1 V c 10 t) (fun i => D.A (t.val * 512 + (i 1).val)) := by
  refine ⟨fun i => ?_, fun i => ?_⟩
  · refine (h.a.re (((cfg1.win 9).blk t).view.emb i)).trans ?_
    blk_simp [at1_9]
  · refine (h.a.im (((cfg1.win 10).blk t).view.emb i)).trans ?_
    blk_simp [at1_10]

theorem arr1_11 (h : Args1 V c D) : (dat1 V c).arrAt 11 cfg1.N = fun i : S2048x512.Idx => ((D.du (tim (i 0).val) (i 1).val : ℝ) : EReal) + V c main_v9 i := by
  refine (dat1 V c).arrAt_eq_of_covers 11 _ (by decide +kernel) fun t hf y => ?_
  blk_simp [at1_11]
  rw [after1_11]
  unfold outsAt1
  dsimp only
  refine (Bwd.du_out (A := fun p => D.A (t.val * 512 + p)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.dy_blk t) (h.x_blk t) (h.cr_blk t) (h.ci_blk t) (h.a_blk t) (h.br_blk t) (h.bi_blk t) y).trans ?_
  refine congrArg₂ (fun x y : EReal => x + y) ?_ ?_
  · exact congrArg (fun x : ℝ => (x : EReal)) (D.du_blk t.val (y 0).val (y 1).val (y 0).isLt (y 1).isLt)
  · blk_simp [iblk1]
    refine congrArg (V c main_v9) ?_
    blk_ext [at1_11, at1_2]

theorem arr1_12 (h : Args1 V c D) : (dat1 V c).arrAt 12 cfg1.N = arrOf 128 2048 (fun h q => (D.dc h q).re) := by
  refine (dat1 V c).arrAt_eq_of_covers 12 _ (by decide +kernel) fun t hf y => ?_
  unfold arrOf
  blk_simp [at1_12]
  rw [after1_12]
  unfold outsAt1
  dsimp only
  refine ((Bwd.dct_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.dy_blk t) (h.x_blk t)).re y).trans ?_
  exact congrArg (fun z : ℂ => ((z.re : ℝ) : EReal)) (D.dc_blk t.val (y 0).val (y 1).val (y 1).isLt)

theorem arr1_13 (h : Args1 V c D) : (dat1 V c).arrAt 13 cfg1.N = arrOf 128 2048 (fun h q => (D.dc h q).im) := by
  refine (dat1 V c).arrAt_eq_of_covers 13 _ (by decide +kernel) fun t hf y => ?_
  unfold arrOf
  blk_simp [at1_13]
  rw [after1_13]
  unfold outsAt1
  dsimp only
  refine ((Bwd.dct_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.dy_blk t) (h.x_blk t)).im y).trans ?_
  exact congrArg (fun z : ℂ => ((z.im : ℝ) : EReal)) (D.dc_blk t.val (y 0).val (y 1).val (y 1).isLt)

theorem arr1_14 (h : Args1 V c D) : (dat1 V c).arrAt 14 cfg1.N = arrOf 128 2048 (fun h q => (D.db h q).re) := by
  refine (dat1 V c).arrAt_eq_of_covers 14 _ (by decide +kernel) fun t hf y => ?_
  unfold arrOf
  blk_simp [at1_14]
  rw [after1_14]
  unfold outsAt1
  dsimp only
  refine ((Bwd.dbt_out (A := fun p => D.A (t.val * 512 + p)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.u_blk t) (h.dy_blk t) (h.x_blk t) (h.cr_blk t) (h.ci_blk t) (h.a_blk t)).re y).trans ?_
  exact congrArg (fun z : ℂ => ((z.re : ℝ) : EReal)) (D.db_blk t.val (y 0).val (y 1).val (y 1).isLt)

theorem arr1_15 (h : Args1 V c D) : (dat1 V c).arrAt 15 cfg1.N = arrOf 128 2048 (fun h q => (D.db h q).im) := by
  refine (dat1 V c).arrAt_eq_of_covers 15 _ (by decide +kernel) fun t hf y => ?_
  unfold arrOf
  blk_simp [at1_15]
  rw [after1_15]
  unfold outsAt1
  dsimp only
  refine ((Bwd.dbt_out (A := fun p => D.A (t.val * 512 + p)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.u_blk t) (h.dy_blk t) (h.x_blk t) (h.cr_blk t) (h.ci_blk t) (h.a_blk t)).im y).trans ?_
  exact congrArg (fun z : ℂ => ((z.im : ℝ) : EReal)) (D.db_blk t.val (y 0).val (y 1).val (y 1).isLt)

theorem arr1_16 (h : Args1 V c D) : (dat1 V c).arrAt 16 cfg1.N = arrOf 1 2048 (fun _ q => (D.da q).re) := by
  refine (dat1 V c).arrAt_eq_of_covers 16 _ (by decide +kernel) fun t hf y => ?_
  unfold arrOf
  blk_simp [at1_16]
  rw [after1_16]
  unfold outsAt1
  dsimp only
  refine ((Bwd.da_out (A := fun p => D.A (t.val * 512 + p)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.dy_blk t) (h.x_blk t) (h.cr_blk t) (h.ci_blk t) (h.a_blk t)).re y).trans ?_
  exact congrArg (fun z : ℂ => ((z.re : ℝ) : EReal)) (D.da_blk t.val (y 1).val (y 1).isLt)

theorem arr1_17 (h : Args1 V c D) : (dat1 V c).arrAt 17 cfg1.N = arrOf 1 2048 (fun _ q => (D.da q).im) := by
  refine (dat1 V c).arrAt_eq_of_covers 17 _ (by decide +kernel) fun t hf y => ?_
  unfold arrOf
  blk_simp [at1_17]
  rw [after1_17]
  unfold outsAt1
  dsimp only
  refine ((Bwd.da_out (A := fun p => D.A (t.val * 512 + p)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (h.dy_blk t) (h.x_blk t) (h.cr_blk t) (h.ci_blk t) (h.a_blk t)).im y).trans ?_
  exact congrArg (fun z : ℂ => ((z.im : ℝ) : EReal)) (D.da_blk t.val (y 1).val (y 1).isLt)

end Cert.S5

end
-- ==== Proof.KHost.lean ====
/- The kernel's host operations: rows put in the order of the chunks, and back. -/
module

public import proofs.«01_k».proof.Proof.Arr1
public import Idealize.ShloMosaic.Lib.StableHlo.RunLoop
public import Idealize.ShloMosaic.Lib.StableHlo.RunRead

@[expose] public section

set_option maxRecDepth 16384

noncomputable section

namespace Cert.S5

open Idealize.ShloMosaic Idealize.ShloMosaic.TcCoe Cert.KernelIdeal Cert.KernelIdeal.Gen
open Idealize.ShloMosaic.StableHlo Idealize.ShloMosaic.Tactic

/-- Rows in the order of the chunks. -/
theorem toRows {α : Type} (x : S2048x512.Idx → α) (j : S2048x512.Idx) :
    shapeCast S2048x512 (transpose S256x8x512 [1, 0, 2] (shapeCast S8x256x512 x shapeCasts_S2048x512_S8x256x512) transposes_S8x256x512_S256x8x512_1_0_2) shapeCasts_S256x8x512_S2048x512 j
      = x (ix2 ⟨tim (j 0).val, tim_lt (j 0).isLt⟩ (j 1)) := by
  simp only [pointwise]
  refine congrArg x (congrArg₂ ix2 (Fin.ext ?_) rfl)
  unfold tim
  dsimp only
  omega

/-- Rows back in the order of time. -/
theorem toTime {α : Type} (x : S2048x512.Idx → α) (j : S2048x512.Idx) :
    shapeCast S2048x512 (transpose S8x256x512 [1, 0, 2] (shapeCast S256x8x512 x shapeCasts_S2048x512_S256x8x512) transposes_S256x8x512_S8x256x512_1_0_2) shapeCasts_S8x256x512_S2048x512 j
      = x (ix2 ⟨rowOf (j 0).val, rowOf_lt (j 0).isLt⟩ (j 1)) := by
  simp only [pointwise]
  refine congrArg x (congrArg₂ ix2 (Fin.ext ?_) rfl)
  unfold rowOf
  dsimp only
  omega

theorem host0_v2 (V0 : Valuation τ sig (Elt Ideal)) : after hostOps0 V0 (Proc.devRef .tc main_v2) =
    shapeCast S2048x512 (transpose S256x8x512 [1, 0, 2] (shapeCast S8x256x512 (V0 (Proc.devRef .tc main_arg0)) shapeCasts_S2048x512_S8x256x512) transposes_S8x256x512_S256x8x512_1_0_2) shapeCasts_S256x8x512_S2048x512 := by
  simp only [hostOps0]
  after_results_entrywise []

theorem host1_v6 (V0 : Valuation τ sig (Elt Ideal)) : after hostOps1 V0 (Proc.devRef .tc main_v6) =
    shapeCast S2048x512 (transpose S256x8x512 [1, 0, 2] (shapeCast S8x256x512 (V0 (Proc.devRef .tc main_arg1)) shapeCasts_S2048x512_S8x256x512) transposes_S8x256x512_S256x8x512_1_0_2) shapeCasts_S256x8x512_S2048x512 := by
  simp only [hostOps1]
  after_results_entrywise []

theorem host1_v9 (V0 : Valuation τ sig (Elt Ideal)) : after hostOps1 V0 (Proc.devRef .tc main_v9) =
    shapeCast S2048x512 (transpose S256x8x512 [1, 0, 2] (shapeCast S8x256x512 (V0 (Proc.devRef .tc main_arg2)) shapeCasts_S2048x512_S8x256x512) transposes_S8x256x512_S256x8x512_1_0_2) shapeCasts_S256x8x512_S2048x512 := by
  simp only [hostOps1]
  after_results_entrywise []

theorem host2_v13 (V0 : Valuation τ sig (Elt Ideal)) : after hostOps2 V0 (Proc.devRef .tc main_v13) =
    shapeCast S2048x512 (transpose S8x256x512 [1, 0, 2] (shapeCast S256x8x512 (V0 (Proc.devRef .tc main_v3_0)) shapeCasts_S2048x512_S256x8x512) transposes_S256x8x512_S8x256x512_1_0_2) shapeCasts_S8x256x512_S2048x512 := by
  simp only [hostOps2]
  after_results_entrywise []

theorem host2_v16 (V0 : Valuation τ sig (Elt Ideal)) : after hostOps2 V0 (Proc.devRef .tc main_v16) =
    shapeCast S2048x512 (transpose S8x256x512 [1, 0, 2] (shapeCast S256x8x512 (V0 (Proc.devRef .tc main_v10_0)) shapeCasts_S2048x512_S256x8x512) transposes_S256x8x512_S8x256x512_1_0_2) shapeCasts_S8x256x512_S2048x512 := by
  simp only [hostOps2]
  after_results_entrywise []

theorem IsR.of_eq {a b : ℕ} {v w : (⟨2, ![a, b]⟩ : Shape).Idx → EReal} {U : ℕ → ℕ → ℝ} (h : v = w) (hw : IsR w U) : IsR v U := h ▸ hw
theorem IsC.of_eq {s : Shape} {v w v' w' : FVec Ideal s .f32} {Z : s.Idx → ℂ} (h : v = v') (h' : w = w') (hw : IsC v' w' Z) : IsC v w Z := h ▸ h' ▸ hw

variable (m : (ℓ : Loc nD τ sig) → Buf (Elt Ideal) ℓ) (ρ : Dev nD → PrngReg) (c : Dev nD) {D : Data}

/-- The launch memory's arguments hold the data. -/
structure Holds (D : Data) : Prop where
  u : IsR (a := 2048) (b := 512) (m ((c : Thread nD τ).loc main_arg0)) D.U
  dy : IsR (a := 2048) (b := 512) (m ((c : Thread nD τ).loc main_arg1)) D.DY
  br : IsR (a := 128) (b := 2048) (m ((c : Thread nD τ).loc main_arg3)) D.Br
  bi : IsR (a := 128) (b := 2048) (m ((c : Thread nD τ).loc main_arg4)) D.Bi
  cr : IsR (a := 128) (b := 2048) (m ((c : Thread nD τ).loc main_arg5)) D.Cr
  ci : IsR (a := 128) (b := 2048) (m ((c : Thread nD τ).loc main_arg6)) D.Ci
  a : IsC (s := S1x2048) (m ((c : Thread nD τ).loc main_arg7)) (m ((c : Thread nD τ).loc main_arg8)) (fun i => D.A (i 1).val)

variable {m c}

theorem Holds.v2 (h : Holds m c D) : IsR (a := 2048) (b := 512) (W1 m ρ c (Proc.devRef .tc main_v2)) (fun r q => D.U (tim r) q) := fun i =>
  ((congrFun (host0_v2 (W0 m ρ c)) i).trans (toRows _ i)).trans (h.u _)

theorem Holds.args0 (h : Holds m c D) : Args0 (V1 m ρ) c D where
  u := h.v2 ρ
  br := h.br.of_eq (W1_args m ρ c main_arg3 (by decide))
  bi := h.bi.of_eq (W1_args m ρ c main_arg4 (by decide))
  cr := h.cr.of_eq (W1_args m ρ c main_arg5 (by decide))
  ci := h.ci.of_eq (W1_args m ρ c main_arg6 (by decide))
  a := h.a.of_eq (W1_args m ρ c main_arg7 (by decide)) (W1_args m ρ c main_arg8 (by decide))

theorem v2_kept : W3 m ρ c (Proc.devRef .tc main_v2) = W1 m ρ c (Proc.devRef .tc main_v2) :=
  (W3_of m ρ c main_v2 (by decide)).trans (W2_of m ρ c main_v2 (by decide))

theorem Holds.args1 (h : Holds m c D) : Args1 (V3 m ρ) c D where
  u := (h.v2 ρ).of_eq (v2_kept ρ)
  dy := fun i => ((congrFun (host1_v6 (W2 m ρ c)) i).trans (toRows _ i)).trans
    ((congrFun (W2_args m ρ c main_arg1 (by decide)) _).trans (h.dy _))
  x := ⟨fun i => congrFun ((W3_of m ρ c main_v3_1 (by decide)).trans ((W2_arr m ρ c 8).trans (arr0_8 (h.args0 ρ)))) i,
    fun i => congrFun ((W3_of m ρ c main_v3_2 (by decide)).trans ((W2_arr m ρ c 9).trans (arr0_9 (h.args0 ρ)))) i⟩
  br := h.br.of_eq (W3_args m ρ c main_arg3 (by decide))
  bi := h.bi.of_eq (W3_args m ρ c main_arg4 (by decide))
  cr := h.cr.of_eq (W3_args m ρ c main_arg5 (by decide))
  ci := h.ci.of_eq (W3_args m ρ c main_arg6 (by decide))
  a := h.a.of_eq (W3_args m ρ c main_arg7 (by decide)) (W3_args m ρ c main_arg8 (by decide))

theorem Holds.v13 (h : Holds m c D) : W5 m ρ c (Proc.devRef .tc main_v13) = arrOf 2048 512 D.y := by
  refine (host2_v13 (W4 m ρ c)).trans (funext fun i => (toTime _ i).trans ?_)
  refine (congrFun ((W4_of m ρ c main_v3_0 (by decide)).trans ((W3_of m ρ c main_v3_0 (by decide)).trans ((W2_arr m ρ c 7).trans (arr0_7 (h.args0 ρ))))) _).trans ?_
  unfold arrOf
  exact congrArg (fun n => ((D.y n (i 1).val : ℝ) : EReal)) (tim_rowOf (i 0).isLt)

theorem v9_at (i : S2048x512.Idx) : W3 m ρ c (Proc.devRef .tc main_v9) i
    = m ((c : Thread nD τ).loc main_arg2) (ix2 ⟨tim (i 0).val, tim_lt (i 0).isLt⟩ (i 1)) :=
  ((congrFun (host1_v9 (W2 m ρ c)) i).trans (toRows _ i)).trans (congrFun (W2_args m ρ c main_arg2 (by decide)) _)

theorem Holds.v16 (h : Holds m c D) : W5 m ρ c (Proc.devRef .tc main_v16) = fun i : S2048x512.Idx =>
    ((D.du (i 0).val (i 1).val : ℝ) : EReal) + m ((c : Thread nD τ).loc main_arg2) i := by
  refine (host2_v16 (W4 m ρ c)).trans (funext fun i => (toTime _ i).trans ?_)
  refine (congrFun ((W4_arr m ρ c 11).trans (arr1_11 (h.args1 ρ))) _).trans ?_
  refine congrArg₂ (fun x y : EReal => x + y) (congrArg (fun n => ((D.du n (i 1).val : ℝ) : EReal)) (tim_rowOf (i 0).isLt)) ?_
  refine (v9_at ρ _).trans (congrArg (m ((c : Thread nD τ).loc main_arg2)) ?_)
  refine Eq.trans ?_ (eq_ix2 i).symm
  exact congrArg₂ ix2 (Fin.ext (tim_rowOf (i 0).isLt)) rfl

theorem Holds.v10_1 (h : Holds m c D) : W5 m ρ c (Proc.devRef .tc main_v10_1) = arrOf 128 2048 (fun h q => (D.dc h q).re) :=
  (W5_of m ρ c main_v10_1 (by decide)).trans ((W4_arr m ρ c 12).trans (arr1_12 (h.args1 ρ)))

theorem Holds.v10_2 (h : Holds m c D) : W5 m ρ c (Proc.devRef .tc main_v10_2) = arrOf 128 2048 (fun h q => (D.dc h q).im) :=
  (W5_of m ρ c main_v10_2 (by decide)).trans ((W4_arr m ρ c 13).trans (arr1_13 (h.args1 ρ)))

theorem Holds.v10_3 (h : Holds m c D) : W5 m ρ c (Proc.devRef .tc main_v10_3) = arrOf 128 2048 (fun h q => (D.db h q).re) :=
  (W5_of m ρ c main_v10_3 (by decide)).trans ((W4_arr m ρ c 14).trans (arr1_14 (h.args1 ρ)))

theorem Holds.v10_4 (h : Holds m c D) : W5 m ρ c (Proc.devRef .tc main_v10_4) = arrOf 128 2048 (fun h q => (D.db h q).im) :=
  (W5_of m ρ c main_v10_4 (by decide)).trans ((W4_arr m ρ c 15).trans (arr1_15 (h.args1 ρ)))

theorem Holds.v10_5 (h : Holds m c D) : W5 m ρ c (Proc.devRef .tc main_v10_5) = arrOf 1 2048 (fun _ q => (D.da q).re) :=
  (W5_of m ρ c main_v10_5 (by decide)).trans ((W4_arr m ρ c 16).trans (arr1_16 (h.args1 ρ)))

theorem Holds.v10_6 (h : Holds m c D) : W5 m ρ c (Proc.devRef .tc main_v10_6) = arrOf 1 2048 (fun _ q => (D.da q).im) :=
  (W5_of m ρ c main_v10_6 (by decide)).trans ((W4_arr m ρ c 17).trans (arr1_17 (h.args1 ρ)))

end Cert.S5

end
-- ==== Proof.KRun.lean ====
/- The kernel's run, with every buffer read at the end. -/
module

public import proofs.«01_k».proof.Proof.Gen.KernelIdeal.Frame

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with every buffer at the contents of the last boundary. -/
theorem kernel_run : θ_run defs (onTc (τ := τ) (main (F := F))) ⟨m, fun _ => 0, ρ⟩ (fun r =>
    (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.S5

end
-- ==== Proof.RefOps.lean ====
/- The reference program as stretches of host operations and its two counted loops: the operation lists, the equations of the program's windows
   with them, and what each stretch between the loops writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Tactic

@[expose] public section

set_option maxRecDepth 1400

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## @main as segments and as a chain of items (Lib/Pipeline/Regions.lean `θ_run_regions_kit`, `Pipeline.chain`) -/

/-- 35 host operations of @main, in order. -/
abbrev hostOps0 : List (HloOp τ sig (Elt F)) :=
  ( StableHlo.unary main_arg3 main_v0 ((extf .f32 · bitsLt_bf16_f32) : (⟨S128x2048, .bf16⟩ : BufTy).Contents (Elt F) → (⟨S128x2048, .f32⟩ : BufTy).Contents (Elt F))
  :: StableHlo.unary main_arg4 main_v1 ((extf .f32 · bitsLt_bf16_f32) : (⟨S128x2048, .bf16⟩ : BufTy).Contents (Elt F) → (⟨S128x2048, .f32⟩ : BufTy).Contents (Elt F))
  :: StableHlo.unary main_arg5 main_v2 ((extf .f32 · bitsLt_bf16_f32) : (⟨S128x2048, .bf16⟩ : BufTy).Contents (Elt F) → (⟨S128x2048, .f32⟩ : BufTy).Contents (Elt F))
  :: StableHlo.unary main_arg6 main_v3 ((extf .f32 · bitsLt_bf16_f32) : (⟨S128x2048, .bf16⟩ : BufTy).Contents (Elt F) → (⟨S128x2048, .f32⟩ : BufTy).Contents (Elt F))
  :: StableHlo.reshape main_arg0 main_v4 (rfl : (.f32 : EltTy) = .f32) shapeCasts_S2048x512_S2048x4x128
  :: StableHlo.reshape main_v0 main_v5 (rfl : (.f32 : EltTy) = .f32) shapeCasts_S128x2048_S128x4x512
  :: StableHlo.binary main_v5 main_v4 main_v6 ((fun l r => Host.dotGeneral dot_S128x4x512_S2048x4x128_S4x512x2048_0_2_2_0_1_1 none l r) : (⟨S128x4x512, .f32⟩ : BufTy).Contents (Elt F) → (⟨S2048x4x128, .f32⟩ : BufTy).Contents (Elt F) → (⟨S4x512x2048, .f32⟩ : BufTy).Contents (Elt F))
  :: StableHlo.unary main_v6 main_v7 ((transpose S2048x4x512 [2, 0, 1] · transposes_S4x512x2048_S2048x4x512_2_0_1) : (⟨S4x512x2048, .f32⟩ : BufTy).Contents (Elt F) → (⟨S2048x4x512, .f32⟩ : BufTy).Contents (Elt F))
  :: StableHlo.reshape main_v1 main_v8 (rfl : (.f32 : EltTy) = .f32) shapeCasts_S128x2048_S128x4x512
  :: StableHlo.binary main_v8 main_v4 main_v9 ((fun l r => Host.dotGeneral dot_S128x4x512_S2048x4x128_S4x512x2048_0_2_2_0_1_1 none l r) : (⟨S128x4x512, .f32⟩ : BufTy).Contents (Elt F) → (⟨S2048x4x128, .f32⟩ : BufTy).Contents (Elt F) → (⟨S4x512x2048, .f32⟩ : BufTy).Contents (Elt F))
  :: StableHlo.unary main_v9 main_v10 ((transpose S2048x4x512 [2, 0, 1] · transposes_S4x512x2048_S2048x4x512_2_0_1) : (⟨S4x512x2048, .f32⟩ : BufTy).Contents (Elt F) → (⟨S2048x4x512, .f32⟩ : BufTy).Contents (Elt F))
  :: StableHlo.reshape main_arg7 main_v11 (rfl : (.f32 : EltTy) = .f32) shapeCasts_S1x2048_S4x512
  :: StableHlo.reshape main_arg8 main_v12 (rfl : (.f32 : EltTy) = .f32) shapeCasts_S1x2048_S4x512
  :: StableHlo.nullary main_cst (constant S_ .f32 0x00000000#32)
  :: StableHlo.unary main_cst main_v13 (broadcastInDim S4x512 ![] bcast_S_S4x512 : (⟨S_, .f32⟩ : BufTy).Contents (Elt F) → (⟨S4x512, .f32⟩ : BufTy).Contents (Elt F))
  :: StableHlo.nullary main_cst_0 (constant S_ .f32 0x00000000#32)
  :: StableHlo.unary main_cst_0 main_v14 (broadcastInDim S2048x4x512 ![] bcast_S_S2048x4x512 : (⟨S_, .f32⟩ : BufTy).Contents (Elt F) → (⟨S2048x4x512, .f32⟩ : BufTy).Contents (Elt F))
  :: StableHlo.nullary main_cst_1 (constant S_ .f32 0x00000000#32)
  :: StableHlo.unary main_cst_1 main_v15 (broadcastInDim S2048x4x512 ![] bcast_S_S2048x4x512 : (⟨S_, .f32⟩ : BufTy).Contents (Elt F) → (⟨S2048x4x512, .f32⟩ : BufTy).Contents (Elt F))
  :: StableHlo.nullary main_cst_2 (constant S_ .f32 0x00000000#32)
  :: StableHlo.unary main_cst_2 main_v16 (broadcastInDim S2048x4x512 ![] bcast_S_S2048x4x512 : (⟨S_, .f32⟩ : BufTy).Contents (Elt F) → (⟨S2048x4x512, .f32⟩ : BufTy).Contents (Elt F))
  :: StableHlo.nullary main_cst_3 (constant S_ .f32 0x00000000#32)
  :: StableHlo.unary main_cst_3 main_v17 (broadcastInDim S2048x4x512 ![] bcast_S_S2048x4x512 : (⟨S_, .f32⟩ : BufTy).Contents (Elt F) → (⟨S2048x4x512, .f32⟩ : BufTy).Contents (Elt F))
  :: StableHlo.nullary main_c (constantI S_ 32 0#32)
  :: StableHlo.unary main_v7 main_v18_0 id
  :: StableHlo.unary main_v10 main_v18_1 id
  :: StableHlo.unary main_v11 main_v18_2 id
  :: StableHlo.unary main_v12 main_v18_3 id
  :: StableHlo.unary main_c main_v18_4 id
  :: StableHlo.unary main_v13 main_v18_5 id
  :: StableHlo.unary main_v13 main_v18_6 id
  :: StableHlo.unary main_v14 main_v18_7 id
  :: StableHlo.unary main_v15 main_v18_8 id
  :: StableHlo.unary main_v16 main_v18_9 id
  :: StableHlo.unary main_v17 main_v18_10 id
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.reshape_bufs_sub .., StableHlo.binary_bufs_sub .., StableHlo.unary_bufs_sub .., StableHlo.reshape_bufs_sub .., StableHlo.binary_bufs_sub .., StableHlo.unary_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 53 host operations of @main, in order. -/
abbrev hostOps0_1 : List (HloOp τ sig (Elt F)) :=
  ( StableHlo.reshape main_v2 main_v19 (rfl : (.f32 : EltTy) = .f32) shapeCasts_S128x2048_S128x4x512
  :: StableHlo.binary main_v19 main_v18_7 main_v20 ((fun l r => Host.dotGeneral dot_S128x4x512_S2048x4x512_S4x128x2048_2_2_0_0_1_1 none l r) : (⟨S128x4x512, .f32⟩ : BufTy).Contents (Elt F) → (⟨S2048x4x512, .f32⟩ : BufTy).Contents (Elt F) → (⟨S4x128x2048, .f32⟩ : BufTy).Contents (Elt F))
  :: StableHlo.unary main_v20 main_v21 ((transpose S2048x4x128 [2, 0, 1] · transposes_S4x128x2048_S2048x4x128_2_0_1) : (⟨S4x128x2048, .f32⟩ : BufTy).Contents (Elt F) → (⟨S2048x4x128, .f32⟩ : BufTy).Contents (Elt F))
  :: StableHlo.reshape main_v3 main_v22 (rfl : (.f32 : EltTy) = .f32) shapeCasts_S128x2048_S128x4x512
  :: StableHlo.binary main_v22 main_v18_8 main_v23 ((fun l r => Host.dotGeneral dot_S128x4x512_S2048x4x512_S4x128x2048_2_2_0_0_1_1 none l r) : (⟨S128x4x512, .f32⟩ : BufTy).Contents (Elt F) → (⟨S2048x4x512, .f32⟩ : BufTy).Contents (Elt F) → (⟨S4x128x2048, .f32⟩ : BufTy).Contents (Elt F))
  :: StableHlo.unary main_v23 main_v24 ((transpose S2048x4x128 [2, 0, 1] · transposes_S4x128x2048_S2048x4x128_2_0_1) : (⟨S4x128x2048, .f32⟩ : BufTy).Contents (Elt F) → (⟨S2048x4x128, .f32⟩ : BufTy).Contents (Elt F))
  :: StableHlo.binary main_v21 main_v24 main_v25 (subf : (⟨S2048x4x128, .f32⟩ : BufTy).Contents (Elt F) → (⟨S2048x4x128, .f32⟩ : BufTy).Contents (Elt F) → (⟨S2048x4x128, .f32⟩ : BufTy).Contents (Elt F))
  :: StableHlo.reshape main_v25 main_v26 (rfl : (.f32 : EltTy) = .f32) shapeCasts_S2048x4x128_S2048x512
  :: StableHlo.unary main_arg1 main_v27 ((extf .f32 · bitsLt_bf16_f32) : (⟨S2048x512, .bf16⟩ : BufTy).Contents (Elt F) → (⟨S2048x512, .f32⟩ : BufTy).Contents (Elt F))
  :: StableHlo.nullary main_cst_4 (constant S_ .f32 0x00000000#32)
  :: StableHlo.unary main_cst_4 main_v28 (broadcastInDim S4x512 ![] bcast_S_S4x512 : (⟨S_, .f32⟩ : BufTy).Contents (Elt F) → (⟨S4x512, .f32⟩ : BufTy).Contents (Elt F))
  :: StableHlo.nullary main_cst_5 (constant S_ .f32 0x00000000#32)
  :: StableHlo.unary main_cst_5 main_v29 (broadcastInDim S4x512 ![] bcast_S_S4x512 : (⟨S_, .f32⟩ : BufTy).Contents (Elt F) → (⟨S4x512, .f32⟩ : BufTy).Contents (Elt F))
  :: StableHlo.reshape main_v27 main_v30 (rfl : (.f32 : EltTy) = .f32) shapeCasts_S2048x512_S2048x4x128
  :: StableHlo.unary main_v30 main_v31 (Host.negf : (⟨S2048x4x128, .f32⟩ : BufTy).Contents (Elt F) → (⟨S2048x4x128, .f32⟩ : BufTy).Contents (Elt F))
  :: StableHlo.unary main_v31 main_v32 ((transpose S4x128x2048 [1, 2, 0] · transposes_S2048x4x128_S4x128x2048_1_2_0) : (⟨S2048x4x128, .f32⟩ : BufTy).Contents (Elt F) → (⟨S4x128x2048, .f32⟩ : BufTy).Contents (Elt F))
  :: StableHlo.binary main_v32 main_v22 main_v33 ((fun l r => Host.dotGeneral dot_S4x128x2048_S128x4x512_S4x2048x512_1_0_2_2_0_1 none l r) : (⟨S4x128x2048, .f32⟩ : BufTy).Contents (Elt F) → (⟨S128x4x512, .f32⟩ : BufTy).Contents (Elt F) → (⟨S4x2048x512, .f32⟩ : BufTy).Contents (Elt F))
  :: StableHlo.unary main_v33 main_v34 ((transpose S2048x4x512 [1, 0, 2] · transposes_S4x2048x512_S2048x4x512_1_0_2) : (⟨S4x2048x512, .f32⟩ : BufTy).Contents (Elt F) → (⟨S2048x4x512, .f32⟩ : BufTy).Contents (Elt F))
  :: StableHlo.binary main_v32 main_v18_8 main_v35 ((fun l r => Host.dotGeneral dot_S4x128x2048_S2048x4x512_S4x128x512_2_0_1_2_0_1 none l r) : (⟨S4x128x2048, .f32⟩ : BufTy).Contents (Elt F) → (⟨S2048x4x512, .f32⟩ : BufTy).Contents (Elt F) → (⟨S4x128x512, .f32⟩ : BufTy).Contents (Elt F))
  :: StableHlo.unary main_v35 main_v36 ((transpose S128x4x512 [1, 0, 2] · transposes_S4x128x512_S128x4x512_1_0_2) : (⟨S4x128x512, .f32⟩ : BufTy).Contents (Elt F) → (⟨S128x4x512, .f32⟩ : BufTy).Contents (Elt F))
  :: StableHlo.reshape main_v36 main_v37 (rfl : (.f32 : EltTy) = .f32) shapeCasts_S128x4x512_S128x2048
  :: StableHlo.unary main_v30 main_v38 ((transpose S4x128x2048 [1, 2, 0] · transposes_S2048x4x128_S4x128x2048_1_2_0) : (⟨S2048x4x128, .f32⟩ : BufTy).Contents (Elt F) → (⟨S4x128x2048, .f32⟩ : BufTy).Contents (Elt F))
  :: StableHlo.binary main_v38 main_v19 main_v39 ((fun l r => Host.dotGeneral dot_S4x128x2048_S128x4x512_S4x2048x512_1_0_2_2_0_1 none l r) : (⟨S4x128x2048, .f32⟩ : BufTy).Contents (Elt F) → (⟨S128x4x512, .f32⟩ : BufTy).Contents (Elt F) → (⟨S4x2048x512, .f32⟩ : BufTy).Contents (Elt F))
  :: StableHlo.unary main_v39 main_v40 ((transpose S2048x4x512 [1, 0, 2] · transposes_S4x2048x512_S2048x4x512_1_0_2) : (⟨S4x2048x512, .f32⟩ : BufTy).Contents (Elt F) → (⟨S2048x4x512, .f32⟩ : BufTy).Contents (Elt F))
  :: StableHlo.binary main_v38 main_v18_7 main_v41 ((fun l r => Host.dotGeneral dot_S4x128x2048_S2048x4x512_S4x128x512_2_0_1_2_0_1 none l r) : (⟨S4x128x2048, .f32⟩ : BufTy).Contents (Elt F) → (⟨S2048x4x512, .f32⟩ : BufTy).Contents (Elt F) → (⟨S4x128x512, .f32⟩ : BufTy).Contents (Elt F))
  :: StableHlo.unary main_v41 main_v42 ((transpose S128x4x512 [1, 0, 2] · transposes_S4x128x512_S128x4x512_1_0_2) : (⟨S4x128x512, .f32⟩ : BufTy).Contents (Elt F) → (⟨S128x4x512, .f32⟩ : BufTy).Contents (Elt F))
  :: StableHlo.reshape main_v42 main_v43 (rfl : (.f32 : EltTy) = .f32) shapeCasts_S128x4x512_S128x2048
  :: StableHlo.nullary main_cst_6 (constant S_ .f32 0x00000000#32)
  :: StableHlo.unary main_cst_6 main_v44 (broadcastInDim S4x512 ![] bcast_S_S4x512 : (⟨S_, .f32⟩ : BufTy).Contents (Elt F) → (⟨S4x512, .f32⟩ : BufTy).Contents (Elt F))
  :: StableHlo.nullary main_cst_7 (constant S_ .f32 0x00000000#32)
  :: StableHlo.unary main_cst_7 main_v45 (broadcastInDim S4x512 ![] bcast_S_S4x512 : (⟨S_, .f32⟩ : BufTy).Contents (Elt F) → (⟨S4x512, .f32⟩ : BufTy).Contents (Elt F))
  :: StableHlo.nullary main_cst_8 (constant S_ .f32 0x00000000#32)
  :: StableHlo.unary main_cst_8 main_v46 (broadcastInDim S4x512 ![] bcast_S_S4x512 : (⟨S_, .f32⟩ : BufTy).Contents (Elt F) → (⟨S4x512, .f32⟩ : BufTy).Contents (Elt F))
  :: StableHlo.nullary main_cst_9 (constant S_ .f32 0x00000000#32)
  :: StableHlo.unary main_cst_9 main_v47 (broadcastInDim S4x512 ![] bcast_S_S4x512 : (⟨S_, .f32⟩ : BufTy).Contents (Elt F) → (⟨S4x512, .f32⟩ : BufTy).Contents (Elt F))
  :: StableHlo.nullary main_cst_10 (constant S_ .f32 0x00000000#32)
  :: StableHlo.unary main_cst_10 main_v48 (broadcastInDim S2048x4x512 ![] bcast_S_S2048x4x512 : (⟨S_, .f32⟩ : BufTy).Contents (Elt F) → (⟨S2048x4x512, .f32⟩ : BufTy).Contents (Elt F))
  :: StableHlo.nullary main_cst_11 (constant S_ .f32 0x00000000#32)
  :: StableHlo.unary main_cst_11 main_v49 (broadcastInDim S2048x4x512 ![] bcast_S_S2048x4x512 : (⟨S_, .f32⟩ : BufTy).Contents (Elt F) → (⟨S2048x4x512, .f32⟩ : BufTy).Contents (Elt F))
  :: StableHlo.nullary main_c_12 (constantI S_ 32 0#32)
  :: StableHlo.unary main_v40 main_v50_0 id
  :: StableHlo.unary main_v34 main_v50_1 id
  :: StableHlo.unary main_v18_9 main_v50_2 id
  :: StableHlo.unary main_v18_10 main_v50_3 id
  :: StableHlo.unary main_v11 main_v50_4 id
  :: StableHlo.unary main_v12 main_v50_5 id
  :: StableHlo.unary main_c_12 main_v50_6 id
  :: StableHlo.unary main_v46 main_v50_7 id
  :: StableHlo.unary main_v47 main_v50_8 id
  :: StableHlo.unary main_v44 main_v50_9 id
  :: StableHlo.unary main_v45 main_v50_10 id
  :: StableHlo.unary main_v48 main_v50_11 id
  :: StableHlo.unary main_v49 main_v50_12 id
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.binary_bufs_sub .., StableHlo.unary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 18 host operations of @main, in order. -/
abbrev hostOps0_2 : List (HloOp τ sig (Elt F)) :=
  [ StableHlo.reshape main_v50_8 main_v51 (rfl : (.f32 : EltTy) = .f32) shapeCasts_S4x512_S1x2048,
    StableHlo.reshape main_v50_7 main_v52 (rfl : (.f32 : EltTy) = .f32) shapeCasts_S4x512_S1x2048,
    StableHlo.unary main_v50_12 main_v53 ((transpose S4x512x2048 [1, 2, 0] · transposes_S2048x4x512_S4x512x2048_1_2_0) : (⟨S2048x4x512, .f32⟩ : BufTy).Contents (Elt F) → (⟨S4x512x2048, .f32⟩ : BufTy).Contents (Elt F)),
    StableHlo.binary main_v53 main_v8 main_v54 ((fun l r => Host.dotGeneral dot_S4x512x2048_S128x4x512_S4x2048x128_1_2_2_0_0_1 none l r) : (⟨S4x512x2048, .f32⟩ : BufTy).Contents (Elt F) → (⟨S128x4x512, .f32⟩ : BufTy).Contents (Elt F) → (⟨S4x2048x128, .f32⟩ : BufTy).Contents (Elt F)),
    StableHlo.unary main_v54 main_v55 ((transpose S2048x4x128 [1, 0, 2] · transposes_S4x2048x128_S2048x4x128_1_0_2) : (⟨S4x2048x128, .f32⟩ : BufTy).Contents (Elt F) → (⟨S2048x4x128, .f32⟩ : BufTy).Contents (Elt F)),
    StableHlo.binary main_v53 main_v4 main_v56 ((fun l r => Host.dotGeneral dot_S4x512x2048_S2048x4x128_S4x512x128_2_0_1_2_0_1 none l r) : (⟨S4x512x2048, .f32⟩ : BufTy).Contents (Elt F) → (⟨S2048x4x128, .f32⟩ : BufTy).Contents (Elt F) → (⟨S4x512x128, .f32⟩ : BufTy).Contents (Elt F)),
    StableHlo.unary main_v56 main_v57 ((transpose S128x4x512 [2, 0, 1] · transposes_S4x512x128_S128x4x512_2_0_1) : (⟨S4x512x128, .f32⟩ : BufTy).Contents (Elt F) → (⟨S128x4x512, .f32⟩ : BufTy).Contents (Elt F)),
    StableHlo.reshape main_v57 main_v58 (rfl : (.f32 : EltTy) = .f32) shapeCasts_S128x4x512_S128x2048,
    StableHlo.unary main_v50_11 main_v59 ((transpose S4x512x2048 [1, 2, 0] · transposes_S2048x4x512_S4x512x2048_1_2_0) : (⟨S2048x4x512, .f32⟩ : BufTy).Contents (Elt F) → (⟨S4x512x2048, .f32⟩ : BufTy).Contents (Elt F)),
    StableHlo.binary main_v59 main_v5 main_v60 ((fun l r => Host.dotGeneral dot_S4x512x2048_S128x4x512_S4x2048x128_1_2_2_0_0_1 none l r) : (⟨S4x512x2048, .f32⟩ : BufTy).Contents (Elt F) → (⟨S128x4x512, .f32⟩ : BufTy).Contents (Elt F) → (⟨S4x2048x128, .f32⟩ : BufTy).Contents (Elt F)),
    StableHlo.unary main_v60 main_v61 ((transpose S2048x4x128 [1, 0, 2] · transposes_S4x2048x128_S2048x4x128_1_0_2) : (⟨S4x2048x128, .f32⟩ : BufTy).Contents (Elt F) → (⟨S2048x4x128, .f32⟩ : BufTy).Contents (Elt F)),
    StableHlo.binary main_v55 main_v61 main_v62 (addf : (⟨S2048x4x128, .f32⟩ : BufTy).Contents (Elt F) → (⟨S2048x4x128, .f32⟩ : BufTy).Contents (Elt F) → (⟨S2048x4x128, .f32⟩ : BufTy).Contents (Elt F)),
    StableHlo.binary main_v59 main_v4 main_v63 ((fun l r => Host.dotGeneral dot_S4x512x2048_S2048x4x128_S4x512x128_2_0_1_2_0_1 none l r) : (⟨S4x512x2048, .f32⟩ : BufTy).Contents (Elt F) → (⟨S2048x4x128, .f32⟩ : BufTy).Contents (Elt F) → (⟨S4x512x128, .f32⟩ : BufTy).Contents (Elt F)),
    StableHlo.unary main_v63 main_v64 ((transpose S128x4x512 [2, 0, 1] · transposes_S4x512x128_S128x4x512_2_0_1) : (⟨S4x512x128, .f32⟩ : BufTy).Contents (Elt F) → (⟨S128x4x512, .f32⟩ : BufTy).Contents (Elt F)),
    StableHlo.reshape main_v64 main_v65 (rfl : (.f32 : EltTy) = .f32) shapeCasts_S128x4x512_S128x2048,
    StableHlo.reshape main_v62 main_v66 (rfl : (.f32 : EltTy) = .f32) shapeCasts_S2048x4x128_S2048x512,
    StableHlo.binary main_arg2 main_v66 main_v67 (addf : (⟨S2048x512, .f32⟩ : BufTy).Contents (Elt F) → (⟨S2048x512, .f32⟩ : BufTy).Contents (Elt F) → (⟨S2048x512, .f32⟩ : BufTy).Contents (Elt F)),
    StableHlo.unary main_v37 main_v68 (Host.negf : (⟨S128x2048, .f32⟩ : BufTy).Contents (Elt F) → (⟨S128x2048, .f32⟩ : BufTy).Contents (Elt F)) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.reshape_bufs_sub .., StableHlo.binary_bufs_sub .., StableHlo.unary_bufs_sub ..⟩
/-- 35 host operations of @main, window 0 (statements 1 … 60), in order. -/
abbrev main_part0_ops0 : List (HloOp τ sig (Elt F)) :=
  ( StableHlo.unary main_arg3 main_v0 ((extf .f32 · bitsLt_bf16_f32) : (⟨S128x2048, .bf16⟩ : BufTy).Contents (Elt F) → (⟨S128x2048, .f32⟩ : BufTy).Contents (Elt F))
  :: StableHlo.unary main_arg4 main_v1 ((extf .f32 · bitsLt_bf16_f32) : (⟨S128x2048, .bf16⟩ : BufTy).Contents (Elt F) → (⟨S128x2048, .f32⟩ : BufTy).Contents (Elt F))
  :: StableHlo.unary main_arg5 main_v2 ((extf .f32 · bitsLt_bf16_f32) : (⟨S128x2048, .bf16⟩ : BufTy).Contents (Elt F) → (⟨S128x2048, .f32⟩ : BufTy).Contents (Elt F))
  :: StableHlo.unary main_arg6 main_v3 ((extf .f32 · bitsLt_bf16_f32) : (⟨S128x2048, .bf16⟩ : BufTy).Contents (Elt F) → (⟨S128x2048, .f32⟩ : BufTy).Contents (Elt F))
  :: StableHlo.reshape main_arg0 main_v4 (rfl : (.f32 : EltTy) = .f32) shapeCasts_S2048x512_S2048x4x128
  :: StableHlo.reshape main_v0 main_v5 (rfl : (.f32 : EltTy) = .f32) shapeCasts_S128x2048_S128x4x512
  :: StableHlo.binary main_v5 main_v4 main_v6 ((fun l r => Host.dotGeneral dot_S128x4x512_S2048x4x128_S4x512x2048_0_2_2_0_1_1 none l r) : (⟨S128x4x512, .f32⟩ : BufTy).Contents (Elt F) → (⟨S2048x4x128, .f32⟩ : BufTy).Contents (Elt F) → (⟨S4x512x2048, .f32⟩ : BufTy).Contents (Elt F))
  :: StableHlo.unary main_v6 main_v7 ((transpose S2048x4x512 [2, 0, 1] · transposes_S4x512x2048_S2048x4x512_2_0_1) : (⟨S4x512x2048, .f32⟩ : BufTy).Contents (Elt F) → (⟨S2048x4x512, .f32⟩ : BufTy).Contents (Elt F))
  :: StableHlo.reshape main_v1 main_v8 (rfl : (.f32 : EltTy) = .f32) shapeCasts_S128x2048_S128x4x512
  :: StableHlo.binary main_v8 main_v4 main_v9 ((fun l r => Host.dotGeneral dot_S128x4x512_S2048x4x128_S4x512x2048_0_2_2_0_1_1 none l r) : (⟨S128x4x512, .f32⟩ : BufTy).Contents (Elt F) → (⟨S2048x4x128, .f32⟩ : BufTy).Contents (Elt F) → (⟨S4x512x2048, .f32⟩ : BufTy).Contents (Elt F))
  :: StableHlo.unary main_v9 main_v10 ((transpose S2048x4x512 [2, 0, 1] · transposes_S4x512x2048_S2048x4x512_2_0_1) : (⟨S4x512x2048, .f32⟩ : BufTy).Contents (Elt F) → (⟨S2048x4x512, .f32⟩ : BufTy).Contents (Elt F))
  :: StableHlo.reshape main_arg7 main_v11 (rfl : (.f32 : EltTy) = .f32) shapeCasts_S1x2048_S4x512
  :: StableHlo.reshape main_arg8 main_v12 (rfl : (.f32 : EltTy) = .f32) shapeCasts_S1x2048_S4x512
  :: StableHlo.nullary main_cst (constant S_ .f32 0x00000000#32)
  :: StableHlo.unary main_cst main_v13 (broadcastInDim S4x512 ![] bcast_S_S4x512 : (⟨S_, .f32⟩ : BufTy).Contents (Elt F) → (⟨S4x512, .f32⟩ : BufTy).Contents (Elt F))
  :: StableHlo.nullary main_cst_0 (constant S_ .f32 0x00000000#32)
  :: StableHlo.unary main_cst_0 main_v14 (broadcastInDim S2048x4x512 ![] bcast_S_S2048x4x512 : (⟨S_, .f32⟩ : BufTy).Contents (Elt F) → (⟨S2048x4x512, .f32⟩ : BufTy).Contents (Elt F))
  :: StableHlo.nullary main_cst_1 (constant S_ .f32 0x00000000#32)
  :: StableHlo.unary main_cst_1 main_v15 (broadcastInDim S2048x4x512 ![] bcast_S_S2048x4x512 : (⟨S_, .f32⟩ : BufTy).Contents (Elt F) → (⟨S2048x4x512, .f32⟩ : BufTy).Contents (Elt F))
  :: StableHlo.nullary main_cst_2 (constant S_ .f32 0x00000000#32)
  :: StableHlo.unary main_cst_2 main_v16 (broadcastInDim S2048x4x512 ![] bcast_S_S2048x4x512 : (⟨S_, .f32⟩ : BufTy).Contents (Elt F) → (⟨S2048x4x512, .f32⟩ : BufTy).Contents (Elt F))
  :: StableHlo.nullary main_cst_3 (constant S_ .f32 0x00000000#32)
  :: StableHlo.unary main_cst_3 main_v17 (broadcastInDim S2048x4x512 ![] bcast_S_S2048x4x512 : (⟨S_, .f32⟩ : BufTy).Contents (Elt F) → (⟨S2048x4x512, .f32⟩ : BufTy).Contents (Elt F))
  :: StableHlo.nullary main_c (constantI S_ 32 0#32)
  :: StableHlo.unary main_v7 main_v18_0 id
  :: StableHlo.unary main_v10 main_v18_1 id
  :: StableHlo.unary main_v11 main_v18_2 id
  :: StableHlo.unary main_v12 main_v18_3 id
  :: StableHlo.unary main_c main_v18_4 id
  :: StableHlo.unary main_v13 main_v18_5 id
  :: StableHlo.unary main_v13 main_v18_6 id
  :: StableHlo.unary main_v14 main_v18_7 id
  :: StableHlo.unary main_v15 main_v18_8 id
  :: StableHlo.unary main_v16 main_v18_9 id
  :: StableHlo.unary main_v17 main_v18_10 id
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.reshape_bufs_sub .., StableHlo.binary_bufs_sub .., StableHlo.unary_bufs_sub .., StableHlo.reshape_bufs_sub .., StableHlo.binary_bufs_sub .., StableHlo.unary_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 24 host operations of @main, window 0 (statements 1 … 60), in order. -/
abbrev main_part0_ops1 : List (HloOp τ sig (Elt F)) :=
  [ StableHlo.reshape main_v2 main_v19 (rfl : (.f32 : EltTy) = .f32) shapeCasts_S128x2048_S128x4x512,
    StableHlo.binary main_v19 main_v18_7 main_v20 ((fun l r => Host.dotGeneral dot_S128x4x512_S2048x4x512_S4x128x2048_2_2_0_0_1_1 none l r) : (⟨S128x4x512, .f32⟩ : BufTy).Contents (Elt F) → (⟨S2048x4x512, .f32⟩ : BufTy).Contents (Elt F) → (⟨S4x128x2048, .f32⟩ : BufTy).Contents (Elt F)),
    StableHlo.unary main_v20 main_v21 ((transpose S2048x4x128 [2, 0, 1] · transposes_S4x128x2048_S2048x4x128_2_0_1) : (⟨S4x128x2048, .f32⟩ : BufTy).Contents (Elt F) → (⟨S2048x4x128, .f32⟩ : BufTy).Contents (Elt F)),
    StableHlo.reshape main_v3 main_v22 (rfl : (.f32 : EltTy) = .f32) shapeCasts_S128x2048_S128x4x512,
    StableHlo.binary main_v22 main_v18_8 main_v23 ((fun l r => Host.dotGeneral dot_S128x4x512_S2048x4x512_S4x128x2048_2_2_0_0_1_1 none l r) : (⟨S128x4x512, .f32⟩ : BufTy).Contents (Elt F) → (⟨S2048x4x512, .f32⟩ : BufTy).Contents (Elt F) → (⟨S4x128x2048, .f32⟩ : BufTy).Contents (Elt F)),
    StableHlo.unary main_v23 main_v24 ((transpose S2048x4x128 [2, 0, 1] · transposes_S4x128x2048_S2048x4x128_2_0_1) : (⟨S4x128x2048, .f32⟩ : BufTy).Contents (Elt F) → (⟨S2048x4x128, .f32⟩ : BufTy).Contents (Elt F)),
    StableHlo.binary main_v21 main_v24 main_v25 (subf : (⟨S2048x4x128, .f32⟩ : BufTy).Contents (Elt F) → (⟨S2048x4x128, .f32⟩ : BufTy).Contents (Elt F) → (⟨S2048x4x128, .f32⟩ : BufTy).Contents (Elt F)),
    StableHlo.reshape main_v25 main_v26 (rfl : (.f32 : EltTy) = .f32) shapeCasts_S2048x4x128_S2048x512,
    StableHlo.unary main_arg1 main_v27 ((extf .f32 · bitsLt_bf16_f32) : (⟨S2048x512, .bf16⟩ : BufTy).Contents (Elt F) → (⟨S2048x512, .f32⟩ : BufTy).Contents (Elt F)),
    StableHlo.nullary main_cst_4 (constant S_ .f32 0x00000000#32),
    StableHlo.unary main_cst_4 main_v28 (broadcastInDim S4x512 ![] bcast_S_S4x512 : (⟨S_, .f32⟩ : BufTy).Contents (Elt F) → (⟨S4x512, .f32⟩ : BufTy).Contents (Elt F)),
    StableHlo.nullary main_cst_5 (constant S_ .f32 0x00000000#32),
    StableHlo.unary main_cst_5 main_v29 (broadcastInDim S4x512 ![] bcast_S_S4x512 : (⟨S_, .f32⟩ : BufTy).Contents (Elt F) → (⟨S4x512, .f32⟩ : BufTy).Contents (Elt F)),
    StableHlo.reshape main_v27 main_v30 (rfl : (.f32 : EltTy) = .f32) shapeCasts_S2048x512_S2048x4x128,
    StableHlo.unary main_v30 main_v31 (Host.negf : (⟨S2048x4x128, .f32⟩ : BufTy).Contents (Elt F) → (⟨S2048x4x128, .f32⟩ : BufTy).Contents (Elt F)),
    StableHlo.unary main_v31 main_v32 ((transpose S4x128x2048 [1, 2, 0] · transposes_S2048x4x128_S4x128x2048_1_2_0) : (⟨S2048x4x128, .f32⟩ : BufTy).Contents (Elt F) → (⟨S4x128x2048, .f32⟩ : BufTy).Contents (Elt F)),
    StableHlo.binary main_v32 main_v22 main_v33 ((fun l r => Host.dotGeneral dot_S4x128x2048_S128x4x512_S4x2048x512_1_0_2_2_0_1 none l r) : (⟨S4x128x2048, .f32⟩ : BufTy).Contents (Elt F) → (⟨S128x4x512, .f32⟩ : BufTy).Contents (Elt F) → (⟨S4x2048x512, .f32⟩ : BufTy).Contents (Elt F)),
    StableHlo.unary main_v33 main_v34 ((transpose S2048x4x512 [1, 0, 2] · transposes_S4x2048x512_S2048x4x512_1_0_2) : (⟨S4x2048x512, .f32⟩ : BufTy).Contents (Elt F) → (⟨S2048x4x512, .f32⟩ : BufTy).Contents (Elt F)),
    StableHlo.binary main_v32 main_v18_8 main_v35 ((fun l r => Host.dotGeneral dot_S4x128x2048_S2048x4x512_S4x128x512_2_0_1_2_0_1 none l r) : (⟨S4x128x2048, .f32⟩ : BufTy).Contents (Elt F) → (⟨S2048x4x512, .f32⟩ : BufTy).Contents (Elt F) → (⟨S4x128x512, .f32⟩ : BufTy).Contents (Elt F)),
    StableHlo.unary main_v35 main_v36 ((transpose S128x4x512 [1, 0, 2] · transposes_S4x128x512_S128x4x512_1_0_2) : (⟨S4x128x512, .f32⟩ : BufTy).Contents (Elt F) → (⟨S128x4x512, .f32⟩ : BufTy).Contents (Elt F)),
    StableHlo.reshape main_v36 main_v37 (rfl : (.f32 : EltTy) = .f32) shapeCasts_S128x4x512_S128x2048,
    StableHlo.unary main_v30 main_v38 ((transpose S4x128x2048 [1, 2, 0] · transposes_S2048x4x128_S4x128x2048_1_2_0) : (⟨S2048x4x128, .f32⟩ : BufTy).Contents (Elt F) → (⟨S4x128x2048, .f32⟩ : BufTy).Contents (Elt F)),
    StableHlo.binary main_v38 main_v19 main_v39 ((fun l r => Host.dotGeneral dot_S4x128x2048_S128x4x512_S4x2048x512_1_0_2_2_0_1 none l r) : (⟨S4x128x2048, .f32⟩ : BufTy).Contents (Elt F) → (⟨S128x4x512, .f32⟩ : BufTy).Contents (Elt F) → (⟨S4x2048x512, .f32⟩ : BufTy).Contents (Elt F)),
    StableHlo.unary main_v39 main_v40 ((transpose S2048x4x512 [1, 0, 2] · transposes_S4x2048x512_S2048x4x512_1_0_2) : (⟨S4x2048x512, .f32⟩ : BufTy).Contents (Elt F) → (⟨S2048x4x512, .f32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.binary_bufs_sub .., StableHlo.unary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 29 host operations of @main, window 1 (statements 61 … 109), in order. -/
abbrev main_part1_ops0 : List (HloOp τ sig (Elt F)) :=
  [ StableHlo.binary main_v38 main_v18_7 main_v41 ((fun l r => Host.dotGeneral dot_S4x128x2048_S2048x4x512_S4x128x512_2_0_1_2_0_1 none l r) : (⟨S4x128x2048, .f32⟩ : BufTy).Contents (Elt F) → (⟨S2048x4x512, .f32⟩ : BufTy).Contents (Elt F) → (⟨S4x128x512, .f32⟩ : BufTy).Contents (Elt F)),
    StableHlo.unary main_v41 main_v42 ((transpose S128x4x512 [1, 0, 2] · transposes_S4x128x512_S128x4x512_1_0_2) : (⟨S4x128x512, .f32⟩ : BufTy).Contents (Elt F) → (⟨S128x4x512, .f32⟩ : BufTy).Contents (Elt F)),
    StableHlo.reshape main_v42 main_v43 (rfl : (.f32 : EltTy) = .f32) shapeCasts_S128x4x512_S128x2048,
    StableHlo.nullary main_cst_6 (constant S_ .f32 0x00000000#32),
    StableHlo.unary main_cst_6 main_v44 (broadcastInDim S4x512 ![] bcast_S_S4x512 : (⟨S_, .f32⟩ : BufTy).Contents (Elt F) → (⟨S4x512, .f32⟩ : BufTy).Contents (Elt F)),
    StableHlo.nullary main_cst_7 (constant S_ .f32 0x00000000#32),
    StableHlo.unary main_cst_7 main_v45 (broadcastInDim S4x512 ![] bcast_S_S4x512 : (⟨S_, .f32⟩ : BufTy).Contents (Elt F) → (⟨S4x512, .f32⟩ : BufTy).Contents (Elt F)),
    StableHlo.nullary main_cst_8 (constant S_ .f32 0x00000000#32),
    StableHlo.unary main_cst_8 main_v46 (broadcastInDim S4x512 ![] bcast_S_S4x512 : (⟨S_, .f32⟩ : BufTy).Contents (Elt F) → (⟨S4x512, .f32⟩ : BufTy).Contents (Elt F)),
    StableHlo.nullary main_cst_9 (constant S_ .f32 0x00000000#32),
    StableHlo.unary main_cst_9 main_v47 (broadcastInDim S4x512 ![] bcast_S_S4x512 : (⟨S_, .f32⟩ : BufTy).Contents (Elt F) → (⟨S4x512, .f32⟩ : BufTy).Contents (Elt F)),
    StableHlo.nullary main_cst_10 (constant S_ .f32 0x00000000#32),
    StableHlo.unary main_cst_10 main_v48 (broadcastInDim S2048x4x512 ![] bcast_S_S2048x4x512 : (⟨S_, .f32⟩ : BufTy).Contents (Elt F) → (⟨S2048x4x512, .f32⟩ : BufTy).Contents (Elt F)),
    StableHlo.nullary main_cst_11 (constant S_ .f32 0x00000000#32),
    StableHlo.unary main_cst_11 main_v49 (broadcastInDim S2048x4x512 ![] bcast_S_S2048x4x512 : (⟨S_, .f32⟩ : BufTy).Contents (Elt F) → (⟨S2048x4x512, .f32⟩ : BufTy).Contents (Elt F)),
    StableHlo.nullary main_c_12 (constantI S_ 32 0#32),
    StableHlo.unary main_v40 main_v50_0 id,
    StableHlo.unary main_v34 main_v50_1 id,
    StableHlo.unary main_v18_9 main_v50_2 id,
    StableHlo.unary main_v18_10 main_v50_3 id,
    StableHlo.unary main_v11 main_v50_4 id,
    StableHlo.unary main_v12 main_v50_5 id,
    StableHlo.unary main_c_12 main_v50_6 id,
    StableHlo.unary main_v46 main_v50_7 id,
    StableHlo.unary main_v47 main_v50_8 id,
    StableHlo.unary main_v44 main_v50_9 id,
    StableHlo.unary main_v45 main_v50_10 id,
    StableHlo.unary main_v48 main_v50_11 id,
    StableHlo.unary main_v49 main_v50_12 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.binary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 18 host operations of @main, window 1 (statements 61 … 109), in order. -/
abbrev main_part1_ops1 : List (HloOp τ sig (Elt F)) :=
  [ StableHlo.reshape main_v50_8 main_v51 (rfl : (.f32 : EltTy) = .f32) shapeCasts_S4x512_S1x2048,
    StableHlo.reshape main_v50_7 main_v52 (rfl : (.f32 : EltTy) = .f32) shapeCasts_S4x512_S1x2048,
    StableHlo.unary main_v50_12 main_v53 ((transpose S4x512x2048 [1, 2, 0] · transposes_S2048x4x512_S4x512x2048_1_2_0) : (⟨S2048x4x512, .f32⟩ : BufTy).Contents (Elt F) → (⟨S4x512x2048, .f32⟩ : BufTy).Contents (Elt F)),
    StableHlo.binary main_v53 main_v8 main_v54 ((fun l r => Host.dotGeneral dot_S4x512x2048_S128x4x512_S4x2048x128_1_2_2_0_0_1 none l r) : (⟨S4x512x2048, .f32⟩ : BufTy).Contents (Elt F) → (⟨S128x4x512, .f32⟩ : BufTy).Contents (Elt F) → (⟨S4x2048x128, .f32⟩ : BufTy).Contents (Elt F)),
    StableHlo.unary main_v54 main_v55 ((transpose S2048x4x128 [1, 0, 2] · transposes_S4x2048x128_S2048x4x128_1_0_2) : (⟨S4x2048x128, .f32⟩ : BufTy).Contents (Elt F) → (⟨S2048x4x128, .f32⟩ : BufTy).Contents (Elt F)),
    StableHlo.binary main_v53 main_v4 main_v56 ((fun l r => Host.dotGeneral dot_S4x512x2048_S2048x4x128_S4x512x128_2_0_1_2_0_1 none l r) : (⟨S4x512x2048, .f32⟩ : BufTy).Contents (Elt F) → (⟨S2048x4x128, .f32⟩ : BufTy).Contents (Elt F) → (⟨S4x512x128, .f32⟩ : BufTy).Contents (Elt F)),
    StableHlo.unary main_v56 main_v57 ((transpose S128x4x512 [2, 0, 1] · transposes_S4x512x128_S128x4x512_2_0_1) : (⟨S4x512x128, .f32⟩ : BufTy).Contents (Elt F) → (⟨S128x4x512, .f32⟩ : BufTy).Contents (Elt F)),
    StableHlo.reshape main_v57 main_v58 (rfl : (.f32 : EltTy) = .f32) shapeCasts_S128x4x512_S128x2048,
    StableHlo.unary main_v50_11 main_v59 ((transpose S4x512x2048 [1, 2, 0] · transposes_S2048x4x512_S4x512x2048_1_2_0) : (⟨S2048x4x512, .f32⟩ : BufTy).Contents (Elt F) → (⟨S4x512x2048, .f32⟩ : BufTy).Contents (Elt F)),
    StableHlo.binary main_v59 main_v5 main_v60 ((fun l r => Host.dotGeneral dot_S4x512x2048_S128x4x512_S4x2048x128_1_2_2_0_0_1 none l r) : (⟨S4x512x2048, .f32⟩ : BufTy).Contents (Elt F) → (⟨S128x4x512, .f32⟩ : BufTy).Contents (Elt F) → (⟨S4x2048x128, .f32⟩ : BufTy).Contents (Elt F)),
    StableHlo.unary main_v60 main_v61 ((transpose S2048x4x128 [1, 0, 2] · transposes_S4x2048x128_S2048x4x128_1_0_2) : (⟨S4x2048x128, .f32⟩ : BufTy).Contents (Elt F) → (⟨S2048x4x128, .f32⟩ : BufTy).Contents (Elt F)),
    StableHlo.binary main_v55 main_v61 main_v62 (addf : (⟨S2048x4x128, .f32⟩ : BufTy).Contents (Elt F) → (⟨S2048x4x128, .f32⟩ : BufTy).Contents (Elt F) → (⟨S2048x4x128, .f32⟩ : BufTy).Contents (Elt F)),
    StableHlo.binary main_v59 main_v4 main_v63 ((fun l r => Host.dotGeneral dot_S4x512x2048_S2048x4x128_S4x512x128_2_0_1_2_0_1 none l r) : (⟨S4x512x2048, .f32⟩ : BufTy).Contents (Elt F) → (⟨S2048x4x128, .f32⟩ : BufTy).Contents (Elt F) → (⟨S4x512x128, .f32⟩ : BufTy).Contents (Elt F)),
    StableHlo.unary main_v63 main_v64 ((transpose S128x4x512 [2, 0, 1] · transposes_S4x512x128_S128x4x512_2_0_1) : (⟨S4x512x128, .f32⟩ : BufTy).Contents (Elt F) → (⟨S128x4x512, .f32⟩ : BufTy).Contents (Elt F)),
    StableHlo.reshape main_v64 main_v65 (rfl : (.f32 : EltTy) = .f32) shapeCasts_S128x4x512_S128x2048,
    StableHlo.reshape main_v62 main_v66 (rfl : (.f32 : EltTy) = .f32) shapeCasts_S2048x4x128_S2048x512,
    StableHlo.binary main_arg2 main_v66 main_v67 (addf : (⟨S2048x512, .f32⟩ : BufTy).Contents (Elt F) → (⟨S2048x512, .f32⟩ : BufTy).Contents (Elt F) → (⟨S2048x512, .f32⟩ : BufTy).Contents (Elt F)),
    StableHlo.unary main_v37 main_v68 (Host.negf : (⟨S128x2048, .f32⟩ : BufTy).Contents (Elt F) → (⟨S128x2048, .f32⟩ : BufTy).Contents (Elt F)) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.reshape_bufs_sub .., StableHlo.binary_bufs_sub .., StableHlo.unary_bufs_sub ..⟩
/-- The last window of `main` (`main_part1`, statements 61 … 109) is the chain of ITS items, each item aligned with the window's
    statements, then `chain_rfl`. -/
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v18_0 : StableHlo.TRef sig ⟨S2048x4x512, .f32⟩) ![(.of main_v18_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while0b_call0_v0 : StableHlo.TRef sig ⟨S1x4x512, .f32⟩) (.of main_while0b_v69 : StableHlo.TRef sig ⟨S4x512, .f32⟩) (rfl : (.f32 : EltTy) = .f32) shapeCasts_S1x4x512_S4x512 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v18_1 : StableHlo.TRef sig ⟨S2048x4x512, .f32⟩) ![(.of main_v18_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while0b_call1_v0 : StableHlo.TRef sig ⟨S1x4x512, .f32⟩) (.of main_while0b_v70 : StableHlo.TRef sig ⟨S4x512, .f32⟩) (rfl : (.f32 : EltTy) = .f32) shapeCasts_S1x4x512_S4x512 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 8 host operations of host loop 0's body region, in order. -/
abbrev while0Ops0_2 : List (HloOp τ sig (Elt F)) :=
  [ StableHlo.binary main_v18_2 main_v18_5 main_while0b_v71 (mulf : (⟨S4x512, .f32⟩ : BufTy).Contents (Elt F) → (⟨S4x512, .f32⟩ : BufTy).Contents (Elt F) → (⟨S4x512, .f32⟩ : BufTy).Contents (Elt F)),
    StableHlo.binary main_v18_3 main_v18_6 main_while0b_v72 (mulf : (⟨S4x512, .f32⟩ : BufTy).Contents (Elt F) → (⟨S4x512, .f32⟩ : BufTy).Contents (Elt F) → (⟨S4x512, .f32⟩ : BufTy).Contents (Elt F)),
    StableHlo.binary main_while0b_v71 main_while0b_v72 main_while0b_v73 (subf : (⟨S4x512, .f32⟩ : BufTy).Contents (Elt F) → (⟨S4x512, .f32⟩ : BufTy).Contents (Elt F) → (⟨S4x512, .f32⟩ : BufTy).Contents (Elt F)),
    StableHlo.binary main_while0b_v73 main_while0b_v69 main_while0b_v74 (addf : (⟨S4x512, .f32⟩ : BufTy).Contents (Elt F) → (⟨S4x512, .f32⟩ : BufTy).Contents (Elt F) → (⟨S4x512, .f32⟩ : BufTy).Contents (Elt F)),
    StableHlo.binary main_v18_2 main_v18_6 main_while0b_v75 (mulf : (⟨S4x512, .f32⟩ : BufTy).Contents (Elt F) → (⟨S4x512, .f32⟩ : BufTy).Contents (Elt F) → (⟨S4x512, .f32⟩ : BufTy).Contents (Elt F)),
    StableHlo.binary main_v18_3 main_v18_5 main_while0b_v76 (mulf : (⟨S4x512, .f32⟩ : BufTy).Contents (Elt F) → (⟨S4x512, .f32⟩ : BufTy).Contents (Elt F) → (⟨S4x512, .f32⟩ : BufTy).Contents (Elt F)),
    StableHlo.binary main_while0b_v75 main_while0b_v76 main_while0b_v77 (addf : (⟨S4x512, .f32⟩ : BufTy).Contents (Elt F) → (⟨S4x512, .f32⟩ : BufTy).Contents (Elt F) → (⟨S4x512, .f32⟩ : BufTy).Contents (Elt F)),
    StableHlo.binary main_while0b_v77 main_while0b_v70 main_while0b_v78 (addf : (⟨S4x512, .f32⟩ : BufTy).Contents (Elt F) → (⟨S4x512, .f32⟩ : BufTy).Contents (Elt F) → (⟨S4x512, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
/-- 4 host operations of @dynamic_update_index_in_dim (main_while0b_call2), in order. -/
abbrev while0Ops0_3 : List (HloOp τ sig (Elt F)) :=
  [ StableHlo.TRef.unary (.of main_while0b_v74 : StableHlo.TRef sig ⟨S4x512, .f32⟩) (.of main_while0b_call2_v0 : StableHlo.TRef sig ⟨S1x4x512, .f32⟩) (broadcastInDim S1x4x512 ![1, 2] bcast_S4x512_S1x4x512_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v18_7 : StableHlo.TRef sig ⟨S2048x4x512, .f32⟩) (.of main_while0b_call2_v0 : StableHlo.TRef sig ⟨S1x4x512, .f32⟩) ![(.of main_v18_4 : StableHlo.TRef sig ⟨S_, .i32⟩), (.of main_while0b_call2_c : StableHlo.TRef sig ⟨S_, .i32⟩), (.of main_while0b_call2_c_0 : StableHlo.TRef sig ⟨S_, .i32⟩)] (.of main_while0b_v79 : StableHlo.TRef sig ⟨S2048x4x512, .f32⟩) (fun x u i => Host.dynamicUpdateSlice x u (fun k => (i k (Shape.Idx.first h_S_)).toInt) updateFits_S2048x4x512_S1x4x512) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call3), in order. -/
abbrev while0Ops0_4 : List (HloOp τ sig (Elt F)) :=
  [ StableHlo.TRef.unary (.of main_while0b_v78 : StableHlo.TRef sig ⟨S4x512, .f32⟩) (.of main_while0b_call3_v0 : StableHlo.TRef sig ⟨S1x4x512, .f32⟩) (broadcastInDim S1x4x512 ![1, 2] bcast_S4x512_S1x4x512_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v18_8 : StableHlo.TRef sig ⟨S2048x4x512, .f32⟩) (.of main_while0b_call3_v0 : StableHlo.TRef sig ⟨S1x4x512, .f32⟩) ![(.of main_v18_4 : StableHlo.TRef sig ⟨S_, .i32⟩), (.of main_while0b_call3_c : StableHlo.TRef sig ⟨S_, .i32⟩), (.of main_while0b_call3_c_0 : StableHlo.TRef sig ⟨S_, .i32⟩)] (.of main_while0b_v80 : StableHlo.TRef sig ⟨S2048x4x512, .f32⟩) (fun x u i => Host.dynamicUpdateSlice x u (fun k => (i k (Shape.Idx.first h_S_)).toInt) updateFits_S2048x4x512_S1x4x512) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call4), in order. -/
abbrev while0Ops0_5 : List (HloOp τ sig (Elt F)) :=
  [ StableHlo.TRef.unary (.of main_v18_5 : StableHlo.TRef sig ⟨S4x512, .f32⟩) (.of main_while0b_call4_v0 : StableHlo.TRef sig ⟨S1x4x512, .f32⟩) (broadcastInDim S1x4x512 ![1, 2] bcast_S4x512_S1x4x512_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v18_9 : StableHlo.TRef sig ⟨S2048x4x512, .f32⟩) (.of main_while0b_call4_v0 : StableHlo.TRef sig ⟨S1x4x512, .f32⟩) ![(.of main_v18_4 : StableHlo.TRef sig ⟨S_, .i32⟩), (.of main_while0b_call4_c : StableHlo.TRef sig ⟨S_, .i32⟩), (.of main_while0b_call4_c_0 : StableHlo.TRef sig ⟨S_, .i32⟩)] (.of main_while0b_v81 : StableHlo.TRef sig ⟨S2048x4x512, .f32⟩) (fun x u i => Host.dynamicUpdateSlice x u (fun k => (i k (Shape.Idx.first h_S_)).toInt) updateFits_S2048x4x512_S1x4x512) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while0b_call5), in order. -/
abbrev while0Ops0_6 : List (HloOp τ sig (Elt F)) :=
  [ StableHlo.TRef.unary (.of main_v18_6 : StableHlo.TRef sig ⟨S4x512, .f32⟩) (.of main_while0b_call5_v0 : StableHlo.TRef sig ⟨S1x4x512, .f32⟩) (broadcastInDim S1x4x512 ![1, 2] bcast_S4x512_S1x4x512_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v18_10 : StableHlo.TRef sig ⟨S2048x4x512, .f32⟩) (.of main_while0b_call5_v0 : StableHlo.TRef sig ⟨S1x4x512, .f32⟩) ![(.of main_v18_4 : StableHlo.TRef sig ⟨S_, .i32⟩), (.of main_while0b_call5_c : StableHlo.TRef sig ⟨S_, .i32⟩), (.of main_while0b_call5_c_0 : StableHlo.TRef sig ⟨S_, .i32⟩)] (.of main_while0b_v82 : StableHlo.TRef sig ⟨S2048x4x512, .f32⟩) (fun x u i => Host.dynamicUpdateSlice x u (fun k => (i k (Shape.Idx.first h_S_)).toInt) updateFits_S2048x4x512_S1x4x512) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 9 host operations of host loop 0's body region, in order. -/
abbrev while0Ops0_7 : List (HloOp τ sig (Elt F)) :=
  [ StableHlo.nullary main_while0b_c_23 (constantI S_ 32 1#32),
    StableHlo.binary main_v18_4 main_while0b_c_23 main_while0b_v83 (addi : (⟨S_, .i32⟩ : BufTy).Contents (Elt F) → (⟨S_, .i32⟩ : BufTy).Contents (Elt F) → (⟨S_, .i32⟩ : BufTy).Contents (Elt F)),
    StableHlo.unary main_while0b_v83 main_v18_4 id,
    StableHlo.unary main_while0b_v74 main_v18_5 id,
    StableHlo.unary main_while0b_v78 main_v18_6 id,
    StableHlo.unary main_while0b_v79 main_v18_7 id,
    StableHlo.unary main_while0b_v80 main_v18_8 id,
    StableHlo.unary main_while0b_v81 main_v18_9 id,
    StableHlo.unary main_while0b_v82 main_v18_10 id ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_25 (constantI S_ 32 2048#32),
    StableHlo.binary main_while1b_c_25 main_v50_6 main_while1b_v69 (subi : (⟨S_, .i32⟩ : BufTy).Contents (Elt F) → (⟨S_, .i32⟩ : BufTy).Contents (Elt F) → (⟨S_, .i32⟩ : BufTy).Contents (Elt F)),
    StableHlo.nullary main_while1b_c_26 (constantI S_ 32 1#32),
    StableHlo.binary main_while1b_v69 main_while1b_c_26 main_while1b_v70 (subi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 4 host operations of @dynamic_index_in_dim (main_while1b_call6), in order. -/
abbrev while1Ops0_1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v50_0 : StableHlo.TRef sig ⟨S2048x4x512, .f32⟩) ![(.of main_while1b_v70 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call6_v0 : StableHlo.TRef sig ⟨S1x4x512, .f32⟩) (.of main_while1b_v71 : StableHlo.TRef sig ⟨S4x512, .f32⟩) (rfl : (.f32 : EltTy) = .f32) shapeCasts_S1x4x512_S4x512 ]
/-- Each touches TensorCore references only (`HostSeg.ofOps` over `StableHlo.tcRefs`, or a subset by `sub_ucRefs`). -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while1b_call7), in order. -/
abbrev while1Ops0_2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v50_1 : StableHlo.TRef sig ⟨S2048x4x512, .f32⟩) ![(.of main_while1b_v70 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call7_v0 : StableHlo.TRef sig ⟨S1x4x512, .f32⟩) (.of main_while1b_v72 : StableHlo.TRef sig ⟨S4x512, .f32⟩) (rfl : (.f32 : EltTy) = .f32) shapeCasts_S1x4x512_S4x512 ]
/-- Each touches TensorCore references only (`HostSeg.ofOps` over `StableHlo.tcRefs`, or a subset by `sub_ucRefs`). -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while1b_call8), in order. -/
abbrev while1Ops0_3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v50_2 : StableHlo.TRef sig ⟨S2048x4x512, .f32⟩) ![(.of main_while1b_v70 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call8_v0 : StableHlo.TRef sig ⟨S1x4x512, .f32⟩) (.of main_while1b_v73 : StableHlo.TRef sig ⟨S4x512, .f32⟩) (rfl : (.f32 : EltTy) = .f32) shapeCasts_S1x4x512_S4x512 ]
/-- Each touches TensorCore references only (`HostSeg.ofOps` over `StableHlo.tcRefs`, or a subset by `sub_ucRefs`). -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while1b_call9), in order. -/
abbrev while1Ops0_4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v50_3 : StableHlo.TRef sig ⟨S2048x4x512, .f32⟩) ![(.of main_while1b_v70 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call9_v0 : StableHlo.TRef sig ⟨S1x4x512, .f32⟩) (.of main_while1b_v74 : StableHlo.TRef sig ⟨S4x512, .f32⟩) (rfl : (.f32 : EltTy) = .f32) shapeCasts_S1x4x512_S4x512 ]
/-- Each touches TensorCore references only (`HostSeg.ofOps` over `StableHlo.tcRefs`, or a subset by `sub_ucRefs`). -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 17 host operations of host loop 1's body region, in order. -/
abbrev while1Ops0_5 : List (HloOp τ sig (Elt F)) :=
  [ StableHlo.binary main_v50_9 main_while1b_v71 main_while1b_v75 (addf : (⟨S4x512, .f32⟩ : BufTy).Contents (Elt F) → (⟨S4x512, .f32⟩ : BufTy).Contents (Elt F) → (⟨S4x512, .f32⟩ : BufTy).Contents (Elt F)),
    StableHlo.binary main_v50_10 main_while1b_v72 main_while1b_v76 (addf : (⟨S4x512, .f32⟩ : BufTy).Contents (Elt F) → (⟨S4x512, .f32⟩ : BufTy).Contents (Elt F) → (⟨S4x512, .f32⟩ : BufTy).Contents (Elt F)),
    StableHlo.binary main_v50_5 main_while1b_v76 main_while1b_v77 (mulf : (⟨S4x512, .f32⟩ : BufTy).Contents (Elt F) → (⟨S4x512, .f32⟩ : BufTy).Contents (Elt F) → (⟨S4x512, .f32⟩ : BufTy).Contents (Elt F)),
    StableHlo.binary main_while1b_v76 main_while1b_v73 main_while1b_v78 (mulf : (⟨S4x512, .f32⟩ : BufTy).Contents (Elt F) → (⟨S4x512, .f32⟩ : BufTy).Contents (Elt F) → (⟨S4x512, .f32⟩ : BufTy).Contents (Elt F)),
    StableHlo.binary main_v50_8 main_while1b_v78 main_while1b_v79 (addf : (⟨S4x512, .f32⟩ : BufTy).Contents (Elt F) → (⟨S4x512, .f32⟩ : BufTy).Contents (Elt F) → (⟨S4x512, .f32⟩ : BufTy).Contents (Elt F)),
    StableHlo.binary main_v50_4 main_while1b_v76 main_while1b_v80 (mulf : (⟨S4x512, .f32⟩ : BufTy).Contents (Elt F) → (⟨S4x512, .f32⟩ : BufTy).Contents (Elt F) → (⟨S4x512, .f32⟩ : BufTy).Contents (Elt F)),
    StableHlo.binary main_while1b_v76 main_while1b_v74 main_while1b_v81 (mulf : (⟨S4x512, .f32⟩ : BufTy).Contents (Elt F) → (⟨S4x512, .f32⟩ : BufTy).Contents (Elt F) → (⟨S4x512, .f32⟩ : BufTy).Contents (Elt F)),
    StableHlo.binary main_v50_7 main_while1b_v81 main_while1b_v82 (addf : (⟨S4x512, .f32⟩ : BufTy).Contents (Elt F) → (⟨S4x512, .f32⟩ : BufTy).Contents (Elt F) → (⟨S4x512, .f32⟩ : BufTy).Contents (Elt F)),
    StableHlo.unary main_while1b_v75 main_while1b_v83 (Host.negf : (⟨S4x512, .f32⟩ : BufTy).Contents (Elt F) → (⟨S4x512, .f32⟩ : BufTy).Contents (Elt F)),
    StableHlo.binary main_v50_5 main_while1b_v83 main_while1b_v84 (mulf : (⟨S4x512, .f32⟩ : BufTy).Contents (Elt F) → (⟨S4x512, .f32⟩ : BufTy).Contents (Elt F) → (⟨S4x512, .f32⟩ : BufTy).Contents (Elt F)),
    StableHlo.binary main_while1b_v80 main_while1b_v84 main_while1b_v85 (addf : (⟨S4x512, .f32⟩ : BufTy).Contents (Elt F) → (⟨S4x512, .f32⟩ : BufTy).Contents (Elt F) → (⟨S4x512, .f32⟩ : BufTy).Contents (Elt F)),
    StableHlo.binary main_while1b_v83 main_while1b_v74 main_while1b_v86 (mulf : (⟨S4x512, .f32⟩ : BufTy).Contents (Elt F) → (⟨S4x512, .f32⟩ : BufTy).Contents (Elt F) → (⟨S4x512, .f32⟩ : BufTy).Contents (Elt F)),
    StableHlo.binary main_while1b_v79 main_while1b_v86 main_while1b_v87 (addf : (⟨S4x512, .f32⟩ : BufTy).Contents (Elt F) → (⟨S4x512, .f32⟩ : BufTy).Contents (Elt F) → (⟨S4x512, .f32⟩ : BufTy).Contents (Elt F)),
    StableHlo.binary main_v50_4 main_while1b_v75 main_while1b_v88 (mulf : (⟨S4x512, .f32⟩ : BufTy).Contents (Elt F) → (⟨S4x512, .f32⟩ : BufTy).Contents (Elt F) → (⟨S4x512, .f32⟩ : BufTy).Contents (Elt F)),
    StableHlo.binary main_while1b_v77 main_while1b_v88 main_while1b_v89 (addf : (⟨S4x512, .f32⟩ : BufTy).Contents (Elt F) → (⟨S4x512, .f32⟩ : BufTy).Contents (Elt F) → (⟨S4x512, .f32⟩ : BufTy).Contents (Elt F)),
    StableHlo.binary main_while1b_v75 main_while1b_v73 main_while1b_v90 (mulf : (⟨S4x512, .f32⟩ : BufTy).Contents (Elt F) → (⟨S4x512, .f32⟩ : BufTy).Contents (Elt F) → (⟨S4x512, .f32⟩ : BufTy).Contents (Elt F)),
    StableHlo.binary main_while1b_v82 main_while1b_v90 main_while1b_v91 (addf : (⟨S4x512, .f32⟩ : BufTy).Contents (Elt F) → (⟨S4x512, .f32⟩ : BufTy).Contents (Elt F) → (⟨S4x512, .f32⟩ : BufTy).Contents (Elt F)) ]
/-- Each touches TensorCore references only (`HostSeg.ofOps` over `StableHlo.tcRefs`, or a subset by `sub_ucRefs`). -/
theorem while1Ops0_5_sub : (while1Ops0_5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
/-- 4 host operations of @dynamic_update_index_in_dim (main_while1b_call10), in order. -/
abbrev while1Ops0_6 : List (HloOp τ sig (Elt F)) :=
  [ StableHlo.TRef.unary (.of main_while1b_v75 : StableHlo.TRef sig ⟨S4x512, .f32⟩) (.of main_while1b_call10_v0 : StableHlo.TRef sig ⟨S1x4x512, .f32⟩) (broadcastInDim S1x4x512 ![1, 2] bcast_S4x512_S1x4x512_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v50_11 : StableHlo.TRef sig ⟨S2048x4x512, .f32⟩) (.of main_while1b_call10_v0 : StableHlo.TRef sig ⟨S1x4x512, .f32⟩) ![(.of main_while1b_v70 : StableHlo.TRef sig ⟨S_, .i32⟩), (.of main_while1b_call10_c : StableHlo.TRef sig ⟨S_, .i32⟩), (.of main_while1b_call10_c_0 : StableHlo.TRef sig ⟨S_, .i32⟩)] (.of main_while1b_v92 : StableHlo.TRef sig ⟨S2048x4x512, .f32⟩) (fun x u i => Host.dynamicUpdateSlice x u (fun k => (i k (Shape.Idx.first h_S_)).toInt) updateFits_S2048x4x512_S1x4x512) ]
/-- Each touches TensorCore references only (`HostSeg.ofOps` over `StableHlo.tcRefs`, or a subset by `sub_ucRefs`). -/
theorem while1Ops0_6_sub : (while1Ops0_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call11), in order. -/
abbrev while1Ops0_7 : List (HloOp τ sig (Elt F)) :=
  [ StableHlo.TRef.unary (.of main_while1b_v76 : StableHlo.TRef sig ⟨S4x512, .f32⟩) (.of main_while1b_call11_v0 : StableHlo.TRef sig ⟨S1x4x512, .f32⟩) (broadcastInDim S1x4x512 ![1, 2] bcast_S4x512_S1x4x512_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v50_12 : StableHlo.TRef sig ⟨S2048x4x512, .f32⟩) (.of main_while1b_call11_v0 : StableHlo.TRef sig ⟨S1x4x512, .f32⟩) ![(.of main_while1b_v70 : StableHlo.TRef sig ⟨S_, .i32⟩), (.of main_while1b_call11_c : StableHlo.TRef sig ⟨S_, .i32⟩), (.of main_while1b_call11_c_0 : StableHlo.TRef sig ⟨S_, .i32⟩)] (.of main_while1b_v93 : StableHlo.TRef sig ⟨S2048x4x512, .f32⟩) (fun x u i => Host.dynamicUpdateSlice x u (fun k => (i k (Shape.Idx.first h_S_)).toInt) updateFits_S2048x4x512_S1x4x512) ]
/-- Each touches TensorCore references only (`HostSeg.ofOps` over `StableHlo.tcRefs`, or a subset by `sub_ucRefs`). -/
theorem while1Ops0_7_sub : (while1Ops0_7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 9 host operations of host loop 1's body region, in order. -/
abbrev while1Ops0_8 : List (HloOp τ sig (Elt F)) :=
  [ StableHlo.nullary main_while1b_c_27 (constantI S_ 32 1#32),
    StableHlo.binary main_v50_6 main_while1b_c_27 main_while1b_v94 (addi : (⟨S_, .i32⟩ : BufTy).Contents (Elt F) → (⟨S_, .i32⟩ : BufTy).Contents (Elt F) → (⟨S_, .i32⟩ : BufTy).Contents (Elt F)),
    StableHlo.unary main_while1b_v94 main_v50_6 id,
    StableHlo.unary main_while1b_v91 main_v50_7 id,
    StableHlo.unary main_while1b_v87 main_v50_8 id,
    StableHlo.unary main_while1b_v89 main_v50_9 id,
    StableHlo.unary main_while1b_v85 main_v50_10 id,
    StableHlo.unary main_while1b_v92 main_v50_11 id,
    StableHlo.unary main_while1b_v93 main_v50_12 id ]
/-- Each touches TensorCore references only (`HostSeg.ofOps` over `StableHlo.tcRefs`, or a subset by `sub_ucRefs`). -/
theorem while1Ops0_8_sub : (while1Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_v7, main_v8, main_v9, main_v10, main_v11, main_v12, main_cst, main_v13, main_cst_0, main_v14, main_cst_1, main_v15, main_cst_2, main_v16, main_cst_3, main_v17, main_c, main_v18_0, main_v18_1, main_v18_2, main_v18_3, main_v18_4, main_v18_5, main_v18_6, main_v18_7, main_v18_8, main_v18_9, main_v18_10]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v19, main_v20, main_v21, main_v22, main_v23, main_v24, main_v25, main_v26, main_v27, main_cst_4, main_v28, main_cst_5, main_v29, main_v30, main_v31, main_v32, main_v33, main_v34, main_v35, main_v36, main_v37, main_v38, main_v39, main_v40, main_v41, main_v42, main_v43, main_cst_6, main_v44, main_cst_7, main_v45, main_cst_8, main_v46, main_cst_9, main_v47, main_cst_10, main_v48, main_cst_11, main_v49, main_c_12, main_v50_0, main_v50_1, main_v50_2, main_v50_3, main_v50_4, main_v50_5, main_v50_6, main_v50_7, main_v50_8, main_v50_9, main_v50_10, main_v50_11, main_v50_12]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v51, main_v52, main_v53, main_v54, main_v55, main_v56, main_v57, main_v58, main_v59, main_v60, main_v61, main_v62, main_v63, main_v64, main_v65, main_v66, main_v67, main_v68]
theorem hostOps0_2_writes : (hostOps0_2 : List (HloOp τ sig (Elt F))).Forall fun op => op.writes ⊆ (hostOps0_2_W.map (Proc.devRef (τ := τ) .tc)).toFinset :=
  StableHlo.forall_writes_sub_of_map rfl

end Cert.ReferenceIdeal.Host

end
-- ==== Proof.RefSlots.lean ====
/- Reading and writing one time of a stack, and the pairs of reals the reference's recurrences carry. -/
module

public import proofs.«01_k».proof.Proof.Spec
public import proofs.«01_k».proof.Proof.RefOps
public import Idealize.ShloMosaic.Lib.WordCmp

@[expose] public section

set_option maxRecDepth 16384

noncomputable section

namespace Cert.S5.Ref

open Cert.ReferenceIdeal Cert.ReferenceIdeal.Gen
open Idealize.ShloMosaic Idealize.ShloMosaic.TcCoe

/-- The state's column at a place of a group. -/
def col (i : S4x512.Idx) : ℕ := 512 * (i 0).val + (i 1).val
/-- The state's column at a place of a stack. -/
def col3 (i : S2048x4x512.Idx) : ℕ := 512 * (i 1).val + (i 2).val

variable {α : Type}

/-- One time of a stack, read. -/
theorem slice_at (x : S2048x4x512.Idx → α) (start : Fin 3 → ℤ) (h : S2048x4x512.Slices (fun _ => 0) S1x4x512) (h' : S1x4x512.ShapeCasts S4x512)
    (n : ℕ) (hn : n < 2048) (e0 : start 0 = (n : ℤ)) (e1 : start 1 = 0) (e2 : start 2 = 0) (j : S4x512.Idx) :
    shapeCast S4x512 (Host.dynamicSlice S1x4x512 x start h) h' j = x (ix3 ⟨n, hn⟩ (j 0) (j 1)) := by
  have hs : S2048x4x512.Slices ![n, 0, 0] S1x4x512 := ⟨rfl, fun a => by fin_cases a <;> simp [Shape.size] <;> omega⟩
  rw [WordCmp.dynamicSlice_eq_extract S1x4x512 x start h ![n, 0, 0] hs (fun a => by fin_cases a <;> assumption)]
  simp only [pointwise]
  simp

/-- One time of a stack, written. -/
theorem put_at (x : S2048x4x512.Idx → α) (v : S4x512.Idx → α) (start : Fin 3 → ℤ) (h : S2048x4x512.Slices (fun _ => 0) S1x4x512) (hb : S4x512.BroadcastsInDim S1x4x512 ![1, 2])
    (n : ℕ) (hn : n < 2048) (e0 : start 0 = (n : ℤ)) (e1 : start 1 = 0) (e2 : start 2 = 0) (i : S2048x4x512.Idx) :
    Host.dynamicUpdateSlice x (broadcastInDim S1x4x512 ![1, 2] hb v) start h i = if (i 0).val = n then v (ix2 (i 1) (i 2)) else x i := by
  have hs : S2048x4x512.Slices ![n, 0, 0] S1x4x512 := ⟨rfl, fun a => by fin_cases a <;> simp [Shape.size] <;> omega⟩
  rw [WordCmp.dynamicUpdateSlice_eq_update x _ start h ![n, 0, 0] hs (fun a => by fin_cases a <;> assumption)]
  simp only [pointwise]
  have hi1 := (i 1).isLt
  have hi2 := (i 2).isLt
  by_cases hi : (i 0).val = n
  · rw [if_pos hi, dif_pos (by simp; omega)]
    simp
  · rw [if_neg hi, dif_neg (by simp; omega)]

variable {st : Fin 3 → ℤ} {n : ℕ} {h : S2048x4x512.Slices (fun _ => 0) S1x4x512} {h' : S1x4x512.ShapeCasts S4x512}
  {hb : S4x512.BroadcastsInDim S1x4x512 ![1, 2]}

/-- One time of a pair of stacks. -/
theorem slice_pair {v w : FVec Ideal S2048x4x512 .f32} {Z : ℕ → ℕ → ℂ} (hv : IsC v w (fun i => Z (i 0).val (col3 i))) (hn : n < 2048)
    (e0 : st 0 = (n : ℤ)) (e1 : st 1 = 0) (e2 : st 2 = 0) :
    IsC (s := S4x512) (shapeCast S4x512 (Host.dynamicSlice S1x4x512 v st h) h') (shapeCast S4x512 (Host.dynamicSlice S1x4x512 w st h) h') (fun i => Z n (col i)) :=
  ⟨fun i => (slice_at v st h h' n hn e0 e1 e2 i).trans (hv.re _), fun i => (slice_at w st h h' n hn e0 e1 e2 i).trans (hv.im _)⟩

/-- One time put into a pair of stacks. -/
theorem put_pair {v w : FVec Ideal S2048x4x512 .f32} {x y : FVec Ideal S4x512 .f32} {Z Z' : ℕ → ℕ → ℂ} (hv : IsC v w (fun i => Z (i 0).val (col3 i))) {X : ℕ → ℂ}
    (hx : IsC x y (fun i => X (col i))) (hn : n < 2048) (e0 : st 0 = (n : ℤ)) (e1 : st 1 = 0) (e2 : st 2 = 0)
    (hZ : ∀ t q, Z' t q = if t = n then X q else Z t q) :
    IsC (s := S2048x4x512) (Host.dynamicUpdateSlice v (broadcastInDim S1x4x512 ![1, 2] hb x) st h) (Host.dynamicUpdateSlice w (broadcastInDim S1x4x512 ![1, 2] hb y) st h)
      (fun i => Z' (i 0).val (col3 i)) := by
  refine ⟨fun i => (put_at v x st h hb n hn e0 e1 e2 i).trans ?_, fun i => (put_at w y st h hb n hn e0 e1 e2 i).trans ?_⟩
  · simp only [hZ]
    split_ifs
    · exact hx.re _
    · exact hv.re _
  · simp only [hZ]
    split_ifs
    · exact hx.im _
    · exact hv.im _

/-- A counter's word as a number. -/
theorem ctr_int {k : ℕ} (hk : k < 2048) : (BitVec.ofNat 32 k).toInt = (k : ℤ) := WordCmp.toInt_ofNat_of_lt (by omega)

end Cert.S5.Ref

end
-- ==== Proof.RefLoop0.lean ====
/- The reference's loop 0 (the recurrence forwards): the counter, the condition, one trip's values from any contents
   (`STEP`), and the contents before the `k`-th trip. -/
module

public import proofs.«01_k».proof.Proof.RefOps

@[expose] public section

set_option maxRecDepth 1400

noncomputable section

namespace Cert.ReferenceIdeal.Loop0

open Cert.ReferenceIdeal Cert.ReferenceIdeal.Gen Cert.ReferenceIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_v0, main_while0b_v69]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_c, main_while0b_call1_c_0, main_while0b_call1_v0, main_while0b_v70]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v71, main_while0b_v72, main_while0b_v73, main_while0b_v74, main_while0b_v75, main_while0b_v76, main_while0b_v77, main_while0b_v78]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_v0, main_while0b_call2_c, main_while0b_call2_c_0, main_while0b_v79]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call3_v0, main_while0b_call3_c, main_while0b_call3_c_0, main_while0b_v80]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call4_v0, main_while0b_call4_c, main_while0b_call4_c_0, main_while0b_v81]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call5_v0, main_while0b_call5_c, main_while0b_call5_c_0, main_while0b_v82]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_c_23, main_while0b_v83, main_v18_4, main_v18_5, main_v18_6, main_v18_7, main_v18_8, main_v18_9, main_v18_10]
theorem while0Ops0_7_writes : (while0Ops0_7 : List (HloOp τ sig (Elt F))).Forall fun op => op.writes ⊆ (while0Ops0_7_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_23 (constantI S_ 32 2048#32),
    StableHlo.binary main_v18_4 main_while0c_c_23 main_while0c_v69 (cmpi .slt) ]

/-- The loop body's stretches. -/
abbrev bodyI : List (List (HloOp τ sig (Elt F))) := [while0Ops0, while0Ops0_1, while0Ops0_2, while0Ops0_3, while0Ops0_4, while0Ops0_5, while0Ops0_6, while0Ops0_7]

theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.nil))))))))

/-- The reference each operation of `condOps` writes, in order. -/
abbrev condOps_W : List (Ref sig .tc) := [main_while0c_c_23, main_while0c_v69]
theorem condOps_writes : (condOps : List (HloOp τ sig (Elt F))).Forall fun op => op.writes ⊆ (condOps_W.map (Proc.devRef (τ := τ) .tc)).toFinset :=
  StableHlo.forall_writes_sub_of_map rfl

variable (E : Dev nD → Valuation τ sig (Elt F))

/-- The trip counter (`main_v18_4`) is written by one stretch of the body, `while0Ops0_7`: not by the condition, nor by the
    body's other stretches. -/
theorem ctr_cond (V : Valuation τ sig (Elt F)) : after condOps V (Proc.devRef .tc main_v18_4) = V (Proc.devRef .tc main_v18_4) :=
  after_of_writes_sub condOps V condOps_writes (by decide +kernel)
theorem ctr_while0Ops0 (V : Valuation τ sig (Elt F)) : after while0Ops0 V (Proc.devRef .tc main_v18_4) = V (Proc.devRef .tc main_v18_4) :=
  after_of_writes_sub while0Ops0 V while0Ops0_writes (by decide +kernel)
theorem ctr_while0Ops0_1 (V : Valuation τ sig (Elt F)) : after while0Ops0_1 V (Proc.devRef .tc main_v18_4) = V (Proc.devRef .tc main_v18_4) :=
  after_of_writes_sub while0Ops0_1 V while0Ops0_1_writes (by decide +kernel)
theorem ctr_while0Ops0_2 (V : Valuation τ sig (Elt F)) : after while0Ops0_2 V (Proc.devRef .tc main_v18_4) = V (Proc.devRef .tc main_v18_4) :=
  after_of_writes_sub while0Ops0_2 V while0Ops0_2_writes (by decide +kernel)
theorem ctr_while0Ops0_3 (V : Valuation τ sig (Elt F)) : after while0Ops0_3 V (Proc.devRef .tc main_v18_4) = V (Proc.devRef .tc main_v18_4) :=
  after_of_writes_sub while0Ops0_3 V while0Ops0_3_writes (by decide +kernel)
theorem ctr_while0Ops0_4 (V : Valuation τ sig (Elt F)) : after while0Ops0_4 V (Proc.devRef .tc main_v18_4) = V (Proc.devRef .tc main_v18_4) :=
  after_of_writes_sub while0Ops0_4 V while0Ops0_4_writes (by decide +kernel)
theorem ctr_while0Ops0_5 (V : Valuation τ sig (Elt F)) : after while0Ops0_5 V (Proc.devRef .tc main_v18_4) = V (Proc.devRef .tc main_v18_4) :=
  after_of_writes_sub while0Ops0_5 V while0Ops0_5_writes (by decide +kernel)
theorem ctr_while0Ops0_6 (V : Valuation τ sig (Elt F)) : after while0Ops0_6 V (Proc.devRef .tc main_v18_4) = V (Proc.devRef .tc main_v18_4) :=
  after_of_writes_sub while0Ops0_6 V while0Ops0_6_writes (by decide +kernel)

set_option maxRecDepth 100000 in
/-- `while0Ops0_7` leaves the counter one step on. -/
theorem ctr_step (X : Valuation τ sig (Elt F)) :
    after while0Ops0_7 X (Proc.devRef .tc main_v18_4) = addi (X (Proc.devRef .tc main_v18_4)) (constantI S_ 32 1#32) := by
  after_results
  rfl

/-- Before the `k`-th condition the counter is the loop's induction variable at `k`. -/
theorem atK_ctr (hE : ∀ c, E c (Proc.devRef .tc main_v18_4) = fun _ => (0#32 : BitVec 32)) (c : Dev nD) : ∀ k, atTrip condOps bodyI E k c (Proc.devRef .tc main_v18_4) = fun _ => Scf.iv 0#32 1#32 k
  | 0 => by rw [show atTrip condOps bodyI E 0 c = E c from rfl, hE, Scf.iv_zero]
  | k + 1 => by
    rw [show atTrip condOps bodyI E (k + 1) c = afterL bodyI (after condOps (atTrip condOps bodyI E k c)) from rfl]
    simp only [afterL_cons, afterL_nil]
    rw [ctr_step, ctr_while0Ops0_6, ctr_while0Ops0_5, ctr_while0Ops0_4, ctr_while0Ops0_3, ctr_while0Ops0_2, ctr_while0Ops0_1, ctr_while0Ops0, ctr_cond, atK_ctr hE c k, Scf.iv_succ]
    rfl

-- `iapply` of a rule stated for any thread at the TensorCore thread unifies only when unification may unfold
-- plain definitions in a metavariable's type
set_option backward.isDefEq.respectTransparency.types false in
/-- The condition's specification at the fold. -/
theorem cond_spec (hE : ∀ c, E c (Proc.devRef .tc main_v18_4) = fun _ => (0#32 : BitVec 32)) : CondSpec (pcfgs (F := F)) defs₀ loops (main_while0_cond (F := F)) condOps bodyI E 2048 := by
  intro k hk c bd
  have hctr := atK_ctr E hE c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI E k c) main_v18_4 HostLoop.idx0)
        (HloOp.result _ (atTrip condOps bodyI E k c) main_while0c_c_23 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## One trip's values -/

/-- The body's operations 1 … 3 of 41. -/
abbrev trip_w0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v18_0 : StableHlo.TRef sig ⟨S2048x4x512, .f32⟩) ![(.of main_v18_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x4x512, .f32⟩) (fun x i => Host.dynamicSlice S1x4x512 x (fun k => (i k (Shape.Idx.first h_S_)).toInt) sliceFits_S2048x4x512_S1x4x512) ]

/-- The body's operations 4 … 4 of 41. -/
abbrev trip_w1 : List (HloOp τ sig (Elt F)) :=
  [ StableHlo.TRef.reshape (.of main_while0b_call0_v0 : StableHlo.TRef sig ⟨S1x4x512, .f32⟩) (.of main_while0b_v69 : StableHlo.TRef sig ⟨S4x512, .f32⟩) (rfl : (.f32 : EltTy) = .f32) shapeCasts_S1x4x512_S4x512 ]

/-- The body's operations 5 … 7 of 41. -/
abbrev trip_w2 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v18_1 : StableHlo.TRef sig ⟨S2048x4x512, .f32⟩) ![(.of main_v18_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x4x512, .f32⟩) (fun x i => Host.dynamicSlice S1x4x512 x (fun k => (i k (Shape.Idx.first h_S_)).toInt) sliceFits_S2048x4x512_S1x4x512) ]

/-- The body's operations 8 … 8 of 41. -/
abbrev trip_w3 : List (HloOp τ sig (Elt F)) :=
  [ StableHlo.TRef.reshape (.of main_while0b_call1_v0 : StableHlo.TRef sig ⟨S1x4x512, .f32⟩) (.of main_while0b_v70 : StableHlo.TRef sig ⟨S4x512, .f32⟩) (rfl : (.f32 : EltTy) = .f32) shapeCasts_S1x4x512_S4x512 ]

/-- The body's operations 9 … 16 of 41. -/
abbrev trip_w4 : List (HloOp τ sig (Elt F)) :=
  [ StableHlo.binary main_v18_2 main_v18_5 main_while0b_v71 (mulf : (⟨S4x512, .f32⟩ : BufTy).Contents (Elt F) → (⟨S4x512, .f32⟩ : BufTy).Contents (Elt F) → (⟨S4x512, .f32⟩ : BufTy).Contents (Elt F)),
    StableHlo.binary main_v18_3 main_v18_6 main_while0b_v72 (mulf : (⟨S4x512, .f32⟩ : BufTy).Contents (Elt F) → (⟨S4x512, .f32⟩ : BufTy).Contents (Elt F) → (⟨S4x512, .f32⟩ : BufTy).Contents (Elt F)),
    StableHlo.binary main_while0b_v71 main_while0b_v72 main_while0b_v73 (subf : (⟨S4x512, .f32⟩ : BufTy).Contents (Elt F) → (⟨S4x512, .f32⟩ : BufTy).Contents (Elt F) → (⟨S4x512, .f32⟩ : BufTy).Contents (Elt F)),
    StableHlo.binary main_while0b_v73 main_while0b_v69 main_while0b_v74 (addf : (⟨S4x512, .f32⟩ : BufTy).Contents (Elt F) → (⟨S4x512, .f32⟩ : BufTy).Contents (Elt F) → (⟨S4x512, .f32⟩ : BufTy).Contents (Elt F)),
    StableHlo.binary main_v18_2 main_v18_6 main_while0b_v75 (mulf : (⟨S4x512, .f32⟩ : BufTy).Contents (Elt F) → (⟨S4x512, .f32⟩ : BufTy).Contents (Elt F) → (⟨S4x512, .f32⟩ : BufTy).Contents (Elt F)),
    StableHlo.binary main_v18_3 main_v18_5 main_while0b_v76 (mulf : (⟨S4x512, .f32⟩ : BufTy).Contents (Elt F) → (⟨S4x512, .f32⟩ : BufTy).Contents (Elt F) → (⟨S4x512, .f32⟩ : BufTy).Contents (Elt F)),
    StableHlo.binary main_while0b_v75 main_while0b_v76 main_while0b_v77 (addf : (⟨S4x512, .f32⟩ : BufTy).Contents (Elt F) → (⟨S4x512, .f32⟩ : BufTy).Contents (Elt F) → (⟨S4x512, .f32⟩ : BufTy).Contents (Elt F)),
    StableHlo.binary main_while0b_v77 main_while0b_v70 main_while0b_v78 (addf : (⟨S4x512, .f32⟩ : BufTy).Contents (Elt F) → (⟨S4x512, .f32⟩ : BufTy).Contents (Elt F) → (⟨S4x512, .f32⟩ : BufTy).Contents (Elt F)) ]

/-- The body's operations 17 … 20 of 41. -/
abbrev trip_w5 : List (HloOp τ sig (Elt F)) :=
  [ StableHlo.TRef.unary (.of main_while0b_v74 : StableHlo.TRef sig ⟨S4x512, .f32⟩) (.of main_while0b_call2_v0 : StableHlo.TRef sig ⟨S1x4x512, .f32⟩) (broadcastInDim S1x4x512 ![1, 2] bcast_S4x512_S1x4x512_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v18_7 : StableHlo.TRef sig ⟨S2048x4x512, .f32⟩) (.of main_while0b_call2_v0 : StableHlo.TRef sig ⟨S1x4x512, .f32⟩) ![(.of main_v18_4 : StableHlo.TRef sig ⟨S_, .i32⟩), (.of main_while0b_call2_c : StableHlo.TRef sig ⟨S_, .i32⟩), (.of main_while0b_call2_c_0 : StableHlo.TRef sig ⟨S_, .i32⟩)] (.of main_while0b_v79 : StableHlo.TRef sig ⟨S2048x4x512, .f32⟩) (fun x u i => Host.dynamicUpdateSlice x u (fun k => (i k (Shape.Idx.first h_S_)).toInt) updateFits_S2048x4x512_S1x4x512) ]

/-- The body's operations 21 … 24 of 41. -/
abbrev trip_w6 : List (HloOp τ sig (Elt F)) :=
  [ StableHlo.TRef.unary (.of main_while0b_v78 : StableHlo.TRef sig ⟨S4x512, .f32⟩) (.of main_while0b_call3_v0 : StableHlo.TRef sig ⟨S1x4x512, .f32⟩) (broadcastInDim S1x4x512 ![1, 2] bcast_S4x512_S1x4x512_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v18_8 : StableHlo.TRef sig ⟨S2048x4x512, .f32⟩) (.of main_while0b_call3_v0 : StableHlo.TRef sig ⟨S1x4x512, .f32⟩) ![(.of main_v18_4 : StableHlo.TRef sig ⟨S_, .i32⟩), (.of main_while0b_call3_c : StableHlo.TRef sig ⟨S_, .i32⟩), (.of main_while0b_call3_c_0 : StableHlo.TRef sig ⟨S_, .i32⟩)] (.of main_while0b_v80 : StableHlo.TRef sig ⟨S2048x4x512, .f32⟩) (fun x u i => Host.dynamicUpdateSlice x u (fun k => (i k (Shape.Idx.first h_S_)).toInt) updateFits_S2048x4x512_S1x4x512) ]

/-- The body's operations 25 … 28 of 41. -/
abbrev trip_w7 : List (HloOp τ sig (Elt F)) :=
  [ StableHlo.TRef.unary (.of main_v18_5 : StableHlo.TRef sig ⟨S4x512, .f32⟩) (.of main_while0b_call4_v0 : StableHlo.TRef sig ⟨S1x4x512, .f32⟩) (broadcastInDim S1x4x512 ![1, 2] bcast_S4x512_S1x4x512_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v18_9 : StableHlo.TRef sig ⟨S2048x4x512, .f32⟩) (.of main_while0b_call4_v0 : StableHlo.TRef sig ⟨S1x4x512, .f32⟩) ![(.of main_v18_4 : StableHlo.TRef sig ⟨S_, .i32⟩), (.of main_while0b_call4_c : StableHlo.TRef sig ⟨S_, .i32⟩), (.of main_while0b_call4_c_0 : StableHlo.TRef sig ⟨S_, .i32⟩)] (.of main_while0b_v81 : StableHlo.TRef sig ⟨S2048x4x512, .f32⟩) (fun x u i => Host.dynamicUpdateSlice x u (fun k => (i k (Shape.Idx.first h_S_)).toInt) updateFits_S2048x4x512_S1x4x512) ]

/-- The body's operations 29 … 32 of 41. -/
abbrev trip_w8 : List (HloOp τ sig (Elt F)) :=
  [ StableHlo.TRef.unary (.of main_v18_6 : StableHlo.TRef sig ⟨S4x512, .f32⟩) (.of main_while0b_call5_v0 : StableHlo.TRef sig ⟨S1x4x512, .f32⟩) (broadcastInDim S1x4x512 ![1, 2] bcast_S4x512_S1x4x512_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v18_10 : StableHlo.TRef sig ⟨S2048x4x512, .f32⟩) (.of main_while0b_call5_v0 : StableHlo.TRef sig ⟨S1x4x512, .f32⟩) ![(.of main_v18_4 : StableHlo.TRef sig ⟨S_, .i32⟩), (.of main_while0b_call5_c : StableHlo.TRef sig ⟨S_, .i32⟩), (.of main_while0b_call5_c_0 : StableHlo.TRef sig ⟨S_, .i32⟩)] (.of main_while0b_v82 : StableHlo.TRef sig ⟨S2048x4x512, .f32⟩) (fun x u i => Host.dynamicUpdateSlice x u (fun k => (i k (Shape.Idx.first h_S_)).toInt) updateFits_S2048x4x512_S1x4x512) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 := rfl
set_option maxRecDepth 5000 in
/-- `while0Ops0_6` is its windows in order. -/
theorem while0Ops0_6_cut : (while0Ops0_6 : List (HloOp τ sig (Elt F))) = trip_w8 := rfl

set_option maxRecDepth 8192 in
/-- `main_while0b_v74`'s composed term of the carried buffers (named: it is used 2 times). -/
def res_main_while0b_v74 (V0 : Valuation τ sig (Elt F)) : (Proc.devRef .tc main_while0b_v74 : DevRef τ sig).ty.Contents (Elt F) :=
  addf (subf (mulf (V0 (Proc.devRef .tc main_v18_2)) (V0 (Proc.devRef .tc main_v18_5))) (mulf (V0 (Proc.devRef .tc main_v18_3)) (V0 (Proc.devRef .tc main_v18_6)))) (shapeCast S4x512 (Host.dynamicSlice S1x4x512 (V0 (Proc.devRef .tc main_v18_0)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512) shapeCasts_S1x4x512_S4x512)

set_option maxRecDepth 8192 in
/-- `main_while0b_v78`'s composed term of the carried buffers (named: it is used 2 times). -/
def res_main_while0b_v78 (V0 : Valuation τ sig (Elt F)) : (Proc.devRef .tc main_while0b_v78 : DevRef τ sig).ty.Contents (Elt F) :=
  addf (addf (mulf (V0 (Proc.devRef .tc main_v18_2)) (V0 (Proc.devRef .tc main_v18_6))) (mulf (V0 (Proc.devRef .tc main_v18_3)) (V0 (Proc.devRef .tc main_v18_5)))) (shapeCast S4x512 (Host.dynamicSlice S1x4x512 (V0 (Proc.devRef .tc main_v18_1)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512) shapeCasts_S1x4x512_S4x512)

/-- The device's buffer contents before the body's first window. -/
def val0 (V0 : Valuation τ sig (Elt F)) : Valuation τ sig (Elt F) := V0
theorem val0_main_v18_0 (V0 : Valuation τ sig (Elt F)) : val0 V0 (no_index (Proc.devRef .tc main_v18_0)) = V0 (Proc.devRef .tc main_v18_0) := rfl
theorem val0_main_v18_4 (V0 : Valuation τ sig (Elt F)) : val0 V0 (no_index (Proc.devRef .tc main_v18_4)) = V0 (Proc.devRef .tc main_v18_4) := rfl
theorem val0_main_v18_1 (V0 : Valuation τ sig (Elt F)) : val0 V0 (no_index (Proc.devRef .tc main_v18_1)) = V0 (Proc.devRef .tc main_v18_1) := rfl
theorem val0_main_v18_2 (V0 : Valuation τ sig (Elt F)) : val0 V0 (no_index (Proc.devRef .tc main_v18_2)) = V0 (Proc.devRef .tc main_v18_2) := rfl
theorem val0_main_v18_5 (V0 : Valuation τ sig (Elt F)) : val0 V0 (no_index (Proc.devRef .tc main_v18_5)) = V0 (Proc.devRef .tc main_v18_5) := rfl
theorem val0_main_v18_3 (V0 : Valuation τ sig (Elt F)) : val0 V0 (no_index (Proc.devRef .tc main_v18_3)) = V0 (Proc.devRef .tc main_v18_3) := rfl
theorem val0_main_v18_6 (V0 : Valuation τ sig (Elt F)) : val0 V0 (no_index (Proc.devRef .tc main_v18_6)) = V0 (Proc.devRef .tc main_v18_6) := rfl
theorem val0_main_v18_7 (V0 : Valuation τ sig (Elt F)) : val0 V0 (no_index (Proc.devRef .tc main_v18_7)) = V0 (Proc.devRef .tc main_v18_7) := rfl
theorem val0_main_v18_8 (V0 : Valuation τ sig (Elt F)) : val0 V0 (no_index (Proc.devRef .tc main_v18_8)) = V0 (Proc.devRef .tc main_v18_8) := rfl
theorem val0_main_v18_9 (V0 : Valuation τ sig (Elt F)) : val0 V0 (no_index (Proc.devRef .tc main_v18_9)) = V0 (Proc.devRef .tc main_v18_9) := rfl
theorem val0_main_v18_10 (V0 : Valuation τ sig (Elt F)) : val0 V0 (no_index (Proc.devRef .tc main_v18_10)) = V0 (Proc.devRef .tc main_v18_10) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call0_c, main_while0b_call0_c_0, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v18_0 (V0 : Valuation τ sig (Elt F)) : val1 V0 (no_index (Proc.devRef .tc main_v18_0)) = V0 (Proc.devRef .tc main_v18_0) :=
  (val1_keep V0 main_v18_0 (by decide)).trans (val0_main_v18_0 V0)
theorem val1_main_v18_4 (V0 : Valuation τ sig (Elt F)) : val1 V0 (no_index (Proc.devRef .tc main_v18_4)) = V0 (Proc.devRef .tc main_v18_4) :=
  (val1_keep V0 main_v18_4 (by decide)).trans (val0_main_v18_4 V0)
theorem val1_main_v18_1 (V0 : Valuation τ sig (Elt F)) : val1 V0 (no_index (Proc.devRef .tc main_v18_1)) = V0 (Proc.devRef .tc main_v18_1) :=
  (val1_keep V0 main_v18_1 (by decide)).trans (val0_main_v18_1 V0)
theorem val1_main_v18_2 (V0 : Valuation τ sig (Elt F)) : val1 V0 (no_index (Proc.devRef .tc main_v18_2)) = V0 (Proc.devRef .tc main_v18_2) :=
  (val1_keep V0 main_v18_2 (by decide)).trans (val0_main_v18_2 V0)
theorem val1_main_v18_5 (V0 : Valuation τ sig (Elt F)) : val1 V0 (no_index (Proc.devRef .tc main_v18_5)) = V0 (Proc.devRef .tc main_v18_5) :=
  (val1_keep V0 main_v18_5 (by decide)).trans (val0_main_v18_5 V0)
theorem val1_main_v18_3 (V0 : Valuation τ sig (Elt F)) : val1 V0 (no_index (Proc.devRef .tc main_v18_3)) = V0 (Proc.devRef .tc main_v18_3) :=
  (val1_keep V0 main_v18_3 (by decide)).trans (val0_main_v18_3 V0)
theorem val1_main_v18_6 (V0 : Valuation τ sig (Elt F)) : val1 V0 (no_index (Proc.devRef .tc main_v18_6)) = V0 (Proc.devRef .tc main_v18_6) :=
  (val1_keep V0 main_v18_6 (by decide)).trans (val0_main_v18_6 V0)
theorem val1_main_v18_7 (V0 : Valuation τ sig (Elt F)) : val1 V0 (no_index (Proc.devRef .tc main_v18_7)) = V0 (Proc.devRef .tc main_v18_7) :=
  (val1_keep V0 main_v18_7 (by decide)).trans (val0_main_v18_7 V0)
theorem val1_main_v18_8 (V0 : Valuation τ sig (Elt F)) : val1 V0 (no_index (Proc.devRef .tc main_v18_8)) = V0 (Proc.devRef .tc main_v18_8) :=
  (val1_keep V0 main_v18_8 (by decide)).trans (val0_main_v18_8 V0)
theorem val1_main_v18_9 (V0 : Valuation τ sig (Elt F)) : val1 V0 (no_index (Proc.devRef .tc main_v18_9)) = V0 (Proc.devRef .tc main_v18_9) :=
  (val1_keep V0 main_v18_9 (by decide)).trans (val0_main_v18_9 V0)
theorem val1_main_v18_10 (V0 : Valuation τ sig (Elt F)) : val1 V0 (no_index (Proc.devRef .tc main_v18_10)) = V0 (Proc.devRef .tc main_v18_10) :=
  (val1_keep V0 main_v18_10 (by decide)).trans (val0_main_v18_10 V0)
set_option maxRecDepth 8192 in
theorem val1_main_while0b_call0_v0 (V0 : Valuation τ sig (Elt F)) : val1 V0 (no_index (Proc.devRef .tc main_while0b_call0_v0)) = Host.dynamicSlice S1x4x512 (V0 (Proc.devRef .tc main_v18_0)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512 := by
  unfold val1
  simp only [trip_w0]
  after_results_entrywise [val0_main_v18_4, val0_main_v18_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v69]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v18_0 (V0 : Valuation τ sig (Elt F)) : val2 V0 (no_index (Proc.devRef .tc main_v18_0)) = V0 (Proc.devRef .tc main_v18_0) :=
  (val2_keep V0 main_v18_0 (by decide)).trans (val1_main_v18_0 V0)
theorem val2_main_v18_4 (V0 : Valuation τ sig (Elt F)) : val2 V0 (no_index (Proc.devRef .tc main_v18_4)) = V0 (Proc.devRef .tc main_v18_4) :=
  (val2_keep V0 main_v18_4 (by decide)).trans (val1_main_v18_4 V0)
theorem val2_main_v18_1 (V0 : Valuation τ sig (Elt F)) : val2 V0 (no_index (Proc.devRef .tc main_v18_1)) = V0 (Proc.devRef .tc main_v18_1) :=
  (val2_keep V0 main_v18_1 (by decide)).trans (val1_main_v18_1 V0)
theorem val2_main_v18_2 (V0 : Valuation τ sig (Elt F)) : val2 V0 (no_index (Proc.devRef .tc main_v18_2)) = V0 (Proc.devRef .tc main_v18_2) :=
  (val2_keep V0 main_v18_2 (by decide)).trans (val1_main_v18_2 V0)
theorem val2_main_v18_5 (V0 : Valuation τ sig (Elt F)) : val2 V0 (no_index (Proc.devRef .tc main_v18_5)) = V0 (Proc.devRef .tc main_v18_5) :=
  (val2_keep V0 main_v18_5 (by decide)).trans (val1_main_v18_5 V0)
theorem val2_main_v18_3 (V0 : Valuation τ sig (Elt F)) : val2 V0 (no_index (Proc.devRef .tc main_v18_3)) = V0 (Proc.devRef .tc main_v18_3) :=
  (val2_keep V0 main_v18_3 (by decide)).trans (val1_main_v18_3 V0)
theorem val2_main_v18_6 (V0 : Valuation τ sig (Elt F)) : val2 V0 (no_index (Proc.devRef .tc main_v18_6)) = V0 (Proc.devRef .tc main_v18_6) :=
  (val2_keep V0 main_v18_6 (by decide)).trans (val1_main_v18_6 V0)
theorem val2_main_v18_7 (V0 : Valuation τ sig (Elt F)) : val2 V0 (no_index (Proc.devRef .tc main_v18_7)) = V0 (Proc.devRef .tc main_v18_7) :=
  (val2_keep V0 main_v18_7 (by decide)).trans (val1_main_v18_7 V0)
theorem val2_main_v18_8 (V0 : Valuation τ sig (Elt F)) : val2 V0 (no_index (Proc.devRef .tc main_v18_8)) = V0 (Proc.devRef .tc main_v18_8) :=
  (val2_keep V0 main_v18_8 (by decide)).trans (val1_main_v18_8 V0)
theorem val2_main_v18_9 (V0 : Valuation τ sig (Elt F)) : val2 V0 (no_index (Proc.devRef .tc main_v18_9)) = V0 (Proc.devRef .tc main_v18_9) :=
  (val2_keep V0 main_v18_9 (by decide)).trans (val1_main_v18_9 V0)
theorem val2_main_v18_10 (V0 : Valuation τ sig (Elt F)) : val2 V0 (no_index (Proc.devRef .tc main_v18_10)) = V0 (Proc.devRef .tc main_v18_10) :=
  (val2_keep V0 main_v18_10 (by decide)).trans (val1_main_v18_10 V0)
set_option maxRecDepth 8192 in
theorem val2_main_while0b_v69 (V0 : Valuation τ sig (Elt F)) : val2 V0 (no_index (Proc.devRef .tc main_while0b_v69)) = shapeCast S4x512 (Host.dynamicSlice S1x4x512 (V0 (Proc.devRef .tc main_v18_0)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call1_c, main_while0b_call1_c_0, main_while0b_call1_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v18_0 (V0 : Valuation τ sig (Elt F)) : val3 V0 (no_index (Proc.devRef .tc main_v18_0)) = V0 (Proc.devRef .tc main_v18_0) :=
  (val3_keep V0 main_v18_0 (by decide)).trans (val2_main_v18_0 V0)
theorem val3_main_v18_4 (V0 : Valuation τ sig (Elt F)) : val3 V0 (no_index (Proc.devRef .tc main_v18_4)) = V0 (Proc.devRef .tc main_v18_4) :=
  (val3_keep V0 main_v18_4 (by decide)).trans (val2_main_v18_4 V0)
theorem val3_main_v18_1 (V0 : Valuation τ sig (Elt F)) : val3 V0 (no_index (Proc.devRef .tc main_v18_1)) = V0 (Proc.devRef .tc main_v18_1) :=
  (val3_keep V0 main_v18_1 (by decide)).trans (val2_main_v18_1 V0)
theorem val3_main_v18_2 (V0 : Valuation τ sig (Elt F)) : val3 V0 (no_index (Proc.devRef .tc main_v18_2)) = V0 (Proc.devRef .tc main_v18_2) :=
  (val3_keep V0 main_v18_2 (by decide)).trans (val2_main_v18_2 V0)
theorem val3_main_v18_5 (V0 : Valuation τ sig (Elt F)) : val3 V0 (no_index (Proc.devRef .tc main_v18_5)) = V0 (Proc.devRef .tc main_v18_5) :=
  (val3_keep V0 main_v18_5 (by decide)).trans (val2_main_v18_5 V0)
theorem val3_main_v18_3 (V0 : Valuation τ sig (Elt F)) : val3 V0 (no_index (Proc.devRef .tc main_v18_3)) = V0 (Proc.devRef .tc main_v18_3) :=
  (val3_keep V0 main_v18_3 (by decide)).trans (val2_main_v18_3 V0)
theorem val3_main_v18_6 (V0 : Valuation τ sig (Elt F)) : val3 V0 (no_index (Proc.devRef .tc main_v18_6)) = V0 (Proc.devRef .tc main_v18_6) :=
  (val3_keep V0 main_v18_6 (by decide)).trans (val2_main_v18_6 V0)
theorem val3_main_v18_7 (V0 : Valuation τ sig (Elt F)) : val3 V0 (no_index (Proc.devRef .tc main_v18_7)) = V0 (Proc.devRef .tc main_v18_7) :=
  (val3_keep V0 main_v18_7 (by decide)).trans (val2_main_v18_7 V0)
theorem val3_main_v18_8 (V0 : Valuation τ sig (Elt F)) : val3 V0 (no_index (Proc.devRef .tc main_v18_8)) = V0 (Proc.devRef .tc main_v18_8) :=
  (val3_keep V0 main_v18_8 (by decide)).trans (val2_main_v18_8 V0)
theorem val3_main_v18_9 (V0 : Valuation τ sig (Elt F)) : val3 V0 (no_index (Proc.devRef .tc main_v18_9)) = V0 (Proc.devRef .tc main_v18_9) :=
  (val3_keep V0 main_v18_9 (by decide)).trans (val2_main_v18_9 V0)
theorem val3_main_v18_10 (V0 : Valuation τ sig (Elt F)) : val3 V0 (no_index (Proc.devRef .tc main_v18_10)) = V0 (Proc.devRef .tc main_v18_10) :=
  (val3_keep V0 main_v18_10 (by decide)).trans (val2_main_v18_10 V0)
theorem val3_main_while0b_v69 (V0 : Valuation τ sig (Elt F)) : val3 V0 (no_index (Proc.devRef .tc main_while0b_v69)) = shapeCast S4x512 (Host.dynamicSlice S1x4x512 (V0 (Proc.devRef .tc main_v18_0)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val3_keep V0 main_while0b_v69 (by decide)).trans (val2_main_while0b_v69 V0)
set_option maxRecDepth 8192 in
theorem val3_main_while0b_call1_v0 (V0 : Valuation τ sig (Elt F)) : val3 V0 (no_index (Proc.devRef .tc main_while0b_call1_v0)) = Host.dynamicSlice S1x4x512 (V0 (Proc.devRef .tc main_v18_1)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512 := by
  unfold val3
  simp only [trip_w2]
  after_results_entrywise [val2_main_v18_4, val2_main_v18_1, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v70]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v18_0 (V0 : Valuation τ sig (Elt F)) : val4 V0 (no_index (Proc.devRef .tc main_v18_0)) = V0 (Proc.devRef .tc main_v18_0) :=
  (val4_keep V0 main_v18_0 (by decide)).trans (val3_main_v18_0 V0)
theorem val4_main_v18_4 (V0 : Valuation τ sig (Elt F)) : val4 V0 (no_index (Proc.devRef .tc main_v18_4)) = V0 (Proc.devRef .tc main_v18_4) :=
  (val4_keep V0 main_v18_4 (by decide)).trans (val3_main_v18_4 V0)
theorem val4_main_v18_1 (V0 : Valuation τ sig (Elt F)) : val4 V0 (no_index (Proc.devRef .tc main_v18_1)) = V0 (Proc.devRef .tc main_v18_1) :=
  (val4_keep V0 main_v18_1 (by decide)).trans (val3_main_v18_1 V0)
theorem val4_main_v18_2 (V0 : Valuation τ sig (Elt F)) : val4 V0 (no_index (Proc.devRef .tc main_v18_2)) = V0 (Proc.devRef .tc main_v18_2) :=
  (val4_keep V0 main_v18_2 (by decide)).trans (val3_main_v18_2 V0)
theorem val4_main_v18_5 (V0 : Valuation τ sig (Elt F)) : val4 V0 (no_index (Proc.devRef .tc main_v18_5)) = V0 (Proc.devRef .tc main_v18_5) :=
  (val4_keep V0 main_v18_5 (by decide)).trans (val3_main_v18_5 V0)
theorem val4_main_v18_3 (V0 : Valuation τ sig (Elt F)) : val4 V0 (no_index (Proc.devRef .tc main_v18_3)) = V0 (Proc.devRef .tc main_v18_3) :=
  (val4_keep V0 main_v18_3 (by decide)).trans (val3_main_v18_3 V0)
theorem val4_main_v18_6 (V0 : Valuation τ sig (Elt F)) : val4 V0 (no_index (Proc.devRef .tc main_v18_6)) = V0 (Proc.devRef .tc main_v18_6) :=
  (val4_keep V0 main_v18_6 (by decide)).trans (val3_main_v18_6 V0)
theorem val4_main_v18_7 (V0 : Valuation τ sig (Elt F)) : val4 V0 (no_index (Proc.devRef .tc main_v18_7)) = V0 (Proc.devRef .tc main_v18_7) :=
  (val4_keep V0 main_v18_7 (by decide)).trans (val3_main_v18_7 V0)
theorem val4_main_v18_8 (V0 : Valuation τ sig (Elt F)) : val4 V0 (no_index (Proc.devRef .tc main_v18_8)) = V0 (Proc.devRef .tc main_v18_8) :=
  (val4_keep V0 main_v18_8 (by decide)).trans (val3_main_v18_8 V0)
theorem val4_main_v18_9 (V0 : Valuation τ sig (Elt F)) : val4 V0 (no_index (Proc.devRef .tc main_v18_9)) = V0 (Proc.devRef .tc main_v18_9) :=
  (val4_keep V0 main_v18_9 (by decide)).trans (val3_main_v18_9 V0)
theorem val4_main_v18_10 (V0 : Valuation τ sig (Elt F)) : val4 V0 (no_index (Proc.devRef .tc main_v18_10)) = V0 (Proc.devRef .tc main_v18_10) :=
  (val4_keep V0 main_v18_10 (by decide)).trans (val3_main_v18_10 V0)
theorem val4_main_while0b_v69 (V0 : Valuation τ sig (Elt F)) : val4 V0 (no_index (Proc.devRef .tc main_while0b_v69)) = shapeCast S4x512 (Host.dynamicSlice S1x4x512 (V0 (Proc.devRef .tc main_v18_0)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val4_keep V0 main_while0b_v69 (by decide)).trans (val3_main_while0b_v69 V0)
set_option maxRecDepth 8192 in
theorem val4_main_while0b_v70 (V0 : Valuation τ sig (Elt F)) : val4 V0 (no_index (Proc.devRef .tc main_while0b_v70)) = shapeCast S4x512 (Host.dynamicSlice S1x4x512 (V0 (Proc.devRef .tc main_v18_1)) (fun k => (((![V0 (Proc.devRef .tc main_v18_4), constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 := by
  unfold val4
  simp only [trip_w3]
  after_results_entrywise [val3_main_while0b_call1_v0, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v71, main_while0b_v72, main_while0b_v73, main_while0b_v74, main_while0b_v75, main_while0b_v76, main_while0b_v77, main_while0b_v78]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v18_0 (V0 : Valuation τ sig (Elt F)) : val5 V0 (no_index (Proc.devRef .tc main_v18_0)) = V0 (Proc.devRef .tc main_v18_0) :=
  (val5_keep V0 main_v18_0 (by decide)).trans (val4_main_v18_0 V0)
theorem val5_main_v18_4 (V0 : Valuation τ sig (Elt F)) : val5 V0 (no_index (Proc.devRef .tc main_v18_4)) = V0 (Proc.devRef .tc main_v18_4) :=
  (val5_keep V0 main_v18_4 (by decide)).trans (val4_main_v18_4 V0)
theorem val5_main_v18_1 (V0 : Valuation τ sig (Elt F)) : val5 V0 (no_index (Proc.devRef .tc main_v18_1)) = V0 (Proc.devRef .tc main_v18_1) :=
  (val5_keep V0 main_v18_1 (by decide)).trans (val4_main_v18_1 V0)
theorem val5_main_v18_2 (V0 : Valuation τ sig (Elt F)) : val5 V0 (no_index (Proc.devRef .tc main_v18_2)) = V0 (Proc.devRef .tc main_v18_2) :=
  (val5_keep V0 main_v18_2 (by decide)).trans (val4_main_v18_2 V0)
theorem val5_main_v18_5 (V0 : Valuation τ sig (Elt F)) : val5 V0 (no_index (Proc.devRef .tc main_v18_5)) = V0 (Proc.devRef .tc main_v18_5) :=
  (val5_keep V0 main_v18_5 (by decide)).trans (val4_main_v18_5 V0)
theorem val5_main_v18_3 (V0 : Valuation τ sig (Elt F)) : val5 V0 (no_index (Proc.devRef .tc main_v18_3)) = V0 (Proc.devRef .tc main_v18_3) :=
  (val5_keep V0 main_v18_3 (by decide)).trans (val4_main_v18_3 V0)
theorem val5_main_v18_6 (V0 : Valuation τ sig (Elt F)) : val5 V0 (no_index (Proc.devRef .tc main_v18_6)) = V0 (Proc.devRef .tc main_v18_6) :=
  (val5_keep V0 main_v18_6 (by decide)).trans (val4_main_v18_6 V0)
theorem val5_main_v18_7 (V0 : Valuation τ sig (Elt F)) : val5 V0 (no_index (Proc.devRef .tc main_v18_7)) = V0 (Proc.devRef .tc main_v18_7) :=
  (val5_keep V0 main_v18_7 (by decide)).trans (val4_main_v18_7 V0)
theorem val5_main_v18_8 (V0 : Valuation τ sig (Elt F)) : val5 V0 (no_index (Proc.devRef .tc main_v18_8)) = V0 (Proc.devRef .tc main_v18_8) :=
  (val5_keep V0 main_v18_8 (by decide)).trans (val4_main_v18_8 V0)
theorem val5_main_v18_9 (V0 : Valuation τ sig (Elt F)) : val5 V0 (no_index (Proc.devRef .tc main_v18_9)) = V0 (Proc.devRef .tc main_v18_9) :=
  (val5_keep V0 main_v18_9 (by decide)).trans (val4_main_v18_9 V0)
theorem val5_main_v18_10 (V0 : Valuation τ sig (Elt F)) : val5 V0 (no_index (Proc.devRef .tc main_v18_10)) = V0 (Proc.devRef .tc main_v18_10) :=
  (val5_keep V0 main_v18_10 (by decide)).trans (val4_main_v18_10 V0)
set_option maxRecDepth 8192 in
theorem val5_main_while0b_v74 (V0 : Valuation τ sig (Elt F)) : val5 V0 (no_index (Proc.devRef .tc main_while0b_v74)) = res_main_while0b_v74 V0 := by
  unfold val5
  simp only [trip_w4]
  after_results_entrywise [val4_main_while0b_v69, val4_main_v18_6, val4_main_v18_3, val4_main_v18_5, val4_main_v18_2, res_main_while0b_v74, cast_eq]
set_option maxRecDepth 8192 in
theorem val5_main_while0b_v78 (V0 : Valuation τ sig (Elt F)) : val5 V0 (no_index (Proc.devRef .tc main_while0b_v78)) = res_main_while0b_v78 V0 := by
  unfold val5
  simp only [trip_w4]
  after_results_entrywise [val4_main_while0b_v70, val4_main_v18_5, val4_main_v18_3, val4_main_v18_6, val4_main_v18_2, res_main_while0b_v78, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_v0, main_while0b_call2_c, main_while0b_call2_c_0, main_while0b_v79]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v18_0 (V0 : Valuation τ sig (Elt F)) : val6 V0 (no_index (Proc.devRef .tc main_v18_0)) = V0 (Proc.devRef .tc main_v18_0) :=
  (val6_keep V0 main_v18_0 (by decide)).trans (val5_main_v18_0 V0)
theorem val6_main_v18_4 (V0 : Valuation τ sig (Elt F)) : val6 V0 (no_index (Proc.devRef .tc main_v18_4)) = V0 (Proc.devRef .tc main_v18_4) :=
  (val6_keep V0 main_v18_4 (by decide)).trans (val5_main_v18_4 V0)
theorem val6_main_v18_1 (V0 : Valuation τ sig (Elt F)) : val6 V0 (no_index (Proc.devRef .tc main_v18_1)) = V0 (Proc.devRef .tc main_v18_1) :=
  (val6_keep V0 main_v18_1 (by decide)).trans (val5_main_v18_1 V0)
theorem val6_main_v18_2 (V0 : Valuation τ sig (Elt F)) : val6 V0 (no_index (Proc.devRef .tc main_v18_2)) = V0 (Proc.devRef .tc main_v18_2) :=
  (val6_keep V0 main_v18_2 (by decide)).trans (val5_main_v18_2 V0)
theorem val6_main_v18_5 (V0 : Valuation τ sig (Elt F)) : val6 V0 (no_index (Proc.devRef .tc main_v18_5)) = V0 (Proc.devRef .tc main_v18_5) :=
  (val6_keep V0 main_v18_5 (by decide)).trans (val5_main_v18_5 V0)
theorem val6_main_v18_3 (V0 : Valuation τ sig (Elt F)) : val6 V0 (no_index (Proc.devRef .tc main_v18_3)) = V0 (Proc.devRef .tc main_v18_3) :=
  (val6_keep V0 main_v18_3 (by decide)).trans (val5_main_v18_3 V0)
theorem val6_main_v18_6 (V0 : Valuation τ sig (Elt F)) : val6 V0 (no_index (Proc.devRef .tc main_v18_6)) = V0 (Proc.devRef .tc main_v18_6) :=
  (val6_keep V0 main_v18_6 (by decide)).trans (val5_main_v18_6 V0)
theorem val6_main_v18_7 (V0 : Valuation τ sig (Elt F)) : val6 V0 (no_index (Proc.devRef .tc main_v18_7)) = V0 (Proc.devRef .tc main_v18_7) :=
  (val6_keep V0 main_v18_7 (by decide)).trans (val5_main_v18_7 V0)
theorem val6_main_v18_8 (V0 : Valuation τ sig (Elt F)) : val6 V0 (no_index (Proc.devRef .tc main_v18_8)) = V0 (Proc.devRef .tc main_v18_8) :=
  (val6_keep V0 main_v18_8 (by decide)).trans (val5_main_v18_8 V0)
theorem val6_main_v18_9 (V0 : Valuation τ sig (Elt F)) : val6 V0 (no_index (Proc.devRef .tc main_v18_9)) = V0 (Proc.devRef .tc main_v18_9) :=
  (val6_keep V0 main_v18_9 (by decide)).trans (val5_main_v18_9 V0)
theorem val6_main_v18_10 (V0 : Valuation τ sig (Elt F)) : val6 V0 (no_index (Proc.devRef .tc main_v18_10)) = V0 (Proc.devRef .tc main_v18_10) :=
  (val6_keep V0 main_v18_10 (by decide)).trans (val5_main_v18_10 V0)
theorem val6_main_while0b_v74 (V0 : Valuation τ sig (Elt F)) : val6 V0 (no_index (Proc.devRef .tc main_while0b_v74)) = res_main_while0b_v74 V0 :=
  (val6_keep V0 main_while0b_v74 (by decide)).trans (val5_main_while0b_v74 V0)
theorem val6_main_while0b_v78 (V0 : Valuation τ sig (Elt F)) : val6 V0 (no_index (Proc.devRef .tc main_while0b_v78)) = res_main_while0b_v78 V0 :=
  (val6_keep V0 main_while0b_v78 (by decide)).trans (val5_main_while0b_v78 V0)
set_option maxRecDepth 8192 in
theorem val6_main_while0b_v79 (V0 : Valuation τ sig (Elt F)) : val6 V0 (no_index (Proc.devRef .tc main_while0b_v79)) = Host.dynamicUpdateSlice (V0 (Proc.devRef .tc main_v18_7)) (broadcastInDim S1x4x512 ![1, 2] bcast_S4x512_S1x4x512_1_2 (res_main_while0b_v74 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 := by
  unfold val6
  simp only [trip_w5]
  after_results_entrywise [val5_main_v18_4, val5_main_while0b_v74, val5_main_v18_7, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call3_v0, main_while0b_call3_c, main_while0b_call3_c_0, main_while0b_v80]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v18_0 (V0 : Valuation τ sig (Elt F)) : val7 V0 (no_index (Proc.devRef .tc main_v18_0)) = V0 (Proc.devRef .tc main_v18_0) :=
  (val7_keep V0 main_v18_0 (by decide)).trans (val6_main_v18_0 V0)
theorem val7_main_v18_4 (V0 : Valuation τ sig (Elt F)) : val7 V0 (no_index (Proc.devRef .tc main_v18_4)) = V0 (Proc.devRef .tc main_v18_4) :=
  (val7_keep V0 main_v18_4 (by decide)).trans (val6_main_v18_4 V0)
theorem val7_main_v18_1 (V0 : Valuation τ sig (Elt F)) : val7 V0 (no_index (Proc.devRef .tc main_v18_1)) = V0 (Proc.devRef .tc main_v18_1) :=
  (val7_keep V0 main_v18_1 (by decide)).trans (val6_main_v18_1 V0)
theorem val7_main_v18_2 (V0 : Valuation τ sig (Elt F)) : val7 V0 (no_index (Proc.devRef .tc main_v18_2)) = V0 (Proc.devRef .tc main_v18_2) :=
  (val7_keep V0 main_v18_2 (by decide)).trans (val6_main_v18_2 V0)
theorem val7_main_v18_5 (V0 : Valuation τ sig (Elt F)) : val7 V0 (no_index (Proc.devRef .tc main_v18_5)) = V0 (Proc.devRef .tc main_v18_5) :=
  (val7_keep V0 main_v18_5 (by decide)).trans (val6_main_v18_5 V0)
theorem val7_main_v18_3 (V0 : Valuation τ sig (Elt F)) : val7 V0 (no_index (Proc.devRef .tc main_v18_3)) = V0 (Proc.devRef .tc main_v18_3) :=
  (val7_keep V0 main_v18_3 (by decide)).trans (val6_main_v18_3 V0)
theorem val7_main_v18_6 (V0 : Valuation τ sig (Elt F)) : val7 V0 (no_index (Proc.devRef .tc main_v18_6)) = V0 (Proc.devRef .tc main_v18_6) :=
  (val7_keep V0 main_v18_6 (by decide)).trans (val6_main_v18_6 V0)
theorem val7_main_v18_7 (V0 : Valuation τ sig (Elt F)) : val7 V0 (no_index (Proc.devRef .tc main_v18_7)) = V0 (Proc.devRef .tc main_v18_7) :=
  (val7_keep V0 main_v18_7 (by decide)).trans (val6_main_v18_7 V0)
theorem val7_main_v18_8 (V0 : Valuation τ sig (Elt F)) : val7 V0 (no_index (Proc.devRef .tc main_v18_8)) = V0 (Proc.devRef .tc main_v18_8) :=
  (val7_keep V0 main_v18_8 (by decide)).trans (val6_main_v18_8 V0)
theorem val7_main_v18_9 (V0 : Valuation τ sig (Elt F)) : val7 V0 (no_index (Proc.devRef .tc main_v18_9)) = V0 (Proc.devRef .tc main_v18_9) :=
  (val7_keep V0 main_v18_9 (by decide)).trans (val6_main_v18_9 V0)
theorem val7_main_v18_10 (V0 : Valuation τ sig (Elt F)) : val7 V0 (no_index (Proc.devRef .tc main_v18_10)) = V0 (Proc.devRef .tc main_v18_10) :=
  (val7_keep V0 main_v18_10 (by decide)).trans (val6_main_v18_10 V0)
theorem val7_main_while0b_v74 (V0 : Valuation τ sig (Elt F)) : val7 V0 (no_index (Proc.devRef .tc main_while0b_v74)) = res_main_while0b_v74 V0 :=
  (val7_keep V0 main_while0b_v74 (by decide)).trans (val6_main_while0b_v74 V0)
theorem val7_main_while0b_v78 (V0 : Valuation τ sig (Elt F)) : val7 V0 (no_index (Proc.devRef .tc main_while0b_v78)) = res_main_while0b_v78 V0 :=
  (val7_keep V0 main_while0b_v78 (by decide)).trans (val6_main_while0b_v78 V0)
theorem val7_main_while0b_v79 (V0 : Valuation τ sig (Elt F)) : val7 V0 (no_index (Proc.devRef .tc main_while0b_v79)) = Host.dynamicUpdateSlice (V0 (Proc.devRef .tc main_v18_7)) (broadcastInDim S1x4x512 ![1, 2] bcast_S4x512_S1x4x512_1_2 (res_main_while0b_v74 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 :=
  (val7_keep V0 main_while0b_v79 (by decide)).trans (val6_main_while0b_v79 V0)
set_option maxRecDepth 8192 in
theorem val7_main_while0b_v80 (V0 : Valuation τ sig (Elt F)) : val7 V0 (no_index (Proc.devRef .tc main_while0b_v80)) = Host.dynamicUpdateSlice (V0 (Proc.devRef .tc main_v18_8)) (broadcastInDim S1x4x512 ![1, 2] bcast_S4x512_S1x4x512_1_2 (res_main_while0b_v78 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 := by
  unfold val7
  simp only [trip_w6]
  after_results_entrywise [val6_main_v18_4, val6_main_while0b_v78, val6_main_v18_8, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call4_v0, main_while0b_call4_c, main_while0b_call4_c_0, main_while0b_v81]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v18_0 (V0 : Valuation τ sig (Elt F)) : val8 V0 (no_index (Proc.devRef .tc main_v18_0)) = V0 (Proc.devRef .tc main_v18_0) :=
  (val8_keep V0 main_v18_0 (by decide)).trans (val7_main_v18_0 V0)
theorem val8_main_v18_4 (V0 : Valuation τ sig (Elt F)) : val8 V0 (no_index (Proc.devRef .tc main_v18_4)) = V0 (Proc.devRef .tc main_v18_4) :=
  (val8_keep V0 main_v18_4 (by decide)).trans (val7_main_v18_4 V0)
theorem val8_main_v18_1 (V0 : Valuation τ sig (Elt F)) : val8 V0 (no_index (Proc.devRef .tc main_v18_1)) = V0 (Proc.devRef .tc main_v18_1) :=
  (val8_keep V0 main_v18_1 (by decide)).trans (val7_main_v18_1 V0)
theorem val8_main_v18_2 (V0 : Valuation τ sig (Elt F)) : val8 V0 (no_index (Proc.devRef .tc main_v18_2)) = V0 (Proc.devRef .tc main_v18_2) :=
  (val8_keep V0 main_v18_2 (by decide)).trans (val7_main_v18_2 V0)
theorem val8_main_v18_5 (V0 : Valuation τ sig (Elt F)) : val8 V0 (no_index (Proc.devRef .tc main_v18_5)) = V0 (Proc.devRef .tc main_v18_5) :=
  (val8_keep V0 main_v18_5 (by decide)).trans (val7_main_v18_5 V0)
theorem val8_main_v18_3 (V0 : Valuation τ sig (Elt F)) : val8 V0 (no_index (Proc.devRef .tc main_v18_3)) = V0 (Proc.devRef .tc main_v18_3) :=
  (val8_keep V0 main_v18_3 (by decide)).trans (val7_main_v18_3 V0)
theorem val8_main_v18_6 (V0 : Valuation τ sig (Elt F)) : val8 V0 (no_index (Proc.devRef .tc main_v18_6)) = V0 (Proc.devRef .tc main_v18_6) :=
  (val8_keep V0 main_v18_6 (by decide)).trans (val7_main_v18_6 V0)
theorem val8_main_v18_7 (V0 : Valuation τ sig (Elt F)) : val8 V0 (no_index (Proc.devRef .tc main_v18_7)) = V0 (Proc.devRef .tc main_v18_7) :=
  (val8_keep V0 main_v18_7 (by decide)).trans (val7_main_v18_7 V0)
theorem val8_main_v18_8 (V0 : Valuation τ sig (Elt F)) : val8 V0 (no_index (Proc.devRef .tc main_v18_8)) = V0 (Proc.devRef .tc main_v18_8) :=
  (val8_keep V0 main_v18_8 (by decide)).trans (val7_main_v18_8 V0)
theorem val8_main_v18_9 (V0 : Valuation τ sig (Elt F)) : val8 V0 (no_index (Proc.devRef .tc main_v18_9)) = V0 (Proc.devRef .tc main_v18_9) :=
  (val8_keep V0 main_v18_9 (by decide)).trans (val7_main_v18_9 V0)
theorem val8_main_v18_10 (V0 : Valuation τ sig (Elt F)) : val8 V0 (no_index (Proc.devRef .tc main_v18_10)) = V0 (Proc.devRef .tc main_v18_10) :=
  (val8_keep V0 main_v18_10 (by decide)).trans (val7_main_v18_10 V0)
theorem val8_main_while0b_v74 (V0 : Valuation τ sig (Elt F)) : val8 V0 (no_index (Proc.devRef .tc main_while0b_v74)) = res_main_while0b_v74 V0 :=
  (val8_keep V0 main_while0b_v74 (by decide)).trans (val7_main_while0b_v74 V0)
theorem val8_main_while0b_v78 (V0 : Valuation τ sig (Elt F)) : val8 V0 (no_index (Proc.devRef .tc main_while0b_v78)) = res_main_while0b_v78 V0 :=
  (val8_keep V0 main_while0b_v78 (by decide)).trans (val7_main_while0b_v78 V0)
theorem val8_main_while0b_v79 (V0 : Valuation τ sig (Elt F)) : val8 V0 (no_index (Proc.devRef .tc main_while0b_v79)) = Host.dynamicUpdateSlice (V0 (Proc.devRef .tc main_v18_7)) (broadcastInDim S1x4x512 ![1, 2] bcast_S4x512_S1x4x512_1_2 (res_main_while0b_v74 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 :=
  (val8_keep V0 main_while0b_v79 (by decide)).trans (val7_main_while0b_v79 V0)
theorem val8_main_while0b_v80 (V0 : Valuation τ sig (Elt F)) : val8 V0 (no_index (Proc.devRef .tc main_while0b_v80)) = Host.dynamicUpdateSlice (V0 (Proc.devRef .tc main_v18_8)) (broadcastInDim S1x4x512 ![1, 2] bcast_S4x512_S1x4x512_1_2 (res_main_while0b_v78 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 :=
  (val8_keep V0 main_while0b_v80 (by decide)).trans (val7_main_while0b_v80 V0)
set_option maxRecDepth 8192 in
theorem val8_main_while0b_v81 (V0 : Valuation τ sig (Elt F)) : val8 V0 (no_index (Proc.devRef .tc main_while0b_v81)) = Host.dynamicUpdateSlice (V0 (Proc.devRef .tc main_v18_9)) (broadcastInDim S1x4x512 ![1, 2] bcast_S4x512_S1x4x512_1_2 (V0 (Proc.devRef .tc main_v18_5))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 := by
  unfold val8
  simp only [trip_w7]
  after_results_entrywise [val7_main_v18_4, val7_main_v18_5, val7_main_v18_9, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_call5_v0, main_while0b_call5_c, main_while0b_call5_c_0, main_while0b_v82]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v18_0 (V0 : Valuation τ sig (Elt F)) : val9 V0 (no_index (Proc.devRef .tc main_v18_0)) = V0 (Proc.devRef .tc main_v18_0) :=
  (val9_keep V0 main_v18_0 (by decide)).trans (val8_main_v18_0 V0)
theorem val9_main_v18_4 (V0 : Valuation τ sig (Elt F)) : val9 V0 (no_index (Proc.devRef .tc main_v18_4)) = V0 (Proc.devRef .tc main_v18_4) :=
  (val9_keep V0 main_v18_4 (by decide)).trans (val8_main_v18_4 V0)
theorem val9_main_v18_1 (V0 : Valuation τ sig (Elt F)) : val9 V0 (no_index (Proc.devRef .tc main_v18_1)) = V0 (Proc.devRef .tc main_v18_1) :=
  (val9_keep V0 main_v18_1 (by decide)).trans (val8_main_v18_1 V0)
theorem val9_main_v18_2 (V0 : Valuation τ sig (Elt F)) : val9 V0 (no_index (Proc.devRef .tc main_v18_2)) = V0 (Proc.devRef .tc main_v18_2) :=
  (val9_keep V0 main_v18_2 (by decide)).trans (val8_main_v18_2 V0)
theorem val9_main_v18_5 (V0 : Valuation τ sig (Elt F)) : val9 V0 (no_index (Proc.devRef .tc main_v18_5)) = V0 (Proc.devRef .tc main_v18_5) :=
  (val9_keep V0 main_v18_5 (by decide)).trans (val8_main_v18_5 V0)
theorem val9_main_v18_3 (V0 : Valuation τ sig (Elt F)) : val9 V0 (no_index (Proc.devRef .tc main_v18_3)) = V0 (Proc.devRef .tc main_v18_3) :=
  (val9_keep V0 main_v18_3 (by decide)).trans (val8_main_v18_3 V0)
theorem val9_main_v18_6 (V0 : Valuation τ sig (Elt F)) : val9 V0 (no_index (Proc.devRef .tc main_v18_6)) = V0 (Proc.devRef .tc main_v18_6) :=
  (val9_keep V0 main_v18_6 (by decide)).trans (val8_main_v18_6 V0)
theorem val9_main_v18_7 (V0 : Valuation τ sig (Elt F)) : val9 V0 (no_index (Proc.devRef .tc main_v18_7)) = V0 (Proc.devRef .tc main_v18_7) :=
  (val9_keep V0 main_v18_7 (by decide)).trans (val8_main_v18_7 V0)
theorem val9_main_v18_8 (V0 : Valuation τ sig (Elt F)) : val9 V0 (no_index (Proc.devRef .tc main_v18_8)) = V0 (Proc.devRef .tc main_v18_8) :=
  (val9_keep V0 main_v18_8 (by decide)).trans (val8_main_v18_8 V0)
theorem val9_main_v18_9 (V0 : Valuation τ sig (Elt F)) : val9 V0 (no_index (Proc.devRef .tc main_v18_9)) = V0 (Proc.devRef .tc main_v18_9) :=
  (val9_keep V0 main_v18_9 (by decide)).trans (val8_main_v18_9 V0)
theorem val9_main_v18_10 (V0 : Valuation τ sig (Elt F)) : val9 V0 (no_index (Proc.devRef .tc main_v18_10)) = V0 (Proc.devRef .tc main_v18_10) :=
  (val9_keep V0 main_v18_10 (by decide)).trans (val8_main_v18_10 V0)
theorem val9_main_while0b_v74 (V0 : Valuation τ sig (Elt F)) : val9 V0 (no_index (Proc.devRef .tc main_while0b_v74)) = res_main_while0b_v74 V0 :=
  (val9_keep V0 main_while0b_v74 (by decide)).trans (val8_main_while0b_v74 V0)
theorem val9_main_while0b_v78 (V0 : Valuation τ sig (Elt F)) : val9 V0 (no_index (Proc.devRef .tc main_while0b_v78)) = res_main_while0b_v78 V0 :=
  (val9_keep V0 main_while0b_v78 (by decide)).trans (val8_main_while0b_v78 V0)
theorem val9_main_while0b_v79 (V0 : Valuation τ sig (Elt F)) : val9 V0 (no_index (Proc.devRef .tc main_while0b_v79)) = Host.dynamicUpdateSlice (V0 (Proc.devRef .tc main_v18_7)) (broadcastInDim S1x4x512 ![1, 2] bcast_S4x512_S1x4x512_1_2 (res_main_while0b_v74 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 :=
  (val9_keep V0 main_while0b_v79 (by decide)).trans (val8_main_while0b_v79 V0)
theorem val9_main_while0b_v80 (V0 : Valuation τ sig (Elt F)) : val9 V0 (no_index (Proc.devRef .tc main_while0b_v80)) = Host.dynamicUpdateSlice (V0 (Proc.devRef .tc main_v18_8)) (broadcastInDim S1x4x512 ![1, 2] bcast_S4x512_S1x4x512_1_2 (res_main_while0b_v78 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 :=
  (val9_keep V0 main_while0b_v80 (by decide)).trans (val8_main_while0b_v80 V0)
theorem val9_main_while0b_v81 (V0 : Valuation τ sig (Elt F)) : val9 V0 (no_index (Proc.devRef .tc main_while0b_v81)) = Host.dynamicUpdateSlice (V0 (Proc.devRef .tc main_v18_9)) (broadcastInDim S1x4x512 ![1, 2] bcast_S4x512_S1x4x512_1_2 (V0 (Proc.devRef .tc main_v18_5))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 :=
  (val9_keep V0 main_while0b_v81 (by decide)).trans (val8_main_while0b_v81 V0)
set_option maxRecDepth 8192 in
theorem val9_main_while0b_v82 (V0 : Valuation τ sig (Elt F)) : val9 V0 (no_index (Proc.devRef .tc main_while0b_v82)) = Host.dynamicUpdateSlice (V0 (Proc.devRef .tc main_v18_10)) (broadcastInDim S1x4x512 ![1, 2] bcast_S4x512_S1x4x512_1_2 (V0 (Proc.devRef .tc main_v18_6))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512 := by
  unfold val9
  simp only [trip_w8]
  after_results_entrywise [val8_main_v18_4, val8_main_v18_6, val8_main_v18_10, cast_eq]

set_option maxRecDepth 8192 in
/-- The body's stretches before `while0Ops0_7`, from any contents: their windows in order. -/
theorem trip_windows (V0 : Valuation τ sig (Elt F)) : after while0Ops0_6 (after while0Ops0_5 (after while0Ops0_4 (after while0Ops0_3 (after while0Ops0_2 (after while0Ops0_1 (after while0Ops0 (V0))))))) = val9 V0 := by
  simp only [while0Ops0_cut, while0Ops0_1_cut, while0Ops0_2_cut, while0Ops0_3_cut, while0Ops0_4_cut, while0Ops0_5_cut, while0Ops0_6_cut, after_append]
  rfl

set_option maxRecDepth 8192 in
set_option maxHeartbeats 2000000 in
/-- `main_v18_0` after one trip's body, from any contents. -/
theorem trip_main_v18_0 (V0 : Valuation τ sig (Elt F)) : afterL bodyI V0 (no_index (Proc.devRef .tc main_v18_0)) = V0 (Proc.devRef .tc main_v18_0) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_1` after one trip's body, from any contents. -/
theorem trip_main_v18_1 (V0 : Valuation τ sig (Elt F)) : afterL bodyI V0 (no_index (Proc.devRef .tc main_v18_1)) = V0 (Proc.devRef .tc main_v18_1) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_2` after one trip's body, from any contents. -/
theorem trip_main_v18_2 (V0 : Valuation τ sig (Elt F)) : afterL bodyI V0 (no_index (Proc.devRef .tc main_v18_2)) = V0 (Proc.devRef .tc main_v18_2) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_3` after one trip's body, from any contents. -/
theorem trip_main_v18_3 (V0 : Valuation τ sig (Elt F)) : afterL bodyI V0 (no_index (Proc.devRef .tc main_v18_3)) = V0 (Proc.devRef .tc main_v18_3) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_4` after one trip's body, from any contents. -/
theorem trip_main_v18_4 (V0 : Valuation τ sig (Elt F)) : afterL bodyI V0 (no_index (Proc.devRef .tc main_v18_4)) = id (addi (V0 (Proc.devRef .tc main_v18_4)) (constantI S_ 32 1#32)) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_5` after one trip's body, from any contents. -/
theorem trip_main_v18_5 (V0 : Valuation τ sig (Elt F)) : afterL bodyI V0 (no_index (Proc.devRef .tc main_v18_5)) = id (res_main_while0b_v74 V0) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_6` after one trip's body, from any contents. -/
theorem trip_main_v18_6 (V0 : Valuation τ sig (Elt F)) : afterL bodyI V0 (no_index (Proc.devRef .tc main_v18_6)) = id (res_main_while0b_v78 V0) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_7` after one trip's body, from any contents. -/
theorem trip_main_v18_7 (V0 : Valuation τ sig (Elt F)) : afterL bodyI V0 (no_index (Proc.devRef .tc main_v18_7)) = id (Host.dynamicUpdateSlice (V0 (Proc.devRef .tc main_v18_7)) (broadcastInDim S1x4x512 ![1, 2] bcast_S4x512_S1x4x512_1_2 (res_main_while0b_v74 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_8` after one trip's body, from any contents. -/
theorem trip_main_v18_8 (V0 : Valuation τ sig (Elt F)) : afterL bodyI V0 (no_index (Proc.devRef .tc main_v18_8)) = id (Host.dynamicUpdateSlice (V0 (Proc.devRef .tc main_v18_8)) (broadcastInDim S1x4x512 ![1, 2] bcast_S4x512_S1x4x512_1_2 (res_main_while0b_v78 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_9` after one trip's body, from any contents. -/
theorem trip_main_v18_9 (V0 : Valuation τ sig (Elt F)) : afterL bodyI V0 (no_index (Proc.devRef .tc main_v18_9)) = id (Host.dynamicUpdateSlice (V0 (Proc.devRef .tc main_v18_9)) (broadcastInDim S1x4x512 ![1, 2] bcast_S4x512_S1x4x512_1_2 (V0 (Proc.devRef .tc main_v18_5))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl
set_option maxRecDepth 8192 in
set_option maxHeartbeats 2000000 in
/-- `main_v18_10` after one trip's body, from any contents. -/
theorem trip_main_v18_10 (V0 : Valuation τ sig (Elt F)) : afterL bodyI V0 (no_index (Proc.devRef .tc main_v18_10)) = id (Host.dynamicUpdateSlice (V0 (Proc.devRef .tc main_v18_10)) (broadcastInDim S1x4x512 ![1, 2] bcast_S4x512_S1x4x512_1_2 (V0 (Proc.devRef .tc main_v18_6))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512) := by
  simp only [bodyI, afterL_cons, afterL_nil, trip_windows]
  after_results
  all_goals (try simp only [val9_main_while0b_v74, val9_main_while0b_v78, val9_main_while0b_v79, val9_main_while0b_v80, val9_main_while0b_v81, val9_main_while0b_v82, val9_main_v18_0, val9_main_v18_1, val9_main_v18_2, val9_main_v18_3, val9_main_v18_4, val9_main_v18_5, val9_main_v18_6, val9_main_v18_7, val9_main_v18_8, val9_main_v18_9, val9_main_v18_10]) <;> rfl

/-- The loop's carried buffers. -/
abbrev carriedRefs : List (Ref sig .tc) := [main_v18_0, main_v18_1, main_v18_2, main_v18_3, main_v18_4, main_v18_5, main_v18_6, main_v18_7, main_v18_8, main_v18_9, main_v18_10]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v74_congr {V0 V0' : Valuation τ sig (Elt F)} (h : Agree V0 V0') : res_main_while0b_v74 V0 = res_main_while0b_v74 V0' := by
  unfold res_main_while0b_v74
  rw [h main_v18_2 (by decide), h main_v18_5 (by decide), h main_v18_3 (by decide), h main_v18_6 (by decide), h main_v18_0 (by decide), h main_v18_4 (by decide)]
set_option maxRecDepth 8192 in
theorem res_main_while0b_v78_congr {V0 V0' : Valuation τ sig (Elt F)} (h : Agree V0 V0') : res_main_while0b_v78 V0 = res_main_while0b_v78 V0' := by
  unfold res_main_while0b_v78
  rw [h main_v18_2 (by decide), h main_v18_6 (by decide), h main_v18_3 (by decide), h main_v18_5 (by decide), h main_v18_1 (by decide), h main_v18_4 (by decide)]

set_option maxRecDepth 8192 in
/-- `main_v18_4` after one trip, of the contents before it. -/
def step_main_v18_4 (V0 : Valuation τ sig (Elt F)) : (Proc.devRef .tc main_v18_4 : DevRef τ sig).ty.Contents (Elt F) :=
  id (addi (V0 (Proc.devRef .tc main_v18_4)) (constantI S_ 32 1#32))
set_option maxRecDepth 8192 in
theorem step_main_v18_4_congr {V0 V0' : Valuation τ sig (Elt F)} (h : Agree V0 V0') : step_main_v18_4 V0 = step_main_v18_4 V0' := by
  unfold step_main_v18_4
  rw [h main_v18_4 (by decide)]
set_option maxRecDepth 8192 in
/-- `main_v18_5` after one trip, of the contents before it. -/
def step_main_v18_5 (V0 : Valuation τ sig (Elt F)) : (Proc.devRef .tc main_v18_5 : DevRef τ sig).ty.Contents (Elt F) :=
  id (res_main_while0b_v74 V0)
set_option maxRecDepth 8192 in
theorem step_main_v18_5_congr {V0 V0' : Valuation τ sig (Elt F)} (h : Agree V0 V0') : step_main_v18_5 V0 = step_main_v18_5 V0' := by
  unfold step_main_v18_5
  rw [res_main_while0b_v74_congr h]
set_option maxRecDepth 8192 in
/-- `main_v18_6` after one trip, of the contents before it. -/
def step_main_v18_6 (V0 : Valuation τ sig (Elt F)) : (Proc.devRef .tc main_v18_6 : DevRef τ sig).ty.Contents (Elt F) :=
  id (res_main_while0b_v78 V0)
set_option maxRecDepth 8192 in
theorem step_main_v18_6_congr {V0 V0' : Valuation τ sig (Elt F)} (h : Agree V0 V0') : step_main_v18_6 V0 = step_main_v18_6 V0' := by
  unfold step_main_v18_6
  rw [res_main_while0b_v78_congr h]
set_option maxRecDepth 8192 in
/-- `main_v18_7` after one trip, of the contents before it. -/
def step_main_v18_7 (V0 : Valuation τ sig (Elt F)) : (Proc.devRef .tc main_v18_7 : DevRef τ sig).ty.Contents (Elt F) :=
  id (Host.dynamicUpdateSlice (V0 (Proc.devRef .tc main_v18_7)) (broadcastInDim S1x4x512 ![1, 2] bcast_S4x512_S1x4x512_1_2 (res_main_while0b_v74 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512)
set_option maxRecDepth 8192 in
theorem step_main_v18_7_congr {V0 V0' : Valuation τ sig (Elt F)} (h : Agree V0 V0') : step_main_v18_7 V0 = step_main_v18_7 V0' := by
  unfold step_main_v18_7
  rw [res_main_while0b_v74_congr h, h main_v18_7 (by decide), h main_v18_4 (by decide)]
set_option maxRecDepth 8192 in
/-- `main_v18_8` after one trip, of the contents before it. -/
def step_main_v18_8 (V0 : Valuation τ sig (Elt F)) : (Proc.devRef .tc main_v18_8 : DevRef τ sig).ty.Contents (Elt F) :=
  id (Host.dynamicUpdateSlice (V0 (Proc.devRef .tc main_v18_8)) (broadcastInDim S1x4x512 ![1, 2] bcast_S4x512_S1x4x512_1_2 (res_main_while0b_v78 V0)) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512)
set_option maxRecDepth 8192 in
theorem step_main_v18_8_congr {V0 V0' : Valuation τ sig (Elt F)} (h : Agree V0 V0') : step_main_v18_8 V0 = step_main_v18_8 V0' := by
  unfold step_main_v18_8
  rw [res_main_while0b_v78_congr h, h main_v18_8 (by decide), h main_v18_4 (by decide)]
set_option maxRecDepth 8192 in
/-- `main_v18_9` after one trip, of the contents before it. -/
def step_main_v18_9 (V0 : Valuation τ sig (Elt F)) : (Proc.devRef .tc main_v18_9 : DevRef τ sig).ty.Contents (Elt F) :=
  id (Host.dynamicUpdateSlice (V0 (Proc.devRef .tc main_v18_9)) (broadcastInDim S1x4x512 ![1, 2] bcast_S4x512_S1x4x512_1_2 (V0 (Proc.devRef .tc main_v18_5))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512)
set_option maxRecDepth 8192 in
theorem step_main_v18_9_congr {V0 V0' : Valuation τ sig (Elt F)} (h : Agree V0 V0') : step_main_v18_9 V0 = step_main_v18_9 V0' := by
  unfold step_main_v18_9
  rw [h main_v18_9 (by decide), h main_v18_5 (by decide), h main_v18_4 (by decide)]
set_option maxRecDepth 8192 in
/-- `main_v18_10` after one trip, of the contents before it. -/
def step_main_v18_10 (V0 : Valuation τ sig (Elt F)) : (Proc.devRef .tc main_v18_10 : DevRef τ sig).ty.Contents (Elt F) :=
  id (Host.dynamicUpdateSlice (V0 (Proc.devRef .tc main_v18_10)) (broadcastInDim S1x4x512 ![1, 2] bcast_S4x512_S1x4x512_1_2 (V0 (Proc.devRef .tc main_v18_6))) (fun k => (((![V0 (Proc.devRef .tc main_v18_4), constantI S_ 32 0#32, constantI S_ 32 0#32] : Fin 3 → (⟨S_, .i32⟩ : BufTy).Contents (Elt F))) k (Shape.Idx.first h_S_)).toInt) updateFits_S2048x4x512_S1x4x512)
set_option maxRecDepth 8192 in
theorem step_main_v18_10_congr {V0 V0' : Valuation τ sig (Elt F)} (h : Agree V0 V0') : step_main_v18_10 V0 = step_main_v18_10 V0' := by
  unfold step_main_v18_10
  rw [h main_v18_10 (by decide), h main_v18_6 (by decide), h main_v18_4 (by decide)]

/-- ONE TRIP on the carried buffers: the buffers the body writes step, everything else is as it was. -/
def STEP (V0 : Valuation τ sig (Elt F)) : Valuation τ sig (Elt F) :=
  Function.update (Function.update (Function.update (Function.update (Function.update (Function.update (Function.update (V0) (Proc.devRef .tc main_v18_4) (step_main_v18_4 V0)) (Proc.devRef .tc main_v18_5) (step_main_v18_5 V0)) (Proc.devRef .tc main_v18_6) (step_main_v18_6 V0)) (Proc.devRef .tc main_v18_7) (step_main_v18_7 V0)) (Proc.devRef .tc main_v18_8) (step_main_v18_8 V0)) (Proc.devRef .tc main_v18_9) (step_main_v18_9 V0)) (Proc.devRef .tc main_v18_10) (step_main_v18_10 V0)

theorem STEP_main_v18_0 (V0 : Valuation τ sig (Elt F)) : STEP V0 (Proc.devRef .tc main_v18_0) = V0 (Proc.devRef .tc main_v18_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v18_1 (V0 : Valuation τ sig (Elt F)) : STEP V0 (Proc.devRef .tc main_v18_1) = V0 (Proc.devRef .tc main_v18_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v18_2 (V0 : Valuation τ sig (Elt F)) : STEP V0 (Proc.devRef .tc main_v18_2) = V0 (Proc.devRef .tc main_v18_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v18_3 (V0 : Valuation τ sig (Elt F)) : STEP V0 (Proc.devRef .tc main_v18_3) = V0 (Proc.devRef .tc main_v18_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v18_4 (V0 : Valuation τ sig (Elt F)) : STEP V0 (Proc.devRef .tc main_v18_4) = step_main_v18_4 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v18_5 (V0 : Valuation τ sig (Elt F)) : STEP V0 (Proc.devRef .tc main_v18_5) = step_main_v18_5 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v18_6 (V0 : Valuation τ sig (Elt F)) : STEP V0 (Proc.devRef .tc main_v18_6) = step_main_v18_6 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v18_7 (V0 : Valuation τ sig (Elt F)) : STEP V0 (Proc.devRef .tc main_v18_7) = step_main_v18_7 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v18_8 (V0 : Valuation τ sig (Elt F)) : STEP V0 (Proc.devRef .tc main_v18_8) = step_main_v18_8 V0 := by
  unfold STEP; rw [Function.update_of_ne (devRef_ne_of_ne (by decide))]; rw [Function.update_of_ne (devRef_ne_of_ne (by decide))]; rw [Function.update_self]
theorem STEP_main_v18_9 (V0 : Valuation τ sig (Elt F)) : STEP V0 (Proc.devRef .tc main_v18_9) = step_main_v18_9 V0 := by
  unfold STEP; rw [Function.update_of_ne (devRef_ne_of_ne (by decide))]; rw [Function.update_self]
theorem STEP_main_v18_10 (V0 : Valuation τ sig (Elt F)) : STEP V0 (Proc.devRef .tc main_v18_10) = step_main_v18_10 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v18_0 (after condOps X)).trans ((hc main_v18_0 (by decide)).trans (STEP_main_v18_0 X).symm)
  · exact (trip_main_v18_1 (after condOps X)).trans ((hc main_v18_1 (by decide)).trans (STEP_main_v18_1 X).symm)
  · exact (trip_main_v18_2 (after condOps X)).trans ((hc main_v18_2 (by decide)).trans (STEP_main_v18_2 X).symm)
  · exact (trip_main_v18_3 (after condOps X)).trans ((hc main_v18_3 (by decide)).trans (STEP_main_v18_3 X).symm)
  · exact (trip_main_v18_4 (after condOps X)).trans ((step_main_v18_4_congr hc).trans (STEP_main_v18_4 X).symm)
  · exact (trip_main_v18_5 (after condOps X)).trans ((step_main_v18_5_congr hc).trans (STEP_main_v18_5 X).symm)
  · exact (trip_main_v18_6 (after condOps X)).trans ((step_main_v18_6_congr hc).trans (STEP_main_v18_6 X).symm)
  · exact (trip_main_v18_7 (after condOps X)).trans ((step_main_v18_7_congr hc).trans (STEP_main_v18_7 X).symm)
  · exact (trip_main_v18_8 (after condOps X)).trans ((step_main_v18_8_congr hc).trans (STEP_main_v18_8 X).symm)
  · exact (trip_main_v18_9 (after condOps X)).trans ((step_main_v18_9_congr hc).trans (STEP_main_v18_9 X).symm)
  · exact (trip_main_v18_10 (after condOps X)).trans ((step_main_v18_10_congr hc).trans (STEP_main_v18_10 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v18_0, STEP_main_v18_0]; exact h main_v18_0 (by decide)
  · rw [STEP_main_v18_1, STEP_main_v18_1]; exact h main_v18_1 (by decide)
  · rw [STEP_main_v18_2, STEP_main_v18_2]; exact h main_v18_2 (by decide)
  · rw [STEP_main_v18_3, STEP_main_v18_3]; exact h main_v18_3 (by decide)
  · rw [STEP_main_v18_4, STEP_main_v18_4]; exact step_main_v18_4_congr h
  · rw [STEP_main_v18_5, STEP_main_v18_5]; exact step_main_v18_5_congr h
  · rw [STEP_main_v18_6, STEP_main_v18_6]; exact step_main_v18_6_congr h
  · rw [STEP_main_v18_7, STEP_main_v18_7]; exact step_main_v18_7_congr h
  · rw [STEP_main_v18_8, STEP_main_v18_8]; exact step_main_v18_8_congr h
  · rw [STEP_main_v18_9, STEP_main_v18_9]; exact step_main_v18_9_congr h
  · rw [STEP_main_v18_10, STEP_main_v18_10]; exact step_main_v18_10_congr h

/-- Before the `k`-th condition the carried buffers are `STEP` iterated `k` times on the loop's entry. -/
theorem atK_agree (c : Dev nD) : ∀ k, Agree (atTrip condOps bodyI E k c) (STEP^[k] (E c))
  | 0 => fun _ _ => rfl
  | k + 1 => fun j hj => by
    rw [Function.iterate_succ_apply']
    exact (trip_agree (atTrip condOps bodyI E k c) j hj).trans (STEP_congr (atK_agree c k) j hj)

/-- All the references one trip writes. -/
abbrev tripW : List (Ref sig .tc) := condOps_W ++ while0Ops0_W ++ while0Ops0_1_W ++ while0Ops0_2_W ++ while0Ops0_3_W ++ while0Ops0_4_W ++ while0Ops0_5_W ++ while0Ops0_6_W ++ while0Ops0_7_W

/-- A trip leaves every reference it does not write. -/
theorem trip_keep (X : Valuation τ sig (Elt F)) (x : Ref sig .tc) (h : x ∉ tripW) :
    afterL bodyI (after condOps X) (Proc.devRef .tc x) = X (Proc.devRef .tc x) := by
  simp only [bodyI, afterL_cons, afterL_nil]
  rw [after_of_writes_sub while0Ops0_7 _ while0Ops0_7_writes (fun hh => h (by simp only [tripW, List.mem_append]; tauto))]
  rw [after_of_writes_sub while0Ops0_6 _ while0Ops0_6_writes (fun hh => h (by simp only [tripW, List.mem_append]; tauto))]
  rw [after_of_writes_sub while0Ops0_5 _ while0Ops0_5_writes (fun hh => h (by simp only [tripW, List.mem_append]; tauto))]
  rw [after_of_writes_sub while0Ops0_4 _ while0Ops0_4_writes (fun hh => h (by simp only [tripW, List.mem_append]; tauto))]
  rw [after_of_writes_sub while0Ops0_3 _ while0Ops0_3_writes (fun hh => h (by simp only [tripW, List.mem_append]; tauto))]
  rw [after_of_writes_sub while0Ops0_2 _ while0Ops0_2_writes (fun hh => h (by simp only [tripW, List.mem_append]; tauto))]
  rw [after_of_writes_sub while0Ops0_1 _ while0Ops0_1_writes (fun hh => h (by simp only [tripW, List.mem_append]; tauto))]
  rw [after_of_writes_sub while0Ops0 _ while0Ops0_writes (fun hh => h (by simp only [tripW, List.mem_append]; tauto))]
  rw [after_of_writes_sub condOps _ condOps_writes (fun hh => h (by simp only [tripW, List.mem_append]; tauto))]

/-- The loop leaves every reference a trip does not write. -/
theorem loop_keep (x : Ref sig .tc) (h : x ∉ tripW) (c : Dev nD) :
    ∀ k, after condOps (atTrip condOps bodyI E k c) (Proc.devRef .tc x) = E c (Proc.devRef .tc x) := by
  have hk : ∀ k, atTrip condOps bodyI E k c (Proc.devRef .tc x) = E c (Proc.devRef .tc x) := fun k => by
    induction k with
    | zero => rfl
    | succ k ih =>
      rw [show atTrip condOps bodyI E (k + 1) c = afterL bodyI (after condOps (atTrip condOps bodyI E k c)) from rfl,
        trip_keep _ x h, ih]
  intro k
  rw [after_of_writes_sub condOps _ condOps_writes (fun hh => h (by simp only [tripW, List.mem_append]; tauto)), hk k]

end Cert.ReferenceIdeal.Loop0

end
-- ==== Proof.RefVals0.lean ====
/- The reference's first recurrence: what its buffers hold after every trip. -/
module

public import proofs.«01_k».proof.Proof.RefSlots
public import proofs.«01_k».proof.Proof.RefLoop0

@[expose] public section

set_option maxRecDepth 16384

noncomputable section

namespace Cert.S5.Ref

open Cert.ReferenceIdeal Cert.ReferenceIdeal.Gen
open Idealize.ShloMosaic Idealize.ShloMosaic.TcCoe

/-- The states stored in `k` trips. -/
def sts (D : Data) (k t q : ℕ) : ℂ := if t < k then D.st (t + 1) q else 0
/-- The states before, stored in `k` trips. -/
def prevs (D : Data) (k t q : ℕ) : ℂ := if t < k then D.st t q else 0

/-- The buffers before trip `k`. -/
structure At0 (D : Data) (V : Valuation τ sig (Elt Ideal)) (k : ℕ) : Prop where
  bu : IsC (s := S2048x4x512) (V (Proc.devRef .tc main_v18_0)) (V (Proc.devRef .tc main_v18_1)) (fun i => D.bu (i 0).val (col3 i))
  a : IsC (s := S4x512) (V (Proc.devRef .tc main_v18_2)) (V (Proc.devRef .tc main_v18_3)) (fun i => D.A (col i))
  ctr : V (Proc.devRef .tc main_v18_4) = fun _ => BitVec.ofNat 32 k
  x : IsC (s := S4x512) (V (Proc.devRef .tc main_v18_5)) (V (Proc.devRef .tc main_v18_6)) (fun i => D.st k (col i))
  s : IsC (s := S2048x4x512) (V (Proc.devRef .tc main_v18_7)) (V (Proc.devRef .tc main_v18_8)) (fun i => sts D k (i 0).val (col3 i))
  p : IsC (s := S2048x4x512) (V (Proc.devRef .tc main_v18_9)) (V (Proc.devRef .tc main_v18_10)) (fun i => prevs D k (i 0).val (col3 i))

variable {D : Data} {V : Valuation τ sig (Elt Ideal)} {k : ℕ}

theorem At0.new (h : At0 D V k) (hk : k < 2048) :
    IsC (s := S4x512) (Loop0.res_main_while0b_v74 V) (Loop0.res_main_while0b_v78 V) (fun i => D.st (k + 1) (col i)) := by
  unfold Loop0.res_main_while0b_v74 Loop0.res_main_while0b_v78
  exact h.a.mac h.x (slice_pair (Z := D.bu) h.bu hk (by rw [h.ctr]; exact ctr_int hk) rfl rfl)

theorem At0.step (h : At0 D V k) (hk : k < 2048) : At0 D (Loop0.STEP V) (k + 1) where
  bu := by rw [Loop0.STEP_main_v18_0, Loop0.STEP_main_v18_1]; exact h.bu
  a := by rw [Loop0.STEP_main_v18_2, Loop0.STEP_main_v18_3]; exact h.a
  ctr := by
    rw [Loop0.STEP_main_v18_4]
    unfold Loop0.step_main_v18_4
    rw [h.ctr]
    exact funext fun _ => (show BitVec.ofNat 32 k + BitVec.ofNat 32 1 = BitVec.ofNat 32 (k + 1) from by rw [← BitVec.ofNat_add])
  x := by rw [Loop0.STEP_main_v18_5, Loop0.STEP_main_v18_6]; exact h.new hk
  s := by
    rw [Loop0.STEP_main_v18_7, Loop0.STEP_main_v18_8]
    unfold Loop0.step_main_v18_7 Loop0.step_main_v18_8
    dsimp only [id]
    refine put_pair (Z := sts D k) (Z' := sts D (k + 1)) (X := fun q => D.st (k + 1) q) h.s (h.new hk) hk ?_ ?_ ?_ fun t q => ?_
    · exact (congrArg BitVec.toInt (congrFun h.ctr _)).trans (ctr_int hk)
    · rfl
    · rfl
    unfold sts
    by_cases ht : t = k
    · rw [if_pos ht, if_pos (by omega), ht]
    · rw [if_neg ht]
      exact if_congr (by omega) rfl rfl
  p := by
    rw [Loop0.STEP_main_v18_9, Loop0.STEP_main_v18_10]
    unfold Loop0.step_main_v18_9 Loop0.step_main_v18_10
    dsimp only [id]
    refine put_pair (Z := prevs D k) (Z' := prevs D (k + 1)) (X := fun q => D.st k q) h.p h.x hk ?_ ?_ ?_ fun t q => ?_
    · exact (congrArg BitVec.toInt (congrFun h.ctr _)).trans (ctr_int hk)
    · rfl
    · rfl
    unfold prevs
    by_cases ht : t = k
    · rw [if_pos ht, if_pos (by omega), ht]
    · rw [if_neg ht]
      exact if_congr (by omega) rfl rfl

theorem At0.iter (h : At0 D V 0) : ∀ k ≤ 2048, At0 D (Loop0.STEP^[k] V) k
  | 0, _ => h
  | k + 1, hk => by
    rw [Function.iterate_succ_apply']
    exact (At0.iter h k (by omega)).step (by omega)

end Cert.S5.Ref

end
-- ==== Proof.RefLoop1.lean ====
/- The reference's loop 1 (the recurrence backwards, its transpose): the counter, the condition, one trip's values from any contents
   (`STEP`), and the contents before the `k`-th trip. -/
module

public import proofs.«01_k».proof.Proof.RefOps

@[expose] public section

set_option maxRecDepth 1400

noncomputable section

namespace Cert.ReferenceIdeal.Loop1

open Cert.ReferenceIdeal Cert.ReferenceIdeal.Gen Cert.ReferenceIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `while1Ops0` allocates a buffer. -/
theorem while1Ops0_fresh : (while1Ops0 : List (HloOp τ sig (Elt F))).Forall fun op => op.fresh = ∅ :=
  StableHlo.forall_fresh_of_map rfl
/-- The reference each operation of `while1Ops0` writes, in order. -/
abbrev while1Ops0_W : List (Ref sig .tc) := [main_while1b_c_25, main_while1b_v69, main_while1b_c_26, main_while1b_v70]
theorem while1Ops0_writes : (while1Ops0 : List (HloOp τ sig (Elt F))).Forall fun op => op.writes ⊆ (while1Ops0_W.map (Proc.devRef (τ := τ) .tc)).toFinset :=
  StableHlo.forall_writes_sub_of_map rfl
/-- No operation of `while1Ops0_1` allocates a buffer. -/
theorem while1Ops0_1_fresh : (while1Ops0_1 : List (HloOp τ sig (Elt F))).Forall fun op => op.fresh = ∅ :=
  StableHlo.forall_fresh_of_map rfl
/-- The reference each operation of `while1Ops0_1` writes, in order. -/
abbrev while1Ops0_1_W : List (Ref sig .tc) := [main_while1b_call6_c, main_while1b_call6_c_0, main_while1b_call6_v0, main_while1b_v71]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- No operation of `while1Ops0_2` allocates a buffer. -/
theorem while1Ops0_2_fresh : (while1Ops0_2 : List (HloOp τ sig (Elt F))).Forall fun op => op.fresh = ∅ :=
  StableHlo.forall_fresh_of_map rfl
/-- The reference each operation of `while1Ops0_2` writes, in order. -/
abbrev while1Ops0_2_W : List (Ref sig .tc) := [main_while1b_call7_c, main_while1b_call7_c_0, main_while1b_call7_v0, main_while1b_v72]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- No operation of `while1Ops0_3` allocates a buffer. -/
theorem while1Ops0_3_fresh : (while1Ops0_3 : List (HloOp τ sig (Elt F))).Forall fun op => op.fresh = ∅ :=
  StableHlo.forall_fresh_of_map rfl
/-- The reference each operation of `while1Ops0_3` writes, in order. -/
abbrev while1Ops0_3_W : List (Ref sig .tc) := [main_while1b_call8_c, main_while1b_call8_c_0, main_while1b_call8_v0, main_while1b_v73]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- No operation of `while1Ops0_4` allocates a buffer. -/
theorem while1Ops0_4_fresh : (while1Ops0_4 : List (HloOp τ sig (Elt F))).Forall fun op => op.fresh = ∅ :=
  StableHlo.forall_fresh_of_map rfl
/-- The reference each operation of `while1Ops0_4` writes, in order. -/
abbrev while1Ops0_4_W : List (Ref sig .tc) := [main_while1b_call9_c, main_while1b_call9_c_0, main_while1b_call9_v0, main_while1b_v74]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- No operation of `while1Ops0_5` allocates a buffer. -/
theorem while1Ops0_5_fresh : (while1Ops0_5 : List (HloOp τ sig (Elt F))).Forall fun op => op.fresh = ∅ :=
  StableHlo.forall_fresh_of_map rfl
/-- The reference each operation of `while1Ops0_5` writes, in order. -/
abbrev while1Ops0_5_W : List (Ref sig .tc) := [main_while1b_v75, main_while1b_v76, main_while1b_v77, main_while1b_v78, main_while1b_v79, main_while1b_v80, main_while1b_v81, main_while1b_v82, main_while1b_v83, main_while1b_v84, main_while1b_v85, main_while1b_v86, main_while1b_v87, main_while1b_v88, main_while1b_v89, main_while1b_v90, main_while1b_v91]
theorem while1Ops0_5_writes : (while1Ops0_5 : List (HloOp τ sig (Elt F))).Forall fun op => op.writes ⊆ (while1Ops0_5_W.map (Proc.devRef (τ := τ) .tc)).toFinset :=
  StableHlo.forall_writes_sub_of_map rfl
/-- No operation of `while1Ops0_6` allocates a buffer. -/
theorem while1Ops0_6_fresh : (while1Ops0_6 : List (HloOp τ sig (Elt F))).Forall fun op => op.fresh = ∅ :=
  StableHlo.forall_fresh_of_map rfl
/-- The reference each operation of `while1Ops0_6` writes, in order. -/
abbrev while1Ops0_6_W : List (Ref sig .tc) := [main_while1b_call10_v0, main_while1b_call10_c, main_while1b_call10_c_0, main_while1b_v92]
theorem while1Ops0_6_writes : (while1Ops0_6 : List (HloOp τ sig (Elt F))).Forall fun op => op.writes ⊆ (while1Ops0_6_W.map (Proc.devRef (τ := τ) .tc)).toFinset :=
  StableHlo.forall_writes_sub_of_map rfl
/-- No operation of `while1Ops0_7` allocates a buffer. -/
theorem while1Ops0_7_fresh : (while1Ops0_7 : List (HloOp τ sig (Elt F))).Forall fun op => op.fresh = ∅ :=
  StableHlo.forall_fresh_of_map rfl
/-- The reference each operation of `while1Ops0_7` writes, in order. -/
abbrev while1Ops0_7_W : List (Ref sig .tc) := [main_while1b_call11_v0, main_while1b_call11_c, main_while1b_call11_c_0, main_while1b_v93]
theorem while1Ops0_7_writes : (while1Ops0_7 : List (HloOp τ sig (Elt F))).Forall fun op => op.writes ⊆ (while1Ops0_7_W.map (Proc.devRef (τ := τ) .tc)).toFinset :=
  StableHlo.forall_writes_sub_of_map rfl
/-- No operation of `while1Ops0_8` allocates a buffer. -/
theorem while1Ops0_8_fresh : (while1Ops0_8 : List (HloOp τ sig (Elt F))).Forall fun op => op.fresh = ∅ :=
  StableHlo.forall_fresh_of_map rfl
/-- The reference each operation of `while1Ops0_8` writes, in order. -/
abbrev while1Ops0_8_W : List (Ref sig .tc) := [main_while1b_c_27, main_while1b_v94, main_v50_6, main_v50_7, main_v50_8, main_v50_9, main_v50_10, main_v50_11, main_v50_12]
theorem while1Ops0_8_writes : (while1Ops0_8 : List (HloOp τ sig (Elt F))).Forall fun op => op.writes ⊆ (while1Ops0_8_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while1c_c_25 (constantI S_ 32 2048#32),
    StableHlo.binary main_v50_6 main_while1c_c_25 main_while1c_v69 (cmpi .slt) ]

/-- The loop body's stretches. -/
abbrev bodyI : List (List (HloOp τ sig (Elt F))) := [while1Ops0, while1Ops0_1, while1Ops0_2, while1Ops0_3, while1Ops0_4, while1Ops0_5, while1Ops0_6, while1Ops0_7, while1Ops0_8]

theorem hbodyI : Plain (bodyI (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.nil)))))))))

/-- The reference each operation of `condOps` writes, in order. -/
abbrev condOps_W : List (Ref sig .tc) := [main_while1c_c_25, main_while1c_v69]
theorem condOps_writes : (condOps : List (HloOp τ sig (Elt F))).Forall fun op => op.writes ⊆ (condOps_W.map (Proc.devRef (τ := τ) .tc)).toFinset :=
  StableHlo.forall_writes_sub_of_map rfl

variable (E : Dev nD → Valuation τ sig (Elt F))

/-- The trip counter (`main_v50_6`) is written by one stretch of the body, `while1Ops0_8`: not by the condition, nor by the
    body's other stretches. -/
theorem ctr_cond (V : Valuation τ sig (Elt F)) : after condOps V (Proc.devRef .tc main_v50_6) = V (Proc.devRef .tc main_v50_6) :=
  after_of_writes_sub condOps V condOps_writes (by decide +kernel)
theorem ctr_while1Ops0 (V : Valuation τ sig (Elt F)) : after while1Ops0 V (Proc.devRef .tc main_v50_6) = V (Proc.devRef .tc main_v50_6) :=
  after_of_writes_sub while1Ops0 V while1Ops0_writes (by decide +kernel)
theorem ctr_while1Ops0_1 (V : Valuation τ sig (Elt F)) : after while1Ops0_1 V (Proc.devRef .tc main_v50_6) = V (Proc.devRef .tc main_v50_6) :=
  after_of_writes_sub while1Ops0_1 V while1Ops0_1_writes (by decide +kernel)
theorem ctr_while1Ops0_2 (V : Valuation τ sig (Elt F)) : after while1Ops0_2 V (Proc.devRef .tc main_v50_6) = V (Proc.devRef .tc main_v50_6) :=
  after_of_writes_sub while1Ops0_2 V while1Ops0_2_writes (by decide +kernel)
theorem ctr_while1Ops0_3 (V : Valuation τ sig (Elt F)) : after while1Ops0_3 V (Proc.devRef .tc main_v50_6) = V (Proc.devRef .tc main_v50_6) :=
  after_of_writes_sub while1Ops0_3 V while1Ops0_3_writes (by decide +kernel)
theorem ctr_while1Ops0_4 (V : Valuation τ sig (Elt F)) : after while1Ops0_4 V (Proc.devRef .tc main_v50_6) = V (Proc.devRef .tc main_v50_6) :=
  after_of_writes_sub while1Ops0_4 V while1Ops0_4_writes (by decide +kernel)
theorem ctr_while1Ops0_5 (V : Valuation τ sig (Elt F)) : after while1Ops0_5 V (Proc.devRef .tc main_v50_6) = V (Proc.devRef .tc main_v50_6) :=
  after_of_writes_sub while1Ops0_5 V while1Ops0_5_writes (by decide +kernel)
theorem ctr_while1Ops0_6 (V : Valuation τ sig (Elt F)) : after while1Ops0_6 V (Proc.devRef .tc main_v50_6) = V (Proc.devRef .tc main_v50_6) :=
  after_of_writes_sub while1Ops0_6 V while1Ops0_6_writes (by decide +kernel)
theorem ctr_while1Ops0_7 (V : Valuation τ sig (Elt F)) : after while1Ops0_7 V (Proc.devRef .tc main_v50_6) = V (Proc.devRef .tc main_v50_6) :=
  after_of_writes_sub while1Ops0_7 V while1Ops0_7_writes (by decide +kernel)

set_option maxRecDepth 100000 in
/-- `while1Ops0_8` leaves the counter one step on. -/
theorem ctr_step (X : Valuation τ sig (Elt F)) :
    after while1Ops0_8 X (Proc.devRef .tc main_v50_6) = addi (X (Proc.devRef .tc main_v50_6)) (constantI S_ 32 1#32) := by
  after_results
  rfl

/-- Before the `k`-th condition the counter is the loop's induction variable at `k`. -/
theorem atK_ctr (hE : ∀ c, E c (Proc.devRef .tc main_v50_6) = fun _ => (0#32 : BitVec 32)) (c : Dev nD) : ∀ k, atTrip condOps bodyI E k c (Proc.devRef .tc main_v50_6) = fun _ => Scf.iv 0#32 1#32 k
  | 0 => by rw [show atTrip condOps bodyI E 0 c = E c from rfl, hE, Scf.iv_zero]
  | k + 1 => by
    rw [show atTrip condOps bodyI E (k + 1) c = afterL bodyI (after condOps (atTrip condOps bodyI E k c)) from rfl]
    simp only [afterL_cons, afterL_nil]
    rw [ctr_step, ctr_while1Ops0_7, ctr_while1Ops0_6, ctr_while1Ops0_5, ctr_while1Ops0_4, ctr_while1Ops0_3, ctr_while1Ops0_2, ctr_while1Ops0_1, ctr_while1Ops0, ctr_cond, atK_ctr hE c k, Scf.iv_succ]
    rfl

-- `iapply` of a rule stated for any thread at the TensorCore thread unifies only when unification may unfold
-- plain definitions in a metavariable's type
set_option backward.isDefEq.respectTransparency.types false in
/-- The condition's specification at the fold. -/
theorem cond_spec (hE : ∀ c, E c (Proc.devRef .tc main_v50_6) = fun _ => (0#32 : BitVec 32)) : CondSpec (pcfgs (F := F)) defs₀ loops (main_while1_cond (F := F)) condOps bodyI E 2048 := by
  intro k hk c bd
  have hctr := atK_ctr E hE c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI E k c) main_v50_6 HostLoop.idx0)
        (HloOp.result _ (atTrip condOps bodyI E k c) main_while1c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## One trip's values -/

/-- The body's operations 1 … 4 of 54. -/
abbrev trip_w0 : List (HloOp τ sig (Elt F)) :=
  [ StableHlo.nullary main_while1b_c_25 (constantI S_ 32 2048#32),
    StableHlo.binary main_while1b_c_25 main_v50_6 main_while1b_v69 (subi : (⟨S_, .i32⟩ : BufTy).Contents (Elt F) → (⟨S_, .i32⟩ : BufTy).Contents (Elt F) → (⟨S_, .i32⟩ : BufTy).Contents (Elt F)),
    StableHlo.nullary main_while1b_c_26 (constantI S_ 32 1#32),
    StableHlo.binary main_while1b_v69 main_while1b_c_26 main_while1b_v70 (subi : (⟨S_, .i32⟩ : BufTy).Contents (Elt F) → (⟨S_, .i32⟩ : BufTy).Contents (Elt F) → (⟨S_, .i32⟩ : BufTy).Contents (Elt F)) ]

/-- The body's operations 5 … 7 of 54. -/
abbrev trip_w1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v50_0 : StableHlo.TRef sig ⟨S2048x4x512, .f32⟩) ![(.of main_while1b_v70 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x4x512, .f32⟩) (fun x i => Host.dynamicSlice S1x4x512 x (fun k => (i k (Shape.Idx.first h_S_)).toInt) sliceFits_S2048x4x512_S1x4x512) ]

/-- The body's operations 8 … 8 of 54. -/
abbrev trip_w2 : List (HloOp τ sig (Elt F)) :=
  [ StableHlo.TRef.reshape (.of main_while1b_call6_v0 : StableHlo.TRef sig ⟨S1x4x512, .f32⟩) (.of main_while1b_v71 : StableHlo.TRef sig ⟨S4x512, .f32⟩) (rfl : (.f32 : EltTy) = .f32) shapeCasts_S1x4x512_S4x512 ]

/-- The body's operations 9 … 11 of 54. -/
abbrev trip_w3 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v50_1 : StableHlo.TRef sig ⟨S2048x4x512, .f32⟩) ![(.of main_while1b_v70 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x4x512, .f32⟩) (fun x i => Host.dynamicSlice S1x4x512 x (fun k => (i k (Shape.Idx.first h_S_)).toInt) sliceFits_S2048x4x512_S1x4x512) ]

/-- The body's operations 12 … 12 of 54. -/
abbrev trip_w4 : List (HloOp τ sig (Elt F)) :=
  [ StableHlo.TRef.reshape (.of main_while1b_call7_v0 : StableHlo.TRef sig ⟨S1x4x512, .f32⟩) (.of main_while1b_v72 : StableHlo.TRef sig ⟨S4x512, .f32⟩) (rfl : (.f32 : EltTy) = .f32) shapeCasts_S1x4x512_S4x512 ]

/-- The body's operations 13 … 15 of 54. -/
abbrev trip_w5 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v50_2 : StableHlo.TRef sig ⟨S2048x4x512, .f32⟩) ![(.of main_while1b_v70 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x4x512, .f32⟩) (fun x i => Host.dynamicSlice S1x4x512 x (fun k => (i k (Shape.Idx.first h_S_)).toInt) sliceFits_S2048x4x512_S1x4x512) ]

/-- The body's operations 16 … 16 of 54. -/
abbrev trip_w6 : List (HloOp τ sig (Elt F)) :=
  [ StableHlo.TRef.reshape (.of main_while1b_call8_v0 : StableHlo.TRef sig ⟨S1x4x512, .f32⟩) (.of main_while1b_v73 : StableHlo.TRef sig ⟨S4x512, .f32⟩) (rfl : (.f32 : EltTy) = .f32) shapeCasts_S1x4x512_S4x512 ]

/-- The body's operations 17 … 19 of 54. -/
abbrev trip_w7 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v50_3 : StableHlo.TRef sig ⟨S2048x4x512, .f32⟩) ![(.of main_while1b_v70 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x4x512, .f32⟩) (fun x i => Host.dynamicSlice S1x4x512 x (fun k => (i k (Shape.Idx.first h_S_)).toInt) sliceFits_S2048x4x512_S1x4x512) ]

/-- The body's operations 20 … 20 of 54. -/
abbrev trip_w8 : List (HloOp τ sig (Elt F)) :=
  [ StableHlo.TRef.reshape (.of main_while1b_call9_v0 : StableHlo.TRef sig ⟨S1x4x512, .f32⟩) (.of main_while1b_v74 : StableHlo.TRef sig ⟨S4x512, .f32⟩) (rfl : (.f32 : EltTy) = .f32) shapeCasts_S1x4x512_S4x512 ]

/-- The body's operations 21 … 37 of 54. -/
abbrev trip_w9 : List (HloOp τ sig (Elt F)) :=
  [ StableHlo.binary main_v50_9 main_while1b_v71 main_while1b_v75 (addf : (⟨S4x512, .f32⟩ : BufTy).Contents (Elt F) → (⟨S4x512, .f32⟩ : BufTy).Contents (Elt F) → (⟨S4x512, .f32⟩ : BufTy).Contents (Elt F)),
    StableHlo.binary main_v50_10 main_while1b_v72 main_while1b_v76 (addf : (⟨S4x512, .f32⟩ : BufTy).Contents (Elt F) → (⟨S4x512, .f32⟩ : BufTy).Contents (Elt F) → (⟨S4x512, .f32⟩ : BufTy).Contents (Elt F)),
    StableHlo.binary main_v50_5 main_while1b_v76 main_while1b_v77 (mulf : (⟨S4x512, .f32⟩ : BufTy).Contents (Elt F) → (⟨S4x512, .f32⟩ : BufTy).Contents (Elt F) → (⟨S4x512, .f32⟩ : BufTy).Contents (Elt F)),
    StableHlo.binary main_while1b_v76 main_while1b_v73 main_while1b_v78 (mulf : (⟨S4x512, .f32⟩ : BufTy).Contents (Elt F) → (⟨S4x512, .f32⟩ : BufTy).Contents (Elt F) → (⟨S4x512, .f32⟩ : BufTy).Contents (Elt F)),
    StableHlo.binary main_v50_8 main_while1b_v78 main_while1b_v79 (addf : (⟨S4x512, .f32⟩ : BufTy).Contents (Elt F) → (⟨S4x512, .f32⟩ : BufTy).Contents (Elt F) → (⟨S4x512, .f32⟩ : BufTy).Contents (Elt F)),
    StableHlo.binary main_v50_4 main_while1b_v76 main_while1b_v80 (mulf : (⟨S4x512, .f32⟩ : BufTy).Contents (Elt F) → (⟨S4x512, .f32⟩ : BufTy).Contents (Elt F) → (⟨S4x512, .f32⟩ : BufTy).Contents (Elt F)),
    StableHlo.binary main_while1b_v76 main_while1b_v74 main_while1b_v81 (mulf : (⟨S4x512, .f32⟩ : BufTy).Contents (Elt F) → (⟨S4x512, .f32⟩ : BufTy).Contents (Elt F) → (⟨S4x512, .f32⟩ : BufTy).Contents (Elt F)),
    StableHlo.binary main_v50_7 main_while1b_v81 main_while1b_v82 (addf : (⟨S4x512, .f32⟩ : BufTy).Contents (Elt F) → (⟨S4x512, .f32⟩ : BufTy).Contents (Elt F) → (⟨S4x512, .f32⟩ : BufTy).Contents (Elt F)),
    StableHlo.unary main_while1b_v75 main_while1b_v83 (Host.negf : (⟨S4x512, .f32⟩ : BufTy).Contents (Elt F) → (⟨S4x512, .f32⟩ : BufTy).Contents (Elt F)),
    StableHlo.binary main_v50_5 main_while1b_v83 main_while1b_v84 (mulf : (⟨S4x512, .f32⟩ : BufTy).Contents (Elt F) → (⟨S4x512, .f32⟩ : BufTy).Contents (Elt F) → (⟨S4x512, .f32⟩ : BufTy).Contents (Elt F)),
    StableHlo.binary main_while1b_v80 main_while1b_v84 main_while1b_v85 (addf : (⟨S4x512, .f32⟩ : BufTy).Contents (Elt F) → (⟨S4x512, .f32⟩ : BufTy).Contents (Elt F) → (⟨S4x512, .f32⟩ : BufTy).Contents (Elt F)),
    StableHlo.binary main_while1b_v83 main_while1b_v74 main_while1b_v86 (mulf : (⟨S4x512, .f32⟩ : BufTy).Contents (Elt F) → (⟨S4x512, .f32⟩ : BufTy).Contents (Elt F) → (⟨S4x512, .f32⟩ : BufTy).Contents (Elt F)),
    StableHlo.binary main_while1b_v79 main_while1b_v86 main_while1b_v87 (addf : (⟨S4x512, .f32⟩ : BufTy).Contents (Elt F) → (⟨S4x512, .f32⟩ : BufTy).Contents (Elt F) → (⟨S4x512, .f32⟩ : BufTy).Contents (Elt F)),
    StableHlo.binary main_v50_4 main_while1b_v75 main_while1b_v88 (mulf : (⟨S4x512, .f32⟩ : BufTy).Contents (Elt F) → (⟨S4x512, .f32⟩ : BufTy).Contents (Elt F) → (⟨S4x512, .f32⟩ : BufTy).Contents (Elt F)),
    StableHlo.binary main_while1b_v77 main_while1b_v88 main_while1b_v89 (addf : (⟨S4x512, .f32⟩ : BufTy).Contents (Elt F) → (⟨S4x512, .f32⟩ : BufTy).Contents (Elt F) → (⟨S4x512, .f32⟩ : BufTy).Contents (Elt F)),
    StableHlo.binary main_while1b_v75 main_while1b_v73 main_while1b_v90 (mulf : (⟨S4x512, .f32⟩ : BufTy).Contents (Elt F) → (⟨S4x512, .f32⟩ : BufTy).Contents (Elt F) → (⟨S4x512, .f32⟩ : BufTy).Contents (Elt F)),
    StableHlo.binary main_while1b_v82 main_while1b_v90 main_while1b_v91 (addf : (⟨S4x512, .f32⟩ : BufTy).Contents (Elt F) → (⟨S4x512, .f32⟩ : BufTy).Contents (Elt F) → (⟨S4x512, .f32⟩ : BufTy).Contents (Elt F)) ]

/-- The body's operations 38 … 41 of 54. -/
abbrev trip_w10 : List (HloOp τ sig (Elt F)) :=
  [ StableHlo.TRef.unary (.of main_while1b_v75 : StableHlo.TRef sig ⟨S4x512, .f32⟩) (.of main_while1b_call10_v0 : StableHlo.TRef sig ⟨S1x4x512, .f32⟩) (broadcastInDim S1x4x512 ![1, 2] bcast_S4x512_S1x4x512_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v50_11 : StableHlo.TRef sig ⟨S2048x4x512, .f32⟩) (.of main_while1b_call10_v0 : StableHlo.TRef sig ⟨S1x4x512, .f32⟩) ![(.of main_while1b_v70 : StableHlo.TRef sig ⟨S_, .i32⟩), (.of main_while1b_call10_c : StableHlo.TRef sig ⟨S_, .i32⟩), (.of main_while1b_call10_c_0 : StableHlo.TRef sig ⟨S_, .i32⟩)] (.of main_while1b_v92 : StableHlo.TRef sig ⟨S2048x4x512, .f32⟩) (fun x u i => Host.dynamicUpdateSlice x u (fun k => (i k (Shape.Idx.first h_S_)).toInt) updateFits_S2048x4x512_S1x4x512) ]

/-- The body's operations 42 … 45 of 54. -/
abbrev trip_w11 : List (HloOp τ sig (Elt F)) :=
  [ StableHlo.TRef.unary (.of main_while1b_v76 : StableHlo.TRef sig ⟨S4x512, .f32⟩) (.of main_while1b_call11_v0 : StableHlo.TRef sig ⟨S1x4x512, .f32⟩) (broadcastInDim S1x4x512 ![1, 2] bcast_S4x512_S1x4x512_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v50_12 : StableHlo.TRef sig ⟨S2048x4x512, .f32⟩) (.of main_while1b_call11_v0 : StableHlo.TRef sig ⟨S1x4x512, .f32⟩) ![(.of main_while1b_v70 : StableHlo.TRef sig ⟨S_, .i32⟩), (.of main_while1b_call11_c : StableHlo.TRef sig ⟨S_, .i32⟩), (.of main_while1b_call11_c_0 : StableHlo.TRef sig ⟨S_, .i32⟩)] (.of main_while1b_v93 : StableHlo.TRef sig ⟨S2048x4x512, .f32⟩) (fun x u i => Host.dynamicUpdateSlice x u (fun k => (i k (Shape.Idx.first h_S_)).toInt) updateFits_S2048x4x512_S1x4x512) ]

set_option maxRecDepth 5000 in
/-- `while1Ops0` is its windows in order. -/
theorem while1Ops0_cut : (while1Ops0 : List (HloOp τ sig (Elt F))) = trip_w0 := rfl
set_option maxRecDepth 5000 in
/-- `while1Ops0_1` is its windows in order. -/
theorem while1Ops0_1_cut : (while1Ops0_1 : List (HloOp τ sig (Elt F))) = trip_w1 ++ (trip_w2) := rfl
set_option maxRecDepth 5000 in
/-- `while1Ops0_2` is its windows in order. -/
theorem while1Ops0_2_cut : (while1Ops0_2 : List (HloOp τ sig (Elt F))) = trip_w3 ++ (trip_w4) := rfl
set_option maxRecDepth 5000 in
/-- `while1Ops0_3` is its windows in order. -/
theorem while1Ops0_3_cut : (while1Ops0_3 : List (HloOp τ sig (Elt F))) = trip_w5 ++ (trip_w6) := rfl
set_option maxRecDepth 5000 in
/-- `while1Ops0_4` is its windows in order. -/
theorem while1Ops0_4_cut : (while1Ops0_4 : List (HloOp τ sig (Elt F))) = trip_w7 ++ (trip_w8) := rfl
set_option maxRecDepth 5000 in
/-- `while1Ops0_5` is its windows in order. -/
theorem while1Ops0_5_cut : (while1Ops0_5 : List (HloOp τ sig (Elt F))) = trip_w9 := rfl
set_option maxRecDepth 5000 in
/-- `while1Ops0_6` is its windows in order. -/
theorem while1Ops0_6_cut : (while1Ops0_6 : List (HloOp τ sig (Elt F))) = trip_w10 := rfl
set_option maxRecDepth 5000 in
/-- `while1Ops0_7` is its windows in order. -/
theorem while1Ops0_7_cut : (while1Ops0_7 : List (HloOp τ sig (Elt F))) = trip_w11 := rfl

set_option maxRecDepth 8192 in
/-- `main_while1b_v70`'s composed term of the carried buffers (named: it is used 6 times). -/
def res_main_while1b_v70 (V0 : Valuation τ sig (Elt F)) : (Proc.devRef .tc main_while1b_v70 : DevRef τ sig).ty.Contents (Elt F) :=
  subi (subi (constantI S_ 32 2048#32) (V0 (Proc.devRef .tc main_v50_6))) (constantI S_ 32 1#32)

set_option maxRecDepth 8192 in
/-- `main_while1b_v73`'s composed term of the carried buffers (named: it is used 2 times). -/
def res_main_while1b_v73 (V0 : Valuation τ sig (Elt F)) : (Proc.devRef .tc main_while1b_v73 : DevRef τ sig).ty.Contents (Elt F) :=
  shapeCast S4x512 (Host.dynamicSlice S1x4x512 (V0 (Proc.devRef .tc main_v50_2)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512

set_option maxRecDepth 8192 in
/-- `main_while1b_v74`'s composed term of the carried buffers (named: it is used 2 times). -/
def res_main_while1b_v74 (V0 : Valuation τ sig (Elt F)) : (Proc.devRef .tc main_while1b_v74 : DevRef τ sig).ty.Contents (Elt F) :=
  shapeCast S4x512 (Host.dynamicSlice S1x4x512 (V0 (Proc.devRef .tc main_v50_3)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512

set_option maxRecDepth 8192 in
/-- `main_while1b_v75`'s composed term of the carried buffers (named: it is used 4 times). -/
def res_main_while1b_v75 (V0 : Valuation τ sig (Elt F)) : (Proc.devRef .tc main_while1b_v75 : DevRef τ sig).ty.Contents (Elt F) :=
  addf (V0 (Proc.devRef .tc main_v50_9)) (shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512)

set_option maxRecDepth 8192 in
/-- `main_while1b_v76`'s composed term of the carried buffers (named: it is used 5 times). -/
def res_main_while1b_v76 (V0 : Valuation τ sig (Elt F)) : (Proc.devRef .tc main_while1b_v76 : DevRef τ sig).ty.Contents (Elt F) :=
  addf (V0 (Proc.devRef .tc main_v50_10)) (shapeCast S4x512 (Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512)

set_option maxRecDepth 8192 in
/-- `main_while1b_v83`'s composed term of the carried buffers (named: it is used 2 times). -/
def res_main_while1b_v83 (V0 : Valuation τ sig (Elt F)) : (Proc.devRef .tc main_while1b_v83 : DevRef τ sig).ty.Contents (Elt F) :=
  Host.negf (res_main_while1b_v75 V0)

/-- The device's buffer contents before the body's first window. -/
def val0 (V0 : Valuation τ sig (Elt F)) : Valuation τ sig (Elt F) := V0
theorem val0_main_v50_6 (V0 : Valuation τ sig (Elt F)) : val0 V0 (no_index (Proc.devRef .tc main_v50_6)) = V0 (Proc.devRef .tc main_v50_6) := rfl
theorem val0_main_v50_0 (V0 : Valuation τ sig (Elt F)) : val0 V0 (no_index (Proc.devRef .tc main_v50_0)) = V0 (Proc.devRef .tc main_v50_0) := rfl
theorem val0_main_v50_1 (V0 : Valuation τ sig (Elt F)) : val0 V0 (no_index (Proc.devRef .tc main_v50_1)) = V0 (Proc.devRef .tc main_v50_1) := rfl
theorem val0_main_v50_2 (V0 : Valuation τ sig (Elt F)) : val0 V0 (no_index (Proc.devRef .tc main_v50_2)) = V0 (Proc.devRef .tc main_v50_2) := rfl
theorem val0_main_v50_3 (V0 : Valuation τ sig (Elt F)) : val0 V0 (no_index (Proc.devRef .tc main_v50_3)) = V0 (Proc.devRef .tc main_v50_3) := rfl
theorem val0_main_v50_9 (V0 : Valuation τ sig (Elt F)) : val0 V0 (no_index (Proc.devRef .tc main_v50_9)) = V0 (Proc.devRef .tc main_v50_9) := rfl
theorem val0_main_v50_10 (V0 : Valuation τ sig (Elt F)) : val0 V0 (no_index (Proc.devRef .tc main_v50_10)) = V0 (Proc.devRef .tc main_v50_10) := rfl
theorem val0_main_v50_5 (V0 : Valuation τ sig (Elt F)) : val0 V0 (no_index (Proc.devRef .tc main_v50_5)) = V0 (Proc.devRef .tc main_v50_5) := rfl
theorem val0_main_v50_8 (V0 : Valuation τ sig (Elt F)) : val0 V0 (no_index (Proc.devRef .tc main_v50_8)) = V0 (Proc.devRef .tc main_v50_8) := rfl
theorem val0_main_v50_4 (V0 : Valuation τ sig (Elt F)) : val0 V0 (no_index (Proc.devRef .tc main_v50_4)) = V0 (Proc.devRef .tc main_v50_4) := rfl
theorem val0_main_v50_7 (V0 : Valuation τ sig (Elt F)) : val0 V0 (no_index (Proc.devRef .tc main_v50_7)) = V0 (Proc.devRef .tc main_v50_7) := rfl
theorem val0_main_v50_11 (V0 : Valuation τ sig (Elt F)) : val0 V0 (no_index (Proc.devRef .tc main_v50_11)) = V0 (Proc.devRef .tc main_v50_11) := rfl
theorem val0_main_v50_12 (V0 : Valuation τ sig (Elt F)) : val0 V0 (no_index (Proc.devRef .tc main_v50_12)) = V0 (Proc.devRef .tc main_v50_12) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while1b_c_25, main_while1b_v69, main_while1b_c_26, main_while1b_v70]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v50_6 (V0 : Valuation τ sig (Elt F)) : val1 V0 (no_index (Proc.devRef .tc main_v50_6)) = V0 (Proc.devRef .tc main_v50_6) :=
  (val1_keep V0 main_v50_6 (by decide)).trans (val0_main_v50_6 V0)
theorem val1_main_v50_0 (V0 : Valuation τ sig (Elt F)) : val1 V0 (no_index (Proc.devRef .tc main_v50_0)) = V0 (Proc.devRef .tc main_v50_0) :=
  (val1_keep V0 main_v50_0 (by decide)).trans (val0_main_v50_0 V0)
theorem val1_main_v50_1 (V0 : Valuation τ sig (Elt F)) : val1 V0 (no_index (Proc.devRef .tc main_v50_1)) = V0 (Proc.devRef .tc main_v50_1) :=
  (val1_keep V0 main_v50_1 (by decide)).trans (val0_main_v50_1 V0)
theorem val1_main_v50_2 (V0 : Valuation τ sig (Elt F)) : val1 V0 (no_index (Proc.devRef .tc main_v50_2)) = V0 (Proc.devRef .tc main_v50_2) :=
  (val1_keep V0 main_v50_2 (by decide)).trans (val0_main_v50_2 V0)
theorem val1_main_v50_3 (V0 : Valuation τ sig (Elt F)) : val1 V0 (no_index (Proc.devRef .tc main_v50_3)) = V0 (Proc.devRef .tc main_v50_3) :=
  (val1_keep V0 main_v50_3 (by decide)).trans (val0_main_v50_3 V0)
theorem val1_main_v50_9 (V0 : Valuation τ sig (Elt F)) : val1 V0 (no_index (Proc.devRef .tc main_v50_9)) = V0 (Proc.devRef .tc main_v50_9) :=
  (val1_keep V0 main_v50_9 (by decide)).trans (val0_main_v50_9 V0)
theorem val1_main_v50_10 (V0 : Valuation τ sig (Elt F)) : val1 V0 (no_index (Proc.devRef .tc main_v50_10)) = V0 (Proc.devRef .tc main_v50_10) :=
  (val1_keep V0 main_v50_10 (by decide)).trans (val0_main_v50_10 V0)
theorem val1_main_v50_5 (V0 : Valuation τ sig (Elt F)) : val1 V0 (no_index (Proc.devRef .tc main_v50_5)) = V0 (Proc.devRef .tc main_v50_5) :=
  (val1_keep V0 main_v50_5 (by decide)).trans (val0_main_v50_5 V0)
theorem val1_main_v50_8 (V0 : Valuation τ sig (Elt F)) : val1 V0 (no_index (Proc.devRef .tc main_v50_8)) = V0 (Proc.devRef .tc main_v50_8) :=
  (val1_keep V0 main_v50_8 (by decide)).trans (val0_main_v50_8 V0)
theorem val1_main_v50_4 (V0 : Valuation τ sig (Elt F)) : val1 V0 (no_index (Proc.devRef .tc main_v50_4)) = V0 (Proc.devRef .tc main_v50_4) :=
  (val1_keep V0 main_v50_4 (by decide)).trans (val0_main_v50_4 V0)
theorem val1_main_v50_7 (V0 : Valuation τ sig (Elt F)) : val1 V0 (no_index (Proc.devRef .tc main_v50_7)) = V0 (Proc.devRef .tc main_v50_7) :=
  (val1_keep V0 main_v50_7 (by decide)).trans (val0_main_v50_7 V0)
theorem val1_main_v50_11 (V0 : Valuation τ sig (Elt F)) : val1 V0 (no_index (Proc.devRef .tc main_v50_11)) = V0 (Proc.devRef .tc main_v50_11) :=
  (val1_keep V0 main_v50_11 (by decide)).trans (val0_main_v50_11 V0)
theorem val1_main_v50_12 (V0 : Valuation τ sig (Elt F)) : val1 V0 (no_index (Proc.devRef .tc main_v50_12)) = V0 (Proc.devRef .tc main_v50_12) :=
  (val1_keep V0 main_v50_12 (by decide)).trans (val0_main_v50_12 V0)
set_option maxRecDepth 8192 in
theorem val1_main_while1b_v70 (V0 : Valuation τ sig (Elt F)) : val1 V0 (no_index (Proc.devRef .tc main_while1b_v70)) = res_main_while1b_v70 V0 := by
  unfold val1
  simp only [trip_w0]
  after_results_entrywise [val0_main_v50_6, res_main_while1b_v70, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while1b_call6_c, main_while1b_call6_c_0, main_while1b_call6_v0]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v50_6 (V0 : Valuation τ sig (Elt F)) : val2 V0 (no_index (Proc.devRef .tc main_v50_6)) = V0 (Proc.devRef .tc main_v50_6) :=
  (val2_keep V0 main_v50_6 (by decide)).trans (val1_main_v50_6 V0)
theorem val2_main_v50_0 (V0 : Valuation τ sig (Elt F)) : val2 V0 (no_index (Proc.devRef .tc main_v50_0)) = V0 (Proc.devRef .tc main_v50_0) :=
  (val2_keep V0 main_v50_0 (by decide)).trans (val1_main_v50_0 V0)
theorem val2_main_v50_1 (V0 : Valuation τ sig (Elt F)) : val2 V0 (no_index (Proc.devRef .tc main_v50_1)) = V0 (Proc.devRef .tc main_v50_1) :=
  (val2_keep V0 main_v50_1 (by decide)).trans (val1_main_v50_1 V0)
theorem val2_main_v50_2 (V0 : Valuation τ sig (Elt F)) : val2 V0 (no_index (Proc.devRef .tc main_v50_2)) = V0 (Proc.devRef .tc main_v50_2) :=
  (val2_keep V0 main_v50_2 (by decide)).trans (val1_main_v50_2 V0)
theorem val2_main_v50_3 (V0 : Valuation τ sig (Elt F)) : val2 V0 (no_index (Proc.devRef .tc main_v50_3)) = V0 (Proc.devRef .tc main_v50_3) :=
  (val2_keep V0 main_v50_3 (by decide)).trans (val1_main_v50_3 V0)
theorem val2_main_v50_9 (V0 : Valuation τ sig (Elt F)) : val2 V0 (no_index (Proc.devRef .tc main_v50_9)) = V0 (Proc.devRef .tc main_v50_9) :=
  (val2_keep V0 main_v50_9 (by decide)).trans (val1_main_v50_9 V0)
theorem val2_main_v50_10 (V0 : Valuation τ sig (Elt F)) : val2 V0 (no_index (Proc.devRef .tc main_v50_10)) = V0 (Proc.devRef .tc main_v50_10) :=
  (val2_keep V0 main_v50_10 (by decide)).trans (val1_main_v50_10 V0)
theorem val2_main_v50_5 (V0 : Valuation τ sig (Elt F)) : val2 V0 (no_index (Proc.devRef .tc main_v50_5)) = V0 (Proc.devRef .tc main_v50_5) :=
  (val2_keep V0 main_v50_5 (by decide)).trans (val1_main_v50_5 V0)
theorem val2_main_v50_8 (V0 : Valuation τ sig (Elt F)) : val2 V0 (no_index (Proc.devRef .tc main_v50_8)) = V0 (Proc.devRef .tc main_v50_8) :=
  (val2_keep V0 main_v50_8 (by decide)).trans (val1_main_v50_8 V0)
theorem val2_main_v50_4 (V0 : Valuation τ sig (Elt F)) : val2 V0 (no_index (Proc.devRef .tc main_v50_4)) = V0 (Proc.devRef .tc main_v50_4) :=
  (val2_keep V0 main_v50_4 (by decide)).trans (val1_main_v50_4 V0)
theorem val2_main_v50_7 (V0 : Valuation τ sig (Elt F)) : val2 V0 (no_index (Proc.devRef .tc main_v50_7)) = V0 (Proc.devRef .tc main_v50_7) :=
  (val2_keep V0 main_v50_7 (by decide)).trans (val1_main_v50_7 V0)
theorem val2_main_v50_11 (V0 : Valuation τ sig (Elt F)) : val2 V0 (no_index (Proc.devRef .tc main_v50_11)) = V0 (Proc.devRef .tc main_v50_11) :=
  (val2_keep V0 main_v50_11 (by decide)).trans (val1_main_v50_11 V0)
theorem val2_main_v50_12 (V0 : Valuation τ sig (Elt F)) : val2 V0 (no_index (Proc.devRef .tc main_v50_12)) = V0 (Proc.devRef .tc main_v50_12) :=
  (val2_keep V0 main_v50_12 (by decide)).trans (val1_main_v50_12 V0)
theorem val2_main_while1b_v70 (V0 : Valuation τ sig (Elt F)) : val2 V0 (no_index (Proc.devRef .tc main_while1b_v70)) = res_main_while1b_v70 V0 :=
  (val2_keep V0 main_while1b_v70 (by decide)).trans (val1_main_while1b_v70 V0)
set_option maxRecDepth 8192 in
theorem val2_main_while1b_call6_v0 (V0 : Valuation τ sig (Elt F)) : val2 V0 (no_index (Proc.devRef .tc main_while1b_call6_v0)) = Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512 := by
  unfold val2
  simp only [trip_w1]
  after_results_entrywise [val1_main_while1b_v70, val1_main_v50_0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while1b_v71]
set_option maxRecDepth 8192 in
theorem trip_w2_writes : (trip_w2 : List (HloOp τ sig (Elt F))).Forall fun op => op.writes ⊆ (trip_w2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v50_6 (V0 : Valuation τ sig (Elt F)) : val3 V0 (no_index (Proc.devRef .tc main_v50_6)) = V0 (Proc.devRef .tc main_v50_6) :=
  (val3_keep V0 main_v50_6 (by decide)).trans (val2_main_v50_6 V0)
theorem val3_main_v50_0 (V0 : Valuation τ sig (Elt F)) : val3 V0 (no_index (Proc.devRef .tc main_v50_0)) = V0 (Proc.devRef .tc main_v50_0) :=
  (val3_keep V0 main_v50_0 (by decide)).trans (val2_main_v50_0 V0)
theorem val3_main_v50_1 (V0 : Valuation τ sig (Elt F)) : val3 V0 (no_index (Proc.devRef .tc main_v50_1)) = V0 (Proc.devRef .tc main_v50_1) :=
  (val3_keep V0 main_v50_1 (by decide)).trans (val2_main_v50_1 V0)
theorem val3_main_v50_2 (V0 : Valuation τ sig (Elt F)) : val3 V0 (no_index (Proc.devRef .tc main_v50_2)) = V0 (Proc.devRef .tc main_v50_2) :=
  (val3_keep V0 main_v50_2 (by decide)).trans (val2_main_v50_2 V0)
theorem val3_main_v50_3 (V0 : Valuation τ sig (Elt F)) : val3 V0 (no_index (Proc.devRef .tc main_v50_3)) = V0 (Proc.devRef .tc main_v50_3) :=
  (val3_keep V0 main_v50_3 (by decide)).trans (val2_main_v50_3 V0)
theorem val3_main_v50_9 (V0 : Valuation τ sig (Elt F)) : val3 V0 (no_index (Proc.devRef .tc main_v50_9)) = V0 (Proc.devRef .tc main_v50_9) :=
  (val3_keep V0 main_v50_9 (by decide)).trans (val2_main_v50_9 V0)
theorem val3_main_v50_10 (V0 : Valuation τ sig (Elt F)) : val3 V0 (no_index (Proc.devRef .tc main_v50_10)) = V0 (Proc.devRef .tc main_v50_10) :=
  (val3_keep V0 main_v50_10 (by decide)).trans (val2_main_v50_10 V0)
theorem val3_main_v50_5 (V0 : Valuation τ sig (Elt F)) : val3 V0 (no_index (Proc.devRef .tc main_v50_5)) = V0 (Proc.devRef .tc main_v50_5) :=
  (val3_keep V0 main_v50_5 (by decide)).trans (val2_main_v50_5 V0)
theorem val3_main_v50_8 (V0 : Valuation τ sig (Elt F)) : val3 V0 (no_index (Proc.devRef .tc main_v50_8)) = V0 (Proc.devRef .tc main_v50_8) :=
  (val3_keep V0 main_v50_8 (by decide)).trans (val2_main_v50_8 V0)
theorem val3_main_v50_4 (V0 : Valuation τ sig (Elt F)) : val3 V0 (no_index (Proc.devRef .tc main_v50_4)) = V0 (Proc.devRef .tc main_v50_4) :=
  (val3_keep V0 main_v50_4 (by decide)).trans (val2_main_v50_4 V0)
theorem val3_main_v50_7 (V0 : Valuation τ sig (Elt F)) : val3 V0 (no_index (Proc.devRef .tc main_v50_7)) = V0 (Proc.devRef .tc main_v50_7) :=
  (val3_keep V0 main_v50_7 (by decide)).trans (val2_main_v50_7 V0)
theorem val3_main_v50_11 (V0 : Valuation τ sig (Elt F)) : val3 V0 (no_index (Proc.devRef .tc main_v50_11)) = V0 (Proc.devRef .tc main_v50_11) :=
  (val3_keep V0 main_v50_11 (by decide)).trans (val2_main_v50_11 V0)
theorem val3_main_v50_12 (V0 : Valuation τ sig (Elt F)) : val3 V0 (no_index (Proc.devRef .tc main_v50_12)) = V0 (Proc.devRef .tc main_v50_12) :=
  (val3_keep V0 main_v50_12 (by decide)).trans (val2_main_v50_12 V0)
theorem val3_main_while1b_v70 (V0 : Valuation τ sig (Elt F)) : val3 V0 (no_index (Proc.devRef .tc main_while1b_v70)) = res_main_while1b_v70 V0 :=
  (val3_keep V0 main_while1b_v70 (by decide)).trans (val2_main_while1b_v70 V0)
set_option maxRecDepth 8192 in
theorem val3_main_while1b_v71 (V0 : Valuation τ sig (Elt F)) : val3 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 := by
  unfold val3
  simp only [trip_w2]
  after_results_entrywise [val2_main_while1b_call6_v0, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while1b_call7_c, main_while1b_call7_c_0, main_while1b_call7_v0]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v50_6 (V0 : Valuation τ sig (Elt F)) : val4 V0 (no_index (Proc.devRef .tc main_v50_6)) = V0 (Proc.devRef .tc main_v50_6) :=
  (val4_keep V0 main_v50_6 (by decide)).trans (val3_main_v50_6 V0)
theorem val4_main_v50_0 (V0 : Valuation τ sig (Elt F)) : val4 V0 (no_index (Proc.devRef .tc main_v50_0)) = V0 (Proc.devRef .tc main_v50_0) :=
  (val4_keep V0 main_v50_0 (by decide)).trans (val3_main_v50_0 V0)
theorem val4_main_v50_1 (V0 : Valuation τ sig (Elt F)) : val4 V0 (no_index (Proc.devRef .tc main_v50_1)) = V0 (Proc.devRef .tc main_v50_1) :=
  (val4_keep V0 main_v50_1 (by decide)).trans (val3_main_v50_1 V0)
theorem val4_main_v50_2 (V0 : Valuation τ sig (Elt F)) : val4 V0 (no_index (Proc.devRef .tc main_v50_2)) = V0 (Proc.devRef .tc main_v50_2) :=
  (val4_keep V0 main_v50_2 (by decide)).trans (val3_main_v50_2 V0)
theorem val4_main_v50_3 (V0 : Valuation τ sig (Elt F)) : val4 V0 (no_index (Proc.devRef .tc main_v50_3)) = V0 (Proc.devRef .tc main_v50_3) :=
  (val4_keep V0 main_v50_3 (by decide)).trans (val3_main_v50_3 V0)
theorem val4_main_v50_9 (V0 : Valuation τ sig (Elt F)) : val4 V0 (no_index (Proc.devRef .tc main_v50_9)) = V0 (Proc.devRef .tc main_v50_9) :=
  (val4_keep V0 main_v50_9 (by decide)).trans (val3_main_v50_9 V0)
theorem val4_main_v50_10 (V0 : Valuation τ sig (Elt F)) : val4 V0 (no_index (Proc.devRef .tc main_v50_10)) = V0 (Proc.devRef .tc main_v50_10) :=
  (val4_keep V0 main_v50_10 (by decide)).trans (val3_main_v50_10 V0)
theorem val4_main_v50_5 (V0 : Valuation τ sig (Elt F)) : val4 V0 (no_index (Proc.devRef .tc main_v50_5)) = V0 (Proc.devRef .tc main_v50_5) :=
  (val4_keep V0 main_v50_5 (by decide)).trans (val3_main_v50_5 V0)
theorem val4_main_v50_8 (V0 : Valuation τ sig (Elt F)) : val4 V0 (no_index (Proc.devRef .tc main_v50_8)) = V0 (Proc.devRef .tc main_v50_8) :=
  (val4_keep V0 main_v50_8 (by decide)).trans (val3_main_v50_8 V0)
theorem val4_main_v50_4 (V0 : Valuation τ sig (Elt F)) : val4 V0 (no_index (Proc.devRef .tc main_v50_4)) = V0 (Proc.devRef .tc main_v50_4) :=
  (val4_keep V0 main_v50_4 (by decide)).trans (val3_main_v50_4 V0)
theorem val4_main_v50_7 (V0 : Valuation τ sig (Elt F)) : val4 V0 (no_index (Proc.devRef .tc main_v50_7)) = V0 (Proc.devRef .tc main_v50_7) :=
  (val4_keep V0 main_v50_7 (by decide)).trans (val3_main_v50_7 V0)
theorem val4_main_v50_11 (V0 : Valuation τ sig (Elt F)) : val4 V0 (no_index (Proc.devRef .tc main_v50_11)) = V0 (Proc.devRef .tc main_v50_11) :=
  (val4_keep V0 main_v50_11 (by decide)).trans (val3_main_v50_11 V0)
theorem val4_main_v50_12 (V0 : Valuation τ sig (Elt F)) : val4 V0 (no_index (Proc.devRef .tc main_v50_12)) = V0 (Proc.devRef .tc main_v50_12) :=
  (val4_keep V0 main_v50_12 (by decide)).trans (val3_main_v50_12 V0)
theorem val4_main_while1b_v70 (V0 : Valuation τ sig (Elt F)) : val4 V0 (no_index (Proc.devRef .tc main_while1b_v70)) = res_main_while1b_v70 V0 :=
  (val4_keep V0 main_while1b_v70 (by decide)).trans (val3_main_while1b_v70 V0)
theorem val4_main_while1b_v71 (V0 : Valuation τ sig (Elt F)) : val4 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val4_keep V0 main_while1b_v71 (by decide)).trans (val3_main_while1b_v71 V0)
set_option maxRecDepth 8192 in
theorem val4_main_while1b_call7_v0 (V0 : Valuation τ sig (Elt F)) : val4 V0 (no_index (Proc.devRef .tc main_while1b_call7_v0)) = Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512 := by
  unfold val4
  simp only [trip_w3]
  after_results_entrywise [val3_main_while1b_v70, val3_main_v50_1, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while1b_v72]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v50_6 (V0 : Valuation τ sig (Elt F)) : val5 V0 (no_index (Proc.devRef .tc main_v50_6)) = V0 (Proc.devRef .tc main_v50_6) :=
  (val5_keep V0 main_v50_6 (by decide)).trans (val4_main_v50_6 V0)
theorem val5_main_v50_0 (V0 : Valuation τ sig (Elt F)) : val5 V0 (no_index (Proc.devRef .tc main_v50_0)) = V0 (Proc.devRef .tc main_v50_0) :=
  (val5_keep V0 main_v50_0 (by decide)).trans (val4_main_v50_0 V0)
theorem val5_main_v50_1 (V0 : Valuation τ sig (Elt F)) : val5 V0 (no_index (Proc.devRef .tc main_v50_1)) = V0 (Proc.devRef .tc main_v50_1) :=
  (val5_keep V0 main_v50_1 (by decide)).trans (val4_main_v50_1 V0)
theorem val5_main_v50_2 (V0 : Valuation τ sig (Elt F)) : val5 V0 (no_index (Proc.devRef .tc main_v50_2)) = V0 (Proc.devRef .tc main_v50_2) :=
  (val5_keep V0 main_v50_2 (by decide)).trans (val4_main_v50_2 V0)
theorem val5_main_v50_3 (V0 : Valuation τ sig (Elt F)) : val5 V0 (no_index (Proc.devRef .tc main_v50_3)) = V0 (Proc.devRef .tc main_v50_3) :=
  (val5_keep V0 main_v50_3 (by decide)).trans (val4_main_v50_3 V0)
theorem val5_main_v50_9 (V0 : Valuation τ sig (Elt F)) : val5 V0 (no_index (Proc.devRef .tc main_v50_9)) = V0 (Proc.devRef .tc main_v50_9) :=
  (val5_keep V0 main_v50_9 (by decide)).trans (val4_main_v50_9 V0)
theorem val5_main_v50_10 (V0 : Valuation τ sig (Elt F)) : val5 V0 (no_index (Proc.devRef .tc main_v50_10)) = V0 (Proc.devRef .tc main_v50_10) :=
  (val5_keep V0 main_v50_10 (by decide)).trans (val4_main_v50_10 V0)
theorem val5_main_v50_5 (V0 : Valuation τ sig (Elt F)) : val5 V0 (no_index (Proc.devRef .tc main_v50_5)) = V0 (Proc.devRef .tc main_v50_5) :=
  (val5_keep V0 main_v50_5 (by decide)).trans (val4_main_v50_5 V0)
theorem val5_main_v50_8 (V0 : Valuation τ sig (Elt F)) : val5 V0 (no_index (Proc.devRef .tc main_v50_8)) = V0 (Proc.devRef .tc main_v50_8) :=
  (val5_keep V0 main_v50_8 (by decide)).trans (val4_main_v50_8 V0)
theorem val5_main_v50_4 (V0 : Valuation τ sig (Elt F)) : val5 V0 (no_index (Proc.devRef .tc main_v50_4)) = V0 (Proc.devRef .tc main_v50_4) :=
  (val5_keep V0 main_v50_4 (by decide)).trans (val4_main_v50_4 V0)
theorem val5_main_v50_7 (V0 : Valuation τ sig (Elt F)) : val5 V0 (no_index (Proc.devRef .tc main_v50_7)) = V0 (Proc.devRef .tc main_v50_7) :=
  (val5_keep V0 main_v50_7 (by decide)).trans (val4_main_v50_7 V0)
theorem val5_main_v50_11 (V0 : Valuation τ sig (Elt F)) : val5 V0 (no_index (Proc.devRef .tc main_v50_11)) = V0 (Proc.devRef .tc main_v50_11) :=
  (val5_keep V0 main_v50_11 (by decide)).trans (val4_main_v50_11 V0)
theorem val5_main_v50_12 (V0 : Valuation τ sig (Elt F)) : val5 V0 (no_index (Proc.devRef .tc main_v50_12)) = V0 (Proc.devRef .tc main_v50_12) :=
  (val5_keep V0 main_v50_12 (by decide)).trans (val4_main_v50_12 V0)
theorem val5_main_while1b_v70 (V0 : Valuation τ sig (Elt F)) : val5 V0 (no_index (Proc.devRef .tc main_while1b_v70)) = res_main_while1b_v70 V0 :=
  (val5_keep V0 main_while1b_v70 (by decide)).trans (val4_main_while1b_v70 V0)
theorem val5_main_while1b_v71 (V0 : Valuation τ sig (Elt F)) : val5 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val5_keep V0 main_while1b_v71 (by decide)).trans (val4_main_while1b_v71 V0)
set_option maxRecDepth 8192 in
theorem val5_main_while1b_v72 (V0 : Valuation τ sig (Elt F)) : val5 V0 (no_index (Proc.devRef .tc main_while1b_v72)) = shapeCast S4x512 (Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 := by
  unfold val5
  simp only [trip_w4]
  after_results_entrywise [val4_main_while1b_call7_v0, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while1b_call8_c, main_while1b_call8_c_0, main_while1b_call8_v0]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v50_6 (V0 : Valuation τ sig (Elt F)) : val6 V0 (no_index (Proc.devRef .tc main_v50_6)) = V0 (Proc.devRef .tc main_v50_6) :=
  (val6_keep V0 main_v50_6 (by decide)).trans (val5_main_v50_6 V0)
theorem val6_main_v50_0 (V0 : Valuation τ sig (Elt F)) : val6 V0 (no_index (Proc.devRef .tc main_v50_0)) = V0 (Proc.devRef .tc main_v50_0) :=
  (val6_keep V0 main_v50_0 (by decide)).trans (val5_main_v50_0 V0)
theorem val6_main_v50_1 (V0 : Valuation τ sig (Elt F)) : val6 V0 (no_index (Proc.devRef .tc main_v50_1)) = V0 (Proc.devRef .tc main_v50_1) :=
  (val6_keep V0 main_v50_1 (by decide)).trans (val5_main_v50_1 V0)
theorem val6_main_v50_2 (V0 : Valuation τ sig (Elt F)) : val6 V0 (no_index (Proc.devRef .tc main_v50_2)) = V0 (Proc.devRef .tc main_v50_2) :=
  (val6_keep V0 main_v50_2 (by decide)).trans (val5_main_v50_2 V0)
theorem val6_main_v50_3 (V0 : Valuation τ sig (Elt F)) : val6 V0 (no_index (Proc.devRef .tc main_v50_3)) = V0 (Proc.devRef .tc main_v50_3) :=
  (val6_keep V0 main_v50_3 (by decide)).trans (val5_main_v50_3 V0)
theorem val6_main_v50_9 (V0 : Valuation τ sig (Elt F)) : val6 V0 (no_index (Proc.devRef .tc main_v50_9)) = V0 (Proc.devRef .tc main_v50_9) :=
  (val6_keep V0 main_v50_9 (by decide)).trans (val5_main_v50_9 V0)
theorem val6_main_v50_10 (V0 : Valuation τ sig (Elt F)) : val6 V0 (no_index (Proc.devRef .tc main_v50_10)) = V0 (Proc.devRef .tc main_v50_10) :=
  (val6_keep V0 main_v50_10 (by decide)).trans (val5_main_v50_10 V0)
theorem val6_main_v50_5 (V0 : Valuation τ sig (Elt F)) : val6 V0 (no_index (Proc.devRef .tc main_v50_5)) = V0 (Proc.devRef .tc main_v50_5) :=
  (val6_keep V0 main_v50_5 (by decide)).trans (val5_main_v50_5 V0)
theorem val6_main_v50_8 (V0 : Valuation τ sig (Elt F)) : val6 V0 (no_index (Proc.devRef .tc main_v50_8)) = V0 (Proc.devRef .tc main_v50_8) :=
  (val6_keep V0 main_v50_8 (by decide)).trans (val5_main_v50_8 V0)
theorem val6_main_v50_4 (V0 : Valuation τ sig (Elt F)) : val6 V0 (no_index (Proc.devRef .tc main_v50_4)) = V0 (Proc.devRef .tc main_v50_4) :=
  (val6_keep V0 main_v50_4 (by decide)).trans (val5_main_v50_4 V0)
theorem val6_main_v50_7 (V0 : Valuation τ sig (Elt F)) : val6 V0 (no_index (Proc.devRef .tc main_v50_7)) = V0 (Proc.devRef .tc main_v50_7) :=
  (val6_keep V0 main_v50_7 (by decide)).trans (val5_main_v50_7 V0)
theorem val6_main_v50_11 (V0 : Valuation τ sig (Elt F)) : val6 V0 (no_index (Proc.devRef .tc main_v50_11)) = V0 (Proc.devRef .tc main_v50_11) :=
  (val6_keep V0 main_v50_11 (by decide)).trans (val5_main_v50_11 V0)
theorem val6_main_v50_12 (V0 : Valuation τ sig (Elt F)) : val6 V0 (no_index (Proc.devRef .tc main_v50_12)) = V0 (Proc.devRef .tc main_v50_12) :=
  (val6_keep V0 main_v50_12 (by decide)).trans (val5_main_v50_12 V0)
theorem val6_main_while1b_v70 (V0 : Valuation τ sig (Elt F)) : val6 V0 (no_index (Proc.devRef .tc main_while1b_v70)) = res_main_while1b_v70 V0 :=
  (val6_keep V0 main_while1b_v70 (by decide)).trans (val5_main_while1b_v70 V0)
theorem val6_main_while1b_v71 (V0 : Valuation τ sig (Elt F)) : val6 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val6_keep V0 main_while1b_v71 (by decide)).trans (val5_main_while1b_v71 V0)
theorem val6_main_while1b_v72 (V0 : Valuation τ sig (Elt F)) : val6 V0 (no_index (Proc.devRef .tc main_while1b_v72)) = shapeCast S4x512 (Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val6_keep V0 main_while1b_v72 (by decide)).trans (val5_main_while1b_v72 V0)
set_option maxRecDepth 8192 in
theorem val6_main_while1b_call8_v0 (V0 : Valuation τ sig (Elt F)) : val6 V0 (no_index (Proc.devRef .tc main_while1b_call8_v0)) = Host.dynamicSlice S1x4x512 (V0 (Proc.devRef .tc main_v50_2)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512 := by
  unfold val6
  simp only [trip_w5]
  after_results_entrywise [val5_main_while1b_v70, val5_main_v50_2, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while1b_v73]
set_option maxRecDepth 8192 in
theorem trip_w6_writes : (trip_w6 : List (HloOp τ sig (Elt F))).Forall fun op => op.writes ⊆ (trip_w6_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v50_6 (V0 : Valuation τ sig (Elt F)) : val7 V0 (no_index (Proc.devRef .tc main_v50_6)) = V0 (Proc.devRef .tc main_v50_6) :=
  (val7_keep V0 main_v50_6 (by decide)).trans (val6_main_v50_6 V0)
theorem val7_main_v50_0 (V0 : Valuation τ sig (Elt F)) : val7 V0 (no_index (Proc.devRef .tc main_v50_0)) = V0 (Proc.devRef .tc main_v50_0) :=
  (val7_keep V0 main_v50_0 (by decide)).trans (val6_main_v50_0 V0)
theorem val7_main_v50_1 (V0 : Valuation τ sig (Elt F)) : val7 V0 (no_index (Proc.devRef .tc main_v50_1)) = V0 (Proc.devRef .tc main_v50_1) :=
  (val7_keep V0 main_v50_1 (by decide)).trans (val6_main_v50_1 V0)
theorem val7_main_v50_2 (V0 : Valuation τ sig (Elt F)) : val7 V0 (no_index (Proc.devRef .tc main_v50_2)) = V0 (Proc.devRef .tc main_v50_2) :=
  (val7_keep V0 main_v50_2 (by decide)).trans (val6_main_v50_2 V0)
theorem val7_main_v50_3 (V0 : Valuation τ sig (Elt F)) : val7 V0 (no_index (Proc.devRef .tc main_v50_3)) = V0 (Proc.devRef .tc main_v50_3) :=
  (val7_keep V0 main_v50_3 (by decide)).trans (val6_main_v50_3 V0)
theorem val7_main_v50_9 (V0 : Valuation τ sig (Elt F)) : val7 V0 (no_index (Proc.devRef .tc main_v50_9)) = V0 (Proc.devRef .tc main_v50_9) :=
  (val7_keep V0 main_v50_9 (by decide)).trans (val6_main_v50_9 V0)
theorem val7_main_v50_10 (V0 : Valuation τ sig (Elt F)) : val7 V0 (no_index (Proc.devRef .tc main_v50_10)) = V0 (Proc.devRef .tc main_v50_10) :=
  (val7_keep V0 main_v50_10 (by decide)).trans (val6_main_v50_10 V0)
theorem val7_main_v50_5 (V0 : Valuation τ sig (Elt F)) : val7 V0 (no_index (Proc.devRef .tc main_v50_5)) = V0 (Proc.devRef .tc main_v50_5) :=
  (val7_keep V0 main_v50_5 (by decide)).trans (val6_main_v50_5 V0)
theorem val7_main_v50_8 (V0 : Valuation τ sig (Elt F)) : val7 V0 (no_index (Proc.devRef .tc main_v50_8)) = V0 (Proc.devRef .tc main_v50_8) :=
  (val7_keep V0 main_v50_8 (by decide)).trans (val6_main_v50_8 V0)
theorem val7_main_v50_4 (V0 : Valuation τ sig (Elt F)) : val7 V0 (no_index (Proc.devRef .tc main_v50_4)) = V0 (Proc.devRef .tc main_v50_4) :=
  (val7_keep V0 main_v50_4 (by decide)).trans (val6_main_v50_4 V0)
theorem val7_main_v50_7 (V0 : Valuation τ sig (Elt F)) : val7 V0 (no_index (Proc.devRef .tc main_v50_7)) = V0 (Proc.devRef .tc main_v50_7) :=
  (val7_keep V0 main_v50_7 (by decide)).trans (val6_main_v50_7 V0)
theorem val7_main_v50_11 (V0 : Valuation τ sig (Elt F)) : val7 V0 (no_index (Proc.devRef .tc main_v50_11)) = V0 (Proc.devRef .tc main_v50_11) :=
  (val7_keep V0 main_v50_11 (by decide)).trans (val6_main_v50_11 V0)
theorem val7_main_v50_12 (V0 : Valuation τ sig (Elt F)) : val7 V0 (no_index (Proc.devRef .tc main_v50_12)) = V0 (Proc.devRef .tc main_v50_12) :=
  (val7_keep V0 main_v50_12 (by decide)).trans (val6_main_v50_12 V0)
theorem val7_main_while1b_v70 (V0 : Valuation τ sig (Elt F)) : val7 V0 (no_index (Proc.devRef .tc main_while1b_v70)) = res_main_while1b_v70 V0 :=
  (val7_keep V0 main_while1b_v70 (by decide)).trans (val6_main_while1b_v70 V0)
theorem val7_main_while1b_v71 (V0 : Valuation τ sig (Elt F)) : val7 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val7_keep V0 main_while1b_v71 (by decide)).trans (val6_main_while1b_v71 V0)
theorem val7_main_while1b_v72 (V0 : Valuation τ sig (Elt F)) : val7 V0 (no_index (Proc.devRef .tc main_while1b_v72)) = shapeCast S4x512 (Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val7_keep V0 main_while1b_v72 (by decide)).trans (val6_main_while1b_v72 V0)
set_option maxRecDepth 8192 in
theorem val7_main_while1b_v73 (V0 : Valuation τ sig (Elt F)) : val7 V0 (no_index (Proc.devRef .tc main_while1b_v73)) = res_main_while1b_v73 V0 := by
  unfold val7
  simp only [trip_w6]
  after_results_entrywise [val6_main_while1b_call8_v0, res_main_while1b_v73, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while1b_call9_c, main_while1b_call9_c_0, main_while1b_call9_v0]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v50_6 (V0 : Valuation τ sig (Elt F)) : val8 V0 (no_index (Proc.devRef .tc main_v50_6)) = V0 (Proc.devRef .tc main_v50_6) :=
  (val8_keep V0 main_v50_6 (by decide)).trans (val7_main_v50_6 V0)
theorem val8_main_v50_0 (V0 : Valuation τ sig (Elt F)) : val8 V0 (no_index (Proc.devRef .tc main_v50_0)) = V0 (Proc.devRef .tc main_v50_0) :=
  (val8_keep V0 main_v50_0 (by decide)).trans (val7_main_v50_0 V0)
theorem val8_main_v50_1 (V0 : Valuation τ sig (Elt F)) : val8 V0 (no_index (Proc.devRef .tc main_v50_1)) = V0 (Proc.devRef .tc main_v50_1) :=
  (val8_keep V0 main_v50_1 (by decide)).trans (val7_main_v50_1 V0)
theorem val8_main_v50_2 (V0 : Valuation τ sig (Elt F)) : val8 V0 (no_index (Proc.devRef .tc main_v50_2)) = V0 (Proc.devRef .tc main_v50_2) :=
  (val8_keep V0 main_v50_2 (by decide)).trans (val7_main_v50_2 V0)
theorem val8_main_v50_3 (V0 : Valuation τ sig (Elt F)) : val8 V0 (no_index (Proc.devRef .tc main_v50_3)) = V0 (Proc.devRef .tc main_v50_3) :=
  (val8_keep V0 main_v50_3 (by decide)).trans (val7_main_v50_3 V0)
theorem val8_main_v50_9 (V0 : Valuation τ sig (Elt F)) : val8 V0 (no_index (Proc.devRef .tc main_v50_9)) = V0 (Proc.devRef .tc main_v50_9) :=
  (val8_keep V0 main_v50_9 (by decide)).trans (val7_main_v50_9 V0)
theorem val8_main_v50_10 (V0 : Valuation τ sig (Elt F)) : val8 V0 (no_index (Proc.devRef .tc main_v50_10)) = V0 (Proc.devRef .tc main_v50_10) :=
  (val8_keep V0 main_v50_10 (by decide)).trans (val7_main_v50_10 V0)
theorem val8_main_v50_5 (V0 : Valuation τ sig (Elt F)) : val8 V0 (no_index (Proc.devRef .tc main_v50_5)) = V0 (Proc.devRef .tc main_v50_5) :=
  (val8_keep V0 main_v50_5 (by decide)).trans (val7_main_v50_5 V0)
theorem val8_main_v50_8 (V0 : Valuation τ sig (Elt F)) : val8 V0 (no_index (Proc.devRef .tc main_v50_8)) = V0 (Proc.devRef .tc main_v50_8) :=
  (val8_keep V0 main_v50_8 (by decide)).trans (val7_main_v50_8 V0)
theorem val8_main_v50_4 (V0 : Valuation τ sig (Elt F)) : val8 V0 (no_index (Proc.devRef .tc main_v50_4)) = V0 (Proc.devRef .tc main_v50_4) :=
  (val8_keep V0 main_v50_4 (by decide)).trans (val7_main_v50_4 V0)
theorem val8_main_v50_7 (V0 : Valuation τ sig (Elt F)) : val8 V0 (no_index (Proc.devRef .tc main_v50_7)) = V0 (Proc.devRef .tc main_v50_7) :=
  (val8_keep V0 main_v50_7 (by decide)).trans (val7_main_v50_7 V0)
theorem val8_main_v50_11 (V0 : Valuation τ sig (Elt F)) : val8 V0 (no_index (Proc.devRef .tc main_v50_11)) = V0 (Proc.devRef .tc main_v50_11) :=
  (val8_keep V0 main_v50_11 (by decide)).trans (val7_main_v50_11 V0)
theorem val8_main_v50_12 (V0 : Valuation τ sig (Elt F)) : val8 V0 (no_index (Proc.devRef .tc main_v50_12)) = V0 (Proc.devRef .tc main_v50_12) :=
  (val8_keep V0 main_v50_12 (by decide)).trans (val7_main_v50_12 V0)
theorem val8_main_while1b_v70 (V0 : Valuation τ sig (Elt F)) : val8 V0 (no_index (Proc.devRef .tc main_while1b_v70)) = res_main_while1b_v70 V0 :=
  (val8_keep V0 main_while1b_v70 (by decide)).trans (val7_main_while1b_v70 V0)
theorem val8_main_while1b_v71 (V0 : Valuation τ sig (Elt F)) : val8 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val8_keep V0 main_while1b_v71 (by decide)).trans (val7_main_while1b_v71 V0)
theorem val8_main_while1b_v72 (V0 : Valuation τ sig (Elt F)) : val8 V0 (no_index (Proc.devRef .tc main_while1b_v72)) = shapeCast S4x512 (Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val8_keep V0 main_while1b_v72 (by decide)).trans (val7_main_while1b_v72 V0)
theorem val8_main_while1b_v73 (V0 : Valuation τ sig (Elt F)) : val8 V0 (no_index (Proc.devRef .tc main_while1b_v73)) = res_main_while1b_v73 V0 :=
  (val8_keep V0 main_while1b_v73 (by decide)).trans (val7_main_while1b_v73 V0)
set_option maxRecDepth 8192 in
theorem val8_main_while1b_call9_v0 (V0 : Valuation τ sig (Elt F)) : val8 V0 (no_index (Proc.devRef .tc main_while1b_call9_v0)) = Host.dynamicSlice S1x4x512 (V0 (Proc.devRef .tc main_v50_3)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512 := by
  unfold val8
  simp only [trip_w7]
  after_results_entrywise [val7_main_while1b_v70, val7_main_v50_3, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while1b_v74]
set_option maxRecDepth 8192 in
theorem trip_w8_writes : (trip_w8 : List (HloOp τ sig (Elt F))).Forall fun op => op.writes ⊆ (trip_w8_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v50_6 (V0 : Valuation τ sig (Elt F)) : val9 V0 (no_index (Proc.devRef .tc main_v50_6)) = V0 (Proc.devRef .tc main_v50_6) :=
  (val9_keep V0 main_v50_6 (by decide)).trans (val8_main_v50_6 V0)
theorem val9_main_v50_0 (V0 : Valuation τ sig (Elt F)) : val9 V0 (no_index (Proc.devRef .tc main_v50_0)) = V0 (Proc.devRef .tc main_v50_0) :=
  (val9_keep V0 main_v50_0 (by decide)).trans (val8_main_v50_0 V0)
theorem val9_main_v50_1 (V0 : Valuation τ sig (Elt F)) : val9 V0 (no_index (Proc.devRef .tc main_v50_1)) = V0 (Proc.devRef .tc main_v50_1) :=
  (val9_keep V0 main_v50_1 (by decide)).trans (val8_main_v50_1 V0)
theorem val9_main_v50_2 (V0 : Valuation τ sig (Elt F)) : val9 V0 (no_index (Proc.devRef .tc main_v50_2)) = V0 (Proc.devRef .tc main_v50_2) :=
  (val9_keep V0 main_v50_2 (by decide)).trans (val8_main_v50_2 V0)
theorem val9_main_v50_3 (V0 : Valuation τ sig (Elt F)) : val9 V0 (no_index (Proc.devRef .tc main_v50_3)) = V0 (Proc.devRef .tc main_v50_3) :=
  (val9_keep V0 main_v50_3 (by decide)).trans (val8_main_v50_3 V0)
theorem val9_main_v50_9 (V0 : Valuation τ sig (Elt F)) : val9 V0 (no_index (Proc.devRef .tc main_v50_9)) = V0 (Proc.devRef .tc main_v50_9) :=
  (val9_keep V0 main_v50_9 (by decide)).trans (val8_main_v50_9 V0)
theorem val9_main_v50_10 (V0 : Valuation τ sig (Elt F)) : val9 V0 (no_index (Proc.devRef .tc main_v50_10)) = V0 (Proc.devRef .tc main_v50_10) :=
  (val9_keep V0 main_v50_10 (by decide)).trans (val8_main_v50_10 V0)
theorem val9_main_v50_5 (V0 : Valuation τ sig (Elt F)) : val9 V0 (no_index (Proc.devRef .tc main_v50_5)) = V0 (Proc.devRef .tc main_v50_5) :=
  (val9_keep V0 main_v50_5 (by decide)).trans (val8_main_v50_5 V0)
theorem val9_main_v50_8 (V0 : Valuation τ sig (Elt F)) : val9 V0 (no_index (Proc.devRef .tc main_v50_8)) = V0 (Proc.devRef .tc main_v50_8) :=
  (val9_keep V0 main_v50_8 (by decide)).trans (val8_main_v50_8 V0)
theorem val9_main_v50_4 (V0 : Valuation τ sig (Elt F)) : val9 V0 (no_index (Proc.devRef .tc main_v50_4)) = V0 (Proc.devRef .tc main_v50_4) :=
  (val9_keep V0 main_v50_4 (by decide)).trans (val8_main_v50_4 V0)
theorem val9_main_v50_7 (V0 : Valuation τ sig (Elt F)) : val9 V0 (no_index (Proc.devRef .tc main_v50_7)) = V0 (Proc.devRef .tc main_v50_7) :=
  (val9_keep V0 main_v50_7 (by decide)).trans (val8_main_v50_7 V0)
theorem val9_main_v50_11 (V0 : Valuation τ sig (Elt F)) : val9 V0 (no_index (Proc.devRef .tc main_v50_11)) = V0 (Proc.devRef .tc main_v50_11) :=
  (val9_keep V0 main_v50_11 (by decide)).trans (val8_main_v50_11 V0)
theorem val9_main_v50_12 (V0 : Valuation τ sig (Elt F)) : val9 V0 (no_index (Proc.devRef .tc main_v50_12)) = V0 (Proc.devRef .tc main_v50_12) :=
  (val9_keep V0 main_v50_12 (by decide)).trans (val8_main_v50_12 V0)
theorem val9_main_while1b_v70 (V0 : Valuation τ sig (Elt F)) : val9 V0 (no_index (Proc.devRef .tc main_while1b_v70)) = res_main_while1b_v70 V0 :=
  (val9_keep V0 main_while1b_v70 (by decide)).trans (val8_main_while1b_v70 V0)
theorem val9_main_while1b_v71 (V0 : Valuation τ sig (Elt F)) : val9 V0 (no_index (Proc.devRef .tc main_while1b_v71)) = shapeCast S4x512 (Host.dynamicSlice S1x4x512 (V0 (Proc.devRef .tc main_v50_0)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val9_keep V0 main_while1b_v71 (by decide)).trans (val8_main_while1b_v71 V0)
theorem val9_main_while1b_v72 (V0 : Valuation τ sig (Elt F)) : val9 V0 (no_index (Proc.devRef .tc main_while1b_v72)) = shapeCast S4x512 (Host.dynamicSlice S1x4x512 (V0 (Proc.devRef .tc main_v50_1)) (fun k => (((![res_main_while1b_v70 V0, constantI S_ 32 0#32, constantI S_ 32 0#32] : Fin 3 → (⟨S_, .i32⟩ : BufTy).Contents (Elt F))) k (Shape.Idx.first h_S_)).toInt) sliceFits_S2048x4x512_S1x4x512) shapeCasts_S1x4x512_S4x512 :=
  (val9_keep V0 main_while1b_v72 (by decide)).trans (val8_main_while1b_v72 V0)
theorem val9_main_while1b_v73 (V0 : Valuation τ sig (Elt F)) : val9 V0 (no_index (Proc.devRef .tc main_while1b_v73)) = res_main_while1b_v73 V0 :=
  (val9_keep V0 main_while1b_v73 (by decide)).trans (val8_main_while1b_v73 V0)
set_option maxRecDepth 8192 in
theorem val9_main_while1b_v74 (V0 : Valuation τ sig (Elt F)) : val9 V0 (no_index (Proc.devRef .tc main_while1b_v74)) = res_main_while1b_v74 V0 := by
  unfold val9
  simp only [trip_w8]
  after_results_entrywise [val8_main_while1b_call9_v0, res_main_while1b_v74, cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while1b_v75, main_while1b_v76, main_while1b_v77, main_while1b_v78, main_while1b_v79, main_while1b_v80, main_while1b_v81, main_while1b_v82, main_while1b_v83, main_while1b_v84, main_while1b_v85, main_while1b_v86, main_while1b_v87, main_while1b_v88, main_while1b_v89, main_while1b_v90, main_while1b_v91]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v50_6 (V0 : Valuation τ sig (Elt F)) : val10 V0 (no_index (Proc.devRef .tc main_v50_6)) = V0 (Proc.devRef .tc main_v50_6) :=
  (val10_keep V0 main_v50_6 (by decide)).trans (val9_main_v50_6 V0)
theorem val10_main_v50_0 (V0 : Valuation τ sig (Elt F)) : val10 V0 (no_index (Proc.devRef .tc main_v50_0)) = V0 (Proc.devRef .tc main_v50_0) :=
  (val10_keep V0 main_v50_0 (by decide)).trans (val9_main_v50_0 V0)
theorem val10_main_v50_1 (V0 : Valuation τ sig (Elt F)) : val10 V0 (no_index (Proc.devRef .tc main_v50_1)) = V0 (Proc.devRef .tc main_v50_1) :=
  (val10_keep V0 main_v50_1 (by decide)).trans (val9_main_v50_1 V0)
theorem val10_main_v50_2 (V0 : Valuation τ sig (Elt F)) : val10 V0 (no_index (Proc.devRef .tc main_v50_2)) = V0 (Proc.devRef .tc main_v50_2) :=
  (val10_keep V0 main_v50_2 (by decide)).trans (val9_main_v50_2 V0)
theorem val10_main_v50_3 (V0 : Valuation τ sig (Elt F)) : val10 V0 (no_index (Proc.devRef .tc main_v50_3)) = V0 (Proc.devRef .tc main_v50_3) :=
  (val10_keep V0 main_v50_3 (by decide)).trans (val9_main_v50_3 V0)
theorem val10_main_v50_9 (V0 : Valuation τ sig (Elt F)) : val10 V0 (no_index (Proc.devRef .tc main_v50_9)) = V0 (Proc.devRef .tc main_v50_9) :=
  (val10_keep V0 main_v50_9 (by decide)).trans (val9_main_v50_9 V0)
theorem val10_main_v50_10 (V0 : Valuation τ sig (Elt F)) : val10 V0 (no_index (Proc.devRef .tc main_v50_10)) = V0 (Proc.devRef .tc main_v50_10) :=
  (val10_keep V0 main_v50_10 (by decide)).trans (val9_main_v50_10 V0)
theorem val10_main_v50_5 (V0 : Valuation τ sig (Elt F)) : val10 V0 (no_index (Proc.devRef .tc main_v50_5)) = V0 (Proc.devRef .tc main_v50_5) :=
  (val10_keep V0 main_v50_5 (by decide)).trans (val9_main_v50_5 V0)
theorem val10_main_v50_8 (V0 : Valuation τ sig (Elt F)) : val10 V0 (no_index (Proc.devRef .tc main_v50_8)) = V0 (Proc.devRef .tc main_v50_8) :=
  (val10_keep V0 main_v50_8 (by decide)).trans (val9_main_v50_8 V0)
theorem val10_main_v50_4 (V0 : Valuation τ sig (Elt F)) : val10 V0 (no_index (Proc.devRef .tc main_v50_4)) = V0 (Proc.devRef .tc main_v50_4) :=
  (val10_keep V0 main_v50_4 (by decide)).trans (val9_main_v50_4 V0)
theorem val10_main_v50_7 (V0 : Valuation τ sig (Elt F)) : val10 V0 (no_index (Proc.devRef .tc main_v50_7)) = V0 (Proc.devRef .tc main_v50_7) :=
  (val10_keep V0 main_v50_7 (by decide)).trans (val9_main_v50_7 V0)
theorem val10_main_v50_11 (V0 : Valuation τ sig (Elt F)) : val10 V0 (no_index (Proc.devRef .tc main_v50_11)) = V0 (Proc.devRef .tc main_v50_11) :=
  (val10_keep V0 main_v50_11 (by decide)).trans (val9_main_v50_11 V0)
theorem val10_main_v50_12 (V0 : Valuation τ sig (Elt F)) : val10 V0 (no_index (Proc.devRef .tc main_v50_12)) = V0 (Proc.devRef .tc main_v50_12) :=
  (val10_keep V0 main_v50_12 (by decide)).trans (val9_main_v50_12 V0)
theorem val10_main_while1b_v70 (V0 : Valuation τ sig (Elt F)) : val10 V0 (no_index (Proc.devRef .tc main_while1b_v70)) = res_main_while1b_v70 V0 :=
  (val10_keep V0 main_while1b_v70 (by decide)).trans (val9_main_while1b_v70 V0)
set_option maxRecDepth 8192 in
set_option maxHeartbeats 1700000 in
theorem val10_main_while1b_v75 (V0 : Valuation τ sig (Elt F)) : val10 V0 (no_index (Proc.devRef .tc main_while1b_v75)) = res_main_while1b_v75 V0 := by
  unfold val10
  simp only [trip_w9]
  after_results_entrywise [val9_main_while1b_v71, val9_main_v50_9, res_main_while1b_v75, cast_eq]
set_option maxRecDepth 8192 in
set_option maxHeartbeats 1700000 in
theorem val10_main_while1b_v76 (V0 : Valuation τ sig (Elt F)) : val10 V0 (no_index (Proc.devRef .tc main_while1b_v76)) = res_main_while1b_v76 V0 := by
  unfold val10
  simp only [trip_w9]
  after_results_entrywise [val9_main_while1b_v72, val9_main_v50_10, res_main_while1b_v76, cast_eq]
set_option maxRecDepth 8192 in
set_option maxHeartbeats 1700000 in
theorem val10_main_while1b_v85 (V0 : Valuation τ sig (Elt F)) : val10 V0 (no_index (Proc.devRef .tc main_while1b_v85)) = addf (mulf (V0 (Proc.devRef .tc main_v50_4)) (res_main_while1b_v76 V0)) (mulf (V0 (Proc.devRef .tc main_v50_5)) (res_main_while1b_v83 V0)) := by
  unfold val10
  simp only [trip_w9]
  after_results_entrywise [val9_main_while1b_v71, val9_main_v50_9, val9_main_v50_5, val9_main_while1b_v72, val9_main_v50_10, val9_main_v50_4, res_main_while1b_v75, res_main_while1b_v76, res_main_while1b_v83, cast_eq]
set_option maxRecDepth 8192 in
set_option maxHeartbeats 1700000 in
theorem val10_main_while1b_v87 (V0 : Valuation τ sig (Elt F)) : val10 V0 (no_index (Proc.devRef .tc main_while1b_v87)) = addf (addf (V0 (Proc.devRef .tc main_v50_8)) (mulf (res_main_while1b_v76 V0) (res_main_while1b_v73 V0))) (mulf (res_main_while1b_v83 V0) (res_main_while1b_v74 V0)) := by
  unfold val10
  simp only [trip_w9]
  after_results_entrywise [val9_main_while1b_v74, val9_main_while1b_v71, val9_main_v50_9, val9_main_while1b_v73, val9_main_while1b_v72, val9_main_v50_10, val9_main_v50_8, res_main_while1b_v75, res_main_while1b_v76, res_main_while1b_v83, cast_eq]
set_option maxRecDepth 8192 in
set_option maxHeartbeats 1700000 in
theorem val10_main_while1b_v89 (V0 : Valuation τ sig (Elt F)) : val10 V0 (no_index (Proc.devRef .tc main_while1b_v89)) = addf (mulf (V0 (Proc.devRef .tc main_v50_5)) (res_main_while1b_v76 V0)) (mulf (V0 (Proc.devRef .tc main_v50_4)) (res_main_while1b_v75 V0)) := by
  unfold val10
  simp only [trip_w9]
  after_results_entrywise [val9_main_while1b_v71, val9_main_v50_9, val9_main_v50_4, val9_main_while1b_v72, val9_main_v50_10, val9_main_v50_5, res_main_while1b_v75, res_main_while1b_v76, cast_eq]
set_option maxRecDepth 8192 in
set_option maxHeartbeats 1700000 in
theorem val10_main_while1b_v91 (V0 : Valuation τ sig (Elt F)) : val10 V0 (no_index (Proc.devRef .tc main_while1b_v91)) = addf (addf (V0 (Proc.devRef .tc main_v50_7)) (mulf (res_main_while1b_v76 V0) (res_main_while1b_v74 V0))) (mulf (res_main_while1b_v75 V0) (res_main_while1b_v73 V0)) := by
  unfold val10
  simp only [trip_w9]
  after_results_entrywise [val9_main_while1b_v73, val9_main_while1b_v71, val9_main_v50_9, val9_main_while1b_v74, val9_main_while1b_v72, val9_main_v50_10, val9_main_v50_7, res_main_while1b_v75, res_main_while1b_v76, cast_eq]

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while1b_call10_v0, main_while1b_call10_c, main_while1b_call10_c_0, main_while1b_v92]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v50_6 (V0 : Valuation τ sig (Elt F)) : val11 V0 (no_index (Proc.devRef .tc main_v50_6)) = V0 (Proc.devRef .tc main_v50_6) :=
  (val11_keep V0 main_v50_6 (by decide)).trans (val10_main_v50_6 V0)
theorem val11_main_v50_0 (V0 : Valuation τ sig (Elt F)) : val11 V0 (no_index (Proc.devRef .tc main_v50_0)) = V0 (Proc.devRef .tc main_v50_0) :=
  (val11_keep V0 main_v50_0 (by decide)).trans (val10_main_v50_0 V0)
theorem val11_main_v50_1 (V0 : Valuation τ sig (Elt F)) : val11 V0 (no_index (Proc.devRef .tc main_v50_1)) = V0 (Proc.devRef .tc main_v50_1) :=
  (val11_keep V0 main_v50_1 (by decide)).trans (val10_main_v50_1 V0)
theorem val11_main_v50_2 (V0 : Valuation τ sig (Elt F)) : val11 V0 (no_index (Proc.devRef .tc main_v50_2)) = V0 (Proc.devRef .tc main_v50_2) :=
  (val11_keep V0 main_v50_2 (by decide)).trans (val10_main_v50_2 V0)
theorem val11_main_v50_3 (V0 : Valuation τ sig (Elt F)) : val11 V0 (no_index (Proc.devRef .tc main_v50_3)) = V0 (Proc.devRef .tc main_v50_3) :=
  (val11_keep V0 main_v50_3 (by decide)).trans (val10_main_v50_3 V0)
theorem val11_main_v50_9 (V0 : Valuation τ sig (Elt F)) : val11 V0 (no_index (Proc.devRef .tc main_v50_9)) = V0 (Proc.devRef .tc main_v50_9) :=
  (val11_keep V0 main_v50_9 (by decide)).trans (val10_main_v50_9 V0)
theorem val11_main_v50_10 (V0 : Valuation τ sig (Elt F)) : val11 V0 (no_index (Proc.devRef .tc main_v50_10)) = V0 (Proc.devRef .tc main_v50_10) :=
  (val11_keep V0 main_v50_10 (by decide)).trans (val10_main_v50_10 V0)
theorem val11_main_v50_5 (V0 : Valuation τ sig (Elt F)) : val11 V0 (no_index (Proc.devRef .tc main_v50_5)) = V0 (Proc.devRef .tc main_v50_5) :=
  (val11_keep V0 main_v50_5 (by decide)).trans (val10_main_v50_5 V0)
theorem val11_main_v50_8 (V0 : Valuation τ sig (Elt F)) : val11 V0 (no_index (Proc.devRef .tc main_v50_8)) = V0 (Proc.devRef .tc main_v50_8) :=
  (val11_keep V0 main_v50_8 (by decide)).trans (val10_main_v50_8 V0)
theorem val11_main_v50_4 (V0 : Valuation τ sig (Elt F)) : val11 V0 (no_index (Proc.devRef .tc main_v50_4)) = V0 (Proc.devRef .tc main_v50_4) :=
  (val11_keep V0 main_v50_4 (by decide)).trans (val10_main_v50_4 V0)
theorem val11_main_v50_7 (V0 : Valuation τ sig (Elt F)) : val11 V0 (no_index (Proc.devRef .tc main_v50_7)) = V0 (Proc.devRef .tc main_v50_7) :=
  (val11_keep V0 main_v50_7 (by decide)).trans (val10_main_v50_7 V0)
theorem val11_main_v50_11 (V0 : Valuation τ sig (Elt F)) : val11 V0 (no_index (Proc.devRef .tc main_v50_11)) = V0 (Proc.devRef .tc main_v50_11) :=
  (val11_keep V0 main_v50_11 (by decide)).trans (val10_main_v50_11 V0)
theorem val11_main_v50_12 (V0 : Valuation τ sig (Elt F)) : val11 V0 (no_index (Proc.devRef .tc main_v50_12)) = V0 (Proc.devRef .tc main_v50_12) :=
  (val11_keep V0 main_v50_12 (by decide)).trans (val10_main_v50_12 V0)
theorem val11_main_while1b_v70 (V0 : Valuation τ sig (Elt F)) : val11 V0 (no_index (Proc.devRef .tc main_while1b_v70)) = res_main_while1b_v70 V0 :=
  (val11_keep V0 main_while1b_v70 (by decide)).trans (val10_main_while1b_v70 V0)
theorem val11_main_while1b_v76 (V0 : Valuation τ sig (Elt F)) : val11 V0 (no_index (Proc.devRef .tc main_while1b_v76)) = res_main_while1b_v76 V0 :=
  (val11_keep V0 main_while1b_v76 (by decide)).trans (val10_main_while1b_v76 V0)
theorem val11_main_while1b_v85 (V0 : Valuation τ sig (Elt F)) : val11 V0 (no_index (Proc.devRef .tc main_while1b_v85)) = addf (mulf (V0 (Proc.devRef .tc main_v50_4)) (res_main_while1b_v76 V0)) (mulf (V0 (Proc.devRef .tc main_v50_5)) (res_main_while1b_v83 V0)) :=
  (val11_keep V0 main_while1b_v85 (by decide)).trans (val10_main_while1b_v85 V0)
theorem val11_main_while1b_v87 (V0 : Valuation τ sig (Elt F)) : val11 V0 (no_index (Proc.devRef .tc main_while1b_v87)) = addf (addf (V0 (Proc.devRef .tc main_v50_8)) (mulf (res_main_while1b_v76 V0) (res_main_while1b_v73 V0))) (mulf (res_main_while1b_v83 V0) (res_main_while1b_v74 V0)) :=
  (val11_keep V0 main_while1b_v87 (by decide)).trans (val10_main_while1b_v87 V0)
theorem val11_main_while1b_v89 (V0 : Valuation τ sig (Elt F)) : val11 V0 (no_index (Proc.devRef .tc main_while1b_v89)) = addf (mulf (V0 (Proc.devRef .tc main_v50_5)) (res_main_while1b_v76 V0)) (mulf (V0 (Proc.devRef .tc main_v50_4)) (res_main_while1b_v75 V0)) :=
  (val11_keep V0 main_while1b_v89 (by decide)).trans (val10_main_while1b_v89 V0)
theorem val11_main_while1b_v91 (V0 : Valuation τ sig (Elt F)) : val11 V0 (no_index (Proc.devRef .tc main_while1b_v91)) = addf (addf (V0 (Proc.devRef .tc main_v50_7)) (mulf (res_main_while1b_v76 V0) (res_main_while1b_v74 V0))) (mulf (res_main_while1b_v75 V0) (res_main_while1b_v73 V0)) :=
  (val11_keep V0 main_while1b_v91 (by decide)).trans (val10_main_while1b_v91 V0)
set_option maxRecDepth 8192 in
theorem val11_main_while1b_v92 (V0 : Valuation τ sig (Elt F)) : val11 V0 (no_index (Proc.devRef .tc main_while1b_v92)) = Host.dynamicUpdateSlice (V0 (Proc.devRef .tc main_v50_11)) (broadcastInDim S1x4x512 ![1, 2] bcast_S4x512_S1x4x512_1_2 (res_main_while1b_v75 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512 := by
  unfold val11
  simp only [trip_w10]
  after_results_entrywise [val10_main_while1b_v70, val10_main_while1b_v75, val10_main_v50_11, cast_eq]

/-- The device's buffer contents after the body's first 12 windows. -/
def val12 (V0 : Valuation τ sig (Elt F)) : Valuation τ sig (Elt F) := after trip_w11 (val11 V0)
/-- The buffers that window `trip_w11`'s operations write. -/
abbrev trip_w11_W : List (Ref sig .tc) := [main_while1b_call11_v0, main_while1b_call11_c, main_while1b_call11_c_0, main_while1b_v93]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v50_6 (V0 : Valuation τ sig (Elt F)) : val12 V0 (no_index (Proc.devRef .tc main_v50_6)) = V0 (Proc.devRef .tc main_v50_6) :=
  (val12_keep V0 main_v50_6 (by decide)).trans (val11_main_v50_6 V0)
theorem val12_main_v50_0 (V0 : Valuation τ sig (Elt F)) : val12 V0 (no_index (Proc.devRef .tc main_v50_0)) = V0 (Proc.devRef .tc main_v50_0) :=
  (val12_keep V0 main_v50_0 (by decide)).trans (val11_main_v50_0 V0)
theorem val12_main_v50_1 (V0 : Valuation τ sig (Elt F)) : val12 V0 (no_index (Proc.devRef .tc main_v50_1)) = V0 (Proc.devRef .tc main_v50_1) :=
  (val12_keep V0 main_v50_1 (by decide)).trans (val11_main_v50_1 V0)
theorem val12_main_v50_2 (V0 : Valuation τ sig (Elt F)) : val12 V0 (no_index (Proc.devRef .tc main_v50_2)) = V0 (Proc.devRef .tc main_v50_2) :=
  (val12_keep V0 main_v50_2 (by decide)).trans (val11_main_v50_2 V0)
theorem val12_main_v50_3 (V0 : Valuation τ sig (Elt F)) : val12 V0 (no_index (Proc.devRef .tc main_v50_3)) = V0 (Proc.devRef .tc main_v50_3) :=
  (val12_keep V0 main_v50_3 (by decide)).trans (val11_main_v50_3 V0)
theorem val12_main_v50_9 (V0 : Valuation τ sig (Elt F)) : val12 V0 (no_index (Proc.devRef .tc main_v50_9)) = V0 (Proc.devRef .tc main_v50_9) :=
  (val12_keep V0 main_v50_9 (by decide)).trans (val11_main_v50_9 V0)
theorem val12_main_v50_10 (V0 : Valuation τ sig (Elt F)) : val12 V0 (no_index (Proc.devRef .tc main_v50_10)) = V0 (Proc.devRef .tc main_v50_10) :=
  (val12_keep V0 main_v50_10 (by decide)).trans (val11_main_v50_10 V0)
theorem val12_main_v50_5 (V0 : Valuation τ sig (Elt F)) : val12 V0 (no_index (Proc.devRef .tc main_v50_5)) = V0 (Proc.devRef .tc main_v50_5) :=
  (val12_keep V0 main_v50_5 (by decide)).trans (val11_main_v50_5 V0)
theorem val12_main_v50_8 (V0 : Valuation τ sig (Elt F)) : val12 V0 (no_index (Proc.devRef .tc main_v50_8)) = V0 (Proc.devRef .tc main_v50_8) :=
  (val12_keep V0 main_v50_8 (by decide)).trans (val11_main_v50_8 V0)
theorem val12_main_v50_4 (V0 : Valuation τ sig (Elt F)) : val12 V0 (no_index (Proc.devRef .tc main_v50_4)) = V0 (Proc.devRef .tc main_v50_4) :=
  (val12_keep V0 main_v50_4 (by decide)).trans (val11_main_v50_4 V0)
theorem val12_main_v50_7 (V0 : Valuation τ sig (Elt F)) : val12 V0 (no_index (Proc.devRef .tc main_v50_7)) = V0 (Proc.devRef .tc main_v50_7) :=
  (val12_keep V0 main_v50_7 (by decide)).trans (val11_main_v50_7 V0)
theorem val12_main_v50_11 (V0 : Valuation τ sig (Elt F)) : val12 V0 (no_index (Proc.devRef .tc main_v50_11)) = V0 (Proc.devRef .tc main_v50_11) :=
  (val12_keep V0 main_v50_11 (by decide)).trans (val11_main_v50_11 V0)
theorem val12_main_v50_12 (V0 : Valuation τ sig (Elt F)) : val12 V0 (no_index (Proc.devRef .tc main_v50_12)) = V0 (Proc.devRef .tc main_v50_12) :=
  (val12_keep V0 main_v50_12 (by decide)).trans (val11_main_v50_12 V0)
theorem val12_main_while1b_v85 (V0 : Valuation τ sig (Elt F)) : val12 V0 (no_index (Proc.devRef .tc main_while1b_v85)) = addf (mulf (V0 (Proc.devRef .tc main_v50_4)) (res_main_while1b_v76 V0)) (mulf (V0 (Proc.devRef .tc main_v50_5)) (res_main_while1b_v83 V0)) :=
  (val12_keep V0 main_while1b_v85 (by decide)).trans (val11_main_while1b_v85 V0)
theorem val12_main_while1b_v87 (V0 : Valuation τ sig (Elt F)) : val12 V0 (no_index (Proc.devRef .tc main_while1b_v87)) = addf (addf (V0 (Proc.devRef .tc main_v50_8)) (mulf (res_main_while1b_v76 V0) (res_main_while1b_v73 V0))) (mulf (res_main_while1b_v83 V0) (res_main_while1b_v74 V0)) :=
  (val12_keep V0 main_while1b_v87 (by decide)).trans (val11_main_while1b_v87 V0)
theorem val12_main_while1b_v89 (V0 : Valuation τ sig (Elt F)) : val12 V0 (no_index (Proc.devRef .tc main_while1b_v89)) = addf (mulf (V0 (Proc.devRef .tc main_v50_5)) (res_main_while1b_v76 V0)) (mulf (V0 (Proc.devRef .tc main_v50_4)) (res_main_while1b_v75 V0)) :=
  (val12_keep V0 main_while1b_v89 (by decide)).trans (val11_main_while1b_v89 V0)
theorem val12_main_while1b_v91 (V0 : Valuation τ sig (Elt F)) : val12 V0 (no_index (Proc.devRef .tc main_while1b_v91)) = addf (addf (V0 (Proc.devRef .tc main_v50_7)) (mulf (res_main_while1b_v76 V0) (res_main_while1b_v74 V0))) (mulf (res_main_while1b_v75 V0) (res_main_while1b_v73 V0)) :=
  (val12_keep V0 main_while1b_v91 (by decide)).trans (val11_main_while1b_v91 V0)
theorem val12_main_while1b_v92 (V0 : Valuation τ sig (Elt F)) : val12 V0 (no_index (Proc.devRef .tc main_while1b_v92)) = Host.dynamicUpdateSlice (V0 (Proc.devRef .tc main_v50_11)) (broadcastInDim S1x4x512 ![1, 2] bcast_S4x512_S1x4x512_1_2 (res_main_while1b_v75 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512 :=
  (val12_keep V0 main_while1b_v92 (by decide)).trans (val11_main_while1b_v92 V0)
set_option maxRecDepth 8192 in
theorem val12_main_while1b_v93 (V0 : Valuation τ sig (Elt F)) : val12 V0 (no_index (Proc.devRef .tc main_while1b_v93)) = Host.dynamicUpdateSlice (V0 (Proc.devRef .tc main_v50_12)) (broadcastInDim S1x4x512 ![1, 2] bcast_S4x512_S1x4x512_1_2 (res_main_while1b_v76 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512 := by
  unfold val12
  simp only [trip_w11]
  after_results_entrywise [val11_main_while1b_v70, val11_main_while1b_v76, val11_main_v50_12, cast_eq]

set_option maxRecDepth 8192 in
/-- The body's stretches before `while1Ops0_8`, from any contents: their windows in order. -/
theorem trip_windows (V0 : Valuation τ sig (Elt F)) : after while1Ops0_7 (after while1Ops0_6 (after while1Ops0_5 (after while1Ops0_4 (after while1Ops0_3 (after while1Ops0_2 (after while1Ops0_1 (after while1Ops0 (V0)))))))) = val12 V0 := by
  simp only [while1Ops0_cut, while1Ops0_1_cut, while1Ops0_2_cut, while1Ops0_3_cut, while1Ops0_4_cut, while1Ops0_5_cut, while1Ops0_6_cut, while1Ops0_7_cut, after_append]
  rfl

set_option maxRecDepth 8192 in
set_option maxHeartbeats 2000000 in
/-- `main_v50_0` after one trip's body, from any contents. -/
theorem trip_main_v50_0 (V0 : Valuation τ sig (Elt F)) : afterL bodyI V0 (no_index (Proc.devRef .tc main_v50_0)) = V0 (Proc.devRef .tc main_v50_0) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_1` after one trip's body, from any contents. -/
theorem trip_main_v50_1 (V0 : Valuation τ sig (Elt F)) : afterL bodyI V0 (no_index (Proc.devRef .tc main_v50_1)) = V0 (Proc.devRef .tc main_v50_1) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_2` after one trip's body, from any contents. -/
theorem trip_main_v50_2 (V0 : Valuation τ sig (Elt F)) : afterL bodyI V0 (no_index (Proc.devRef .tc main_v50_2)) = V0 (Proc.devRef .tc main_v50_2) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_3` after one trip's body, from any contents. -/
theorem trip_main_v50_3 (V0 : Valuation τ sig (Elt F)) : afterL bodyI V0 (no_index (Proc.devRef .tc main_v50_3)) = V0 (Proc.devRef .tc main_v50_3) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_4` after one trip's body, from any contents. -/
theorem trip_main_v50_4 (V0 : Valuation τ sig (Elt F)) : afterL bodyI V0 (no_index (Proc.devRef .tc main_v50_4)) = V0 (Proc.devRef .tc main_v50_4) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_5` after one trip's body, from any contents. -/
theorem trip_main_v50_5 (V0 : Valuation τ sig (Elt F)) : afterL bodyI V0 (no_index (Proc.devRef .tc main_v50_5)) = V0 (Proc.devRef .tc main_v50_5) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_6` after one trip's body, from any contents. -/
theorem trip_main_v50_6 (V0 : Valuation τ sig (Elt F)) : afterL bodyI V0 (no_index (Proc.devRef .tc main_v50_6)) = id (addi (V0 (Proc.devRef .tc main_v50_6)) (constantI S_ 32 1#32)) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_7` after one trip's body, from any contents. -/
theorem trip_main_v50_7 (V0 : Valuation τ sig (Elt F)) : afterL bodyI V0 (no_index (Proc.devRef .tc main_v50_7)) = id (addf (addf (V0 (Proc.devRef .tc main_v50_7)) (mulf (res_main_while1b_v76 V0) (res_main_while1b_v74 V0))) (mulf (res_main_while1b_v75 V0) (res_main_while1b_v73 V0))) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_8` after one trip's body, from any contents. -/
theorem trip_main_v50_8 (V0 : Valuation τ sig (Elt F)) : afterL bodyI V0 (no_index (Proc.devRef .tc main_v50_8)) = id (addf (addf (V0 (Proc.devRef .tc main_v50_8)) (mulf (res_main_while1b_v76 V0) (res_main_while1b_v73 V0))) (mulf (res_main_while1b_v83 V0) (res_main_while1b_v74 V0))) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_9` after one trip's body, from any contents. -/
theorem trip_main_v50_9 (V0 : Valuation τ sig (Elt F)) : afterL bodyI V0 (no_index (Proc.devRef .tc main_v50_9)) = id (addf (mulf (V0 (Proc.devRef .tc main_v50_5)) (res_main_while1b_v76 V0)) (mulf (V0 (Proc.devRef .tc main_v50_4)) (res_main_while1b_v75 V0))) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_10` after one trip's body, from any contents. -/
theorem trip_main_v50_10 (V0 : Valuation τ sig (Elt F)) : afterL bodyI V0 (no_index (Proc.devRef .tc main_v50_10)) = id (addf (mulf (V0 (Proc.devRef .tc main_v50_4)) (res_main_while1b_v76 V0)) (mulf (V0 (Proc.devRef .tc main_v50_5)) (res_main_while1b_v83 V0))) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_11` after one trip's body, from any contents. -/
theorem trip_main_v50_11 (V0 : Valuation τ sig (Elt F)) : afterL bodyI V0 (no_index (Proc.devRef .tc main_v50_11)) = id (Host.dynamicUpdateSlice (V0 (Proc.devRef .tc main_v50_11)) (broadcastInDim S1x4x512 ![1, 2] bcast_S4x512_S1x4x512_1_2 (res_main_while1b_v75 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl
set_option maxRecDepth 8192 in
set_option maxHeartbeats 2000000 in
/-- `main_v50_12` after one trip's body, from any contents. -/
theorem trip_main_v50_12 (V0 : Valuation τ sig (Elt F)) : afterL bodyI V0 (no_index (Proc.devRef .tc main_v50_12)) = id (Host.dynamicUpdateSlice (V0 (Proc.devRef .tc main_v50_12)) (broadcastInDim S1x4x512 ![1, 2] bcast_S4x512_S1x4x512_1_2 (res_main_while1b_v76 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512) := by
  simp only [bodyI, afterL_cons, afterL_nil, trip_windows]
  after_results
  all_goals (try simp only [val12_main_while1b_v91, val12_main_while1b_v87, val12_main_while1b_v89, val12_main_while1b_v85, val12_main_while1b_v92, val12_main_while1b_v93, val12_main_v50_0, val12_main_v50_1, val12_main_v50_2, val12_main_v50_3, val12_main_v50_4, val12_main_v50_5, val12_main_v50_6, val12_main_v50_7, val12_main_v50_8, val12_main_v50_9, val12_main_v50_10, val12_main_v50_11, val12_main_v50_12]) <;> rfl

/-- The loop's carried buffers. -/
abbrev carriedRefs : List (Ref sig .tc) := [main_v50_0, main_v50_1, main_v50_2, main_v50_3, main_v50_4, main_v50_5, main_v50_6, main_v50_7, main_v50_8, main_v50_9, main_v50_10, main_v50_11, main_v50_12]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while1b_v70_congr {V0 V0' : Valuation τ sig (Elt F)} (h : Agree V0 V0') : res_main_while1b_v70 V0 = res_main_while1b_v70 V0' := by
  unfold res_main_while1b_v70
  rw [h main_v50_6 (by decide)]
set_option maxRecDepth 8192 in
theorem res_main_while1b_v73_congr {V0 V0' : Valuation τ sig (Elt F)} (h : Agree V0 V0') : res_main_while1b_v73 V0 = res_main_while1b_v73 V0' := by
  unfold res_main_while1b_v73
  rw [res_main_while1b_v70_congr h, h main_v50_2 (by decide)]
set_option maxRecDepth 8192 in
theorem res_main_while1b_v74_congr {V0 V0' : Valuation τ sig (Elt F)} (h : Agree V0 V0') : res_main_while1b_v74 V0 = res_main_while1b_v74 V0' := by
  unfold res_main_while1b_v74
  rw [res_main_while1b_v70_congr h, h main_v50_3 (by decide)]
set_option maxRecDepth 8192 in
theorem res_main_while1b_v75_congr {V0 V0' : Valuation τ sig (Elt F)} (h : Agree V0 V0') : res_main_while1b_v75 V0 = res_main_while1b_v75 V0' := by
  unfold res_main_while1b_v75
  rw [res_main_while1b_v70_congr h, h main_v50_9 (by decide), h main_v50_0 (by decide)]
set_option maxRecDepth 8192 in
theorem res_main_while1b_v76_congr {V0 V0' : Valuation τ sig (Elt F)} (h : Agree V0 V0') : res_main_while1b_v76 V0 = res_main_while1b_v76 V0' := by
  unfold res_main_while1b_v76
  rw [res_main_while1b_v70_congr h, h main_v50_10 (by decide), h main_v50_1 (by decide)]
set_option maxRecDepth 8192 in
theorem res_main_while1b_v83_congr {V0 V0' : Valuation τ sig (Elt F)} (h : Agree V0 V0') : res_main_while1b_v83 V0 = res_main_while1b_v83 V0' := by
  unfold res_main_while1b_v83
  rw [res_main_while1b_v75_congr h]

set_option maxRecDepth 8192 in
/-- `main_v50_6` after one trip, of the contents before it. -/
def step_main_v50_6 (V0 : Valuation τ sig (Elt F)) : (Proc.devRef .tc main_v50_6 : DevRef τ sig).ty.Contents (Elt F) :=
  id (addi (V0 (Proc.devRef .tc main_v50_6)) (constantI S_ 32 1#32))
set_option maxRecDepth 8192 in
theorem step_main_v50_6_congr {V0 V0' : Valuation τ sig (Elt F)} (h : Agree V0 V0') : step_main_v50_6 V0 = step_main_v50_6 V0' := by
  unfold step_main_v50_6
  rw [h main_v50_6 (by decide)]
set_option maxRecDepth 8192 in
/-- `main_v50_7` after one trip, of the contents before it. -/
def step_main_v50_7 (V0 : Valuation τ sig (Elt F)) : (Proc.devRef .tc main_v50_7 : DevRef τ sig).ty.Contents (Elt F) :=
  id (addf (addf (V0 (Proc.devRef .tc main_v50_7)) (mulf (res_main_while1b_v76 V0) (res_main_while1b_v74 V0))) (mulf (res_main_while1b_v75 V0) (res_main_while1b_v73 V0)))
set_option maxRecDepth 8192 in
theorem step_main_v50_7_congr {V0 V0' : Valuation τ sig (Elt F)} (h : Agree V0 V0') : step_main_v50_7 V0 = step_main_v50_7 V0' := by
  unfold step_main_v50_7
  rw [res_main_while1b_v76_congr h, res_main_while1b_v74_congr h, res_main_while1b_v75_congr h, res_main_while1b_v73_congr h, h main_v50_7 (by decide)]
set_option maxRecDepth 8192 in
/-- `main_v50_8` after one trip, of the contents before it. -/
def step_main_v50_8 (V0 : Valuation τ sig (Elt F)) : (Proc.devRef .tc main_v50_8 : DevRef τ sig).ty.Contents (Elt F) :=
  id (addf (addf (V0 (Proc.devRef .tc main_v50_8)) (mulf (res_main_while1b_v76 V0) (res_main_while1b_v73 V0))) (mulf (res_main_while1b_v83 V0) (res_main_while1b_v74 V0)))
set_option maxRecDepth 8192 in
theorem step_main_v50_8_congr {V0 V0' : Valuation τ sig (Elt F)} (h : Agree V0 V0') : step_main_v50_8 V0 = step_main_v50_8 V0' := by
  unfold step_main_v50_8
  rw [res_main_while1b_v76_congr h, res_main_while1b_v73_congr h, res_main_while1b_v83_congr h, res_main_while1b_v74_congr h, h main_v50_8 (by decide)]
set_option maxRecDepth 8192 in
/-- `main_v50_9` after one trip, of the contents before it. -/
def step_main_v50_9 (V0 : Valuation τ sig (Elt F)) : (Proc.devRef .tc main_v50_9 : DevRef τ sig).ty.Contents (Elt F) :=
  id (addf (mulf (V0 (Proc.devRef .tc main_v50_5)) (res_main_while1b_v76 V0)) (mulf (V0 (Proc.devRef .tc main_v50_4)) (res_main_while1b_v75 V0)))
set_option maxRecDepth 8192 in
theorem step_main_v50_9_congr {V0 V0' : Valuation τ sig (Elt F)} (h : Agree V0 V0') : step_main_v50_9 V0 = step_main_v50_9 V0' := by
  unfold step_main_v50_9
  rw [res_main_while1b_v76_congr h, res_main_while1b_v75_congr h, h main_v50_5 (by decide), h main_v50_4 (by decide)]
set_option maxRecDepth 8192 in
/-- `main_v50_10` after one trip, of the contents before it. -/
def step_main_v50_10 (V0 : Valuation τ sig (Elt F)) : (Proc.devRef .tc main_v50_10 : DevRef τ sig).ty.Contents (Elt F) :=
  id (addf (mulf (V0 (Proc.devRef .tc main_v50_4)) (res_main_while1b_v76 V0)) (mulf (V0 (Proc.devRef .tc main_v50_5)) (res_main_while1b_v83 V0)))
set_option maxRecDepth 8192 in
theorem step_main_v50_10_congr {V0 V0' : Valuation τ sig (Elt F)} (h : Agree V0 V0') : step_main_v50_10 V0 = step_main_v50_10 V0' := by
  unfold step_main_v50_10
  rw [res_main_while1b_v76_congr h, res_main_while1b_v83_congr h, h main_v50_4 (by decide), h main_v50_5 (by decide)]
set_option maxRecDepth 8192 in
/-- `main_v50_11` after one trip, of the contents before it. -/
def step_main_v50_11 (V0 : Valuation τ sig (Elt F)) : (Proc.devRef .tc main_v50_11 : DevRef τ sig).ty.Contents (Elt F) :=
  id (Host.dynamicUpdateSlice (V0 (Proc.devRef .tc main_v50_11)) (broadcastInDim S1x4x512 ![1, 2] bcast_S4x512_S1x4x512_1_2 (res_main_while1b_v75 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512)
set_option maxRecDepth 8192 in
theorem step_main_v50_11_congr {V0 V0' : Valuation τ sig (Elt F)} (h : Agree V0 V0') : step_main_v50_11 V0 = step_main_v50_11 V0' := by
  unfold step_main_v50_11
  rw [res_main_while1b_v75_congr h, res_main_while1b_v70_congr h, h main_v50_11 (by decide)]
set_option maxRecDepth 8192 in
/-- `main_v50_12` after one trip, of the contents before it. -/
def step_main_v50_12 (V0 : Valuation τ sig (Elt F)) : (Proc.devRef .tc main_v50_12 : DevRef τ sig).ty.Contents (Elt F) :=
  id (Host.dynamicUpdateSlice (V0 (Proc.devRef .tc main_v50_12)) (broadcastInDim S1x4x512 ![1, 2] bcast_S4x512_S1x4x512_1_2 (res_main_while1b_v76 V0)) (fun k => (((![res_main_while1b_v70 V0, constantI S_ 32 0#32, constantI S_ 32 0#32] : Fin 3 → (⟨S_, .i32⟩ : BufTy).Contents (Elt F))) k (Shape.Idx.first h_S_)).toInt) updateFits_S2048x4x512_S1x4x512)
set_option maxRecDepth 8192 in
theorem step_main_v50_12_congr {V0 V0' : Valuation τ sig (Elt F)} (h : Agree V0 V0') : step_main_v50_12 V0 = step_main_v50_12 V0' := by
  unfold step_main_v50_12
  rw [res_main_while1b_v76_congr h, res_main_while1b_v70_congr h, h main_v50_12 (by decide)]

/-- ONE TRIP on the carried buffers: the buffers the body writes step, everything else is as it was. -/
def STEP (V0 : Valuation τ sig (Elt F)) : Valuation τ sig (Elt F) :=
  Function.update (Function.update (Function.update (Function.update (Function.update (Function.update (Function.update (V0) (Proc.devRef .tc main_v50_6) (step_main_v50_6 V0)) (Proc.devRef .tc main_v50_7) (step_main_v50_7 V0)) (Proc.devRef .tc main_v50_8) (step_main_v50_8 V0)) (Proc.devRef .tc main_v50_9) (step_main_v50_9 V0)) (Proc.devRef .tc main_v50_10) (step_main_v50_10 V0)) (Proc.devRef .tc main_v50_11) (step_main_v50_11 V0)) (Proc.devRef .tc main_v50_12) (step_main_v50_12 V0)

theorem STEP_main_v50_0 (V0 : Valuation τ sig (Elt F)) : STEP V0 (Proc.devRef .tc main_v50_0) = V0 (Proc.devRef .tc main_v50_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v50_1 (V0 : Valuation τ sig (Elt F)) : STEP V0 (Proc.devRef .tc main_v50_1) = V0 (Proc.devRef .tc main_v50_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v50_2 (V0 : Valuation τ sig (Elt F)) : STEP V0 (Proc.devRef .tc main_v50_2) = V0 (Proc.devRef .tc main_v50_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v50_3 (V0 : Valuation τ sig (Elt F)) : STEP V0 (Proc.devRef .tc main_v50_3) = V0 (Proc.devRef .tc main_v50_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v50_4 (V0 : Valuation τ sig (Elt F)) : STEP V0 (Proc.devRef .tc main_v50_4) = V0 (Proc.devRef .tc main_v50_4) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v50_5 (V0 : Valuation τ sig (Elt F)) : STEP V0 (Proc.devRef .tc main_v50_5) = V0 (Proc.devRef .tc main_v50_5) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v50_6 (V0 : Valuation τ sig (Elt F)) : STEP V0 (Proc.devRef .tc main_v50_6) = step_main_v50_6 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v50_7 (V0 : Valuation τ sig (Elt F)) : STEP V0 (Proc.devRef .tc main_v50_7) = step_main_v50_7 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v50_8 (V0 : Valuation τ sig (Elt F)) : STEP V0 (Proc.devRef .tc main_v50_8) = step_main_v50_8 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v50_9 (V0 : Valuation τ sig (Elt F)) : STEP V0 (Proc.devRef .tc main_v50_9) = step_main_v50_9 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v50_10 (V0 : Valuation τ sig (Elt F)) : STEP V0 (Proc.devRef .tc main_v50_10) = step_main_v50_10 V0 := by
  unfold STEP; rw [Function.update_of_ne (devRef_ne_of_ne (by decide))]; rw [Function.update_of_ne (devRef_ne_of_ne (by decide))]; rw [Function.update_self]
theorem STEP_main_v50_11 (V0 : Valuation τ sig (Elt F)) : STEP V0 (Proc.devRef .tc main_v50_11) = step_main_v50_11 V0 := by
  unfold STEP; rw [Function.update_of_ne (devRef_ne_of_ne (by decide))]; rw [Function.update_self]
theorem STEP_main_v50_12 (V0 : Valuation τ sig (Elt F)) : STEP V0 (Proc.devRef .tc main_v50_12) = step_main_v50_12 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v50_0 (after condOps X)).trans ((hc main_v50_0 (by decide)).trans (STEP_main_v50_0 X).symm)
  · exact (trip_main_v50_1 (after condOps X)).trans ((hc main_v50_1 (by decide)).trans (STEP_main_v50_1 X).symm)
  · exact (trip_main_v50_2 (after condOps X)).trans ((hc main_v50_2 (by decide)).trans (STEP_main_v50_2 X).symm)
  · exact (trip_main_v50_3 (after condOps X)).trans ((hc main_v50_3 (by decide)).trans (STEP_main_v50_3 X).symm)
  · exact (trip_main_v50_4 (after condOps X)).trans ((hc main_v50_4 (by decide)).trans (STEP_main_v50_4 X).symm)
  · exact (trip_main_v50_5 (after condOps X)).trans ((hc main_v50_5 (by decide)).trans (STEP_main_v50_5 X).symm)
  · exact (trip_main_v50_6 (after condOps X)).trans ((step_main_v50_6_congr hc).trans (STEP_main_v50_6 X).symm)
  · exact (trip_main_v50_7 (after condOps X)).trans ((step_main_v50_7_congr hc).trans (STEP_main_v50_7 X).symm)
  · exact (trip_main_v50_8 (after condOps X)).trans ((step_main_v50_8_congr hc).trans (STEP_main_v50_8 X).symm)
  · exact (trip_main_v50_9 (after condOps X)).trans ((step_main_v50_9_congr hc).trans (STEP_main_v50_9 X).symm)
  · exact (trip_main_v50_10 (after condOps X)).trans ((step_main_v50_10_congr hc).trans (STEP_main_v50_10 X).symm)
  · exact (trip_main_v50_11 (after condOps X)).trans ((step_main_v50_11_congr hc).trans (STEP_main_v50_11 X).symm)
  · exact (trip_main_v50_12 (after condOps X)).trans ((step_main_v50_12_congr hc).trans (STEP_main_v50_12 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v50_0, STEP_main_v50_0]; exact h main_v50_0 (by decide)
  · rw [STEP_main_v50_1, STEP_main_v50_1]; exact h main_v50_1 (by decide)
  · rw [STEP_main_v50_2, STEP_main_v50_2]; exact h main_v50_2 (by decide)
  · rw [STEP_main_v50_3, STEP_main_v50_3]; exact h main_v50_3 (by decide)
  · rw [STEP_main_v50_4, STEP_main_v50_4]; exact h main_v50_4 (by decide)
  · rw [STEP_main_v50_5, STEP_main_v50_5]; exact h main_v50_5 (by decide)
  · rw [STEP_main_v50_6, STEP_main_v50_6]; exact step_main_v50_6_congr h
  · rw [STEP_main_v50_7, STEP_main_v50_7]; exact step_main_v50_7_congr h
  · rw [STEP_main_v50_8, STEP_main_v50_8]; exact step_main_v50_8_congr h
  · rw [STEP_main_v50_9, STEP_main_v50_9]; exact step_main_v50_9_congr h
  · rw [STEP_main_v50_10, STEP_main_v50_10]; exact step_main_v50_10_congr h
  · rw [STEP_main_v50_11, STEP_main_v50_11]; exact step_main_v50_11_congr h
  · rw [STEP_main_v50_12, STEP_main_v50_12]; exact step_main_v50_12_congr h

/-- Before the `k`-th condition the carried buffers are `STEP` iterated `k` times on the loop's entry. -/
theorem atK_agree (c : Dev nD) : ∀ k, Agree (atTrip condOps bodyI E k c) (STEP^[k] (E c))
  | 0 => fun _ _ => rfl
  | k + 1 => fun j hj => by
    rw [Function.iterate_succ_apply']
    exact (trip_agree (atTrip condOps bodyI E k c) j hj).trans (STEP_congr (atK_agree c k) j hj)

/-- All the references one trip writes. -/
abbrev tripW : List (Ref sig .tc) := condOps_W ++ while1Ops0_W ++ while1Ops0_1_W ++ while1Ops0_2_W ++ while1Ops0_3_W ++ while1Ops0_4_W ++ while1Ops0_5_W ++ while1Ops0_6_W ++ while1Ops0_7_W ++ while1Ops0_8_W

/-- A trip leaves every reference it does not write. -/
theorem trip_keep (X : Valuation τ sig (Elt F)) (x : Ref sig .tc) (h : x ∉ tripW) :
    afterL bodyI (after condOps X) (Proc.devRef .tc x) = X (Proc.devRef .tc x) := by
  simp only [bodyI, afterL_cons, afterL_nil]
  rw [after_of_writes_sub while1Ops0_8 _ while1Ops0_8_writes (fun hh => h (by simp only [tripW, List.mem_append]; tauto))]
  rw [after_of_writes_sub while1Ops0_7 _ while1Ops0_7_writes (fun hh => h (by simp only [tripW, List.mem_append]; tauto))]
  rw [after_of_writes_sub while1Ops0_6 _ while1Ops0_6_writes (fun hh => h (by simp only [tripW, List.mem_append]; tauto))]
  rw [after_of_writes_sub while1Ops0_5 _ while1Ops0_5_writes (fun hh => h (by simp only [tripW, List.mem_append]; tauto))]
  rw [after_of_writes_sub while1Ops0_4 _ while1Ops0_4_writes (fun hh => h (by simp only [tripW, List.mem_append]; tauto))]
  rw [after_of_writes_sub while1Ops0_3 _ while1Ops0_3_writes (fun hh => h (by simp only [tripW, List.mem_append]; tauto))]
  rw [after_of_writes_sub while1Ops0_2 _ while1Ops0_2_writes (fun hh => h (by simp only [tripW, List.mem_append]; tauto))]
  rw [after_of_writes_sub while1Ops0_1 _ while1Ops0_1_writes (fun hh => h (by simp only [tripW, List.mem_append]; tauto))]
  rw [after_of_writes_sub while1Ops0 _ while1Ops0_writes (fun hh => h (by simp only [tripW, List.mem_append]; tauto))]
  rw [after_of_writes_sub condOps _ condOps_writes (fun hh => h (by simp only [tripW, List.mem_append]; tauto))]

/-- The loop leaves every reference a trip does not write. -/
theorem loop_keep (x : Ref sig .tc) (h : x ∉ tripW) (c : Dev nD) :
    ∀ k, after condOps (atTrip condOps bodyI E k c) (Proc.devRef .tc x) = E c (Proc.devRef .tc x) := by
  have hk : ∀ k, atTrip condOps bodyI E k c (Proc.devRef .tc x) = E c (Proc.devRef .tc x) := fun k => by
    induction k with
    | zero => rfl
    | succ k ih =>
      rw [show atTrip condOps bodyI E (k + 1) c = afterL bodyI (after condOps (atTrip condOps bodyI E k c)) from rfl,
        trip_keep _ x h, ih]
  intro k
  rw [after_of_writes_sub condOps _ condOps_writes (fun hh => h (by simp only [tripW, List.mem_append]; tauto)), hk k]

end Cert.ReferenceIdeal.Loop1

end
-- ==== Proof.RefVals1.lean ====
/- The reference's reversed recurrence: what its buffers hold after every trip. -/
module

public import proofs.«01_k».proof.Proof.RefSlots
public import proofs.«01_k».proof.Proof.RefLoop1

@[expose] public section

set_option maxRecDepth 16384

noncomputable section

namespace Cert.S5.Ref

open Cert.ReferenceIdeal Cert.ReferenceIdeal.Gen
open Idealize.ShloMosaic Idealize.ShloMosaic.TcCoe

theorem pair_add {s : Shape} {v w x y : FVec Ideal s .f32} {Z Z' : s.Idx → ℂ} (h : IsC v w Z) (h' : IsC x y Z') : IsC (addf v x) (addf w y) (fun i => Z i + Z' i) := by
  refine ⟨fun i => ?_, fun i => ?_⟩ <;> simp only [pointwise] <;>
    simp only [h.re, h.im, h'.re, h'.im, Complex.add_re, Complex.add_im] <;> norm_cast

/-- The multiplier conjugated times a state, written with the state's first part negated. -/
theorem pair_cjmul {s : Shape} {ar ai zr zi : FVec Ideal s .f32} {A Z : s.Idx → ℂ} (ha : IsC ar ai A) (hz : IsC zr zi Z) :
    IsC (addf (mulf ai zi) (mulf ar zr)) (addf (mulf ar zi) (mulf ai (Host.negf zr))) (fun i => cj (A i) * Z i) := by
  refine ⟨fun i => ?_, fun i => ?_⟩ <;> simp only [pointwise] <;>
    simp only [ha.re, ha.im, hz.re, hz.im, Complex.mul_re, Complex.mul_im, cj] <;> norm_cast <;> ring

/-- A sum's next term: a state times a conjugate. -/
theorem pair_acc {s : Shape} {gr gi zr zi xr xi : FVec Ideal s .f32} {G Z X : s.Idx → ℂ} (hg : IsC gr gi G) (hz : IsC zr zi Z) (hx : IsC xr xi X) :
    IsC (addf (addf gr (mulf zi xi)) (mulf zr xr)) (addf (addf gi (mulf zi xr)) (mulf (Host.negf zr) xi)) (fun i => G i + Z i * cj (X i)) := by
  refine ⟨fun i => ?_, fun i => ?_⟩ <;> simp only [pointwise] <;>
    simp only [hg.re, hg.im, hz.re, hz.im, hx.re, hx.im, Complex.add_re, Complex.add_im, Complex.mul_re, Complex.mul_im, cj] <;> norm_cast <;> ring

/-- The gradients stored in `k` trips. -/
def lams (D : Data) (k t q : ℕ) : ℂ := if 2048 - k ≤ t then D.lam t q else 0

/-- The buffers before trip `k`. -/
structure At1 (D : Data) (V : Valuation τ sig (Elt Ideal)) (k : ℕ) : Prop where
  ct : IsC (s := S2048x4x512) (V (Proc.devRef .tc main_v50_0)) (V (Proc.devRef .tc main_v50_1)) (fun i => D.ct (i 0).val (col3 i))
  xp : IsC (s := S2048x4x512) (V (Proc.devRef .tc main_v50_2)) (V (Proc.devRef .tc main_v50_3)) (fun i => D.st (i 0).val (col3 i))
  a : IsC (s := S4x512) (V (Proc.devRef .tc main_v50_4)) (V (Proc.devRef .tc main_v50_5)) (fun i => D.A (col i))
  ctr : V (Proc.devRef .tc main_v50_6) = fun _ => BitVec.ofNat 32 k
  g : IsC (s := S4x512) (V (Proc.devRef .tc main_v50_7)) (V (Proc.devRef .tc main_v50_8))
    (fun i => ∑ j ∈ Finset.range k, D.back (j + 1) (col i) * cj (D.st (2047 - j) (col i)))
  l : IsC (s := S4x512) (V (Proc.devRef .tc main_v50_9)) (V (Proc.devRef .tc main_v50_10)) (fun i => cj (D.A (col i)) * D.back k (col i))
  s : IsC (s := S2048x4x512) (V (Proc.devRef .tc main_v50_11)) (V (Proc.devRef .tc main_v50_12))
    (fun i => lams D k (i 0).val (col3 i))

variable {D : Data} {V : Valuation τ sig (Elt Ideal)} {k : ℕ}

theorem At1.at_ (h : At1 D V k) (hk : k < 2048) : Loop1.res_main_while1b_v70 V = fun _ => BitVec.ofNat 32 (2047 - k) := by
  unfold Loop1.res_main_while1b_v70
  rw [h.ctr]
  funext i
  show (2048#32 - BitVec.ofNat 32 k) - 1#32 = _
  apply BitVec.eq_of_toNat_eq
  simp only [BitVec.toNat_sub, BitVec.toNat_ofNat]
  omega

theorem At1.ix (h : At1 D V k) (hk : k < 2048) (i) : (Loop1.res_main_while1b_v70 V i).toInt = ((2047 - k : ℕ) : ℤ) := by
  rw [h.at_ hk]
  exact ctr_int (by omega)

theorem At1.lam (h : At1 D V k) (hk : k < 2048) :
    IsC (s := S4x512) (Loop1.res_main_while1b_v75 V) (Loop1.res_main_while1b_v76 V) (fun i => D.back (k + 1) (col i)) := by
  unfold Loop1.res_main_while1b_v75 Loop1.res_main_while1b_v76
  exact pair_add h.l (slice_pair (Z := D.ct) h.ct (by omega : 2047 - k < 2048) (h.ix hk _) rfl rfl)

theorem At1.prev (h : At1 D V k) (hk : k < 2048) :
    IsC (s := S4x512) (Loop1.res_main_while1b_v73 V) (Loop1.res_main_while1b_v74 V) (fun i => D.st (2047 - k) (col i)) := by
  unfold Loop1.res_main_while1b_v73 Loop1.res_main_while1b_v74
  exact slice_pair (Z := D.st) h.xp (by omega : 2047 - k < 2048) (h.ix hk _) rfl rfl

theorem At1.step (h : At1 D V k) (hk : k < 2048) : At1 D (Loop1.STEP V) (k + 1) where
  ct := by rw [Loop1.STEP_main_v50_0, Loop1.STEP_main_v50_1]; exact h.ct
  xp := by rw [Loop1.STEP_main_v50_2, Loop1.STEP_main_v50_3]; exact h.xp
  a := by rw [Loop1.STEP_main_v50_4, Loop1.STEP_main_v50_5]; exact h.a
  ctr := by
    rw [Loop1.STEP_main_v50_6]
    unfold Loop1.step_main_v50_6
    rw [h.ctr]
    exact funext fun _ => (show BitVec.ofNat 32 k + BitVec.ofNat 32 1 = BitVec.ofNat 32 (k + 1) from by rw [← BitVec.ofNat_add])
  g := by
    rw [Loop1.STEP_main_v50_7, Loop1.STEP_main_v50_8]
    unfold Loop1.step_main_v50_7 Loop1.step_main_v50_8
    dsimp only [id]
    exact (pair_acc h.g (h.lam hk) (h.prev hk)).congr fun i => (Finset.sum_range_succ _ _).symm
  l := by
    rw [Loop1.STEP_main_v50_9, Loop1.STEP_main_v50_10]
    unfold Loop1.step_main_v50_9 Loop1.step_main_v50_10
    dsimp only [id]
    exact pair_cjmul h.a (h.lam hk)
  s := by
    rw [Loop1.STEP_main_v50_11, Loop1.STEP_main_v50_12]
    unfold Loop1.step_main_v50_11 Loop1.step_main_v50_12
    dsimp only [id]
    refine put_pair (Z := lams D k) (Z' := lams D (k + 1)) (X := fun q => D.back (k + 1) q) h.s (h.lam hk) (by omega : 2047 - k < 2048) ?_ ?_ ?_ fun t q => ?_
    · exact h.ix hk _
    · rfl
    · rfl
    unfold lams
    by_cases ht : t = 2047 - k
    · rw [if_pos ht, if_pos (by omega), ht]
      unfold Data.lam
      rw [show 2048 - (2047 - k) = k + 1 by omega]
    · rw [if_neg ht]
      exact if_congr (by omega) rfl rfl

theorem At1.iter (h : At1 D V 0) : ∀ k ≤ 2048, At1 D (Loop1.STEP^[k] V) k
  | 0, _ => h
  | k + 1, hk => by
    rw [Function.iterate_succ_apply']
    exact (At1.iter h k (by omega)).step (by omega)

end Cert.S5.Ref

end
-- ==== Proof.RefDots.lean ====
/- The reference's products, read at an entry. -/
module

public import proofs.«01_k».proof.Proof.RefSlots

@[expose] public section

set_option maxRecDepth 16384

noncomputable section

namespace Cert.S5.Ref

open Cert.ReferenceIdeal Cert.ReferenceIdeal.Gen
open Idealize.ShloMosaic Idealize.ShloMosaic.TcCoe

variable {U B C DY : ℕ → ℕ → ℝ}

/-- An entry of a matrix of reals, by its row and column. -/
theorem at2 {a b : ℕ} {v : (⟨2, ![a, b]⟩ : Shape).Idx → EReal} {V : ℕ → ℕ → ℝ} (h : IsR v V) (j : (⟨2, ![a, b]⟩ : Shape).Idx) (p q : ℕ)
    (hp : (j 0).val = p) (hq : (j 1).val = q) : v j = ((V p q : ℝ) : EReal) := by rw [h j, hp, hq]

/-- A stack of reals by time and column. -/
def IsG (v : FVec Ideal S2048x4x512 .f32) (Z : ℕ → ℕ → ℝ) : Prop := ∀ i, v i = ((Z (i 0).val (col3 i) : ℝ) : EReal)

theorem at3 {v : FVec Ideal S2048x4x512 .f32} {Z : ℕ → ℕ → ℝ} (h : IsG v Z) (j : S2048x4x512.Idx) (p q : ℕ)
    (hp : (j 0).val = p) (hq : 512 * (j 1).val + (j 2).val = q) : v j = ((Z p q : ℝ) : EReal) := by rw [h j, hp]; unfold col3; rw [hq]

/-- The driving terms: the inputs of a group against the input factors. -/
theorem bu_entry {b : FVec Ideal S128x2048 .bf16} {u : FVec Ideal S2048x512 .f32} (hb : IsR (a := 128) (b := 2048) b B) (hu : IsR (a := 2048) (b := 512) u U) (i : S2048x4x512.Idx) :
    transpose S2048x4x512 [2, 0, 1] (Host.dotGeneral (F := Ideal) dot_S128x4x512_S2048x4x128_S4x512x2048_0_2_2_0_1_1 none (shapeCast _ (extf .f32 b bitsLt_bf16_f32) shapeCasts_S128x2048_S128x4x512) (shapeCast _ u shapeCasts_S2048x512_S2048x4x128)) transposes_S4x512x2048_S2048x4x512_2_0_1 i
      = ((∑ k : Fin 128, U (i 0).val (128 * (i 1).val + k.val) * B k.val (col3 i) : ℝ) : EReal) := by
  simp only [pointwise]
  rw [zero_add]
  refine (dot_coe (f := fun k => B k.val (col3 i)) (g := fun k => U (i 0).val (128 * (i 1).val + k.val)) (fun k => at2 hb _ _ _ rfl ?_) (fun k => at2 hu _ _ _ rfl ?_)).trans ?_
  · dsimp [col3]; omega
  · dsimp; omega
  · simp only [mul_comm]

/-- The gradients arriving at the states: the output gradients of a group against the output factors. -/
theorem ct_entry {dy : FVec Ideal S2048x512 .bf16} {e : FVec Ideal S128x2048 .f32} (hd : IsR (a := 2048) (b := 512) dy DY) (he : IsR (a := 128) (b := 2048) e C) (i : S2048x4x512.Idx) :
    transpose S2048x4x512 [1, 0, 2] (Host.dotGeneral (F := Ideal) dot_S4x128x2048_S128x4x512_S4x2048x512_1_0_2_2_0_1 none (transpose S4x128x2048 [1, 2, 0] (shapeCast _ (extf .f32 dy bitsLt_bf16_f32) shapeCasts_S2048x512_S2048x4x128) transposes_S2048x4x128_S4x128x2048_1_2_0) (shapeCast _ e shapeCasts_S128x2048_S128x4x512)) transposes_S4x2048x512_S2048x4x512_1_0_2 i
      = ((∑ k : Fin 128, DY (i 0).val (128 * (i 1).val + k.val) * C k.val (col3 i) : ℝ) : EReal) := by
  simp only [pointwise]
  rw [zero_add]
  refine dot_coe (f := fun k => DY (i 0).val (128 * (i 1).val + k.val)) (g := fun k => C k.val (col3 i)) (fun k => at2 hd _ _ _ rfl ?_) (fun k => at2 he _ _ _ rfl ?_)
  · dsimp; omega
  · dsimp [col3]; omega

/-- The same with the output gradients negated. -/
theorem ct_entry_neg {dy : FVec Ideal S2048x512 .bf16} {e : FVec Ideal S128x2048 .f32} (hd : IsR (a := 2048) (b := 512) dy DY) (he : IsR (a := 128) (b := 2048) e C) (i : S2048x4x512.Idx) :
    transpose S2048x4x512 [1, 0, 2] (Host.dotGeneral (F := Ideal) dot_S4x128x2048_S128x4x512_S4x2048x512_1_0_2_2_0_1 none (transpose S4x128x2048 [1, 2, 0] (Host.negf (shapeCast _ (extf .f32 dy bitsLt_bf16_f32) shapeCasts_S2048x512_S2048x4x128)) transposes_S2048x4x128_S4x128x2048_1_2_0) (shapeCast _ e shapeCasts_S128x2048_S128x4x512)) transposes_S4x2048x512_S2048x4x512_1_0_2 i
      = ((-∑ k : Fin 128, DY (i 0).val (128 * (i 1).val + k.val) * C k.val (col3 i) : ℝ) : EReal) := by
  simp only [pointwise]
  rw [zero_add]
  refine (dot_coe (f := fun k => -DY (i 0).val (128 * (i 1).val + k.val)) (g := fun k => C k.val (col3 i)) (fun k => ?_) (fun k => at2 he _ _ _ rfl ?_)).trans ?_
  · rw [at2 hd _ (i 0).val (128 * (i 1).val + k.val) rfl (by dsimp; omega), EReal.coe_neg]
  · dsimp [col3]; omega
  · simp only [neg_mul, Finset.sum_neg_distrib]

/-- The output: the states of a group against the output factors, the imaginary part taken off. -/
theorem y_entry {e f : FVec Ideal S128x2048 .f32} {x w : FVec Ideal S2048x4x512 .f32} {Cr Ci X W : ℕ → ℕ → ℝ}
    (he : IsR (a := 128) (b := 2048) e Cr) (hf : IsR (a := 128) (b := 2048) f Ci) (hx : IsG x X) (hw : IsG w W) (i : S2048x512.Idx) :
    shapeCast S2048x512 (subf (transpose S2048x4x128 [2, 0, 1] (Host.dotGeneral (F := Ideal) dot_S128x4x512_S2048x4x512_S4x128x2048_2_2_0_0_1_1 none (shapeCast _ e shapeCasts_S128x2048_S128x4x512) x) transposes_S4x128x2048_S2048x4x128_2_0_1) (transpose S2048x4x128 [2, 0, 1] (Host.dotGeneral (F := Ideal) dot_S128x4x512_S2048x4x512_S4x128x2048_2_2_0_0_1_1 none (shapeCast _ f shapeCasts_S128x2048_S128x4x512) w) transposes_S4x128x2048_S2048x4x128_2_0_1)) shapeCasts_S2048x4x128_S2048x512 i
      = (((∑ p : Fin 512, X (i 0).val (512 * ((i 1).val / 128) + p.val) * Cr ((i 1).val % 128) (512 * ((i 1).val / 128) + p.val))
          - ∑ p : Fin 512, W (i 0).val (512 * ((i 1).val / 128) + p.val) * Ci ((i 1).val % 128) (512 * ((i 1).val / 128) + p.val) : ℝ) : EReal) := by
  simp only [pointwise]
  rw [zero_add, zero_add, EReal.coe_sub]
  congr 1
  · refine (dot_coe (f := fun p => Cr ((i 1).val % 128) (512 * ((i 1).val / 128) + p.val)) (g := fun p => X (i 0).val (512 * ((i 1).val / 128) + p.val)) (fun k => at2 he _ _ _ ?_ ?_) (fun k => at3 hx _ _ _ ?_ ?_)).trans ?_
    rotate_right
    · simp only [mul_comm]
    all_goals (dsimp; first | done | omega)
  · refine (dot_coe (f := fun p => Ci ((i 1).val % 128) (512 * ((i 1).val / 128) + p.val)) (g := fun p => W (i 0).val (512 * ((i 1).val / 128) + p.val)) (fun k => at2 hf _ _ _ ?_ ?_) (fun k => at3 hw _ _ _ ?_ ?_)).trans ?_
    rotate_right
    · simp only [mul_comm]
    all_goals (dsimp; first | done | omega)

/-- The gradients of the output factors: the output gradients of a group against the states, over the times. -/
theorem dc_entry {dy : FVec Ideal S2048x512 .bf16} {x : FVec Ideal S2048x4x512 .f32} {X : ℕ → ℕ → ℝ} (hd : IsR (a := 2048) (b := 512) dy DY) (hx : IsG x X) (i : S128x2048.Idx) :
    shapeCast S128x2048 (transpose S128x4x512 [1, 0, 2] (Host.dotGeneral (F := Ideal) dot_S4x128x2048_S2048x4x512_S4x128x512_2_0_1_2_0_1 none (transpose S4x128x2048 [1, 2, 0] (shapeCast _ (extf .f32 dy bitsLt_bf16_f32) shapeCasts_S2048x512_S2048x4x128) transposes_S2048x4x128_S4x128x2048_1_2_0) x) transposes_S4x128x512_S128x4x512_1_0_2) shapeCasts_S128x4x512_S128x2048 i
      = ((∑ k : Fin 2048, DY k.val (128 * ((i 1).val / 512) + (i 0).val) * X k.val (i 1).val : ℝ) : EReal) := by
  simp only [pointwise]
  rw [zero_add]
  refine dot_coe (f := fun k => DY k.val (128 * ((i 1).val / 512) + (i 0).val)) (g := fun k => X k.val (i 1).val) (fun k => at2 hd _ _ _ rfl ?_) (fun k => at3 hx _ _ _ rfl ?_)
  · dsimp; omega
  · dsimp; omega

/-- The same with the output gradients negated. -/
theorem dc_entry_neg {dy : FVec Ideal S2048x512 .bf16} {x : FVec Ideal S2048x4x512 .f32} {X : ℕ → ℕ → ℝ} (hd : IsR (a := 2048) (b := 512) dy DY) (hx : IsG x X) (i : S128x2048.Idx) :
    shapeCast S128x2048 (transpose S128x4x512 [1, 0, 2] (Host.dotGeneral (F := Ideal) dot_S4x128x2048_S2048x4x512_S4x128x512_2_0_1_2_0_1 none (transpose S4x128x2048 [1, 2, 0] (Host.negf (shapeCast _ (extf .f32 dy bitsLt_bf16_f32) shapeCasts_S2048x512_S2048x4x128)) transposes_S2048x4x128_S4x128x2048_1_2_0) x) transposes_S4x128x512_S128x4x512_1_0_2) shapeCasts_S128x4x512_S128x2048 i
      = ((-∑ k : Fin 2048, DY k.val (128 * ((i 1).val / 512) + (i 0).val) * X k.val (i 1).val : ℝ) : EReal) := by
  simp only [pointwise]
  rw [zero_add]
  refine (dot_coe (f := fun k => -DY k.val (128 * ((i 1).val / 512) + (i 0).val)) (g := fun k => X k.val (i 1).val) (fun k => ?_) (fun k => at3 hx _ _ _ rfl ?_)).trans ?_
  · rw [at2 hd _ k.val (128 * ((i 1).val / 512) + (i 0).val) rfl (by dsimp; omega), EReal.coe_neg]
  · dsimp; omega
  · simp only [neg_mul, Finset.sum_neg_distrib]

/-- The gradient of the input: the states' gradients of a group against the input factors, both parts. -/
theorem du_entry {e f : FVec Ideal S128x2048 .bf16} {x w : FVec Ideal S2048x4x512 .f32} {E G X W : ℕ → ℕ → ℝ}
    (he : IsR (a := 128) (b := 2048) e E) (hf : IsR (a := 128) (b := 2048) f G) (hx : IsG x X) (hw : IsG w W) (i : S2048x512.Idx) :
    shapeCast S2048x512 (addf (transpose S2048x4x128 [1, 0, 2] (Host.dotGeneral (F := Ideal) dot_S4x512x2048_S128x4x512_S4x2048x128_1_2_2_0_0_1 none (transpose S4x512x2048 [1, 2, 0] w transposes_S2048x4x512_S4x512x2048_1_2_0) (shapeCast _ (extf .f32 f bitsLt_bf16_f32) shapeCasts_S128x2048_S128x4x512)) transposes_S4x2048x128_S2048x4x128_1_0_2) (transpose S2048x4x128 [1, 0, 2] (Host.dotGeneral (F := Ideal) dot_S4x512x2048_S128x4x512_S4x2048x128_1_2_2_0_0_1 none (transpose S4x512x2048 [1, 2, 0] x transposes_S2048x4x512_S4x512x2048_1_2_0) (shapeCast _ (extf .f32 e bitsLt_bf16_f32) shapeCasts_S128x2048_S128x4x512)) transposes_S4x2048x128_S2048x4x128_1_0_2)) shapeCasts_S2048x4x128_S2048x512 i
      = (((∑ p : Fin 512, X (i 0).val (512 * ((i 1).val / 128) + p.val) * E ((i 1).val % 128) (512 * ((i 1).val / 128) + p.val))
          + ∑ p : Fin 512, W (i 0).val (512 * ((i 1).val / 128) + p.val) * G ((i 1).val % 128) (512 * ((i 1).val / 128) + p.val) : ℝ) : EReal) := by
  simp only [pointwise]
  rw [zero_add, zero_add, EReal.coe_add, add_comm]
  congr 1
  · refine dot_coe (f := fun p => X (i 0).val (512 * ((i 1).val / 128) + p.val)) (g := fun p => E ((i 1).val % 128) (512 * ((i 1).val / 128) + p.val)) (fun k => at3 hx _ _ _ ?_ ?_) (fun k => at2 he _ _ _ ?_ ?_)
    all_goals (dsimp; first | done | omega)
  · refine dot_coe (f := fun p => W (i 0).val (512 * ((i 1).val / 128) + p.val)) (g := fun p => G ((i 1).val % 128) (512 * ((i 1).val / 128) + p.val)) (fun k => at3 hw _ _ _ ?_ ?_) (fun k => at2 hf _ _ _ ?_ ?_)
    all_goals (dsimp; first | done | omega)

/-- The gradients of the input factors: the inputs of a group against the states' gradients, over the times. -/
theorem db_entry {u : FVec Ideal S2048x512 .f32} {x : FVec Ideal S2048x4x512 .f32} {X : ℕ → ℕ → ℝ} (hu : IsR (a := 2048) (b := 512) u U) (hx : IsG x X) (i : S128x2048.Idx) :
    shapeCast S128x2048 (transpose S128x4x512 [2, 0, 1] (Host.dotGeneral (F := Ideal) dot_S4x512x2048_S2048x4x128_S4x512x128_2_0_1_2_0_1 none (transpose S4x512x2048 [1, 2, 0] x transposes_S2048x4x512_S4x512x2048_1_2_0) (shapeCast _ u shapeCasts_S2048x512_S2048x4x128)) transposes_S4x512x128_S128x4x512_2_0_1) shapeCasts_S128x4x512_S128x2048 i
      = ((∑ k : Fin 2048, U k.val (128 * ((i 1).val / 512) + (i 0).val) * X k.val (i 1).val : ℝ) : EReal) := by
  simp only [pointwise]
  rw [zero_add]
  refine (dot_coe (f := fun k => X k.val (i 1).val) (g := fun k => U k.val (128 * ((i 1).val / 512) + (i 0).val)) (fun k => at3 hx _ _ _ rfl ?_) (fun k => at2 hu _ _ _ rfl ?_)).trans ?_
  · dsimp; omega
  · dsimp; omega
  · simp only [mul_comm]

/-- A row of multipliers read by group and place. -/
theorem mult_entry {v w : FVec Ideal S1x2048 .f32} {A : ℕ → ℂ} (h : IsC (s := S1x2048) v w (fun i => A (i 1).val)) :
    IsC (s := S4x512) (shapeCast S4x512 v shapeCasts_S1x2048_S4x512) (shapeCast S4x512 w shapeCasts_S1x2048_S4x512) (fun i => A (col i)) := by
  have e : ∀ i : S4x512.Idx, (i 0).val * 512 + (i 1).val = col i := fun i => by unfold col; omega
  constructor <;> intro i <;> simp only [pointwise]
  · exact (h.re _).trans (by dsimp; rw [e])
  · exact (h.im _).trans (by dsimp; rw [e])

/-- A group's row laid out as one row. -/
theorem row_entry {v : FVec Ideal S4x512 .f32} {A : ℕ → ℝ} (h : ∀ i, v i = ((A (col i) : ℝ) : EReal)) (i : S1x2048.Idx) :
    shapeCast S1x2048 v shapeCasts_S4x512_S1x2048 i = ((A (i 1).val : ℝ) : EReal) := by
  simp only [pointwise]
  refine (h _).trans ?_
  unfold col
  dsimp
  rw [Nat.div_add_mod]

/-- A constant zero, spread out. -/
theorem zero_entry {s : Shape} (h : S_.BroadcastsInDim s ![]) (i : s.Idx) : broadcastInDim s ![] h (constant (F := Ideal) S_ .f32 0x00000000#32) i = 0 := by
  simp only [pointwise]

end Cert.S5.Ref

end
-- ==== Proof.RefRead.lean ====
/- What the reference's stretches of host operations leave in the buffers read later. -/
module

public import proofs.«01_k».proof.Proof.RefOps

@[expose] public section

set_option maxRecDepth 1400

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

set_option maxRecDepth 8192 in
set_option maxHeartbeats 2000000 in
/-- `main_v18_0` after `hostOps0`. -/
theorem hostOps0_main_v18_0 (V0 : Valuation τ sig (Elt F)) : after hostOps0 V0 (Proc.devRef .tc main_v18_0) =
    id (transpose S2048x4x512 [2, 0, 1] (Host.dotGeneral dot_S128x4x512_S2048x4x128_S4x512x2048_0_2_2_0_1_1 none (shapeCast _ (extf .f32 (V0 (Proc.devRef .tc main_arg3)) bitsLt_bf16_f32) shapeCasts_S128x2048_S128x4x512) (shapeCast _ (V0 (Proc.devRef .tc main_arg0)) shapeCasts_S2048x512_S2048x4x128)) transposes_S4x512x2048_S2048x4x512_2_0_1) := by
  simp only [hostOps0]
  after_results_entrywise []

set_option maxRecDepth 8192 in
set_option maxHeartbeats 2000000 in
/-- `main_v18_1` after `hostOps0`. -/
theorem hostOps0_main_v18_1 (V0 : Valuation τ sig (Elt F)) : after hostOps0 V0 (Proc.devRef .tc main_v18_1) =
    id (transpose S2048x4x512 [2, 0, 1] (Host.dotGeneral dot_S128x4x512_S2048x4x128_S4x512x2048_0_2_2_0_1_1 none (shapeCast _ (extf .f32 (V0 (Proc.devRef .tc main_arg4)) bitsLt_bf16_f32) shapeCasts_S128x2048_S128x4x512) (shapeCast _ (V0 (Proc.devRef .tc main_arg0)) shapeCasts_S2048x512_S2048x4x128)) transposes_S4x512x2048_S2048x4x512_2_0_1) := by
  simp only [hostOps0]
  after_results_entrywise []

set_option maxRecDepth 8192 in
set_option maxHeartbeats 2000000 in
/-- `main_v18_2` after `hostOps0`. -/
theorem hostOps0_main_v18_2 (V0 : Valuation τ sig (Elt F)) : after hostOps0 V0 (Proc.devRef .tc main_v18_2) =
    id (shapeCast _ (V0 (Proc.devRef .tc main_arg7)) shapeCasts_S1x2048_S4x512) := by
  simp only [hostOps0]
  after_results_entrywise []

set_option maxRecDepth 8192 in
set_option maxHeartbeats 2000000 in
/-- `main_v18_3` after `hostOps0`. -/
theorem hostOps0_main_v18_3 (V0 : Valuation τ sig (Elt F)) : after hostOps0 V0 (Proc.devRef .tc main_v18_3) =
    id (shapeCast _ (V0 (Proc.devRef .tc main_arg8)) shapeCasts_S1x2048_S4x512) := by
  simp only [hostOps0]
  after_results_entrywise []

set_option maxRecDepth 8192 in
set_option maxHeartbeats 2000000 in
/-- `main_v18_4` after `hostOps0`. -/
theorem hostOps0_main_v18_4 (V0 : Valuation τ sig (Elt F)) : after hostOps0 V0 (Proc.devRef .tc main_v18_4) =
    id (constantI S_ 32 0#32) := by
  simp only [hostOps0]
  after_results_entrywise []

set_option maxRecDepth 8192 in
set_option maxHeartbeats 2000000 in
/-- `main_v18_5` after `hostOps0`. -/
theorem hostOps0_main_v18_5 (V0 : Valuation τ sig (Elt F)) : after hostOps0 V0 (Proc.devRef .tc main_v18_5) =
    id (broadcastInDim S4x512 ![] bcast_S_S4x512 (constant S_ .f32 0x00000000#32)) := by
  simp only [hostOps0]
  after_results_entrywise []

set_option maxRecDepth 8192 in
set_option maxHeartbeats 2000000 in
/-- `main_v18_6` after `hostOps0`. -/
theorem hostOps0_main_v18_6 (V0 : Valuation τ sig (Elt F)) : after hostOps0 V0 (Proc.devRef .tc main_v18_6) =
    id (broadcastInDim S4x512 ![] bcast_S_S4x512 (constant S_ .f32 0x00000000#32)) := by
  simp only [hostOps0]
  after_results_entrywise []

set_option maxRecDepth 8192 in
set_option maxHeartbeats 2000000 in
/-- `main_v18_7` after `hostOps0`. -/
theorem hostOps0_main_v18_7 (V0 : Valuation τ sig (Elt F)) : after hostOps0 V0 (Proc.devRef .tc main_v18_7) =
    id (broadcastInDim S2048x4x512 ![] bcast_S_S2048x4x512 (constant S_ .f32 0x00000000#32)) := by
  simp only [hostOps0]
  after_results_entrywise []

set_option maxRecDepth 8192 in
set_option maxHeartbeats 2000000 in
/-- `main_v18_8` after `hostOps0`. -/
theorem hostOps0_main_v18_8 (V0 : Valuation τ sig (Elt F)) : after hostOps0 V0 (Proc.devRef .tc main_v18_8) =
    id (broadcastInDim S2048x4x512 ![] bcast_S_S2048x4x512 (constant S_ .f32 0x00000000#32)) := by
  simp only [hostOps0]
  after_results_entrywise []

set_option maxRecDepth 8192 in
set_option maxHeartbeats 2000000 in
/-- `main_v18_9` after `hostOps0`. -/
theorem hostOps0_main_v18_9 (V0 : Valuation τ sig (Elt F)) : after hostOps0 V0 (Proc.devRef .tc main_v18_9) =
    id (broadcastInDim S2048x4x512 ![] bcast_S_S2048x4x512 (constant S_ .f32 0x00000000#32)) := by
  simp only [hostOps0]
  after_results_entrywise []

set_option maxRecDepth 8192 in
set_option maxHeartbeats 2000000 in
/-- `main_v18_10` after `hostOps0`. -/
theorem hostOps0_main_v18_10 (V0 : Valuation τ sig (Elt F)) : after hostOps0 V0 (Proc.devRef .tc main_v18_10) =
    id (broadcastInDim S2048x4x512 ![] bcast_S_S2048x4x512 (constant S_ .f32 0x00000000#32)) := by
  simp only [hostOps0]
  after_results_entrywise []

set_option maxRecDepth 8192 in
set_option maxHeartbeats 2000000 in
/-- `main_v2` after `hostOps0`. -/
theorem hostOps0_main_v2 (V0 : Valuation τ sig (Elt F)) : after hostOps0 V0 (Proc.devRef .tc main_v2) =
    extf .f32 (V0 (Proc.devRef .tc main_arg5)) bitsLt_bf16_f32 := by
  simp only [hostOps0]
  after_results_entrywise []

set_option maxRecDepth 8192 in
set_option maxHeartbeats 2000000 in
/-- `main_v3` after `hostOps0`. -/
theorem hostOps0_main_v3 (V0 : Valuation τ sig (Elt F)) : after hostOps0 V0 (Proc.devRef .tc main_v3) =
    extf .f32 (V0 (Proc.devRef .tc main_arg6)) bitsLt_bf16_f32 := by
  simp only [hostOps0]
  after_results_entrywise []

set_option maxRecDepth 8192 in
set_option maxHeartbeats 2000000 in
/-- `main_v4` after `hostOps0`. -/
theorem hostOps0_main_v4 (V0 : Valuation τ sig (Elt F)) : after hostOps0 V0 (Proc.devRef .tc main_v4) =
    shapeCast _ (V0 (Proc.devRef .tc main_arg0)) shapeCasts_S2048x512_S2048x4x128 := by
  simp only [hostOps0]
  after_results_entrywise []

set_option maxRecDepth 8192 in
set_option maxHeartbeats 2000000 in
/-- `main_v5` after `hostOps0`. -/
theorem hostOps0_main_v5 (V0 : Valuation τ sig (Elt F)) : after hostOps0 V0 (Proc.devRef .tc main_v5) =
    shapeCast _ (extf .f32 (V0 (Proc.devRef .tc main_arg3)) bitsLt_bf16_f32) shapeCasts_S128x2048_S128x4x512 := by
  simp only [hostOps0]
  after_results_entrywise []

set_option maxRecDepth 8192 in
set_option maxHeartbeats 2000000 in
/-- `main_v8` after `hostOps0`. -/
theorem hostOps0_main_v8 (V0 : Valuation τ sig (Elt F)) : after hostOps0 V0 (Proc.devRef .tc main_v8) =
    shapeCast _ (extf .f32 (V0 (Proc.devRef .tc main_arg4)) bitsLt_bf16_f32) shapeCasts_S128x2048_S128x4x512 := by
  simp only [hostOps0]
  after_results_entrywise []

set_option maxRecDepth 8192 in
set_option maxHeartbeats 2000000 in
/-- `main_v11` after `hostOps0`. -/
theorem hostOps0_main_v11 (V0 : Valuation τ sig (Elt F)) : after hostOps0 V0 (Proc.devRef .tc main_v11) =
    shapeCast _ (V0 (Proc.devRef .tc main_arg7)) shapeCasts_S1x2048_S4x512 := by
  simp only [hostOps0]
  after_results_entrywise []

set_option maxRecDepth 8192 in
set_option maxHeartbeats 2000000 in
/-- `main_v12` after `hostOps0`. -/
theorem hostOps0_main_v12 (V0 : Valuation τ sig (Elt F)) : after hostOps0 V0 (Proc.devRef .tc main_v12) =
    shapeCast _ (V0 (Proc.devRef .tc main_arg8)) shapeCasts_S1x2048_S4x512 := by
  simp only [hostOps0]
  after_results_entrywise []

set_option maxRecDepth 8192 in
set_option maxHeartbeats 2000000 in
/-- `main_v50_0` after `hostOps0_1`. -/
theorem hostOps0_1_main_v50_0 (V0 : Valuation τ sig (Elt F)) : after hostOps0_1 V0 (Proc.devRef .tc main_v50_0) =
    id (transpose S2048x4x512 [1, 0, 2] (Host.dotGeneral dot_S4x128x2048_S128x4x512_S4x2048x512_1_0_2_2_0_1 none (transpose S4x128x2048 [1, 2, 0] (shapeCast _ (extf .f32 (V0 (Proc.devRef .tc main_arg1)) bitsLt_bf16_f32) shapeCasts_S2048x512_S2048x4x128) transposes_S2048x4x128_S4x128x2048_1_2_0) (shapeCast _ (V0 (Proc.devRef .tc main_v2)) shapeCasts_S128x2048_S128x4x512)) transposes_S4x2048x512_S2048x4x512_1_0_2) := by
  simp only [hostOps0_1]
  after_results_entrywise []

set_option maxRecDepth 8192 in
set_option maxHeartbeats 2000000 in
/-- `main_v50_1` after `hostOps0_1`. -/
theorem hostOps0_1_main_v50_1 (V0 : Valuation τ sig (Elt F)) : after hostOps0_1 V0 (Proc.devRef .tc main_v50_1) =
    id (transpose S2048x4x512 [1, 0, 2] (Host.dotGeneral dot_S4x128x2048_S128x4x512_S4x2048x512_1_0_2_2_0_1 none (transpose S4x128x2048 [1, 2, 0] (Host.negf (shapeCast _ (extf .f32 (V0 (Proc.devRef .tc main_arg1)) bitsLt_bf16_f32) shapeCasts_S2048x512_S2048x4x128)) transposes_S2048x4x128_S4x128x2048_1_2_0) (shapeCast _ (V0 (Proc.devRef .tc main_v3)) shapeCasts_S128x2048_S128x4x512)) transposes_S4x2048x512_S2048x4x512_1_0_2) := by
  simp only [hostOps0_1]
  after_results_entrywise []

set_option maxRecDepth 8192 in
set_option maxHeartbeats 2000000 in
/-- `main_v50_2` after `hostOps0_1`. -/
theorem hostOps0_1_main_v50_2 (V0 : Valuation τ sig (Elt F)) : after hostOps0_1 V0 (Proc.devRef .tc main_v50_2) =
    id (V0 (Proc.devRef .tc main_v18_9)) := by
  simp only [hostOps0_1]
  after_results_entrywise []

set_option maxRecDepth 8192 in
set_option maxHeartbeats 2000000 in
/-- `main_v50_3` after `hostOps0_1`. -/
theorem hostOps0_1_main_v50_3 (V0 : Valuation τ sig (Elt F)) : after hostOps0_1 V0 (Proc.devRef .tc main_v50_3) =
    id (V0 (Proc.devRef .tc main_v18_10)) := by
  simp only [hostOps0_1]
  after_results_entrywise []

set_option maxRecDepth 8192 in
set_option maxHeartbeats 2000000 in
/-- `main_v50_4` after `hostOps0_1`. -/
theorem hostOps0_1_main_v50_4 (V0 : Valuation τ sig (Elt F)) : after hostOps0_1 V0 (Proc.devRef .tc main_v50_4) =
    id (V0 (Proc.devRef .tc main_v11)) := by
  simp only [hostOps0_1]
  after_results_entrywise []

set_option maxRecDepth 8192 in
set_option maxHeartbeats 2000000 in
/-- `main_v50_5` after `hostOps0_1`. -/
theorem hostOps0_1_main_v50_5 (V0 : Valuation τ sig (Elt F)) : after hostOps0_1 V0 (Proc.devRef .tc main_v50_5) =
    id (V0 (Proc.devRef .tc main_v12)) := by
  simp only [hostOps0_1]
  after_results_entrywise []

set_option maxRecDepth 8192 in
set_option maxHeartbeats 2000000 in
/-- `main_v50_6` after `hostOps0_1`. -/
theorem hostOps0_1_main_v50_6 (V0 : Valuation τ sig (Elt F)) : after hostOps0_1 V0 (Proc.devRef .tc main_v50_6) =
    id (constantI S_ 32 0#32) := by
  simp only [hostOps0_1]
  after_results_entrywise []

set_option maxRecDepth 8192 in
set_option maxHeartbeats 2000000 in
/-- `main_v50_7` after `hostOps0_1`. -/
theorem hostOps0_1_main_v50_7 (V0 : Valuation τ sig (Elt F)) : after hostOps0_1 V0 (Proc.devRef .tc main_v50_7) =
    id (broadcastInDim S4x512 ![] bcast_S_S4x512 (constant S_ .f32 0x00000000#32)) := by
  simp only [hostOps0_1]
  after_results_entrywise []

set_option maxRecDepth 8192 in
set_option maxHeartbeats 2000000 in
/-- `main_v50_8` after `hostOps0_1`. -/
theorem hostOps0_1_main_v50_8 (V0 : Valuation τ sig (Elt F)) : after hostOps0_1 V0 (Proc.devRef .tc main_v50_8) =
    id (broadcastInDim S4x512 ![] bcast_S_S4x512 (constant S_ .f32 0x00000000#32)) := by
  simp only [hostOps0_1]
  after_results_entrywise []

set_option maxRecDepth 8192 in
set_option maxHeartbeats 2000000 in
/-- `main_v50_9` after `hostOps0_1`. -/
theorem hostOps0_1_main_v50_9 (V0 : Valuation τ sig (Elt F)) : after hostOps0_1 V0 (Proc.devRef .tc main_v50_9) =
    id (broadcastInDim S4x512 ![] bcast_S_S4x512 (constant S_ .f32 0x00000000#32)) := by
  simp only [hostOps0_1]
  after_results_entrywise []

set_option maxRecDepth 8192 in
set_option maxHeartbeats 2000000 in
/-- `main_v50_10` after `hostOps0_1`. -/
theorem hostOps0_1_main_v50_10 (V0 : Valuation τ sig (Elt F)) : after hostOps0_1 V0 (Proc.devRef .tc main_v50_10) =
    id (broadcastInDim S4x512 ![] bcast_S_S4x512 (constant S_ .f32 0x00000000#32)) := by
  simp only [hostOps0_1]
  after_results_entrywise []

set_option maxRecDepth 8192 in
set_option maxHeartbeats 2000000 in
/-- `main_v50_11` after `hostOps0_1`. -/
theorem hostOps0_1_main_v50_11 (V0 : Valuation τ sig (Elt F)) : after hostOps0_1 V0 (Proc.devRef .tc main_v50_11) =
    id (broadcastInDim S2048x4x512 ![] bcast_S_S2048x4x512 (constant S_ .f32 0x00000000#32)) := by
  simp only [hostOps0_1]
  after_results_entrywise []

set_option maxRecDepth 8192 in
set_option maxHeartbeats 2000000 in
/-- `main_v50_12` after `hostOps0_1`. -/
theorem hostOps0_1_main_v50_12 (V0 : Valuation τ sig (Elt F)) : after hostOps0_1 V0 (Proc.devRef .tc main_v50_12) =
    id (broadcastInDim S2048x4x512 ![] bcast_S_S2048x4x512 (constant S_ .f32 0x00000000#32)) := by
  simp only [hostOps0_1]
  after_results_entrywise []

set_option maxRecDepth 8192 in
set_option maxHeartbeats 2000000 in
/-- `main_v26` after `hostOps0_1`. -/
theorem hostOps0_1_main_v26 (V0 : Valuation τ sig (Elt F)) : after hostOps0_1 V0 (Proc.devRef .tc main_v26) =
    shapeCast _ (subf (transpose S2048x4x128 [2, 0, 1] (Host.dotGeneral dot_S128x4x512_S2048x4x512_S4x128x2048_2_2_0_0_1_1 none (shapeCast _ (V0 (Proc.devRef .tc main_v2)) shapeCasts_S128x2048_S128x4x512) (V0 (Proc.devRef .tc main_v18_7))) transposes_S4x128x2048_S2048x4x128_2_0_1) (transpose S2048x4x128 [2, 0, 1] (Host.dotGeneral dot_S128x4x512_S2048x4x512_S4x128x2048_2_2_0_0_1_1 none (shapeCast _ (V0 (Proc.devRef .tc main_v3)) shapeCasts_S128x2048_S128x4x512) (V0 (Proc.devRef .tc main_v18_8))) transposes_S4x128x2048_S2048x4x128_2_0_1)) shapeCasts_S2048x4x128_S2048x512 := by
  simp only [hostOps0_1]
  after_results_entrywise []

set_option maxRecDepth 8192 in
set_option maxHeartbeats 2000000 in
/-- `main_v37` after `hostOps0_1`. -/
theorem hostOps0_1_main_v37 (V0 : Valuation τ sig (Elt F)) : after hostOps0_1 V0 (Proc.devRef .tc main_v37) =
    shapeCast _ (transpose S128x4x512 [1, 0, 2] (Host.dotGeneral dot_S4x128x2048_S2048x4x512_S4x128x512_2_0_1_2_0_1 none (transpose S4x128x2048 [1, 2, 0] (Host.negf (shapeCast _ (extf .f32 (V0 (Proc.devRef .tc main_arg1)) bitsLt_bf16_f32) shapeCasts_S2048x512_S2048x4x128)) transposes_S2048x4x128_S4x128x2048_1_2_0) (V0 (Proc.devRef .tc main_v18_8))) transposes_S4x128x512_S128x4x512_1_0_2) shapeCasts_S128x4x512_S128x2048 := by
  simp only [hostOps0_1]
  after_results_entrywise []

set_option maxRecDepth 8192 in
set_option maxHeartbeats 2000000 in
/-- `main_v43` after `hostOps0_1`. -/
theorem hostOps0_1_main_v43 (V0 : Valuation τ sig (Elt F)) : after hostOps0_1 V0 (Proc.devRef .tc main_v43) =
    shapeCast _ (transpose S128x4x512 [1, 0, 2] (Host.dotGeneral dot_S4x128x2048_S2048x4x512_S4x128x512_2_0_1_2_0_1 none (transpose S4x128x2048 [1, 2, 0] (shapeCast _ (extf .f32 (V0 (Proc.devRef .tc main_arg1)) bitsLt_bf16_f32) shapeCasts_S2048x512_S2048x4x128) transposes_S2048x4x128_S4x128x2048_1_2_0) (V0 (Proc.devRef .tc main_v18_7))) transposes_S4x128x512_S128x4x512_1_0_2) shapeCasts_S128x4x512_S128x2048 := by
  simp only [hostOps0_1]
  after_results_entrywise []

set_option maxRecDepth 8192 in
set_option maxHeartbeats 2000000 in
/-- `main_v67` after `hostOps0_2`. -/
theorem hostOps0_2_main_v67 (V0 : Valuation τ sig (Elt F)) : after hostOps0_2 V0 (Proc.devRef .tc main_v67) =
    addf (V0 (Proc.devRef .tc main_arg2)) (shapeCast _ (addf (transpose S2048x4x128 [1, 0, 2] (Host.dotGeneral dot_S4x512x2048_S128x4x512_S4x2048x128_1_2_2_0_0_1 none (transpose S4x512x2048 [1, 2, 0] (V0 (Proc.devRef .tc main_v50_12)) transposes_S2048x4x512_S4x512x2048_1_2_0) (V0 (Proc.devRef .tc main_v8))) transposes_S4x2048x128_S2048x4x128_1_0_2) (transpose S2048x4x128 [1, 0, 2] (Host.dotGeneral dot_S4x512x2048_S128x4x512_S4x2048x128_1_2_2_0_0_1 none (transpose S4x512x2048 [1, 2, 0] (V0 (Proc.devRef .tc main_v50_11)) transposes_S2048x4x512_S4x512x2048_1_2_0) (V0 (Proc.devRef .tc main_v5))) transposes_S4x2048x128_S2048x4x128_1_0_2)) shapeCasts_S2048x4x128_S2048x512) := by
  simp only [hostOps0_2]
  after_results_entrywise []

set_option maxRecDepth 8192 in
set_option maxHeartbeats 2000000 in
/-- `main_v68` after `hostOps0_2`. -/
theorem hostOps0_2_main_v68 (V0 : Valuation τ sig (Elt F)) : after hostOps0_2 V0 (Proc.devRef .tc main_v68) =
    Host.negf (V0 (Proc.devRef .tc main_v37)) := by
  simp only [hostOps0_2]
  after_results_entrywise []

set_option maxRecDepth 8192 in
set_option maxHeartbeats 2000000 in
/-- `main_v65` after `hostOps0_2`. -/
theorem hostOps0_2_main_v65 (V0 : Valuation τ sig (Elt F)) : after hostOps0_2 V0 (Proc.devRef .tc main_v65) =
    shapeCast _ (transpose S128x4x512 [2, 0, 1] (Host.dotGeneral dot_S4x512x2048_S2048x4x128_S4x512x128_2_0_1_2_0_1 none (transpose S4x512x2048 [1, 2, 0] (V0 (Proc.devRef .tc main_v50_11)) transposes_S2048x4x512_S4x512x2048_1_2_0) (V0 (Proc.devRef .tc main_v4))) transposes_S4x512x128_S128x4x512_2_0_1) shapeCasts_S128x4x512_S128x2048 := by
  simp only [hostOps0_2]
  after_results_entrywise []

set_option maxRecDepth 8192 in
set_option maxHeartbeats 2000000 in
/-- `main_v58` after `hostOps0_2`. -/
theorem hostOps0_2_main_v58 (V0 : Valuation τ sig (Elt F)) : after hostOps0_2 V0 (Proc.devRef .tc main_v58) =
    shapeCast _ (transpose S128x4x512 [2, 0, 1] (Host.dotGeneral dot_S4x512x2048_S2048x4x128_S4x512x128_2_0_1_2_0_1 none (transpose S4x512x2048 [1, 2, 0] (V0 (Proc.devRef .tc main_v50_12)) transposes_S2048x4x512_S4x512x2048_1_2_0) (V0 (Proc.devRef .tc main_v4))) transposes_S4x512x128_S128x4x512_2_0_1) shapeCasts_S128x4x512_S128x2048 := by
  simp only [hostOps0_2]
  after_results_entrywise []

set_option maxRecDepth 8192 in
set_option maxHeartbeats 2000000 in
/-- `main_v52` after `hostOps0_2`. -/
theorem hostOps0_2_main_v52 (V0 : Valuation τ sig (Elt F)) : after hostOps0_2 V0 (Proc.devRef .tc main_v52) =
    shapeCast _ (V0 (Proc.devRef .tc main_v50_7)) shapeCasts_S4x512_S1x2048 := by
  simp only [hostOps0_2]
  after_results_entrywise []

set_option maxRecDepth 8192 in
set_option maxHeartbeats 2000000 in
/-- `main_v51` after `hostOps0_2`. -/
theorem hostOps0_2_main_v51 (V0 : Valuation τ sig (Elt F)) : after hostOps0_2 V0 (Proc.devRef .tc main_v51) =
    shapeCast _ (V0 (Proc.devRef .tc main_v50_8)) shapeCasts_S4x512_S1x2048 := by
  simp only [hostOps0_2]
  after_results_entrywise []

end Cert.ReferenceIdeal.Host

end
-- ==== Proof.RefRun.lean ====
/- The reference's run: stretches of host operations around its two counted loops, as segments; every unscoped buffer ends at the fold
   `final`, every argument as launched, every counter at zero. -/
module

public import proofs.«01_k».proof.Proof.RefLoop0
public import proofs.«01_k».proof.Proof.RefLoop1

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0

theorem noCell : Function.Injective (Pipeline.cellOf (nD := nD) (τ := τ) (Pipeline.pin (pcfgs (F := F)) noAdm)) := fun k => k.1.elim0

/-- What rides along beside the buffers: the core owes nothing. -/
abbrev rest (c : Dev nD) : sProp 𝕄 := iprop(∃ W, owes (c : Thread nD τ) (0 : CellTallies nD τ sig Unit) W)

theorem ride {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (Ix := Unit) (Name := ℕ) (U := Option PUnit) (Lvl := ℕ) (pcfgs (F := F)) defs₀ Variants.none loops rest cond condOps bodyI W₀ n :=
  fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ rest c)
        ⊢ (iprop(⌜v = 1#1 ↔ k < n⌝ ∗ boundary (c : Thread nD τ) ∗ held (c : Thread nD τ) (ucRefs τ sig) (after condOps (atTrip condOps bodyI W₀ k c)) ∗ rest c) : sProp 𝕄) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

variable (m : (ℓ : Loc nD τ sig) → Buf (Elt F) ℓ) (ρ : Dev nD → PrngReg)

/-- The buffers as loop 0 is entered, as it is left, as loop 1 is entered, as it is left, and at the end. -/
def enter0 (c : Dev nD) : Valuation τ sig (Elt F) := after hostOps0 (launchContents m c)
def leave0 (c : Dev nD) : Valuation τ sig (Elt F) := after Loop0.condOps (atTrip Loop0.condOps Loop0.bodyI (enter0 m) 2048 c)
def enter1 (c : Dev nD) : Valuation τ sig (Elt F) := after hostOps0_1 (leave0 m c)
def leave1 (c : Dev nD) : Valuation τ sig (Elt F) := after Loop1.condOps (atTrip Loop1.condOps Loop1.bodyI (enter1 m) 2048 c)
def final (c : Dev nD) : Valuation τ sig (Elt F) := after hostOps0_2 (leave1 m c)

theorem enter0_ctr (c : Dev nD) : enter0 m c (Proc.devRef .tc main_v18_4) = fun _ => (0#32 : BitVec 32) := by
  unfold enter0
  after_reads_simp
  rfl

theorem enter1_ctr (c : Dev nD) : enter1 m c (Proc.devRef .tc main_v50_6) = fun _ => (0#32 : BitVec 32) := by
  unfold enter1
  after_reads_simp
  rfl

theorem cond0 : LoopCond (Ix := Unit) (Name := ℕ) (U := Option PUnit) (Lvl := ℕ) (pcfgs (F := F)) defs₀ Variants.none loops rest
    (main_while0_cond (F := F)) Loop0.condOps Loop0.bodyI (enter0 m) 2048 := ride (Loop0.cond_spec _ (enter0_ctr m))
theorem cond1 : LoopCond (Ix := Unit) (Name := ℕ) (U := Option PUnit) (Lvl := ℕ) (pcfgs (F := F)) defs₀ Variants.none loops rest
    (main_while1_cond (F := F)) Loop1.condOps Loop1.bodyI (enter1 m) 2048 := ride (Loop1.cond_spec _ (enter1_ctr m))

theorem plain0 : Plain [hostOps0 (F := F)] := .cons hostOps0_sub (hf := List.forall_iff_forall_mem.mp hostOps0_fresh) .nil
theorem plain1 : Plain [hostOps0_1 (F := F)] := .cons hostOps0_1_sub (hf := List.forall_iff_forall_mem.mp hostOps0_1_fresh) .nil
theorem plain2 : Plain [hostOps0_2 (F := F)] := .cons hostOps0_2_sub (hf := List.forall_iff_forall_mem.mp hostOps0_2_fresh) .nil

abbrev seg0 : CSeg (pcfgs (F := F)) noAdm defs₀ Variants.none noL noLv loops noTk :=
  loopSeg _ _ _ _ _ _ _ _ 0 (main_while0_cond (F := F)) (main_while0_body (F := F)) rfl Loop0.condOps Loop0.bodyI Loop0.hbodyI
    (by rw [while0_body_chain]; rfl) 2048 (enter0 m) rest (cond0 m)
abbrev seg1 : CSeg (pcfgs (F := F)) noAdm defs₀ Variants.none noL noLv loops noTk :=
  loopSeg _ _ _ _ _ _ _ _ 1 (main_while1_cond (F := F)) (main_while1_body (F := F)) rfl Loop1.condOps Loop1.bodyI Loop1.hbodyI
    (by rw [while1_body_chain]; rfl) 2048 (enter1 m) rest (cond1 m)

/-- The program's segments: a stretch, the forward loop, a stretch, the backward loop, a stretch. -/
def segs : List (CSeg (pcfgs (F := F)) noAdm defs₀ Variants.none noL noLv loops noTk) :=
  segsOf _ _ _ _ _ _ _ _ rest [hostOps0] plain0 (launchContents m) ++ (seg0 m ::
    (segsOf _ _ _ _ _ _ _ _ rest [hostOps0_1] plain1 (leave0 m) ++ (seg1 m ::
      segsOf _ _ _ _ _ _ _ _ rest [hostOps0_2] plain2 (leave1 m))))

theorem segs_prog : (segs m).map CSeg.prog =
    ([ StableHlo.seq hostOps0, HostLoop.enter 0, StableHlo.seq hostOps0_1, HostLoop.enter 1, StableHlo.seq hostOps0_2 ] :
      List (Prog (TpuEff nD τ sig (Elt F) (HostLoop.Sig (Pipeline.Sig Λ₀ (Fin 0) fun p => (pcfgs (F := F) p).Adm) 2) .tc) PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ rest c)) (segs m)
    (fun c => (iprop(iprop(held (c : Thread nD τ) (ucRefs τ sig) (final m c)) ∗ ∃ W, owes (c : Thread nD τ) (0 : CellTallies nD τ sig Unit) W) : sProp 𝕄)) := by
  unfold segs
  exact CSeg.Chains.append (segsOf_chains _ _ _ _ _ _ _ _ rest [hostOps0] plain0 _) ⟨fun _ => .rfl,
    CSeg.Chains.append (segsOf_chains _ _ _ _ _ _ _ _ rest [hostOps0_1] plain1 _) ⟨fun _ => .rfl,
      segsOf_chains _ _ _ _ _ _ _ _ rest [hostOps0_2] plain2 _⟩⟩

theorem no_unscoped : ∀ sm : SemLoc sig, sm.isScoped .tc = true := by decide

set_option backward.isDefEq.respectTransparency.types false in
/-- The run: from any memory with zero counters every weakly fair execution terminates, every unscoped buffer at `final`, every
    counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell defs₀ Variants.none noL noLv loops noTk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (final m c)))
    (hch := segs_chains m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

/-- What no stretch and no trip writes ends as launched. -/
theorem final_keep (x : Ref sig .tc) (h0 : x ∉ hostOps0_W) (l0 : x ∉ Loop0.tripW) (h1 : x ∉ hostOps0_1_W) (l1 : x ∉ Loop1.tripW)
    (h2 : x ∉ hostOps0_2_W) (c : Dev nD) : final m c (Proc.devRef .tc x) = m ((c.tc : Thread nD τ).loc x) := by
  unfold final
  rw [after_of_writes_sub hostOps0_2 _ hostOps0_2_writes h2]
  unfold leave1
  rw [Loop1.loop_keep _ x l1]
  unfold enter1
  rw [after_of_writes_sub hostOps0_1 _ hostOps0_1_writes h1]
  unfold leave0
  rw [Loop0.loop_keep _ x l0]
  unfold enter0
  rw [after_of_writes_sub hostOps0 _ hostOps0_writes h0]

end Cert.ReferenceIdeal.Host

end
-- ==== Proof.RefFinal.lean ====
/- The values the reference leaves, as functions of the arguments' real entries. -/
module

public import proofs.«01_k».proof.Proof.RefVals0
public import proofs.«01_k».proof.Proof.RefVals1
public import proofs.«01_k».proof.Proof.RefDots
public import proofs.«01_k».proof.Proof.RefRead
public import proofs.«01_k».proof.Proof.RefRun
public import proofs.«01_k».proof.Proof.Arr0

@[expose] public section

set_option maxRecDepth 16384

noncomputable section

namespace Cert.S5.Ref

open Cert.ReferenceIdeal Cert.ReferenceIdeal.Gen Cert.ReferenceIdeal.Host
open Idealize.ShloMosaic Idealize.ShloMosaic.TcCoe Idealize.ShloMosaic.StableHlo

variable (m : (ℓ : Loc nD τ sig) → Buf (Elt Ideal) ℓ) (c : Dev nD) {D : Data}

/-- The launch memory's arguments hold the data. -/
structure HoldsR (D : Data) : Prop where
  u : IsR (a := 2048) (b := 512) (m ((c.tc : Thread nD τ).loc main_arg0)) D.U
  dy : IsR (a := 2048) (b := 512) (m ((c.tc : Thread nD τ).loc main_arg1)) D.DY
  br : IsR (a := 128) (b := 2048) (m ((c.tc : Thread nD τ).loc main_arg3)) D.Br
  bi : IsR (a := 128) (b := 2048) (m ((c.tc : Thread nD τ).loc main_arg4)) D.Bi
  cr : IsR (a := 128) (b := 2048) (m ((c.tc : Thread nD τ).loc main_arg5)) D.Cr
  ci : IsR (a := 128) (b := 2048) (m ((c.tc : Thread nD τ).loc main_arg6)) D.Ci
  a : IsC (s := S1x2048) (m ((c.tc : Thread nD τ).loc main_arg7)) (m ((c.tc : Thread nD τ).loc main_arg8)) (fun i => D.A (i 1).val)

theorem At0.congr {V V' : Valuation τ sig (Elt Ideal)} {k : ℕ} (e : Loop0.Agree V V') (h : At0 D V' k) : At0 D V k where
  bu := by rw [e main_v18_0 (by decide), e main_v18_1 (by decide)]; exact h.bu
  a := by rw [e main_v18_2 (by decide), e main_v18_3 (by decide)]; exact h.a
  ctr := by rw [e main_v18_4 (by decide)]; exact h.ctr
  x := by rw [e main_v18_5 (by decide), e main_v18_6 (by decide)]; exact h.x
  s := by rw [e main_v18_7 (by decide), e main_v18_8 (by decide)]; exact h.s
  p := by rw [e main_v18_9 (by decide), e main_v18_10 (by decide)]; exact h.p

theorem At1.congr {V V' : Valuation τ sig (Elt Ideal)} {k : ℕ} (e : Loop1.Agree V V') (h : At1 D V' k) : At1 D V k where
  ct := by rw [e main_v50_0 (by decide), e main_v50_1 (by decide)]; exact h.ct
  xp := by rw [e main_v50_2 (by decide), e main_v50_3 (by decide)]; exact h.xp
  a := by rw [e main_v50_4 (by decide), e main_v50_5 (by decide)]; exact h.a
  ctr := by rw [e main_v50_6 (by decide)]; exact h.ctr
  g := by rw [e main_v50_7 (by decide), e main_v50_8 (by decide)]; exact h.g
  l := by rw [e main_v50_9 (by decide), e main_v50_10 (by decide)]; exact h.l
  s := by rw [e main_v50_11 (by decide), e main_v50_12 (by decide)]; exact h.s

theorem col3_div (i : S2048x4x512.Idx) : col3 i / 512 = (i 1).val := by
  have h2 : (i 2).val < 512 := (i 2).isLt
  unfold col3
  omega

theorem zero_pair {s : Shape} {v w : FVec Ideal s .f32} {Z : s.Idx → ℂ} (hv : ∀ i, v i = 0) (hw : ∀ i, w i = 0) (hZ : ∀ i, Z i = 0) : IsC v w Z :=
  ⟨fun i => by rw [hv, hZ]; rfl, fun i => by rw [hw, hZ]; rfl⟩

variable {m c}

theorem enter0_at (h : HoldsR m c D) : At0 D (enter0 m c) 0 where
  bu := by
    unfold enter0
    rw [hostOps0_main_v18_0, hostOps0_main_v18_1]
    exact ⟨fun i => (bu_entry h.br h.u i).trans (by rw [Data.bu, dotC, col3_div]), fun i => (bu_entry h.bi h.u i).trans (by rw [Data.bu, dotC, col3_div])⟩
  a := by
    unfold enter0
    rw [hostOps0_main_v18_2, hostOps0_main_v18_3]
    exact mult_entry h.a
  ctr := enter0_ctr m c
  x := by
    unfold enter0
    rw [hostOps0_main_v18_5, hostOps0_main_v18_6]
    exact zero_pair (zero_entry _) (zero_entry _) fun i => rfl
  s := by
    unfold enter0
    rw [hostOps0_main_v18_7, hostOps0_main_v18_8]
    exact zero_pair (zero_entry _) (zero_entry _) fun i => rfl
  p := by
    unfold enter0
    rw [hostOps0_main_v18_9, hostOps0_main_v18_10]
    exact zero_pair (zero_entry _) (zero_entry _) fun i => rfl

/-- After the forward loop. -/
theorem leave0_at (h : HoldsR m c D) : At0 D (leave0 m c) 2048 :=
  (((enter0_at h).iter 2048 le_rfl).congr (Loop0.atK_agree (enter0 m) c 2048)).congr (Loop0.cond_keeps _)

theorem leave0_keep (x : Ref sig .tc) (h : x ∉ Loop0.tripW) : leave0 m c (Proc.devRef .tc x) = enter0 m c (Proc.devRef .tc x) :=
  Loop0.loop_keep _ x h c 2048

theorem leave0_arg (x : Ref sig .tc) (h : x ∉ Loop0.tripW) (h' : x ∉ hostOps0_W) : leave0 m c (Proc.devRef .tc x) = m ((c.tc : Thread nD τ).loc x) :=
  (leave0_keep x h).trans (after_of_writes_sub hostOps0 _ hostOps0_writes h')

theorem leave0_v2 : leave0 m c (Proc.devRef .tc main_v2) = m ((c.tc : Thread nD τ).loc main_arg5) :=
  (leave0_keep main_v2 (by decide)).trans (hostOps0_main_v2 _)
theorem leave0_v3 : leave0 m c (Proc.devRef .tc main_v3) = m ((c.tc : Thread nD τ).loc main_arg6) :=
  (leave0_keep main_v3 (by decide)).trans (hostOps0_main_v3 _)

theorem leave0_cr (h : HoldsR m c D) : IsR (a := 128) (b := 2048) (leave0 m c (Proc.devRef .tc main_v2)) D.Cr := by rw [leave0_v2]; exact h.cr
theorem leave0_ci (h : HoldsR m c D) : IsR (a := 128) (b := 2048) (leave0 m c (Proc.devRef .tc main_v3)) D.Ci := by rw [leave0_v3]; exact h.ci
theorem leave0_dy (h : HoldsR m c D) : IsR (a := 2048) (b := 512) (leave0 m c (Proc.devRef .tc main_arg1)) D.DY := by
  rw [leave0_arg main_arg1 (by decide) (by decide)]; exact h.dy

theorem leave0_re (h : HoldsR m c D) : IsG (leave0 m c (Proc.devRef .tc main_v18_7)) (fun t q => (D.st (t + 1) q).re) := fun i =>
  ((leave0_at h).s.re i).trans (by rw [sts, if_pos (show (i 0).val < 2048 from (i 0).isLt)])
theorem leave0_im (h : HoldsR m c D) : IsG (leave0 m c (Proc.devRef .tc main_v18_8)) (fun t q => (D.st (t + 1) q).im) := fun i =>
  ((leave0_at h).s.im i).trans (by rw [sts, if_pos (show (i 0).val < 2048 from (i 0).isLt)])

theorem enter1_at (h : HoldsR m c D) : At1 D (enter1 m c) 0 where
  ct := by
    unfold enter1
    rw [hostOps0_1_main_v50_0, hostOps0_1_main_v50_1]
    exact ⟨fun i => (ct_entry (leave0_dy h) (leave0_cr h) i).trans (by rw [Data.ct, dotC, col3_div]; rfl),
      fun i => (ct_entry_neg (leave0_dy h) (leave0_ci h) i).trans (by rw [Data.ct, dotC, col3_div]; rfl)⟩
  xp := by
    unfold enter1
    rw [hostOps0_1_main_v50_2, hostOps0_1_main_v50_3]
    exact (leave0_at h).p.congr fun i => by rw [prevs, if_pos (show (i 0).val < 2048 from (i 0).isLt)]
  a := by
    unfold enter1
    rw [hostOps0_1_main_v50_4, hostOps0_1_main_v50_5, leave0_keep main_v11 (by decide), leave0_keep main_v12 (by decide)]
    unfold enter0
    rw [hostOps0_main_v11, hostOps0_main_v12]
    exact mult_entry h.a
  ctr := enter1_ctr m c
  g := by
    unfold enter1
    rw [hostOps0_1_main_v50_7, hostOps0_1_main_v50_8]
    exact zero_pair (zero_entry _) (zero_entry _) fun i => rfl
  l := by
    unfold enter1
    rw [hostOps0_1_main_v50_9, hostOps0_1_main_v50_10]
    exact zero_pair (zero_entry _) (zero_entry _) fun i => mul_zero _
  s := by
    unfold enter1
    rw [hostOps0_1_main_v50_11, hostOps0_1_main_v50_12]
    refine zero_pair (zero_entry _) (zero_entry _) fun i => ?_
    have h0 : (i 0).val < 2048 := (i 0).isLt
    rw [lams, if_neg (by omega)]

/-- After the backward loop. -/
theorem leave1_at (h : HoldsR m c D) : At1 D (leave1 m c) 2048 :=
  (((enter1_at h).iter 2048 le_rfl).congr (Loop1.atK_agree (enter1 m) c 2048)).congr (Loop1.cond_keeps _)

theorem leave1_keep (x : Ref sig .tc) (h : x ∉ Loop1.tripW) : leave1 m c (Proc.devRef .tc x) = enter1 m c (Proc.devRef .tc x) :=
  Loop1.loop_keep _ x h c 2048

theorem leave1_from (x : Ref sig .tc) (l1 : x ∉ Loop1.tripW) (h1 : x ∉ hostOps0_1_W) (l0 : x ∉ Loop0.tripW) :
    leave1 m c (Proc.devRef .tc x) = enter0 m c (Proc.devRef .tc x) :=
  (leave1_keep x l1).trans ((after_of_writes_sub hostOps0_1 _ hostOps0_1_writes h1).trans (leave0_keep x l0))

theorem leave1_v4 : leave1 m c (Proc.devRef .tc main_v4) = shapeCast S2048x4x128 (m ((c.tc : Thread nD τ).loc main_arg0)) shapeCasts_S2048x512_S2048x4x128 :=
  (leave1_from main_v4 (by decide) (by decide) (by decide)).trans (hostOps0_main_v4 _)
theorem leave1_v5 : leave1 m c (Proc.devRef .tc main_v5) = shapeCast S128x4x512 (extf (F := Ideal) .f32 (m ((c.tc : Thread nD τ).loc main_arg3)) bitsLt_bf16_f32) shapeCasts_S128x2048_S128x4x512 :=
  (leave1_from main_v5 (by decide) (by decide) (by decide)).trans (hostOps0_main_v5 _)
theorem leave1_v8 : leave1 m c (Proc.devRef .tc main_v8) = shapeCast S128x4x512 (extf (F := Ideal) .f32 (m ((c.tc : Thread nD τ).loc main_arg4)) bitsLt_bf16_f32) shapeCasts_S128x2048_S128x4x512 :=
  (leave1_from main_v8 (by decide) (by decide) (by decide)).trans (hostOps0_main_v8 _)
theorem leave1_arg2 : leave1 m c (Proc.devRef .tc main_arg2) = m ((c.tc : Thread nD τ).loc main_arg2) :=
  (leave1_from main_arg2 (by decide) (by decide) (by decide)).trans (after_of_writes_sub hostOps0 _ hostOps0_writes (by decide))

theorem leave1_re (h : HoldsR m c D) : IsG (leave1 m c (Proc.devRef .tc main_v50_11)) (fun t q => (D.lam t q).re) := fun i =>
  ((leave1_at h).s.re i).trans (by rw [lams, if_pos (by omega)])
theorem leave1_im (h : HoldsR m c D) : IsG (leave1 m c (Proc.devRef .tc main_v50_12)) (fun t q => (D.lam t q).im) := fun i =>
  ((leave1_at h).s.im i).trans (by rw [lams, if_pos (by omega)])

/-! ### The results -/

theorem HoldsR.v26 (h : HoldsR m c D) : final m c (Proc.devRef .tc main_v26) = arrOf 2048 512 D.y := by
  unfold final
  rw [after_of_writes_sub hostOps0_2 _ hostOps0_2_writes (show main_v26 ∉ hostOps0_2_W by decide), leave1_keep main_v26 (by decide)]
  unfold enter1
  rw [hostOps0_1_main_v26]
  exact funext fun i => y_entry (leave0_cr h) (leave0_ci h) (leave0_re h) (leave0_im h) i

theorem HoldsR.v43 (h : HoldsR m c D) : final m c (Proc.devRef .tc main_v43) = arrOf 128 2048 (fun k q => (D.dc k q).re) := by
  unfold final
  rw [after_of_writes_sub hostOps0_2 _ hostOps0_2_writes (show main_v43 ∉ hostOps0_2_W by decide), leave1_keep main_v43 (by decide)]
  unfold enter1
  rw [hostOps0_1_main_v43]
  exact funext fun i => dc_entry (leave0_dy h) (leave0_re h) i

theorem HoldsR.v68 (h : HoldsR m c D) : final m c (Proc.devRef .tc main_v68) = arrOf 128 2048 (fun k q => (D.dc k q).im) := by
  unfold final
  rw [hostOps0_2_main_v68, leave1_keep main_v37 (by decide)]
  unfold enter1
  rw [hostOps0_1_main_v37]
  funext i
  refine (congrArg (fun v : EReal => -v) (dc_entry_neg (leave0_dy h) (leave0_im h) i)).trans ?_
  rw [EReal.coe_neg, neg_neg]
  rfl

theorem HoldsR.v67 (h : HoldsR m c D) : final m c (Proc.devRef .tc main_v67)
    = fun i : S2048x512.Idx => ((D.du (i 0).val (i 1).val : ℝ) : EReal) + m ((c.tc : Thread nD τ).loc main_arg2) i := by
  unfold final
  rw [hostOps0_2_main_v67, leave1_arg2, leave1_v5, leave1_v8]
  funext i
  refine (congrArg (fun v : EReal => (show EReal from m ((c.tc : Thread nD τ).loc main_arg2) i) + v) (du_entry h.br h.bi (leave1_re h) (leave1_im h) i)).trans ?_
  exact add_comm (show EReal from m ((c.tc : Thread nD τ).loc main_arg2) i) _

theorem HoldsR.v65 (h : HoldsR m c D) : final m c (Proc.devRef .tc main_v65) = arrOf 128 2048 (fun k q => (D.db k q).re) := by
  unfold final
  rw [hostOps0_2_main_v65, leave1_v4]
  exact funext fun i => db_entry h.u (leave1_re h) i

theorem HoldsR.v58 (h : HoldsR m c D) : final m c (Proc.devRef .tc main_v58) = arrOf 128 2048 (fun k q => (D.db k q).im) := by
  unfold final
  rw [hostOps0_2_main_v58, leave1_v4]
  exact funext fun i => db_entry h.u (leave1_im h) i

/-- The sum the backward loop gathers, by time. -/
theorem grad_sum (q : ℕ) : ∑ j ∈ Finset.range 2048, D.back (j + 1) q * cj (D.st (2047 - j) q) = D.da q := by
  unfold Data.da
  rw [Fin.sum_univ_eq_sum_range (fun t => D.lam t q * cj (D.st t q)), ← Finset.sum_range_reflect]
  refine Finset.sum_congr rfl fun j hj => ?_
  have hj' := Finset.mem_range.mp hj
  unfold Data.lam
  rw [show 2048 - 1 - j + 1 = 2048 - j by omega, show 2047 - (2048 - 1 - j) = j by omega]

theorem HoldsR.v52 (h : HoldsR m c D) : final m c (Proc.devRef .tc main_v52) = arrOf 1 2048 (fun _ q => (D.da q).re) := by
  unfold final
  rw [hostOps0_2_main_v52]
  exact funext fun i => row_entry (A := fun q => (D.da q).re) (fun i => ((leave1_at h).g.re i).trans (by rw [grad_sum])) i

theorem HoldsR.v51 (h : HoldsR m c D) : final m c (Proc.devRef .tc main_v51) = arrOf 1 2048 (fun _ q => (D.da q).im) := by
  unfold final
  rw [hostOps0_2_main_v51]
  exact funext fun i => row_entry (A := fun q => (D.da q).im) (fun i => ((leave1_at h).g.im i).trans (by rw [grad_sum])) i

end Cert.S5.Ref

end
-- ==== Proof.Finite.lean ====
/- What the precondition says: every entry of every argument but the third is a real. -/
module

public import proofs.«01_k».proof.Pre_all_finite
public import proofs.«01_k».proof.Proof.Spec
public import Idealize.ShloMosaic.Lib.ReduceAll
public import Idealize.ShloMosaic.Lib.Pointwise

@[expose] public section

set_option maxRecDepth 16384

noncomputable section

namespace Cert.S5

open Idealize.ShloMosaic

/-- A magnitude under the top is a real's. -/
theorem real_of_lt {x : EReal} (h : Ideal.cmp .olt (max x (-x)) ⊤ = 1#1) : x = ((x.toReal : ℝ) : EReal) := by
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact (EReal.coe_toReal h1 h2).symm

theorem top_word : Ideal.ofBits .f32 0x7F800000#32 = ⊤ := by simp [Ideal.ofBits, Ideal.ieee]

instance : Subsingleton (⟨0, ![]⟩ : Shape).Idx := ⟨fun a b => funext fun i => i.elim0⟩

/-- Every entry of an array whose test for being finite came out one is a real. -/
theorem real_of_all {s : Shape} {axes : List (Fin s.rank)} (x : FVec Ideal s .f32) (h : s.ReducesTo axes ⟨0, ![]⟩) (hu : 0 < (⟨0, ![]⟩ : Shape).numel)
    (hb : (⟨0, ![]⟩ : Shape).BroadcastsInDim s ![]) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1)
    (i : s.Idx) : x i = (((x i).toReal : ℝ) : EReal) := by
  have := Host.reduce_andi_all _ _ _ _ j e i
  refine real_of_lt ?_
  rw [← top_word]
  exact this

open Cert.Pre_all_finite in
theorem finite_entries [Cert.Pre_all_finite.Facts] (a0 : FVec Ideal S2048x512 .f32) (a1 : FVec Ideal S2048x512 .bf16) (a2 : FVec Ideal S2048x512 .f32)
    (a3 a4 a5 a6 : FVec Ideal S128x2048 .bf16) (a7 a8 : FVec Ideal S1x2048 .f32) (h : fn (F := Ideal) a0 a1 a2 a3 a4 a5 a6 a7 a8 = fun _ => 1#1) :
    (∀ i, a0 i = (((show EReal from a0 i).toReal : ℝ) : EReal)) ∧ (∀ i, a1 i = (((show EReal from a1 i).toReal : ℝ) : EReal))
      ∧ (∀ i, a3 i = (((show EReal from a3 i).toReal : ℝ) : EReal)) ∧ (∀ i, a4 i = (((show EReal from a4 i).toReal : ℝ) : EReal))
      ∧ (∀ i, a5 i = (((show EReal from a5 i).toReal : ℝ) : EReal)) ∧ (∀ i, a6 i = (((show EReal from a6 i).toReal : ℝ) : EReal))
      ∧ (∀ i, a7 i = (((show EReal from a7 i).toReal : ℝ) : EReal)) ∧ (∀ i, a8 i = (((show EReal from a8 i).toReal : ℝ) : EReal)) := by
  have e := congrFun h (fun i => i.elim0)
  unfold fn fn_part1 fn_part2 at e
  dsimp only at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  exact ⟨real_of_all _ _ _ _ _ e0, real_of_all _ _ _ _ _ e1, real_of_all _ _ _ _ _ e3, real_of_all _ _ _ _ _ e4,
    real_of_all _ _ _ _ _ e5, real_of_all _ _ _ _ _ e6, real_of_all _ _ _ _ _ e7, real_of_all _ _ _ _ _ e8⟩

/-- A matrix's real entries, by row and column. -/
def entries (a b : ℕ) (v : (⟨2, ![a, b]⟩ : Shape).Idx → EReal) (r q : ℕ) : ℝ :=
  if h : r < a ∧ q < b then (v (ix2 ⟨r, h.1⟩ ⟨q, h.2⟩)).toReal else 0

theorem isR_entries {a b : ℕ} {v : (⟨2, ![a, b]⟩ : Shape).Idx → EReal} (h : ∀ i, v i = (((v i).toReal : ℝ) : EReal)) : IsR v (entries a b v) := fun i => by
  unfold entries
  rw [dif_pos ⟨(i 0).isLt, (i 1).isLt⟩]
  exact (h i).trans (congrArg (fun j => (((v j).toReal : ℝ) : EReal)) (eq_ix2 i))

/-- The data of nine arguments. -/
def dataOf (a0 a1 : (⟨2, ![2048, 512]⟩ : Shape).Idx → EReal) (a3 a4 a5 a6 : (⟨2, ![128, 2048]⟩ : Shape).Idx → EReal) (a7 a8 : (⟨2, ![1, 2048]⟩ : Shape).Idx → EReal) : Data where
  U := entries 2048 512 a0
  DY := entries 2048 512 a1
  Br := entries 128 2048 a3
  Bi := entries 128 2048 a4
  Cr := entries 128 2048 a5
  Ci := entries 128 2048 a6
  A q := ⟨entries 1 2048 a7 0 q, entries 1 2048 a8 0 q⟩

theorem isC_entries {a7 a8 : FVec Ideal (⟨2, ![1, 2048]⟩ : Shape) .f32} (h7 : ∀ i, a7 i = (((show EReal from a7 i).toReal : ℝ) : EReal))
    (h8 : ∀ i, a8 i = (((show EReal from a8 i).toReal : ℝ) : EReal)) :
    IsC a7 a8 (fun i => ⟨entries 1 2048 a7 0 (i 1).val, entries 1 2048 a8 0 (i 1).val⟩) := by
  have z : ∀ i : (⟨2, ![1, 2048]⟩ : Shape).Idx, (i 0).val = 0 := fun i => by have : (i 0).val < 1 := (i 0).isLt; omega
  exact ⟨fun i => (isR_entries h7 i).trans (by rw [z i]), fun i => (isR_entries h8 i).trans (by rw [z i])⟩

end Cert.S5

end
-- ==== Proof.FfnSpec.lean ====
/- What the feed-forward layer with its loss and its gradients computes, over the reals, and the vector operations on finite entries. -/
module

public import proofs.«01_k».proof.Proof.ScanMath
public import Idealize.ShloMosaic.Lib.Pointwise
public import Idealize.ShloMosaic.Lib.VecWindow
public import Idealize.ShloMosaic.Lib.LayoutPointwise
public import Mathlib.Tactic.NormNum
public import Mathlib.Tactic.FieldSimp
public import Mathlib.Tactic.Ring
public import Mathlib.Tactic.Positivity

@[expose] public section

set_option maxRecDepth 16384

noncomputable section

namespace Cert.Ffn

open Idealize.ShloMosaic
open Cert.S5 (coe_sum dot_coe)

/-- The small number under the root. -/
def eps : ℝ := 8796093 / 8796093022208

/-- The mean of the squares of a row of 1024, with the small number added. -/
def ms (v : ℕ → ℝ) : ℝ := (∑ k : Fin 1024, v k * v k) / 1024 + eps

/-- The reciprocal root of `ms`. -/
def rr (v : ℕ → ℝ) : ℝ := (√(ms v))⁻¹

theorem ms_pos (v : ℕ → ℝ) : 0 < ms v := by
  have h : 0 ≤ ∑ k : Fin 1024, v k * v k := Finset.sum_nonneg fun k _ => mul_self_nonneg _
  unfold ms eps
  positivity

theorem rr_sq (v : ℕ → ℝ) : rr v * rr v * ms v = 1 := by
  have h := ms_pos v
  unfold rr
  rw [← mul_inv, Real.mul_self_sqrt h.le, inv_mul_cancel₀ h.ne']

/-- The logistic function. -/
def sg (x : ℝ) : ℝ := (1 + Real.exp (-x))⁻¹

/-- The layer's arguments: the residual stream, the target, the two weights and the two scales. -/
structure Dat where
  X : ℕ → ℕ → ℝ
  T : ℕ → ℕ → ℝ
  W1 : ℕ → ℕ → ℝ
  W2 : ℕ → ℕ → ℝ
  G2 : ℕ → ℝ
  G3 : ℕ → ℝ

namespace Dat
variable (D : Dat)

/-- The rows from `n` on. -/
def rows (n : ℕ) : Dat := { D with X := fun r => D.X (n + r), T := fun r => D.T (n + r) }

def xn2 (r k : ℕ) : ℝ := D.X r k * rr (D.X r)
def hn (r k : ℕ) : ℝ := D.xn2 r k * D.G2 k
def gu (r j : ℕ) : ℝ := ∑ k : Fin 1024, D.hn r k * D.W1 k j
def silu (r p : ℕ) : ℝ := D.gu r p * sg (D.gu r p)
def act (r p : ℕ) : ℝ := D.silu r p * D.gu r (2816 + p)
def ff (r q : ℕ) : ℝ := ∑ p : Fin 2816, D.act r p * D.W2 p q
def xn3 (r q : ℕ) : ℝ := D.ff r q * rr (D.ff r)
def err (r q : ℕ) : ℝ := D.X r q + D.xn3 r q * D.G3 q - D.T r q
def lossRow (r : ℕ) : ℝ := (∑ q : Fin 1024, D.err r q * D.err r q) / 1024
def dh2 (r q : ℕ) : ℝ := D.err r q * (1 / 1024)
def a3 (r q : ℕ) : ℝ := D.dh2 r q * D.G3 q
def dff (r q : ℕ) : ℝ := rr (D.ff r) * (D.a3 r q - D.xn3 r q * ((∑ k : Fin 1024, D.a3 r k * D.xn3 r k) / 1024))
def dact (r p : ℕ) : ℝ := ∑ q : Fin 1024, D.dff r q * D.W2 p q
def dgate (r p : ℕ) : ℝ := D.dact r p * D.gu r (2816 + p) * (sg (D.gu r p) + D.silu r p * (1 - sg (D.gu r p)))
def dup (r p : ℕ) : ℝ := D.dact r p * D.silu r p
def dgu (r j : ℕ) : ℝ := if j < 2816 then D.dgate r j else D.dup r (j - 2816)
def dhn (r k : ℕ) : ℝ := (∑ p : Fin 2816, D.dgate r p * D.W1 k p) + ∑ p : Fin 2816, D.dup r p * D.W1 k (2816 + p)
def a2 (r k : ℕ) : ℝ := D.dhn r k * D.G2 k
def dh1 (r k : ℕ) : ℝ := D.dh2 r k + rr (D.X r) * (D.a2 r k - D.xn2 r k * ((∑ k : Fin 1024, D.a2 r k * D.xn2 r k) / 1024))
/-- The sums over the first `n` rows. -/
def loss (n : ℕ) : ℝ := 1 / 2 * ∑ r ∈ Finset.range n, D.lossRow r
def dg3 (n q : ℕ) : ℝ := ∑ r ∈ Finset.range n, D.dh2 r q * D.xn3 r q
def dg2 (n k : ℕ) : ℝ := ∑ r ∈ Finset.range n, D.dhn r k * D.xn2 r k
end Dat

/-- The derivative through a normalised row, written with the derivative of the reciprocal root. -/
theorem norm_back (S r M a f : ℝ) (h : r * r * M = 1) :
    a * r + f * (S * (-(1 / 2) * (r / M)) / 1024) + S * (-(1 / 2) * (r / M)) / 1024 * f = r * (a - f * r * (r * S / 1024)) := by
  have hM : M ≠ 0 := by rintro rfl; simp at h
  have e : r / M = r * (r * r) := by
    rw [div_eq_iff hM]
    linear_combination (-r) * h
  rw [e]; ring

/-! ### Operations on finite entries -/

theorem div_real (x : ℝ) {y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((√x)⁻¹ : ℝ) : EReal) := by
  rw [Ideal.rsqrt_coe, if_neg (not_lt.mpr h.le), if_neg h.ne']

theorem w1024 : Ideal.ofBits .f32 0x44800000#32 = ((1024 : ℝ) : EReal) := by
  simp [Ideal.ofBits, Ideal.ieee]
  norm_cast
  norm_num
theorem wEps : Ideal.ofBits .f32 0x358637BD#32 = ((eps : ℝ) : EReal) := by
  simp [Ideal.ofBits, Ideal.ieee, eps]
  norm_cast
theorem wHalf : Ideal.ofBits .f32 0x3F000000#32 = ((1 / 2 : ℝ) : EReal) := by
  simp [Ideal.ofBits, Ideal.ieee]
  norm_cast
  norm_num
theorem wNegHalf : Ideal.ofBits .f32 0xBF000000#32 = ((-(1 / 2) : ℝ) : EReal) := by
  simp [Ideal.ofBits, Ideal.ieee]
  norm_cast
  norm_num
theorem wInv1024 : Ideal.ofBits .f32 0x3A800000#32 = ((1 / 1024 : ℝ) : EReal) := by
  simp [Ideal.ofBits, Ideal.ieee]
  norm_cast
  norm_num
theorem wOne : Ideal.ofBits .f32 0x3F800000#32 = ((1 : ℝ) : EReal) := by
  simp [Ideal.ofBits, Ideal.ieee]
  norm_cast
  norm_num
theorem wTwo : Ideal.ofBits .f32 0x40000000#32 = ((2 : ℝ) : EReal) := by
  simp [Ideal.ofBits, Ideal.ieee]
  norm_cast
  norm_num
theorem wZero : Ideal.ofBits .f32 0x00000000#32 = ((0 : ℝ) : EReal) := by
  simp [Ideal.ofBits, Ideal.ieee]

/-- An array of finite entries. -/
def IsM {a b : ℕ} (v : (⟨2, ![a, b]⟩ : Shape).Idx → EReal) (U : ℕ → ℕ → ℝ) : Prop := ∀ i, v i = ((U (i 0).val (i 1).val : ℝ) : EReal)

section
variable {a b : ℕ} {v w : FVec Ideal ⟨2, ![a, b]⟩ .f32} {U W : ℕ → ℕ → ℝ}

theorem IsM.congr {v : (⟨2, ![a, b]⟩ : Shape).Idx → EReal} (h : IsM v U) (e : ∀ r < a, ∀ q < b, U r q = W r q) : IsM v W := fun i => by
  rw [h i, e _ (i 0).isLt _ (i 1).isLt]

theorem IsM.of_eq {v w : (⟨2, ![a, b]⟩ : Shape).Idx → EReal} (e : v = w) (h : IsM w U) : IsM v U := e ▸ h

theorem IsM.add (h : IsM v U) (k : IsM w W) : IsM (addf v w) (fun r q => U r q + W r q) := fun i => by
  show (show EReal from v i) + (show EReal from w i) = _
  rw [h i, k i, EReal.coe_add]

theorem IsM.sub (h : IsM v U) (k : IsM w W) : IsM (subf v w) (fun r q => U r q - W r q) := fun i => by
  show (show EReal from v i) - (show EReal from w i) = _
  rw [h i, k i, EReal.coe_sub]

theorem IsM.mul (h : IsM v U) (k : IsM w W) : IsM (mulf v w) (fun r q => U r q * W r q) := fun i => by
  show (show EReal from v i) * (show EReal from w i) = _
  rw [h i, k i, EReal.coe_mul]

theorem IsM.div {c : ℝ} (h : IsM v U) (k : IsM w (fun _ _ => c)) (hc : c ≠ 0) : IsM (divf v w) (fun r q => U r q / c) := fun i => by
  show Ideal.div (v i) (w i) = _
  rw [h i, k i, div_real _ hc]

theorem IsM.rsqrt (h : IsM v U) (hp : ∀ r q, 0 < U r q) : IsM (rsqrt v) (fun r q => (√(U r q))⁻¹) := fun i => by
  show Ideal.rsqrt (v i) = _
  rw [h i, rsqrt_real (hp _ _)]

theorem IsM.logistic (h : IsM v U) : IsM (logistic v) (fun r q => sg (U r q)) := fun i => by
  show Ideal.logistic (v i) = _
  rw [h i, Ideal.logistic_coe]; rfl

theorem IsM.const {c : ℝ} {x : Ideal .f32} (h : (show EReal from x) = (c : EReal)) : IsM (a := a) (b := b) (broadcast ⟨2, ![a, b]⟩ x) (fun _ _ => c) := fun _ => h

theorem IsM.cast (h : IsM v U) (k : (⟨2, ![a, b]⟩ : Shape).ShapeCasts ⟨2, ![a, b]⟩) : IsM (shapeCast ⟨2, ![a, b]⟩ v k) U := fun i => by
  have e : shapeCast ⟨2, ![a, b]⟩ v k = v := by funext i; simp only [pointwise]
  rw [e]; exact h i

/-- Rounding changes nothing here. -/
theorem IsM.round (h : IsM v U) (k : FTy.bits .bf16 < FTy.bits .f32) : IsM (truncf .bf16 v k) U := fun i => h i
end

end Cert.Ffn

end
-- ==== Proof.FfnBlk.lean ====
/- The kernel's operations of the feed-forward layer on one block of 256 rows, each read over the reals. -/
module

public import proofs.«01_k».proof.Proof.FfnSpec
public import proofs.«01_k».proof.Proof.Gen.Kernel2Ideal.Skeleton

@[expose] public section

set_option maxRecDepth 16384

noncomputable section

namespace Cert.Ffn

open Idealize.ShloMosaic Cert.Kernel2Ideal Cert.Kernel2Ideal.Gen
open Cert.S5 (coe_sum dot_coe)

section
variable {U W : ℕ → ℕ → ℝ}

/-- A column broadcast over 1024 columns. -/
theorem IsM.col {v : FVec Ideal S256x1 .f32} (h : IsM (a := 256) (b := 1) v U) :
    IsM (a := 256) (b := 1024) (broadcastTo S256x1024 v broadcasts_S256x1_S256x1024) (fun r _ => U r 0) := fun i => by
  simp only [pointwise]
  exact h _

/-- A row broadcast over 256 rows. -/
theorem IsM.row {v : FVec Ideal S1x1024 .f32} (h : IsM (a := 1) (b := 1024) v U) :
    IsM (a := 256) (b := 1024) (broadcastTo S256x1024 v broadcasts_S1x1024_S256x1024) (fun _ q => U 0 q) := fun i => by
  simp only [pointwise]
  exact h _

/-- The sums of the rows, as a column. -/
theorem IsM.rowSum {v : FVec Ideal S256x1024 .f32} (h : IsM (a := 256) (b := 1024) v U) :
    IsM (a := 256) (b := 1) (shapeCast S256x1 (multiReduction .add [1] S256 v 0x00000000#32 reduces_S256x1024_S256 (.inl rfl) rfl) shapeCasts_S256_S256x1)
      (fun r _ => ∑ q : Fin 1024, U r q) := fun i => by
  simp only [pointwise]
  rw [← coe_sum]
  exact Finset.sum_congr rfl fun k _ => h _

/-- The sums of the columns, as a row. -/
theorem IsM.colSum {v : FVec Ideal S256x1024 .f32} (h : IsM (a := 256) (b := 1024) v U) :
    IsM (a := 1) (b := 1024) (shapeCast S1x1024 (multiReduction .add [0] S1024 v 0x00000000#32 reduces_S256x1024_S1024 (.inl rfl) rfl) shapeCasts_S1024_S1x1024)
      (fun _ q => ∑ r : Fin 256, U r q) := fun i => by
  simp only [pointwise]
  rw [← coe_sum]
  exact Finset.sum_congr rfl fun k _ => h _

/-- The sum of a column. -/
theorem IsM.total {v : FVec Ideal S256x1 .f32} (h : IsM (a := 256) (b := 1) v U) :
    IsM (a := 1) (b := 1) (shapeCast S1x1 (multiReduction .add [0] S1 v 0x00000000#32 reduces_S256x1_S1 (.inl rfl) rfl) shapeCasts_S1_S1x1)
      (fun _ _ => ∑ r : Fin 256, U r 0) := fun i => by
  simp only [pointwise]
  rw [← coe_sum]
  refine Finset.sum_congr rfl fun k _ => (h _).trans ?_
  rfl

/-- A number broadcast over a row of 128. -/
theorem IsM.spread {v : FVec Ideal S1x1 .f32} (h : IsM (a := 1) (b := 1) v U) :
    IsM (a := 1) (b := 128) (broadcastTo S1x128 v broadcasts_S1x1_S1x128) (fun _ _ => U 0 0) := fun i => by
  simp only [pointwise]
  exact h _

/-- Transposed and rounded. -/
theorem IsM.flip {v : FVec Ideal S256x2816 .f32} (h : IsM (a := 256) (b := 2816) v U) :
    IsM (a := 2816) (b := 256) (truncf .bf16 (transpose S2816x256 [1, 0] v transposes_S256x2816_p1_0_S2816x256) bitsLt_bf16_f32) (fun p r => U r p) := fun i => by
  simp only [pointwise]
  exact h _

/-- A product with the transpose of the second factor. -/
theorem IsM.dotT {v : FVec Ideal S256x1024 .bf16} {w : FVec Ideal S2816x1024 .bf16} (h : IsM (a := 256) (b := 1024) v U) (k : IsM (a := 2816) (b := 1024) w W) :
    IsM (a := 256) (b := 2816) (matmul dot_S256x1024_S2816x1024_S256x2816_1_1_0_0_n_n none v w (constant S256x2816 .f32 0x00000000#32))
      (fun r p => ∑ q : Fin 1024, U r q * W p q) := fun i => by
  simp only [pointwise]
  rw [zero_add]
  exact dot_coe (f := fun q : Fin 1024 => U (i 0).val q.val) (g := fun q : Fin 1024 => W (i 1).val q.val) (fun q => h _) (fun q => k _)

/-- A product. -/
theorem IsM.dot {v : FVec Ideal S256x2816 .bf16} {w : FVec Ideal S2816x1024 .bf16} (h : IsM (a := 256) (b := 2816) v U) (k : IsM (a := 2816) (b := 1024) w W) :
    IsM (a := 256) (b := 1024) (matmul dot_S256x2816_S2816x1024_S256x1024_1_0_0_1_n_n none v w (constant S256x1024 .f32 0x00000000#32))
      (fun r q => ∑ p : Fin 2816, U r p * W p q) := fun i => by
  simp only [pointwise]
  rw [zero_add]
  exact dot_coe (f := fun p : Fin 2816 => U (i 0).val p.val) (g := fun p : Fin 2816 => W p.val (i 1).val) (fun q => h _) (fun q => k _)

/-- A sum that starts from zeros. -/
theorem IsM.fromZero {v : FVec Ideal S256x1024 .f32} (h : IsM (a := 256) (b := 1024) v U) :
    IsM (a := 256) (b := 1024) (addf (broadcast S256x1024 (Scalar.ofBits (F := Ideal) .f32 0x00000000#32)) v) U :=
  ((IsM.const (a := 256) (b := 1024) wZero).add h).congr fun r _ q _ => zero_add _
end

/-- One block's inputs. -/
structure Blk (D : Dat) (v3 : Vec Ideal S256x1024 .bf16) (v6 v8 v22 : Vec Ideal S2816x1024 .bf16) (v26 v113 : Vec Ideal S1x1024 .f32)
    (v39 v41 : Vec Ideal S256x1024 .f32) : Prop where
  h3 : IsM (a := 256) (b := 1024) v3 D.hn
  h6 : IsM (a := 2816) (b := 1024) v6 (fun j k => D.W1 k j)
  h8 : IsM (a := 2816) (b := 1024) v8 (fun j k => D.W1 k (2816 + j))
  h22 : IsM (a := 2816) (b := 1024) v22 D.W2
  h26 : IsM (a := 1) (b := 1024) v26 (fun _ q => D.G3 q)
  h113 : IsM (a := 1) (b := 1024) v113 (fun _ q => D.G2 q)
  h39 : IsM (a := 256) (b := 1024) v39 D.X
  h41 : IsM (a := 256) (b := 1024) v41 D.T

namespace Blk
variable {D : Dat} {v3 : Vec Ideal S256x1024 .bf16} {v6 v8 v22 : Vec Ideal S2816x1024 .bf16} {v26 v113 : Vec Ideal S1x1024 .f32}
  {v39 v41 : Vec Ideal S256x1024 .f32} (B : Blk D v3 v6 v8 v22 v26 v113 v39 v41)
include B

theorem gate : IsM (a := 256) (b := 2816) (k0_pay2 v3 v6) D.gu := IsM.dotT (IsM.cast B.h3 _) B.h6
theorem up : IsM (a := 256) (b := 2816) (k0_pay3 v3 v8) (fun r p => D.gu r (2816 + p)) := IsM.dotT (IsM.cast B.h3 _) B.h8
theorem gate' : IsM (a := 256) (b := 2816) (k0_pay4 v3 v6) D.gu := B.gate.cast _
theorem up' : IsM (a := 256) (b := 2816) (k0_pay5 v3 v8) (fun r p => D.gu r (2816 + p)) := B.up.cast _
theorem act : IsM (a := 256) (b := 2816) (k0_pay6 v3 v6 v8) D.act := (B.gate.mul B.gate.logistic).mul B.up
theorem actT : IsM (a := 2816) (b := 256) (k0_pay7 v3 v6 v8) (fun p r => D.act r p) := B.act.flip
theorem ff : IsM (a := 256) (b := 1024) (k0_pay8 v3 v6 v8 v22) D.ff := IsM.fromZero (IsM.dot (B.act.round _) B.h22)
theorem sq : IsM (a := 256) (b := 1) (k0_pay9 v3 v6 v8 v22) (fun r _ => ∑ q : Fin 1024, D.ff r q * D.ff r q) := (B.ff.mul B.ff).rowSum
theorem root : IsM (a := 256) (b := 1) (k0_pay11 (k0_pay9 v3 v6 v8 v22) k0_pay10) (fun r _ => rr (D.ff r)) :=
  ((B.sq.div (IsM.const w1024) (by norm_num)).add (IsM.const wEps)).rsqrt (fun r _ => ms_pos (D.ff r))
theorem xn3 : IsM (a := 256) (b := 1024) (k0_pay16 (k0_pay8 v3 v6 v8 v22) (k0_pay9 v3 v6 v8 v22) k0_pay10) D.xn3 := B.ff.mul B.root.col
theorem err : IsM (a := 256) (b := 1024) (k0_pay12 (k0_pay8 v3 v6 v8 v22) v26 (k0_pay9 v3 v6 v8 v22) k0_pay10 v39 v41) D.err :=
  (IsM.add (a := 256) (b := 1024) B.h39 (B.xn3.mul (IsM.row B.h26))).sub B.h41
theorem lossPart : IsM (a := 1) (b := 128) (k0_pay13 (k0_pay8 v3 v6 v8 v22) v26 (k0_pay9 v3 v6 v8 v22) k0_pay10 v39 v41)
    (fun _ _ => 1 / 2 * ∑ r : Fin 256, D.lossRow r) :=
  (((IsM.const (a := 1) (b := 1) wHalf).mul ((B.err.mul B.err).rowSum.div (IsM.const w1024) (by norm_num)).total).cast _).spread
theorem dh2 : IsM (a := 256) (b := 1024) (k0_pay15 (k0_pay8 v3 v6 v8 v22) v26 (k0_pay9 v3 v6 v8 v22) k0_pay10 v39 v41) D.dh2 :=
  B.err.mul (IsM.const wInv1024)
theorem a3 : IsM (a := 256) (b := 1024) (mulf (k0_pay15 (k0_pay8 v3 v6 v8 v22) v26 (k0_pay9 v3 v6 v8 v22) k0_pay10 v39 v41)
    (broadcastTo S256x1024 v26 broadcasts_S1x1024_S256x1024)) D.a3 := B.dh2.mul (IsM.row B.h26)
theorem core : IsM (a := 256) (b := 1024) (k0_pay17 (k0_pay8 v3 v6 v8 v22) v26 (k0_pay9 v3 v6 v8 v22) k0_pay10 v39 v41)
    (fun r q => D.a3 r q - D.xn3 r q * ((∑ k : Fin 1024, D.a3 r k * D.xn3 r k) / 1024)) :=
  B.a3.sub (B.xn3.mul (IsM.col ((B.a3.mul B.xn3).rowSum.div (IsM.const w1024) (by norm_num))))
theorem dff : IsM (a := 256) (b := 1024) (k0_pay21 (k0_pay17 (k0_pay8 v3 v6 v8 v22) v26 (k0_pay9 v3 v6 v8 v22) k0_pay10 v39 v41)
    (k0_pay18 (k0_pay9 v3 v6 v8 v22) k0_pay10)) D.dff := (IsM.mul B.root.col B.core).round _
theorem dg3Part : IsM (a := 1) (b := 1024) (k0_pay19 (k0_pay15 (k0_pay8 v3 v6 v8 v22) v26 (k0_pay9 v3 v6 v8 v22) k0_pay10 v39 v41)
    (k0_pay16 (k0_pay8 v3 v6 v8 v22) (k0_pay9 v3 v6 v8 v22) k0_pay10)) (fun _ q => ∑ r : Fin 256, D.dh2 r q * D.xn3 r q) :=
  (B.dh2.mul B.xn3).colSum
end Blk

/-- The same block from the derivative of the product's input on. -/
structure Blk2 (D : Dat) (v39 v60 v72 v73 : FVec Ideal S256x1024 .f32) (v86 v105 v109 : Vec Ideal S2816x1024 .bf16) (v88 v89 : Vec Ideal S256x2816 .f32)
    (v113 : Vec Ideal S1x1024 .f32) : Prop where
  h39 : IsM (a := 256) (b := 1024) v39 D.X
  h60 : IsM (a := 256) (b := 1024) v60 D.dh2
  hd : IsM (a := 256) (b := 1024) (k0_pay21 v72 v73) D.dff
  h86 : IsM (a := 2816) (b := 1024) v86 D.W2
  h105 : IsM (a := 2816) (b := 1024) v105 (fun j k => D.W1 k j)
  h109 : IsM (a := 2816) (b := 1024) v109 (fun j k => D.W1 k (2816 + j))
  h88 : IsM (a := 256) (b := 2816) v88 D.gu
  h89 : IsM (a := 256) (b := 2816) v89 (fun r p => D.gu r (2816 + p))
  h113 : IsM (a := 1) (b := 1024) v113 (fun _ q => D.G2 q)

namespace Blk2
variable {D : Dat} {v39 v60 v72 v73 : FVec Ideal S256x1024 .f32} {v86 v105 v109 : Vec Ideal S2816x1024 .bf16} {v88 v89 : Vec Ideal S256x2816 .f32}
    {v113 : Vec Ideal S1x1024 .f32} (B : Blk2 D v39 v60 v72 v73 v86 v105 v109 v88 v89 v113)
include B

theorem dact : IsM (a := 256) (b := 2816) (k0_pay23 v72 v73 v86) D.dact := IsM.dotT B.hd B.h86
theorem sig : IsM (a := 256) (b := 2816) (k0_pay24 v88) (fun r p => sg (D.gu r p)) := IsM.logistic (a := 256) (b := 2816) B.h88
theorem silu : IsM (a := 256) (b := 2816) (k0_pay25 v88) D.silu := IsM.mul (a := 256) (b := 2816) B.h88 B.sig
theorem dgate : IsM (a := 256) (b := 2816) (k0_pay26 v72 v73 v86 v88 v89) D.dgate :=
  (B.dact.mul B.h89).mul (B.sig.add (B.silu.mul ((IsM.const (a := 256) (b := 2816) wOne).sub B.sig)))
theorem dup : IsM (a := 256) (b := 2816) (k0_pay27 v72 v73 v86 v88) D.dup := B.dact.mul B.silu
theorem dgateT : IsM (a := 2816) (b := 256) (k0_pay28 v72 v73 v86 v88 v89) (fun p r => D.dgate r p) := B.dgate.flip
theorem dupT : IsM (a := 2816) (b := 256) (k0_pay29 v72 v73 v86 v88) (fun p r => D.dup r p) := B.dup.flip
theorem dhn : IsM (a := 256) (b := 1024) (k0_pay31 k0_pay22 (k0_pay27 v72 v73 v86 v88) v105 (k0_pay30 v72 v73 v86 v88 v89)
    (constant S256x1024 .f32 0x00000000#32) v109) D.dhn :=
  (IsM.fromZero (IsM.dot (B.dgate.round _) B.h105)).add (IsM.dot (B.dup.round _) B.h109)
theorem root : IsM (a := 256) (b := 1) (k0_pay32 (F := Ideal) v39) (fun r _ => rr (D.X r)) :=
  (((IsM.mul (a := 256) (b := 1024) B.h39 B.h39).rowSum.div (IsM.const w1024) (by norm_num)).add (IsM.const wEps)).rsqrt (fun r _ => ms_pos (D.X r))
theorem xn2 : IsM (a := 256) (b := 1024) (k0_pay33 (F := Ideal) v39) D.xn2 := IsM.mul (a := 256) (b := 1024) B.h39 B.root.col
theorem dg2Part : IsM (a := 1) (b := 1024) (k0_pay34 v39 k0_pay22 (k0_pay27 v72 v73 v86 v88) v105 (k0_pay30 v72 v73 v86 v88 v89)
    (constant S256x1024 .f32 0x00000000#32) v109) (fun _ q => ∑ r : Fin 256, D.dhn r q * D.xn2 r q) := (B.dhn.mul B.xn2).colSum
theorem a2 : IsM (a := 256) (b := 1024) (mulf (k0_pay31 k0_pay22 (k0_pay27 v72 v73 v86 v88) v105 (k0_pay30 v72 v73 v86 v88 v89)
    (constant S256x1024 .f32 0x00000000#32) v109) (broadcastTo S256x1024 v113 broadcasts_S1x1024_S256x1024)) D.a2 := B.dhn.mul (IsM.row B.h113)
theorem dh1 : IsM (a := 256) (b := 1024) (k0_pay36 v39 v60 k0_pay22 (k0_pay27 v72 v73 v86 v88) v105 (k0_pay30 v72 v73 v86 v88 v89)
    (constant S256x1024 .f32 0x00000000#32) v109 v113) D.dh1 :=
  IsM.add (a := 256) (b := 1024) B.h60
    (B.root.col.mul (B.a2.sub (B.xn2.mul (IsM.col ((B.a2.mul B.xn2).rowSum.div (IsM.const w1024) (by norm_num))))))
end Blk2

end Cert.Ffn

end
-- ==== Proof.FfnRun.lean ====
/- What the layer's kernel leaves in its outputs at one grid point. -/
module

public import proofs.«01_k».proof.Proof.FfnBlk
public import proofs.«01_k».proof.Proof.Gen.Kernel2Ideal.Frame
public import Idealize.ShloMosaic.Lib.KernelVsHost
public import Idealize.ShloMosaic.Lib.WritesUnit

@[expose] public section

set_option maxRecDepth 16384
set_option maxHeartbeats 400000

noncomputable section

namespace Cert.Ffn

open Idealize.ShloMosaic Cert.Kernel2Ideal Cert.Kernel2Ideal.Gen

/-! ### Loads and stores of a part of a buffer -/

section
variable {U : ℕ → ℕ → ℝ}

theorem wholeR {s : Shape} {e : EltTy} (M : Memref sig .tc .vmem s e) (h : M.IsWhole) (x : Vec Ideal s e)
    {off : Fin s.rank → ℕ} (inb : ∀ k, off k + s.size k ≤ s.size k) :
    View.readAt (Elt Ideal) M.view (Rect.unit (s := s) off s.size inb).toLoadRect (h.unread x) = x :=
  (View.readAt_full _ _ _).trans (h.read_unread x)

theorem rowsR (v : View sig .tc .vmem S5632x1024 .bf16) (f : v.ty.Contents (Elt Ideal)) (hx : IsM (a := 5632) (b := 1024) (v.read (Elt Ideal) f) U)
    (o : ℕ) (inb : ∀ k, (![o, 0] : Fin 2 → ℕ) k + S2816x1024.size k ≤ S5632x1024.size k) :
    IsM (a := 2816) (b := 1024) (v.readAt (Elt Ideal) (Rect.unit (s := S5632x1024) ![o, 0] S2816x1024.size inb).toLoadRect f) (fun j k => U (o + j) k) := fun i => by
  refine (hx ((Rect.unit (s := S5632x1024) ![o, 0] S2816x1024.size inb).emb i)).trans ?_
  have e0 : ((Rect.unit (s := S5632x1024) ![o, 0] S2816x1024.size inb).emb i 0).val = o + (i 0).val := by
    show o + 1 * (i 0).val = _; omega
  have e1 : ((Rect.unit (s := S5632x1024) ![o, 0] S2816x1024.size inb).emb i 1).val = (i 1).val := by
    show 0 + 1 * (i 1).val = _; omega
  rw [e0, e1]

theorem colsR (v : View sig .tc .vmem S256x5632 .f32) (f : v.ty.Contents (Elt Ideal)) (hx : IsM (a := 256) (b := 5632) (v.read (Elt Ideal) f) U)
    (o : ℕ) (inb : ∀ k, (![0, o] : Fin 2 → ℕ) k + S256x2816.size k ≤ S256x5632.size k) :
    IsM (a := 256) (b := 2816) (v.readAt (Elt Ideal) (Rect.unit (s := S256x5632) ![0, o] S256x2816.size inb).toLoadRect f) (fun j k => U j (o + k)) := fun i => by
  refine (hx ((Rect.unit (s := S256x5632) ![0, o] S256x2816.size inb).emb i)).trans ?_
  have e0 : ((Rect.unit (s := S256x5632) ![0, o] S256x2816.size inb).emb i 0).val = (i 0).val := by
    show 0 + 1 * (i 0).val = _; omega
  have e1 : ((Rect.unit (s := S256x5632) ![0, o] S256x2816.size inb).emb i 1).val = o + (i 1).val := by
    show o + 1 * (i 1).val = _; omega
  rw [e0, e1]

/-- A store of the whole buffer. -/
theorem read_writes_whole {s : Shape} {e : EltTy} (v : View sig .tc .vmem s e) (f : v.ty.Contents (Elt Ideal)) (w : Vec Ideal s e) :
    v.read (Elt Ideal) (v.writes (Elt Ideal) f [⟨Rect.whole s, w⟩]) = w :=
  View.read_writes_full v f _ w []

/-- Two halves stored side by side. -/
theorem besides (v : View sig .tc .vmem S256x5632 .f32) (f : v.ty.Contents (Elt Ideal)) (w1 w2 : Vec Ideal S256x2816 .f32)
    (inb1 : ∀ k, (![0, 0] : Fin 2 → ℕ) k + S256x2816.size k ≤ S256x5632.size k) (inb2 : ∀ k, (![0, 2816] : Fin 2 → ℕ) k + S256x2816.size k ≤ S256x5632.size k)
    (h1 : IsM (a := 256) (b := 2816) w1 U) (h2 : IsM (a := 256) (b := 2816) w2 (fun r p => U r (2816 + p))) :
    IsM (a := 256) (b := 5632) (v.read (Elt Ideal) (v.writes (Elt Ideal) f [⟨Rect.unit (s := S256x5632) ![0, 2816] S256x2816.size inb2, w2⟩, ⟨Rect.unit (s := S256x5632) ![0, 0] S256x2816.size inb1, w1⟩])) U := fun i => by
  have hi : (i 1).val < 5632 := (i 1).isLt
  by_cases c : (i 1).val < 2816
  · refine (View.read_writes_cons_unit_of_not_mem v f inb2 w2 _ i rfl 1 (Or.inl c)).trans ?_
    refine (View.read_writes_cons_unit_of_mem v f inb1 w1 [] i (ix2 (i 0) ⟨(i 1).val, c⟩) rfl fun k => ?_).trans (h1 _)
    match k with
    | ⟨0, _⟩ => exact (Nat.zero_add _).symm
    | ⟨1, _⟩ => exact (Nat.zero_add _).symm
  · refine (View.read_writes_cons_unit_of_mem v f inb2 w2 _ i (ix2 (i 0) ⟨(i 1).val - 2816, by omega⟩) rfl fun k => ?_).trans ((h2 _).trans ?_)
    · match k with
      | ⟨0, _⟩ => exact (Nat.zero_add _).symm
      | ⟨1, _⟩ => show (i 1).val = 2816 + ((i 1).val - 2816); omega
    · show ((U (i 0).val (2816 + ((i 1).val - 2816)) : ℝ) : EReal) = _
      rw [show 2816 + ((i 1).val - 2816) = (i 1).val by omega]

/-- Two halves stored one below the other. -/
theorem below {D : Dat} (v : View sig .tc .vmem S5632x256 .bf16) (f : v.ty.Contents (Elt Ideal)) (w1 w2 : Vec Ideal S2816x256 .bf16)
    (inb1 : ∀ k, (![0, 0] : Fin 2 → ℕ) k + S2816x256.size k ≤ S5632x256.size k) (inb2 : ∀ k, (![2816, 0] : Fin 2 → ℕ) k + S2816x256.size k ≤ S5632x256.size k)
    (h1 : IsM (a := 2816) (b := 256) w1 (fun p r => D.dgate r p)) (h2 : IsM (a := 2816) (b := 256) w2 (fun p r => D.dup r p)) :
    IsM (a := 5632) (b := 256) (v.read (Elt Ideal) (v.writes (Elt Ideal) f [⟨Rect.unit (s := S5632x256) ![2816, 0] S2816x256.size inb2, w2⟩, ⟨Rect.unit (s := S5632x256) ![0, 0] S2816x256.size inb1, w1⟩])) (fun p r => D.dgu r p) := fun i => by
  have hi : (i 0).val < 5632 := (i 0).isLt
  show _ = ((D.dgu (i 1).val (i 0).val : ℝ) : EReal)
  unfold Dat.dgu
  by_cases c : (i 0).val < 2816
  · rw [if_pos c]
    refine (View.read_writes_cons_unit_of_not_mem v f inb2 w2 _ i rfl 0 (Or.inl c)).trans ?_
    refine (View.read_writes_cons_unit_of_mem v f inb1 w1 [] i (ix2 ⟨(i 0).val, c⟩ (i 1)) rfl fun k => ?_).trans (h1 _)
    match k with
    | ⟨0, _⟩ => exact (Nat.zero_add _).symm
    | ⟨1, _⟩ => exact (Nat.zero_add _).symm
  · rw [if_neg c]
    refine (View.read_writes_cons_unit_of_mem v f inb2 w2 _ i (ix2 ⟨(i 0).val - 2816, by omega⟩ (i 1)) rfl fun k => ?_).trans (h2 _)
    match k with
    | ⟨0, _⟩ => show (i 0).val = 2816 + ((i 0).val - 2816); omega
    | ⟨1, _⟩ => exact (Nat.zero_add _).symm
end

/-! ### Sums over one more block of rows -/

theorem Dat.loss_add (D : Dat) (n : ℕ) : D.loss (n + 256) = D.loss n + 1 / 2 * ∑ r : Fin 256, (D.rows n).lossRow r := by
  unfold Dat.loss
  rw [Finset.sum_range_add, mul_add, Finset.sum_range (fun x => D.lossRow (n + x))]
  rfl
theorem Dat.dg3_add (D : Dat) (n q : ℕ) : D.dg3 (n + 256) q = D.dg3 n q + ∑ r : Fin 256, (D.rows n).dh2 r q * (D.rows n).xn3 r q := by
  unfold Dat.dg3
  rw [Finset.sum_range_add, Finset.sum_range (fun x => D.dh2 (n + x) q * D.xn3 (n + x) q)]
  rfl
theorem Dat.dg2_add (D : Dat) (n q : ℕ) : D.dg2 (n + 256) q = D.dg2 n q + ∑ r : Fin 256, (D.rows n).dhn r q * (D.rows n).xn2 r q := by
  unfold Dat.dg2
  rw [Finset.sum_range_add, Finset.sum_range (fun x => D.dhn (n + x) q * D.xn2 (n + x) q)]
  rfl

/-- What a grid point carries to the next one after the rows below `n`: the sums and the copies of the weights. -/
structure Carry (D : Dat) (n : ℕ) (p9 : Vec Ideal S1x128 .f32) (p10 p11 : Vec Ideal S1x1024 .f32) (s0 : Vec Ideal S5632x1024 .bf16) (s1 : Vec Ideal S2816x1024 .bf16) : Prop where
  loss : IsM (a := 1) (b := 128) p9 (fun _ _ => D.loss n)
  dg3 : IsM (a := 1) (b := 1024) p10 (fun _ q => D.dg3 n q)
  dg2 : IsM (a := 1) (b := 1024) p11 (fun _ q => D.dg2 n q)
  w1 : IsM (a := 5632) (b := 1024) s0 (fun j k => D.W1 k j)
  w2 : IsM (a := 2816) (b := 1024) s1 D.W2

/-- What a grid point leaves in the blocks it writes once. -/
structure Leaves (D : Dat) (p5 : Vec Ideal S2816x256 .bf16) (p6 : Vec Ideal S5632x256 .bf16) (p7 : Vec Ideal S256x1024 .bf16) (p8 : Vec Ideal S256x1024 .f32) : Prop where
  act : IsM (a := 2816) (b := 256) p5 (fun p r => D.act r p)
  dgu : IsM (a := 5632) (b := 256) p6 (fun p r => D.dgu r p)
  dff : IsM (a := 256) (b := 1024) p7 D.dff
  dh1 : IsM (a := 256) (b := 1024) p8 D.dh1

/-- What a grid point's input blocks hold. -/
structure Ins (D : Dat) (x0 : Vec Ideal S256x1024 .bf16) (x1 x2 : Vec Ideal S256x1024 .f32) (x3 x4 : Vec Ideal S1x1024 .f32) : Prop where
  x0 : IsM (a := 256) (b := 1024) x0 D.hn
  x1 : IsM (a := 256) (b := 1024) x1 D.X
  x2 : IsM (a := 256) (b := 1024) x2 D.T
  x3 : IsM (a := 1) (b := 1024) x3 (fun _ q => D.G2 q)
  x4 : IsM (a := 1) (b := 1024) x4 (fun _ q => D.G3 q)

section CaseA
variable (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg6 : Memref sig .tc .vmem S1x1024 .f32) (harg6 : arg6.IsWhole) (arg7 : Memref sig .tc .vmem S1x1024 .f32) (harg7 : arg7.IsWhole) (arg8 : Memref sig .tc .vmem S2816x256 .bf16) (harg8 : arg8.IsWhole) (arg9 : Memref sig .tc .vmem S5632x256 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S256x5632 .f32) (harg17 : arg17.IsWhole) (hc0 : cond0_0 i) (hc1 : cond0_1 i) (hc2 : ¬ cond0_2 i) (hc3 : cond0_3 i) (hc4 : ¬ cond0_4 i) (hc5 : cond0_5 i) (hc6 : ¬ cond0_6 i) (x0 : Vec Ideal S256x1024 .bf16) (x1 : Vec Ideal S256x1024 .f32) (x2 : Vec Ideal S256x1024 .f32) (x3 : Vec Ideal S1x1024 .f32) (x4 : Vec Ideal S1x1024 .f32) (fh0 : HbBuf0 (F := Ideal) c hbM0_0) (fh1 : HbBuf0 (F := Ideal) c hbM0_1)
  {D : Dat} {n : ℕ} (I : Ins (D.rows n) x0 x1 x2 x3 x4) (hw1 : IsM (a := 5632) (b := 1024) fh0 (fun j k => D.W1 k j)) (hw2 : IsM (a := 2816) (b := 1024) fh1 D.W2)
include c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1

include hw1 in
theorem vA6 : IsM (a := 2816) (b := 1024) (kernelRun0_A.sl.v6 (F := Ideal) c arg15 fh0) (fun j k => D.W1 k j) :=
  (rowsR _ _ (IsM.of_eq (read_writes_whole _ _ _) hw1) 0 inb_S5632x1024_S2816x1024_0_0).congr fun j _ k _ => by rw [Nat.zero_add]
include hw1 in
theorem vA8 : IsM (a := 2816) (b := 1024) (kernelRun0_A.sl.v8 (F := Ideal) c arg15 fh0) (fun j k => D.W1 k (2816 + j)) :=
  rowsR _ _ (IsM.of_eq (read_writes_whole _ _ _) hw1) 2816 inb_S5632x1024_S2816x1024_2816_0
include hw2 in
theorem vA22 : IsM (a := 2816) (b := 1024) (kernelRun0_A.sl.v22 (F := Ideal) c arg16 fh1) D.W2 :=
  IsM.of_eq ((View.readAt_full _ _ _).trans (read_writes_whole _ _ _)) hw2

include I hw1 hw2

theorem blkA : Blk (D.rows n) (View.readAt (Elt Ideal) arg1.view (Rect.unit (s := S256x1024) ![0, 0] S256x1024.size inb_S256x1024_S256x1024_0_0).toLoadRect (harg1.unread x0)) (kernelRun0_A.sl.v6 (F := Ideal) c arg15 fh0) (kernelRun0_A.sl.v8 (F := Ideal) c arg15 fh0) (kernelRun0_A.sl.v22 (F := Ideal) c arg16 fh1) (View.readAt (Elt Ideal) arg7.view (Rect.unit (s := S1x1024) ![0, 0] S1x1024.size inb_S1x1024_S1x1024_0_0).toLoadRect (harg7.unread x4)) (View.readAt (Elt Ideal) arg6.view (Rect.unit (s := S1x1024) ![0, 0] S1x1024.size inb_S1x1024_S1x1024_0_0).toLoadRect (harg6.unread x3)) (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2)) where
  h3 := IsM.of_eq (wholeR arg1 harg1 x0 inb_S256x1024_S256x1024_0_0) I.x0
  h6 := vA6 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 hw1
  h8 := vA8 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 hw1
  h22 := vA22 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 hw2
  h26 := IsM.of_eq (wholeR arg7 harg7 x4 inb_S1x1024_S1x1024_0_0) I.x4
  h113 := IsM.of_eq (wholeR arg6 harg6 x3 inb_S1x1024_S1x1024_0_0) I.x3
  h39 := IsM.of_eq (wholeR arg2 harg2 x1 inb_S256x1024_S256x1024_0_0) I.x1
  h41 := IsM.of_eq (wholeR arg3 harg3 x2 inb_S256x1024_S256x1024_0_0) I.x2

theorem guA : IsM (a := 256) (b := 5632) (arg17.view.read (Elt Ideal) (arg17.view.writes (Elt Ideal) arg17.view.junk (kernelRun0_A.sl.HS2_2 (F := Ideal) c arg1 harg1 arg15 x0 fh0))) (D.rows n).gu :=
  besides arg17.view _ _ _ inb_S256x5632_S256x2816_0_0 inb_S256x5632_S256x2816_0_2816 (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).gate' (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).up'

theorem blk2A : Blk2 (D.rows n) (View.readAt (Elt Ideal) arg2.view (Rect.unit (s := S256x1024) ![0, 0] S256x1024.size inb_S256x1024_S256x1024_0_0).toLoadRect (harg2.unread x1)) (k0_pay15 (k0_pay8 (View.readAt (Elt Ideal) arg1.view (Rect.unit (s := S256x1024) ![0, 0] S256x1024.size inb_S256x1024_S256x1024_0_0).toLoadRect (harg1.unread x0)) (kernelRun0_A.sl.v6 (F := Ideal) c arg15 fh0) (kernelRun0_A.sl.v8 (F := Ideal) c arg15 fh0) (kernelRun0_A.sl.v22 (F := Ideal) c arg16 fh1)) (View.readAt (Elt Ideal) arg7.view (Rect.unit (s := S1x1024) ![0, 0] S1x1024.size inb_S1x1024_S1x1024_0_0).toLoadRect (harg7.unread x4)) (k0_pay9 (View.readAt (Elt Ideal) arg1.view (Rect.unit (s := S256x1024) ![0, 0] S256x1024.size inb_S256x1024_S256x1024_0_0).toLoadRect (harg1.unread x0)) (kernelRun0_A.sl.v6 (F := Ideal) c arg15 fh0) (kernelRun0_A.sl.v8 (F := Ideal) c arg15 fh0) (kernelRun0_A.sl.v22 (F := Ideal) c arg16 fh1)) k0_pay10 (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2))) (k0_pay17 (k0_pay8 (View.readAt (Elt Ideal) arg1.view (Rect.unit (s := S256x1024) ![0, 0] S256x1024.size inb_S256x1024_S256x1024_0_0).toLoadRect (harg1.unread x0)) (kernelRun0_A.sl.v6 (F := Ideal) c arg15 fh0) (kernelRun0_A.sl.v8 (F := Ideal) c arg15 fh0) (kernelRun0_A.sl.v22 (F := Ideal) c arg16 fh1)) (View.readAt (Elt Ideal) arg7.view (Rect.unit (s := S1x1024) ![0, 0] S1x1024.size inb_S1x1024_S1x1024_0_0).toLoadRect (harg7.unread x4)) (k0_pay9 (View.readAt (Elt Ideal) arg1.view (Rect.unit (s := S256x1024) ![0, 0] S256x1024.size inb_S256x1024_S256x1024_0_0).toLoadRect (harg1.unread x0)) (kernelRun0_A.sl.v6 (F := Ideal) c arg15 fh0) (kernelRun0_A.sl.v8 (F := Ideal) c arg15 fh0) (kernelRun0_A.sl.v22 (F := Ideal) c arg16 fh1)) k0_pay10 (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2))) (k0_pay18 (k0_pay9 (View.readAt (Elt Ideal) arg1.view (Rect.unit (s := S256x1024) ![0, 0] S256x1024.size inb_S256x1024_S256x1024_0_0).toLoadRect (harg1.unread x0)) (kernelRun0_A.sl.v6 (F := Ideal) c arg15 fh0) (kernelRun0_A.sl.v8 (F := Ideal) c arg15 fh0) (kernelRun0_A.sl.v22 (F := Ideal) c arg16 fh1)) k0_pay10)
    (kernelRun0_A.sl.v22 (F := Ideal) c arg16 fh1) (kernelRun0_A.sl.v6 (F := Ideal) c arg15 fh0) (kernelRun0_A.sl.v8 (F := Ideal) c arg15 fh0) (kernelRun0_A.sl.v88 (F := Ideal) c arg1 harg1 arg15 arg17 x0 fh0) (kernelRun0_A.sl.v89 (F := Ideal) c arg1 harg1 arg15 arg17 x0 fh0) (View.readAt (Elt Ideal) arg6.view (Rect.unit (s := S1x1024) ![0, 0] S1x1024.size inb_S1x1024_S1x1024_0_0).toLoadRect (harg6.unread x3)) where
  h39 := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).h39
  h60 := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dh2
  hd := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dff
  h86 := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).h22
  h105 := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).h6
  h109 := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).h8
  h88 := (colsR _ _ (guA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2) 0 inb_S256x5632_S256x2816_0_0).congr fun j _ k _ => by rw [Nat.zero_add]
  h89 := colsR _ _ (guA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2) 2816 inb_S256x5632_S256x2816_0_2816
  h113 := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).h113

theorem leavesA : Leaves (D.rows n) (out0_A_5 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (out0_A_6 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (out0_A_7 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (out0_A_8 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) where
  act := by
    unfold out0_A_5 kernelRun0_A
    dsimp only
    rw [View.read_writes_full]
    exact (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).actT
  dgu := by
    unfold out0_A_6 kernelRun0_A
    dsimp only
    exact below _ _ _ _ inb_S5632x256_S2816x256_0_0 inb_S5632x256_S2816x256_2816_0 (blk2A c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dgateT (blk2A c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dupT
  dff := by
    unfold out0_A_7 kernelRun0_A
    dsimp only
    rw [View.read_writes_full]
    exact (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dff
  dh1 := by
    unfold out0_A_8 kernelRun0_A
    dsimp only
    rw [View.read_writes_full]
    exact (blk2A c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dh1

theorem carryA (hn : n = 0) : Carry D 256 (out0_A_9 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (out0_A_10 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (out0_A_11 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (sout0_A_0 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) (sout0_A_1 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1) where
  loss := by
    have h := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).lossPart
    subst hn
    unfold out0_A_9 kernelRun0_A
    dsimp only
    rw [View.read_writes_full]
    refine IsM.congr h fun r _ q _ => ?_
    rw [show 256 = 0 + 256 from rfl, D.loss_add 0, show D.loss 0 = 0 by simp [Dat.loss]]
    exact (zero_add _).symm
  dg3 := by
    have h := (blkA c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dg3Part
    subst hn
    unfold out0_A_10 kernelRun0_A
    dsimp only
    rw [View.read_writes_full]
    refine IsM.congr h fun r _ q _ => ?_
    rw [show 256 = 0 + 256 from rfl, D.dg3_add 0, show D.dg3 0 q = 0 by simp [Dat.dg3]]
    exact (zero_add _).symm
  dg2 := by
    have h := (blk2A c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 fh0 fh1 I hw1 hw2).dg2Part
    subst hn
    unfold out0_A_11 kernelRun0_A
    dsimp only
    rw [View.read_writes_full]
    refine IsM.congr h fun r _ q _ => ?_
    rw [show 256 = 0 + 256 from rfl, D.dg2_add 0, show D.dg2 0 q = 0 by simp [Dat.dg2]]
    exact (zero_add _).symm
  w1 := by
    unfold sout0_A_0 kernelRun0_A
    dsimp only
    exact IsM.of_eq (read_writes_whole _ _ _) hw1
  w2 := by
    unfold sout0_A_1 kernelRun0_A
    dsimp only
    exact IsM.of_eq (read_writes_whole _ _ _) hw2

end CaseA

section CaseB
variable (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg6 : Memref sig .tc .vmem S1x1024 .f32) (harg6 : arg6.IsWhole) (arg7 : Memref sig .tc .vmem S1x1024 .f32) (harg7 : arg7.IsWhole) (arg8 : Memref sig .tc .vmem S2816x256 .bf16) (harg8 : arg8.IsWhole) (arg9 : Memref sig .tc .vmem S5632x256 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S256x5632 .f32) (harg17 : arg17.IsWhole) (hc0 : ¬ cond0_0 i) (hc1 : ¬ cond0_1 i) (hc2 : cond0_2 i) (hc3 : ¬ cond0_3 i) (hc4 : cond0_4 i) (hc5 : ¬ cond0_5 i) (hc6 : cond0_6 i) (x0 : Vec Ideal S256x1024 .bf16) (x1 : Vec Ideal S256x1024 .f32) (x2 : Vec Ideal S256x1024 .f32) (x3 : Vec Ideal S1x1024 .f32) (x4 : Vec Ideal S1x1024 .f32) (xo9 : Vec Ideal S1x128 .f32) (xo10 : Vec Ideal S1x1024 .f32) (xo11 : Vec Ideal S1x1024 .f32) (xs0 : Vec Ideal S5632x1024 .bf16) (xs1 : Vec Ideal S2816x1024 .bf16) (fh0 : HbBuf0 (F := Ideal) c hbM0_0) (fh1 : HbBuf0 (F := Ideal) c hbM0_1)
  {D : Dat} {n : ℕ} (I : Ins (D.rows n) x0 x1 x2 x3 x4) (K : Carry D n xo9 xo10 xo11 xs0 xs1)
include c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1

include I K

theorem blkB : Blk (D.rows n) (View.readAt (Elt Ideal) arg1.view (Rect.unit (s := S256x1024) ![0, 0] S256x1024.size inb_S256x1024_S256x1024_0_0).toLoadRect (harg1.unread x0)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (View.readAt (Elt Ideal) arg16.view (Rect.unit (s := S2816x1024) ![0, 0] S2816x1024.size inb_S2816x1024_S2816x1024_0_0).toLoadRect (harg16.unread xs1)) (View.readAt (Elt Ideal) arg7.view (Rect.unit (s := S1x1024) ![0, 0] S1x1024.size inb_S1x1024_S1x1024_0_0).toLoadRect (harg7.unread x4)) (View.readAt (Elt Ideal) arg6.view (Rect.unit (s := S1x1024) ![0, 0] S1x1024.size inb_S1x1024_S1x1024_0_0).toLoadRect (harg6.unread x3)) (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2)) where
  h3 := IsM.of_eq (wholeR arg1 harg1 x0 inb_S256x1024_S256x1024_0_0) I.x0
  h6 := (rowsR _ _ (IsM.of_eq (harg15.read_unread xs0) K.w1) 0 inb_S5632x1024_S2816x1024_0_0).congr fun j _ k _ => by rw [Nat.zero_add]; rfl
  h8 := rowsR _ _ (IsM.of_eq (harg15.read_unread xs0) K.w1) 2816 inb_S5632x1024_S2816x1024_2816_0
  h22 := IsM.of_eq (wholeR arg16 harg16 xs1 inb_S2816x1024_S2816x1024_0_0) K.w2
  h26 := IsM.of_eq (wholeR arg7 harg7 x4 inb_S1x1024_S1x1024_0_0) I.x4
  h113 := IsM.of_eq (wholeR arg6 harg6 x3 inb_S1x1024_S1x1024_0_0) I.x3
  h39 := IsM.of_eq (wholeR arg2 harg2 x1 inb_S256x1024_S256x1024_0_0) I.x1
  h41 := IsM.of_eq (wholeR arg3 harg3 x2 inb_S256x1024_S256x1024_0_0) I.x2

theorem guB : IsM (a := 256) (b := 5632) (arg17.view.read (Elt Ideal) (arg17.view.writes (Elt Ideal) arg17.view.junk (kernelRun0_B.sl.HS2_2 (F := Ideal) c arg1 harg1 arg15 harg15 x0 xs0))) (D.rows n).gu :=
  besides arg17.view _ _ _ inb_S256x5632_S256x2816_0_0 inb_S256x5632_S256x2816_0_2816 (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).gate' (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).up'

theorem blk2B : Blk2 (D.rows n) (View.readAt (Elt Ideal) arg2.view (Rect.unit (s := S256x1024) ![0, 0] S256x1024.size inb_S256x1024_S256x1024_0_0).toLoadRect (harg2.unread x1)) (k0_pay15 (k0_pay8 (View.readAt (Elt Ideal) arg1.view (Rect.unit (s := S256x1024) ![0, 0] S256x1024.size inb_S256x1024_S256x1024_0_0).toLoadRect (harg1.unread x0)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (View.readAt (Elt Ideal) arg16.view (Rect.unit (s := S2816x1024) ![0, 0] S2816x1024.size inb_S2816x1024_S2816x1024_0_0).toLoadRect (harg16.unread xs1))) (View.readAt (Elt Ideal) arg7.view (Rect.unit (s := S1x1024) ![0, 0] S1x1024.size inb_S1x1024_S1x1024_0_0).toLoadRect (harg7.unread x4)) (k0_pay9 (View.readAt (Elt Ideal) arg1.view (Rect.unit (s := S256x1024) ![0, 0] S256x1024.size inb_S256x1024_S256x1024_0_0).toLoadRect (harg1.unread x0)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (View.readAt (Elt Ideal) arg16.view (Rect.unit (s := S2816x1024) ![0, 0] S2816x1024.size inb_S2816x1024_S2816x1024_0_0).toLoadRect (harg16.unread xs1))) k0_pay10 (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2))) (k0_pay17 (k0_pay8 (View.readAt (Elt Ideal) arg1.view (Rect.unit (s := S256x1024) ![0, 0] S256x1024.size inb_S256x1024_S256x1024_0_0).toLoadRect (harg1.unread x0)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (View.readAt (Elt Ideal) arg16.view (Rect.unit (s := S2816x1024) ![0, 0] S2816x1024.size inb_S2816x1024_S2816x1024_0_0).toLoadRect (harg16.unread xs1))) (View.readAt (Elt Ideal) arg7.view (Rect.unit (s := S1x1024) ![0, 0] S1x1024.size inb_S1x1024_S1x1024_0_0).toLoadRect (harg7.unread x4)) (k0_pay9 (View.readAt (Elt Ideal) arg1.view (Rect.unit (s := S256x1024) ![0, 0] S256x1024.size inb_S256x1024_S256x1024_0_0).toLoadRect (harg1.unread x0)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (View.readAt (Elt Ideal) arg16.view (Rect.unit (s := S2816x1024) ![0, 0] S2816x1024.size inb_S2816x1024_S2816x1024_0_0).toLoadRect (harg16.unread xs1))) k0_pay10 (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2))) (k0_pay18 (k0_pay9 (View.readAt (Elt Ideal) arg1.view (Rect.unit (s := S256x1024) ![0, 0] S256x1024.size inb_S256x1024_S256x1024_0_0).toLoadRect (harg1.unread x0)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (View.readAt (Elt Ideal) arg16.view (Rect.unit (s := S2816x1024) ![0, 0] S2816x1024.size inb_S2816x1024_S2816x1024_0_0).toLoadRect (harg16.unread xs1))) k0_pay10)
    (View.readAt (Elt Ideal) arg16.view (Rect.unit (s := S2816x1024) ![0, 0] S2816x1024.size inb_S2816x1024_S2816x1024_0_0).toLoadRect (harg16.unread xs1)) (View.readAt (Elt Ideal) arg15.view (Rect.unit (s := S5632x1024) ![0, 0] S2816x1024.size inb_S5632x1024_S2816x1024_0_0).toLoadRect (harg15.unread xs0)) (View.readAt (Elt Ideal) arg15.view (Rect.unit (s := S5632x1024) ![2816, 0] S2816x1024.size inb_S5632x1024_S2816x1024_2816_0).toLoadRect (harg15.unread xs0)) (kernelRun0_B.sl.v88 (F := Ideal) c arg1 harg1 arg15 harg15 arg17 x0 xs0) (kernelRun0_B.sl.v89 (F := Ideal) c arg1 harg1 arg15 harg15 arg17 x0 xs0) (View.readAt (Elt Ideal) arg6.view (Rect.unit (s := S1x1024) ![0, 0] S1x1024.size inb_S1x1024_S1x1024_0_0).toLoadRect (harg6.unread x3)) where
  h39 := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).h39
  h60 := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dh2
  hd := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dff
  h86 := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).h22
  h105 := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).h6
  h109 := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).h8
  h88 := (colsR _ _ (guB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K) 0 inb_S256x5632_S256x2816_0_0).congr fun j _ k _ => by rw [Nat.zero_add]
  h89 := colsR _ _ (guB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K) 2816 inb_S256x5632_S256x2816_0_2816
  h113 := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).h113

theorem leavesB : Leaves (D.rows n) (out0_B_5 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (out0_B_6 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (out0_B_7 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (out0_B_8 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) where
  act := by
    unfold out0_B_5 kernelRun0_B
    dsimp only
    rw [View.read_writes_full]
    exact (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).actT
  dgu := by
    unfold out0_B_6 kernelRun0_B
    dsimp only
    exact below _ _ _ _ inb_S5632x256_S2816x256_0_0 inb_S5632x256_S2816x256_2816_0 (blk2B c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dgateT (blk2B c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dupT
  dff := by
    unfold out0_B_7 kernelRun0_B
    dsimp only
    rw [View.read_writes_full]
    exact (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dff
  dh1 := by
    unfold out0_B_8 kernelRun0_B
    dsimp only
    rw [View.read_writes_full]
    exact (blk2B c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dh1

theorem carryB : Carry D (n + 256) (out0_B_9 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (out0_B_10 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (out0_B_11 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (sout0_B_0 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) (sout0_B_1 c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1) where
  loss := by
    have h := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).lossPart
    unfold out0_B_9 kernelRun0_B
    dsimp only
    rw [View.read_writes_full]
    refine IsM.congr ((IsM.cast (IsM.of_eq (wholeR arg12 harg12 xo9 inb_S1x128_S1x128_0_0) K.loss) _).add h) fun r _ q _ => ?_
    rw [D.loss_add n]
  dg3 := by
    have h := (blkB c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dg3Part
    unfold out0_B_10 kernelRun0_B
    dsimp only
    rw [View.read_writes_full]
    refine IsM.congr ((IsM.cast (IsM.of_eq (wholeR arg13 harg13 xo10 inb_S1x1024_S1x1024_0_0) K.dg3) _).add h) fun r _ q _ => ?_
    rw [D.dg3_add n]
  dg2 := by
    have h := (blk2B c i arg1 harg1 arg2 harg2 arg3 harg3 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 x0 x1 x2 x3 x4 xo9 xo10 xo11 xs0 xs1 fh0 fh1 I K).dg2Part
    unfold out0_B_11 kernelRun0_B
    dsimp only
    rw [View.read_writes_full]
    refine IsM.congr ((IsM.cast (IsM.of_eq (wholeR arg14 harg14 xo11 inb_S1x1024_S1x1024_0_0) K.dg2) _).add h) fun r _ q _ => ?_
    rw [D.dg2_add n]
  w1 := K.w1
  w2 := K.w2

end CaseB

end Cert.Ffn

end
-- ==== Proof.FfnArr.lean ====
/- The layer's result arrays, from what the kernel leaves at each grid point. -/
module

public import proofs.«01_k».proof.Proof.FfnRun
public import proofs.«01_k».proof.Proof.Gen.Kernel2Ideal.Value
public import Idealize.ShloMosaic.Lib.Pipeline.ValueKit.Geometry

@[expose] public section

set_option maxRecDepth 16384
set_option maxHeartbeats 400000

noncomputable section

namespace Cert.Ffn

open Idealize.ShloMosaic Idealize.ShloMosaic.TcCoe Cert.Kernel2Ideal Cert.Kernel2Ideal.Gen
open Idealize.SL Idealize.ShloMosaic.Pipeline

theorem win_0 : ∀ t : Fin cfg0.N, win0_0.index t = ![t.val, 0] := by decide +kernel
theorem win_1 : ∀ t : Fin cfg0.N, win0_1.index t = ![t.val, 0] := by decide +kernel
theorem win_2 : ∀ t : Fin cfg0.N, win0_2.index t = ![t.val, 0] := by decide +kernel
theorem win_3 : ∀ t : Fin cfg0.N, win0_3.index t = ![0, 0] := by decide +kernel
theorem win_4 : ∀ t : Fin cfg0.N, win0_4.index t = ![0, 0] := by decide +kernel
theorem win_5 : ∀ t : Fin cfg0.N, win0_5.index t = ![0, t.val] := by decide +kernel
theorem win_6 : ∀ t : Fin cfg0.N, win0_6.index t = ![0, t.val] := by decide +kernel
theorem win_7 : ∀ t : Fin cfg0.N, win0_7.index t = ![t.val, 0] := by decide +kernel
theorem win_8 : ∀ t : Fin cfg0.N, win0_8.index t = ![t.val, 0] := by decide +kernel
theorem win_9 : ∀ t : Fin cfg0.N, win0_9.index t = ![0, 0] := by decide +kernel
theorem win_10 : ∀ t : Fin cfg0.N, win0_10.index t = ![0, 0] := by decide +kernel
theorem win_11 : ∀ t : Fin cfg0.N, win0_11.index t = ![0, 0] := by decide +kernel
theorem last_9 : ∀ t : Fin cfg0.N, (cfg0.win 9).flush t = true → t.val = 7 := by decide +kernel
theorem last_10 : ∀ t : Fin cfg0.N, (cfg0.win 10).flush t = true → t.val = 7 := by decide +kernel
theorem last_11 : ∀ t : Fin cfg0.N, (cfg0.win 11).flush t = true → t.val = 7 := by decide +kernel

variable (m : (ℓ : Loc nD τ sig) → Buf (Elt Ideal) ℓ) (c : Dev nD) {D : Dat}

/-- What the kernel's argument arrays hold. -/
structure Holds (D : Dat) : Prop where
  hn : IsM (a := 2048) (b := 1024) (V m c main_v12) D.hn
  x : IsM (a := 2048) (b := 1024) (V m c main_arg0) D.X
  t : IsM (a := 2048) (b := 1024) (V m c main_arg1) D.T
  g2 : IsM (a := 1) (b := 1024) (V m c main_arg4) (fun _ q => D.G2 q)
  g3 : IsM (a := 1) (b := 1024) (V m c main_arg5) (fun _ q => D.G3 q)
  w1 : IsM (a := 5632) (b := 1024) (V m c main_v14) (fun j k => D.W1 k j)
  w2 : IsM (a := 2816) (b := 1024) (V m c main_v15) D.W2

variable {m c}

theorem Holds.ins (h : Holds m c D) (t : Fin cfg0.N) : Ins (D.rows (t.val * 256)) (iblk m c 0 t) (iblk m c 1 t) (iblk m c 2 t) (iblk m c 3 t) (iblk m c 4 t) where
  x0 := by
    intro i
    refine (h.hn (((cfg0.win 0).blk t).view.emb i)).trans ?_
    blk_simp [win_0]
    rfl
  x1 := by
    intro i
    refine (h.x (((cfg0.win 1).blk t).view.emb i)).trans ?_
    blk_simp [win_1]
    rfl
  x2 := by
    intro i
    refine (h.t (((cfg0.win 2).blk t).view.emb i)).trans ?_
    blk_simp [win_2]
    rfl
  x3 := by
    intro i
    refine (h.g2 (((cfg0.win 3).blk t).view.emb i)).trans ?_
    blk_simp [win_3]
    rfl
  x4 := by
    intro i
    refine (h.g3 (((cfg0.win 4).blk t).view.emb i)).trans ?_
    blk_simp [win_4]
    rfl

/-- What the outputs and the carried buffers hold after a grid point. -/
structure After (D : Dat) (n : ℕ) (o : Vec Ideal S2816x256 .bf16 × Vec Ideal S5632x256 .bf16 × Vec Ideal S256x1024 .bf16 × Vec Ideal S256x1024 .f32 × Vec Ideal S1x128 .f32
    × Vec Ideal S1x1024 .f32 × Vec Ideal S1x1024 .f32 × Vec Ideal S5632x1024 .bf16 × Vec Ideal S2816x1024 .bf16) : Prop where
  leaves : Leaves (D.rows (n * 256)) o.1 o.2.1 o.2.2.1 o.2.2.2.1
  carry : Carry D ((n + 1) * 256) o.2.2.2.2.1 o.2.2.2.2.2.1 o.2.2.2.2.2.2.1 o.2.2.2.2.2.2.2.1 o.2.2.2.2.2.2.2.2

theorem After.of_eq {n : ℕ} {o : Vec Ideal S2816x256 .bf16 × Vec Ideal S5632x256 .bf16 × Vec Ideal S256x1024 .bf16 × Vec Ideal S256x1024 .f32 × Vec Ideal S1x128 .f32
      × Vec Ideal S1x1024 .f32 × Vec Ideal S1x1024 .f32 × Vec Ideal S5632x1024 .bf16 × Vec Ideal S2816x1024 .bf16}
    {p5 : Vec Ideal S2816x256 .bf16} {p6 : Vec Ideal S5632x256 .bf16} {p7 : Vec Ideal S256x1024 .bf16} {p8 : Vec Ideal S256x1024 .f32} {p9 : Vec Ideal S1x128 .f32}
    {p10 p11 : Vec Ideal S1x1024 .f32} {s0 : Vec Ideal S5632x1024 .bf16} {s1 : Vec Ideal S2816x1024 .bf16} (e : o = (p5, p6, p7, p8, p9, p10, p11, s0, s1))
    (l : Leaves (D.rows (n * 256)) p5 p6 p7 p8) (k : Carry D ((n + 1) * 256) p9 p10 p11 s0 s1) : After D n o := by
  subst e; exact ⟨l, k⟩

theorem Holds.after (h : Holds m c D) : ∀ (n : ℕ) (hn : n < cfg0.N), After D n (outsAt0 m c n hn) := by
  intro n
  induction n with
  | zero =>
    intro hn
    refine After.of_eq (outsAt0_A m c ⟨0, hn⟩ rfl rfl (Nat.not_succ_le_zero 0) rfl (Nat.not_succ_le_zero 0) rfl (Nat.not_succ_le_zero 0)) ?_ ?_
    · exact leavesA (n := 0 * 256) (I := h.ins ⟨0, hn⟩) (hw1 := h.w1) (hw2 := h.w2) ..
    · exact carryA (n := 0 * 256) (I := h.ins ⟨0, hn⟩) (hw1 := h.w1) (hw2 := h.w2) (hn := rfl) ..
  | succ k ih =>
    intro hn
    have a := ih (Nat.lt_of_succ_lt hn)
    have hk : k + 1 < 8 := hn.trans_eq (by decide +kernel)
    have z : ¬ (k + 1) % 8 = 0 := by omega
    have p : 1 ≤ k + 1 := by omega
    refine After.of_eq (outsAt0_B m c ⟨k + 1, hn⟩ z z p z p z p) ?_ ?_
    · exact leavesB (n := (k + 1) * 256) (I := h.ins ⟨k + 1, hn⟩) (K := a.carry) ..
    · have q : (k + 1 + 1) * 256 = (k + 1) * 256 + 256 := by omega
      rw [q]
      exact carryB (n := (k + 1) * 256) (I := h.ins ⟨k + 1, hn⟩) (K := a.carry) ..

/-- An array whose entries are these reals. -/
def arrOf (a b : ℕ) (U : ℕ → ℕ → ℝ) : (⟨2, ![a, b]⟩ : Shape).Idx → EReal := fun i => ((U (i 0).val (i 1).val : ℝ) : EReal)

theorem Holds.arr_5 (h : Holds m c D) : (dats m 0 c).arrAt 5 cfg0.N = arrOf 2816 2048 (fun p r => D.act r p) := by
  refine (dats m 0 c).arrAt_eq_of_covers 5 _ (by decide +kernel) fun t hf y => ?_
  have e := (h.after t.val t.isLt).leaves.act
  unfold arrOf
  blk_simp [win_5]
  rw [after0_5]
  exact (e _)

theorem Holds.arr_6 (h : Holds m c D) : (dats m 0 c).arrAt 6 cfg0.N = arrOf 5632 2048 (fun p r => D.dgu r p) := by
  refine (dats m 0 c).arrAt_eq_of_covers 6 _ (by decide +kernel) fun t hf y => ?_
  have e := (h.after t.val t.isLt).leaves.dgu
  unfold arrOf
  blk_simp [win_6]
  rw [after0_6]
  exact (e _)

theorem Holds.arr_7 (h : Holds m c D) : (dats m 0 c).arrAt 7 cfg0.N = arrOf 2048 1024 (D.dff) := by
  refine (dats m 0 c).arrAt_eq_of_covers 7 _ (by decide +kernel) fun t hf y => ?_
  have e := (h.after t.val t.isLt).leaves.dff
  unfold arrOf
  blk_simp [win_7]
  rw [after0_7]
  exact (e _)

theorem Holds.arr_8 (h : Holds m c D) : (dats m 0 c).arrAt 8 cfg0.N = arrOf 2048 1024 (D.dh1) := by
  refine (dats m 0 c).arrAt_eq_of_covers 8 _ (by decide +kernel) fun t hf y => ?_
  have e := (h.after t.val t.isLt).leaves.dh1
  unfold arrOf
  blk_simp [win_8]
  rw [after0_8]
  exact (e _)

theorem Holds.arr_9 (h : Holds m c D) : (dats m 0 c).arrAt 9 cfg0.N = arrOf 1 128 (fun _ _ => D.loss 2048) := by
  refine (dats m 0 c).arrAt_eq_of_covers 9 _ (by decide +kernel) fun t hf y => ?_
  have e7 := last_9 t hf
  have e := IsM.congr (a := 1) (b := 128) (W := fun _ _ => D.loss 2048) (h.after t.val t.isLt).carry.loss fun r _ q _ => by rw [e7]
  unfold arrOf
  blk_simp [win_9]
  rw [after0_9]
  exact (e _)

theorem Holds.arr_10 (h : Holds m c D) : (dats m 0 c).arrAt 10 cfg0.N = arrOf 1 1024 (fun _ q => D.dg3 2048 q) := by
  refine (dats m 0 c).arrAt_eq_of_covers 10 _ (by decide +kernel) fun t hf y => ?_
  have e7 := last_10 t hf
  have e := IsM.congr (a := 1) (b := 1024) (W := fun _ q => D.dg3 2048 q) (h.after t.val t.isLt).carry.dg3 fun r _ q _ => by rw [e7]
  unfold arrOf
  blk_simp [win_10]
  rw [after0_10]
  exact (e _)

theorem Holds.arr_11 (h : Holds m c D) : (dats m 0 c).arrAt 11 cfg0.N = arrOf 1 1024 (fun _ q => D.dg2 2048 q) := by
  refine (dats m 0 c).arrAt_eq_of_covers 11 _ (by decide +kernel) fun t hf y => ?_
  have e7 := last_11 t hf
  have e := IsM.congr (a := 1) (b := 1024) (W := fun _ q => D.dg2 2048 q) (h.after t.val t.isLt).carry.dg2 fun r _ q _ => by rw [e7]
  unfold arrOf
  blk_simp [win_11]
  rw [after0_11]
  exact (e _)

end Cert.Ffn

end
-- ==== Proof.FfnHost.lean ====
/- The layer's host operations: the normalised rows and the weights as the kernel takes them. -/
module

public import proofs.«01_k».proof.Proof.FfnSpec
public import proofs.«01_k».proof.Proof.Gen.Kernel2Ideal.Frame
public import Idealize.ShloMosaic.Lib.KernelVsHost
public import Idealize.ShloMosaic.Lib.StableHlo.RunLoop
public import Idealize.ShloMosaic.Lib.StableHlo.RunRead

@[expose] public section

set_option maxRecDepth 16384

noncomputable section

namespace Cert.Ffn

open Idealize.ShloMosaic Idealize.ShloMosaic.TcCoe Cert.Kernel2Ideal Cert.Kernel2Ideal.Gen
open Idealize.ShloMosaic.StableHlo Idealize.ShloMosaic.Tactic
open Cert.S5 (coe_sum)

/-- The mean square of each row. -/
def hostMean (x : FVec Ideal S2048x1024 .f32) : FVec Ideal S2048x1 .f32 :=
  Host.divf (broadcastInDim S2048x1 ![0] bcast_S2048_S2048x1_0 (Host.reduceAdd (mulf x x) (constant S_ .f32 0x00000000#32) reducesTo_S2048x1024_S2048_d1 h_S_))
    (broadcastInDim S2048x1 ![] bcast_S_S2048x1 (constant S_ .f32 0x44800000#32))
/-- The reciprocal root of each row's mean square. -/
def hostRoot (x : FVec Ideal S2048x1024 .f32) : FVec Ideal S2048x1 .f32 :=
  Host.rsqrt (addf (hostMean x) (broadcastInDim S2048x1 ![] bcast_S_S2048x1 (constant S_ .f32 0x358637BD#32)))
/-- The normalised rows, scaled and rounded. -/
def hostRows (x : FVec Ideal S2048x1024 .f32) (g : FVec Ideal S1x1024 .f32) : FVec Ideal S2048x1024 .bf16 :=
  truncf .bf16 (mulf (mulf x (broadcastInDim S2048x1024 ![0, 1] bcast_S2048x1_S2048x1024_0_1 (hostRoot x)))
    (broadcastInDim S2048x1024 ![0, 1] bcast_S1x1024_S2048x1024_0_1 g)) bitsLt_bf16_f32

theorem host_v12 (V0 : Valuation τ sig (Elt Ideal)) : after hostOps0 V0 (Proc.devRef .tc main_v12)
    = hostRows (V0 (Proc.devRef .tc main_arg0)) (V0 (Proc.devRef .tc main_arg4)) := by
  simp only [hostOps0, hostRows, hostRoot, hostMean]
  after_results_entrywise []

theorem host_v14 (V0 : Valuation τ sig (Elt Ideal)) : after hostOps0 V0 (Proc.devRef .tc main_v14)
    = (truncf .bf16 (transpose S5632x1024 [1, 0] (show FVec Ideal S1024x5632 .f32 from V0 (Proc.devRef .tc main_arg2)) transposes_S1024x5632_S5632x1024_1_0) bitsLt_bf16_f32 : FVec Ideal S5632x1024 .bf16) := by
  simp only [hostOps0]
  after_results_entrywise []

theorem host_v15 (V0 : Valuation τ sig (Elt Ideal)) : after hostOps0 V0 (Proc.devRef .tc main_v15)
    = (truncf .bf16 (show FVec Ideal S2816x1024 .f32 from V0 (Proc.devRef .tc main_arg3)) bitsLt_bf16_f32 : FVec Ideal S2816x1024 .bf16) := by
  simp only [hostOps0]
  after_results_entrywise []

variable {x : FVec Ideal S2048x1024 .f32} {g : FVec Ideal S1x1024 .f32} {D : Dat}

theorem hostMean_eq (h : IsM (a := 2048) (b := 1024) x D.X) :
    IsM (a := 2048) (b := 1) (hostMean x) (fun r _ => (∑ k : Fin 1024, D.X r k * D.X r k) / 1024) := fun i => by
  unfold hostMean
  simp only [pointwise]
  rw [zero_add, w1024]
  have e : ∀ k : Fin 1024, x (ix2 (i 0) k) * x (ix2 (i 0) k) = ((D.X (i 0).val k.val * D.X (i 0).val k.val : ℝ) : EReal) := fun k => by
    rw [h (ix2 (i 0) k), ← EReal.coe_mul]; rfl
  refine Eq.trans ?_ (div_real (∑ k : Fin 1024, D.X (i 0).val k.val * D.X (i 0).val k.val) (by norm_num : (1024 : ℝ) ≠ 0))
  exact congrArg (fun z => Ideal.div z ((1024 : ℝ) : EReal)) ((Finset.sum_congr rfl fun k _ => e k).trans (coe_sum _ _))

theorem hostRoot_eq (h : IsM (a := 2048) (b := 1024) x D.X) : IsM (a := 2048) (b := 1) (hostRoot x) (fun r _ => rr (D.X r)) := fun i => by
  have e := hostMean_eq h i
  unfold hostRoot
  simp only [pointwise]
  rw [e, wEps, ← EReal.coe_add]
  exact rsqrt_real (ms_pos (D.X (i 0).val))

theorem hostRows_eq (h : IsM (a := 2048) (b := 1024) x D.X) (k : IsM (a := 1) (b := 1024) g (fun _ q => D.G2 q)) :
    IsM (a := 2048) (b := 1024) (hostRows x g) D.hn := fun i => by
  unfold hostRows
  simp only [pointwise]
  have e := hostRoot_eq h (ix2 (i 0) (0 : Fin 1))
  have e' := k (ix2 (0 : Fin 1) (i 1))
  refine Eq.trans (congrArg₂ (· * ·) (congrArg₂ (· * ·) (h i) e) e') ?_
  rw [← EReal.coe_mul, ← EReal.coe_mul]
  rfl

theorem hostTurn_eq {w : FVec Ideal S1024x5632 .f32} (h : IsM (a := 1024) (b := 5632) w D.W1) :
    IsM (a := 5632) (b := 1024) (truncf .bf16 (transpose S5632x1024 [1, 0] w transposes_S1024x5632_S5632x1024_1_0) bitsLt_bf16_f32 : FVec Ideal S5632x1024 .bf16) (fun j k => D.W1 k j) := fun i => by
  simp only [pointwise]
  exact h _

end Cert.Ffn

end
-- ==== Proof.FfnRef.lean ====
/- The reference's values of the feed-forward layer, read over the reals operation by operation. -/
module

public import proofs.«01_k».proof.Proof.FfnSpec
public import proofs.«01_k».proof.Proof.Gen.Reference2Ideal.Read
public import Idealize.ShloMosaic.Lib.KernelVsHost

@[expose] public section

set_option maxRecDepth 16384

noncomputable section

namespace Cert.Ffn

open Idealize.ShloMosaic Cert.Reference2Ideal Cert.Reference2Ideal.Gen Cert.Reference2Ideal.Read
open Cert.S5 (coe_sum dot_coe)

theorem coe_congr {x y : ℝ} (h : x = y) : (x : EReal) = (y : EReal) := h ▸ rfl

/-- A row of finite entries, and a single one. -/
def IsV {a : ℕ} (v : (⟨1, ![a]⟩ : Shape).Idx → EReal) (U : ℕ → ℝ) : Prop := ∀ i, v i = ((U (i 0).val : ℝ) : EReal)
def IsS (v : (⟨0, ![]⟩ : Shape).Idx → EReal) (c : ℝ) : Prop := ∀ i, v i = (c : EReal)

section
variable {x y : EReal} {a b : ℝ}
theorem mulR (h : x = (a : EReal)) (k : y = (b : EReal)) : FloatOps.mulf (F := Ideal) (φ := .f32) x y = ((a * b : ℝ) : EReal) := by
  subst h k; exact (EReal.coe_mul a b).symm
theorem addR (h : x = (a : EReal)) (k : y = (b : EReal)) : FloatOps.addf (F := Ideal) (φ := .f32) x y = ((a + b : ℝ) : EReal) := by
  subst h k; exact (EReal.coe_add a b).symm
theorem subR (h : x = (a : EReal)) (k : y = (b : EReal)) : FloatOps.subf (F := Ideal) (φ := .f32) x y = ((a - b : ℝ) : EReal) := by
  subst h k; exact (EReal.coe_sub a b).symm
theorem divR (h : x = (a : EReal)) (k : y = (b : EReal)) (hb : b ≠ 0) : FloatOps.hostDivf (F := Ideal) (φ := .f32) x y = ((a / b : ℝ) : EReal) := by
  subst h k; exact div_real a hb
theorem negR (h : x = (a : EReal)) : FloatOps.hostNegf (F := Ideal) (φ := .f32) x = ((-a : ℝ) : EReal) := by
  subst h; exact (EReal.coe_neg a).symm
theorem expR (h : x = (a : EReal)) : FloatOps.hostUnary (F := Ideal) (φ := .f32) .exp x = ((Real.exp a : ℝ) : EReal) := by
  subst h; exact Ideal.exp_coe a
theorem rsqR (h : x = (a : EReal)) (ha : 0 < a) : FloatOps.hostUnary (F := Ideal) (φ := .f32) .rsqrt x = (((√a)⁻¹ : ℝ) : EReal) := by
  subst h; exact rsqrt_real ha
theorem sumR {n : ℕ} {z : EReal} {f : Fin n → EReal} {g : Fin n → ℝ} (hz : z = ((0 : ℝ) : EReal)) (h : ∀ k, f k = (g k : EReal)) :
    z + ∑ k, f k = ((∑ k, g k : ℝ) : EReal) := by
  rw [hz, EReal.coe_zero, zero_add, ← coe_sum]
  exact Finset.sum_congr rfl fun k _ => h k
end

/-- The sum of all entries of a row. -/
theorem sumAll {n : ℕ} {z : EReal} {v : (⟨1, ![n]⟩ : Shape).Idx → EReal} {U : ℕ → ℝ} (hz : z = ((0 : ℝ) : EReal)) (h : IsV v U) :
    z + ∑ j, v j = ((∑ r ∈ Finset.range n, U r : ℝ) : EReal) := by
  let e : (⟨1, ![n]⟩ : Shape).Idx ≃ Fin n :=
    { toFun := fun j => j 0
      invFun := fun k a => match a with | ⟨0, _⟩ => k
      left_inv := fun j => funext fun a => match a with | ⟨0, _⟩ => rfl
      right_inv := fun k => rfl }
  rw [hz, EReal.coe_zero, zero_add, Finset.sum_range, ← coe_sum]
  exact Fintype.sum_equiv e _ _ fun j => h j

/-- Zeros before the columns. -/
theorem padLow {v : S2048x2816.Idx → EReal} {z : S_.Idx → EReal} {U : ℕ → ℕ → ℝ} (p : S2048x2816.Pads ![0, 2816] ![0, 0] ![0, 0] S2048x5632) {h_ : 0 < S_.numel}
    (hz : z (Shape.Idx.first h_) = ((0 : ℝ) : EReal)) (h : IsM (a := 2048) (b := 2816) v U) :
    IsM (a := 2048) (b := 5632) (pad S2048x5632 ![0, 2816] ![0, 0] ![0, 0] v z p h_) (fun r q => if q < 2816 then 0 else U r (q - 2816)) := fun i => by
  have h1 : (i 1).val < 5632 := (i 1).isLt
  have h0 : (i 0).val < 2048 := (i 0).isLt
  by_cases hc : (i 1).val < 2816
  · rw [pad_apply_of_not_inside _ _ _ _ _ p h_ i 1 (fun hn => absurd hn.1 (not_le.mpr hc)), hz]
    simp only [if_pos hc]
  · rw [pad_apply_of_inside _ _ _ _ _ p h_ i (fun a => match a with
      | ⟨0, _⟩ => ⟨(i 0).val, h0⟩
      | ⟨1, _⟩ => ⟨(i 1).val - 2816, by show _ < 2816; omega⟩) (fun a => match a with
      | ⟨0, _⟩ => by show (i 0).val = 0 + (i 0).val * 1; omega
      | ⟨1, _⟩ => by show (i 1).val = 2816 + ((i 1).val - 2816) * 1; omega)]
    simp only [if_neg hc]
    exact h _

/-- Zeros behind the columns. -/
theorem padHigh {v : S2048x2816.Idx → EReal} {z : S_.Idx → EReal} {U : ℕ → ℕ → ℝ} (p : S2048x2816.Pads ![0, 0] ![0, 2816] ![0, 0] S2048x5632) {h_ : 0 < S_.numel}
    (hz : z (Shape.Idx.first h_) = ((0 : ℝ) : EReal)) (h : IsM (a := 2048) (b := 2816) v U) :
    IsM (a := 2048) (b := 5632) (pad S2048x5632 ![0, 0] ![0, 2816] ![0, 0] v z p h_) (fun r q => if q < 2816 then U r q else 0) := fun i => by
  have h0 : (i 0).val < 2048 := (i 0).isLt
  by_cases hc : (i 1).val < 2816
  · rw [pad_apply_of_inside _ _ _ _ _ p h_ i (fun a => match a with
      | ⟨0, _⟩ => ⟨(i 0).val, h0⟩
      | ⟨1, _⟩ => ⟨(i 1).val, hc⟩) (fun a => match a with
      | ⟨0, _⟩ => by show (i 0).val = 0 + (i 0).val * 1; omega
      | ⟨1, _⟩ => by show (i 1).val = 0 + (i 1).val * 1; omega)]
    simp only [if_pos hc]
    exact h _
  · rw [pad_apply_of_not_inside _ _ _ _ _ p h_ i 1 (fun hn => by
      have := hn.2.2
      change ((i 1).val - 0) / (0 + 1) < 2816 at this
      omega), hz]
    simp only [if_neg hc]

/-- The derivative through a normalised row, as a sum of the three terms. -/
theorem norm_row (f a : ℕ → ℝ) (q : ℕ) (n : ℕ → ℝ) (hn : ∀ k, n k = f k * rr f := by intro _; rfl) :
    a q * rr f + f q * ((∑ k : Fin 1024, f k * a k) * (-(1 / 2) * (rr f / ms f)) / 1024) + (∑ k : Fin 1024, f k * a k) * (-(1 / 2) * (rr f / ms f)) / 1024 * f q
      = rr f * (a q - n q * ((∑ k : Fin 1024, a k * n k) / 1024)) := by
  rw [norm_back _ _ _ _ _ (rr_sq f)]
  have e : ∑ k : Fin 1024, a k * n k = rr f * ∑ k : Fin 1024, f k * a k := by
    rw [Finset.mul_sum]
    exact Finset.sum_congr rfl fun k _ => by rw [hn]; ring
  rw [e, hn]

theorem dhn_split (D : Dat) (r k : ℕ) : ∑ j : Fin 5632, D.dgu r j * D.W1 k j = D.dhn r k := by
  unfold Dat.dhn
  rw [← Finset.sum_range (fun j => D.dgu r j * D.W1 k j), show (5632 : ℕ) = 2816 + 2816 from rfl, Finset.sum_range_add,
    ← Finset.sum_range (fun p => D.dgate r p * D.W1 k p), ← Finset.sum_range (fun p => D.dup r p * D.W1 k (2816 + p))]
  refine congrArg₂ (· + ·) ?_ ?_
  · exact Finset.sum_congr rfl fun p hp => by unfold Dat.dgu; rw [if_pos (Finset.mem_range.mp hp)]
  · exact Finset.sum_congr rfl fun p hp => by unfold Dat.dgu; rw [if_neg (by omega), Nat.add_sub_cancel_left]

/-- The reference's arguments hold the layer's data. -/
structure Args (D : Dat) (x0 x1 : S2048x1024.Idx → EReal) (x2 : S1024x5632.Idx → EReal) (x3 : S2816x1024.Idx → EReal) (x4 x5 : S1x1024.Idx → EReal) : Prop where
  h0 : IsM (a := 2048) (b := 1024) x0 D.X
  h1 : IsM (a := 2048) (b := 1024) x1 D.T
  h2 : IsM (a := 1024) (b := 5632) x2 D.W1
  h3 : IsM (a := 2816) (b := 1024) x3 D.W2
  h4 : IsM (a := 1) (b := 1024) x4 (fun _ q => D.G2 q)
  h5 : IsM (a := 1) (b := 1024) x5 (fun _ q => D.G3 q)

namespace Args
variable {D : Dat} {x0 x1 : S2048x1024.Idx → EReal} {x2 : S1024x5632.Idx → EReal} {x3 : S2816x1024.Idx → EReal} {x4 x5 : S1x1024.Idx → EReal}
  (A : Args D x0 x1 x2 x3 x4 x5)
include A

theorem v0 : IsV (a := 1024) (val_main_v0 (F := Ideal) x4) (fun r => D.G2 r) := by
  intro i
  have h := A.h4 (idx_main_v0 i)
  exact (val_main_v0_apply (F := Ideal) x4 i).trans (h.trans (coe_congr (congrArg _ (Nat.mod_eq_of_lt (i 0).isLt))))
theorem v1 : IsM (a := 2048) (b := 1024) (val_main_v1 (F := Ideal) x0) (fun r q => D.X r q * D.X r q) := by
  intro i
  have h := mulR (A.h0 i) (A.h0 i)
  exact (val_main_v1_apply (F := Ideal) x0 i).trans (h.trans (coe_congr (rfl)))
theorem v2 : IsV (a := 2048) (val_main_v2 (F := Ideal) x0) (fun r => ∑ k : Fin 1024, D.X r k * D.X r k) := by
  intro i
  have h := sumR wZero (fun k => A.v1 (idx_main_v2 i k))
  exact (val_main_v2_apply x0 i).trans (h.trans (coe_congr (rfl)))
theorem v3 : IsM (a := 2048) (b := 1) (val_main_v3 (F := Ideal) x0) (fun r q => ∑ k : Fin 1024, D.X r k * D.X r k) := by
  intro i
  have h := A.v2 (idx_main_v3 i)
  exact (val_main_v3_apply (F := Ideal) x0 i).trans (h.trans (coe_congr (rfl)))
omit A in
theorem v4 : IsM (a := 2048) (b := 1) (val_main_v4 (F := Ideal)) (fun r q => (1024 : ℝ)) := fun i => (val_main_v4_apply (F := Ideal) i).trans w1024
theorem v5 : IsM (a := 2048) (b := 1) (val_main_v5 (F := Ideal) x0) (fun r q => (∑ k : Fin 1024, D.X r k * D.X r k) / 1024) := by
  intro i
  have h := divR (A.v3 i) (v4 i) (by norm_num)
  exact (val_main_v5_apply (F := Ideal) x0 i).trans (h.trans (coe_congr (rfl)))
omit A in
theorem v6 : IsM (a := 2048) (b := 1) (val_main_v6 (F := Ideal)) (fun r q => eps) := fun i => (val_main_v6_apply (F := Ideal) i).trans wEps
theorem v7 : IsM (a := 2048) (b := 1) (val_main_v7 (F := Ideal) x0) (fun r q => ms (D.X r)) := by
  intro i
  have h := addR (A.v5 i) (v6 i)
  exact (val_main_v7_apply (F := Ideal) x0 i).trans (h.trans (coe_congr (rfl)))
theorem v8 : IsM (a := 2048) (b := 1) (val_main_v8 (F := Ideal) x0) (fun r q => rr (D.X r)) := by
  intro i
  have h := rsqR (A.v7 i) (ms_pos _)
  exact (val_main_v8_apply (F := Ideal) x0 i).trans (h.trans (coe_congr (rfl)))
theorem v9 : IsM (a := 2048) (b := 1) (val_main_v9 (F := Ideal) x0) (fun r q => rr (D.X r) / ms (D.X r)) := by
  intro i
  have h := divR (A.v8 i) (A.v7 i) (ms_pos _).ne'
  exact (val_main_v9_apply (F := Ideal) x0 i).trans (h.trans (coe_congr (rfl)))
omit A in
theorem v10 : IsM (a := 2048) (b := 1) (val_main_v10 (F := Ideal)) (fun r q => (-(1 / 2) : ℝ)) := fun i => (val_main_v10_apply (F := Ideal) i).trans wNegHalf
theorem v11 : IsM (a := 2048) (b := 1) (val_main_v11 (F := Ideal) x0) (fun r q => -(1 / 2) * (rr (D.X r) / ms (D.X r))) := by
  intro i
  have h := mulR (v10 i) (A.v9 i)
  exact (val_main_v11_apply (F := Ideal) x0 i).trans (h.trans (coe_congr (rfl)))
theorem v12 : IsM (a := 2048) (b := 1024) (val_main_v12 (F := Ideal) x0) (fun r q => rr (D.X r)) := by
  intro i
  have h := A.v8 (idx_main_v12 i)
  exact (val_main_v12_apply (F := Ideal) x0 i).trans (h.trans (coe_congr (rfl)))
theorem v13 : IsM (a := 2048) (b := 1024) (val_main_v13 (F := Ideal) x0) (fun r q => D.xn2 r q) := by
  intro i
  have h := mulR (A.h0 i) (A.v12 i)
  exact (val_main_v13_apply (F := Ideal) x0 i).trans (h.trans (coe_congr (rfl)))
theorem v14 : IsM (a := 1) (b := 1024) (val_main_v14 (F := Ideal) x4) (fun r q => D.G2 q) := by
  intro i
  have h := A.v0 (idx_main_v14 i)
  exact (val_main_v14_apply (F := Ideal) x4 i).trans (h.trans (coe_congr (rfl)))
theorem v15 : IsM (a := 2048) (b := 1024) (val_main_v15 (F := Ideal) x4) (fun r q => D.G2 q) := by
  intro i
  have h := A.v14 (idx_main_v15 i)
  exact (val_main_v15_apply (F := Ideal) x4 i).trans (h.trans (coe_congr (rfl)))
theorem v16 : IsM (a := 2048) (b := 1024) (val_main_v16 (F := Ideal) x0 x4) (fun r q => D.hn r q) := by
  intro i
  have h := mulR (A.v13 i) (A.v15 i)
  exact (val_main_v16_apply (F := Ideal) x0 x4 i).trans (h.trans (coe_congr (rfl)))
theorem v17 : IsM (a := 2048) (b := 5632) (val_main_v17 (F := Ideal) x0 x2 x4) (fun r q => D.gu r q) := by
  intro i
  have h := dot_coe (fun k => A.v16 (lidx_main_v17 i k)) (fun k => A.h2 (ridx_main_v17 i k))
  exact (val_main_v17_apply x0 x2 x4 i).trans (h.trans (coe_congr (rfl)))
theorem v18 : IsM (a := 2048) (b := 2816) (val_main_v18 (F := Ideal) x0 x2 x4) (fun r q => D.gu r q) := by
  intro i
  have h := A.v17 (idx_main_v18 i)
  exact (val_main_v18_apply (F := Ideal) x0 x2 x4 i).trans (h.trans (coe_congr (rfl)))
theorem call0_v0 : IsM (a := 2048) (b := 2816) (val_main_call0_v0 (F := Ideal) x0 x2 x4) (fun r q => -D.gu r q) := by
  intro i
  have h := negR (A.v18 i)
  exact (val_main_call0_v0_apply (F := Ideal) x0 x2 x4 i).trans (h.trans (coe_congr (rfl)))
theorem call0_v1 : IsM (a := 2048) (b := 2816) (val_main_call0_v1 (F := Ideal) x0 x2 x4) (fun r q => Real.exp (-D.gu r q)) := by
  intro i
  have h := expR (A.call0_v0 i)
  exact (val_main_call0_v1_apply (F := Ideal) x0 x2 x4 i).trans (h.trans (coe_congr (rfl)))
omit A in
theorem call0_v2 : IsM (a := 2048) (b := 2816) (val_main_call0_v2 (F := Ideal)) (fun r q => (1 : ℝ)) := fun i => (val_main_call0_v2_apply (F := Ideal) i).trans wOne
theorem call0_v3 : IsM (a := 2048) (b := 2816) (val_main_call0_v3 (F := Ideal) x0 x2 x4) (fun r q => 1 + Real.exp (-D.gu r q)) := by
  intro i
  have h := addR (call0_v2 i) (A.call0_v1 i)
  exact (val_main_call0_v3_apply (F := Ideal) x0 x2 x4 i).trans (h.trans (coe_congr (rfl)))
omit A in
theorem call0_v4 : IsM (a := 2048) (b := 2816) (val_main_call0_v4 (F := Ideal)) (fun r q => (1 : ℝ)) := fun i => (val_main_call0_v4_apply (F := Ideal) i).trans wOne
theorem v19_2 : IsM (a := 2048) (b := 2816) (val_main_v19_2 (F := Ideal) x0 x2 x4) (fun r q => sg (D.gu r q)) := by
  intro i
  have h := divR (call0_v4 i) (A.call0_v3 i) (by positivity)
  exact (val_main_v19_2_apply (F := Ideal) x0 x2 x4 i).trans (h.trans (coe_congr (one_div _)))
omit A in
theorem call0_v6 : IsM (a := 2048) (b := 2816) (val_main_call0_v6 (F := Ideal)) (fun r q => (1 : ℝ)) := fun i => (val_main_call0_v6_apply (F := Ideal) i).trans wOne
theorem call0_v7 : IsM (a := 2048) (b := 2816) (val_main_call0_v7 (F := Ideal) x0 x2 x4) (fun r q => 1 - sg (D.gu r q)) := by
  intro i
  have h := subR (call0_v6 i) (A.v19_2 i)
  exact (val_main_call0_v7_apply (F := Ideal) x0 x2 x4 i).trans (h.trans (coe_congr (rfl)))
theorem v19_1 : IsM (a := 2048) (b := 2816) (val_main_v19_1 (F := Ideal) x0 x2 x4) (fun r q => sg (D.gu r q) * (1 - sg (D.gu r q))) := by
  intro i
  have h := mulR (A.v19_2 i) (A.call0_v7 i)
  exact (val_main_v19_1_apply (F := Ideal) x0 x2 x4 i).trans (h.trans (coe_congr (rfl)))
theorem v19_0 : IsM (a := 2048) (b := 2816) (val_main_v19_0 (F := Ideal) x0 x2 x4) (fun r q => D.silu r q) := by
  intro i
  have h := mulR (A.v18 i) (A.v19_2 i)
  exact (val_main_v19_0_apply (F := Ideal) x0 x2 x4 i).trans (h.trans (coe_congr (rfl)))
theorem v20 : IsM (a := 2048) (b := 2816) (val_main_v20 (F := Ideal) x0 x2 x4) (fun r q => D.gu r (2816 + q)) := by
  intro i
  have h := A.v17 (idx_main_v20 i)
  exact (val_main_v20_apply (F := Ideal) x0 x2 x4 i).trans (h.trans (coe_congr (rfl)))
theorem v21 : IsM (a := 2048) (b := 2816) (val_main_v21 (F := Ideal) x0 x2 x4) (fun r q => D.act r q) := by
  intro i
  have h := mulR (A.v19_0 i) (A.v20 i)
  exact (val_main_v21_apply (F := Ideal) x0 x2 x4 i).trans (h.trans (coe_congr (rfl)))
theorem v22 : IsM (a := 2048) (b := 1024) (val_main_v22 (F := Ideal) x0 x2 x3 x4) (fun r q => D.ff r q) := by
  intro i
  have h := dot_coe (fun k => A.v21 (lidx_main_v22 i k)) (fun k => A.h3 (ridx_main_v22 i k))
  exact (val_main_v22_apply x0 x2 x3 x4 i).trans (h.trans (coe_congr (rfl)))
theorem v23 : IsV (a := 1024) (val_main_v23 (F := Ideal) x5) (fun r => D.G3 r) := by
  intro i
  have h := A.h5 (idx_main_v23 i)
  exact (val_main_v23_apply (F := Ideal) x5 i).trans (h.trans (coe_congr (congrArg _ (Nat.mod_eq_of_lt (i 0).isLt))))
theorem v24 : IsM (a := 2048) (b := 1024) (val_main_v24 (F := Ideal) x0 x2 x3 x4) (fun r q => D.ff r q * D.ff r q) := by
  intro i
  have h := mulR (A.v22 i) (A.v22 i)
  exact (val_main_v24_apply (F := Ideal) x0 x2 x3 x4 i).trans (h.trans (coe_congr (rfl)))
theorem v25 : IsV (a := 2048) (val_main_v25 (F := Ideal) x0 x2 x3 x4) (fun r => ∑ k : Fin 1024, D.ff r k * D.ff r k) := by
  intro i
  have h := sumR wZero (fun k => A.v24 (idx_main_v25 i k))
  exact (val_main_v25_apply x0 x2 x3 x4 i).trans (h.trans (coe_congr (rfl)))
theorem v26 : IsM (a := 2048) (b := 1) (val_main_v26 (F := Ideal) x0 x2 x3 x4) (fun r q => ∑ k : Fin 1024, D.ff r k * D.ff r k) := by
  intro i
  have h := A.v25 (idx_main_v26 i)
  exact (val_main_v26_apply (F := Ideal) x0 x2 x3 x4 i).trans (h.trans (coe_congr (rfl)))
omit A in
theorem v27 : IsM (a := 2048) (b := 1) (val_main_v27 (F := Ideal)) (fun r q => (1024 : ℝ)) := fun i => (val_main_v27_apply (F := Ideal) i).trans w1024
theorem v28 : IsM (a := 2048) (b := 1) (val_main_v28 (F := Ideal) x0 x2 x3 x4) (fun r q => (∑ k : Fin 1024, D.ff r k * D.ff r k) / 1024) := by
  intro i
  have h := divR (A.v26 i) (v27 i) (by norm_num)
  exact (val_main_v28_apply (F := Ideal) x0 x2 x3 x4 i).trans (h.trans (coe_congr (rfl)))
omit A in
theorem v29 : IsM (a := 2048) (b := 1) (val_main_v29 (F := Ideal)) (fun r q => eps) := fun i => (val_main_v29_apply (F := Ideal) i).trans wEps
theorem v30 : IsM (a := 2048) (b := 1) (val_main_v30 (F := Ideal) x0 x2 x3 x4) (fun r q => ms (D.ff r)) := by
  intro i
  have h := addR (A.v28 i) (v29 i)
  exact (val_main_v30_apply (F := Ideal) x0 x2 x3 x4 i).trans (h.trans (coe_congr (rfl)))
theorem v31 : IsM (a := 2048) (b := 1) (val_main_v31 (F := Ideal) x0 x2 x3 x4) (fun r q => rr (D.ff r)) := by
  intro i
  have h := rsqR (A.v30 i) (ms_pos _)
  exact (val_main_v31_apply (F := Ideal) x0 x2 x3 x4 i).trans (h.trans (coe_congr (rfl)))
theorem v32 : IsM (a := 2048) (b := 1) (val_main_v32 (F := Ideal) x0 x2 x3 x4) (fun r q => rr (D.ff r) / ms (D.ff r)) := by
  intro i
  have h := divR (A.v31 i) (A.v30 i) (ms_pos _).ne'
  exact (val_main_v32_apply (F := Ideal) x0 x2 x3 x4 i).trans (h.trans (coe_congr (rfl)))
omit A in
theorem v33 : IsM (a := 2048) (b := 1) (val_main_v33 (F := Ideal)) (fun r q => (-(1 / 2) : ℝ)) := fun i => (val_main_v33_apply (F := Ideal) i).trans wNegHalf
theorem v34 : IsM (a := 2048) (b := 1) (val_main_v34 (F := Ideal) x0 x2 x3 x4) (fun r q => -(1 / 2) * (rr (D.ff r) / ms (D.ff r))) := by
  intro i
  have h := mulR (v33 i) (A.v32 i)
  exact (val_main_v34_apply (F := Ideal) x0 x2 x3 x4 i).trans (h.trans (coe_congr (rfl)))
theorem v35 : IsM (a := 2048) (b := 1024) (val_main_v35 (F := Ideal) x0 x2 x3 x4) (fun r q => rr (D.ff r)) := by
  intro i
  have h := A.v31 (idx_main_v35 i)
  exact (val_main_v35_apply (F := Ideal) x0 x2 x3 x4 i).trans (h.trans (coe_congr (rfl)))
theorem v36 : IsM (a := 2048) (b := 1024) (val_main_v36 (F := Ideal) x0 x2 x3 x4) (fun r q => D.xn3 r q) := by
  intro i
  have h := mulR (A.v22 i) (A.v35 i)
  exact (val_main_v36_apply (F := Ideal) x0 x2 x3 x4 i).trans (h.trans (coe_congr (rfl)))
theorem v37 : IsM (a := 1) (b := 1024) (val_main_v37 (F := Ideal) x5) (fun r q => D.G3 q) := by
  intro i
  have h := A.v23 (idx_main_v37 i)
  exact (val_main_v37_apply (F := Ideal) x5 i).trans (h.trans (coe_congr (rfl)))
theorem v38 : IsM (a := 2048) (b := 1024) (val_main_v38 (F := Ideal) x5) (fun r q => D.G3 q) := by
  intro i
  have h := A.v37 (idx_main_v38 i)
  exact (val_main_v38_apply (F := Ideal) x5 i).trans (h.trans (coe_congr (rfl)))
theorem v39 : IsM (a := 2048) (b := 1024) (val_main_v39 (F := Ideal) x0 x2 x3 x4 x5) (fun r q => D.xn3 r q * D.G3 q) := by
  intro i
  have h := mulR (A.v36 i) (A.v38 i)
  exact (val_main_v39_apply (F := Ideal) x0 x2 x3 x4 x5 i).trans (h.trans (coe_congr (rfl)))
theorem v40 : IsM (a := 2048) (b := 1024) (val_main_v40 (F := Ideal) x0 x2 x3 x4 x5) (fun r q => D.X r q + D.xn3 r q * D.G3 q) := by
  intro i
  have h := addR (A.h0 i) (A.v39 i)
  exact (val_main_v40_apply (F := Ideal) x0 x2 x3 x4 x5 i).trans (h.trans (coe_congr (rfl)))
theorem v41 : IsM (a := 2048) (b := 1024) (val_main_v41 (F := Ideal) x0 x1 x2 x3 x4 x5) (fun r q => D.err r q) := by
  intro i
  have h := subR (A.v40 i) (A.h1 i)
  exact (val_main_v41_apply (F := Ideal) x0 x1 x2 x3 x4 x5 i).trans (h.trans (coe_congr (rfl)))
theorem v42 : IsM (a := 2048) (b := 1024) (val_main_v42 (F := Ideal) x0 x1 x2 x3 x4 x5) (fun r q => D.err r q * D.err r q) := by
  intro i
  have h := mulR (A.v41 i) (A.v41 i)
  exact (val_main_v42_apply (F := Ideal) x0 x1 x2 x3 x4 x5 i).trans (h.trans (coe_congr (rfl)))
omit A in
theorem v43 : IsM (a := 2048) (b := 1024) (val_main_v43 (F := Ideal)) (fun r q => (2 : ℝ)) := fun i => (val_main_v43_apply (F := Ideal) i).trans wTwo
theorem v44 : IsM (a := 2048) (b := 1024) (val_main_v44 (F := Ideal) x0 x1 x2 x3 x4 x5) (fun r q => 2 * D.err r q) := by
  intro i
  have h := mulR (v43 i) (A.v41 i)
  exact (val_main_v44_apply (F := Ideal) x0 x1 x2 x3 x4 x5 i).trans (h.trans (coe_congr (rfl)))
theorem v45 : IsV (a := 2048) (val_main_v45 (F := Ideal) x0 x1 x2 x3 x4 x5) (fun r => ∑ k : Fin 1024, D.err r k * D.err r k) := by
  intro i
  have h := sumR wZero (fun k => A.v42 (idx_main_v45 i k))
  exact (val_main_v45_apply x0 x1 x2 x3 x4 x5 i).trans (h.trans (coe_congr (rfl)))
omit A in
theorem v46 : IsV (a := 2048) (val_main_v46 (F := Ideal)) (fun r => (1024 : ℝ)) := fun i => (val_main_v46_apply (F := Ideal) i).trans w1024
theorem v47 : IsV (a := 2048) (val_main_v47 (F := Ideal) x0 x1 x2 x3 x4 x5) (fun r => D.lossRow r) := by
  intro i
  have h := divR (A.v45 i) (v46 i) (by norm_num)
  exact (val_main_v47_apply (F := Ideal) x0 x1 x2 x3 x4 x5 i).trans (h.trans (coe_congr (rfl)))
theorem v48 : IsS (val_main_v48 (F := Ideal) x0 x1 x2 x3 x4 x5) (∑ r ∈ Finset.range 2048, D.lossRow r) := by
  intro i
  have h := sumAll wZero A.v47
  exact (val_main_v48_apply x0 x1 x2 x3 x4 x5 i).trans (h.trans (coe_congr (rfl)))
theorem v49 : IsS (val_main_v49 (F := Ideal) x0 x1 x2 x3 x4 x5) (D.loss 2048) := by
  intro i
  have h := mulR wHalf (A.v48 i)
  exact (val_main_v49_apply (F := Ideal) x0 x1 x2 x3 x4 x5 i).trans (h.trans (coe_congr (rfl)))
omit A in
theorem v50 : IsS (val_main_v50 (F := Ideal)) ((1 / 2 * 1 : ℝ)) := fun i => (val_main_v50_apply (F := Ideal) i).trans (mulR wHalf wOne)
omit A in
theorem v51 : IsV (a := 2048) (val_main_v51 (F := Ideal)) (fun r => (1 / 2 * 1 : ℝ)) := fun i => (val_main_v51_apply (F := Ideal) i).trans (v50 (idx_main_v51 i))
omit A in
theorem v52 : IsV (a := 2048) (val_main_v52 (F := Ideal)) (fun r => (1024 : ℝ)) := fun i => (val_main_v52_apply (F := Ideal) i).trans w1024
omit A in
theorem v53 : IsV (a := 2048) (val_main_v53 (F := Ideal)) (fun r => (1 / 2 * 1 / 1024 : ℝ)) := fun i => (val_main_v53_apply (F := Ideal) i).trans (divR (v51 i) (v52 i) (by norm_num))
omit A in
theorem v54 : IsM (a := 2048) (b := 1024) (val_main_v54 (F := Ideal)) (fun r q => (1 / 2 * 1 / 1024 : ℝ)) := fun i => (val_main_v54_apply (F := Ideal) i).trans (v53 (idx_main_v54 i))
theorem v55 : IsM (a := 2048) (b := 1024) (val_main_v55 (F := Ideal) x0 x1 x2 x3 x4 x5) (fun r q => D.dh2 r q) := by
  intro i
  have h := mulR (v54 i) (A.v44 i)
  exact (val_main_v55_apply (F := Ideal) x0 x1 x2 x3 x4 x5 i).trans (h.trans (coe_congr (by unfold Dat.dh2; ring)))
theorem v56 : IsM (a := 2048) (b := 1024) (val_main_v56 (F := Ideal) x0 x1 x2 x3 x4 x5) (fun r q => D.xn3 r q * D.dh2 r q) := by
  intro i
  have h := mulR (A.v36 i) (A.v55 i)
  exact (val_main_v56_apply (F := Ideal) x0 x1 x2 x3 x4 x5 i).trans (h.trans (coe_congr (rfl)))
theorem v57 : IsV (a := 1024) (val_main_v57 (F := Ideal) x0 x1 x2 x3 x4 x5) (fun r => D.dg3 2048 r) := by
  intro i
  have h := sumR wZero (fun k => A.v56 (idx_main_v57 i k))
  exact (val_main_v57_apply x0 x1 x2 x3 x4 x5 i).trans (h.trans (coe_congr (by beta_reduce; unfold Dat.dg3; rw [Finset.sum_range]; exact Finset.sum_congr rfl fun _ _ => mul_comm _ _)))
theorem v58 : IsM (a := 1) (b := 1024) (val_main_v58 (F := Ideal) x0 x1 x2 x3 x4 x5) (fun r q => D.dg3 2048 q) := by
  intro i
  have h := A.v57 (idx_main_v58 i)
  exact (val_main_v58_apply (F := Ideal) x0 x1 x2 x3 x4 x5 i).trans (h.trans (coe_congr (by have : (i 0).val < 1 := (i 0).isLt; dsimp; congr 1; omega)))
theorem v59 : IsM (a := 2048) (b := 1024) (val_main_v59 (F := Ideal) x5) (fun r q => D.G3 q) := by
  intro i
  have h := A.v37 (idx_main_v59 i)
  exact (val_main_v59_apply (F := Ideal) x5 i).trans (h.trans (coe_congr (rfl)))
theorem v60 : IsM (a := 2048) (b := 1024) (val_main_v60 (F := Ideal) x0 x1 x2 x3 x4 x5) (fun r q => D.a3 r q) := by
  intro i
  have h := mulR (A.v55 i) (A.v59 i)
  exact (val_main_v60_apply (F := Ideal) x0 x1 x2 x3 x4 x5 i).trans (h.trans (coe_congr (rfl)))
theorem v61 : IsV (a := 1024) (val_main_v61 (F := Ideal) x0 x1 x2 x3 x4 x5) (fun r => D.dg3 2048 r) := by
  intro i
  have h := sumR wZero (fun k => A.v58 (idx_main_v61 i k))
  exact (val_main_v61_apply x0 x1 x2 x3 x4 x5 i).trans (h.trans (coe_congr (Fin.sum_univ_one _)))
theorem v62 : IsM (a := 2048) (b := 1024) (val_main_v62 (F := Ideal) x0 x1 x2 x3 x4 x5) (fun r q => D.ff r q * D.a3 r q) := by
  intro i
  have h := mulR (A.v22 i) (A.v60 i)
  exact (val_main_v62_apply (F := Ideal) x0 x1 x2 x3 x4 x5 i).trans (h.trans (coe_congr (rfl)))
theorem v63 : IsV (a := 2048) (val_main_v63 (F := Ideal) x0 x1 x2 x3 x4 x5) (fun r => (∑ k : Fin 1024, D.ff r k * D.a3 r k)) := by
  intro i
  have h := sumR wZero (fun k => A.v62 (idx_main_v63 i k))
  exact (val_main_v63_apply x0 x1 x2 x3 x4 x5 i).trans (h.trans (coe_congr (rfl)))
theorem v64 : IsM (a := 2048) (b := 1) (val_main_v64 (F := Ideal) x0 x1 x2 x3 x4 x5) (fun r q => (∑ k : Fin 1024, D.ff r k * D.a3 r k)) := by
  intro i
  have h := A.v63 (idx_main_v64 i)
  exact (val_main_v64_apply (F := Ideal) x0 x1 x2 x3 x4 x5 i).trans (h.trans (coe_congr (congrArg (fun r => (∑ k : Fin 1024, D.ff r k * D.a3 r k)) (show (i 0).val * 1 + (i 1).val = (i 0).val from by have : (i 1).val < 1 := (i 1).isLt; omega))))
theorem v65 : IsM (a := 2048) (b := 1024) (val_main_v65 (F := Ideal) x0 x2 x3 x4) (fun r q => rr (D.ff r)) := by
  intro i
  have h := A.v31 (idx_main_v65 i)
  exact (val_main_v65_apply (F := Ideal) x0 x2 x3 x4 i).trans (h.trans (coe_congr (rfl)))
theorem v66 : IsM (a := 2048) (b := 1024) (val_main_v66 (F := Ideal) x0 x1 x2 x3 x4 x5) (fun r q => D.a3 r q * rr (D.ff r)) := by
  intro i
  have h := mulR (A.v60 i) (A.v65 i)
  exact (val_main_v66_apply (F := Ideal) x0 x1 x2 x3 x4 x5 i).trans (h.trans (coe_congr (rfl)))
theorem v67 : IsM (a := 2048) (b := 1) (val_main_v67 (F := Ideal) x0 x1 x2 x3 x4 x5) (fun r q => (∑ k : Fin 1024, D.ff r k * D.a3 r k) * (-(1 / 2) * (rr (D.ff r) / ms (D.ff r)))) := by
  intro i
  have h := mulR (A.v64 i) (A.v34 i)
  exact (val_main_v67_apply (F := Ideal) x0 x1 x2 x3 x4 x5 i).trans (h.trans (coe_congr (rfl)))
omit A in
theorem v68 : IsM (a := 2048) (b := 1) (val_main_v68 (F := Ideal)) (fun r q => (1024 : ℝ)) := fun i => (val_main_v68_apply (F := Ideal) i).trans w1024
theorem v69 : IsM (a := 2048) (b := 1) (val_main_v69 (F := Ideal) x0 x1 x2 x3 x4 x5) (fun r q => (∑ k : Fin 1024, D.ff r k * D.a3 r k) * (-(1 / 2) * (rr (D.ff r) / ms (D.ff r))) / 1024) := by
  intro i
  have h := divR (A.v67 i) (v68 i) (by norm_num)
  exact (val_main_v69_apply (F := Ideal) x0 x1 x2 x3 x4 x5 i).trans (h.trans (coe_congr (rfl)))
theorem v70 : IsV (a := 2048) (val_main_v70 (F := Ideal) x0 x1 x2 x3 x4 x5) (fun r => (∑ k : Fin 1024, D.ff r k * D.a3 r k) * (-(1 / 2) * (rr (D.ff r) / ms (D.ff r))) / 1024) := by
  intro i
  have h := sumR wZero (fun k => A.v69 (idx_main_v70 i k))
  exact (val_main_v70_apply x0 x1 x2 x3 x4 x5 i).trans (h.trans (coe_congr (Fin.sum_univ_one _)))
theorem v71 : IsM (a := 2048) (b := 1024) (val_main_v71 (F := Ideal) x0 x1 x2 x3 x4 x5) (fun r q => (∑ k : Fin 1024, D.ff r k * D.a3 r k) * (-(1 / 2) * (rr (D.ff r) / ms (D.ff r))) / 1024) := by
  intro i
  have h := A.v70 (idx_main_v71 i)
  exact (val_main_v71_apply (F := Ideal) x0 x1 x2 x3 x4 x5 i).trans (h.trans (coe_congr (rfl)))
theorem v72 : IsM (a := 2048) (b := 1024) (val_main_v72 (F := Ideal) x0 x1 x2 x3 x4 x5) (fun r q => D.ff r q * ((∑ k : Fin 1024, D.ff r k * D.a3 r k) * (-(1 / 2) * (rr (D.ff r) / ms (D.ff r))) / 1024)) := by
  intro i
  have h := mulR (A.v22 i) (A.v71 i)
  exact (val_main_v72_apply (F := Ideal) x0 x1 x2 x3 x4 x5 i).trans (h.trans (coe_congr (rfl)))
theorem v73 : IsM (a := 2048) (b := 1024) (val_main_v73 (F := Ideal) x0 x1 x2 x3 x4 x5) (fun r q => D.a3 r q * rr (D.ff r) + D.ff r q * ((∑ k : Fin 1024, D.ff r k * D.a3 r k) * (-(1 / 2) * (rr (D.ff r) / ms (D.ff r))) / 1024)) := by
  intro i
  have h := addR (A.v66 i) (A.v72 i)
  exact (val_main_v73_apply (F := Ideal) x0 x1 x2 x3 x4 x5 i).trans (h.trans (coe_congr (rfl)))
theorem v74 : IsM (a := 2048) (b := 1024) (val_main_v74 (F := Ideal) x0 x1 x2 x3 x4 x5) (fun r q => (∑ k : Fin 1024, D.ff r k * D.a3 r k) * (-(1 / 2) * (rr (D.ff r) / ms (D.ff r))) / 1024 * D.ff r q) := by
  intro i
  have h := mulR (A.v71 i) (A.v22 i)
  exact (val_main_v74_apply (F := Ideal) x0 x1 x2 x3 x4 x5 i).trans (h.trans (coe_congr (rfl)))
theorem v75 : IsM (a := 2048) (b := 1024) (val_main_v75 (F := Ideal) x0 x1 x2 x3 x4 x5) (fun r q => D.dff r q) := by
  intro i
  have h := addR (A.v73 i) (A.v74 i)
  exact (val_main_v75_apply (F := Ideal) x0 x1 x2 x3 x4 x5 i).trans (h.trans (coe_congr (norm_row _ _ _ _)))
theorem v76 : IsM (a := 1) (b := 1024) (val_main_v76 (F := Ideal) x0 x1 x2 x3 x4 x5) (fun r q => D.dg3 2048 q) := by
  intro i
  have h := A.v61 (idx_main_v76 i)
  exact (val_main_v76_apply (F := Ideal) x0 x1 x2 x3 x4 x5 i).trans (h.trans (coe_congr (rfl)))
theorem v77 : IsM (a := 2048) (b := 2816) (val_main_v77 (F := Ideal) x0 x1 x2 x3 x4 x5) (fun r q => D.dact r q) := by
  intro i
  have h := dot_coe (fun k => A.v75 (lidx_main_v77 i k)) (fun k => A.h3 (ridx_main_v77 i k))
  exact (val_main_v77_apply x0 x1 x2 x3 x4 x5 i).trans (h.trans (coe_congr (rfl)))
theorem v78 : IsM (a := 2048) (b := 2816) (val_main_v78 (F := Ideal) x0 x1 x2 x3 x4 x5) (fun r q => D.dup r q) := by
  intro i
  have h := mulR (A.v19_0 i) (A.v77 i)
  exact (val_main_v78_apply (F := Ideal) x0 x1 x2 x3 x4 x5 i).trans (h.trans (coe_congr (mul_comm _ _)))
theorem v79 : IsM (a := 2048) (b := 2816) (val_main_v79 (F := Ideal) x0 x1 x2 x3 x4 x5) (fun r q => D.dact r q * D.gu r (2816 + q)) := by
  intro i
  have h := mulR (A.v77 i) (A.v20 i)
  exact (val_main_v79_apply (F := Ideal) x0 x1 x2 x3 x4 x5 i).trans (h.trans (coe_congr (rfl)))
theorem v80 : IsM (a := 2048) (b := 5632) (val_main_v80 (F := Ideal) x0 x1 x2 x3 x4 x5) (fun r q => if q < 2816 then 0 else D.dup r (q - 2816)) := fun i => padLow _ wZero A.v78 i
theorem call1_v0 : IsM (a := 2048) (b := 2816) (val_main_call1_v0 (F := Ideal) x0 x1 x2 x3 x4 x5) (fun r q => D.gu r q * (D.dact r q * D.gu r (2816 + q))) := by
  intro i
  have h := mulR (A.v18 i) (A.v79 i)
  exact (val_main_call1_v0_apply (F := Ideal) x0 x1 x2 x3 x4 x5 i).trans (h.trans (coe_congr (rfl)))
theorem call1_v1 : IsM (a := 2048) (b := 2816) (val_main_call1_v1 (F := Ideal) x0 x1 x2 x3 x4 x5) (fun r q => D.dact r q * D.gu r (2816 + q) * sg (D.gu r q)) := by
  intro i
  have h := mulR (A.v79 i) (A.v19_2 i)
  exact (val_main_call1_v1_apply (F := Ideal) x0 x1 x2 x3 x4 x5 i).trans (h.trans (coe_congr (rfl)))
theorem call1_v2 : IsM (a := 2048) (b := 2816) (val_main_call1_v2 (F := Ideal) x0 x1 x2 x3 x4 x5) (fun r q => D.gu r q * (D.dact r q * D.gu r (2816 + q)) * (sg (D.gu r q) * (1 - sg (D.gu r q)))) := by
  intro i
  have h := mulR (A.call1_v0 i) (A.v19_1 i)
  exact (val_main_call1_v2_apply (F := Ideal) x0 x1 x2 x3 x4 x5 i).trans (h.trans (coe_congr (rfl)))
theorem v81 : IsM (a := 2048) (b := 2816) (val_main_v81 (F := Ideal) x0 x1 x2 x3 x4 x5) (fun r q => D.dgate r q) := by
  intro i
  have h := addR (A.call1_v1 i) (A.call1_v2 i)
  exact (val_main_v81_apply (F := Ideal) x0 x1 x2 x3 x4 x5 i).trans (h.trans (coe_congr (by unfold Dat.dgate Dat.silu; ring)))
theorem v82 : IsM (a := 2048) (b := 5632) (val_main_v82 (F := Ideal) x0 x1 x2 x3 x4 x5) (fun r q => if q < 2816 then D.dgate r q else 0) := fun i => padHigh _ wZero A.v81 i
theorem v83 : IsM (a := 2048) (b := 5632) (val_main_v83 (F := Ideal) x0 x1 x2 x3 x4 x5) (fun r q => D.dgu r q) := by
  intro i
  have h := addR (A.v80 i) (A.v82 i)
  exact (val_main_v83_apply (F := Ideal) x0 x1 x2 x3 x4 x5 i).trans (h.trans (coe_congr (by beta_reduce; unfold Dat.dgu; split_ifs <;> ring)))
theorem v84 : IsM (a := 2048) (b := 1024) (val_main_v84 (F := Ideal) x0 x1 x2 x3 x4 x5) (fun r q => D.dhn r q) := by
  intro i
  have h := dot_coe (fun k => A.v83 (lidx_main_v84 i k)) (fun k => A.h2 (ridx_main_v84 i k))
  exact (val_main_v84_apply x0 x1 x2 x3 x4 x5 i).trans (h.trans (coe_congr (dhn_split _ _ _)))
theorem v85 : IsM (a := 2048) (b := 1024) (val_main_v85 (F := Ideal) x0 x1 x2 x3 x4 x5) (fun r q => D.xn2 r q * D.dhn r q) := by
  intro i
  have h := mulR (A.v13 i) (A.v84 i)
  exact (val_main_v85_apply (F := Ideal) x0 x1 x2 x3 x4 x5 i).trans (h.trans (coe_congr (rfl)))
theorem v86 : IsV (a := 1024) (val_main_v86 (F := Ideal) x0 x1 x2 x3 x4 x5) (fun r => D.dg2 2048 r) := by
  intro i
  have h := sumR wZero (fun k => A.v85 (idx_main_v86 i k))
  exact (val_main_v86_apply x0 x1 x2 x3 x4 x5 i).trans (h.trans (coe_congr (by beta_reduce; unfold Dat.dg2; rw [Finset.sum_range]; exact Finset.sum_congr rfl fun _ _ => mul_comm _ _)))
theorem v87 : IsM (a := 1) (b := 1024) (val_main_v87 (F := Ideal) x0 x1 x2 x3 x4 x5) (fun r q => D.dg2 2048 q) := by
  intro i
  have h := A.v86 (idx_main_v87 i)
  exact (val_main_v87_apply (F := Ideal) x0 x1 x2 x3 x4 x5 i).trans (h.trans (coe_congr (by have : (i 0).val < 1 := (i 0).isLt; dsimp; congr 1; omega)))
theorem v88 : IsM (a := 2048) (b := 1024) (val_main_v88 (F := Ideal) x4) (fun r q => D.G2 q) := by
  intro i
  have h := A.v14 (idx_main_v88 i)
  exact (val_main_v88_apply (F := Ideal) x4 i).trans (h.trans (coe_congr (rfl)))
theorem v89 : IsM (a := 2048) (b := 1024) (val_main_v89 (F := Ideal) x0 x1 x2 x3 x4 x5) (fun r q => D.a2 r q) := by
  intro i
  have h := mulR (A.v84 i) (A.v88 i)
  exact (val_main_v89_apply (F := Ideal) x0 x1 x2 x3 x4 x5 i).trans (h.trans (coe_congr (rfl)))
theorem v90 : IsV (a := 1024) (val_main_v90 (F := Ideal) x0 x1 x2 x3 x4 x5) (fun r => D.dg2 2048 r) := by
  intro i
  have h := sumR wZero (fun k => A.v87 (idx_main_v90 i k))
  exact (val_main_v90_apply x0 x1 x2 x3 x4 x5 i).trans (h.trans (coe_congr (Fin.sum_univ_one _)))
theorem v91 : IsM (a := 2048) (b := 1024) (val_main_v91 (F := Ideal) x0 x1 x2 x3 x4 x5) (fun r q => D.X r q * D.a2 r q) := by
  intro i
  have h := mulR (A.h0 i) (A.v89 i)
  exact (val_main_v91_apply (F := Ideal) x0 x1 x2 x3 x4 x5 i).trans (h.trans (coe_congr (rfl)))
theorem v92 : IsV (a := 2048) (val_main_v92 (F := Ideal) x0 x1 x2 x3 x4 x5) (fun r => (∑ k : Fin 1024, D.X r k * D.a2 r k)) := by
  intro i
  have h := sumR wZero (fun k => A.v91 (idx_main_v92 i k))
  exact (val_main_v92_apply x0 x1 x2 x3 x4 x5 i).trans (h.trans (coe_congr (rfl)))
theorem v93 : IsM (a := 2048) (b := 1) (val_main_v93 (F := Ideal) x0 x1 x2 x3 x4 x5) (fun r q => (∑ k : Fin 1024, D.X r k * D.a2 r k)) := by
  intro i
  have h := A.v92 (idx_main_v93 i)
  exact (val_main_v93_apply (F := Ideal) x0 x1 x2 x3 x4 x5 i).trans (h.trans (coe_congr (congrArg (fun r => (∑ k : Fin 1024, D.X r k * D.a2 r k)) (show (i 0).val * 1 + (i 1).val = (i 0).val from by have : (i 1).val < 1 := (i 1).isLt; omega))))
theorem v94 : IsM (a := 2048) (b := 1024) (val_main_v94 (F := Ideal) x0) (fun r q => rr (D.X r)) := by
  intro i
  have h := A.v8 (idx_main_v94 i)
  exact (val_main_v94_apply (F := Ideal) x0 i).trans (h.trans (coe_congr (rfl)))
theorem v95 : IsM (a := 2048) (b := 1024) (val_main_v95 (F := Ideal) x0 x1 x2 x3 x4 x5) (fun r q => D.a2 r q * rr (D.X r)) := by
  intro i
  have h := mulR (A.v89 i) (A.v94 i)
  exact (val_main_v95_apply (F := Ideal) x0 x1 x2 x3 x4 x5 i).trans (h.trans (coe_congr (rfl)))
theorem v96 : IsM (a := 2048) (b := 1) (val_main_v96 (F := Ideal) x0 x1 x2 x3 x4 x5) (fun r q => (∑ k : Fin 1024, D.X r k * D.a2 r k) * (-(1 / 2) * (rr (D.X r) / ms (D.X r)))) := by
  intro i
  have h := mulR (A.v93 i) (A.v11 i)
  exact (val_main_v96_apply (F := Ideal) x0 x1 x2 x3 x4 x5 i).trans (h.trans (coe_congr (rfl)))
omit A in
theorem v97 : IsM (a := 2048) (b := 1) (val_main_v97 (F := Ideal)) (fun r q => (1024 : ℝ)) := fun i => (val_main_v97_apply (F := Ideal) i).trans w1024
theorem v98 : IsM (a := 2048) (b := 1) (val_main_v98 (F := Ideal) x0 x1 x2 x3 x4 x5) (fun r q => (∑ k : Fin 1024, D.X r k * D.a2 r k) * (-(1 / 2) * (rr (D.X r) / ms (D.X r))) / 1024) := by
  intro i
  have h := divR (A.v96 i) (v97 i) (by norm_num)
  exact (val_main_v98_apply (F := Ideal) x0 x1 x2 x3 x4 x5 i).trans (h.trans (coe_congr (rfl)))
theorem v99 : IsV (a := 2048) (val_main_v99 (F := Ideal) x0 x1 x2 x3 x4 x5) (fun r => (∑ k : Fin 1024, D.X r k * D.a2 r k) * (-(1 / 2) * (rr (D.X r) / ms (D.X r))) / 1024) := by
  intro i
  have h := sumR wZero (fun k => A.v98 (idx_main_v99 i k))
  exact (val_main_v99_apply x0 x1 x2 x3 x4 x5 i).trans (h.trans (coe_congr (Fin.sum_univ_one _)))
theorem v100 : IsM (a := 2048) (b := 1024) (val_main_v100 (F := Ideal) x0 x1 x2 x3 x4 x5) (fun r q => (∑ k : Fin 1024, D.X r k * D.a2 r k) * (-(1 / 2) * (rr (D.X r) / ms (D.X r))) / 1024) := by
  intro i
  have h := A.v99 (idx_main_v100 i)
  exact (val_main_v100_apply (F := Ideal) x0 x1 x2 x3 x4 x5 i).trans (h.trans (coe_congr (rfl)))
theorem v101 : IsM (a := 2048) (b := 1024) (val_main_v101 (F := Ideal) x0 x1 x2 x3 x4 x5) (fun r q => D.X r q * ((∑ k : Fin 1024, D.X r k * D.a2 r k) * (-(1 / 2) * (rr (D.X r) / ms (D.X r))) / 1024)) := by
  intro i
  have h := mulR (A.h0 i) (A.v100 i)
  exact (val_main_v101_apply (F := Ideal) x0 x1 x2 x3 x4 x5 i).trans (h.trans (coe_congr (rfl)))
theorem v102 : IsM (a := 2048) (b := 1024) (val_main_v102 (F := Ideal) x0 x1 x2 x3 x4 x5) (fun r q => D.a2 r q * rr (D.X r) + D.X r q * ((∑ k : Fin 1024, D.X r k * D.a2 r k) * (-(1 / 2) * (rr (D.X r) / ms (D.X r))) / 1024)) := by
  intro i
  have h := addR (A.v95 i) (A.v101 i)
  exact (val_main_v102_apply (F := Ideal) x0 x1 x2 x3 x4 x5 i).trans (h.trans (coe_congr (rfl)))
theorem v103 : IsM (a := 2048) (b := 1024) (val_main_v103 (F := Ideal) x0 x1 x2 x3 x4 x5) (fun r q => (∑ k : Fin 1024, D.X r k * D.a2 r k) * (-(1 / 2) * (rr (D.X r) / ms (D.X r))) / 1024 * D.X r q) := by
  intro i
  have h := mulR (A.v100 i) (A.h0 i)
  exact (val_main_v103_apply (F := Ideal) x0 x1 x2 x3 x4 x5 i).trans (h.trans (coe_congr (rfl)))
theorem v104 : IsM (a := 2048) (b := 1024) (val_main_v104 (F := Ideal) x0 x1 x2 x3 x4 x5) (fun r q => rr (D.X r) * (D.a2 r q - D.xn2 r q * ((∑ k : Fin 1024, D.a2 r k * D.xn2 r k) / 1024))) := by
  intro i
  have h := addR (A.v102 i) (A.v103 i)
  exact (val_main_v104_apply (F := Ideal) x0 x1 x2 x3 x4 x5 i).trans (h.trans (coe_congr (norm_row _ _ _ _)))
theorem v105 : IsM (a := 1) (b := 1024) (val_main_v105 (F := Ideal) x0 x1 x2 x3 x4 x5) (fun r q => D.dg2 2048 q) := by
  intro i
  have h := A.v90 (idx_main_v105 i)
  exact (val_main_v105_apply (F := Ideal) x0 x1 x2 x3 x4 x5 i).trans (h.trans (coe_congr (rfl)))
theorem v106 : IsM (a := 1) (b := 128) (val_main_v106 (F := Ideal) x0 x1 x2 x3 x4 x5) (fun r q => D.loss 2048) := by
  intro i
  have h := A.v49 (idx_main_v106 i)
  exact (val_main_v106_apply (F := Ideal) x0 x1 x2 x3 x4 x5 i).trans (h.trans (coe_congr (rfl)))
theorem v107 : IsM (a := 2816) (b := 2048) (val_main_v107 (F := Ideal) x0 x2 x4) (fun r q => D.act q r) := by
  intro i
  have h := A.v21 (idx_main_v107 i)
  exact (val_main_v107_apply (F := Ideal) x0 x2 x4 i).trans (h.trans (coe_congr (rfl)))
theorem v108 : IsM (a := 2816) (b := 2048) (val_main_v108 (F := Ideal) x0 x2 x4) (fun r q => D.act q r) := by
  intro i
  have h := A.v107 i
  exact (val_main_v108_apply (F := Ideal) x0 x2 x4 i).trans (h.trans (coe_congr (rfl)))
theorem v109 : IsM (a := 5632) (b := 2048) (val_main_v109 (F := Ideal) x0 x1 x2 x3 x4 x5) (fun r q => D.dgu q r) := by
  intro i
  have h := A.v83 (idx_main_v109 i)
  exact (val_main_v109_apply (F := Ideal) x0 x1 x2 x3 x4 x5 i).trans (h.trans (coe_congr (rfl)))
theorem v110 : IsM (a := 5632) (b := 2048) (val_main_v110 (F := Ideal) x0 x1 x2 x3 x4 x5) (fun r q => D.dgu q r) := by
  intro i
  have h := A.v109 i
  exact (val_main_v110_apply (F := Ideal) x0 x1 x2 x3 x4 x5 i).trans (h.trans (coe_congr (rfl)))
theorem v111 : IsM (a := 2048) (b := 1024) (val_main_v111 (F := Ideal) x0 x1 x2 x3 x4 x5) (fun r q => D.dff r q) := by
  intro i
  have h := A.v75 i
  exact (val_main_v111_apply (F := Ideal) x0 x1 x2 x3 x4 x5 i).trans (h.trans (coe_congr (rfl)))
theorem v112 : IsM (a := 2048) (b := 1024) (val_main_v112 (F := Ideal) x0 x1 x2 x3 x4 x5) (fun r q => D.dh1 r q) := by
  intro i
  have h := addR (A.v55 i) (A.v104 i)
  exact (val_main_v112_apply (F := Ideal) x0 x1 x2 x3 x4 x5 i).trans (h.trans (coe_congr (rfl)))
end Args

end Cert.Ffn

end
-- ==== Proof.FfnFinal.lean ====
/- The layer's results: the kernel's arrays and the reference's are the same reals. -/
module

public import proofs.«01_k».proof.Defs
public import proofs.«01_k».proof.Proof.FfnArr
public import proofs.«01_k».proof.Proof.FfnHost
public import proofs.«01_k».proof.Proof.FfnRef
public import proofs.«01_k».proof.Proof.Finite
public import proofs.«01_k».proof.Proof.Gen.Reference2Ideal.Run
public import proofs.«01_k».proof.Proof.Gen.Pre_finite2
public import Idealize.ShloMosaic.Lib.Quiescent

@[expose] public section

set_option maxRecDepth 16384

noncomputable section

namespace Cert.Ffn

open Idealize.ShloMosaic Idealize.ShloMosaic.TcCoe Idealize.SL.Sem
open Cert.S5 (entries isR_entries real_of_all)

open Cert.Pre_finite2 in
/-- What the precondition says: every entry of every argument is a real. -/
theorem finite_entries [Cert.Pre_finite2.Facts] (a0 a1 : FVec Ideal S2048x1024 .f32) (a2 : FVec Ideal S1024x5632 .f32) (a3 : FVec Ideal S2816x1024 .f32)
    (a4 a5 : FVec Ideal S1x1024 .f32) (h : fn (F := Ideal) a0 a1 a2 a3 a4 a5 = fun _ => 1#1) :
    (∀ i, a0 i = (((show EReal from a0 i).toReal : ℝ) : EReal)) ∧ (∀ i, a1 i = (((show EReal from a1 i).toReal : ℝ) : EReal))
      ∧ (∀ i, a2 i = (((show EReal from a2 i).toReal : ℝ) : EReal)) ∧ (∀ i, a3 i = (((show EReal from a3 i).toReal : ℝ) : EReal))
      ∧ (∀ i, a4 i = (((show EReal from a4 i).toReal : ℝ) : EReal)) ∧ (∀ i, a5 i = (((show EReal from a5 i).toReal : ℝ) : EReal)) := by
  have e := congrFun h (fun i => i.elim0)
  unfold fn fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ e0, real_of_all _ _ _ _ _ e1, real_of_all _ _ _ _ _ e2, real_of_all _ _ _ _ _ e3,
    real_of_all _ _ _ _ _ e4, real_of_all _ _ _ _ _ e5⟩

/-- The data of six arguments. -/
def datOf (a0 a1 : (⟨2, ![2048, 1024]⟩ : Shape).Idx → EReal) (a2 : (⟨2, ![1024, 5632]⟩ : Shape).Idx → EReal) (a3 : (⟨2, ![2816, 1024]⟩ : Shape).Idx → EReal)
    (a4 a5 : (⟨2, ![1, 1024]⟩ : Shape).Idx → EReal) : Dat where
  X := entries 2048 1024 a0
  T := entries 2048 1024 a1
  W1 := entries 1024 5632 a2
  W2 := entries 2816 1024 a3
  G2 q := entries 1 1024 a4 0 q
  G3 q := entries 1 1024 a5 0 q

theorem isM_row {v : (⟨2, ![1, 1024]⟩ : Shape).Idx → EReal} (h : ∀ i, v i = (((v i).toReal : ℝ) : EReal)) :
    IsM (a := 1) (b := 1024) v (fun _ q => entries 1 1024 v 0 q) := fun i => by
  have z : (i 0).val = 0 := by have : (i 0).val < 1 := (i 0).isLt; omega
  exact (isR_entries h i).trans (by rw [z])

section Kernel

open Cert.Kernel2Ideal Cert.Kernel2Ideal.Gen

variable (m : (ℓ : Loc nD τ sig) → Buf (Elt Ideal) ℓ) (c : Dev nD)

/-- The real entries of the arguments on a device. -/
def dat : Dat := datOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem args (h : Pre_Kernel2Ideal_finite2 m) : Args (dat m c) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  obtain ⟨h0, h1, h2, h3, h4, h5⟩ := finite_entries _ _ _ _ _ _ (h c)
  exact ⟨isR_entries h0, isR_entries h1, isR_entries h2, isR_entries h3, isM_row h4, isM_row h5⟩

theorem holds (h : Pre_Kernel2Ideal_finite2 m) : Holds m c (dat m c) := by
  have A := args m c h
  refine ⟨?_, ?_, ?_, ?_, ?_, ?_, ?_⟩
  · exact IsM.of_eq (host_v12 (fun b => m (c, b))) (hostRows_eq A.h0 A.h4)
  · rw [V_main_arg0]; exact A.h0
  · rw [V_main_arg1]; exact A.h1
  · rw [V_main_arg4]; exact A.h4
  · rw [V_main_arg5]; exact A.h5
  · exact IsM.of_eq (host_v14 (fun b => m (c, b))) (hostTurn_eq A.h2)
  · exact IsM.of_eq (host_v15 (fun b => m (c, b))) (fun i => A.h3 i)

end Kernel

/-- The reference runs and leaves its arguments unchanged. -/
theorem reference_frame : Cert.quiescent_Reference2Ideal := fun m ρ _ =>
  (θ_run _ _ _).mono (fun r h => ⟨fun c => (h c).2.2.2.2.2.2.2, sem_eq_zero_of_no_sems rfl r.2⟩) (Cert.Reference2Ideal.Value.run m ρ)

open Cert.Reference2Ideal.Read in
/-- The kernel and the reference leave the same results. -/
theorem same_results : Cert.algebraic_Kernel2Ideal_Reference2Ideal_pre_finite2 := by
  intro m g m' g' hpre hargs
  have hK := fun c => holds m c hpre
  have hR : ∀ c, Args (dat m c) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5)) := fun c => by
    obtain ⟨e0, e1, e2, e3, e4, e5⟩ := hargs c
    have A := args m c hpre
    refine ⟨?_, ?_, ?_, ?_, ?_, ?_⟩
    · rw [e0]; exact A.h0
    · rw [e1]; exact A.h1
    · rw [e2]; exact A.h2
    · rw [e3]; exact A.h3
    · rw [e4]; exact A.h4
    · rw [e5]; exact A.h5
  refine ⟨fun c => arrOf 1 128 (fun _ _ => (dat m c).loss 2048), fun c => arrOf 2816 2048 (fun p r => (dat m c).act r p),
    fun c => arrOf 5632 2048 (fun p r => (dat m c).dgu r p), fun c => arrOf 2048 1024 (dat m c).dff, fun c => arrOf 2048 1024 (dat m c).dh1,
    fun c => arrOf 1 1024 (fun _ q => (dat m c).dg2 2048 q), fun c => arrOf 1 1024 (fun _ q => (dat m c).dg3 2048 q), ?_, ?_⟩
  · refine (θ_run _ _ _).mono (fun r h c => ?_) (Cert.Kernel2Ideal.Value.run_blocks m g)
    obtain ⟨r0, r1, r2, r3, r4, r5, r6, k⟩ := h c
    exact ⟨r4.trans (hK c).arr_9, r0.trans (hK c).arr_5, r1.trans (hK c).arr_6, r2.trans (hK c).arr_7, r3.trans (hK c).arr_8,
      r6.trans (hK c).arr_11, r5.trans (hK c).arr_10, k⟩
  · refine (θ_run _ _ _).mono (fun r h c => ?_) (Cert.Reference2Ideal.Value.run m' g')
    obtain ⟨r0, r1, r2, r3, r4, r5, r6, k⟩ := h c
    exact ⟨r0.trans ((val_main_v106_eq _).trans (funext (hR c).v106)), r1.trans ((val_main_v108_eq _).trans (funext (hR c).v108)),
      r2.trans ((val_main_v110_eq _).trans (funext (hR c).v110)), r3.trans ((val_main_v111_eq _).trans (funext (hR c).v111)),
      r4.trans ((val_main_v112_eq _).trans (funext (hR c).v112)), r5.trans ((val_main_v105_eq _).trans (funext (hR c).v105)),
      r6.trans ((val_main_v76_eq _).trans (funext (hR c).v76)), k⟩

end Cert.Ffn

end
-- ==== Proof.Weights3.lean ====
/- The weights' gradient of the second feed-forward product: the kernel's array and the reference's are the same sums. -/
module

public import proofs.«01_k».proof.Defs
public import proofs.«01_k».proof.Proof.ScanMath
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pointwise
public import Idealize.ShloMosaic.Lib.Quiescent

@[expose] public section

set_option maxRecDepth 16384

noncomputable section

namespace Cert.Weights3

open Idealize.ShloMosaic Idealize.ShloMosaic.TcCoe Idealize.SL.Sem

/-- The sums over the 2048 tokens. -/
def sums (x : (⟨2, ![2816, 2048]⟩ : Shape).Idx → EReal) (y : (⟨2, ![2048, 1024]⟩ : Shape).Idx → EReal) : (⟨2, ![2816, 1024]⟩ : Shape).Idx → EReal :=
  fun i => ∑ k : Fin 2048, x (ix2 (i 0) k) * y (ix2 k (i 1))

section Kernel

open Cert.Kernel3Ideal Cert.Kernel3Ideal.Gen Idealize.ShloMosaic.Pipeline

theorem win_0 : ∀ t : Fin cfg0.N, win0_0.index t = ![t.val, 0] := by decide +kernel
theorem win_1 : ∀ t : Fin cfg0.N, win0_1.index t = ![0, 0] := by decide +kernel
theorem win_2 : ∀ t : Fin cfg0.N, win0_2.index t = ![t.val, 0] := by decide +kernel
theorem zeros : (![0, 0] : Fin 2 → ℕ) = fun _ => 0 := by decide

variable (m : (ℓ : Loc nD τ sig) → Buf (Elt Ideal) ℓ) (c : Dev nD)

theorem pay (v : FVec Ideal S704x2048 .bf16) (w : FVec Ideal S2048x1024 .bf16) (y : (⟨2, ![704, 1024]⟩ : Shape).Idx) :
    k0_pay1 (F := Ideal) v w y = ∑ k : Fin 2048, v (ix2 (y 0) k) * w (ix2 k (y 1)) := by
  unfold k0_pay1
  simp only [pointwise]
  rw [zero_add]

theorem arr : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  blk_simp [win_2]
  rw [after0_2]
  unfold out0_2
  rw [View.canon_unit_zero zeros, View.ld_unit_zero zeros, View.ld_unit_zero zeros]
  refine (pay _ _ _).trans ?_
  unfold sums
  show (_ : EReal) = _
  refine Finset.sum_congr rfl fun k _ => congrArg₂ (fun a b : EReal => a * b) ?_ ?_
  · have e : ∀ j, iblk m c 0 t j = V m c main_arg0 (((cfg0.win 0).blk t).view.emb j) := fun j => rfl
    refine (e _).trans ?_
    rw [V_main_arg0]
    refine congrArg _ (funext fun a => Fin.ext ?_)
    match a with
    | ⟨0, _⟩ =>
      show ((((cfg0.win 0).blk t).view.emb (ix2 (y 0) k)) 0).val = ((ix2 ((((cfg0.win 2).blk t).view.emb y) 0) k : (⟨2, ![2816, 2048]⟩ : Shape).Idx) 0).val
      blk_simp [win_0, win_2]
    | ⟨1, _⟩ =>
      show ((((cfg0.win 0).blk t).view.emb (ix2 (y 0) k)) 1).val = ((ix2 ((((cfg0.win 2).blk t).view.emb y) 0) k : (⟨2, ![2816, 2048]⟩ : Shape).Idx) 1).val
      blk_simp [win_0, win_2]
  · have e : ∀ j, iblk m c 1 t j = V m c main_arg1 (((cfg0.win 1).blk t).view.emb j) := fun j => rfl
    refine (e _).trans ?_
    rw [V_main_arg1]
    refine congrArg _ (funext fun a => Fin.ext ?_)
    match a with
    | ⟨0, _⟩ =>
      show ((((cfg0.win 1).blk t).view.emb (ix2 k (y 1))) 0).val = ((ix2 k ((((cfg0.win 2).blk t).view.emb y) 1) : (⟨2, ![2048, 1024]⟩ : Shape).Idx) 0).val
      blk_simp [win_1, win_2]
    | ⟨1, _⟩ =>
      show ((((cfg0.win 1).blk t).view.emb (ix2 k (y 1))) 1).val = ((ix2 k ((((cfg0.win 2).blk t).view.emb y) 1) : (⟨2, ![2048, 1024]⟩ : Shape).Idx) 1).val
      blk_simp [win_1, win_2]

end Kernel

section Reference

open Cert.Reference3Ideal Cert.Reference3Ideal.Gen Cert.Reference3Ideal.Read

theorem val (x : FVec Ideal S2816x2048 .bf16) (y : FVec Ideal S2048x1024 .bf16) : val_main_v7 (F := Ideal) x y = sums x y := by
  funext i
  rw [val_main_v7_apply (F := Ideal)]
  rw [val_main_v6_apply (F := Ideal)]
  rw [val_main_v5_apply]
  unfold sums
  refine Finset.sum_congr rfl fun k _ => ?_
  rw [val_main_v1_apply (F := Ideal), val_main_v0_apply (F := Ideal), val_main_v2_apply (F := Ideal)]
  rw [mul_comm]
  exact congrArg₂ (· * ·) (congrArg x (eq_ix2 _)) (congrArg y (eq_ix2 _))

end Reference

/-- The reference runs and leaves its arguments unchanged. -/
theorem reference_frame : Cert.quiescent_Reference3Ideal := fun m ρ _ =>
  (θ_run _ _ _).mono (fun r h => ⟨fun c => (h c).2, sem_eq_zero_of_no_sems rfl r.2⟩) (Cert.Reference3Ideal.Value.run m ρ)

/-- The kernel and the reference leave the same result. -/
theorem same_results : Cert.algebraic_Kernel3Ideal_Reference3Ideal := by
  intro m g m' g' _ hargs
  refine ⟨fun c => sums (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run _ _ _).mono (fun r h c => ⟨(h c).1.trans (arr m c), (h c).2⟩) (Cert.Kernel3Ideal.Value.run_blocks m g)
  · refine (θ_run _ _ _).mono (fun r h c => ⟨(h c).1.trans ((Cert.Reference3Ideal.Read.val_main_v7_eq _ _).trans ((val _ _).trans ?_)), (h c).2⟩)
      (Cert.Reference3Ideal.Value.run m' g')
    rw [(hargs c).1, (hargs c).2]

end Cert.Weights3

end
-- ==== Proof.Weights4.lean ====
/- The weights' gradient of the first feed-forward product, transposed: the kernel's array and the reference's are the same sums. -/
module

public import proofs.«01_k».proof.Defs
public import proofs.«01_k».proof.Proof.ScanMath
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry
public import Idealize.ShloMosaic.Lib.Pointwise
public import Idealize.ShloMosaic.Lib.Quiescent

@[expose] public section

set_option maxRecDepth 16384

noncomputable section

namespace Cert.Weights4

open Idealize.ShloMosaic Idealize.ShloMosaic.TcCoe Idealize.SL.Sem

/-- The sums over the 2048 tokens. -/
def sums (x : (⟨2, ![5632, 2048]⟩ : Shape).Idx → EReal) (y : (⟨2, ![2048, 1024]⟩ : Shape).Idx → EReal) : (⟨2, ![5632, 1024]⟩ : Shape).Idx → EReal :=
  fun i => ∑ k : Fin 2048, x (ix2 (i 0) k) * y (ix2 k (i 1))

section Kernel

open Cert.Kernel4Ideal Cert.Kernel4Ideal.Gen Idealize.ShloMosaic.Pipeline

theorem win_0 : ∀ t : Fin cfg0.N, win0_0.index t = ![t.val, 0] := by decide +kernel
theorem win_1 : ∀ t : Fin cfg0.N, win0_1.index t = ![0, 0] := by decide +kernel
theorem win_2 : ∀ t : Fin cfg0.N, win0_2.index t = ![t.val, 0] := by decide +kernel
theorem zeros : (![0, 0] : Fin 2 → ℕ) = fun _ => 0 := by decide

variable (m : (ℓ : Loc nD τ sig) → Buf (Elt Ideal) ℓ) (c : Dev nD)

theorem pay (v : FVec Ideal S704x2048 .bf16) (w : FVec Ideal S2048x1024 .bf16) (y : (⟨2, ![704, 1024]⟩ : Shape).Idx) :
    k0_pay1 (F := Ideal) v w y = ∑ k : Fin 2048, v (ix2 (y 0) k) * w (ix2 k (y 1)) := by
  unfold k0_pay1
  simp only [pointwise]
  rw [zero_add]

theorem arr : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  blk_simp [win_2]
  rw [after0_2]
  unfold out0_2
  rw [View.canon_unit_zero zeros, View.ld_unit_zero zeros, View.ld_unit_zero zeros]
  refine (pay _ _ _).trans ?_
  unfold sums
  show (_ : EReal) = _
  refine Finset.sum_congr rfl fun k _ => congrArg₂ (fun a b : EReal => a * b) ?_ ?_
  · have e : ∀ j, iblk m c 0 t j = V m c main_arg0 (((cfg0.win 0).blk t).view.emb j) := fun j => rfl
    refine (e _).trans ?_
    rw [V_main_arg0]
    refine congrArg _ (funext fun a => Fin.ext ?_)
    match a with
    | ⟨0, _⟩ =>
      show ((((cfg0.win 0).blk t).view.emb (ix2 (y 0) k)) 0).val = ((ix2 ((((cfg0.win 2).blk t).view.emb y) 0) k : (⟨2, ![5632, 2048]⟩ : Shape).Idx) 0).val
      blk_simp [win_0, win_2]
    | ⟨1, _⟩ =>
      show ((((cfg0.win 0).blk t).view.emb (ix2 (y 0) k)) 1).val = ((ix2 ((((cfg0.win 2).blk t).view.emb y) 0) k : (⟨2, ![5632, 2048]⟩ : Shape).Idx) 1).val
      blk_simp [win_0, win_2]
  · have e : ∀ j, iblk m c 1 t j = V m c main_arg1 (((cfg0.win 1).blk t).view.emb j) := fun j => rfl
    refine (e _).trans ?_
    rw [V_main_arg1]
    refine congrArg _ (funext fun a => Fin.ext ?_)
    match a with
    | ⟨0, _⟩ =>
      show ((((cfg0.win 1).blk t).view.emb (ix2 k (y 1))) 0).val = ((ix2 k ((((cfg0.win 2).blk t).view.emb y) 1) : (⟨2, ![2048, 1024]⟩ : Shape).Idx) 0).val
      blk_simp [win_1, win_2]
    | ⟨1, _⟩ =>
      show ((((cfg0.win 1).blk t).view.emb (ix2 k (y 1))) 1).val = ((ix2 k ((((cfg0.win 2).blk t).view.emb y) 1) : (⟨2, ![2048, 1024]⟩ : Shape).Idx) 1).val
      blk_simp [win_1, win_2]

end Kernel

section Reference

open Cert.Reference4Ideal Cert.Reference4Ideal.Gen Cert.Reference4Ideal.Read

theorem val (x : FVec Ideal S5632x2048 .bf16) (y : FVec Ideal S2048x1024 .bf16) : val_main_v8 (F := Ideal) x y = sums x y := by
  funext i
  rw [val_main_v8_apply (F := Ideal)]
  rw [val_main_v7_apply (F := Ideal)]
  rw [val_main_v6_apply (F := Ideal)]
  rw [val_main_v5_apply]
  unfold sums
  refine Finset.sum_congr rfl fun k _ => ?_
  rw [val_main_v2_apply (F := Ideal), val_main_v0_apply (F := Ideal), val_main_v1_apply (F := Ideal)]
  exact congrArg₂ (· * ·) (congrArg x (eq_ix2 _)) (congrArg y (eq_ix2 _))

end Reference

/-- The reference runs and leaves its arguments unchanged. -/
theorem reference_frame : Cert.quiescent_Reference4Ideal := fun m ρ _ =>
  (θ_run _ _ _).mono (fun r h => ⟨fun c => (h c).2, sem_eq_zero_of_no_sems rfl r.2⟩) (Cert.Reference4Ideal.Value.run m ρ)

/-- The kernel and the reference leave the same result. -/
theorem same_results : Cert.algebraic_Kernel4Ideal_Reference4Ideal := by
  intro m g m' g' _ hargs
  refine ⟨fun c => sums (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run _ _ _).mono (fun r h c => ⟨(h c).1.trans (arr m c), (h c).2⟩) (Cert.Kernel4Ideal.Value.run_blocks m g)
  · refine (θ_run _ _ _).mono (fun r h c => ⟨(h c).1.trans ((Cert.Reference4Ideal.Read.val_main_v8_eq _ _).trans ((val _ _).trans ?_)), (h c).2⟩)
      (Cert.Reference4Ideal.Value.run m' g')
    rw [(hargs c).1, (hargs c).2]

end Cert.Weights4

end
-- ==== Proof.Weights5.lean ====
/- The weights' gradient of the output projection: the kernel's array and the reference's are the same sums. -/
module

public import proofs.«01_k».proof.Defs
public import proofs.«01_k».proof.Proof.ScanMath
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pointwise
public import Idealize.ShloMosaic.Lib.Quiescent

@[expose] public section

set_option maxRecDepth 16384

noncomputable section

namespace Cert.Weights5

open Idealize.ShloMosaic Idealize.ShloMosaic.TcCoe Idealize.SL.Sem

/-- The sums over the 2048 tokens. -/
def sums (x : (⟨2, ![2048, 1024]⟩ : Shape).Idx → EReal) (y : (⟨2, ![2048, 1024]⟩ : Shape).Idx → EReal) : (⟨2, ![1024, 1024]⟩ : Shape).Idx → EReal :=
  fun i => ∑ k : Fin 2048, x (ix2 k (i 0)) * y (ix2 k (i 1))

section Kernel

open Cert.Kernel5Ideal Cert.Kernel5Ideal.Gen Idealize.ShloMosaic.Pipeline

theorem win_0 : ∀ t : Fin cfg0.N, win0_0.index t = ![0, t.val] := by decide +kernel
theorem win_1 : ∀ t : Fin cfg0.N, win0_1.index t = ![0, 0] := by decide +kernel
theorem win_2 : ∀ t : Fin cfg0.N, win0_2.index t = ![t.val, 0] := by decide +kernel
theorem zeros : (![0, 0] : Fin 2 → ℕ) = fun _ => 0 := by decide

variable (m : (ℓ : Loc nD τ sig) → Buf (Elt Ideal) ℓ) (c : Dev nD)

theorem pay (v : FVec Ideal S2048x512 .bf16) (w : FVec Ideal S2048x1024 .bf16) (y : (⟨2, ![512, 1024]⟩ : Shape).Idx) :
    k0_pay1 (F := Ideal) v w y = ∑ k : Fin 2048, v (ix2 k (y 0)) * w (ix2 k (y 1)) := by
  unfold k0_pay1
  simp only [pointwise]
  rw [zero_add]

theorem arr : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  blk_simp [win_2]
  rw [after0_2]
  unfold out0_2
  rw [View.canon_unit_zero zeros, View.ld_unit_zero zeros, View.ld_unit_zero zeros]
  refine (pay _ _ _).trans ?_
  unfold sums
  show (_ : EReal) = _
  refine Finset.sum_congr rfl fun k _ => congrArg₂ (fun a b : EReal => a * b) ?_ ?_
  · have e : ∀ j, iblk m c 0 t j = V m c main_arg0 (((cfg0.win 0).blk t).view.emb j) := fun j => rfl
    refine (e _).trans ?_
    rw [V_main_arg0]
    refine congrArg _ (funext fun a => Fin.ext ?_)
    match a with
    | ⟨0, _⟩ =>
      show ((((cfg0.win 0).blk t).view.emb (ix2 k (y 0))) 0).val = ((ix2 k ((((cfg0.win 2).blk t).view.emb y) 0) : (⟨2, ![2048, 1024]⟩ : Shape).Idx) 0).val
      blk_simp [win_0, win_2]
    | ⟨1, _⟩ =>
      show ((((cfg0.win 0).blk t).view.emb (ix2 k (y 0))) 1).val = ((ix2 k ((((cfg0.win 2).blk t).view.emb y) 0) : (⟨2, ![2048, 1024]⟩ : Shape).Idx) 1).val
      blk_simp [win_0, win_2]
  · have e : ∀ j, iblk m c 1 t j = V m c main_arg1 (((cfg0.win 1).blk t).view.emb j) := fun j => rfl
    refine (e _).trans ?_
    rw [V_main_arg1]
    refine congrArg _ (funext fun a => Fin.ext ?_)
    match a with
    | ⟨0, _⟩ =>
      show ((((cfg0.win 1).blk t).view.emb (ix2 k (y 1))) 0).val = ((ix2 k ((((cfg0.win 2).blk t).view.emb y) 1) : (⟨2, ![2048, 1024]⟩ : Shape).Idx) 0).val
      blk_simp [win_1, win_2]
    | ⟨1, _⟩ =>
      show ((((cfg0.win 1).blk t).view.emb (ix2 k (y 1))) 1).val = ((ix2 k ((((cfg0.win 2).blk t).view.emb y) 1) : (⟨2, ![2048, 1024]⟩ : Shape).Idx) 1).val
      blk_simp [win_1, win_2]

end Kernel

section Reference

open Cert.Reference5Ideal Cert.Reference5Ideal.Gen Cert.Reference5Ideal.Read

theorem val (x : FVec Ideal S2048x1024 .bf16) (y : FVec Ideal S2048x1024 .bf16) : val_main_v6 (F := Ideal) x y = sums x y := by
  funext i
  rw [val_main_v6_apply (F := Ideal)]
  rw [val_main_v5_apply (F := Ideal)]
  rw [val_main_v4_apply]
  unfold sums
  refine Finset.sum_congr rfl fun k _ => ?_
  rw [val_main_v0_apply (F := Ideal), val_main_v1_apply (F := Ideal)]
  rw [mul_comm]
  exact congrArg₂ (· * ·) (congrArg x (eq_ix2 _)) (congrArg y (eq_ix2 _))

end Reference

/-- The reference runs and leaves its arguments unchanged. -/
theorem reference_frame : Cert.quiescent_Reference5Ideal := fun m ρ _ =>
  (θ_run _ _ _).mono (fun r h => ⟨fun c => (h c).2, sem_eq_zero_of_no_sems rfl r.2⟩) (Cert.Reference5Ideal.Value.run m ρ)

/-- The kernel and the reference leave the same result. -/
theorem same_results : Cert.algebraic_Kernel5Ideal_Reference5Ideal := by
  intro m g m' g' _ hargs
  refine ⟨fun c => sums (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run _ _ _).mono (fun r h c => ⟨(h c).1.trans (arr m c), (h c).2⟩) (Cert.Kernel5Ideal.Value.run_blocks m g)
  · refine (θ_run _ _ _).mono (fun r h c => ⟨(h c).1.trans ((Cert.Reference5Ideal.Read.val_main_v6_eq _ _).trans ((val _ _).trans ?_)), (h c).2⟩)
      (Cert.Reference5Ideal.Value.run m' g')
    rw [(hargs c).1, (hargs c).2]

end Cert.Weights5

end
-- ==== Proof.Weights6.lean ====
/- The weights' gradient of the gate's product, transposed: the kernel's array and the reference's are the same sums. -/
module

public import proofs.«01_k».proof.Defs
public import proofs.«01_k».proof.Proof.ScanMath
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pointwise
public import Idealize.ShloMosaic.Lib.Quiescent

@[expose] public section

set_option maxRecDepth 16384

noncomputable section

namespace Cert.Weights6

open Idealize.ShloMosaic Idealize.ShloMosaic.TcCoe Idealize.SL.Sem

/-- The sums over the 2048 tokens. -/
def sums (x : (⟨2, ![2048, 1024]⟩ : Shape).Idx → EReal) (y : (⟨2, ![2048, 512]⟩ : Shape).Idx → EReal) : (⟨2, ![1024, 512]⟩ : Shape).Idx → EReal :=
  fun i => ∑ k : Fin 2048, x (ix2 k (i 0)) * y (ix2 k (i 1))

section Kernel

open Cert.Kernel6Ideal Cert.Kernel6Ideal.Gen Idealize.ShloMosaic.Pipeline

theorem win_0 : ∀ t : Fin cfg0.N, win0_0.index t = ![0, t.val] := by decide +kernel
theorem win_1 : ∀ t : Fin cfg0.N, win0_1.index t = ![0, 0] := by decide +kernel
theorem win_2 : ∀ t : Fin cfg0.N, win0_2.index t = ![t.val, 0] := by decide +kernel
theorem zeros : (![0, 0] : Fin 2 → ℕ) = fun _ => 0 := by decide

variable (m : (ℓ : Loc nD τ sig) → Buf (Elt Ideal) ℓ) (c : Dev nD)

theorem pay (v : FVec Ideal S2048x512 .bf16) (w : FVec Ideal S2048x512 .bf16) (y : (⟨2, ![512, 512]⟩ : Shape).Idx) :
    k0_pay1 (F := Ideal) v w y = ∑ k : Fin 2048, v (ix2 k (y 0)) * w (ix2 k (y 1)) := by
  unfold k0_pay1
  simp only [pointwise]
  rw [zero_add]

theorem arr : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  blk_simp [win_2]
  rw [after0_2]
  unfold out0_2
  rw [View.canon_unit_zero zeros, View.ld_unit_zero zeros, View.ld_unit_zero zeros]
  refine (pay _ _ _).trans ?_
  unfold sums
  show (_ : EReal) = _
  refine Finset.sum_congr rfl fun k _ => congrArg₂ (fun a b : EReal => a * b) ?_ ?_
  · have e : ∀ j, iblk m c 0 t j = V m c main_arg0 (((cfg0.win 0).blk t).view.emb j) := fun j => rfl
    refine (e _).trans ?_
    rw [V_main_arg0]
    refine congrArg _ (funext fun a => Fin.ext ?_)
    match a with
    | ⟨0, _⟩ =>
      show ((((cfg0.win 0).blk t).view.emb (ix2 k (y 0))) 0).val = ((ix2 k ((((cfg0.win 2).blk t).view.emb y) 0) : (⟨2, ![2048, 1024]⟩ : Shape).Idx) 0).val
      blk_simp [win_0, win_2]
    | ⟨1, _⟩ =>
      show ((((cfg0.win 0).blk t).view.emb (ix2 k (y 0))) 1).val = ((ix2 k ((((cfg0.win 2).blk t).view.emb y) 0) : (⟨2, ![2048, 1024]⟩ : Shape).Idx) 1).val
      blk_simp [win_0, win_2]
  · have e : ∀ j, iblk m c 1 t j = V m c main_arg1 (((cfg0.win 1).blk t).view.emb j) := fun j => rfl
    refine (e _).trans ?_
    rw [V_main_arg1]
    refine congrArg _ (funext fun a => Fin.ext ?_)
    match a with
    | ⟨0, _⟩ =>
      show ((((cfg0.win 1).blk t).view.emb (ix2 k (y 1))) 0).val = ((ix2 k ((((cfg0.win 2).blk t).view.emb y) 1) : (⟨2, ![2048, 512]⟩ : Shape).Idx) 0).val
      blk_simp [win_1, win_2]
    | ⟨1, _⟩ =>
      show ((((cfg0.win 1).blk t).view.emb (ix2 k (y 1))) 1).val = ((ix2 k ((((cfg0.win 2).blk t).view.emb y) 1) : (⟨2, ![2048, 512]⟩ : Shape).Idx) 1).val
      blk_simp [win_1, win_2]

end Kernel

section Reference

open Cert.Reference6Ideal Cert.Reference6Ideal.Gen Cert.Reference6Ideal.Read

theorem val (x : FVec Ideal S2048x1024 .bf16) (y : FVec Ideal S2048x512 .bf16) : val_main_v7 (F := Ideal) x y = sums x y := by
  funext i
  rw [val_main_v7_apply (F := Ideal)]
  rw [val_main_v6_apply (F := Ideal)]
  rw [val_main_v5_apply (F := Ideal)]
  rw [val_main_v4_apply]
  unfold sums
  refine Finset.sum_congr rfl fun k _ => ?_
  rw [val_main_v1_apply (F := Ideal), val_main_v0_apply (F := Ideal)]
  exact congrArg₂ (· * ·) (congrArg x (eq_ix2 _)) (congrArg y (eq_ix2 _))

end Reference

/-- The reference runs and leaves its arguments unchanged. -/
theorem reference_frame : Cert.quiescent_Reference6Ideal := fun m ρ _ =>
  (θ_run _ _ _).mono (fun r h => ⟨fun c => (h c).2, sem_eq_zero_of_no_sems rfl r.2⟩) (Cert.Reference6Ideal.Value.run m ρ)

/-- The kernel and the reference leave the same result. -/
theorem same_results : Cert.algebraic_Kernel6Ideal_Reference6Ideal := by
  intro m g m' g' _ hargs
  refine ⟨fun c => sums (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · exact (θ_run _ _ _).mono (fun r h c => ⟨(h c).1.trans (arr m c), (h c).2⟩) (Cert.Kernel6Ideal.Value.run_blocks m g)
  · refine (θ_run _ _ _).mono (fun r h c => ⟨(h c).1.trans ((Cert.Reference6Ideal.Read.val_main_v7_eq _ _).trans ((val _ _).trans ?_)), (h c).2⟩)
      (Cert.Reference6Ideal.Value.run m' g')
    rw [(hargs c).1, (hargs c).2]

end Cert.Weights6

end
-- ==== Proof.Weights7.lean ====
/- The weights' gradient of the input projection, transposed: the kernel's array and the reference's are the same sums. -/
module

public import proofs.«01_k».proof.Defs
public import proofs.«01_k».proof.Proof.ScanMath
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Pointwise
public import Idealize.ShloMosaic.Lib.Quiescent

@[expose] public section

set_option maxRecDepth 16384

noncomputable section

namespace Cert.Weights7

open Idealize.ShloMosaic Idealize.ShloMosaic.TcCoe Idealize.SL.Sem

/-- The sums over the 2048 tokens. -/
def sums (x : (⟨2, ![2048, 1280]⟩ : Shape).Idx → EReal) (y : (⟨2, ![2048, 1024]⟩ : Shape).Idx → EReal) : (⟨2, ![1280, 1024]⟩ : Shape).Idx → EReal :=
  fun i => ∑ k : Fin 2048, x (ix2 k (i 0)) * y (ix2 k (i 1))

section Kernel

open Cert.Kernel7Ideal Cert.Kernel7Ideal.Gen Idealize.ShloMosaic.Pipeline

theorem win_0 : ∀ t : Fin cfg0.N, win0_0.index t = ![0, t.val] := by decide +kernel
theorem win_1 : ∀ t : Fin cfg0.N, win0_1.index t = ![0, 0] := by decide +kernel
theorem win_2 : ∀ t : Fin cfg0.N, win0_2.index t = ![t.val, 0] := by decide +kernel
theorem zeros : (![0, 0] : Fin 2 → ℕ) = fun _ => 0 := by decide

variable (m : (ℓ : Loc nD τ sig) → Buf (Elt Ideal) ℓ) (c : Dev nD)

theorem pay (v : FVec Ideal S2048x256 .bf16) (w : FVec Ideal S2048x1024 .bf16) (y : (⟨2, ![256, 1024]⟩ : Shape).Idx) :
    k0_pay1 (F := Ideal) v w y = ∑ k : Fin 2048, v (ix2 k (y 0)) * w (ix2 k (y 1)) := by
  unfold k0_pay1
  simp only [pointwise]
  rw [zero_add]

theorem arr : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  blk_simp [win_2]
  rw [after0_2]
  unfold out0_2
  rw [View.canon_unit_zero zeros, View.ld_unit_zero zeros, View.ld_unit_zero zeros]
  refine (pay _ _ _).trans ?_
  unfold sums
  show (_ : EReal) = _
  refine Finset.sum_congr rfl fun k _ => congrArg₂ (fun a b : EReal => a * b) ?_ ?_
  · have e : ∀ j, iblk m c 0 t j = V m c main_arg0 (((cfg0.win 0).blk t).view.emb j) := fun j => rfl
    refine (e _).trans ?_
    rw [V_main_arg0]
    refine congrArg _ (funext fun a => Fin.ext ?_)
    match a with
    | ⟨0, _⟩ =>
      show ((((cfg0.win 0).blk t).view.emb (ix2 k (y 0))) 0).val = ((ix2 k ((((cfg0.win 2).blk t).view.emb y) 0) : (⟨2, ![2048, 1280]⟩ : Shape).Idx) 0).val
      blk_simp [win_0, win_2]
    | ⟨1, _⟩ =>
      show ((((cfg0.win 0).blk t).view.emb (ix2 k (y 0))) 1).val = ((ix2 k ((((cfg0.win 2).blk t).view.emb y) 0) : (⟨2, ![2048, 1280]⟩ : Shape).Idx) 1).val
      blk_simp [win_0, win_2]
  · have e : ∀ j, iblk m c 1 t j = V m c main_arg1 (((cfg0.win 1).blk t).view.emb j) := fun j => rfl
    refine (e _).trans ?_
    rw [V_main_arg1]
    refine congrArg _ (funext fun a => Fin.ext ?_)
    match a with
    | ⟨0, _⟩ =>
      show ((((cfg0.win 1).blk t).view.emb (ix2 k (y 1))) 0).val = ((ix2 k ((((cfg0.win 2).blk t).view.emb y) 1) : (⟨2, ![2048, 1024]⟩ : Shape).Idx) 0).val
      blk_simp [win_1, win_2]
    | ⟨1, _⟩ =>
      show ((((cfg0.win 1).blk t).view.emb (ix2 k (y 1))) 1).val = ((ix2 k ((((cfg0.win 2).blk t).view.emb y) 1) : (⟨2, ![2048, 1024]⟩ : Shape).Idx) 1).val
      blk_simp [win_1, win_2]

end Kernel

section Reference

open Cert.Reference7Ideal Cert.Reference7Ideal.Gen Cert.Reference7Ideal.Read

theorem val (x : FVec Ideal S2048x1280 .bf16) (y : FVec Ideal S2048x1024 .bf16) : val_main_v7 (F := Ideal) x y = sums x y := by
  funext i
  rw [val_main_v7_apply (F := Ideal)]
  rw [val_main_v6_apply (F := Ideal)]
  rw [val_main_v5_apply (F := Ideal)]
  rw [val_main_v4_apply]
  unfold sums
  refine Finset.sum_congr rfl fun k _ => ?_
  rw [val_main_v1_apply (F := Ideal), val_main_v0_apply (F := Ideal)]
  exact congrArg₂ (· * ·) (congrArg x (eq_ix2 _)) (congrArg y (eq_ix2 _))

end Reference

/-- The reference runs and leaves its arguments unchanged. -/
theorem reference_frame : Cert.quiescent_Reference7Ideal := fun m ρ _ =>
  (θ_run _ _ _).mono (fun r h => ⟨fun c => (h c).2, sem_eq_zero_of_no_sems rfl r.2⟩) (Cert.Reference7Ideal.Value.run m ρ)

/-- The kernel and the reference leave the same result. -/
theorem same_results : Cert.algebraic_Kernel7Ideal_Reference7Ideal := by
  intro m g m' g' _ hargs
  refine ⟨fun c => sums (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · exact (θ_run _ _ _).mono (fun r h c => ⟨(h c).1.trans (arr m c), (h c).2⟩) (Cert.Kernel7Ideal.Value.run_blocks m g)
  · refine (θ_run _ _ _).mono (fun r h c => ⟨(h c).1.trans ((Cert.Reference7Ideal.Read.val_main_v7_eq _ _).trans ((val _ _).trans ?_)), (h c).2⟩)
      (Cert.Reference7Ideal.Value.run m' g')
    rw [(hargs c).1, (hargs c).2]

end Cert.Weights7

end
-- ==== Proof.OutGrad.lean ====
/- The gradient through the output projection and the normalisation behind it: the kernel's arrays, read over the reals. -/
module

public import proofs.«01_k».proof.Proof.FfnBlk
public import proofs.«01_k».proof.Proof.Gen.Kernel8Ideal.Value
public import Idealize.ShloMosaic.Lib.Pipeline.ValueKit.Geometry
public import Idealize.ShloMosaic.Lib.KernelVsHost
public import Idealize.ShloMosaic.Lib.WritesUnit

@[expose] public section

set_option maxRecDepth 16384
set_option maxHeartbeats 400000

noncomputable section

namespace Cert.OutGrad

open Idealize.ShloMosaic Idealize.ShloMosaic.TcCoe Cert.Kernel8Ideal Cert.Kernel8Ideal.Gen
open Idealize.SL Idealize.ShloMosaic.Pipeline
open Cert.Ffn (IsM rr ms ms_pos eps w1024 wEps)

/-- The derivative that arrives, the product that was normalised, the scale, and the product's weight. -/
structure Dat where
  Y : ℕ → ℕ → ℝ
  M : ℕ → ℕ → ℝ
  G : ℕ → ℝ
  W : ℕ → ℕ → EReal

namespace Dat
variable (D : Dat)

/-- The rows from `n` on. -/
def rows (n : ℕ) : Dat := { D with Y := fun r => D.Y (n + r), M := fun r => D.M (n + r) }
def xn (r q : ℕ) : ℝ := D.M r q * rr (D.M r)
def a (r q : ℕ) : ℝ := D.Y r q * D.G q
/-- The derivative with respect to the product. -/
def dmo (r q : ℕ) : ℝ := rr (D.M r) * (D.a r q - D.xn r q * ((∑ k : Fin 1024, D.a r k * D.xn r k) / 1024))
/-- The derivative with respect to the product's input. -/
def dmerged (r j : ℕ) : EReal := ∑ q : Fin 1024, (D.dmo r q : EReal) * D.W j q
/-- The derivative with respect to the scale, from the first `n` rows. -/
def dg (n q : ℕ) : ℝ := ∑ r ∈ Finset.range n, D.Y r q * D.xn r q

theorem dg_add (n q : ℕ) : D.dg (n + 256) q = D.dg n q + ∑ r : Fin 256, (D.rows n).Y r q * (D.rows n).xn r q := by
  unfold dg
  rw [Finset.sum_range_add, Finset.sum_range (fun x => D.Y (n + x) q * D.xn (n + x) q)]
  rfl
end Dat

/-- An array with these entries. -/
def IsE {a b : ℕ} (v : (⟨2, ![a, b]⟩ : Shape).Idx → EReal) (U : ℕ → ℕ → EReal) : Prop := ∀ i, v i = U (i 0).val (i 1).val

/-! ### One block of 256 rows -/

/-- One block's inputs. -/
structure Ins (D : Dat) (x0 x1 : Vec Ideal S256x1024 .f32) (x2 : Vec Ideal S1024x1024 .bf16) (x3 : Vec Ideal S1x1024 .f32) : Prop where
  y : IsM (a := 256) (b := 1024) x0 D.Y
  mo : IsM (a := 256) (b := 1024) x1 D.M
  w : IsE (a := 1024) (b := 1024) x2 D.W
  g : IsM (a := 1) (b := 1024) x3 (fun _ q => D.G q)

namespace Ins
variable {D : Dat} {x0 x1 : Vec Ideal S256x1024 .f32} {x2 : Vec Ideal S1024x1024 .bf16} {x3 : Vec Ideal S1x1024 .f32} (I : Ins D x0 x1 x2 x3)
include I

theorem root : IsM (a := 256) (b := 1) (k0_pay4 x1) (fun r _ => rr (D.M r)) :=
  (((IsM.mul (a := 256) (b := 1024) I.mo I.mo).rowSum.div (IsM.const w1024) (by norm_num)).add (IsM.const wEps)).rsqrt (fun r _ => ms_pos (D.M r))
theorem xn : IsM (a := 256) (b := 1024) (k0_pay5 x1) D.xn := IsM.mul (a := 256) (b := 1024) I.mo I.root.col
theorem dgPart : IsM (a := 1) (b := 1024) (k0_pay6 x1 x0) (fun _ q => ∑ r : Fin 256, D.Y r q * D.xn r q) :=
  (IsM.mul (a := 256) (b := 1024) I.y I.xn).colSum
theorem a : IsM (a := 256) (b := 1024) (mulf x0 (broadcastTo S256x1024 x3 broadcasts_S1x1024_S256x1024) : FVec Ideal S256x1024 .f32) D.a :=
  IsM.mul (a := 256) (b := 1024) I.y (IsM.row I.g)
theorem dmo : IsM (a := 256) (b := 1024) (k0_pay8 x1 x3 x0) D.dmo :=
  (IsM.mul (a := 256) (b := 1024) I.root.col (I.a.sub (I.xn.mul (IsM.col ((I.a.mul I.xn).rowSum.div (IsM.const w1024) (by norm_num)))))).round _

theorem dmerged : IsE (a := 256) (b := 1024) (k0_pay1 (k0_pay8 x1 x3 x0) x2) D.dmerged := fun i => by
  have h := I.dmo
  generalize k0_pay8 x1 x3 x0 = v at h
  unfold k0_pay1
  simp only [pointwise]
  rw [zero_add]
  exact Finset.sum_congr rfl fun q _ => congrArg₂ (fun a b : EReal => a * b) (h _) (I.w _)
theorem dns : IsE (a := 256) (b := 512) (k0_pay2 (k0_pay8 x1 x3 x0) x2) D.dmerged := fun i => by
  have h := I.dmerged
  unfold k0_pay2
  generalize k0_pay1 (k0_pay8 x1 x3 x0) x2 = v at h
  simp only [pointwise]
  refine (h _).trans (congrArg₂ D.dmerged ?_ ?_)
  · exact Nat.zero_add _
  · exact Nat.zero_add _
theorem dna : IsE (a := 256) (b := 512) (k0_pay3 (k0_pay8 x1 x3 x0) x2) (fun r j => D.dmerged r (512 + j)) := fun i => by
  have h := I.dmerged
  unfold k0_pay3
  generalize k0_pay1 (k0_pay8 x1 x3 x0) x2 = v at h
  simp only [pointwise]
  refine (h _).trans (congrArg₂ D.dmerged ?_ ?_)
  · exact Nat.zero_add _
  · rfl
theorem dgNext {xo : Vec Ideal S1x1024 .f32} {U : ℕ → ℝ} (h : IsM (a := 1) (b := 1024) xo (fun _ q => U q)) :
    IsM (a := 1) (b := 1024) (k0_pay7 x1 x0 xo) (fun _ q => U q + ∑ r : Fin 256, D.Y r q * D.xn r q) :=
  (IsM.cast h _).add I.dgPart
end Ins

/-! ### What one grid point leaves -/

theorem wholeR {s : Shape} {e : EltTy} (M : Memref sig .tc .vmem s e) (h : M.IsWhole) (x : Vec Ideal s e)
    {off : Fin s.rank → ℕ} (inb : ∀ k, off k + s.size k ≤ s.size k) :
    View.readAt (Elt Ideal) M.view (Rect.unit (s := s) off s.size inb).toLoadRect (h.unread x) = x :=
  (View.readAt_full _ _ _).trans (h.read_unread x)

theorem outA_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : cond0_0 i) (hc1 : ¬cond0_1 i)
    (x0 : Vec Ideal S256x1024 .f32) (x1 : Vec Ideal S256x1024 .f32) (x2 : Vec Ideal S1024x1024 .bf16) (x3 : Vec Ideal S1x1024 .f32) :
    out0_A_4 c i arg1 harg1 arg2 harg2 arg3 harg3 arg4 harg4 arg5 harg5 arg6 harg6 arg7 harg7 arg8 harg8 hc0 hc1 x0 x1 x2 x3 = k0_pay8 x1 x3 x0 := by
  unfold out0_A_4 kernelRun0_A
  dsimp only
  rw [View.read_writes_full]
  exact (congr (congrArg₂ k0_pay8 (wholeR arg2 harg2 x1 inb_S256x1024_S256x1024_0_0) (wholeR arg4 harg4 x3 inb_S1x1024_S1x1024_0_0)) (wholeR arg1 harg1 x0 inb_S256x1024_S256x1024_0_0))

theorem outA_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : cond0_0 i) (hc1 : ¬cond0_1 i)
    (x0 : Vec Ideal S256x1024 .f32) (x1 : Vec Ideal S256x1024 .f32) (x2 : Vec Ideal S1024x1024 .bf16) (x3 : Vec Ideal S1x1024 .f32) :
    out0_A_5 c i arg1 harg1 arg2 harg2 arg3 harg3 arg4 harg4 arg5 harg5 arg6 harg6 arg7 harg7 arg8 harg8 hc0 hc1 x0 x1 x2 x3 = k0_pay2 (k0_pay8 x1 x3 x0) x2 := by
  unfold out0_A_5 kernelRun0_A
  dsimp only
  rw [View.read_writes_full]
  exact congrArg₂ k0_pay2 (congr (congrArg₂ k0_pay8 (wholeR arg2 harg2 x1 inb_S256x1024_S256x1024_0_0) (wholeR arg4 harg4 x3 inb_S1x1024_S1x1024_0_0)) (wholeR arg1 harg1 x0 inb_S256x1024_S256x1024_0_0)) (wholeR arg3 harg3 x2 inb_S1024x1024_S1024x1024_0_0)

theorem outA_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : cond0_0 i) (hc1 : ¬cond0_1 i)
    (x0 : Vec Ideal S256x1024 .f32) (x1 : Vec Ideal S256x1024 .f32) (x2 : Vec Ideal S1024x1024 .bf16) (x3 : Vec Ideal S1x1024 .f32) :
    out0_A_6 c i arg1 harg1 arg2 harg2 arg3 harg3 arg4 harg4 arg5 harg5 arg6 harg6 arg7 harg7 arg8 harg8 hc0 hc1 x0 x1 x2 x3 = k0_pay3 (k0_pay8 x1 x3 x0) x2 := by
  unfold out0_A_6 kernelRun0_A
  dsimp only
  rw [View.read_writes_full]
  exact congrArg₂ k0_pay3 (congr (congrArg₂ k0_pay8 (wholeR arg2 harg2 x1 inb_S256x1024_S256x1024_0_0) (wholeR arg4 harg4 x3 inb_S1x1024_S1x1024_0_0)) (wholeR arg1 harg1 x0 inb_S256x1024_S256x1024_0_0)) (wholeR arg3 harg3 x2 inb_S1024x1024_S1024x1024_0_0)

theorem outA_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : cond0_0 i) (hc1 : ¬cond0_1 i)
    (x0 : Vec Ideal S256x1024 .f32) (x1 : Vec Ideal S256x1024 .f32) (x2 : Vec Ideal S1024x1024 .bf16) (x3 : Vec Ideal S1x1024 .f32) :
    out0_A_7 c i arg1 harg1 arg2 harg2 arg3 harg3 arg4 harg4 arg5 harg5 arg6 harg6 arg7 harg7 arg8 harg8 hc0 hc1 x0 x1 x2 x3 = k0_pay6 x1 x0 := by
  unfold out0_A_7 kernelRun0_A
  dsimp only
  rw [View.read_writes_full]
  exact congrArg₂ k0_pay6 (wholeR arg2 harg2 x1 inb_S256x1024_S256x1024_0_0) (wholeR arg1 harg1 x0 inb_S256x1024_S256x1024_0_0)

theorem outB_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : ¬cond0_0 i) (hc1 : cond0_1 i)
    (x0 : Vec Ideal S256x1024 .f32) (x1 : Vec Ideal S256x1024 .f32) (x2 : Vec Ideal S1024x1024 .bf16) (x3 : Vec Ideal S1x1024 .f32) (xo7 : Vec Ideal S1x1024 .f32) :
    out0_B_4 c i arg1 harg1 arg2 harg2 arg3 harg3 arg4 harg4 arg5 harg5 arg6 harg6 arg7 harg7 arg8 harg8 hc0 hc1 x0 x1 x2 x3 xo7 = k0_pay8 x1 x3 x0 := by
  unfold out0_B_4 kernelRun0_B
  dsimp only
  rw [View.read_writes_full]
  exact (congr (congrArg₂ k0_pay8 (wholeR arg2 harg2 x1 inb_S256x1024_S256x1024_0_0) (wholeR arg4 harg4 x3 inb_S1x1024_S1x1024_0_0)) (wholeR arg1 harg1 x0 inb_S256x1024_S256x1024_0_0))

theorem outB_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : ¬cond0_0 i) (hc1 : cond0_1 i)
    (x0 : Vec Ideal S256x1024 .f32) (x1 : Vec Ideal S256x1024 .f32) (x2 : Vec Ideal S1024x1024 .bf16) (x3 : Vec Ideal S1x1024 .f32) (xo7 : Vec Ideal S1x1024 .f32) :
    out0_B_5 c i arg1 harg1 arg2 harg2 arg3 harg3 arg4 harg4 arg5 harg5 arg6 harg6 arg7 harg7 arg8 harg8 hc0 hc1 x0 x1 x2 x3 xo7 = k0_pay2 (k0_pay8 x1 x3 x0) x2 := by
  unfold out0_B_5 kernelRun0_B
  dsimp only
  rw [View.read_writes_full]
  exact congrArg₂ k0_pay2 (congr (congrArg₂ k0_pay8 (wholeR arg2 harg2 x1 inb_S256x1024_S256x1024_0_0) (wholeR arg4 harg4 x3 inb_S1x1024_S1x1024_0_0)) (wholeR arg1 harg1 x0 inb_S256x1024_S256x1024_0_0)) (wholeR arg3 harg3 x2 inb_S1024x1024_S1024x1024_0_0)

theorem outB_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : ¬cond0_0 i) (hc1 : cond0_1 i)
    (x0 : Vec Ideal S256x1024 .f32) (x1 : Vec Ideal S256x1024 .f32) (x2 : Vec Ideal S1024x1024 .bf16) (x3 : Vec Ideal S1x1024 .f32) (xo7 : Vec Ideal S1x1024 .f32) :
    out0_B_6 c i arg1 harg1 arg2 harg2 arg3 harg3 arg4 harg4 arg5 harg5 arg6 harg6 arg7 harg7 arg8 harg8 hc0 hc1 x0 x1 x2 x3 xo7 = k0_pay3 (k0_pay8 x1 x3 x0) x2 := by
  unfold out0_B_6 kernelRun0_B
  dsimp only
  rw [View.read_writes_full]
  exact congrArg₂ k0_pay3 (congr (congrArg₂ k0_pay8 (wholeR arg2 harg2 x1 inb_S256x1024_S256x1024_0_0) (wholeR arg4 harg4 x3 inb_S1x1024_S1x1024_0_0)) (wholeR arg1 harg1 x0 inb_S256x1024_S256x1024_0_0)) (wholeR arg3 harg3 x2 inb_S1024x1024_S1024x1024_0_0)

theorem outB_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x1024 .f32) (harg8 : arg8.IsWhole) (hc0 : ¬cond0_0 i) (hc1 : cond0_1 i)
    (x0 : Vec Ideal S256x1024 .f32) (x1 : Vec Ideal S256x1024 .f32) (x2 : Vec Ideal S1024x1024 .bf16) (x3 : Vec Ideal S1x1024 .f32) (xo7 : Vec Ideal S1x1024 .f32) :
    out0_B_7 c i arg1 harg1 arg2 harg2 arg3 harg3 arg4 harg4 arg5 harg5 arg6 harg6 arg7 harg7 arg8 harg8 hc0 hc1 x0 x1 x2 x3 xo7 = k0_pay7 x1 x0 xo7 := by
  unfold out0_B_7 kernelRun0_B
  dsimp only
  rw [View.read_writes_full]
  exact congr (congrArg₂ k0_pay7 (wholeR arg2 harg2 x1 inb_S256x1024_S256x1024_0_0) (wholeR arg1 harg1 x0 inb_S256x1024_S256x1024_0_0)) (wholeR arg8 harg8 xo7 inb_S1x1024_S1x1024_0_0)

/-! ### The result arrays -/

theorem win_0 : ∀ t : Fin cfg0.N, win0_0.index t = ![t.val, 0] := by decide +kernel
theorem win_1 : ∀ t : Fin cfg0.N, win0_1.index t = ![t.val, 0] := by decide +kernel
theorem win_2 : ∀ t : Fin cfg0.N, win0_2.index t = ![0, 0] := by decide +kernel
theorem win_3 : ∀ t : Fin cfg0.N, win0_3.index t = ![0, 0] := by decide +kernel
theorem win_4 : ∀ t : Fin cfg0.N, win0_4.index t = ![t.val, 0] := by decide +kernel
theorem win_5 : ∀ t : Fin cfg0.N, win0_5.index t = ![0, t.val] := by decide +kernel
theorem win_6 : ∀ t : Fin cfg0.N, win0_6.index t = ![t.val, 0] := by decide +kernel
theorem win_7 : ∀ t : Fin cfg0.N, win0_7.index t = ![0, 0] := by decide +kernel
theorem last_7 : ∀ t : Fin cfg0.N, (cfg0.win 7).flush t = true → t.val = 7 := by decide +kernel

variable (m : (ℓ : Loc nD τ sig) → Buf (Elt Ideal) ℓ) (c : Dev nD) {D : Dat}

/-- What the kernel's argument arrays hold. -/
structure Holds (D : Dat) : Prop where
  y : IsM (a := 2048) (b := 1024) (V m c main_arg0) D.Y
  mo : IsM (a := 2048) (b := 1024) (V m c main_arg1) D.M
  w : IsE (a := 1024) (b := 1024) (V m c main_arg2) D.W
  g : IsM (a := 1) (b := 1024) (V m c main_arg3) (fun _ q => D.G q)

variable {m c}

theorem Holds.ins (h : Holds m c D) (t : Fin cfg0.N) : Ins (D.rows (t.val * 256)) (iblk m c 0 t) (iblk m c 1 t) (iblk m c 2 t) (iblk m c 3 t) where
  y := by
    intro i
    refine (h.y (((cfg0.win 0).blk t).view.emb i)).trans ?_
    blk_simp [win_0]
    rfl
  mo := by
    intro i
    refine (h.mo (((cfg0.win 1).blk t).view.emb i)).trans ?_
    blk_simp [win_1]
    rfl
  w := by
    intro i
    refine (h.w (((cfg0.win 2).blk t).view.emb i)).trans ?_
    blk_simp [win_2]
    rfl
  g := by
    intro i
    refine (h.g (((cfg0.win 3).blk t).view.emb i)).trans ?_
    blk_simp [win_3]
    rfl

/-- What the outputs hold after a grid point. -/
structure After (D : Dat) (n : ℕ) (o : Vec Ideal S256x1024 .bf16 × Vec Ideal S256x512 .f32 × Vec Ideal S256x512 .f32 × Vec Ideal S1x1024 .f32) : Prop where
  dmo : IsM (a := 256) (b := 1024) o.1 (D.rows (n * 256)).dmo
  dns : IsE (a := 256) (b := 512) o.2.1 (D.rows (n * 256)).dmerged
  dna : IsE (a := 256) (b := 512) o.2.2.1 (fun r j => (D.rows (n * 256)).dmerged r (512 + j))
  dg : IsM (a := 1) (b := 1024) o.2.2.2 (fun _ q => D.dg ((n + 1) * 256) q)

theorem After.of_ins {n : ℕ} {x0 x1 : Vec Ideal S256x1024 .f32} {x2 : Vec Ideal S1024x1024 .bf16} {x3 : Vec Ideal S1x1024 .f32} (I : Ins (D.rows (n * 256)) x0 x1 x2 x3)
    {o : Vec Ideal S256x1024 .bf16 × Vec Ideal S256x512 .f32 × Vec Ideal S256x512 .f32 × Vec Ideal S1x1024 .f32}
    {p4 : Vec Ideal S256x1024 .bf16} {p5 p6 : Vec Ideal S256x512 .f32} {p7 : Vec Ideal S1x1024 .f32} (e : o = (p4, p5, p6, p7))
    (e4 : p4 = k0_pay8 x1 x3 x0) (e5 : p5 = k0_pay2 (k0_pay8 x1 x3 x0) x2) (e6 : p6 = k0_pay3 (k0_pay8 x1 x3 x0) x2)
    (k : IsM (a := 1) (b := 1024) p7 (fun _ q => D.dg (n * 256) q + ∑ r : Fin 256, (D.rows (n * 256)).Y r q * (D.rows (n * 256)).xn r q)) : After D n o := by
  subst e e4 e5 e6
  refine ⟨I.dmo, I.dns, I.dna, IsM.congr k fun _ _ q _ => ?_⟩
  rw [← D.dg_add, Nat.succ_mul]

theorem Holds.after (h : Holds m c D) : ∀ (n : ℕ) (hn : n < cfg0.N), After D n (outsAt0 m c n hn) := by
  intro n
  induction n with
  | zero =>
    intro hn
    refine After.of_ins (n := 0) (h.ins ⟨0, hn⟩) (outsAt0_A m c ⟨0, hn⟩ rfl (Nat.not_succ_le_zero 0)) (outA_4 ..) (outA_5 ..) (outA_6 ..) (IsM.of_eq (outA_7 ..) ?_)
    refine IsM.congr (h.ins ⟨0, hn⟩).dgPart fun r _ q _ => ?_
    show _ = D.dg (0 * 256) q + _
    rw [show D.dg (0 * 256) q = 0 by simp [Dat.dg]]
    exact (zero_add _).symm
  | succ k ih =>
    intro hn
    have a := ih (Nat.lt_of_succ_lt hn)
    have hk : k + 1 < 8 := hn.trans_eq (by decide +kernel)
    have z : ¬ (k + 1) % 8 = 0 := by omega
    have p : 1 ≤ k + 1 := by omega
    exact After.of_ins (n := k + 1) (h.ins ⟨k + 1, hn⟩) (outsAt0_B m c ⟨k + 1, hn⟩ z p) (outB_4 ..) (outB_5 ..) (outB_6 ..)
      (IsM.of_eq (outB_7 ..) ((h.ins ⟨k + 1, hn⟩).dgNext a.dg))

/-- An array with these entries. -/
def arrOf (a b : ℕ) (U : ℕ → ℕ → EReal) : (⟨2, ![a, b]⟩ : Shape).Idx → EReal := fun i => U (i 0).val (i 1).val

theorem Holds.arr_4 (h : Holds m c D) : (dats m 0 c).arrAt 4 cfg0.N = arrOf 2048 1024 (fun r q => (D.dmo r q : EReal)) := by
  refine (dats m 0 c).arrAt_eq_of_covers 4 _ (by decide +kernel) fun t hf y => ?_
  have e := (h.after t.val t.isLt).dmo
  unfold arrOf
  blk_simp [win_4]
  rw [after0_4]
  exact (e _)

/-- Chunk `t` of 512 columns holds the first half of rows `256 t` to `256 t + 255`. -/
theorem Holds.arr_5 (h : Holds m c D) : (dats m 0 c).arrAt 5 cfg0.N = arrOf 256 4096 (fun r j => D.dmerged (j / 512 * 256 + r) (j % 512)) := by
  refine (dats m 0 c).arrAt_eq_of_covers 5 _ (by decide +kernel) fun t hf y => ?_
  have e := (h.after t.val t.isLt).dns
  unfold arrOf
  blk_simp [win_5]
  rw [after0_5]
  refine (e _).trans ?_
  have b : (y 1).val < 512 := (y 1).isLt
  show D.dmerged (t.val * 256 + (y 0).val) (y 1).val = _
  refine congrArg₂ D.dmerged ?_ ?_ <;> omega

theorem Holds.arr_6 (h : Holds m c D) : (dats m 0 c).arrAt 6 cfg0.N = arrOf 2048 512 (fun r j => D.dmerged r (512 + j)) := by
  refine (dats m 0 c).arrAt_eq_of_covers 6 _ (by decide +kernel) fun t hf y => ?_
  have e := (h.after t.val t.isLt).dna
  unfold arrOf
  blk_simp [win_6]
  rw [after0_6]
  exact (e _)

theorem Holds.arr_7 (h : Holds m c D) : (dats m 0 c).arrAt 7 cfg0.N = arrOf 1 1024 (fun _ q => (D.dg 2048 q : EReal)) := by
  refine (dats m 0 c).arrAt_eq_of_covers 7 _ (by decide +kernel) fun t hf y => ?_
  have e7 := last_7 t hf
  have e := IsM.congr (a := 1) (b := 1024) (W := fun _ q => D.dg 2048 q) (h.after t.val t.isLt).dg fun r _ q _ => by rw [e7]
  unfold arrOf
  blk_simp [win_7]
  rw [after0_7]
  exact (e _)

end Cert.OutGrad

end
-- ==== Proof.OutGradRef.lean ====
/- The gradient through the output projection: the reference's values, and that the kernel and the reference leave the same results. -/
module

public import proofs.«01_k».proof.Defs
public import proofs.«01_k».proof.Proof.OutGrad
public import proofs.«01_k».proof.Proof.FfnRef
public import proofs.«01_k».proof.Proof.FfnFinal
public import proofs.«01_k».proof.Proof.Finite
public import proofs.«01_k».proof.Proof.Gen.Reference8Ideal.Read
public import proofs.«01_k».proof.Proof.Gen.Reference8Ideal.Run
public import proofs.«01_k».proof.Proof.Gen.Pre_finite8
public import Idealize.ShloMosaic.Lib.Quiescent

@[expose] public section

set_option maxRecDepth 16384

noncomputable section

namespace Cert.OutGrad

open Idealize.ShloMosaic Idealize.ShloMosaic.TcCoe Idealize.SL.Sem
open Cert.Ffn (IsM IsV rr ms ms_pos eps w1024 wEps wZero wNegHalf mulR addR divR rsqR sumR coe_congr norm_row isM_row)
open Cert.S5 (entries isR_entries real_of_all)

section Reference

open Cert.Reference8Ideal Cert.Reference8Ideal.Gen Cert.Reference8Ideal.Read

/-- The reference's arguments hold these data. -/
structure Args (D : Dat) (x0 x1 : S2048x1024.Idx → EReal) (x2 : S1024x1024.Idx → EReal) (x3 : S1x1024.Idx → EReal) : Prop where
  h0 : IsM (a := 2048) (b := 1024) x0 D.Y
  h1 : IsM (a := 2048) (b := 1024) x1 D.M
  h2 : IsE (a := 1024) (b := 1024) x2 D.W
  h3 : IsM (a := 1) (b := 1024) x3 (fun _ q => D.G q)

namespace Args
variable {D : Dat} {x0 x1 : S2048x1024.Idx → EReal} {x2 : S1024x1024.Idx → EReal} {x3 : S1x1024.Idx → EReal} (A : Args D x0 x1 x2 x3)
include A

theorem v0 : IsV (a := 1024) (val_main_v0 (F := Ideal) x3) (fun r => D.G r) := by
  intro i
  have h := A.h3 (idx_main_v0 i)
  exact (val_main_v0_apply (F := Ideal) x3 i).trans (h.trans (coe_congr (congrArg _ (Nat.mod_eq_of_lt (i 0).isLt))))
theorem v1 : IsM (a := 2048) (b := 1024) (val_main_v1 (F := Ideal) x1) (fun r q => D.M r q * D.M r q) := by
  intro i
  have h := mulR (A.h1 i) (A.h1 i)
  exact (val_main_v1_apply (F := Ideal) x1 i).trans (h.trans (coe_congr (rfl)))
theorem v2 : IsV (a := 2048) (val_main_v2 (F := Ideal) x1) (fun r => ∑ k : Fin 1024, D.M r k * D.M r k) := by
  intro i
  have h := sumR wZero (fun k => A.v1 (idx_main_v2 i k))
  exact (val_main_v2_apply x1 i).trans (h.trans (coe_congr (rfl)))
theorem v3 : IsM (a := 2048) (b := 1) (val_main_v3 (F := Ideal) x1) (fun r q => ∑ k : Fin 1024, D.M r k * D.M r k) := by
  intro i
  have h := A.v2 (idx_main_v3 i)
  exact (val_main_v3_apply (F := Ideal) x1 i).trans (h.trans (coe_congr (rfl)))
omit A in
theorem v4 : IsM (a := 2048) (b := 1) (val_main_v4 (F := Ideal)) (fun r q => (1024 : ℝ)) := fun i => (val_main_v4_apply (F := Ideal) i).trans w1024
theorem v5 : IsM (a := 2048) (b := 1) (val_main_v5 (F := Ideal) x1) (fun r q => (∑ k : Fin 1024, D.M r k * D.M r k) / 1024) := by
  intro i
  have h := divR (A.v3 i) (v4 i) (by norm_num)
  exact (val_main_v5_apply (F := Ideal) x1 i).trans (h.trans (coe_congr (rfl)))
omit A in
theorem v6 : IsM (a := 2048) (b := 1) (val_main_v6 (F := Ideal)) (fun r q => (eps : ℝ)) := fun i => (val_main_v6_apply (F := Ideal) i).trans wEps
theorem v7 : IsM (a := 2048) (b := 1) (val_main_v7 (F := Ideal) x1) (fun r q => ms (D.M r)) := by
  intro i
  have h := addR (A.v5 i) (v6 i)
  exact (val_main_v7_apply (F := Ideal) x1 i).trans (h.trans (coe_congr (rfl)))
theorem v8 : IsM (a := 2048) (b := 1) (val_main_v8 (F := Ideal) x1) (fun r q => rr (D.M r)) := by
  intro i
  have h := rsqR (A.v7 i) (ms_pos _)
  exact (val_main_v8_apply (F := Ideal) x1 i).trans (h.trans (coe_congr (rfl)))
theorem v9 : IsM (a := 2048) (b := 1) (val_main_v9 (F := Ideal) x1) (fun r q => rr (D.M r) / ms (D.M r)) := by
  intro i
  have h := divR (A.v8 i) (A.v7 i) (ms_pos _).ne'
  exact (val_main_v9_apply (F := Ideal) x1 i).trans (h.trans (coe_congr (rfl)))
omit A in
theorem v10 : IsM (a := 2048) (b := 1) (val_main_v10 (F := Ideal)) (fun r q => (-(1 / 2) : ℝ)) := fun i => (val_main_v10_apply (F := Ideal) i).trans wNegHalf
theorem v11 : IsM (a := 2048) (b := 1) (val_main_v11 (F := Ideal) x1) (fun r q => -(1 / 2) * (rr (D.M r) / ms (D.M r))) := by
  intro i
  have h := mulR (v10 i) (A.v9 i)
  exact (val_main_v11_apply (F := Ideal) x1 i).trans (h.trans (coe_congr (rfl)))
theorem v12 : IsM (a := 2048) (b := 1024) (val_main_v12 (F := Ideal) x1) (fun r q => rr (D.M r)) := by
  intro i
  have h := A.v8 (idx_main_v12 i)
  exact (val_main_v12_apply (F := Ideal) x1 i).trans (h.trans (coe_congr (rfl)))
theorem v13 : IsM (a := 2048) (b := 1024) (val_main_v13 (F := Ideal) x1) (fun r q => D.xn r q) := by
  intro i
  have h := mulR (A.h1 i) (A.v12 i)
  exact (val_main_v13_apply (F := Ideal) x1 i).trans (h.trans (coe_congr (rfl)))
theorem v14 : IsM (a := 1) (b := 1024) (val_main_v14 (F := Ideal) x3) (fun r q => D.G q) := by
  intro i
  have h := A.v0 (idx_main_v14 i)
  exact (val_main_v14_apply (F := Ideal) x3 i).trans (h.trans (coe_congr (rfl)))
theorem v17 : IsM (a := 2048) (b := 1024) (val_main_v17 (F := Ideal) x0 x1) (fun r q => D.xn r q * D.Y r q) := by
  intro i
  have h := mulR (A.v13 i) (A.h0 i)
  exact (val_main_v17_apply (F := Ideal) x0 x1 i).trans (h.trans (coe_congr (rfl)))
theorem v18 : IsV (a := 1024) (val_main_v18 (F := Ideal) x0 x1) (fun r => D.dg 2048 r) := by
  intro i
  have h := sumR wZero (fun k => A.v17 (idx_main_v18 i k))
  exact (val_main_v18_apply x0 x1 i).trans (h.trans (coe_congr (by beta_reduce; unfold Dat.dg; rw [Finset.sum_range]; exact Finset.sum_congr rfl fun _ _ => mul_comm _ _)))
theorem v19 : IsM (a := 1) (b := 1024) (val_main_v19 (F := Ideal) x0 x1) (fun r q => D.dg 2048 q) := by
  intro i
  have h := A.v18 (idx_main_v19 i)
  exact (val_main_v19_apply (F := Ideal) x0 x1 i).trans (h.trans (coe_congr (by have : (i 0).val < 1 := (i 0).isLt; dsimp; congr 1; omega)))
theorem v20 : IsM (a := 2048) (b := 1024) (val_main_v20 (F := Ideal) x3) (fun r q => D.G q) := by
  intro i
  have h := A.v14 (idx_main_v20 i)
  exact (val_main_v20_apply (F := Ideal) x3 i).trans (h.trans (coe_congr (rfl)))
theorem v21 : IsM (a := 2048) (b := 1024) (val_main_v21 (F := Ideal) x0 x3) (fun r q => D.a r q) := by
  intro i
  have h := mulR (A.h0 i) (A.v20 i)
  exact (val_main_v21_apply (F := Ideal) x0 x3 i).trans (h.trans (coe_congr (rfl)))
theorem v22 : IsV (a := 1024) (val_main_v22 (F := Ideal) x0 x1) (fun r => D.dg 2048 r) := by
  intro i
  have h := sumR wZero (fun k => A.v19 (idx_main_v22 i k))
  exact (val_main_v22_apply x0 x1 i).trans (h.trans (coe_congr (Fin.sum_univ_one _)))
theorem v23 : IsM (a := 2048) (b := 1024) (val_main_v23 (F := Ideal) x0 x1 x3) (fun r q => D.M r q * D.a r q) := by
  intro i
  have h := mulR (A.h1 i) (A.v21 i)
  exact (val_main_v23_apply (F := Ideal) x0 x1 x3 i).trans (h.trans (coe_congr (rfl)))
theorem v24 : IsV (a := 2048) (val_main_v24 (F := Ideal) x0 x1 x3) (fun r => (∑ k : Fin 1024, D.M r k * D.a r k)) := by
  intro i
  have h := sumR wZero (fun k => A.v23 (idx_main_v24 i k))
  exact (val_main_v24_apply x0 x1 x3 i).trans (h.trans (coe_congr (rfl)))
theorem v25 : IsM (a := 2048) (b := 1) (val_main_v25 (F := Ideal) x0 x1 x3) (fun r q => (∑ k : Fin 1024, D.M r k * D.a r k)) := by
  intro i
  have h := A.v24 (idx_main_v25 i)
  exact (val_main_v25_apply (F := Ideal) x0 x1 x3 i).trans (h.trans (coe_congr (congrArg (fun r => (∑ k : Fin 1024, D.M r k * D.a r k)) (show (i 0).val * 1 + (i 1).val = (i 0).val from by have : (i 1).val < 1 := (i 1).isLt; omega))))
theorem v26 : IsM (a := 2048) (b := 1024) (val_main_v26 (F := Ideal) x1) (fun r q => rr (D.M r)) := by
  intro i
  have h := A.v8 (idx_main_v26 i)
  exact (val_main_v26_apply (F := Ideal) x1 i).trans (h.trans (coe_congr (rfl)))
theorem v27 : IsM (a := 2048) (b := 1024) (val_main_v27 (F := Ideal) x0 x1 x3) (fun r q => D.a r q * rr (D.M r)) := by
  intro i
  have h := mulR (A.v21 i) (A.v26 i)
  exact (val_main_v27_apply (F := Ideal) x0 x1 x3 i).trans (h.trans (coe_congr (rfl)))
theorem v28 : IsM (a := 2048) (b := 1) (val_main_v28 (F := Ideal) x0 x1 x3) (fun r q => (∑ k : Fin 1024, D.M r k * D.a r k) * (-(1 / 2) * (rr (D.M r) / ms (D.M r)))) := by
  intro i
  have h := mulR (A.v25 i) (A.v11 i)
  exact (val_main_v28_apply (F := Ideal) x0 x1 x3 i).trans (h.trans (coe_congr (rfl)))
omit A in
theorem v29 : IsM (a := 2048) (b := 1) (val_main_v29 (F := Ideal)) (fun r q => (1024 : ℝ)) := fun i => (val_main_v29_apply (F := Ideal) i).trans w1024
theorem v30 : IsM (a := 2048) (b := 1) (val_main_v30 (F := Ideal) x0 x1 x3) (fun r q => (∑ k : Fin 1024, D.M r k * D.a r k) * (-(1 / 2) * (rr (D.M r) / ms (D.M r))) / 1024) := by
  intro i
  have h := divR (A.v28 i) (v29 i) (by norm_num)
  exact (val_main_v30_apply (F := Ideal) x0 x1 x3 i).trans (h.trans (coe_congr (rfl)))
theorem v31 : IsV (a := 2048) (val_main_v31 (F := Ideal) x0 x1 x3) (fun r => (∑ k : Fin 1024, D.M r k * D.a r k) * (-(1 / 2) * (rr (D.M r) / ms (D.M r))) / 1024) := by
  intro i
  have h := sumR wZero (fun k => A.v30 (idx_main_v31 i k))
  exact (val_main_v31_apply x0 x1 x3 i).trans (h.trans (coe_congr (Fin.sum_univ_one _)))
theorem v32 : IsM (a := 2048) (b := 1024) (val_main_v32 (F := Ideal) x0 x1 x3) (fun r q => (∑ k : Fin 1024, D.M r k * D.a r k) * (-(1 / 2) * (rr (D.M r) / ms (D.M r))) / 1024) := by
  intro i
  have h := A.v31 (idx_main_v32 i)
  exact (val_main_v32_apply (F := Ideal) x0 x1 x3 i).trans (h.trans (coe_congr (rfl)))
theorem v33 : IsM (a := 2048) (b := 1024) (val_main_v33 (F := Ideal) x0 x1 x3) (fun r q => D.M r q * ((∑ k : Fin 1024, D.M r k * D.a r k) * (-(1 / 2) * (rr (D.M r) / ms (D.M r))) / 1024)) := by
  intro i
  have h := mulR (A.h1 i) (A.v32 i)
  exact (val_main_v33_apply (F := Ideal) x0 x1 x3 i).trans (h.trans (coe_congr (rfl)))
theorem v34 : IsM (a := 2048) (b := 1024) (val_main_v34 (F := Ideal) x0 x1 x3) (fun r q => D.a r q * rr (D.M r) + D.M r q * ((∑ k : Fin 1024, D.M r k * D.a r k) * (-(1 / 2) * (rr (D.M r) / ms (D.M r))) / 1024)) := by
  intro i
  have h := addR (A.v27 i) (A.v33 i)
  exact (val_main_v34_apply (F := Ideal) x0 x1 x3 i).trans (h.trans (coe_congr (rfl)))
theorem v35 : IsM (a := 2048) (b := 1024) (val_main_v35 (F := Ideal) x0 x1 x3) (fun r q => (∑ k : Fin 1024, D.M r k * D.a r k) * (-(1 / 2) * (rr (D.M r) / ms (D.M r))) / 1024 * D.M r q) := by
  intro i
  have h := mulR (A.v32 i) (A.h1 i)
  exact (val_main_v35_apply (F := Ideal) x0 x1 x3 i).trans (h.trans (coe_congr (rfl)))
theorem v36 : IsM (a := 2048) (b := 1024) (val_main_v36 (F := Ideal) x0 x1 x3) (fun r q => D.dmo r q) := by
  intro i
  have h := addR (A.v34 i) (A.v35 i)
  exact (val_main_v36_apply (F := Ideal) x0 x1 x3 i).trans (h.trans (coe_congr (norm_row (D.M _) (D.a _) _ (D.xn _))))
theorem v37 : IsM (a := 1) (b := 1024) (val_main_v37 (F := Ideal) x0 x1) (fun r q => D.dg 2048 q) := by
  intro i
  have h := A.v22 (idx_main_v37 i)
  exact (val_main_v37_apply (F := Ideal) x0 x1 i).trans (h.trans (coe_congr (rfl)))
theorem v46 : IsM (a := 2048) (b := 1024) (val_main_v46 (F := Ideal) x0 x1 x3) (fun r q => D.dmo r q) := by
  intro i
  have h := A.v36 i
  exact (val_main_v46_apply (F := Ideal) x0 x1 x3 i).trans (h.trans (coe_congr (rfl)))

theorem v41 : IsE (a := 2048) (b := 1024) (val_main_v41 (F := Ideal) x0 x1 x2 x3) D.dmerged := fun i => by
  rw [val_main_v41_apply]
  exact Finset.sum_congr rfl fun q _ => congrArg₂ (fun a b : EReal => a * b) (A.v36 _) (A.h2 (ridx_main_v41 i q))
theorem v42 : IsE (a := 2048) (b := 512) (val_main_v42 (F := Ideal) x0 x1 x2 x3) D.dmerged := fun i =>
  (val_main_v42_apply (F := Ideal) x0 x1 x2 x3 i).trans (A.v41 (idx_main_v42 i))
theorem v47 : IsE (a := 2048) (b := 512) (val_main_v47 (F := Ideal) x0 x1 x2 x3) (fun r j => D.dmerged r (512 + j)) := fun i =>
  (val_main_v47_apply (F := Ideal) x0 x1 x2 x3 i).trans (A.v41 (idx_main_v47 i))
theorem v45 : IsE (a := 256) (b := 4096) (val_main_v45 (F := Ideal) x0 x1 x2 x3) (fun r j => D.dmerged (j / 512 * 256 + r) (j % 512)) := fun i => by
  rw [val_main_v45_apply (F := Ideal), val_main_v44_apply (F := Ideal), val_main_v43_apply (F := Ideal)]
  refine (A.v42 _).trans (congrArg₂ D.dmerged ?_ ?_)
  · have h0 : (i 0).val < 256 := (i 0).isLt
    have h1 : (i 1).val < 4096 := (i 1).isLt
    show ((((i 0).val * 4096 + (i 1).val) / 512 % 8 * 256 + ((i 0).val * 4096 + (i 1).val) / 4096) * 512 + ((i 0).val * 4096 + (i 1).val) % 512) / 512 = (i 1).val / 512 * 256 + (i 0).val
    omega
  · have h0 : (i 0).val < 256 := (i 0).isLt
    have h1 : (i 1).val < 4096 := (i 1).isLt
    show ((((i 0).val * 4096 + (i 1).val) / 512 % 8 * 256 + ((i 0).val * 4096 + (i 1).val) / 4096) * 512 + ((i 0).val * 4096 + (i 1).val) % 512) % 512 = (i 1).val % 512
    omega
end Args

end Reference

open Cert.Pre_finite8 in
/-- What the precondition says: every entry of the derivative, of the product and of the scale is a real. -/
theorem finite_entries [Cert.Pre_finite8.Facts] (a0 a1 : FVec Ideal S2048x1024 .f32) (a2 : FVec Ideal S1024x1024 .bf16) (a3 : FVec Ideal S1x1024 .f32)
    (h : fn (F := Ideal) a0 a1 a2 a3 = fun _ => 1#1) :
    (∀ i, a0 i = (((show EReal from a0 i).toReal : ℝ) : EReal)) ∧ (∀ i, a1 i = (((show EReal from a1 i).toReal : ℝ) : EReal))
      ∧ (∀ i, a3 i = (((show EReal from a3 i).toReal : ℝ) : EReal)) := by
  have e := congrFun h (fun i => i.elim0)
  unfold fn at e
  dsimp only at e
  obtain ⟨e, e2⟩ := IntOp.andi_eq_one.1 e
  obtain ⟨e0, e1⟩ := IntOp.andi_eq_one.1 e
  exact ⟨real_of_all _ _ _ _ _ e0, real_of_all _ _ _ _ _ e1, real_of_all _ _ _ _ _ e2⟩

/-- A matrix's entries, by row and column. -/
def entriesE (a b : ℕ) (v : (⟨2, ![a, b]⟩ : Shape).Idx → EReal) (r q : ℕ) : EReal :=
  if h : r < a ∧ q < b then v (ix2 ⟨r, h.1⟩ ⟨q, h.2⟩) else 0

theorem isE_entries {a b : ℕ} (v : (⟨2, ![a, b]⟩ : Shape).Idx → EReal) : IsE v (entriesE a b v) := fun i => by
  unfold entriesE
  rw [dif_pos ⟨(i 0).isLt, (i 1).isLt⟩]
  exact congrArg v (eq_ix2 i)

section Kernel

open Cert.Kernel8Ideal Cert.Kernel8Ideal.Gen

variable (m : (ℓ : Loc nD τ sig) → Buf (Elt Ideal) ℓ) (c : Dev nD)

/-- The entries of the arguments on a device. -/
def dat : Dat where
  Y := entries 2048 1024 (m ((c : Thread nD τ).loc main_arg0))
  M := entries 2048 1024 (m ((c : Thread nD τ).loc main_arg1))
  W := entriesE 1024 1024 (m ((c : Thread nD τ).loc main_arg2))
  G q := entries 1 1024 (m ((c : Thread nD τ).loc main_arg3)) 0 q

theorem args (h : Pre_Kernel8Ideal_finite8 m) : Args (dat m c) (m ((c : Thread nD τ).loc main_arg0)) (m ((c : Thread nD τ).loc main_arg1))
    (m ((c : Thread nD τ).loc main_arg2)) (m ((c : Thread nD τ).loc main_arg3)) := by
  obtain ⟨h0, h1, h3⟩ := finite_entries _ _ _ _ (h c)
  exact ⟨isR_entries h0, isR_entries h1, isE_entries _, isM_row h3⟩

theorem holds (h : Pre_Kernel8Ideal_finite8 m) : Holds m c (dat m c) := by
  have A := args m c h
  refine ⟨?_, ?_, ?_, ?_⟩
  · rw [V_main_arg0]; exact A.h0
  · rw [V_main_arg1]; exact A.h1
  · rw [V_main_arg2]; exact A.h2
  · rw [V_main_arg3]; exact A.h3

end Kernel

/-- The reference runs and leaves its arguments unchanged. -/
theorem reference_frame : Cert.quiescent_Reference8Ideal := fun m ρ _ =>
  (θ_run _ _ _).mono (fun r h => ⟨fun c => (h c).2.2.2.2, sem_eq_zero_of_no_sems rfl r.2⟩) (Cert.Reference8Ideal.Value.run m ρ)

open Cert.Reference8Ideal.Read in
/-- The kernel and the reference leave the same results. -/
theorem same_results : Cert.algebraic_Kernel8Ideal_Reference8Ideal_pre_finite8 := by
  intro m g m' g' hpre hargs
  have hK := fun c => holds m c hpre
  have hR : ∀ c, Args (dat m c) (m' ((c.tc : Thread Cert.Reference8Ideal.nD Cert.Reference8Ideal.τ).loc Cert.Reference8Ideal.main_arg0))
      (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))
      (m' ((c.tc : Thread Cert.Reference8Ideal.nD Cert.Reference8Ideal.τ).loc Cert.Reference8Ideal.main_arg3)) := fun c => by
    obtain ⟨e0, e1, e2, e3⟩ := hargs c
    have A := args m c hpre
    refine ⟨?_, ?_, ?_, ?_⟩
    · rw [e0]; exact A.h0
    · rw [e1]; exact A.h1
    · rw [e2]; exact A.h2
    · rw [e3]; exact A.h3
  refine ⟨fun c => arrOf 2048 1024 (fun r q => ((dat m c).dmo r q : EReal)), fun c => arrOf 256 4096 (fun r j => (dat m c).dmerged (j / 512 * 256 + r) (j % 512)),
    fun c => arrOf 2048 512 (fun r j => (dat m c).dmerged r (512 + j)), fun c => arrOf 1 1024 (fun _ q => ((dat m c).dg 2048 q : EReal)), ?_, ?_⟩
  · refine (θ_run _ _ _).mono (fun r h c => ?_) (Cert.Kernel8Ideal.Value.run_blocks m g)
    obtain ⟨r0, r1, r2, r3, k⟩ := h c
    exact ⟨r0.trans (hK c).arr_4, r1.trans (hK c).arr_5, r2.trans (hK c).arr_6, r3.trans (hK c).arr_7, k⟩
  · refine (θ_run _ _ _).mono (fun r h c => ?_) (Cert.Reference8Ideal.Value.run m' g')
    obtain ⟨r0, r1, r2, r3, k⟩ := h c
    exact ⟨r0.trans ((val_main_v46_eq _ _).trans (funext (hR c).v46)), r1.trans ((val_main_v45_eq _ _).trans (funext (hR c).v45)),
      r2.trans ((val_main_v47_eq _ _).trans (funext (hR c).v47)), r3.trans ((val_main_v37_eq _ _).trans (funext (hR c).v37)), k⟩

end Cert.OutGrad

end
-- ==== Proof.OutProj.lean ====
/- The output projection with the norm behind it, the residual, and the norm before the feed-forward layer: the kernel and the
   reference leave the same results, whatever the arguments hold. -/
module

public import proofs.«01_k».proof.Defs
public import proofs.«01_k».proof.Proof.OutGradRef
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit.Geometry
public import Idealize.ShloMosaic.Lib.Quiescent

@[expose] public section

set_option maxRecDepth 16384

noncomputable section

namespace Cert.OutProj

open Idealize.ShloMosaic Idealize.ShloMosaic.TcCoe Idealize.SL.Sem
open Cert.OutGrad (IsE arrOf entriesE isE_entries)

/-- The two halves side by side, the residual, the product's weight, and the scales of the two norms. -/
structure Dat where
  Mg : ℕ → ℕ → EReal
  X : ℕ → ℕ → EReal
  W : ℕ → ℕ → EReal
  G1 : ℕ → EReal
  G2 : ℕ → EReal

/-- The reciprocal root of a row's mean square. -/
def rt (v : ℕ → EReal) : EReal :=
  Ideal.rsqrt (Ideal.div (∑ k : Fin 1024, v k * v k) (Ideal.ofBits .f32 0x44800000#32) + Ideal.ofBits .f32 0x358637BD#32)

namespace Dat
variable (D : Dat)

/-- The rows from `n` on. -/
def rows (n : ℕ) : Dat := { D with Mg := fun r => D.Mg (n + r), X := fun r => D.X (n + r) }
/-- The product. -/
def mo (r q : ℕ) : EReal := ∑ k : Fin 1024, D.Mg r k * D.W k q
/-- The residual with the product, normalised and scaled, added. -/
def h1 (r q : ℕ) : EReal := D.X r q + D.mo r q * rt (D.mo r) * D.G1 q
/-- That, normalised and scaled again. -/
def hn (r q : ℕ) : EReal := D.h1 r q * rt (D.h1 r) * D.G2 q
end Dat

section Kernel

open Cert.Kernel9Ideal Cert.Kernel9Ideal.Gen Idealize.ShloMosaic.Pipeline

/-! ### One block of 256 rows -/

/-- A block times its rows' reciprocal roots, times a row of scales. -/
def normed (v : FVec Ideal S256x1024 .f32) (g : Vec Ideal S1x1024 .f32) : FVec Ideal S256x1024 .f32 :=
  mulf (mulf v (broadcastTo S256x1024
    (rsqrt (addf (divf (shapeCast S256x1 (multiReduction .add [1] S256 (mulf v v) 0x00000000#32 reduces_S256x1024_S256 (.inl rfl) rfl) shapeCasts_S256_S256x1 : FVec Ideal S256x1 .f32)
      (broadcast S256x1 (Scalar.ofBits (F := Ideal) .f32 0x44800000#32))) (broadcast S256x1 (Scalar.ofBits (F := Ideal) .f32 0x358637BD#32))))
    broadcasts_S256x1_S256x1024)) (broadcastTo S256x1024 g broadcasts_S1x1024_S256x1024)

theorem isE_rowSum {v : FVec Ideal S256x1024 .f32} {U : ℕ → ℕ → EReal} (h : IsE (a := 256) (b := 1024) v U) :
    IsE (a := 256) (b := 1) (shapeCast S256x1 (multiReduction .add [1] S256 (mulf v v) 0x00000000#32 reduces_S256x1024_S256 (.inl rfl) rfl) shapeCasts_S256_S256x1)
      (fun r _ => ∑ k : Fin 1024, U r k * U r k) := fun i => by
  simp only [pointwise]
  exact Finset.sum_congr rfl fun k _ => congrArg₂ (fun a b : EReal => a * b) (h _) (h _)

theorem isE_root {s : FVec Ideal S256x1 .f32} {S : ℕ → ℕ → EReal} (h : IsE (a := 256) (b := 1) s S) :
    IsE (a := 256) (b := 1) (rsqrt (addf (divf s (broadcast S256x1 (Scalar.ofBits (F := Ideal) .f32 0x44800000#32))) (broadcast S256x1 (Scalar.ofBits (F := Ideal) .f32 0x358637BD#32))))
      (fun r q => Ideal.rsqrt (Ideal.div (S r q) (Ideal.ofBits .f32 0x44800000#32) + Ideal.ofBits .f32 0x358637BD#32)) := fun i =>
  congrArg (fun a : EReal => Ideal.rsqrt (Ideal.div a (Ideal.ofBits .f32 0x44800000#32) + Ideal.ofBits .f32 0x358637BD#32)) (h i)

theorem isE_col {v : FVec Ideal S256x1 .f32} {U : ℕ → ℕ → EReal} (h : IsE (a := 256) (b := 1) v U) :
    IsE (a := 256) (b := 1024) (broadcastTo S256x1024 v broadcasts_S256x1_S256x1024) (fun r _ => U r 0) := fun i => by
  simp only [pointwise]
  exact h _

theorem isE_row {v : FVec Ideal S1x1024 .f32} {U : ℕ → ℕ → EReal} (h : IsE (a := 1) (b := 1024) v U) :
    IsE (a := 256) (b := 1024) (broadcastTo S256x1024 v broadcasts_S1x1024_S256x1024) (fun _ q => U 0 q) := fun i => by
  simp only [pointwise]
  exact h _

theorem isE_mul {v w : FVec Ideal S256x1024 .f32} {U W : ℕ → ℕ → EReal} (h : IsE (a := 256) (b := 1024) v U) (k : IsE (a := 256) (b := 1024) w W) :
    IsE (a := 256) (b := 1024) (mulf v w) (fun r q => U r q * W r q) := fun i => congrArg₂ (fun a b : EReal => a * b) (h i) (k i)

theorem isE_normed {v : FVec Ideal S256x1024 .f32} {U : ℕ → ℕ → EReal} (h : IsE (a := 256) (b := 1024) v U) {g : Vec Ideal S1x1024 .f32} {G : ℕ → EReal}
    (k : IsE (a := 1) (b := 1024) g (fun _ q => G q)) : IsE (a := 256) (b := 1024) (normed v g) (fun r q => U r q * rt (U r) * G q) :=
  isE_mul (isE_mul h (isE_col (isE_root (isE_rowSum h)))) (isE_row k)

/-- One block's inputs. -/
structure Ins (D : Dat) (x0 x1 : Vec Ideal S256x512 .bf16) (x2 : Vec Ideal S256x1024 .f32) (x3 : Vec Ideal S1024x1024 .bf16) (x4 x5 : Vec Ideal S1x1024 .f32) : Prop where
  ssm : IsE (a := 256) (b := 512) x0 D.Mg
  attn : IsE (a := 256) (b := 512) x1 (fun r k => D.Mg r (512 + k))
  x : IsE (a := 256) (b := 1024) x2 D.X
  w : IsE (a := 1024) (b := 1024) x3 D.W
  g1 : IsE (a := 1) (b := 1024) x4 (fun _ q => D.G1 q)
  g2 : IsE (a := 1) (b := 1024) x5 (fun _ q => D.G2 q)

namespace Ins
variable {D : Dat} {x0 x1 : Vec Ideal S256x512 .bf16} {x2 : Vec Ideal S256x1024 .f32} {x3 : Vec Ideal S1024x1024 .bf16} {x4 x5 : Vec Ideal S1x1024 .f32} (I : Ins D x0 x1 x2 x3 x4 x5)
include I

theorem merged : IsE (a := 256) (b := 1024) (k0_pay2 x0 x1) D.Mg := fun i => by
  have b1 : (i 1).val < 1024 := (i 1).isLt
  unfold k0_pay2
  by_cases h : (i 1).val < 512
  · refine (concatenate_pair_apply_left (s₁ := S256x512) (s₂ := S256x512) (t := S256x1024) 1 x0 x1 _ i rfl (ix2 (i 0) ⟨(i 1).val, h⟩) ?_).trans (I.ssm _)
    intro b
    match b with
    | ⟨0, _⟩ => rfl
    | ⟨1, _⟩ => rfl
  · refine (concatenate_pair_apply_right (s₁ := S256x512) (s₂ := S256x512) (t := S256x1024) 1 x0 x1 _ i rfl rfl (ix2 (i 0) ⟨(i 1).val - 512, by omega⟩) ?_ ?_).trans
      ((I.attn _).trans (congrArg (D.Mg (i 0).val) ?_))
    · intro b hb
      match b with
      | ⟨0, _⟩ => rfl
      | ⟨1, _⟩ => exact absurd rfl hb
    · show (i 1).val - 512 + 512 = (i 1).val
      omega
    · show 512 + ((i 1).val - 512) = (i 1).val
      omega

theorem mo : IsE (a := 256) (b := 1024) (k0_pay3 x0 x1 x3) D.mo := fun i => by
  have h := I.merged
  unfold k0_pay3
  generalize k0_pay2 x0 x1 = v at h
  simp only [pointwise]
  rw [zero_add]
  exact Finset.sum_congr rfl fun q _ => congrArg₂ (fun a b : EReal => a * b) (h _) (I.w _)

theorem h1 : IsE (a := 256) (b := 1024) (k0_pay4 x0 x1 x3 x4 x2) D.h1 := fun i =>
  congrArg₂ (fun a b : EReal => a + b) (I.x i) (isE_normed I.mo I.g1 i)

theorem hn : IsE (a := 256) (b := 1024) (k0_pay1 (k0_pay4 x0 x1 x3 x4 x2) x5 (k0_pay5 x0 x1 x3 x4 x2)) D.hn := fun i =>
  isE_normed I.h1 I.g2 i
end Ins

/-! ### The result arrays -/

theorem win_0 : ∀ t : Fin cfg0.N, win0_0.index t = ![0, t.val] := by decide +kernel
theorem win_1 : ∀ t : Fin cfg0.N, win0_1.index t = ![t.val, 0] := by decide +kernel
theorem win_2 : ∀ t : Fin cfg0.N, win0_2.index t = ![t.val, 0] := by decide +kernel
theorem win_3 : ∀ t : Fin cfg0.N, win0_3.index t = ![0, 0] := by decide +kernel
theorem win_4 : ∀ t : Fin cfg0.N, win0_4.index t = ![0, 0] := by decide +kernel
theorem win_5 : ∀ t : Fin cfg0.N, win0_5.index t = ![0, 0] := by decide +kernel
theorem win_6 : ∀ t : Fin cfg0.N, win0_6.index t = ![t.val, 0] := by decide +kernel
theorem win_7 : ∀ t : Fin cfg0.N, win0_7.index t = ![t.val, 0] := by decide +kernel
theorem win_8 : ∀ t : Fin cfg0.N, win0_8.index t = ![t.val, 0] := by decide +kernel
theorem win_9 : ∀ t : Fin cfg0.N, win0_9.index t = ![t.val, 0] := by decide +kernel
theorem zeros : (![0, 0] : Fin 2 → ℕ) = fun _ => 0 := by decide

variable (m : (ℓ : Loc nD τ sig) → Buf (Elt Ideal) ℓ) (c : Dev nD) {D : Dat}

/-- What the kernel's argument arrays hold: chunk `t` of the first one's columns is rows `256 t` to `256 t + 255`. -/
structure Holds (D : Dat) : Prop where
  ssm : IsE (a := 256) (b := 4096) (V m c main_arg0) (fun r j => D.Mg (j / 512 * 256 + r) (j % 512))
  attn : IsE (a := 2048) (b := 512) (V m c main_arg1) (fun r k => D.Mg r (512 + k))
  x : IsE (a := 2048) (b := 1024) (V m c main_arg2) D.X
  w : IsE (a := 1024) (b := 1024) (V m c main_arg3) D.W
  g1 : IsE (a := 1) (b := 1024) (V m c main_arg4) (fun _ q => D.G1 q)
  g2 : IsE (a := 1) (b := 1024) (V m c main_arg5) (fun _ q => D.G2 q)

variable {m c}

theorem Holds.ins (h : Holds m c D) (t : Fin cfg0.N) :
    Ins (D.rows (t.val * 256)) (iblk m c 0 t) (iblk m c 1 t) (iblk m c 2 t) (iblk m c 3 t) (iblk m c 4 t) (iblk m c 5 t) where
  ssm := by
    intro i
    refine (h.ssm (((cfg0.win 0).blk t).view.emb i)).trans ?_
    have b : (i 1).val < 512 := (i 1).isLt
    blk_simp [win_0]
    show _ = D.Mg (t.val * 256 + (i 0).val) (i 1).val
    refine congrArg₂ D.Mg ?_ ?_ <;> omega
  attn := by
    intro i
    refine (h.attn (((cfg0.win 1).blk t).view.emb i)).trans ?_
    blk_simp [win_1]
    rfl
  x := by
    intro i
    refine (h.x (((cfg0.win 2).blk t).view.emb i)).trans ?_
    blk_simp [win_2]
    rfl
  w := by
    intro i
    refine (h.w (((cfg0.win 3).blk t).view.emb i)).trans ?_
    blk_simp [win_3]
    rfl
  g1 := by
    intro i
    refine (h.g1 (((cfg0.win 4).blk t).view.emb i)).trans ?_
    blk_simp [win_4]
    rfl
  g2 := by
    intro i
    refine (h.g2 (((cfg0.win 5).blk t).view.emb i)).trans ?_
    blk_simp [win_5]
    rfl

theorem Holds.arr_6 (h : Holds m c D) : (dats m 0 c).arrAt 6 cfg0.N = arrOf 2048 1024 D.Mg := by
  refine (dats m 0 c).arrAt_eq_of_covers 6 _ (by decide +kernel) fun t hf y => ?_
  have e := (h.ins t).merged
  unfold arrOf
  blk_simp [win_6]
  rw [after0_6]
  unfold out0_6
  rw [View.canon_unit_zero zeros, View.ld_unit_zero zeros, View.ld_unit_zero zeros]
  exact e _

theorem Holds.arr_7 (h : Holds m c D) : (dats m 0 c).arrAt 7 cfg0.N = arrOf 2048 1024 D.mo := by
  refine (dats m 0 c).arrAt_eq_of_covers 7 _ (by decide +kernel) fun t hf y => ?_
  have e := (h.ins t).mo
  unfold arrOf
  blk_simp [win_7]
  rw [after0_7]
  unfold out0_7
  rw [View.canon_unit_zero zeros, View.ld_unit_zero zeros, View.ld_unit_zero zeros, View.ld_unit_zero zeros]
  exact e _

theorem Holds.arr_8 (h : Holds m c D) : (dats m 0 c).arrAt 8 cfg0.N = arrOf 2048 1024 D.h1 := by
  refine (dats m 0 c).arrAt_eq_of_covers 8 _ (by decide +kernel) fun t hf y => ?_
  have e := (h.ins t).h1
  unfold arrOf
  blk_simp [win_8]
  rw [after0_8]
  unfold out0_8
  rw [View.canon_unit_zero zeros, View.ld_unit_zero zeros, View.ld_unit_zero zeros, View.ld_unit_zero zeros, View.ld_unit_zero zeros, View.ld_unit_zero zeros]
  exact e _

theorem Holds.arr_9 (h : Holds m c D) : (dats m 0 c).arrAt 9 cfg0.N = arrOf 2048 1024 D.hn := by
  refine (dats m 0 c).arrAt_eq_of_covers 9 _ (by decide +kernel) fun t hf y => ?_
  have e := (h.ins t).hn
  unfold arrOf
  blk_simp [win_9]
  rw [after0_9]
  unfold out0_9
  rw [View.canon_unit_zero zeros, View.ld_unit_zero zeros, View.ld_unit_zero zeros, View.ld_unit_zero zeros, View.ld_unit_zero zeros, View.ld_unit_zero zeros, View.ld_unit_zero zeros]
  exact e _

end Kernel

section Reference

open Cert.Reference9Ideal Cert.Reference9Ideal.Gen Cert.Reference9Ideal.Read

/-- The reference's arguments hold these data. -/
structure Args (D : Dat) (x0 : S256x4096.Idx → EReal) (x1 : S2048x512.Idx → EReal) (x2 : S2048x1024.Idx → EReal) (x3 : S1024x1024.Idx → EReal)
    (x4 x5 : S1x1024.Idx → EReal) : Prop where
  a0 : IsE (a := 256) (b := 4096) x0 (fun r j => D.Mg (j / 512 * 256 + r) (j % 512))
  a1 : IsE (a := 2048) (b := 512) x1 (fun r k => D.Mg r (512 + k))
  a2 : IsE (a := 2048) (b := 1024) x2 D.X
  a3 : IsE (a := 1024) (b := 1024) x3 D.W
  a4 : IsE (a := 1) (b := 1024) x4 (fun _ q => D.G1 q)
  a5 : IsE (a := 1) (b := 1024) x5 (fun _ q => D.G2 q)

/-- A sum from zero. -/
theorem zero_sum {n : ℕ} {z : EReal} (hz : z = ((0 : ℝ) : EReal)) {f g : Fin n → EReal} (e : ∀ k, f k = g k) : z + ∑ k, f k = ∑ k, g k := by
  rw [hz, EReal.coe_zero, zero_add]
  exact Finset.sum_congr rfl fun k _ => e k

namespace Args
variable {D : Dat} {x0 : S256x4096.Idx → EReal} {x1 : S2048x512.Idx → EReal} {x2 : S2048x1024.Idx → EReal} {x3 : S1024x1024.Idx → EReal} {x4 x5 : S1x1024.Idx → EReal}
  (A : Args D x0 x1 x2 x3 x4 x5)
include A

theorem v2 : IsE (a := 2048) (b := 512) (val_main_v2 (F := Ideal) x0) D.Mg := fun i => by
  rw [val_main_v2_apply (F := Ideal), val_main_v1_apply (F := Ideal), val_main_v0_apply (F := Ideal)]
  have h0 : (i 0).val < 2048 := (i 0).isLt
  have h1 : (i 1).val < 512 := (i 1).isLt
  have e0 : ((i 0).val * 512 + (i 1).val) / 512 = (i 0).val := by omega
  have e1 : ((i 0).val * 512 + (i 1).val) % 512 = (i 1).val := by omega
  have e2 : ((i 0).val * 512 + (i 1).val) / 131072 = (i 0).val / 256 := by omega
  refine (A.a0 _).trans (congrArg₂ D.Mg ?_ ?_)
  · show (((((i 0).val * 512 + (i 1).val) / 512 % 256 * 8 + ((i 0).val * 512 + (i 1).val) / 131072) * 512 + ((i 0).val * 512 + (i 1).val) % 512) % 4096) / 512 * 256
        + ((((i 0).val * 512 + (i 1).val) / 512 % 256 * 8 + ((i 0).val * 512 + (i 1).val) / 131072) * 512 + ((i 0).val * 512 + (i 1).val) % 512) / 4096 = (i 0).val
    rw [e0, e1, e2]
    omega
  · show (((((i 0).val * 512 + (i 1).val) / 512 % 256 * 8 + ((i 0).val * 512 + (i 1).val) / 131072) * 512 + ((i 0).val * 512 + (i 1).val) % 512) % 4096) % 512 = (i 1).val
    rw [e0, e1, e2]
    omega

theorem v3 : IsE (a := 2048) (b := 1024) (val_main_v3 (F := Ideal) x0 x1) D.Mg := fun i => by
  have b1 : (i 1).val < 1024 := (i 1).isLt
  have k := A.v2
  unfold val_main_v3
  generalize val_main_v2 (F := Ideal) x0 = y at k
  by_cases h : (i 1).val < 512
  · refine (concatenate_pair_apply_left (s₁ := S2048x512) (s₂ := S2048x512) (t := S2048x1024) 1 y x1 _ i rfl (ix2 (i 0) ⟨(i 1).val, h⟩) ?_).trans (k _)
    intro b
    match b with
    | ⟨0, _⟩ => rfl
    | ⟨1, _⟩ => rfl
  · refine (concatenate_pair_apply_right (s₁ := S2048x512) (s₂ := S2048x512) (t := S2048x1024) 1 y x1 _ i rfl rfl (ix2 (i 0) ⟨(i 1).val - 512, by omega⟩) ?_ ?_).trans
      ((A.a1 _).trans (congrArg (D.Mg (i 0).val) ?_))
    · intro b hb
      match b with
      | ⟨0, _⟩ => rfl
      | ⟨1, _⟩ => exact absurd rfl hb
    · show (i 1).val - 512 + 512 = (i 1).val
      omega
    · show 512 + ((i 1).val - 512) = (i 1).val
      omega

theorem v22 : IsE (a := 2048) (b := 1024) (val_main_v22 (F := Ideal) x0 x1) D.Mg := A.v3
theorem v6 : IsE (a := 2048) (b := 1024) (val_main_v6 (F := Ideal) x0 x1 x3) D.mo := fun i =>
  (val_main_v6_apply x0 x1 x3 i).trans (Finset.sum_congr rfl fun k _ => congrArg₂ (fun a b : EReal => a * b) (A.v3 (lidx_main_v6 i k)) (A.a3 (ridx_main_v6 i k)))
theorem v9 (i : S2048.Idx) : val_main_v9 (F := Ideal) x0 x1 x3 i = ∑ k : Fin 1024, D.mo (i 0).val k * D.mo (i 0).val k :=
  (val_main_v9_apply x0 x1 x3 i).trans (zero_sum Cert.Ffn.wZero fun k =>
    (val_main_v8_apply (F := Ideal) x0 x1 x3 _).trans (congrArg₂ (fun a b : EReal => a * b) (A.v6 (idx_main_v9 i k)) (A.v6 (idx_main_v9 i k))))
theorem v15 (i : S2048x1.Idx) : val_main_v15 (F := Ideal) x0 x1 x3 i = rt (D.mo (i 0).val) :=
  congrArg (fun a : EReal => Ideal.rsqrt (Ideal.div a (Ideal.ofBits .f32 0x44800000#32) + Ideal.ofBits .f32 0x358637BD#32))
    ((val_main_v10_apply (F := Ideal) x0 x1 x3 i).trans (A.v9 (idx_main_v10 i)))
theorem v16 (i : S2048x1024.Idx) : val_main_v16 (F := Ideal) x0 x1 x3 i = rt (D.mo (i 0).val) :=
  (val_main_v16_apply (F := Ideal) x0 x1 x3 i).trans (A.v15 (idx_main_v16 i))
theorem v19 (i : S2048x1024.Idx) : val_main_v19 (F := Ideal) x4 i = D.G1 (i 1).val := by
  rw [val_main_v19_apply (F := Ideal), val_main_v18_apply (F := Ideal), val_main_v7_apply (F := Ideal)]
  exact (A.a4 _).trans (congrArg D.G1 (Nat.mod_eq_of_lt (i 1).isLt))
theorem v21 : IsE (a := 2048) (b := 1024) (val_main_v21 (F := Ideal) x0 x1 x2 x3 x4) D.h1 := fun i =>
  congrArg₂ (fun a b : EReal => a + b) (A.a2 i)
    (congrArg₂ (fun a b : EReal => a * b) (congrArg₂ (fun a b : EReal => a * b) (A.v6 i) (A.v16 i)) (A.v19 i))
theorem v25 (i : S2048.Idx) : val_main_v25 (F := Ideal) x0 x1 x2 x3 x4 i = ∑ k : Fin 1024, D.h1 (i 0).val k * D.h1 (i 0).val k :=
  (val_main_v25_apply x0 x1 x2 x3 x4 i).trans (zero_sum Cert.Ffn.wZero fun k =>
    (val_main_v24_apply (F := Ideal) x0 x1 x2 x3 x4 _).trans (congrArg₂ (fun a b : EReal => a * b) (A.v21 (idx_main_v25 i k)) (A.v21 (idx_main_v25 i k))))
theorem v31 (i : S2048x1.Idx) : val_main_v31 (F := Ideal) x0 x1 x2 x3 x4 i = rt (D.h1 (i 0).val) :=
  congrArg (fun a : EReal => Ideal.rsqrt (Ideal.div a (Ideal.ofBits .f32 0x44800000#32) + Ideal.ofBits .f32 0x358637BD#32))
    ((val_main_v26_apply (F := Ideal) x0 x1 x2 x3 x4 i).trans (A.v25 (idx_main_v26 i)))
theorem v32 (i : S2048x1024.Idx) : val_main_v32 (F := Ideal) x0 x1 x2 x3 x4 i = rt (D.h1 (i 0).val) :=
  (val_main_v32_apply (F := Ideal) x0 x1 x2 x3 x4 i).trans (A.v31 (idx_main_v32 i))
theorem v35 (i : S2048x1024.Idx) : val_main_v35 (F := Ideal) x5 i = D.G2 (i 1).val := by
  rw [val_main_v35_apply (F := Ideal), val_main_v34_apply (F := Ideal), val_main_v23_apply (F := Ideal)]
  exact (A.a5 _).trans (congrArg D.G2 (Nat.mod_eq_of_lt (i 1).isLt))
theorem v37 : IsE (a := 2048) (b := 1024) (val_main_v37 (F := Ideal) x0 x1 x2 x3 x4 x5) D.hn := fun i =>
  congrArg₂ (fun a b : EReal => a * b) (congrArg₂ (fun a b : EReal => a * b) (A.v21 i) (A.v32 i)) (A.v35 i)
end Args

end Reference

section Data

open Cert.Kernel9Ideal Cert.Kernel9Ideal.Gen

variable (m : (ℓ : Loc nD τ sig) → Buf (Elt Ideal) ℓ) (c : Dev nD)

/-- The entries of the arguments on a device. -/
def dat : Dat where
  Mg r k := if k < 512 then entriesE 256 4096 (m ((c : Thread nD τ).loc main_arg0)) (r % 256) (r / 256 * 512 + k)
    else entriesE 2048 512 (m ((c : Thread nD τ).loc main_arg1)) r (k - 512)
  X := entriesE 2048 1024 (m ((c : Thread nD τ).loc main_arg2))
  W := entriesE 1024 1024 (m ((c : Thread nD τ).loc main_arg3))
  G1 := entriesE 1 1024 (m ((c : Thread nD τ).loc main_arg4)) 0
  G2 := entriesE 1 1024 (m ((c : Thread nD τ).loc main_arg5)) 0

/-- A matrix of one row. -/
theorem isE_one {v : (⟨2, ![1, 1024]⟩ : Shape).Idx → EReal} : IsE v (fun _ q => entriesE 1 1024 v 0 q) := fun i =>
  (isE_entries v i).trans (congrArg (fun r => entriesE 1 1024 v r (i 1).val) (Nat.lt_one_iff.mp (i 0).isLt))

theorem args : Args (dat m c) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine ⟨fun i => ?_, fun i => ?_, isE_entries _, isE_entries _, isE_one, isE_one⟩
  · have h0 : (i 0).val < 256 := (i 0).isLt
    have h1 : (i 1).val % 512 < 512 := Nat.mod_lt _ (by decide)
    refine (isE_entries (a := 256) (b := 4096) _ i).trans ?_
    unfold dat
    dsimp only
    rw [if_pos h1]
    refine congrArg₂ _ ?_ ?_ <;> omega
  · refine (isE_entries (a := 2048) (b := 512) _ i).trans ?_
    unfold dat
    dsimp only
    rw [if_neg (by omega)]
    refine congrArg _ ?_
    omega

theorem holds : Holds m c (dat m c) := by
  have A := args m c
  refine ⟨?_, ?_, ?_, ?_, ?_, ?_⟩
  · rw [V_main_arg0]; exact A.a0
  · rw [V_main_arg1]; exact A.a1
  · rw [V_main_arg2]; exact A.a2
  · rw [V_main_arg3]; exact A.a3
  · rw [V_main_arg4]; exact A.a4
  · rw [V_main_arg5]; exact A.a5

end Data

/-- The reference runs and leaves its arguments unchanged. -/
theorem reference_frame : Cert.quiescent_Reference9Ideal := fun m ρ _ =>
  (θ_run _ _ _).mono (fun r h => ⟨fun c => (h c).2.2.2.2, sem_eq_zero_of_no_sems rfl r.2⟩) (Cert.Reference9Ideal.Value.run m ρ)

open Cert.Reference9Ideal.Read in
/-- The kernel and the reference leave the same results. -/
theorem same_results : Cert.algebraic_Kernel9Ideal_Reference9Ideal := by
  intro m g m' g' _ hargs
  have hR : ∀ c, Args (dat m c) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5)) := fun c => by
    obtain ⟨e0, e1, e2, e3, e4, e5⟩ := hargs c
    have A := args m c
    refine ⟨?_, ?_, ?_, ?_, ?_, ?_⟩
    · rw [e0]; exact A.a0
    · rw [e1]; exact A.a1
    · rw [e2]; exact A.a2
    · rw [e3]; exact A.a3
    · rw [e4]; exact A.a4
    · rw [e5]; exact A.a5
  refine ⟨fun c => arrOf 2048 1024 (dat m c).Mg, fun c => arrOf 2048 1024 (dat m c).mo, fun c => arrOf 2048 1024 (dat m c).h1,
    fun c => arrOf 2048 1024 (dat m c).hn, ?_, ?_⟩
  · refine (θ_run _ _ _).mono (fun r h c => ?_) (Cert.Kernel9Ideal.Value.run_blocks m g)
    obtain ⟨r0, r1, r2, r3, k⟩ := h c
    exact ⟨r0.trans (holds m c).arr_6, r1.trans (holds m c).arr_7, r2.trans (holds m c).arr_8, r3.trans (holds m c).arr_9, k⟩
  · refine (θ_run _ _ _).mono (fun r h c => ?_) (Cert.Reference9Ideal.Value.run m' g')
    obtain ⟨r0, r1, r2, r3, k⟩ := h c
    exact ⟨r0.trans ((val_main_v22_eq _ _).trans (funext (hR c).v22)), r1.trans ((val_main_v6_eq _ _ _).trans (funext (hR c).v6)),
      r2.trans ((val_main_v21_eq _ _ _ _ _).trans (funext (hR c).v21)), r3.trans ((val_main_v37_eq _ _).trans (funext (hR c).v37)), k⟩

end Cert.OutProj

end
-- ==== Proof.InProj.lean ====
/- The norm, the input projection and the partial rotary embedding: what the kernel leaves in its five results, whatever the
   arguments hold. -/
module

public import proofs.«01_k».proof.Defs
public import proofs.«01_k».proof.Proof.OutProj
public import proofs.«01_k».proof.Proof.Gen.Kernel10Ideal.Value
public import Idealize.ShloMosaic.Lib.Pipeline.ValueKit.Geometry
public import Idealize.ShloMosaic.Lib.KernelVsHost
public import Idealize.ShloMosaic.Lib.Quiescent

@[expose] public section

set_option maxRecDepth 16384

noncomputable section

namespace Cert.InProj

open Idealize.ShloMosaic Idealize.ShloMosaic.TcCoe Idealize.SL.Sem
open Cert.OutGrad (IsE arrOf entriesE isE_entries)
open Cert.OutProj (rt)

/-- The rows, the projection's weight, the norm's scales, and the cosines and sines of each row's eight angles. -/
structure Dat where
  X : ℕ → ℕ → EReal
  W : ℕ → ℕ → EReal
  G : ℕ → EReal
  Cs : ℕ → ℕ → EReal
  Sn : ℕ → ℕ → EReal

namespace Dat
variable (D : Dat)

/-- The rows from `n` on. -/
def rows (n : ℕ) : Dat := { D with X := fun r => D.X (n + r), Cs := fun r => D.Cs (n + r), Sn := fun r => D.Sn (n + r) }
/-- The rows normalised and scaled. -/
def hn (r q : ℕ) : EReal := D.X r q * rt (D.X r) * D.G q
/-- The projection. -/
def proj (r q : ℕ) : EReal := ∑ k : Fin 1024, D.hn r k * D.W k q
/-- Columns of the projection from `o` on, as heads of 64 columns, the first eight of each head turned against the second eight. -/
def rot (o r c : ℕ) : EReal :=
  if c % 64 < 8 then D.proj r (o + c) * D.Cs r (c % 64) - D.proj r (o + (c + 8)) * D.Sn r (c % 64)
  else if c % 64 < 16 then D.proj r (o + c) * D.Cs r (c % 64 - 8) + D.proj r (o + (c - 8)) * D.Sn r (c % 64 - 8)
  else D.proj r (o + c)
/-- The table of factors for a column itself. -/
def ct (r j : ℕ) : EReal :=
  if j % 64 < 8 then D.Cs r (j % 64) else if j % 64 < 16 then D.Cs r (j % 64 - 8) else Ideal.ofBits .f32 0x3F800000#32
/-- The table of factors for a column's partner. -/
def st (r j : ℕ) : EReal :=
  if j % 64 < 8 then -D.Sn r (j % 64) else if j % 64 < 16 then D.Sn r (j % 64 - 8) else Ideal.ofBits .f32 0x00000000#32
/-- A column's partner. -/
def pt (o r c : ℕ) : EReal :=
  if c % 64 < 8 then D.proj r (o + (c + 8)) else if c % 64 < 16 then D.proj r (o + (c - 8)) else Ideal.ofBits .f32 0x00000000#32

theorem one_word : Ideal.ofBits .f32 0x3F800000#32 = (1 : EReal) := by
  rw [Cert.Ffn.wOne, EReal.coe_one]

theorem rot_eq (o r c : ℕ) : D.proj r (o + c) * D.ct r (c % 128) + D.pt o r c * D.st r (c % 128) = D.rot o r c := by
  have e : c % 128 % 64 = c % 64 := by omega
  unfold rot ct st pt
  rw [e]
  by_cases h : c % 64 < 8
  · rw [if_pos h, if_pos h, if_pos h, if_pos h, sub_eq_add_neg, mul_neg]
  · rw [if_neg h, if_neg h, if_neg h, if_neg h]
    by_cases k : c % 64 < 16
    · rw [if_pos k, if_pos k, if_pos k, if_pos k]
    · rw [if_neg k, if_neg k, if_neg k, if_neg k, one_word, mul_one, Cert.Ffn.wZero, EReal.coe_zero, mul_zero, add_zero]
end Dat

section Kernel

open Cert.Kernel10Ideal Cert.Kernel10Ideal.Gen Idealize.ShloMosaic.Pipeline

/-! ### One block of 256 rows -/

/-- Four copies of a table side by side. -/
theorem tile4 {x : FVec Ideal S256x128 .f32} {U : ℕ → ℕ → EReal} (h : IsE (a := 256) (b := 128) x U) :
    IsE (a := 256) (b := 512) (concatenate S256x512 1 [⟨S256x128, x⟩, ⟨S256x128, x⟩, ⟨S256x128, x⟩, ⟨S256x128, x⟩] concatenates_S256x128_S256x128_S256x128_S256x128_S256x512_d1)
      (fun r c => U r (c % 128)) := fun i => by
  have b1 : (i 1).val < 512 := (i 1).isLt
  have key : ∀ j : S256x128.Idx, (j 0).val = (i 0).val → (j 1).val = (i 1).val % 128 → x j = U (i 0).val ((i 1).val % 128) := fun j e0 e1 =>
    (h j).trans (congrArg₂ U e0 e1)
  simp only [pointwise]
  by_cases h0 : (i 1).val < 128
  · refine (dif_pos h0).trans (key _ rfl ?_)
    show (i 1).val = (i 1).val % 128
    omega
  · refine (dif_neg h0).trans ?_
    by_cases h1 : (i 1).val - 128 < 128
    · refine (dif_pos h1).trans (key _ rfl ?_)
      show (i 1).val - 128 = (i 1).val % 128
      omega
    · refine (dif_neg h1).trans ?_
      by_cases h2 : (i 1).val - 128 - 128 < 128
      · refine (dif_pos h2).trans (key _ rfl ?_)
        show (i 1).val - 128 - 128 = (i 1).val % 128
        omega
      · refine (dif_neg h2).trans (key _ rfl ?_)
        show (i 1).val - 128 - 128 - 128 = (i 1).val % 128
        omega

theorem mask_bits_512 : ∀ c : Fin 512, (IntOp.cmpi .slt (IntOp.andi (BitVec.ofNat 32 c.val) 63#32) 8#32 = 1 ↔ c.val % 64 < 8)
    ∧ (IntOp.cmpi .slt (IntOp.andi (BitVec.ofNat 32 c.val) 63#32) 16#32 = 1 ↔ c.val % 64 < 16) := by decide +kernel

/-- Whether a column's place in its head is below a bound, as the kernel finds it. -/
theorem mask_512 (b : BitVec 32) (i : S256x512.Idx) :
    broadcastTo S256x512 (shapeCast S1x512 (cmpi .slt (andi (iota .tc S1x512 32 [1] iota_S1x512_d1_w32) (broadcast S1x512 63#32)) (broadcast S1x512 b) : IVec S1x512 1) shapeCasts_S1x512_S1x512) broadcasts_S1x512_S256x512 i
      = IntOp.cmpi .slt (IntOp.andi (BitVec.ofNat 32 (i 1).val) 63#32) b := by
  simp only [pointwise]
  refine congrArg (fun n => IntOp.cmpi .slt (IntOp.andi (BitVec.ofNat 32 n) 63#32) b) ?_
  show 0 * 512 + (i 1).val = (i 1).val
  omega

/-- A column's partner, as the kernel finds it: the array turned one way and the other along its columns. -/
theorem partner_512 {D : Dat} {o : ℕ} {T : FVec Ideal S256x512 .f32} (h : IsE (a := 256) (b := 512) T (fun r c => D.proj r (o + c))) (i : S256x512.Idx) :
    select (broadcastTo S256x512 (shapeCast S1x512 (cmpi .slt (andi (iota .tc S1x512 32 [1] iota_S1x512_d1_w32) (broadcast S1x512 63#32)) (broadcast S1x512 8#32) : IVec S1x512 1) shapeCasts_S1x512_S1x512) broadcasts_S1x512_S256x512)
      (dynamicRotate 1 504#32 none T rotates_S256x512_d1)
      (select (broadcastTo S256x512 (shapeCast S1x512 (cmpi .slt (andi (iota .tc S1x512 32 [1] iota_S1x512_d1_w32) (broadcast S1x512 63#32)) (broadcast S1x512 16#32) : IVec S1x512 1) shapeCasts_S1x512_S1x512) broadcasts_S1x512_S256x512)
        (dynamicRotate 1 8#32 none T rotates_S256x512_d1) (broadcast S256x512 (Scalar.ofBits (F := Ideal) .f32 0x00000000#32))) i
      = D.pt o (i 0).val (i 1).val := by
  have b1 : (i 1).val < 512 := (i 1).isLt
  have e8 := (mask_512 8#32 i).symm ▸ (mask_bits_512 ⟨(i 1).val, b1⟩).1
  have e16 := (mask_512 16#32 i).symm ▸ (mask_bits_512 ⟨(i 1).val, b1⟩).2
  unfold Idealize.ShloMosaic.select Scalar.select Dat.pt
  by_cases k : (i 1).val % 64 < 8
  · rw [if_pos (e8.mpr k), if_pos k]
    refine (dynamicRotate_apply 1 504#32 T rotates_S256x512_d1 i (ix2 (i 0) ⟨(i 1).val + 8, by omega⟩) fun b => ?_).trans (h _)
    match b with
    | ⟨0, _⟩ => rfl
    | ⟨1, _⟩ =>
      show (i 1).val + 8 = ((i 1).val + 512 - 504) % 512
      omega
  · rw [if_neg (fun q => k (e8.mp q)), if_neg k]
    by_cases l : (i 1).val % 64 < 16
    · rw [if_pos (e16.mpr l), if_pos l]
      refine (dynamicRotate_apply 1 8#32 T rotates_S256x512_d1 i (ix2 (i 0) ⟨(i 1).val - 8, by omega⟩) fun b => ?_).trans (h _)
      match b with
      | ⟨0, _⟩ => rfl
      | ⟨1, _⟩ =>
        show (i 1).val - 8 = ((i 1).val + 512 - 8) % 512
        omega
    · rw [if_neg (fun q => l (e16.mp q)), if_neg l]
      rfl

theorem mask_bits_128 : ∀ c : Fin 128, (IntOp.cmpi .slt (IntOp.andi (BitVec.ofNat 32 c.val) 63#32) 8#32 = 1 ↔ c.val % 64 < 8)
    ∧ (IntOp.cmpi .slt (IntOp.andi (BitVec.ofNat 32 c.val) 63#32) 16#32 = 1 ↔ c.val % 64 < 16) := by decide +kernel

/-- Whether a column's place in its head is below a bound, as the kernel finds it. -/
theorem mask_128 (b : BitVec 32) (i : S256x128.Idx) :
    broadcastTo S256x128 (shapeCast S1x128 (cmpi .slt (andi (iota .tc S1x128 32 [1] iota_S1x128_d1_w32) (broadcast S1x128 63#32)) (broadcast S1x128 b) : IVec S1x128 1) shapeCasts_S1x128_S1x128) broadcasts_S1x128_S256x128 i
      = IntOp.cmpi .slt (IntOp.andi (BitVec.ofNat 32 (i 1).val) 63#32) b := by
  simp only [pointwise]
  refine congrArg (fun n => IntOp.cmpi .slt (IntOp.andi (BitVec.ofNat 32 n) 63#32) b) ?_
  show 0 * 128 + (i 1).val = (i 1).val
  omega

/-- A column's partner, as the kernel finds it: the array turned one way and the other along its columns. -/
theorem partner_128 {D : Dat} {o : ℕ} {T : FVec Ideal S256x128 .f32} (h : IsE (a := 256) (b := 128) T (fun r c => D.proj r (o + c))) (i : S256x128.Idx) :
    select (broadcastTo S256x128 (shapeCast S1x128 (cmpi .slt (andi (iota .tc S1x128 32 [1] iota_S1x128_d1_w32) (broadcast S1x128 63#32)) (broadcast S1x128 8#32) : IVec S1x128 1) shapeCasts_S1x128_S1x128) broadcasts_S1x128_S256x128)
      (dynamicRotate 1 120#32 none T rotates_S256x128_d1)
      (select (broadcastTo S256x128 (shapeCast S1x128 (cmpi .slt (andi (iota .tc S1x128 32 [1] iota_S1x128_d1_w32) (broadcast S1x128 63#32)) (broadcast S1x128 16#32) : IVec S1x128 1) shapeCasts_S1x128_S1x128) broadcasts_S1x128_S256x128)
        (dynamicRotate 1 8#32 none T rotates_S256x128_d1) (broadcast S256x128 (Scalar.ofBits (F := Ideal) .f32 0x00000000#32))) i
      = D.pt o (i 0).val (i 1).val := by
  have b1 : (i 1).val < 128 := (i 1).isLt
  have e8 := (mask_128 8#32 i).symm ▸ (mask_bits_128 ⟨(i 1).val, b1⟩).1
  have e16 := (mask_128 16#32 i).symm ▸ (mask_bits_128 ⟨(i 1).val, b1⟩).2
  unfold Idealize.ShloMosaic.select Scalar.select Dat.pt
  by_cases k : (i 1).val % 64 < 8
  · rw [if_pos (e8.mpr k), if_pos k]
    refine (dynamicRotate_apply 1 120#32 T rotates_S256x128_d1 i (ix2 (i 0) ⟨(i 1).val + 8, by omega⟩) fun b => ?_).trans (h _)
    match b with
    | ⟨0, _⟩ => rfl
    | ⟨1, _⟩ =>
      show (i 1).val + 8 = ((i 1).val + 128 - 120) % 128
      omega
  · rw [if_neg (fun q => k (e8.mp q)), if_neg k]
    by_cases l : (i 1).val % 64 < 16
    · rw [if_pos (e16.mpr l), if_pos l]
      refine (dynamicRotate_apply 1 8#32 T rotates_S256x128_d1 i (ix2 (i 0) ⟨(i 1).val - 8, by omega⟩) fun b => ?_).trans (h _)
      match b with
      | ⟨0, _⟩ => rfl
      | ⟨1, _⟩ =>
        show (i 1).val - 8 = ((i 1).val + 128 - 8) % 128
        omega
    · rw [if_neg (fun q => l (e16.mp q)), if_neg l]
      rfl

/-- One block's inputs. -/
structure Ins (D : Dat) (x0 : Vec Ideal S256x1024 .f32) (x1 : Vec Ideal S1x1024 .f32) (x2 : Vec Ideal S1280x1024 .bf16) (x3 x4 : Vec Ideal S256x128 .f32) : Prop where
  x : IsE (a := 256) (b := 1024) x0 D.X
  g : IsE (a := 1) (b := 1024) x1 (fun _ q => D.G q)
  w : IsE (a := 1280) (b := 1024) x2 (fun c k => D.W k c)
  ct : IsE (a := 256) (b := 128) x3 D.ct
  st : IsE (a := 256) (b := 128) x4 D.st

namespace Ins
variable {D : Dat} {x0 : Vec Ideal S256x1024 .f32} {x1 : Vec Ideal S1x1024 .f32} {x2 : Vec Ideal S1280x1024 .bf16} {x3 x4 : Vec Ideal S256x128 .f32} (I : Ins D x0 x1 x2 x3 x4)
include I

theorem hn : IsE (a := 256) (b := 1024) (k0_pay4 x0 x1) D.hn := fun i => Cert.OutProj.isE_normed I.x I.g i

theorem proj : IsE (a := 256) (b := 1280) (k0_pay5 x0 x1 x2) D.proj := fun i => by
  have h := I.hn
  unfold k0_pay5
  generalize k0_pay4 x0 x1 = v at h
  simp only [pointwise]
  rw [zero_add]
  exact Finset.sum_congr rfl fun q _ => congrArg₂ (fun a b : EReal => a * b) (h _) (I.w _)

theorem u : IsE (a := 256) (b := 512) (k0_pay6 x0 x1 x2) D.proj := fun i => by
  have h := I.proj
  unfold k0_pay6
  generalize k0_pay5 x0 x1 x2 = v at h
  simp only [pointwise]
  exact (h _).trans (congrArg₂ D.proj (Nat.zero_add _) (Nat.zero_add _))
theorem q : IsE (a := 256) (b := 512) (k0_pay7 x0 x1 x2) (fun r c => D.proj r (512 + c)) := fun i => by
  have h := I.proj
  unfold k0_pay7
  generalize k0_pay5 x0 x1 x2 = v at h
  simp only [pointwise]
  exact (h _).trans (congrArg₂ D.proj (Nat.zero_add _) rfl)
theorem k : IsE (a := 256) (b := 128) (k0_pay8 x0 x1 x2) (fun r c => D.proj r (1024 + c)) := fun i => by
  have h := I.proj
  unfold k0_pay8
  generalize k0_pay5 x0 x1 x2 = v at h
  simp only [pointwise]
  exact (h _).trans (congrArg₂ D.proj (Nat.zero_add _) rfl)
theorem v : IsE (a := 256) (b := 128) (k0_pay3 (k0_pay5 x0 x1 x2)) (fun r c => D.proj r (1152 + c)) := fun i => by
  have h := I.proj
  unfold k0_pay3
  generalize k0_pay5 x0 x1 x2 = v at h
  simp only [pointwise]
  exact (h _).trans (congrArg₂ D.proj (Nat.zero_add _) rfl)
theorem ct' : IsE (a := 256) (b := 128) (k0_pay9 x3) D.ct := fun i => by
  unfold k0_pay9
  rw [shapeCast_self]
  exact I.ct i
theorem st' : IsE (a := 256) (b := 128) (k0_pay10 x4) D.st := fun i => by
  unfold k0_pay10
  rw [shapeCast_self]
  exact I.st i

theorem qr : IsE (a := 256) (b := 512) (k0_pay1 (k0_pay7 x0 x1 x2) (k0_pay10 x4) (k0_pay11 x0 x1 x2 x3) k0_pay12 k0_pay13 (k0_pay14 x0 x1 x2) (Scalar.ofBits .f32 0x00000000#32)) (D.rot 512) := fun i => by
  have h := I.q
  have hc := I.ct'
  have hs := I.st'
  unfold k0_pay11 k0_pay14 k0_pay13 k0_pay12
  generalize k0_pay7 x0 x1 x2 = T at h
  generalize k0_pay9 x3 = c at hc
  generalize k0_pay10 x4 = s at hs
  exact (congrArg₂ (fun a b : EReal => a + b) (congrArg₂ (fun a b : EReal => a * b) (h i) (tile4 hc i))
    (congrArg₂ (fun a b : EReal => a * b) (partner_512 h i) (tile4 hs i))).trans (D.rot_eq 512 _ _)

theorem kr : IsE (a := 256) (b := 128) (k0_pay2 (k0_pay8 x0 x1 x2) (k0_pay9 x3) (k0_pay10 x4)) (D.rot 1024) := fun i => by
  have h := I.k
  have hc := I.ct'
  have hs := I.st'
  have b1 : (i 1).val % 128 = (i 1).val := Nat.mod_eq_of_lt (i 1).isLt
  generalize k0_pay8 x0 x1 x2 = T at h
  generalize k0_pay9 x3 = c at hc
  generalize k0_pay10 x4 = s at hs
  refine (congrArg₂ (fun a b : EReal => a + b) (congrArg₂ (fun a b : EReal => a * b) (h i) (hc i))
    (congrArg₂ (fun a b : EReal => a * b) (partner_128 h i) (hs i))).trans (Eq.trans ?_ (D.rot_eq 1024 _ _))
  rw [b1]
end Ins

/-! ### The result arrays -/

theorem win_0 : ∀ t : Fin cfg0.N, win0_0.index t = ![t.val, 0] := by decide +kernel
theorem win_1 : ∀ t : Fin cfg0.N, win0_1.index t = ![0, 0] := by decide +kernel
theorem win_2 : ∀ t : Fin cfg0.N, win0_2.index t = ![0, 0] := by decide +kernel
theorem win_3 : ∀ t : Fin cfg0.N, win0_3.index t = ![t.val, 0] := by decide +kernel
theorem win_4 : ∀ t : Fin cfg0.N, win0_4.index t = ![t.val, 0] := by decide +kernel
theorem win_5 : ∀ t : Fin cfg0.N, win0_5.index t = ![t.val, 0] := by decide +kernel
theorem win_6 : ∀ t : Fin cfg0.N, win0_6.index t = ![0, t.val] := by decide +kernel
theorem win_7 : ∀ t : Fin cfg0.N, win0_7.index t = ![t.val, 0] := by decide +kernel
theorem win_8 : ∀ t : Fin cfg0.N, win0_8.index t = ![t.val, 0] := by decide +kernel
theorem win_9 : ∀ t : Fin cfg0.N, win0_9.index t = ![t.val, 0] := by decide +kernel
theorem zeros : (![0, 0] : Fin 2 → ℕ) = fun _ => 0 := by decide

variable (m : (ℓ : Loc nD τ sig) → Buf (Elt Ideal) ℓ) (c : Dev nD) {D : Dat}

/-- What the kernel's windowed arrays hold. -/
structure Holds (D : Dat) : Prop where
  x : IsE (a := 2048) (b := 1024) (V m c main_arg0) D.X
  g : IsE (a := 1) (b := 1024) (V m c main_arg2) (fun _ q => D.G q)
  w : IsE (a := 1280) (b := 1024) (V m c main_v23) (fun c k => D.W k c)
  ct : IsE (a := 2048) (b := 128) (V m c main_v18) D.ct
  st : IsE (a := 2048) (b := 128) (V m c main_v21) D.st

variable {m c}

theorem Holds.ins (h : Holds m c D) (t : Fin cfg0.N) :
    Ins (D.rows (t.val * 256)) (iblk m c 0 t) (iblk m c 1 t) (iblk m c 2 t) (iblk m c 3 t) (iblk m c 4 t) where
  x := by
    intro i
    refine (h.x (((cfg0.win 0).blk t).view.emb i)).trans ?_
    blk_simp [win_0]
    rfl
  g := by
    intro i
    refine (h.g (((cfg0.win 1).blk t).view.emb i)).trans ?_
    blk_simp [win_1]
    rfl
  w := by
    intro i
    refine (h.w (((cfg0.win 2).blk t).view.emb i)).trans ?_
    blk_simp [win_2]
    rfl
  ct := by
    intro i
    refine (h.ct (((cfg0.win 3).blk t).view.emb i)).trans ?_
    blk_simp [win_3]
    rfl
  st := by
    intro i
    refine (h.st (((cfg0.win 4).blk t).view.emb i)).trans ?_
    blk_simp [win_4]
    rfl

theorem Holds.arr_5 (h : Holds m c D) : (dats m 0 c).arrAt 5 cfg0.N = arrOf 2048 1024 D.hn := by
  refine (dats m 0 c).arrAt_eq_of_covers 5 _ (by decide +kernel) fun t hf y => ?_
  have e := (h.ins t).hn
  unfold arrOf
  blk_simp [win_5]
  rw [after0_5]
  unfold out0_5
  rw [View.canon_unit_zero zeros]
  repeat rw [View.ld_unit_zero zeros]
  exact e _

theorem Holds.arr_6 (h : Holds m c D) : (dats m 0 c).arrAt 6 cfg0.N = arrOf 256 4096 (fun r j => D.proj (j / 512 * 256 + r) (j % 512)) := by
  refine (dats m 0 c).arrAt_eq_of_covers 6 _ (by decide +kernel) fun t hf y => ?_
  have e := (h.ins t).u
  unfold arrOf
  have b1 : (y 1).val < 512 := (y 1).isLt
  blk_simp [win_6]
  rw [after0_6]
  unfold out0_6
  rw [View.canon_unit_zero zeros]
  repeat rw [View.ld_unit_zero zeros]
  refine (e _).trans ?_
  show D.proj (t.val * 256 + (y 0).val) (y 1).val = _
  refine congrArg₂ D.proj ?_ ?_ <;> omega

theorem Holds.arr_7 (h : Holds m c D) : (dats m 0 c).arrAt 7 cfg0.N = arrOf 2048 512 (D.rot 512) := by
  refine (dats m 0 c).arrAt_eq_of_covers 7 _ (by decide +kernel) fun t hf y => ?_
  have e := (h.ins t).qr
  unfold arrOf
  blk_simp [win_7]
  rw [after0_7]
  unfold out0_7 k0_pay15
  rw [View.canon_unit_zero zeros]
  repeat rw [View.ld_unit_zero zeros]
  exact e _

theorem Holds.arr_8 (h : Holds m c D) : (dats m 0 c).arrAt 8 cfg0.N = arrOf 2048 128 (D.rot 1024) := by
  refine (dats m 0 c).arrAt_eq_of_covers 8 _ (by decide +kernel) fun t hf y => ?_
  have e := (h.ins t).kr
  unfold arrOf
  blk_simp [win_8]
  rw [after0_8]
  unfold out0_8 k0_pay15
  rw [View.canon_unit_zero zeros]
  repeat rw [View.ld_unit_zero zeros]
  exact e _

theorem Holds.arr_9 (h : Holds m c D) : (dats m 0 c).arrAt 9 cfg0.N = arrOf 2048 128 (fun r c => D.proj r (1152 + c)) := by
  refine (dats m 0 c).arrAt_eq_of_covers 9 _ (by decide +kernel) fun t hf y => ?_
  have e := (h.ins t).v
  unfold arrOf
  blk_simp [win_9]
  rw [after0_9]
  unfold out0_9
  rw [View.canon_unit_zero zeros]
  repeat rw [View.ld_unit_zero zeros]
  exact e _

end Kernel

section Host

open Cert.Kernel10Ideal Cert.Kernel10Ideal.Gen Idealize.ShloMosaic.StableHlo Idealize.ShloMosaic.Tactic

/-- The eight angles of each row. -/
def angleOf (p : IVec S2048 32) : FVec Ideal S2048x8 .f32 :=
  mulf (broadcastInDim S2048x8 ![0, 1] bcast_S2048x1_S2048x8_0_1 (broadcastInDim S2048x1 ![0] bcast_S2048_S2048x1_0 (sitofp .f32 p : FVec Ideal S2048 .f32)))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0) : FVec Ideal S8 .f32)) (broadcastInDim S8 ![] bcast_S_S8 (constant S_ .f32 0x40000000#32)))
          (broadcastInDim S8 ![] bcast_S_S8 (constant S_ .f32 0x41800000#32))))))

/-- Two copies of three pieces side by side. -/
def twice (a b : FVec Ideal S2048x8 .f32) (z : FVec Ideal S2048x48 .f32) : FVec Ideal S2048x128 .f32 :=
  concatenate S2048x128 1 [⟨S2048x8, a⟩, ⟨S2048x8, b⟩, ⟨S2048x48, z⟩, ⟨S2048x8, a⟩, ⟨S2048x8, b⟩, ⟨S2048x48, z⟩]
    concatenates_S2048x8_S2048x8_S2048x48_S2048x8_S2048x8_S2048x48_S2048x128_d1

theorem host_v23 (V0 : Valuation τ sig (Elt Ideal)) : after hostOps0 V0 (Proc.devRef .tc main_v23)
    = (truncf .bf16 (transpose S1280x1024 [1, 0] (show FVec Ideal S1024x1280 .f32 from V0 (Proc.devRef .tc main_arg3)) transposes_S1024x1280_S1280x1024_1_0) bitsLt_bf16_f32 : FVec Ideal S1280x1024 .bf16) := by
  simp only [hostOps0]
  after_results_entrywise []

theorem host_v18 (V0 : Valuation τ sig (Elt Ideal)) : after hostOps0 V0 (Proc.devRef .tc main_v18)
    = twice (Host.cos (angleOf (V0 (Proc.devRef .tc main_arg1)))) (Host.cos (angleOf (V0 (Proc.devRef .tc main_arg1)))) (broadcastInDim S2048x48 ![] bcast_S_S2048x48 (constant S_ .f32 0x3F800000#32)) := by
  simp only [hostOps0, angleOf, twice]
  after_results_entrywise []

theorem host_v21 (V0 : Valuation τ sig (Elt Ideal)) : after hostOps0 V0 (Proc.devRef .tc main_v21)
    = twice (Host.negf (Host.sin (angleOf (V0 (Proc.devRef .tc main_arg1))))) (Host.sin (angleOf (V0 (Proc.devRef .tc main_arg1)))) (broadcastInDim S2048x48 ![] bcast_S_S2048x48 (constant S_ .f32 0x00000000#32)) := by
  simp only [hostOps0, angleOf, twice]
  after_results_entrywise []

end Host

end Cert.InProj

end
-- ==== Proof.InProjRef.lean ====
/- The norm, the input projection and the partial rotary embedding: the kernel and the reference leave the same results,
   whatever the arguments hold. -/
module

public import proofs.«01_k».proof.Proof.InProj
public import proofs.«01_k».proof.Proof.Gen.Reference10Ideal.Read
public import proofs.«01_k».proof.Proof.Gen.Reference10Ideal.Run

@[expose] public section

set_option maxRecDepth 16384

noncomputable section

namespace Cert.InProj

open Idealize.ShloMosaic Idealize.ShloMosaic.TcCoe Idealize.SL.Sem
open Cert.OutGrad (IsE arrOf entriesE isE_entries)
open Cert.OutProj (rt zero_sum isE_one)

/-- An array of three axes with these entries. -/
def IsE3 {a b c : ℕ} (v : (⟨3, ![a, b, c]⟩ : Shape).Idx → EReal) (U : ℕ → ℕ → ℕ → EReal) : Prop := ∀ i, v i = U (i 0).val (i 1).val (i 2).val

section Reference

open Cert.Reference10Ideal Cert.Reference10Ideal.Gen Cert.Reference10Ideal.Read

/-- The reference's arguments hold these data. -/
structure Args (D : Dat) (x0 : S2048x1024.Idx → EReal) (x1 : IVec S2048 32) (x2 : S1x1024.Idx → EReal) (x3 : S1024x1280.Idx → EReal) : Prop where
  a0 : IsE (a := 2048) (b := 1024) x0 D.X
  a2 : IsE (a := 1) (b := 1024) x2 (fun _ q => D.G q)
  a3 : IsE (a := 1024) (b := 1280) x3 D.W
  cs : IsE (a := 2048) (b := 8) (Host.cos (angleOf x1)) D.Cs
  sn : IsE (a := 2048) (b := 8) (Host.sin (angleOf x1)) D.Sn

/-- The reference finds the angles the way the lines before the kernel do. -/
theorem angle_q (x1 : IVec S2048 32) : val_main_v33 (F := Ideal) x1 = angleOf x1 := rfl
theorem angle_k (x1 : IVec S2048 32) : val_main_v67 (F := Ideal) x1 = angleOf x1 := rfl

namespace Args
variable {D : Dat} {x0 : S2048x1024.Idx → EReal} {x1 : IVec S2048 32} {x2 : S1x1024.Idx → EReal} {x3 : S1024x1280.Idx → EReal} (A : Args D x0 x1 x2 x3)
include A

theorem v2 (i : S2048.Idx) : val_main_v2 (F := Ideal) x0 i = ∑ k : Fin 1024, D.X (i 0).val k * D.X (i 0).val k :=
  (val_main_v2_apply x0 i).trans (zero_sum Cert.Ffn.wZero fun k =>
    (val_main_v1_apply (F := Ideal) x0 _).trans (congrArg₂ (fun a b : EReal => a * b) (A.a0 (idx_main_v2 i k)) (A.a0 (idx_main_v2 i k))))
theorem v8 (i : S2048x1.Idx) : val_main_v8 (F := Ideal) x0 i = rt (D.X (i 0).val) :=
  congrArg (fun a : EReal => Ideal.rsqrt (Ideal.div a (Ideal.ofBits .f32 0x44800000#32) + Ideal.ofBits .f32 0x358637BD#32))
    ((val_main_v3_apply (F := Ideal) x0 i).trans (A.v2 (idx_main_v3 i)))
theorem v9 (i : S2048x1024.Idx) : val_main_v9 (F := Ideal) x0 i = rt (D.X (i 0).val) :=
  (val_main_v9_apply (F := Ideal) x0 i).trans (A.v8 (idx_main_v9 i))
theorem v12 (i : S2048x1024.Idx) : val_main_v12 (F := Ideal) x2 i = D.G (i 1).val := by
  rw [val_main_v12_apply (F := Ideal), val_main_v11_apply (F := Ideal), val_main_v0_apply (F := Ideal)]
  exact (A.a2 _).trans (congrArg D.G (Nat.mod_eq_of_lt (i 1).isLt))
theorem v13 : IsE (a := 2048) (b := 1024) (val_main_v13 (F := Ideal) x0 x2) D.hn := fun i =>
  congrArg₂ (fun a b : EReal => a * b) (congrArg₂ (fun a b : EReal => a * b) (A.a0 i) (A.v9 i)) (A.v12 i)
theorem v14 : IsE (a := 2048) (b := 1280) (val_main_v14 (F := Ideal) x0 x2 x3) D.proj := fun i =>
  (val_main_v14_apply x0 x2 x3 i).trans (Finset.sum_congr rfl fun k _ => congrArg₂ (fun a b : EReal => a * b) (A.v13 (lidx_main_v14 i k)) (A.a3 (ridx_main_v14 i k)))
theorem v15 : IsE (a := 2048) (b := 512) (val_main_v15 (F := Ideal) x0 x2 x3) D.proj := fun i =>
  (val_main_v15_apply (F := Ideal) x0 x2 x3 i).trans (A.v14 _)
theorem v16 : IsE (a := 2048) (b := 512) (val_main_v16 (F := Ideal) x0 x2 x3) (fun r c => D.proj r (512 + c)) := fun i =>
  (val_main_v16_apply (F := Ideal) x0 x2 x3 i).trans (A.v14 _)
theorem v17 : IsE (a := 2048) (b := 128) (val_main_v17 (F := Ideal) x0 x2 x3) (fun r c => D.proj r (1024 + c)) := fun i =>
  (val_main_v17_apply (F := Ideal) x0 x2 x3 i).trans (A.v14 _)
theorem v93 : IsE (a := 2048) (b := 128) (val_main_v93 (F := Ideal) x0 x2 x3) (fun r c => D.proj r (1152 + c)) := fun i =>
  (val_main_v18_apply (F := Ideal) x0 x2 x3 i).trans (A.v14 _)
theorem v90 : IsE (a := 2048) (b := 1024) (val_main_v90 (F := Ideal) x0 x2) D.hn := fun i => A.v13 i

theorem v89 : IsE (a := 256) (b := 4096) (val_main_v89 (F := Ideal) x0 x2 x3) (fun r j => D.proj (j / 512 * 256 + r) (j % 512)) := fun i => by
  rw [val_main_v89_apply (F := Ideal), val_main_v88_apply (F := Ideal), val_main_v87_apply (F := Ideal)]
  have h0 : (i 0).val < 256 := (i 0).isLt
  have h1 : (i 1).val < 4096 := (i 1).isLt
  have e0 : ((i 0).val * 4096 + (i 1).val) / 4096 = (i 0).val := by omega
  have e1 : ((i 0).val * 4096 + (i 1).val) / 512 % 8 = (i 1).val / 512 := by omega
  have e2 : ((i 0).val * 4096 + (i 1).val) % 512 = (i 1).val % 512 := by omega
  refine (A.v15 _).trans (congrArg₂ D.proj ?_ ?_)
  · show ((((i 0).val * 4096 + (i 1).val) / 512 % 8 * 256 + ((i 0).val * 4096 + (i 1).val) / 4096) * 512 + ((i 0).val * 4096 + (i 1).val) % 512) / 512 = (i 1).val / 512 * 256 + (i 0).val
    rw [e0, e1, e2]
    omega
  · show ((((i 0).val * 4096 + (i 1).val) / 512 % 8 * 256 + ((i 0).val * 4096 + (i 1).val) / 4096) * 512 + ((i 0).val * 4096 + (i 1).val) % 512) % 512 = (i 1).val % 512
    rw [e0, e1, e2]
    omega

theorem v19 : IsE3 (a := 2048) (b := 8) (c := 64) (val_main_v19 (F := Ideal) x0 x2 x3) (fun r p e => D.proj r (512 + (p * 64 + e))) := fun i => by
  rw [val_main_v19_apply (F := Ideal)]
  have h0 : (i 0).val < 2048 := (i 0).isLt
  have h1 : (i 1).val < 8 := (i 1).isLt
  have h2 : (i 2).val < 64 := (i 2).isLt
  refine (A.v16 _).trans (congrArg₂ D.proj ?_ (congrArg (fun c => 512 + c) ?_))
  · show (((i 0).val * 8 + (i 1).val) * 64 + (i 2).val) / 512 = (i 0).val
    omega
  · show (((i 0).val * 8 + (i 1).val) * 64 + (i 2).val) % 512 = (i 1).val * 64 + (i 2).val
    omega
theorem v38 : IsE3 (a := 2048) (b := 8) (c := 8) (val_main_v38 (F := Ideal) x0 x2 x3) (fun r p e => D.proj r (512 + (p * 64 + e))) := fun i =>
  (val_main_v38_apply (F := Ideal) x0 x2 x3 i).trans (A.v19 _)
theorem v39 : IsE3 (a := 2048) (b := 8) (c := 8) (val_main_v39 (F := Ideal) x0 x2 x3) (fun r p e => D.proj r (512 + (p * 64 + (8 + e)))) := fun i =>
  (val_main_v39_apply (F := Ideal) x0 x2 x3 i).trans (A.v19 _)
theorem v50 : IsE3 (a := 2048) (b := 8) (c := 48) (val_main_v50 (F := Ideal) x0 x2 x3) (fun r p e => D.proj r (512 + (p * 64 + (16 + e)))) := fun i =>
  (val_main_v50_apply (F := Ideal) x0 x2 x3 i).trans (A.v19 _)
theorem v34 : IsE (a := 2048) (b := 8) (val_main_v34 (F := Ideal) x1) D.Cs := fun i => by
  unfold val_main_v34
  rw [angle_q]
  exact A.cs i
theorem v36 : IsE (a := 2048) (b := 8) (val_main_v36 (F := Ideal) x1) D.Sn := fun i => by
  unfold val_main_v36
  rw [angle_q]
  exact A.sn i
theorem v40 : IsE3 (a := 2048) (b := 8) (c := 8) (val_main_v40 (F := Ideal) x1) (fun r _ e => D.Cs r e) := fun i =>
  ((val_main_v40_apply (F := Ideal) x1 i).trans (val_main_v35_apply (F := Ideal) x1 _)).trans (A.v34 _)
theorem v42 : IsE3 (a := 2048) (b := 8) (c := 8) (val_main_v42 (F := Ideal) x1) (fun r _ e => D.Sn r e) := fun i =>
  ((val_main_v42_apply (F := Ideal) x1 i).trans (val_main_v37_apply (F := Ideal) x1 _)).trans (A.v36 _)
theorem v45 : IsE3 (a := 2048) (b := 8) (c := 8) (val_main_v45 (F := Ideal) x1) (fun r _ e => D.Cs r e) := fun i =>
  ((val_main_v45_apply (F := Ideal) x1 i).trans (val_main_v35_apply (F := Ideal) x1 _)).trans (A.v34 _)
theorem v47 : IsE3 (a := 2048) (b := 8) (c := 8) (val_main_v47 (F := Ideal) x1) (fun r _ e => D.Sn r e) := fun i =>
  ((val_main_v47_apply (F := Ideal) x1 i).trans (val_main_v37_apply (F := Ideal) x1 _)).trans (A.v36 _)
theorem v44 : IsE3 (a := 2048) (b := 8) (c := 8) (val_main_v44 (F := Ideal) x0 x1 x2 x3)
    (fun r p e => D.proj r (512 + (p * 64 + e)) * D.Cs r e - D.proj r (512 + (p * 64 + (8 + e))) * D.Sn r e) := fun i =>
  congrArg₂ (fun a b : EReal => a - b) (congrArg₂ (fun a b : EReal => a * b) (A.v38 i) (A.v40 i)) (congrArg₂ (fun a b : EReal => a * b) (A.v39 i) (A.v42 i))
theorem v49 : IsE3 (a := 2048) (b := 8) (c := 8) (val_main_v49 (F := Ideal) x0 x1 x2 x3)
    (fun r p e => D.proj r (512 + (p * 64 + (8 + e))) * D.Cs r e + D.proj r (512 + (p * 64 + e)) * D.Sn r e) := fun i =>
  congrArg₂ (fun a b : EReal => a + b) (congrArg₂ (fun a b : EReal => a * b) (A.v39 i) (A.v45 i)) (congrArg₂ (fun a b : EReal => a * b) (A.v38 i) (A.v47 i))

theorem v51 : IsE3 (a := 2048) (b := 8) (c := 64) (val_main_v51 (F := Ideal) x0 x1 x2 x3) (fun r p e => D.rot 512 r (p * 64 + e)) := fun i => by
  have h2 : (i 2).val < 64 := (i 2).isLt
  have k0 := A.v44
  have k1 := A.v49
  have k2 := A.v50
  unfold val_main_v51
  generalize val_main_v44 (F := Ideal) x0 x1 x2 x3 = y0 at k0
  generalize val_main_v49 (F := Ideal) x0 x1 x2 x3 = y1 at k1
  generalize val_main_v50 (F := Ideal) x0 x2 x3 = y2 at k2
  have em : ((i 1).val * 64 + (i 2).val) % 64 = (i 2).val := by omega
  simp only [pointwise]
  unfold Dat.rot
  rw [em]
  by_cases l0 : (i 2).val < 8
  · rw [if_pos l0]
    refine (dif_pos l0).trans ((k0 _).trans ?_)
    show D.proj (i 0).val (512 + ((i 1).val * 64 + (i 2).val)) * D.Cs (i 0).val (i 2).val - D.proj (i 0).val (512 + ((i 1).val * 64 + (8 + (i 2).val))) * D.Sn (i 0).val (i 2).val = _
    rw [show (i 1).val * 64 + (8 + (i 2).val) = (i 1).val * 64 + (i 2).val + 8 by omega]
  · rw [if_neg l0]
    refine (dif_neg l0).trans ?_
    by_cases l1 : (i 2).val < 16
    · rw [if_pos l1]
      refine (dif_pos (show (i 2).val - 8 < 8 by omega)).trans ((k1 _).trans ?_)
      show D.proj (i 0).val (512 + ((i 1).val * 64 + (8 + ((i 2).val - 8)))) * D.Cs (i 0).val ((i 2).val - 8) + D.proj (i 0).val (512 + ((i 1).val * 64 + ((i 2).val - 8))) * D.Sn (i 0).val ((i 2).val - 8) = _
      rw [show (i 1).val * 64 + (8 + ((i 2).val - 8)) = (i 1).val * 64 + (i 2).val by omega,
        show (i 1).val * 64 + ((i 2).val - 8) = (i 1).val * 64 + (i 2).val - 8 by omega]
    · rw [if_neg l1]
      refine (dif_neg (show ¬(i 2).val - 8 < 8 by omega)).trans ((k2 _).trans ?_)
      show D.proj (i 0).val (512 + ((i 1).val * 64 + (16 + ((i 2).val - 8 - 8)))) = _
      rw [show (i 1).val * 64 + (16 + ((i 2).val - 8 - 8)) = (i 1).val * 64 + (i 2).val by omega]

theorem v91 : IsE (a := 2048) (b := 512) (val_main_v91 (F := Ideal) x0 x1 x2 x3) (D.rot 512) := fun i => by
  refine (val_main_v52_apply (F := Ideal) x0 x1 x2 x3 i).trans ((A.v51 _).trans ?_)
  have h0 : (i 0).val < 2048 := (i 0).isLt
  have h1 : (i 1).val < 512 := (i 1).isLt
  refine congrArg₂ (D.rot 512) ?_ ?_
  · show ((i 0).val * 512 + (i 1).val) / 512 = (i 0).val
    omega
  · have e1 : ((i 0).val * 512 + (i 1).val) / 64 % 8 = (i 1).val / 64 := by omega
    have e2 : ((i 0).val * 512 + (i 1).val) % 64 = (i 1).val % 64 := by omega
    show ((i 0).val * 512 + (i 1).val) / 64 % 8 * 64 + ((i 0).val * 512 + (i 1).val) % 64 = (i 1).val
    rw [e1, e2]
    omega

theorem v53 : IsE3 (a := 2048) (b := 2) (c := 64) (val_main_v53 (F := Ideal) x0 x2 x3) (fun r p e => D.proj r (1024 + (p * 64 + e))) := fun i => by
  rw [val_main_v53_apply (F := Ideal)]
  have h0 : (i 0).val < 2048 := (i 0).isLt
  have h1 : (i 1).val < 2 := (i 1).isLt
  have h2 : (i 2).val < 64 := (i 2).isLt
  refine (A.v17 _).trans (congrArg₂ D.proj ?_ (congrArg (fun c => 1024 + c) ?_))
  · show (((i 0).val * 2 + (i 1).val) * 64 + (i 2).val) / 128 = (i 0).val
    omega
  · show (((i 0).val * 2 + (i 1).val) * 64 + (i 2).val) % 128 = (i 1).val * 64 + (i 2).val
    omega
theorem v72 : IsE3 (a := 2048) (b := 2) (c := 8) (val_main_v72 (F := Ideal) x0 x2 x3) (fun r p e => D.proj r (1024 + (p * 64 + e))) := fun i =>
  (val_main_v72_apply (F := Ideal) x0 x2 x3 i).trans (A.v53 _)
theorem v73 : IsE3 (a := 2048) (b := 2) (c := 8) (val_main_v73 (F := Ideal) x0 x2 x3) (fun r p e => D.proj r (1024 + (p * 64 + (8 + e)))) := fun i =>
  (val_main_v73_apply (F := Ideal) x0 x2 x3 i).trans (A.v53 _)
theorem v84 : IsE3 (a := 2048) (b := 2) (c := 48) (val_main_v84 (F := Ideal) x0 x2 x3) (fun r p e => D.proj r (1024 + (p * 64 + (16 + e)))) := fun i =>
  (val_main_v84_apply (F := Ideal) x0 x2 x3 i).trans (A.v53 _)
theorem v68 : IsE (a := 2048) (b := 8) (val_main_v68 (F := Ideal) x1) D.Cs := fun i => by
  unfold val_main_v68
  rw [angle_k]
  exact A.cs i
theorem v70 : IsE (a := 2048) (b := 8) (val_main_v70 (F := Ideal) x1) D.Sn := fun i => by
  unfold val_main_v70
  rw [angle_k]
  exact A.sn i
theorem v74 : IsE3 (a := 2048) (b := 2) (c := 8) (val_main_v74 (F := Ideal) x1) (fun r _ e => D.Cs r e) := fun i =>
  ((val_main_v74_apply (F := Ideal) x1 i).trans (val_main_v69_apply (F := Ideal) x1 _)).trans (A.v68 _)
theorem v76 : IsE3 (a := 2048) (b := 2) (c := 8) (val_main_v76 (F := Ideal) x1) (fun r _ e => D.Sn r e) := fun i =>
  ((val_main_v76_apply (F := Ideal) x1 i).trans (val_main_v71_apply (F := Ideal) x1 _)).trans (A.v70 _)
theorem v79 : IsE3 (a := 2048) (b := 2) (c := 8) (val_main_v79 (F := Ideal) x1) (fun r _ e => D.Cs r e) := fun i =>
  ((val_main_v79_apply (F := Ideal) x1 i).trans (val_main_v69_apply (F := Ideal) x1 _)).trans (A.v68 _)
theorem v81 : IsE3 (a := 2048) (b := 2) (c := 8) (val_main_v81 (F := Ideal) x1) (fun r _ e => D.Sn r e) := fun i =>
  ((val_main_v81_apply (F := Ideal) x1 i).trans (val_main_v71_apply (F := Ideal) x1 _)).trans (A.v70 _)
theorem v78 : IsE3 (a := 2048) (b := 2) (c := 8) (val_main_v78 (F := Ideal) x0 x1 x2 x3)
    (fun r p e => D.proj r (1024 + (p * 64 + e)) * D.Cs r e - D.proj r (1024 + (p * 64 + (8 + e))) * D.Sn r e) := fun i =>
  congrArg₂ (fun a b : EReal => a - b) (congrArg₂ (fun a b : EReal => a * b) (A.v72 i) (A.v74 i)) (congrArg₂ (fun a b : EReal => a * b) (A.v73 i) (A.v76 i))
theorem v83 : IsE3 (a := 2048) (b := 2) (c := 8) (val_main_v83 (F := Ideal) x0 x1 x2 x3)
    (fun r p e => D.proj r (1024 + (p * 64 + (8 + e))) * D.Cs r e + D.proj r (1024 + (p * 64 + e)) * D.Sn r e) := fun i =>
  congrArg₂ (fun a b : EReal => a + b) (congrArg₂ (fun a b : EReal => a * b) (A.v73 i) (A.v79 i)) (congrArg₂ (fun a b : EReal => a * b) (A.v72 i) (A.v81 i))

theorem v85 : IsE3 (a := 2048) (b := 2) (c := 64) (val_main_v85 (F := Ideal) x0 x1 x2 x3) (fun r p e => D.rot 1024 r (p * 64 + e)) := fun i => by
  have h2 : (i 2).val < 64 := (i 2).isLt
  have k0 := A.v78
  have k1 := A.v83
  have k2 := A.v84
  unfold val_main_v85
  generalize val_main_v78 (F := Ideal) x0 x1 x2 x3 = y0 at k0
  generalize val_main_v83 (F := Ideal) x0 x1 x2 x3 = y1 at k1
  generalize val_main_v84 (F := Ideal) x0 x2 x3 = y2 at k2
  have em : ((i 1).val * 64 + (i 2).val) % 64 = (i 2).val := by omega
  simp only [pointwise]
  unfold Dat.rot
  rw [em]
  by_cases l0 : (i 2).val < 8
  · rw [if_pos l0]
    refine (dif_pos l0).trans ((k0 _).trans ?_)
    show D.proj (i 0).val (1024 + ((i 1).val * 64 + (i 2).val)) * D.Cs (i 0).val (i 2).val - D.proj (i 0).val (1024 + ((i 1).val * 64 + (8 + (i 2).val))) * D.Sn (i 0).val (i 2).val = _
    rw [show (i 1).val * 64 + (8 + (i 2).val) = (i 1).val * 64 + (i 2).val + 8 by omega]
  · rw [if_neg l0]
    refine (dif_neg l0).trans ?_
    by_cases l1 : (i 2).val < 16
    · rw [if_pos l1]
      refine (dif_pos (show (i 2).val - 8 < 8 by omega)).trans ((k1 _).trans ?_)
      show D.proj (i 0).val (1024 + ((i 1).val * 64 + (8 + ((i 2).val - 8)))) * D.Cs (i 0).val ((i 2).val - 8) + D.proj (i 0).val (1024 + ((i 1).val * 64 + ((i 2).val - 8))) * D.Sn (i 0).val ((i 2).val - 8) = _
      rw [show (i 1).val * 64 + (8 + ((i 2).val - 8)) = (i 1).val * 64 + (i 2).val by omega,
        show (i 1).val * 64 + ((i 2).val - 8) = (i 1).val * 64 + (i 2).val - 8 by omega]
    · rw [if_neg l1]
      refine (dif_neg (show ¬(i 2).val - 8 < 8 by omega)).trans ((k2 _).trans ?_)
      show D.proj (i 0).val (1024 + ((i 1).val * 64 + (16 + ((i 2).val - 8 - 8)))) = _
      rw [show (i 1).val * 64 + (16 + ((i 2).val - 8 - 8)) = (i 1).val * 64 + (i 2).val by omega]

theorem v92 : IsE (a := 2048) (b := 128) (val_main_v92 (F := Ideal) x0 x1 x2 x3) (D.rot 1024) := fun i => by
  refine (val_main_v86_apply (F := Ideal) x0 x1 x2 x3 i).trans ((A.v85 _).trans ?_)
  have h0 : (i 0).val < 2048 := (i 0).isLt
  have h1 : (i 1).val < 128 := (i 1).isLt
  refine congrArg₂ (D.rot 1024) ?_ ?_
  · show ((i 0).val * 128 + (i 1).val) / 128 = (i 0).val
    omega
  · have e1 : ((i 0).val * 128 + (i 1).val) / 64 % 2 = (i 1).val / 64 := by omega
    have e2 : ((i 0).val * 128 + (i 1).val) % 64 = (i 1).val % 64 := by omega
    show ((i 0).val * 128 + (i 1).val) / 64 % 2 * 64 + ((i 0).val * 128 + (i 1).val) % 64 = (i 1).val
    rw [e1, e2]
    omega
end Args

end Reference

section Data

open Cert.Kernel10Ideal Cert.Kernel10Ideal.Gen

variable (m : (ℓ : Loc nD τ sig) → Buf (Elt Ideal) ℓ) (c : Dev nD)

/-- The entries of the arguments on a device, and the cosines and sines of the angles. -/
def dat : Dat where
  X := entriesE 2048 1024 (m ((c : Thread nD τ).loc main_arg0))
  W := entriesE 1024 1280 (m ((c : Thread nD τ).loc main_arg3))
  G := entriesE 1 1024 (m ((c : Thread nD τ).loc main_arg2)) 0
  Cs := entriesE 2048 8 (Host.cos (angleOf (m ((c : Thread nD τ).loc main_arg1))))
  Sn := entriesE 2048 8 (Host.sin (angleOf (m ((c : Thread nD τ).loc main_arg1))))

theorem args : Args (dat m c) (m ((c : Thread nD τ).loc main_arg0)) (m ((c : Thread nD τ).loc main_arg1)) (m ((c : Thread nD τ).loc main_arg2))
    (m ((c : Thread nD τ).loc main_arg3)) := ⟨isE_entries _, isE_one, isE_entries _, isE_entries _, isE_entries _⟩

/-- A table laid out twice over 64 columns. -/
theorem twice_eq {a b : FVec Ideal S2048x8 .f32} {z : FVec Ideal S2048x48 .f32} {P Q : ℕ → ℕ → EReal} {Z : EReal} (ha : IsE (a := 2048) (b := 8) a P)
    (hb : IsE (a := 2048) (b := 8) b Q) (hz : ∀ i, z i = Z) :
    IsE (a := 2048) (b := 128) (twice a b z) (fun r j => if j % 64 < 8 then P r (j % 64) else if j % 64 < 16 then Q r (j % 64 - 8) else Z) := fun i => by
  have h1 : (i 1).val < 128 := (i 1).isLt
  unfold twice
  simp only [pointwise]
  by_cases l0 : (i 1).val < 8
  · rw [if_pos (show (i 1).val % 64 < 8 by omega)]
    exact (dif_pos l0).trans ((ha _).trans (congrArg (P (i 0).val) (show (i 1).val = (i 1).val % 64 by omega)))
  refine (dif_neg l0).trans ?_
  by_cases l1 : (i 1).val - 8 < 8
  · rw [if_neg (show ¬(i 1).val % 64 < 8 by omega), if_pos (show (i 1).val % 64 < 16 by omega)]
    exact (dif_pos l1).trans ((hb _).trans (congrArg (Q (i 0).val) (show (i 1).val - 8 = (i 1).val % 64 - 8 by omega)))
  refine (dif_neg l1).trans ?_
  by_cases l2 : (i 1).val - 8 - 8 < 48
  · rw [if_neg (show ¬(i 1).val % 64 < 8 by omega), if_neg (show ¬(i 1).val % 64 < 16 by omega)]
    exact (dif_pos l2).trans (hz _)
  refine (dif_neg l2).trans ?_
  by_cases l3 : (i 1).val - 8 - 8 - 48 < 8
  · rw [if_pos (show (i 1).val % 64 < 8 by omega)]
    exact (dif_pos l3).trans ((ha _).trans (congrArg (P (i 0).val) (show (i 1).val - 8 - 8 - 48 = (i 1).val % 64 by omega)))
  refine (dif_neg l3).trans ?_
  by_cases l4 : (i 1).val - 8 - 8 - 48 - 8 < 8
  · rw [if_neg (show ¬(i 1).val % 64 < 8 by omega), if_pos (show (i 1).val % 64 < 16 by omega)]
    exact (dif_pos l4).trans ((hb _).trans (congrArg (Q (i 0).val) (show (i 1).val - 8 - 8 - 48 - 8 = (i 1).val % 64 - 8 by omega)))
  · rw [if_neg (show ¬(i 1).val % 64 < 8 by omega), if_neg (show ¬(i 1).val % 64 < 16 by omega)]
    exact (dif_neg l4).trans (hz _)

theorem holds : Holds m c (dat m c) := by
  have A := args m c
  refine ⟨?_, ?_, fun i => ?_, fun i => ?_, fun i => ?_⟩
  · rw [V_main_arg0]; exact A.a0
  · rw [V_main_arg2]; exact A.a2
  · refine (congrFun (host_v23 (fun b => m (c, b))) i).trans ?_
    simp only [pointwise]
    exact A.a3 _
  · exact (congrFun (host_v18 (fun b => m (c, b))) i).trans (twice_eq A.cs A.cs (fun _ => rfl) i)
  · exact (congrFun (host_v21 (fun b => m (c, b))) i).trans (twice_eq (P := fun r e => -(dat m c).Sn r e) (fun j => congrArg (fun a : EReal => -a) (A.sn j)) A.sn (fun _ => rfl) i)

end Data

/-- The reference runs and leaves its arguments unchanged. -/
theorem reference_frame : Cert.quiescent_Reference10Ideal := fun m ρ _ =>
  (θ_run _ _ _).mono (fun r h => ⟨fun c => (h c).2.2.2.2.2, sem_eq_zero_of_no_sems rfl r.2⟩) (Cert.Reference10Ideal.Value.run m ρ)

open Cert.Reference10Ideal.Read in
/-- The kernel and the reference leave the same results. -/
theorem same_results : Cert.algebraic_Kernel10Ideal_Reference10Ideal := by
  intro m g m' g' _ hargs
  have hR : ∀ c, Args (dat m c) (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))
      (m' ((c.tc : Thread Cert.Reference10Ideal.nD Cert.Reference10Ideal.τ).loc Cert.Reference10Ideal.main_arg3)) := fun c => by
    obtain ⟨e0, e1, e2, e3⟩ := hargs c
    have A := args m c
    refine ⟨?_, ?_, ?_, ?_, ?_⟩
    · rw [e0]; exact A.a0
    · rw [e2]; exact A.a2
    · rw [e3]; exact A.a3
    · rw [e1]; exact A.cs
    · rw [e1]; exact A.sn
  refine ⟨fun c => arrOf 2048 1024 (dat m c).hn, fun c => arrOf 256 4096 (fun r j => (dat m c).proj (j / 512 * 256 + r) (j % 512)),
    fun c => arrOf 2048 512 ((dat m c).rot 512), fun c => arrOf 2048 128 ((dat m c).rot 1024), fun c => arrOf 2048 128 (fun r j => (dat m c).proj r (1152 + j)), ?_, ?_⟩
  · refine (θ_run _ _ _).mono (fun r h c => ?_) (Cert.Kernel10Ideal.Value.run_blocks m g)
    obtain ⟨r0, r1, r2, r3, r4, k⟩ := h c
    exact ⟨r0.trans (holds m c).arr_5, r1.trans (holds m c).arr_6, r2.trans (holds m c).arr_7, r3.trans (holds m c).arr_8, r4.trans (holds m c).arr_9, k⟩
  · refine (θ_run _ _ _).mono (fun r h c => ?_) (Cert.Reference10Ideal.Value.run m' g')
    obtain ⟨r0, r1, r2, r3, r4, k⟩ := h c
    exact ⟨r0.trans ((val_main_v90_eq _ _).trans (funext (hR c).v90)), r1.trans ((val_main_v89_eq _ _ _).trans (funext (hR c).v89)),
      r2.trans ((val_main_v91_eq _ _).trans (funext (hR c).v91)), r3.trans ((val_main_v92_eq _ _).trans (funext (hR c).v92)),
      r4.trans ((val_main_v93_eq _ _ _).trans (funext (hR c).v93)), k⟩

end Cert.InProj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_all_finite
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import proofs.«01_k».proof.Proof.Gen.Pre_finite8
public import proofs.«01_k».proof.Proof.KHost
public import proofs.«01_k».proof.Proof.KRun
public import proofs.«01_k».proof.Proof.RefFinal
public import proofs.«01_k».proof.Proof.Finite
public import proofs.«01_k».proof.Proof.FfnFinal
public import proofs.«01_k».proof.Proof.Weights3
public import proofs.«01_k».proof.Proof.Weights4
public import proofs.«01_k».proof.Proof.Weights5
public import proofs.«01_k».proof.Proof.Weights6
public import proofs.«01_k».proof.Proof.Weights7
public import proofs.«01_k».proof.Proof.OutGradRef
public import proofs.«01_k».proof.Proof.OutProj
public import proofs.«01_k».proof.Proof.InProj
public import proofs.«01_k».proof.Proof.InProjRef
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs and leaves its arguments unchanged. -/
theorem reference_frame : Cert.quiescent_ReferenceIdeal := fun m ρ _ =>
  (θ_run _ _ _).mono (fun r h => ⟨fun c => ⟨(h.1 c Cert.ReferenceIdeal.main_arg0 rfl).trans (Cert.ReferenceIdeal.Host.final_keep m Cert.ReferenceIdeal.main_arg0 (by decide) (by decide) (by decide) (by decide) (by decide) c),
    (h.1 c Cert.ReferenceIdeal.main_arg1 rfl).trans (Cert.ReferenceIdeal.Host.final_keep m Cert.ReferenceIdeal.main_arg1 (by decide) (by decide) (by decide) (by decide) (by decide) c),
    (h.1 c Cert.ReferenceIdeal.main_arg2 rfl).trans (Cert.ReferenceIdeal.Host.final_keep m Cert.ReferenceIdeal.main_arg2 (by decide) (by decide) (by decide) (by decide) (by decide) c),
    (h.1 c Cert.ReferenceIdeal.main_arg3 rfl).trans (Cert.ReferenceIdeal.Host.final_keep m Cert.ReferenceIdeal.main_arg3 (by decide) (by decide) (by decide) (by decide) (by decide) c),
    (h.1 c Cert.ReferenceIdeal.main_arg4 rfl).trans (Cert.ReferenceIdeal.Host.final_keep m Cert.ReferenceIdeal.main_arg4 (by decide) (by decide) (by decide) (by decide) (by decide) c),
    (h.1 c Cert.ReferenceIdeal.main_arg5 rfl).trans (Cert.ReferenceIdeal.Host.final_keep m Cert.ReferenceIdeal.main_arg5 (by decide) (by decide) (by decide) (by decide) (by decide) c),
    (h.1 c Cert.ReferenceIdeal.main_arg6 rfl).trans (Cert.ReferenceIdeal.Host.final_keep m Cert.ReferenceIdeal.main_arg6 (by decide) (by decide) (by decide) (by decide) (by decide) c),
    (h.1 c Cert.ReferenceIdeal.main_arg7 rfl).trans (Cert.ReferenceIdeal.Host.final_keep m Cert.ReferenceIdeal.main_arg7 (by decide) (by decide) (by decide) (by decide) (by decide) c),
    (h.1 c Cert.ReferenceIdeal.main_arg8 rfl).trans (Cert.ReferenceIdeal.Host.final_keep m Cert.ReferenceIdeal.main_arg8 (by decide) (by decide) (by decide) (by decide) (by decide) c)⟩, h.2⟩) (Cert.ReferenceIdeal.Host.run m ρ)

section Values

open Cert.S5

variable (m : (ℓ : Loc Cert.KernelIdeal.nD Cert.KernelIdeal.τ Cert.KernelIdeal.sig) → Buf (Elt Ideal) ℓ) (c : Dev Cert.KernelIdeal.nD)

/-- The real entries of the arguments on a device. -/
def data : Data := dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
  (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

theorem holds (h : Pre_KernelIdeal_all_finite m) : Holds m c (data m c) := by
  obtain ⟨h0, h1, h3, h4, h5, h6, h7, h8⟩ := finite_entries _ _ _ _ _ _ _ _ _ (h c)
  exact ⟨isR_entries h0, isR_entries h1, isR_entries h3, isR_entries h4, isR_entries h5, isR_entries h6, isC_entries h7 h8⟩

end Values

/-- The kernel and the reference leave the same results. -/
theorem same_results : Cert.algebraic_KernelIdeal_ReferenceIdeal_pre_all_finite := by
  intro m g m' g' hpre hargs
  have hK := fun c => holds m c hpre
  have hR : ∀ c, Cert.S5.Ref.HoldsR m' c (data m c) := fun c => by
    obtain ⟨e0, e1, e2, e3, e4, e5, e6, e7, e8⟩ := hargs c
    have h := hK c
    refine ⟨?_, ?_, ?_, ?_, ?_, ?_, ?_⟩
    · rw [e0]; exact h.u
    · rw [e1]; exact h.dy
    · rw [e3]; exact h.br
    · rw [e4]; exact h.bi
    · rw [e5]; exact h.cr
    · rw [e6]; exact h.ci
    · rw [e7, e8]; exact h.a
  refine ⟨fun c => Cert.S5.arrOf 2048 512 (data m c).y,
    fun c => fun i => (((data m c).du (i 0).val (i 1).val : ℝ) : EReal) + m ((c.tc : Thread Cert.KernelIdeal.nD Cert.KernelIdeal.τ).loc Cert.KernelIdeal.main_arg2) i,
    fun c => Cert.S5.arrOf 128 2048 (fun k q => ((data m c).dc k q).re), fun c => Cert.S5.arrOf 128 2048 (fun k q => ((data m c).dc k q).im),
    fun c => Cert.S5.arrOf 128 2048 (fun k q => ((data m c).db k q).re), fun c => Cert.S5.arrOf 128 2048 (fun k q => ((data m c).db k q).im),
    fun c => Cert.S5.arrOf 1 2048 (fun _ q => ((data m c).da q).re), fun c => Cert.S5.arrOf 1 2048 (fun _ q => ((data m c).da q).im), ?_, ?_⟩
  · refine (θ_run _ _ _).mono (fun r h c => ⟨(h.1 c _ (Cert.KernelIdeal.Gen.mem_uc Cert.KernelIdeal.main_v13 (by decide))).trans ((hK c).v13 g),
      (h.1 c _ (Cert.KernelIdeal.Gen.mem_uc Cert.KernelIdeal.main_v16 (by decide))).trans ((hK c).v16 g),
      (h.1 c _ (Cert.KernelIdeal.Gen.mem_uc Cert.KernelIdeal.main_v10_1 (by decide))).trans ((hK c).v10_1 g),
      (h.1 c _ (Cert.KernelIdeal.Gen.mem_uc Cert.KernelIdeal.main_v10_2 (by decide))).trans ((hK c).v10_2 g),
      (h.1 c _ (Cert.KernelIdeal.Gen.mem_uc Cert.KernelIdeal.main_v10_3 (by decide))).trans ((hK c).v10_3 g),
      (h.1 c _ (Cert.KernelIdeal.Gen.mem_uc Cert.KernelIdeal.main_v10_4 (by decide))).trans ((hK c).v10_4 g),
      (h.1 c _ (Cert.KernelIdeal.Gen.mem_uc Cert.KernelIdeal.main_v10_5 (by decide))).trans ((hK c).v10_5 g),
      (h.1 c _ (Cert.KernelIdeal.Gen.mem_uc Cert.KernelIdeal.main_v10_6 (by decide))).trans ((hK c).v10_6 g),
      (h.1 c _ (Cert.KernelIdeal.Gen.mem_uc Cert.KernelIdeal.main_arg0 (by decide))).trans (Cert.KernelIdeal.Gen.W5_main_arg0 m g c),
      (h.1 c _ (Cert.KernelIdeal.Gen.mem_uc Cert.KernelIdeal.main_arg1 (by decide))).trans (Cert.KernelIdeal.Gen.W5_main_arg1 m g c),
      (h.1 c _ (Cert.KernelIdeal.Gen.mem_uc Cert.KernelIdeal.main_arg2 (by decide))).trans (Cert.KernelIdeal.Gen.W5_main_arg2 m g c),
      (h.1 c _ (Cert.KernelIdeal.Gen.mem_uc Cert.KernelIdeal.main_arg3 (by decide))).trans (Cert.KernelIdeal.Gen.W5_main_arg3 m g c),
      (h.1 c _ (Cert.KernelIdeal.Gen.mem_uc Cert.KernelIdeal.main_arg4 (by decide))).trans (Cert.KernelIdeal.Gen.W5_main_arg4 m g c),
      (h.1 c _ (Cert.KernelIdeal.Gen.mem_uc Cert.KernelIdeal.main_arg5 (by decide))).trans (Cert.KernelIdeal.Gen.W5_main_arg5 m g c),
      (h.1 c _ (Cert.KernelIdeal.Gen.mem_uc Cert.KernelIdeal.main_arg6 (by decide))).trans (Cert.KernelIdeal.Gen.W5_main_arg6 m g c),
      (h.1 c _ (Cert.KernelIdeal.Gen.mem_uc Cert.KernelIdeal.main_arg7 (by decide))).trans (Cert.KernelIdeal.Gen.W5_main_arg7 m g c),
      (h.1 c _ (Cert.KernelIdeal.Gen.mem_uc Cert.KernelIdeal.main_arg8 (by decide))).trans (Cert.KernelIdeal.Gen.W5_main_arg8 m g c)⟩) (Cert.S5.kernel_run m g)
  · refine (θ_run _ _ _).mono (fun r h c => ⟨(h.1 c Cert.ReferenceIdeal.main_v26 rfl).trans ((hR c).v26),
      (h.1 c Cert.ReferenceIdeal.main_v67 rfl).trans (((hR c).v67).trans (by rw [(hargs c).2.2.1]; rfl)),
      (h.1 c Cert.ReferenceIdeal.main_v43 rfl).trans ((hR c).v43),
      (h.1 c Cert.ReferenceIdeal.main_v68 rfl).trans ((hR c).v68),
      (h.1 c Cert.ReferenceIdeal.main_v65 rfl).trans ((hR c).v65),
      (h.1 c Cert.ReferenceIdeal.main_v58 rfl).trans ((hR c).v58),
      (h.1 c Cert.ReferenceIdeal.main_v52 rfl).trans ((hR c).v52),
      (h.1 c Cert.ReferenceIdeal.main_v51 rfl).trans ((hR c).v51),
      (h.1 c Cert.ReferenceIdeal.main_arg0 rfl).trans (Cert.ReferenceIdeal.Host.final_keep m' Cert.ReferenceIdeal.main_arg0 (by decide) (by decide) (by decide) (by decide) (by decide) c),
      (h.1 c Cert.ReferenceIdeal.main_arg1 rfl).trans (Cert.ReferenceIdeal.Host.final_keep m' Cert.ReferenceIdeal.main_arg1 (by decide) (by decide) (by decide) (by decide) (by decide) c),
      (h.1 c Cert.ReferenceIdeal.main_arg2 rfl).trans (Cert.ReferenceIdeal.Host.final_keep m' Cert.ReferenceIdeal.main_arg2 (by decide) (by decide) (by decide) (by decide) (by decide) c),
      (h.1 c Cert.ReferenceIdeal.main_arg3 rfl).trans (Cert.ReferenceIdeal.Host.final_keep m' Cert.ReferenceIdeal.main_arg3 (by decide) (by decide) (by decide) (by decide) (by decide) c),
      (h.1 c Cert.ReferenceIdeal.main_arg4 rfl).trans (Cert.ReferenceIdeal.Host.final_keep m' Cert.ReferenceIdeal.main_arg4 (by decide) (by decide) (by decide) (by decide) (by decide) c),
      (h.1 c Cert.ReferenceIdeal.main_arg5 rfl).trans (Cert.ReferenceIdeal.Host.final_keep m' Cert.ReferenceIdeal.main_arg5 (by decide) (by decide) (by decide) (by decide) (by decide) c),
      (h.1 c Cert.ReferenceIdeal.main_arg6 rfl).trans (Cert.ReferenceIdeal.Host.final_keep m' Cert.ReferenceIdeal.main_arg6 (by decide) (by decide) (by decide) (by decide) (by decide) c),
      (h.1 c Cert.ReferenceIdeal.main_arg7 rfl).trans (Cert.ReferenceIdeal.Host.final_keep m' Cert.ReferenceIdeal.main_arg7 (by decide) (by decide) (by decide) (by decide) (by decide) c),
      (h.1 c Cert.ReferenceIdeal.main_arg8 rfl).trans (Cert.ReferenceIdeal.Host.final_keep m' Cert.ReferenceIdeal.main_arg8 (by decide) (by decide) (by decide) (by decide) (by decide) c)⟩) (Cert.ReferenceIdeal.Host.run m' g')

/-- The frames, the idealizations, and the value claims of the ten programs. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_all_finite.Gen.facts, Cert.Pre_finite2.Gen.facts, Cert.Pre_finite8.Gen.facts,
  fun m ρ _ => Cert.Kernel.Gen.frame m ρ, fun m ρ _ => Cert.KernelIdeal.Gen.frame m ρ, fun m ρ _ => Cert.KernelIdeal.Gen.frame m ρ,
  fun m ρ h => reference_frame m ρ h, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  fun m ρ h => Cert.Ffn.reference_frame m ρ h, fun m ρ _ => Cert.Ffn.reference_frame m ρ trivial,
  fun m ρ _ => Cert.Kernel3.Gen.frame m ρ, fun m ρ _ => Cert.Kernel3Ideal.Gen.frame m ρ, Cert.Weights3.reference_frame,
  fun m ρ _ => Cert.Kernel4.Gen.frame m ρ, fun m ρ _ => Cert.Kernel4Ideal.Gen.frame m ρ, Cert.Weights4.reference_frame,
  fun m ρ _ => Cert.Kernel5.Gen.frame m ρ, fun m ρ _ => Cert.Kernel5Ideal.Gen.frame m ρ, Cert.Weights5.reference_frame,
  fun m ρ _ => Cert.Kernel6.Gen.frame m ρ, fun m ρ _ => Cert.Kernel6Ideal.Gen.frame m ρ, Cert.Weights6.reference_frame,
  fun m ρ _ => Cert.Kernel7.Gen.frame m ρ, fun m ρ _ => Cert.Kernel7Ideal.Gen.frame m ρ, Cert.Weights7.reference_frame,
  fun m ρ _ => Cert.Kernel8.Gen.frame m ρ, fun m ρ _ => Cert.Kernel8Ideal.Gen.frame m ρ, fun m ρ _ => Cert.Kernel8Ideal.Gen.frame m ρ,
  fun m ρ h => Cert.OutGrad.reference_frame m ρ h, fun m ρ _ => Cert.OutGrad.reference_frame m ρ trivial,
  fun m ρ _ => Cert.Kernel9.Gen.frame m ρ, fun m ρ _ => Cert.Kernel9Ideal.Gen.frame m ρ, Cert.OutProj.reference_frame,
  fun m ρ _ => Cert.Kernel10.Gen.frame m ρ, fun m ρ _ => Cert.Kernel10Ideal.Gen.frame m ρ, Cert.InProj.reference_frame,
  trivial, same_results, trivial, Cert.Ffn.same_results,
  trivial, Cert.Weights3.same_results,
  trivial, Cert.Weights4.same_results,
  trivial, Cert.Weights5.same_results,
  trivial, Cert.Weights6.same_results,
  trivial, Cert.Weights7.same_results,
  trivial, Cert.OutGrad.same_results,
  trivial, Cert.OutProj.same_results,
  trivial, Cert.InProj.same_results⟩

end Cert.Proof

end
